-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite_qk [hPre_finite_qk : Cert.Pre_finite_qk.Facts] (m : (ℓ : Loc Cert.KernelIdeal.nD Cert.KernelIdeal.τ Cert.KernelIdeal.sig) → Buf (Elt Ideal) ℓ) : Prop :=
  ∀ c : Dev Cert.KernelIdeal.nD,
    (Cert.Pre_finite_qk.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))).1 = (fun _ => 1#1)
    ∧ (Cert.Pre_finite_qk.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))).2.1 = (fun _ => 1#1)
    ∧ (Cert.Pre_finite_qk.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))).2.2.1 = (fun _ => 1#1)
    ∧ (Cert.Pre_finite_qk.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))).2.2.2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_qk [hPre_finite_qk : Cert.Pre_finite_qk.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_qk.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))).1 = (fun _ => 1#1)
    ∧ (Cert.Pre_finite_qk.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))).2.1 = (fun _ => 1#1)
    ∧ (Cert.Pre_finite_qk.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))).2.2.1 = (fun _ => 1#1)
    ∧ (Cert.Pre_finite_qk.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))).2.2.2 = (fun _ => 1#1)

def Pre_Kernel2 [hPre_routed : Cert.Pre_routed.Facts] (m : (ℓ : Loc Cert.Kernel2.nD Cert.Kernel2.τ Cert.Kernel2.sig) → Buf (Elt Bits) ℓ) : Prop :=
  ∀ c : Dev Cert.Kernel2.nD,
    (Cert.Pre_routed.fn (F := Bits) (m ((c.tc : Thread Cert.Kernel2.nD Cert.Kernel2.τ).loc Cert.Kernel2.main_arg0)) (m ((c.tc : Thread Cert.Kernel2.nD Cert.Kernel2.τ).loc Cert.Kernel2.main_arg1)) (m ((c.tc : Thread Cert.Kernel2.nD Cert.Kernel2.τ).loc Cert.Kernel2.main_arg2)) (m ((c.tc : Thread Cert.Kernel2.nD Cert.Kernel2.τ).loc Cert.Kernel2.main_arg3)) (m ((c.tc : Thread Cert.Kernel2.nD Cert.Kernel2.τ).loc Cert.Kernel2.main_arg4))).1 = (fun _ => 1#1)
    ∧ (Cert.Pre_routed.fn (F := Bits) (m ((c.tc : Thread Cert.Kernel2.nD Cert.Kernel2.τ).loc Cert.Kernel2.main_arg0)) (m ((c.tc : Thread Cert.Kernel2.nD Cert.Kernel2.τ).loc Cert.Kernel2.main_arg1)) (m ((c.tc : Thread Cert.Kernel2.nD Cert.Kernel2.τ).loc Cert.Kernel2.main_arg2)) (m ((c.tc : Thread Cert.Kernel2.nD Cert.Kernel2.τ).loc Cert.Kernel2.main_arg3)) (m ((c.tc : Thread Cert.Kernel2.nD Cert.Kernel2.τ).loc Cert.Kernel2.main_arg4))).2.1 = (fun _ => 1#1)
    ∧ (Cert.Pre_routed.fn (F := Bits) (m ((c.tc : Thread Cert.Kernel2.nD Cert.Kernel2.τ).loc Cert.Kernel2.main_arg0)) (m ((c.tc : Thread Cert.Kernel2.nD Cert.Kernel2.τ).loc Cert.Kernel2.main_arg1)) (m ((c.tc : Thread Cert.Kernel2.nD Cert.Kernel2.τ).loc Cert.Kernel2.main_arg2)) (m ((c.tc : Thread Cert.Kernel2.nD Cert.Kernel2.τ).loc Cert.Kernel2.main_arg3)) (m ((c.tc : Thread Cert.Kernel2.nD Cert.Kernel2.τ).loc Cert.Kernel2.main_arg4))).2.2.1 = (fun _ => 1#1)
    ∧ (Cert.Pre_routed.fn (F := Bits) (m ((c.tc : Thread Cert.Kernel2.nD Cert.Kernel2.τ).loc Cert.Kernel2.main_arg0)) (m ((c.tc : Thread Cert.Kernel2.nD Cert.Kernel2.τ).loc Cert.Kernel2.main_arg1)) (m ((c.tc : Thread Cert.Kernel2.nD Cert.Kernel2.τ).loc Cert.Kernel2.main_arg2)) (m ((c.tc : Thread Cert.Kernel2.nD Cert.Kernel2.τ).loc Cert.Kernel2.main_arg3)) (m ((c.tc : Thread Cert.Kernel2.nD Cert.Kernel2.τ).loc Cert.Kernel2.main_arg4))).2.2.2 = (fun _ => 1#1)

def Pre_Kernel2Ideal [hPre_routed : Cert.Pre_routed.Facts] (m : (ℓ : Loc Cert.Kernel2Ideal.nD Cert.Kernel2Ideal.τ Cert.Kernel2Ideal.sig) → Buf (Elt Ideal) ℓ) : Prop :=
  ∀ c : Dev Cert.Kernel2Ideal.nD,
    (Cert.Pre_routed.fn (F := Ideal) (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2)) (m ((c.tc : Thread Cert.Kernel2Ideal.nD Cert.Kernel2Ideal.τ).loc Cert.Kernel2Ideal.main_arg3)) (m ((c.tc : Thread Cert.Kernel2Ideal.nD Cert.Kernel2Ideal.τ).loc Cert.Kernel2Ideal.main_arg4))).1 = (fun _ => 1#1)
    ∧ (Cert.Pre_routed.fn (F := Ideal) (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2)) (m ((c.tc : Thread Cert.Kernel2Ideal.nD Cert.Kernel2Ideal.τ).loc Cert.Kernel2Ideal.main_arg3)) (m ((c.tc : Thread Cert.Kernel2Ideal.nD Cert.Kernel2Ideal.τ).loc Cert.Kernel2Ideal.main_arg4))).2.1 = (fun _ => 1#1)
    ∧ (Cert.Pre_routed.fn (F := Ideal) (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2)) (m ((c.tc : Thread Cert.Kernel2Ideal.nD Cert.Kernel2Ideal.τ).loc Cert.Kernel2Ideal.main_arg3)) (m ((c.tc : Thread Cert.Kernel2Ideal.nD Cert.Kernel2Ideal.τ).loc Cert.Kernel2Ideal.main_arg4))).2.2.1 = (fun _ => 1#1)
    ∧ (Cert.Pre_routed.fn (F := Ideal) (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2)) (m ((c.tc : Thread Cert.Kernel2Ideal.nD Cert.Kernel2Ideal.τ).loc Cert.Kernel2Ideal.main_arg3)) (m ((c.tc : Thread Cert.Kernel2Ideal.nD Cert.Kernel2Ideal.τ).loc Cert.Kernel2Ideal.main_arg4))).2.2.2 = (fun _ => 1#1)

def Pre_Reference2Ideal (m : (ℓ : Loc Cert.Reference2Ideal.nD Cert.Reference2Ideal.τ Cert.Reference2Ideal.sig) → Buf (Elt Ideal) ℓ) : Prop :=
  True

def Pre_Reference2Ideal_routed [hPre_routed : Cert.Pre_routed.Facts] (m : (ℓ : Loc Cert.Reference2Ideal.nD Cert.Reference2Ideal.τ Cert.Reference2Ideal.sig) → Buf (Elt Ideal) ℓ) : Prop :=
  ∀ c : Dev Cert.Reference2Ideal.nD,
    (Cert.Pre_routed.fn (F := Ideal) (m ((c.tc : Thread Cert.Reference2Ideal.nD Cert.Reference2Ideal.τ).loc Cert.Reference2Ideal.main_arg0)) (m ((c.tc : Thread Cert.Reference2Ideal.nD Cert.Reference2Ideal.τ).loc Cert.Reference2Ideal.main_arg1)) (m ((c.tc : Thread Cert.Reference2Ideal.nD Cert.Reference2Ideal.τ).loc Cert.Reference2Ideal.main_arg2)) (m ((c.tc : Thread Cert.Reference2Ideal.nD Cert.Reference2Ideal.τ).loc Cert.Reference2Ideal.main_arg3)) (m ((c.tc : Thread Cert.Reference2Ideal.nD Cert.Reference2Ideal.τ).loc Cert.Reference2Ideal.main_arg4))).1 = (fun _ => 1#1)
    ∧ (Cert.Pre_routed.fn (F := Ideal) (m ((c.tc : Thread Cert.Reference2Ideal.nD Cert.Reference2Ideal.τ).loc Cert.Reference2Ideal.main_arg0)) (m ((c.tc : Thread Cert.Reference2Ideal.nD Cert.Reference2Ideal.τ).loc Cert.Reference2Ideal.main_arg1)) (m ((c.tc : Thread Cert.Reference2Ideal.nD Cert.Reference2Ideal.τ).loc Cert.Reference2Ideal.main_arg2)) (m ((c.tc : Thread Cert.Reference2Ideal.nD Cert.Reference2Ideal.τ).loc Cert.Reference2Ideal.main_arg3)) (m ((c.tc : Thread Cert.Reference2Ideal.nD Cert.Reference2Ideal.τ).loc Cert.Reference2Ideal.main_arg4))).2.1 = (fun _ => 1#1)
    ∧ (Cert.Pre_routed.fn (F := Ideal) (m ((c.tc : Thread Cert.Reference2Ideal.nD Cert.Reference2Ideal.τ).loc Cert.Reference2Ideal.main_arg0)) (m ((c.tc : Thread Cert.Reference2Ideal.nD Cert.Reference2Ideal.τ).loc Cert.Reference2Ideal.main_arg1)) (m ((c.tc : Thread Cert.Reference2Ideal.nD Cert.Reference2Ideal.τ).loc Cert.Reference2Ideal.main_arg2)) (m ((c.tc : Thread Cert.Reference2Ideal.nD Cert.Reference2Ideal.τ).loc Cert.Reference2Ideal.main_arg3)) (m ((c.tc : Thread Cert.Reference2Ideal.nD Cert.Reference2Ideal.τ).loc Cert.Reference2Ideal.main_arg4))).2.2.1 = (fun _ => 1#1)
    ∧ (Cert.Pre_routed.fn (F := Ideal) (m ((c.tc : Thread Cert.Reference2Ideal.nD Cert.Reference2Ideal.τ).loc Cert.Reference2Ideal.main_arg0)) (m ((c.tc : Thread Cert.Reference2Ideal.nD Cert.Reference2Ideal.τ).loc Cert.Reference2Ideal.main_arg1)) (m ((c.tc : Thread Cert.Reference2Ideal.nD Cert.Reference2Ideal.τ).loc Cert.Reference2Ideal.main_arg2)) (m ((c.tc : Thread Cert.Reference2Ideal.nD Cert.Reference2Ideal.τ).loc Cert.Reference2Ideal.main_arg3)) (m ((c.tc : Thread Cert.Reference2Ideal.nD Cert.Reference2Ideal.τ).loc Cert.Reference2Ideal.main_arg4))).2.2.2 = (fun _ => 1#1)

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Reference5Ideal (m : (ℓ : Loc Cert.Reference5Ideal.nD Cert.Reference5Ideal.τ Cert.Reference5Ideal.sig) → Buf (Elt Ideal) ℓ) : Prop :=
  True

def Pre_Kernel6 (m : (ℓ : Loc Cert.Kernel6.nD Cert.Kernel6.τ Cert.Kernel6.sig) → Buf (Elt Bits) ℓ) : Prop :=
  True

def Pre_Kernel6Ideal (m : (ℓ : Loc Cert.Kernel6Ideal.nD Cert.Kernel6Ideal.τ Cert.Kernel6Ideal.sig) → Buf (Elt Ideal) ℓ) : Prop :=
  True

def Pre_Reference6Ideal (m : (ℓ : Loc Cert.Reference6Ideal.nD Cert.Reference6Ideal.τ Cert.Reference6Ideal.sig) → Buf (Elt Ideal) ℓ) : Prop :=
  True

def Pre_Kernel7 (m : (ℓ : Loc Cert.Kernel7.nD Cert.Kernel7.τ Cert.Kernel7.sig) → Buf (Elt Bits) ℓ) : Prop :=
  True

def Pre_Kernel7Ideal (m : (ℓ : Loc Cert.Kernel7Ideal.nD Cert.Kernel7Ideal.τ Cert.Kernel7Ideal.sig) → Buf (Elt Ideal) ℓ) : Prop :=
  True

def Pre_Kernel7Ideal_finite_c [hPre_finite_c : Cert.Pre_finite_c.Facts] (m : (ℓ : Loc Cert.Kernel7Ideal.nD Cert.Kernel7Ideal.τ Cert.Kernel7Ideal.sig) → Buf (Elt Ideal) ℓ) : Prop :=
  ∀ c : Dev Cert.Kernel7Ideal.nD,
    (Cert.Pre_finite_c.fn (F := Ideal) (m ((c.tc : Thread Cert.Kernel7Ideal.nD Cert.Kernel7Ideal.τ).loc Cert.Kernel7Ideal.main_arg0)) (m ((c.tc : Thread Cert.Kernel7Ideal.nD Cert.Kernel7Ideal.τ).loc Cert.Kernel7Ideal.main_arg1)) (m ((c.tc : Thread Cert.Kernel7Ideal.nD Cert.Kernel7Ideal.τ).loc Cert.Kernel7Ideal.main_arg2)) (m ((c.tc : Thread Cert.Kernel7Ideal.nD Cert.Kernel7Ideal.τ).loc Cert.Kernel7Ideal.main_arg3))).1 = (fun _ => 1#1)
    ∧ (Cert.Pre_finite_c.fn (F := Ideal) (m ((c.tc : Thread Cert.Kernel7Ideal.nD Cert.Kernel7Ideal.τ).loc Cert.Kernel7Ideal.main_arg0)) (m ((c.tc : Thread Cert.Kernel7Ideal.nD Cert.Kernel7Ideal.τ).loc Cert.Kernel7Ideal.main_arg1)) (m ((c.tc : Thread Cert.Kernel7Ideal.nD Cert.Kernel7Ideal.τ).loc Cert.Kernel7Ideal.main_arg2)) (m ((c.tc : Thread Cert.Kernel7Ideal.nD Cert.Kernel7Ideal.τ).loc Cert.Kernel7Ideal.main_arg3))).2.1 = (fun _ => 1#1)
    ∧ (Cert.Pre_finite_c.fn (F := Ideal) (m ((c.tc : Thread Cert.Kernel7Ideal.nD Cert.Kernel7Ideal.τ).loc Cert.Kernel7Ideal.main_arg0)) (m ((c.tc : Thread Cert.Kernel7Ideal.nD Cert.Kernel7Ideal.τ).loc Cert.Kernel7Ideal.main_arg1)) (m ((c.tc : Thread Cert.Kernel7Ideal.nD Cert.Kernel7Ideal.τ).loc Cert.Kernel7Ideal.main_arg2)) (m ((c.tc : Thread Cert.Kernel7Ideal.nD Cert.Kernel7Ideal.τ).loc Cert.Kernel7Ideal.main_arg3))).2.2 = (fun _ => 1#1)

def Pre_Reference7Ideal (m : (ℓ : Loc Cert.Reference7Ideal.nD Cert.Reference7Ideal.τ Cert.Reference7Ideal.sig) → Buf (Elt Ideal) ℓ) : Prop :=
  True

def Pre_Reference7Ideal_finite_c [hPre_finite_c : Cert.Pre_finite_c.Facts] (m : (ℓ : Loc Cert.Reference7Ideal.nD Cert.Reference7Ideal.τ Cert.Reference7Ideal.sig) → Buf (Elt Ideal) ℓ) : Prop :=
  ∀ c : Dev Cert.Reference7Ideal.nD,
    (Cert.Pre_finite_c.fn (F := Ideal) (m ((c.tc : Thread Cert.Reference7Ideal.nD Cert.Reference7Ideal.τ).loc Cert.Reference7Ideal.main_arg0)) (m ((c.tc : Thread Cert.Reference7Ideal.nD Cert.Reference7Ideal.τ).loc Cert.Reference7Ideal.main_arg1)) (m ((c.tc : Thread Cert.Reference7Ideal.nD Cert.Reference7Ideal.τ).loc Cert.Reference7Ideal.main_arg2)) (m ((c.tc : Thread Cert.Reference7Ideal.nD Cert.Reference7Ideal.τ).loc Cert.Reference7Ideal.main_arg3))).1 = (fun _ => 1#1)
    ∧ (Cert.Pre_finite_c.fn (F := Ideal) (m ((c.tc : Thread Cert.Reference7Ideal.nD Cert.Reference7Ideal.τ).loc Cert.Reference7Ideal.main_arg0)) (m ((c.tc : Thread Cert.Reference7Ideal.nD Cert.Reference7Ideal.τ).loc Cert.Reference7Ideal.main_arg1)) (m ((c.tc : Thread Cert.Reference7Ideal.nD Cert.Reference7Ideal.τ).loc Cert.Reference7Ideal.main_arg2)) (m ((c.tc : Thread Cert.Reference7Ideal.nD Cert.Reference7Ideal.τ).loc Cert.Reference7Ideal.main_arg3))).2.1 = (fun _ => 1#1)
    ∧ (Cert.Pre_finite_c.fn (F := Ideal) (m ((c.tc : Thread Cert.Reference7Ideal.nD Cert.Reference7Ideal.τ).loc Cert.Reference7Ideal.main_arg0)) (m ((c.tc : Thread Cert.Reference7Ideal.nD Cert.Reference7Ideal.τ).loc Cert.Reference7Ideal.main_arg1)) (m ((c.tc : Thread Cert.Reference7Ideal.nD Cert.Reference7Ideal.τ).loc Cert.Reference7Ideal.main_arg2)) (m ((c.tc : Thread Cert.Reference7Ideal.nD Cert.Reference7Ideal.τ).loc Cert.Reference7Ideal.main_arg3))).2.2 = (fun _ => 1#1)

def Pre_Kernel8 (m : (ℓ : Loc Cert.Kernel8.nD Cert.Kernel8.τ Cert.Kernel8.sig) → Buf (Elt Bits) ℓ) : Prop :=
  True

def Pre_Kernel8Ideal (m : (ℓ : Loc Cert.Kernel8Ideal.nD Cert.Kernel8Ideal.τ Cert.Kernel8Ideal.sig) → Buf (Elt Ideal) ℓ) : Prop :=
  True

def Pre_Reference8Ideal (m : (ℓ : Loc Cert.Reference8Ideal.nD Cert.Reference8Ideal.τ Cert.Reference8Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ r.2.sem = fun _ => 0)

def quiescent_KernelIdeal_pre_finite_qk [hKernelIdeal : Cert.KernelIdeal.Facts] [hPre_finite_qk : Cert.Pre_finite_qk.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_qk m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0)

def quiescent_ReferenceIdeal_pre_finite_qk [hReferenceIdeal : Cert.ReferenceIdeal.Facts] [hPre_finite_qk : Cert.Pre_finite_qk.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_qk m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0)

def quiescent_Kernel2 [hKernel2 : Cert.Kernel2.Facts] [hPre_routed : Cert.Pre_routed.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3)
      ∧ r.2.mem ((c.tc : Thread Cert.Kernel2.nD Cert.Kernel2.τ).loc Cert.Kernel2.main_arg4) = m ((c.tc : Thread Cert.Kernel2.nD Cert.Kernel2.τ).loc Cert.Kernel2.main_arg4))
      ∧ r.2.sem = fun _ => 0)

def quiescent_Kernel2Ideal [hKernel2Ideal : Cert.Kernel2Ideal.Facts] [hPre_routed : Cert.Pre_routed.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4))
      ∧ r.2.sem = fun _ => 0)

def quiescent_Reference2Ideal_pre_routed [hReference2Ideal : Cert.Reference2Ideal.Facts] [hPre_routed : Cert.Pre_routed.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal_routed m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2)
      ∧ r.2.mem ((c.tc : Thread Cert.Kernel3.nD Cert.Kernel3.τ).loc Cert.Kernel3.main_arg3) = m ((c.tc : Thread Cert.Kernel3.nD Cert.Kernel3.τ).loc Cert.Kernel3.main_arg3)
      ∧ r.2.mem ((c.tc : Thread Cert.Kernel3.nD Cert.Kernel3.τ).loc Cert.Kernel3.main_arg4) = m ((c.tc : Thread Cert.Kernel3.nD Cert.Kernel3.τ).loc Cert.Kernel3.main_arg4)
      ∧ r.2.mem ((c.tc : Thread Cert.Kernel3.nD Cert.Kernel3.τ).loc Cert.Kernel3.main_arg5) = m ((c.tc : Thread Cert.Kernel3.nD Cert.Kernel3.τ).loc Cert.Kernel3.main_arg5)
      ∧ r.2.mem ((c.tc : Thread Cert.Kernel3.nD Cert.Kernel3.τ).loc Cert.Kernel3.main_arg6) = m ((c.tc : Thread Cert.Kernel3.nD Cert.Kernel3.τ).loc Cert.Kernel3.main_arg6))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
      ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
      ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5)
      ∧ r.2.mem ((c.tc : Thread Cert.Kernel3Ideal.nD Cert.Kernel3Ideal.τ).loc Cert.Kernel3Ideal.main_arg6) = m ((c.tc : Thread Cert.Kernel3Ideal.nD Cert.Kernel3Ideal.τ).loc Cert.Kernel3Ideal.main_arg6))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3)
      ∧ r.2.mem ((c.tc : Thread Cert.Reference3Ideal.nD Cert.Reference3Ideal.τ).loc Cert.Reference3Ideal.main_arg4) = m ((c.tc : Thread Cert.Reference3Ideal.nD Cert.Reference3Ideal.τ).loc Cert.Reference3Ideal.main_arg4)
      ∧ r.2.mem ((c.tc : Thread Cert.Reference3Ideal.nD Cert.Reference3Ideal.τ).loc Cert.Reference3Ideal.main_arg5) = m ((c.tc : Thread Cert.Reference3Ideal.nD Cert.Reference3Ideal.τ).loc Cert.Reference3Ideal.main_arg5)
      ∧ r.2.mem ((c.tc : Thread Cert.Reference3Ideal.nD Cert.Reference3Ideal.τ).loc Cert.Reference3Ideal.main_arg6) = m ((c.tc : Thread Cert.Reference3Ideal.nD Cert.Reference3Ideal.τ).loc Cert.Reference3Ideal.main_arg6))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1)
      ∧ r.2.mem ((c.tc : Thread Cert.Kernel4.nD Cert.Kernel4.τ).loc Cert.Kernel4.main_arg2) = m ((c.tc : Thread Cert.Kernel4.nD Cert.Kernel4.τ).loc Cert.Kernel4.main_arg2)
      ∧ r.2.mem ((c.tc : Thread Cert.Kernel4.nD Cert.Kernel4.τ).loc Cert.Kernel4.main_arg3) = m ((c.tc : Thread Cert.Kernel4.nD Cert.Kernel4.τ).loc Cert.Kernel4.main_arg3)
      ∧ r.2.mem ((c.tc : Thread Cert.Kernel4.nD Cert.Kernel4.τ).loc Cert.Kernel4.main_arg4) = m ((c.tc : Thread Cert.Kernel4.nD Cert.Kernel4.τ).loc Cert.Kernel4.main_arg4)
      ∧ r.2.mem ((c.tc : Thread Cert.Kernel4.nD Cert.Kernel4.τ).loc Cert.Kernel4.main_arg5) = m ((c.tc : Thread Cert.Kernel4.nD Cert.Kernel4.τ).loc Cert.Kernel4.main_arg5)
      ∧ r.2.mem ((c.tc : Thread Cert.Kernel4.nD Cert.Kernel4.τ).loc Cert.Kernel4.main_arg6) = m ((c.tc : Thread Cert.Kernel4.nD Cert.Kernel4.τ).loc Cert.Kernel4.main_arg6))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
      ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
      ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4)
      ∧ r.2.mem ((c.tc : Thread Cert.Kernel4Ideal.nD Cert.Kernel4Ideal.τ).loc Cert.Kernel4Ideal.main_arg5) = m ((c.tc : Thread Cert.Kernel4Ideal.nD Cert.Kernel4Ideal.τ).loc Cert.Kernel4Ideal.main_arg5)
      ∧ r.2.mem ((c.tc : Thread Cert.Kernel4Ideal.nD Cert.Kernel4Ideal.τ).loc Cert.Kernel4Ideal.main_arg6) = m ((c.tc : Thread Cert.Kernel4Ideal.nD Cert.Kernel4Ideal.τ).loc Cert.Kernel4Ideal.main_arg6))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2)
      ∧ r.2.mem ((c.tc : Thread Cert.Reference4Ideal.nD Cert.Reference4Ideal.τ).loc Cert.Reference4Ideal.main_arg3) = m ((c.tc : Thread Cert.Reference4Ideal.nD Cert.Reference4Ideal.τ).loc Cert.Reference4Ideal.main_arg3)
      ∧ r.2.mem ((c.tc : Thread Cert.Reference4Ideal.nD Cert.Reference4Ideal.τ).loc Cert.Reference4Ideal.main_arg4) = m ((c.tc : Thread Cert.Reference4Ideal.nD Cert.Reference4Ideal.τ).loc Cert.Reference4Ideal.main_arg4)
      ∧ r.2.mem ((c.tc : Thread Cert.Reference4Ideal.nD Cert.Reference4Ideal.τ).loc Cert.Reference4Ideal.main_arg5) = m ((c.tc : Thread Cert.Reference4Ideal.nD Cert.Reference4Ideal.τ).loc Cert.Reference4Ideal.main_arg5)
      ∧ r.2.mem ((c.tc : Thread Cert.Reference4Ideal.nD Cert.Reference4Ideal.τ).loc Cert.Reference4Ideal.main_arg6) = m ((c.tc : Thread Cert.Reference4Ideal.nD Cert.Reference4Ideal.τ).loc Cert.Reference4Ideal.main_arg6))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1)
      ∧ r.2.mem ((c.tc : Thread Cert.Kernel5.nD Cert.Kernel5.τ).loc Cert.Kernel5.main_arg2) = m ((c.tc : Thread Cert.Kernel5.nD Cert.Kernel5.τ).loc Cert.Kernel5.main_arg2)
      ∧ r.2.mem ((c.tc : Thread Cert.Kernel5.nD Cert.Kernel5.τ).loc Cert.Kernel5.main_arg3) = m ((c.tc : Thread Cert.Kernel5.nD Cert.Kernel5.τ).loc Cert.Kernel5.main_arg3)
      ∧ r.2.mem ((c.tc : Thread Cert.Kernel5.nD Cert.Kernel5.τ).loc Cert.Kernel5.main_arg4) = m ((c.tc : Thread Cert.Kernel5.nD Cert.Kernel5.τ).loc Cert.Kernel5.main_arg4)
      ∧ r.2.mem ((c.tc : Thread Cert.Kernel5.nD Cert.Kernel5.τ).loc Cert.Kernel5.main_arg5) = m ((c.tc : Thread Cert.Kernel5.nD Cert.Kernel5.τ).loc Cert.Kernel5.main_arg5)
      ∧ r.2.mem ((c.tc : Thread Cert.Kernel5.nD Cert.Kernel5.τ).loc Cert.Kernel5.main_arg6) = m ((c.tc : Thread Cert.Kernel5.nD Cert.Kernel5.τ).loc Cert.Kernel5.main_arg6))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
      ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
      ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3)
      ∧ r.2.mem ((c.tc : Thread Cert.Kernel5Ideal.nD Cert.Kernel5Ideal.τ).loc Cert.Kernel5Ideal.main_arg4) = m ((c.tc : Thread Cert.Kernel5Ideal.nD Cert.Kernel5Ideal.τ).loc Cert.Kernel5Ideal.main_arg4)
      ∧ r.2.mem ((c.tc : Thread Cert.Kernel5Ideal.nD Cert.Kernel5Ideal.τ).loc Cert.Kernel5Ideal.main_arg5) = m ((c.tc : Thread Cert.Kernel5Ideal.nD Cert.Kernel5Ideal.τ).loc Cert.Kernel5Ideal.main_arg5)
      ∧ r.2.mem ((c.tc : Thread Cert.Kernel5Ideal.nD Cert.Kernel5Ideal.τ).loc Cert.Kernel5Ideal.main_arg6) = m ((c.tc : Thread Cert.Kernel5Ideal.nD Cert.Kernel5Ideal.τ).loc Cert.Kernel5Ideal.main_arg6))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1)
      ∧ r.2.mem ((c.tc : Thread Cert.Reference5Ideal.nD Cert.Reference5Ideal.τ).loc Cert.Reference5Ideal.main_arg2) = m ((c.tc : Thread Cert.Reference5Ideal.nD Cert.Reference5Ideal.τ).loc Cert.Reference5Ideal.main_arg2)
      ∧ r.2.mem ((c.tc : Thread Cert.Reference5Ideal.nD Cert.Reference5Ideal.τ).loc Cert.Reference5Ideal.main_arg3) = m ((c.tc : Thread Cert.Reference5Ideal.nD Cert.Reference5Ideal.τ).loc Cert.Reference5Ideal.main_arg3)
      ∧ r.2.mem ((c.tc : Thread Cert.Reference5Ideal.nD Cert.Reference5Ideal.τ).loc Cert.Reference5Ideal.main_arg4) = m ((c.tc : Thread Cert.Reference5Ideal.nD Cert.Reference5Ideal.τ).loc Cert.Reference5Ideal.main_arg4)
      ∧ r.2.mem ((c.tc : Thread Cert.Reference5Ideal.nD Cert.Reference5Ideal.τ).loc Cert.Reference5Ideal.main_arg5) = m ((c.tc : Thread Cert.Reference5Ideal.nD Cert.Reference5Ideal.τ).loc Cert.Reference5Ideal.main_arg5)
      ∧ r.2.mem ((c.tc : Thread Cert.Reference5Ideal.nD Cert.Reference5Ideal.τ).loc Cert.Reference5Ideal.main_arg6) = m ((c.tc : Thread Cert.Reference5Ideal.nD Cert.Reference5Ideal.τ).loc Cert.Reference5Ideal.main_arg6))
      ∧ r.2.sem = fun _ => 0)

def quiescent_Kernel6 [hKernel6 : Cert.Kernel6.Facts] : Prop :=
  ∀ (m : (ℓ : Loc Cert.Kernel6.nD Cert.Kernel6.τ Cert.Kernel6.sig) → Buf (Elt Bits) ℓ) (g : Dev Cert.Kernel6.nD → PrngReg), Pre_Kernel6 m →
    θ_run (Cert.Kernel6.defs (F := Bits)) (onTc (τ := Cert.Kernel6.τ) (Cert.Kernel6.main (F := Bits))) ⟨m, fun _ => 0, g⟩ (fun r => (∀ c : Dev Cert.Kernel6.nD,
      r.2.mem ((c.tc : Thread Cert.Kernel6.nD Cert.Kernel6.τ).loc Cert.Kernel6.main_arg0) = m ((c.tc : Thread Cert.Kernel6.nD Cert.Kernel6.τ).loc Cert.Kernel6.main_arg0)
      ∧ r.2.mem ((c.tc : Thread Cert.Kernel6.nD Cert.Kernel6.τ).loc Cert.Kernel6.main_arg1) = m ((c.tc : Thread Cert.Kernel6.nD Cert.Kernel6.τ).loc Cert.Kernel6.main_arg1)
      ∧ r.2.mem ((c.tc : Thread Cert.Kernel6.nD Cert.Kernel6.τ).loc Cert.Kernel6.main_arg2) = m ((c.tc : Thread Cert.Kernel6.nD Cert.Kernel6.τ).loc Cert.Kernel6.main_arg2)
      ∧ r.2.mem ((c.tc : Thread Cert.Kernel6.nD Cert.Kernel6.τ).loc Cert.Kernel6.main_arg3) = m ((c.tc : Thread Cert.Kernel6.nD Cert.Kernel6.τ).loc Cert.Kernel6.main_arg3)
      ∧ r.2.mem ((c.tc : Thread Cert.Kernel6.nD Cert.Kernel6.τ).loc Cert.Kernel6.main_arg4) = m ((c.tc : Thread Cert.Kernel6.nD Cert.Kernel6.τ).loc Cert.Kernel6.main_arg4)
      ∧ r.2.mem ((c.tc : Thread Cert.Kernel6.nD Cert.Kernel6.τ).loc Cert.Kernel6.main_arg5) = m ((c.tc : Thread Cert.Kernel6.nD Cert.Kernel6.τ).loc Cert.Kernel6.main_arg5)
      ∧ r.2.mem ((c.tc : Thread Cert.Kernel6.nD Cert.Kernel6.τ).loc Cert.Kernel6.main_arg6) = m ((c.tc : Thread Cert.Kernel6.nD Cert.Kernel6.τ).loc Cert.Kernel6.main_arg6))
      ∧ r.2.sem = fun _ => 0)

def quiescent_Kernel6Ideal [hKernel6Ideal : Cert.Kernel6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
      ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2)
      ∧ r.2.mem ((c.tc : Thread Cert.Kernel6Ideal.nD Cert.Kernel6Ideal.τ).loc Cert.Kernel6Ideal.main_arg3) = m ((c.tc : Thread Cert.Kernel6Ideal.nD Cert.Kernel6Ideal.τ).loc Cert.Kernel6Ideal.main_arg3)
      ∧ r.2.mem ((c.tc : Thread Cert.Kernel6Ideal.nD Cert.Kernel6Ideal.τ).loc Cert.Kernel6Ideal.main_arg4) = m ((c.tc : Thread Cert.Kernel6Ideal.nD Cert.Kernel6Ideal.τ).loc Cert.Kernel6Ideal.main_arg4)
      ∧ r.2.mem ((c.tc : Thread Cert.Kernel6Ideal.nD Cert.Kernel6Ideal.τ).loc Cert.Kernel6Ideal.main_arg5) = m ((c.tc : Thread Cert.Kernel6Ideal.nD Cert.Kernel6Ideal.τ).loc Cert.Kernel6Ideal.main_arg5)
      ∧ r.2.mem ((c.tc : Thread Cert.Kernel6Ideal.nD Cert.Kernel6Ideal.τ).loc Cert.Kernel6Ideal.main_arg6) = m ((c.tc : Thread Cert.Kernel6Ideal.nD Cert.Kernel6Ideal.τ).loc Cert.Kernel6Ideal.main_arg6))
      ∧ r.2.sem = fun _ => 0)

def quiescent_Reference6Ideal [hReference6Ideal : Cert.Reference6Ideal.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1)
      ∧ r.2.mem ((c.tc : Thread Cert.Reference6Ideal.nD Cert.Reference6Ideal.τ).loc Cert.Reference6Ideal.main_arg2) = m ((c.tc : Thread Cert.Reference6Ideal.nD Cert.Reference6Ideal.τ).loc Cert.Reference6Ideal.main_arg2)
      ∧ r.2.mem ((c.tc : Thread Cert.Reference6Ideal.nD Cert.Reference6Ideal.τ).loc Cert.Reference6Ideal.main_arg3) = m ((c.tc : Thread Cert.Reference6Ideal.nD Cert.Reference6Ideal.τ).loc Cert.Reference6Ideal.main_arg3)
      ∧ r.2.mem ((c.tc : Thread Cert.Reference6Ideal.nD Cert.Reference6Ideal.τ).loc Cert.Reference6Ideal.main_arg4) = m ((c.tc : Thread Cert.Reference6Ideal.nD Cert.Reference6Ideal.τ).loc Cert.Reference6Ideal.main_arg4)
      ∧ r.2.mem ((c.tc : Thread Cert.Reference6Ideal.nD Cert.Reference6Ideal.τ).loc Cert.Reference6Ideal.main_arg5) = m ((c.tc : Thread Cert.Reference6Ideal.nD Cert.Reference6Ideal.τ).loc Cert.Reference6Ideal.main_arg5)
      ∧ r.2.mem ((c.tc : Thread Cert.Reference6Ideal.nD Cert.Reference6Ideal.τ).loc Cert.Reference6Ideal.main_arg6) = m ((c.tc : Thread Cert.Reference6Ideal.nD Cert.Reference6Ideal.τ).loc Cert.Reference6Ideal.main_arg6))
      ∧ r.2.sem = fun _ => 0)

def quiescent_Kernel7 [hKernel7 : Cert.Kernel7.Facts] : Prop :=
  ∀ (m : (ℓ : Loc Cert.Kernel7.nD Cert.Kernel7.τ Cert.Kernel7.sig) → Buf (Elt Bits) ℓ) (g : Dev Cert.Kernel7.nD → PrngReg), Pre_Kernel7 m →
    θ_run (Cert.Kernel7.defs (F := Bits)) (onTc (τ := Cert.Kernel7.τ) (Cert.Kernel7.main (F := Bits))) ⟨m, fun _ => 0, g⟩ (fun r => (∀ c : Dev Cert.Kernel7.nD,
      r.2.mem ((c.tc : Thread Cert.Kernel7.nD Cert.Kernel7.τ).loc Cert.Kernel7.main_arg0) = m ((c.tc : Thread Cert.Kernel7.nD Cert.Kernel7.τ).loc Cert.Kernel7.main_arg0)
      ∧ r.2.mem ((c.tc : Thread Cert.Kernel7.nD Cert.Kernel7.τ).loc Cert.Kernel7.main_arg1) = m ((c.tc : Thread Cert.Kernel7.nD Cert.Kernel7.τ).loc Cert.Kernel7.main_arg1)
      ∧ r.2.mem ((c.tc : Thread Cert.Kernel7.nD Cert.Kernel7.τ).loc Cert.Kernel7.main_arg2) = m ((c.tc : Thread Cert.Kernel7.nD Cert.Kernel7.τ).loc Cert.Kernel7.main_arg2)
      ∧ r.2.mem ((c.tc : Thread Cert.Kernel7.nD Cert.Kernel7.τ).loc Cert.Kernel7.main_arg3) = m ((c.tc : Thread Cert.Kernel7.nD Cert.Kernel7.τ).loc Cert.Kernel7.main_arg3))
      ∧ r.2.sem = fun _ => 0)

def quiescent_Kernel7Ideal [hKernel7Ideal : Cert.Kernel7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg), Pre_Kernel7Ideal m →
    θ_run (Cert.Kernel7Ideal.defs (F := Ideal)) (onTc (τ := Cert.Kernel7Ideal.τ) (Cert.Kernel7Ideal.main (F := Ideal))) ⟨m, fun _ => 0, g⟩ (fun r => (∀ c : Dev Cert.Kernel7Ideal.nD,
      r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
      ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
      ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2)
      ∧ r.2.mem ((c.tc : Thread Cert.Kernel7Ideal.nD Cert.Kernel7Ideal.τ).loc Cert.Kernel7Ideal.main_arg3) = m ((c.tc : Thread Cert.Kernel7Ideal.nD Cert.Kernel7Ideal.τ).loc Cert.Kernel7Ideal.main_arg3))
      ∧ r.2.sem = fun _ => 0)

def quiescent_Kernel7Ideal_pre_finite_c [hKernel7Ideal : Cert.Kernel7Ideal.Facts] [hPre_finite_c : Cert.Pre_finite_c.Facts] : Prop :=
  ∀ (m : (ℓ : Loc Cert.Kernel7Ideal.nD Cert.Kernel7Ideal.τ Cert.Kernel7Ideal.sig) → Buf (Elt Ideal) ℓ) (g : Dev Cert.Kernel7Ideal.nD → PrngReg), Pre_Kernel7Ideal_finite_c m →
    θ_run (Cert.Kernel7Ideal.defs (F := Ideal)) (onTc (τ := Cert.Kernel7Ideal.τ) (Cert.Kernel7Ideal.main (F := Ideal))) ⟨m, fun _ => 0, g⟩ (fun r => (∀ c : Dev Cert.Kernel7Ideal.nD,
      r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
      ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
      ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2)
      ∧ r.2.mem ((c.tc : Thread Cert.Kernel7Ideal.nD Cert.Kernel7Ideal.τ).loc Cert.Kernel7Ideal.main_arg3) = m ((c.tc : Thread Cert.Kernel7Ideal.nD Cert.Kernel7Ideal.τ).loc Cert.Kernel7Ideal.main_arg3))
      ∧ r.2.sem = fun _ => 0)

def quiescent_Reference7Ideal [hReference7Ideal : Cert.Reference7Ideal.Facts] : Prop :=
  ∀ (m : (ℓ : Loc Cert.Reference7Ideal.nD Cert.Reference7Ideal.τ Cert.Reference7Ideal.sig) → Buf (Elt Ideal) ℓ) (g : Dev Cert.Reference7Ideal.nD → PrngReg), Pre_Reference7Ideal m →
    θ_run (Cert.Reference7Ideal.defs (F := Ideal)) (onTc (τ := Cert.Reference7Ideal.τ) (Cert.Reference7Ideal.main (F := Ideal))) ⟨m, fun _ => 0, g⟩ (fun r => (∀ c : Dev Cert.Reference7Ideal.nD,
      r.2.mem ((c.tc : Thread Cert.Reference7Ideal.nD Cert.Reference7Ideal.τ).loc Cert.Reference7Ideal.main_arg0) = m ((c.tc : Thread Cert.Reference7Ideal.nD Cert.Reference7Ideal.τ).loc Cert.Reference7Ideal.main_arg0)
      ∧ r.2.mem ((c.tc : Thread Cert.Reference7Ideal.nD Cert.Reference7Ideal.τ).loc Cert.Reference7Ideal.main_arg1) = m ((c.tc : Thread Cert.Reference7Ideal.nD Cert.Reference7Ideal.τ).loc Cert.Reference7Ideal.main_arg1)
      ∧ r.2.mem ((c.tc : Thread Cert.Reference7Ideal.nD Cert.Reference7Ideal.τ).loc Cert.Reference7Ideal.main_arg2) = m ((c.tc : Thread Cert.Reference7Ideal.nD Cert.Reference7Ideal.τ).loc Cert.Reference7Ideal.main_arg2)
      ∧ r.2.mem ((c.tc : Thread Cert.Reference7Ideal.nD Cert.Reference7Ideal.τ).loc Cert.Reference7Ideal.main_arg3) = m ((c.tc : Thread Cert.Reference7Ideal.nD Cert.Reference7Ideal.τ).loc Cert.Reference7Ideal.main_arg3))
      ∧ r.2.sem = fun _ => 0)

def quiescent_Reference7Ideal_pre_finite_c [hReference7Ideal : Cert.Reference7Ideal.Facts] [hPre_finite_c : Cert.Pre_finite_c.Facts] : Prop :=
  ∀ (m : (ℓ : Loc Cert.Reference7Ideal.nD Cert.Reference7Ideal.τ Cert.Reference7Ideal.sig) → Buf (Elt Ideal) ℓ) (g : Dev Cert.Reference7Ideal.nD → PrngReg), Pre_Reference7Ideal_finite_c m →
    θ_run (Cert.Reference7Ideal.defs (F := Ideal)) (onTc (τ := Cert.Reference7Ideal.τ) (Cert.Reference7Ideal.main (F := Ideal))) ⟨m, fun _ => 0, g⟩ (fun r => (∀ c : Dev Cert.Reference7Ideal.nD,
      r.2.mem ((c.tc : Thread Cert.Reference7Ideal.nD Cert.Reference7Ideal.τ).loc Cert.Reference7Ideal.main_arg0) = m ((c.tc : Thread Cert.Reference7Ideal.nD Cert.Reference7Ideal.τ).loc Cert.Reference7Ideal.main_arg0)
      ∧ r.2.mem ((c.tc : Thread Cert.Reference7Ideal.nD Cert.Reference7Ideal.τ).loc Cert.Reference7Ideal.main_arg1) = m ((c.tc : Thread Cert.Reference7Ideal.nD Cert.Reference7Ideal.τ).loc Cert.Reference7Ideal.main_arg1)
      ∧ r.2.mem ((c.tc : Thread Cert.Reference7Ideal.nD Cert.Reference7Ideal.τ).loc Cert.Reference7Ideal.main_arg2) = m ((c.tc : Thread Cert.Reference7Ideal.nD Cert.Reference7Ideal.τ).loc Cert.Reference7Ideal.main_arg2)
      ∧ r.2.mem ((c.tc : Thread Cert.Reference7Ideal.nD Cert.Reference7Ideal.τ).loc Cert.Reference7Ideal.main_arg3) = m ((c.tc : Thread Cert.Reference7Ideal.nD Cert.Reference7Ideal.τ).loc Cert.Reference7Ideal.main_arg3))
      ∧ r.2.sem = fun _ => 0)

def quiescent_Kernel8 [hKernel8 : Cert.Kernel8.Facts] : Prop :=
  ∀ (m : (ℓ : Loc Cert.Kernel8.nD Cert.Kernel8.τ Cert.Kernel8.sig) → Buf (Elt Bits) ℓ) (g : Dev Cert.Kernel8.nD → PrngReg), Pre_Kernel8 m →
    θ_run (Cert.Kernel8.defs (F := Bits)) (onTc (τ := Cert.Kernel8.τ) (Cert.Kernel8.main (F := Bits))) ⟨m, fun _ => 0, g⟩ (fun r => (∀ c : Dev Cert.Kernel8.nD,
      r.2.mem ((c.tc : Thread Cert.Kernel8.nD Cert.Kernel8.τ).loc Cert.Kernel8.main_arg0) = m ((c.tc : Thread Cert.Kernel8.nD Cert.Kernel8.τ).loc Cert.Kernel8.main_arg0)
      ∧ r.2.mem ((c.tc : Thread Cert.Kernel8.nD Cert.Kernel8.τ).loc Cert.Kernel8.main_arg1) = m ((c.tc : Thread Cert.Kernel8.nD Cert.Kernel8.τ).loc Cert.Kernel8.main_arg1)
      ∧ r.2.mem ((c.tc : Thread Cert.Kernel8.nD Cert.Kernel8.τ).loc Cert.Kernel8.main_arg2) = m ((c.tc : Thread Cert.Kernel8.nD Cert.Kernel8.τ).loc Cert.Kernel8.main_arg2)
      ∧ r.2.mem ((c.tc : Thread Cert.Kernel8.nD Cert.Kernel8.τ).loc Cert.Kernel8.main_arg3) = m ((c.tc : Thread Cert.Kernel8.nD Cert.Kernel8.τ).loc Cert.Kernel8.main_arg3)
      ∧ r.2.mem ((c.tc : Thread Cert.Kernel8.nD Cert.Kernel8.τ).loc Cert.Kernel8.main_arg4) = m ((c.tc : Thread Cert.Kernel8.nD Cert.Kernel8.τ).loc Cert.Kernel8.main_arg4)
      ∧ r.2.mem ((c.tc : Thread Cert.Kernel8.nD Cert.Kernel8.τ).loc Cert.Kernel8.main_arg5) = m ((c.tc : Thread Cert.Kernel8.nD Cert.Kernel8.τ).loc Cert.Kernel8.main_arg5)
      ∧ r.2.mem ((c.tc : Thread Cert.Kernel8.nD Cert.Kernel8.τ).loc Cert.Kernel8.main_arg6) = m ((c.tc : Thread Cert.Kernel8.nD Cert.Kernel8.τ).loc Cert.Kernel8.main_arg6)
      ∧ r.2.mem ((c.tc : Thread Cert.Kernel8.nD Cert.Kernel8.τ).loc Cert.Kernel8.main_arg7) = m ((c.tc : Thread Cert.Kernel8.nD Cert.Kernel8.τ).loc Cert.Kernel8.main_arg7)
      ∧ r.2.mem ((c.tc : Thread Cert.Kernel8.nD Cert.Kernel8.τ).loc Cert.Kernel8.main_arg8) = m ((c.tc : Thread Cert.Kernel8.nD Cert.Kernel8.τ).loc Cert.Kernel8.main_arg8))
      ∧ r.2.sem = fun _ => 0)

def quiescent_Kernel8Ideal [hKernel8Ideal : Cert.Kernel8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg), Pre_Kernel8Ideal m →
    θ_run (Cert.Kernel8Ideal.defs (F := Ideal)) (onTc (τ := Cert.Kernel8Ideal.τ) (Cert.Kernel8Ideal.main (F := Ideal))) ⟨m, fun _ => 0, g⟩ (fun r => (∀ c : Dev Cert.Kernel8Ideal.nD,
      r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
      ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1)
      ∧ r.2.mem ((c.tc : Thread Cert.Kernel8Ideal.nD Cert.Kernel8Ideal.τ).loc Cert.Kernel8Ideal.main_arg2) = m ((c.tc : Thread Cert.Kernel8Ideal.nD Cert.Kernel8Ideal.τ).loc Cert.Kernel8Ideal.main_arg2)
      ∧ r.2.mem ((c.tc : Thread Cert.Kernel8Ideal.nD Cert.Kernel8Ideal.τ).loc Cert.Kernel8Ideal.main_arg3) = m ((c.tc : Thread Cert.Kernel8Ideal.nD Cert.Kernel8Ideal.τ).loc Cert.Kernel8Ideal.main_arg3)
      ∧ r.2.mem ((c.tc : Thread Cert.Kernel8Ideal.nD Cert.Kernel8Ideal.τ).loc Cert.Kernel8Ideal.main_arg4) = m ((c.tc : Thread Cert.Kernel8Ideal.nD Cert.Kernel8Ideal.τ).loc Cert.Kernel8Ideal.main_arg4)
      ∧ r.2.mem ((c.tc : Thread Cert.Kernel8Ideal.nD Cert.Kernel8Ideal.τ).loc Cert.Kernel8Ideal.main_arg5) = m ((c.tc : Thread Cert.Kernel8Ideal.nD Cert.Kernel8Ideal.τ).loc Cert.Kernel8Ideal.main_arg5)
      ∧ r.2.mem ((c.tc : Thread Cert.Kernel8Ideal.nD Cert.Kernel8Ideal.τ).loc Cert.Kernel8Ideal.main_arg6) = m ((c.tc : Thread Cert.Kernel8Ideal.nD Cert.Kernel8Ideal.τ).loc Cert.Kernel8Ideal.main_arg6)
      ∧ r.2.mem ((c.tc : Thread Cert.Kernel8Ideal.nD Cert.Kernel8Ideal.τ).loc Cert.Kernel8Ideal.main_arg7) = m ((c.tc : Thread Cert.Kernel8Ideal.nD Cert.Kernel8Ideal.τ).loc Cert.Kernel8Ideal.main_arg7)
      ∧ r.2.mem ((c.tc : Thread Cert.Kernel8Ideal.nD Cert.Kernel8Ideal.τ).loc Cert.Kernel8Ideal.main_arg8) = m ((c.tc : Thread Cert.Kernel8Ideal.nD Cert.Kernel8Ideal.τ).loc Cert.Kernel8Ideal.main_arg8))
      ∧ r.2.sem = fun _ => 0)

def quiescent_Reference8Ideal [hReference8Ideal : Cert.Reference8Ideal.Facts] : Prop :=
  ∀ (m : (ℓ : Loc Cert.Reference8Ideal.nD Cert.Reference8Ideal.τ Cert.Reference8Ideal.sig) → Buf (Elt Ideal) ℓ) (g : Dev Cert.Reference8Ideal.nD → PrngReg), Pre_Reference8Ideal m →
    θ_run (Cert.Reference8Ideal.defs (F := Ideal)) (onTc (τ := Cert.Reference8Ideal.τ) (Cert.Reference8Ideal.main (F := Ideal))) ⟨m, fun _ => 0, g⟩ (fun r => (∀ c : Dev Cert.Reference8Ideal.nD,
      r.2.mem ((c.tc : Thread Cert.Reference8Ideal.nD Cert.Reference8Ideal.τ).loc Cert.Reference8Ideal.main_arg0) = m ((c.tc : Thread Cert.Reference8Ideal.nD Cert.Reference8Ideal.τ).loc Cert.Reference8Ideal.main_arg0)
      ∧ r.2.mem ((c.tc : Thread Cert.Reference8Ideal.nD Cert.Reference8Ideal.τ).loc Cert.Reference8Ideal.main_arg1) = m ((c.tc : Thread Cert.Reference8Ideal.nD Cert.Reference8Ideal.τ).loc Cert.Reference8Ideal.main_arg1)
      ∧ r.2.mem ((c.tc : Thread Cert.Reference8Ideal.nD Cert.Reference8Ideal.τ).loc Cert.Reference8Ideal.main_arg2) = m ((c.tc : Thread Cert.Reference8Ideal.nD Cert.Reference8Ideal.τ).loc Cert.Reference8Ideal.main_arg2)
      ∧ r.2.mem ((c.tc : Thread Cert.Reference8Ideal.nD Cert.Reference8Ideal.τ).loc Cert.Reference8Ideal.main_arg3) = m ((c.tc : Thread Cert.Reference8Ideal.nD Cert.Reference8Ideal.τ).loc Cert.Reference8Ideal.main_arg3)
      ∧ r.2.mem ((c.tc : Thread Cert.Reference8Ideal.nD Cert.Reference8Ideal.τ).loc Cert.Reference8Ideal.main_arg4) = m ((c.tc : Thread Cert.Reference8Ideal.nD Cert.Reference8Ideal.τ).loc Cert.Reference8Ideal.main_arg4)
      ∧ r.2.mem ((c.tc : Thread Cert.Reference8Ideal.nD Cert.Reference8Ideal.τ).loc Cert.Reference8Ideal.main_arg5) = m ((c.tc : Thread Cert.Reference8Ideal.nD Cert.Reference8Ideal.τ).loc Cert.Reference8Ideal.main_arg5)
      ∧ r.2.mem ((c.tc : Thread Cert.Reference8Ideal.nD Cert.Reference8Ideal.τ).loc Cert.Reference8Ideal.main_arg6) = m ((c.tc : Thread Cert.Reference8Ideal.nD Cert.Reference8Ideal.τ).loc Cert.Reference8Ideal.main_arg6)
      ∧ r.2.mem ((c.tc : Thread Cert.Reference8Ideal.nD Cert.Reference8Ideal.τ).loc Cert.Reference8Ideal.main_arg7) = m ((c.tc : Thread Cert.Reference8Ideal.nD Cert.Reference8Ideal.τ).loc Cert.Reference8Ideal.main_arg7)
      ∧ r.2.mem ((c.tc : Thread Cert.Reference8Ideal.nD Cert.Reference8Ideal.τ).loc Cert.Reference8Ideal.main_arg8) = m ((c.tc : Thread Cert.Reference8Ideal.nD Cert.Reference8Ideal.τ).loc Cert.Reference8Ideal.main_arg8))
      ∧ r.2.sem = fun _ => 0)

def preserves_Kernel_KernelIdeal : Prop :=
  True

def algebraic_KernelIdeal_ReferenceIdeal_pre_finite_qk [hKernelIdeal : Cert.KernelIdeal.Facts] [hReferenceIdeal : Cert.ReferenceIdeal.Facts] [hPre_finite_qk : Cert.Pre_finite_qk.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_qk m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v16)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v16) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v47) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def preserves_Kernel2_Kernel2Ideal : Prop :=
  True

def algebraic_Kernel2Ideal_Reference2Ideal_on_owned [hKernel2Ideal : Cert.Kernel2Ideal.Facts] [hReference2Ideal : Cert.Reference2Ideal.Facts] [hPre_routed : Cert.Pre_routed.Facts] [hOn_owned : Cert.On_owned.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)
      ∧ m' ((c.tc : Thread Cert.Reference2Ideal.nD Cert.Reference2Ideal.τ).loc Cert.Reference2Ideal.main_arg4) = m ((c.tc : Thread Cert.Kernel2Ideal.nD Cert.Kernel2Ideal.τ).loc Cert.Kernel2Ideal.main_arg4)) →
    ∃ (v0 : (c : Dev Cert.Kernel2Ideal.nD) → Buf (Elt Ideal) ((c.tc : Thread Cert.Kernel2Ideal.nD Cert.Kernel2Ideal.τ).loc Cert.Kernel2Ideal.main_v47)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          (∀ i : (⟨2, ![108288, 1024]⟩ : Shape).Idx, (Cert.On_owned.fn (F := Ideal) (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2)) (m ((c.tc : Thread Cert.Kernel2Ideal.nD Cert.Kernel2Ideal.τ).loc Cert.Kernel2Ideal.main_arg3)) (m ((c.tc : Thread Cert.Kernel2Ideal.nD Cert.Kernel2Ideal.τ).loc Cert.Kernel2Ideal.main_arg4))) i = 1#1 → r.2.mem ((c.tc : Thread Cert.Kernel2Ideal.nD Cert.Kernel2Ideal.τ).loc Cert.Kernel2Ideal.main_v47) i = v0 c i)
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
          ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          (∀ i : (⟨2, ![108288, 1024]⟩ : Shape).Idx, (Cert.On_owned.fn (F := Ideal) (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2)) (m ((c.tc : Thread Cert.Kernel2Ideal.nD Cert.Kernel2Ideal.τ).loc Cert.Kernel2Ideal.main_arg3)) (m ((c.tc : Thread Cert.Kernel2Ideal.nD Cert.Kernel2Ideal.τ).loc Cert.Kernel2Ideal.main_arg4))) i = 1#1 → r.2.mem ((c.tc : Thread Cert.Reference2Ideal.nD Cert.Reference2Ideal.τ).loc Cert.Reference2Ideal.main_v46) i = v0 c i)
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3)
          ∧ r.2.mem ((c.tc : Thread Cert.Reference2Ideal.nD Cert.Reference2Ideal.τ).loc Cert.Reference2Ideal.main_arg4) = m' ((c.tc : Thread Cert.Reference2Ideal.nD Cert.Reference2Ideal.τ).loc Cert.Reference2Ideal.main_arg4))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)
      ∧ m' ((c.tc : Thread Cert.Reference3Ideal.nD Cert.Reference3Ideal.τ).loc Cert.Reference3Ideal.main_arg3) = m ((c.tc : Thread Cert.Kernel3Ideal.nD Cert.Kernel3Ideal.τ).loc Cert.Kernel3Ideal.main_arg3)
      ∧ m' ((c.tc : Thread Cert.Reference3Ideal.nD Cert.Reference3Ideal.τ).loc Cert.Reference3Ideal.main_arg4) = m ((c.tc : Thread Cert.Kernel3Ideal.nD Cert.Kernel3Ideal.τ).loc Cert.Kernel3Ideal.main_arg4)
      ∧ m' ((c.tc : Thread Cert.Reference3Ideal.nD Cert.Reference3Ideal.τ).loc Cert.Reference3Ideal.main_arg5) = m ((c.tc : Thread Cert.Kernel3Ideal.nD Cert.Kernel3Ideal.τ).loc Cert.Kernel3Ideal.main_arg5)
      ∧ m' ((c.tc : Thread Cert.Reference3Ideal.nD Cert.Reference3Ideal.τ).loc Cert.Reference3Ideal.main_arg6) = m ((c.tc : Thread Cert.Kernel3Ideal.nD Cert.Kernel3Ideal.τ).loc Cert.Kernel3Ideal.main_arg6)) →
    ∃ (v0 : (c : Dev Cert.Kernel3Ideal.nD) → Buf (Elt Ideal) ((c.tc : Thread Cert.Kernel3Ideal.nD Cert.Kernel3Ideal.τ).loc Cert.Kernel3Ideal.main_v10)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v10) = v0 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
          ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
          ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
          ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5)
          ∧ r.2.mem ((c.tc : Thread Cert.Kernel3Ideal.nD Cert.Kernel3Ideal.τ).loc Cert.Kernel3Ideal.main_arg6) = m ((c.tc : Thread Cert.Kernel3Ideal.nD Cert.Kernel3Ideal.τ).loc Cert.Kernel3Ideal.main_arg6))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v57) = v0 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2)
          ∧ r.2.mem ((c.tc : Thread Cert.Reference3Ideal.nD Cert.Reference3Ideal.τ).loc Cert.Reference3Ideal.main_arg3) = m' ((c.tc : Thread Cert.Reference3Ideal.nD Cert.Reference3Ideal.τ).loc Cert.Reference3Ideal.main_arg3)
          ∧ r.2.mem ((c.tc : Thread Cert.Reference3Ideal.nD Cert.Reference3Ideal.τ).loc Cert.Reference3Ideal.main_arg4) = m' ((c.tc : Thread Cert.Reference3Ideal.nD Cert.Reference3Ideal.τ).loc Cert.Reference3Ideal.main_arg4)
          ∧ r.2.mem ((c.tc : Thread Cert.Reference3Ideal.nD Cert.Reference3Ideal.τ).loc Cert.Reference3Ideal.main_arg5) = m' ((c.tc : Thread Cert.Reference3Ideal.nD Cert.Reference3Ideal.τ).loc Cert.Reference3Ideal.main_arg5)
          ∧ r.2.mem ((c.tc : Thread Cert.Reference3Ideal.nD Cert.Reference3Ideal.τ).loc Cert.Reference3Ideal.main_arg6) = m' ((c.tc : Thread Cert.Reference3Ideal.nD Cert.Reference3Ideal.τ).loc Cert.Reference3Ideal.main_arg6))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)
      ∧ m' ((c.tc : Thread Cert.Reference4Ideal.nD Cert.Reference4Ideal.τ).loc Cert.Reference4Ideal.main_arg2) = m ((c.tc : Thread Cert.Kernel4Ideal.nD Cert.Kernel4Ideal.τ).loc Cert.Kernel4Ideal.main_arg2)
      ∧ m' ((c.tc : Thread Cert.Reference4Ideal.nD Cert.Reference4Ideal.τ).loc Cert.Reference4Ideal.main_arg3) = m ((c.tc : Thread Cert.Kernel4Ideal.nD Cert.Kernel4Ideal.τ).loc Cert.Kernel4Ideal.main_arg3)
      ∧ m' ((c.tc : Thread Cert.Reference4Ideal.nD Cert.Reference4Ideal.τ).loc Cert.Reference4Ideal.main_arg4) = m ((c.tc : Thread Cert.Kernel4Ideal.nD Cert.Kernel4Ideal.τ).loc Cert.Kernel4Ideal.main_arg4)
      ∧ m' ((c.tc : Thread Cert.Reference4Ideal.nD Cert.Reference4Ideal.τ).loc Cert.Reference4Ideal.main_arg5) = m ((c.tc : Thread Cert.Kernel4Ideal.nD Cert.Kernel4Ideal.τ).loc Cert.Kernel4Ideal.main_arg5)
      ∧ m' ((c.tc : Thread Cert.Reference4Ideal.nD Cert.Reference4Ideal.τ).loc Cert.Reference4Ideal.main_arg6) = m ((c.tc : Thread Cert.Kernel4Ideal.nD Cert.Kernel4Ideal.τ).loc Cert.Kernel4Ideal.main_arg6)) →
    ∃ (v0 : (c : Dev Cert.Kernel4Ideal.nD) → Buf (Elt Ideal) ((c.tc : Thread Cert.Kernel4Ideal.nD Cert.Kernel4Ideal.τ).loc Cert.Kernel4Ideal.main_v10)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v10) = v0 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
          ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
          ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
          ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4)
          ∧ r.2.mem ((c.tc : Thread Cert.Kernel4Ideal.nD Cert.Kernel4Ideal.τ).loc Cert.Kernel4Ideal.main_arg5) = m ((c.tc : Thread Cert.Kernel4Ideal.nD Cert.Kernel4Ideal.τ).loc Cert.Kernel4Ideal.main_arg5)
          ∧ r.2.mem ((c.tc : Thread Cert.Kernel4Ideal.nD Cert.Kernel4Ideal.τ).loc Cert.Kernel4Ideal.main_arg6) = m ((c.tc : Thread Cert.Kernel4Ideal.nD Cert.Kernel4Ideal.τ).loc Cert.Kernel4Ideal.main_arg6))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v75) = v0 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1)
          ∧ r.2.mem ((c.tc : Thread Cert.Reference4Ideal.nD Cert.Reference4Ideal.τ).loc Cert.Reference4Ideal.main_arg2) = m' ((c.tc : Thread Cert.Reference4Ideal.nD Cert.Reference4Ideal.τ).loc Cert.Reference4Ideal.main_arg2)
          ∧ r.2.mem ((c.tc : Thread Cert.Reference4Ideal.nD Cert.Reference4Ideal.τ).loc Cert.Reference4Ideal.main_arg3) = m' ((c.tc : Thread Cert.Reference4Ideal.nD Cert.Reference4Ideal.τ).loc Cert.Reference4Ideal.main_arg3)
          ∧ r.2.mem ((c.tc : Thread Cert.Reference4Ideal.nD Cert.Reference4Ideal.τ).loc Cert.Reference4Ideal.main_arg4) = m' ((c.tc : Thread Cert.Reference4Ideal.nD Cert.Reference4Ideal.τ).loc Cert.Reference4Ideal.main_arg4)
          ∧ r.2.mem ((c.tc : Thread Cert.Reference4Ideal.nD Cert.Reference4Ideal.τ).loc Cert.Reference4Ideal.main_arg5) = m' ((c.tc : Thread Cert.Reference4Ideal.nD Cert.Reference4Ideal.τ).loc Cert.Reference4Ideal.main_arg5)
          ∧ r.2.mem ((c.tc : Thread Cert.Reference4Ideal.nD Cert.Reference4Ideal.τ).loc Cert.Reference4Ideal.main_arg6) = m' ((c.tc : Thread Cert.Reference4Ideal.nD Cert.Reference4Ideal.τ).loc Cert.Reference4Ideal.main_arg6))

def preserves_Kernel5_Kernel5Ideal : Prop :=
  True

def algebraic_Kernel5Ideal_Reference5Ideal [hKernel5Ideal : Cert.Kernel5Ideal.Facts] [hReference5Ideal : Cert.Reference5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)
      ∧ m' ((c.tc : Thread Cert.Reference5Ideal.nD Cert.Reference5Ideal.τ).loc Cert.Reference5Ideal.main_arg2) = m ((c.tc : Thread Cert.Kernel5Ideal.nD Cert.Kernel5Ideal.τ).loc Cert.Kernel5Ideal.main_arg2)
      ∧ m' ((c.tc : Thread Cert.Reference5Ideal.nD Cert.Reference5Ideal.τ).loc Cert.Reference5Ideal.main_arg3) = m ((c.tc : Thread Cert.Kernel5Ideal.nD Cert.Kernel5Ideal.τ).loc Cert.Kernel5Ideal.main_arg3)
      ∧ m' ((c.tc : Thread Cert.Reference5Ideal.nD Cert.Reference5Ideal.τ).loc Cert.Reference5Ideal.main_arg4) = m ((c.tc : Thread Cert.Kernel5Ideal.nD Cert.Kernel5Ideal.τ).loc Cert.Kernel5Ideal.main_arg4)
      ∧ m' ((c.tc : Thread Cert.Reference5Ideal.nD Cert.Reference5Ideal.τ).loc Cert.Reference5Ideal.main_arg5) = m ((c.tc : Thread Cert.Kernel5Ideal.nD Cert.Kernel5Ideal.τ).loc Cert.Kernel5Ideal.main_arg5)
      ∧ m' ((c.tc : Thread Cert.Reference5Ideal.nD Cert.Reference5Ideal.τ).loc Cert.Reference5Ideal.main_arg6) = m ((c.tc : Thread Cert.Kernel5Ideal.nD Cert.Kernel5Ideal.τ).loc Cert.Kernel5Ideal.main_arg6)) →
    ∃ (v0 : (c : Dev Cert.Kernel5Ideal.nD) → Buf (Elt Ideal) ((c.tc : Thread Cert.Kernel5Ideal.nD Cert.Kernel5Ideal.τ).loc Cert.Kernel5Ideal.main_v13)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v13) = v0 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
          ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
          ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3)
          ∧ r.2.mem ((c.tc : Thread Cert.Kernel5Ideal.nD Cert.Kernel5Ideal.τ).loc Cert.Kernel5Ideal.main_arg4) = m ((c.tc : Thread Cert.Kernel5Ideal.nD Cert.Kernel5Ideal.τ).loc Cert.Kernel5Ideal.main_arg4)
          ∧ r.2.mem ((c.tc : Thread Cert.Kernel5Ideal.nD Cert.Kernel5Ideal.τ).loc Cert.Kernel5Ideal.main_arg5) = m ((c.tc : Thread Cert.Kernel5Ideal.nD Cert.Kernel5Ideal.τ).loc Cert.Kernel5Ideal.main_arg5)
          ∧ r.2.mem ((c.tc : Thread Cert.Kernel5Ideal.nD Cert.Kernel5Ideal.τ).loc Cert.Kernel5Ideal.main_arg6) = m ((c.tc : Thread Cert.Kernel5Ideal.nD Cert.Kernel5Ideal.τ).loc Cert.Kernel5Ideal.main_arg6))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v14) = v0 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1)
          ∧ r.2.mem ((c.tc : Thread Cert.Reference5Ideal.nD Cert.Reference5Ideal.τ).loc Cert.Reference5Ideal.main_arg2) = m' ((c.tc : Thread Cert.Reference5Ideal.nD Cert.Reference5Ideal.τ).loc Cert.Reference5Ideal.main_arg2)
          ∧ r.2.mem ((c.tc : Thread Cert.Reference5Ideal.nD Cert.Reference5Ideal.τ).loc Cert.Reference5Ideal.main_arg3) = m' ((c.tc : Thread Cert.Reference5Ideal.nD Cert.Reference5Ideal.τ).loc Cert.Reference5Ideal.main_arg3)
          ∧ r.2.mem ((c.tc : Thread Cert.Reference5Ideal.nD Cert.Reference5Ideal.τ).loc Cert.Reference5Ideal.main_arg4) = m' ((c.tc : Thread Cert.Reference5Ideal.nD Cert.Reference5Ideal.τ).loc Cert.Reference5Ideal.main_arg4)
          ∧ r.2.mem ((c.tc : Thread Cert.Reference5Ideal.nD Cert.Reference5Ideal.τ).loc Cert.Reference5Ideal.main_arg5) = m' ((c.tc : Thread Cert.Reference5Ideal.nD Cert.Reference5Ideal.τ).loc Cert.Reference5Ideal.main_arg5)
          ∧ r.2.mem ((c.tc : Thread Cert.Reference5Ideal.nD Cert.Reference5Ideal.τ).loc Cert.Reference5Ideal.main_arg6) = m' ((c.tc : Thread Cert.Reference5Ideal.nD Cert.Reference5Ideal.τ).loc Cert.Reference5Ideal.main_arg6))

def preserves_Kernel6_Kernel6Ideal : Prop :=
  True

def algebraic_Kernel6Ideal_Reference6Ideal [hKernel6Ideal : Cert.Kernel6Ideal.Facts] [hReference6Ideal : Cert.Reference6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg)
    (m' : (ℓ : Loc Cert.Reference6Ideal.nD Cert.Reference6Ideal.τ Cert.Reference6Ideal.sig) → Buf (Elt Ideal) ℓ) (g' : Dev Cert.Reference6Ideal.nD → PrngReg), Pre_Kernel6Ideal m →
    (∀ c : Dev Cert.Kernel6Ideal.nD,
      m' ((c.tc : Thread Cert.Reference6Ideal.nD Cert.Reference6Ideal.τ).loc Cert.Reference6Ideal.main_arg0) = m ((c.tc : Thread Cert.Kernel6Ideal.nD Cert.Kernel6Ideal.τ).loc Cert.Kernel6Ideal.main_arg0)
      ∧ m' ((c.tc : Thread Cert.Reference6Ideal.nD Cert.Reference6Ideal.τ).loc Cert.Reference6Ideal.main_arg1) = m ((c.tc : Thread Cert.Kernel6Ideal.nD Cert.Kernel6Ideal.τ).loc Cert.Kernel6Ideal.main_arg1)
      ∧ m' ((c.tc : Thread Cert.Reference6Ideal.nD Cert.Reference6Ideal.τ).loc Cert.Reference6Ideal.main_arg2) = m ((c.tc : Thread Cert.Kernel6Ideal.nD Cert.Kernel6Ideal.τ).loc Cert.Kernel6Ideal.main_arg2)
      ∧ m' ((c.tc : Thread Cert.Reference6Ideal.nD Cert.Reference6Ideal.τ).loc Cert.Reference6Ideal.main_arg3) = m ((c.tc : Thread Cert.Kernel6Ideal.nD Cert.Kernel6Ideal.τ).loc Cert.Kernel6Ideal.main_arg3)
      ∧ m' ((c.tc : Thread Cert.Reference6Ideal.nD Cert.Reference6Ideal.τ).loc Cert.Reference6Ideal.main_arg4) = m ((c.tc : Thread Cert.Kernel6Ideal.nD Cert.Kernel6Ideal.τ).loc Cert.Kernel6Ideal.main_arg4)
      ∧ m' ((c.tc : Thread Cert.Reference6Ideal.nD Cert.Reference6Ideal.τ).loc Cert.Reference6Ideal.main_arg5) = m ((c.tc : Thread Cert.Kernel6Ideal.nD Cert.Kernel6Ideal.τ).loc Cert.Kernel6Ideal.main_arg5)
      ∧ m' ((c.tc : Thread Cert.Reference6Ideal.nD Cert.Reference6Ideal.τ).loc Cert.Reference6Ideal.main_arg6) = m ((c.tc : Thread Cert.Kernel6Ideal.nD Cert.Kernel6Ideal.τ).loc Cert.Kernel6Ideal.main_arg6)) →
    ∃ (v0 : (c : Dev Cert.Kernel6Ideal.nD) → Buf (Elt Ideal) ((c.tc : Thread Cert.Kernel6Ideal.nD Cert.Kernel6Ideal.τ).loc Cert.Kernel6Ideal.main_v13)),
      θ_run (Cert.Kernel6Ideal.defs (F := Ideal)) (onTc (τ := Cert.Kernel6Ideal.τ) (Cert.Kernel6Ideal.main (F := Ideal))) ⟨m, fun _ => 0, g⟩ (fun r => ∀ c : Dev Cert.Kernel6Ideal.nD,
          r.2.mem ((c.tc : Thread Cert.Kernel6Ideal.nD Cert.Kernel6Ideal.τ).loc Cert.Kernel6Ideal.main_v13) = v0 c
          ∧ r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
          ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
          ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2)
          ∧ r.2.mem ((c.tc : Thread Cert.Kernel6Ideal.nD Cert.Kernel6Ideal.τ).loc Cert.Kernel6Ideal.main_arg3) = m ((c.tc : Thread Cert.Kernel6Ideal.nD Cert.Kernel6Ideal.τ).loc Cert.Kernel6Ideal.main_arg3)
          ∧ r.2.mem ((c.tc : Thread Cert.Kernel6Ideal.nD Cert.Kernel6Ideal.τ).loc Cert.Kernel6Ideal.main_arg4) = m ((c.tc : Thread Cert.Kernel6Ideal.nD Cert.Kernel6Ideal.τ).loc Cert.Kernel6Ideal.main_arg4)
          ∧ r.2.mem ((c.tc : Thread Cert.Kernel6Ideal.nD Cert.Kernel6Ideal.τ).loc Cert.Kernel6Ideal.main_arg5) = m ((c.tc : Thread Cert.Kernel6Ideal.nD Cert.Kernel6Ideal.τ).loc Cert.Kernel6Ideal.main_arg5)
          ∧ r.2.mem ((c.tc : Thread Cert.Kernel6Ideal.nD Cert.Kernel6Ideal.τ).loc Cert.Kernel6Ideal.main_arg6) = m ((c.tc : Thread Cert.Kernel6Ideal.nD Cert.Kernel6Ideal.τ).loc Cert.Kernel6Ideal.main_arg6))
      ∧ θ_run (Cert.Reference6Ideal.defs (F := Ideal)) (onTc (τ := Cert.Reference6Ideal.τ) (Cert.Reference6Ideal.main (F := Ideal))) ⟨m', fun _ => 0, g'⟩ (fun r => ∀ c : Dev Cert.Reference6Ideal.nD,
          r.2.mem ((c.tc : Thread Cert.Reference6Ideal.nD Cert.Reference6Ideal.τ).loc Cert.Reference6Ideal.main_v6) = v0 c
          ∧ r.2.mem ((c.tc : Thread Cert.Reference6Ideal.nD Cert.Reference6Ideal.τ).loc Cert.Reference6Ideal.main_arg0) = m' ((c.tc : Thread Cert.Reference6Ideal.nD Cert.Reference6Ideal.τ).loc Cert.Reference6Ideal.main_arg0)
          ∧ r.2.mem ((c.tc : Thread Cert.Reference6Ideal.nD Cert.Reference6Ideal.τ).loc Cert.Reference6Ideal.main_arg1) = m' ((c.tc : Thread Cert.Reference6Ideal.nD Cert.Reference6Ideal.τ).loc Cert.Reference6Ideal.main_arg1)
          ∧ r.2.mem ((c.tc : Thread Cert.Reference6Ideal.nD Cert.Reference6Ideal.τ).loc Cert.Reference6Ideal.main_arg2) = m' ((c.tc : Thread Cert.Reference6Ideal.nD Cert.Reference6Ideal.τ).loc Cert.Reference6Ideal.main_arg2)
          ∧ r.2.mem ((c.tc : Thread Cert.Reference6Ideal.nD Cert.Reference6Ideal.τ).loc Cert.Reference6Ideal.main_arg3) = m' ((c.tc : Thread Cert.Reference6Ideal.nD Cert.Reference6Ideal.τ).loc Cert.Reference6Ideal.main_arg3)
          ∧ r.2.mem ((c.tc : Thread Cert.Reference6Ideal.nD Cert.Reference6Ideal.τ).loc Cert.Reference6Ideal.main_arg4) = m' ((c.tc : Thread Cert.Reference6Ideal.nD Cert.Reference6Ideal.τ).loc Cert.Reference6Ideal.main_arg4)
          ∧ r.2.mem ((c.tc : Thread Cert.Reference6Ideal.nD Cert.Reference6Ideal.τ).loc Cert.Reference6Ideal.main_arg5) = m' ((c.tc : Thread Cert.Reference6Ideal.nD Cert.Reference6Ideal.τ).loc Cert.Reference6Ideal.main_arg5)
          ∧ r.2.mem ((c.tc : Thread Cert.Reference6Ideal.nD Cert.Reference6Ideal.τ).loc Cert.Reference6Ideal.main_arg6) = m' ((c.tc : Thread Cert.Reference6Ideal.nD Cert.Reference6Ideal.τ).loc Cert.Reference6Ideal.main_arg6))

def preserves_Kernel7_Kernel7Ideal : Prop :=
  True

def algebraic_Kernel7Ideal_Reference7Ideal_pre_finite_c [hKernel7Ideal : Cert.Kernel7Ideal.Facts] [hReference7Ideal : Cert.Reference7Ideal.Facts] [hPre_finite_c : Cert.Pre_finite_c.Facts] : Prop :=
  ∀ (m : (ℓ : Loc Cert.Kernel7Ideal.nD Cert.Kernel7Ideal.τ Cert.Kernel7Ideal.sig) → Buf (Elt Ideal) ℓ) (g : Dev Cert.Kernel7Ideal.nD → PrngReg)
    (m' : (ℓ : Loc Cert.Reference7Ideal.nD Cert.Reference7Ideal.τ Cert.Reference7Ideal.sig) → Buf (Elt Ideal) ℓ) (g' : Dev Cert.Reference7Ideal.nD → PrngReg), Pre_Kernel7Ideal_finite_c m →
    (∀ c : Dev Cert.Kernel7Ideal.nD,
      m' ((c.tc : Thread Cert.Reference7Ideal.nD Cert.Reference7Ideal.τ).loc Cert.Reference7Ideal.main_arg0) = m ((c.tc : Thread Cert.Kernel7Ideal.nD Cert.Kernel7Ideal.τ).loc Cert.Kernel7Ideal.main_arg0)
      ∧ m' ((c.tc : Thread Cert.Reference7Ideal.nD Cert.Reference7Ideal.τ).loc Cert.Reference7Ideal.main_arg1) = m ((c.tc : Thread Cert.Kernel7Ideal.nD Cert.Kernel7Ideal.τ).loc Cert.Kernel7Ideal.main_arg1)
      ∧ m' ((c.tc : Thread Cert.Reference7Ideal.nD Cert.Reference7Ideal.τ).loc Cert.Reference7Ideal.main_arg2) = m ((c.tc : Thread Cert.Kernel7Ideal.nD Cert.Kernel7Ideal.τ).loc Cert.Kernel7Ideal.main_arg2)
      ∧ m' ((c.tc : Thread Cert.Reference7Ideal.nD Cert.Reference7Ideal.τ).loc Cert.Reference7Ideal.main_arg3) = m ((c.tc : Thread Cert.Kernel7Ideal.nD Cert.Kernel7Ideal.τ).loc Cert.Kernel7Ideal.main_arg3)) →
    ∃ (v0 : (c : Dev Cert.Kernel7Ideal.nD) → Buf (Elt Ideal) ((c.tc : Thread Cert.Kernel7Ideal.nD Cert.Kernel7Ideal.τ).loc Cert.Kernel7Ideal.main_v4)),
      θ_run (Cert.Kernel7Ideal.defs (F := Ideal)) (onTc (τ := Cert.Kernel7Ideal.τ) (Cert.Kernel7Ideal.main (F := Ideal))) ⟨m, fun _ => 0, g⟩ (fun r => ∀ c : Dev Cert.Kernel7Ideal.nD,
          r.2.mem ((c.tc : Thread Cert.Kernel7Ideal.nD Cert.Kernel7Ideal.τ).loc Cert.Kernel7Ideal.main_v4) = v0 c
          ∧ r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
          ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
          ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2)
          ∧ r.2.mem ((c.tc : Thread Cert.Kernel7Ideal.nD Cert.Kernel7Ideal.τ).loc Cert.Kernel7Ideal.main_arg3) = m ((c.tc : Thread Cert.Kernel7Ideal.nD Cert.Kernel7Ideal.τ).loc Cert.Kernel7Ideal.main_arg3))
      ∧ θ_run (Cert.Reference7Ideal.defs (F := Ideal)) (onTc (τ := Cert.Reference7Ideal.τ) (Cert.Reference7Ideal.main (F := Ideal))) ⟨m', fun _ => 0, g'⟩ (fun r => ∀ c : Dev Cert.Reference7Ideal.nD,
          r.2.mem ((c.tc : Thread Cert.Reference7Ideal.nD Cert.Reference7Ideal.τ).loc Cert.Reference7Ideal.main_v8) = v0 c
          ∧ r.2.mem ((c.tc : Thread Cert.Reference7Ideal.nD Cert.Reference7Ideal.τ).loc Cert.Reference7Ideal.main_arg0) = m' ((c.tc : Thread Cert.Reference7Ideal.nD Cert.Reference7Ideal.τ).loc Cert.Reference7Ideal.main_arg0)
          ∧ r.2.mem ((c.tc : Thread Cert.Reference7Ideal.nD Cert.Reference7Ideal.τ).loc Cert.Reference7Ideal.main_arg1) = m' ((c.tc : Thread Cert.Reference7Ideal.nD Cert.Reference7Ideal.τ).loc Cert.Reference7Ideal.main_arg1)
          ∧ r.2.mem ((c.tc : Thread Cert.Reference7Ideal.nD Cert.Reference7Ideal.τ).loc Cert.Reference7Ideal.main_arg2) = m' ((c.tc : Thread Cert.Reference7Ideal.nD Cert.Reference7Ideal.τ).loc Cert.Reference7Ideal.main_arg2)
          ∧ r.2.mem ((c.tc : Thread Cert.Reference7Ideal.nD Cert.Reference7Ideal.τ).loc Cert.Reference7Ideal.main_arg3) = m' ((c.tc : Thread Cert.Reference7Ideal.nD Cert.Reference7Ideal.τ).loc Cert.Reference7Ideal.main_arg3))

def preserves_Kernel8_Kernel8Ideal : Prop :=
  True

def algebraic_Kernel8Ideal_Reference8Ideal [hKernel8Ideal : Cert.Kernel8Ideal.Facts] [hReference8Ideal : Cert.Reference8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg)
    (m' : (ℓ : Loc Cert.Reference8Ideal.nD Cert.Reference8Ideal.τ Cert.Reference8Ideal.sig) → Buf (Elt Ideal) ℓ) (g' : Dev Cert.Reference8Ideal.nD → PrngReg), Pre_Kernel8Ideal m →
    (∀ c : Dev Cert.Kernel8Ideal.nD,
      m' ((c.tc : Thread Cert.Reference8Ideal.nD Cert.Reference8Ideal.τ).loc Cert.Reference8Ideal.main_arg0) = m ((c.tc : Thread Cert.Kernel8Ideal.nD Cert.Kernel8Ideal.τ).loc Cert.Kernel8Ideal.main_arg0)
      ∧ m' ((c.tc : Thread Cert.Reference8Ideal.nD Cert.Reference8Ideal.τ).loc Cert.Reference8Ideal.main_arg1) = m ((c.tc : Thread Cert.Kernel8Ideal.nD Cert.Kernel8Ideal.τ).loc Cert.Kernel8Ideal.main_arg1)
      ∧ m' ((c.tc : Thread Cert.Reference8Ideal.nD Cert.Reference8Ideal.τ).loc Cert.Reference8Ideal.main_arg2) = m ((c.tc : Thread Cert.Kernel8Ideal.nD Cert.Kernel8Ideal.τ).loc Cert.Kernel8Ideal.main_arg2)
      ∧ m' ((c.tc : Thread Cert.Reference8Ideal.nD Cert.Reference8Ideal.τ).loc Cert.Reference8Ideal.main_arg3) = m ((c.tc : Thread Cert.Kernel8Ideal.nD Cert.Kernel8Ideal.τ).loc Cert.Kernel8Ideal.main_arg3)
      ∧ m' ((c.tc : Thread Cert.Reference8Ideal.nD Cert.Reference8Ideal.τ).loc Cert.Reference8Ideal.main_arg4) = m ((c.tc : Thread Cert.Kernel8Ideal.nD Cert.Kernel8Ideal.τ).loc Cert.Kernel8Ideal.main_arg4)
      ∧ m' ((c.tc : Thread Cert.Reference8Ideal.nD Cert.Reference8Ideal.τ).loc Cert.Reference8Ideal.main_arg5) = m ((c.tc : Thread Cert.Kernel8Ideal.nD Cert.Kernel8Ideal.τ).loc Cert.Kernel8Ideal.main_arg5)
      ∧ m' ((c.tc : Thread Cert.Reference8Ideal.nD Cert.Reference8Ideal.τ).loc Cert.Reference8Ideal.main_arg6) = m ((c.tc : Thread Cert.Kernel8Ideal.nD Cert.Kernel8Ideal.τ).loc Cert.Kernel8Ideal.main_arg6)
      ∧ m' ((c.tc : Thread Cert.Reference8Ideal.nD Cert.Reference8Ideal.τ).loc Cert.Reference8Ideal.main_arg7) = m ((c.tc : Thread Cert.Kernel8Ideal.nD Cert.Kernel8Ideal.τ).loc Cert.Kernel8Ideal.main_arg7)
      ∧ m' ((c.tc : Thread Cert.Reference8Ideal.nD Cert.Reference8Ideal.τ).loc Cert.Reference8Ideal.main_arg8) = m ((c.tc : Thread Cert.Kernel8Ideal.nD Cert.Kernel8Ideal.τ).loc Cert.Kernel8Ideal.main_arg8)) →
    ∃ (v0 : (c : Dev Cert.Kernel8Ideal.nD) → Buf (Elt Ideal) ((c.tc : Thread Cert.Kernel8Ideal.nD Cert.Kernel8Ideal.τ).loc Cert.Kernel8Ideal.main_v53)),
      θ_run (Cert.Kernel8Ideal.defs (F := Ideal)) (onTc (τ := Cert.Kernel8Ideal.τ) (Cert.Kernel8Ideal.main (F := Ideal))) ⟨m, fun _ => 0, g⟩ (fun r => ∀ c : Dev Cert.Kernel8Ideal.nD,
          r.2.mem ((c.tc : Thread Cert.Kernel8Ideal.nD Cert.Kernel8Ideal.τ).loc Cert.Kernel8Ideal.main_v53) = v0 c
          ∧ r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
          ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1)
          ∧ r.2.mem ((c.tc : Thread Cert.Kernel8Ideal.nD Cert.Kernel8Ideal.τ).loc Cert.Kernel8Ideal.main_arg2) = m ((c.tc : Thread Cert.Kernel8Ideal.nD Cert.Kernel8Ideal.τ).loc Cert.Kernel8Ideal.main_arg2)
          ∧ r.2.mem ((c.tc : Thread Cert.Kernel8Ideal.nD Cert.Kernel8Ideal.τ).loc Cert.Kernel8Ideal.main_arg3) = m ((c.tc : Thread Cert.Kernel8Ideal.nD Cert.Kernel8Ideal.τ).loc Cert.Kernel8Ideal.main_arg3)
          ∧ r.2.mem ((c.tc : Thread Cert.Kernel8Ideal.nD Cert.Kernel8Ideal.τ).loc Cert.Kernel8Ideal.main_arg4) = m ((c.tc : Thread Cert.Kernel8Ideal.nD Cert.Kernel8Ideal.τ).loc Cert.Kernel8Ideal.main_arg4)
          ∧ r.2.mem ((c.tc : Thread Cert.Kernel8Ideal.nD Cert.Kernel8Ideal.τ).loc Cert.Kernel8Ideal.main_arg5) = m ((c.tc : Thread Cert.Kernel8Ideal.nD Cert.Kernel8Ideal.τ).loc Cert.Kernel8Ideal.main_arg5)
          ∧ r.2.mem ((c.tc : Thread Cert.Kernel8Ideal.nD Cert.Kernel8Ideal.τ).loc Cert.Kernel8Ideal.main_arg6) = m ((c.tc : Thread Cert.Kernel8Ideal.nD Cert.Kernel8Ideal.τ).loc Cert.Kernel8Ideal.main_arg6)
          ∧ r.2.mem ((c.tc : Thread Cert.Kernel8Ideal.nD Cert.Kernel8Ideal.τ).loc Cert.Kernel8Ideal.main_arg7) = m ((c.tc : Thread Cert.Kernel8Ideal.nD Cert.Kernel8Ideal.τ).loc Cert.Kernel8Ideal.main_arg7)
          ∧ r.2.mem ((c.tc : Thread Cert.Kernel8Ideal.nD Cert.Kernel8Ideal.τ).loc Cert.Kernel8Ideal.main_arg8) = m ((c.tc : Thread Cert.Kernel8Ideal.nD Cert.Kernel8Ideal.τ).loc Cert.Kernel8Ideal.main_arg8))
      ∧ θ_run (Cert.Reference8Ideal.defs (F := Ideal)) (onTc (τ := Cert.Reference8Ideal.τ) (Cert.Reference8Ideal.main (F := Ideal))) ⟨m', fun _ => 0, g'⟩ (fun r => ∀ c : Dev Cert.Reference8Ideal.nD,
          r.2.mem ((c.tc : Thread Cert.Reference8Ideal.nD Cert.Reference8Ideal.τ).loc Cert.Reference8Ideal.main_v242) = v0 c
          ∧ r.2.mem ((c.tc : Thread Cert.Reference8Ideal.nD Cert.Reference8Ideal.τ).loc Cert.Reference8Ideal.main_arg0) = m' ((c.tc : Thread Cert.Reference8Ideal.nD Cert.Reference8Ideal.τ).loc Cert.Reference8Ideal.main_arg0)
          ∧ r.2.mem ((c.tc : Thread Cert.Reference8Ideal.nD Cert.Reference8Ideal.τ).loc Cert.Reference8Ideal.main_arg1) = m' ((c.tc : Thread Cert.Reference8Ideal.nD Cert.Reference8Ideal.τ).loc Cert.Reference8Ideal.main_arg1)
          ∧ r.2.mem ((c.tc : Thread Cert.Reference8Ideal.nD Cert.Reference8Ideal.τ).loc Cert.Reference8Ideal.main_arg2) = m' ((c.tc : Thread Cert.Reference8Ideal.nD Cert.Reference8Ideal.τ).loc Cert.Reference8Ideal.main_arg2)
          ∧ r.2.mem ((c.tc : Thread Cert.Reference8Ideal.nD Cert.Reference8Ideal.τ).loc Cert.Reference8Ideal.main_arg3) = m' ((c.tc : Thread Cert.Reference8Ideal.nD Cert.Reference8Ideal.τ).loc Cert.Reference8Ideal.main_arg3)
          ∧ r.2.mem ((c.tc : Thread Cert.Reference8Ideal.nD Cert.Reference8Ideal.τ).loc Cert.Reference8Ideal.main_arg4) = m' ((c.tc : Thread Cert.Reference8Ideal.nD Cert.Reference8Ideal.τ).loc Cert.Reference8Ideal.main_arg4)
          ∧ r.2.mem ((c.tc : Thread Cert.Reference8Ideal.nD Cert.Reference8Ideal.τ).loc Cert.Reference8Ideal.main_arg5) = m' ((c.tc : Thread Cert.Reference8Ideal.nD Cert.Reference8Ideal.τ).loc Cert.Reference8Ideal.main_arg5)
          ∧ r.2.mem ((c.tc : Thread Cert.Reference8Ideal.nD Cert.Reference8Ideal.τ).loc Cert.Reference8Ideal.main_arg6) = m' ((c.tc : Thread Cert.Reference8Ideal.nD Cert.Reference8Ideal.τ).loc Cert.Reference8Ideal.main_arg6)
          ∧ r.2.mem ((c.tc : Thread Cert.Reference8Ideal.nD Cert.Reference8Ideal.τ).loc Cert.Reference8Ideal.main_arg7) = m' ((c.tc : Thread Cert.Reference8Ideal.nD Cert.Reference8Ideal.τ).loc Cert.Reference8Ideal.main_arg7)
          ∧ r.2.mem ((c.tc : Thread Cert.Reference8Ideal.nD Cert.Reference8Ideal.τ).loc Cert.Reference8Ideal.main_arg8) = m' ((c.tc : Thread Cert.Reference8Ideal.nD Cert.Reference8Ideal.τ).loc Cert.Reference8Ideal.main_arg8))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts) (hKernel6 : Cert.Kernel6.Facts) (hKernel6Ideal : Cert.Kernel6Ideal.Facts) (hReference6Ideal : Cert.Reference6Ideal.Facts) (hKernel7 : Cert.Kernel7.Facts) (hKernel7Ideal : Cert.Kernel7Ideal.Facts) (hReference7Ideal : Cert.Reference7Ideal.Facts) (hKernel8 : Cert.Kernel8.Facts) (hKernel8Ideal : Cert.Kernel8Ideal.Facts) (hReference8Ideal : Cert.Reference8Ideal.Facts) (hPre_finite_qk : Cert.Pre_finite_qk.Facts) (hPre_routed : Cert.Pre_routed.Facts) (hPre_finite_c : Cert.Pre_finite_c.Facts) (hOn_owned : Cert.On_owned.Facts),
    quiescent_Kernel (hKernel := hKernel)
    ∧ quiescent_KernelIdeal (hKernelIdeal := hKernelIdeal)
    ∧ quiescent_KernelIdeal_pre_finite_qk (hKernelIdeal := hKernelIdeal) (hPre_finite_qk := hPre_finite_qk)
    ∧ quiescent_ReferenceIdeal (hReferenceIdeal := hReferenceIdeal)
    ∧ quiescent_ReferenceIdeal_pre_finite_qk (hReferenceIdeal := hReferenceIdeal) (hPre_finite_qk := hPre_finite_qk)
    ∧ quiescent_Kernel2 (hKernel2 := hKernel2) (hPre_routed := hPre_routed)
    ∧ quiescent_Kernel2Ideal (hKernel2Ideal := hKernel2Ideal) (hPre_routed := hPre_routed)
    ∧ quiescent_Reference2Ideal (hReference2Ideal := hReference2Ideal)
    ∧ quiescent_Reference2Ideal_pre_routed (hReference2Ideal := hReference2Ideal) (hPre_routed := hPre_routed)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Reference4Ideal (hReference4Ideal := hReference4Ideal)
    ∧ quiescent_Kernel5 (hKernel5 := hKernel5)
    ∧ quiescent_Kernel5Ideal (hKernel5Ideal := hKernel5Ideal)
    ∧ quiescent_Reference5Ideal (hReference5Ideal := hReference5Ideal)
    ∧ quiescent_Kernel6 (hKernel6 := hKernel6)
    ∧ quiescent_Kernel6Ideal (hKernel6Ideal := hKernel6Ideal)
    ∧ quiescent_Reference6Ideal (hReference6Ideal := hReference6Ideal)
    ∧ quiescent_Kernel7 (hKernel7 := hKernel7)
    ∧ quiescent_Kernel7Ideal (hKernel7Ideal := hKernel7Ideal)
    ∧ quiescent_Kernel7Ideal_pre_finite_c (hKernel7Ideal := hKernel7Ideal) (hPre_finite_c := hPre_finite_c)
    ∧ quiescent_Reference7Ideal (hReference7Ideal := hReference7Ideal)
    ∧ quiescent_Reference7Ideal_pre_finite_c (hReference7Ideal := hReference7Ideal) (hPre_finite_c := hPre_finite_c)
    ∧ quiescent_Kernel8 (hKernel8 := hKernel8)
    ∧ quiescent_Kernel8Ideal (hKernel8Ideal := hKernel8Ideal)
    ∧ quiescent_Reference8Ideal (hReference8Ideal := hReference8Ideal)
    ∧ preserves_Kernel_KernelIdeal
    ∧ algebraic_KernelIdeal_ReferenceIdeal_pre_finite_qk (hKernelIdeal := hKernelIdeal) (hReferenceIdeal := hReferenceIdeal) (hPre_finite_qk := hPre_finite_qk)
    ∧ preserves_Kernel2_Kernel2Ideal
    ∧ algebraic_Kernel2Ideal_Reference2Ideal_on_owned (hKernel2Ideal := hKernel2Ideal) (hReference2Ideal := hReference2Ideal) (hPre_routed := hPre_routed) (hOn_owned := hOn_owned)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal (hKernel4Ideal := hKernel4Ideal) (hReference4Ideal := hReference4Ideal)
    ∧ preserves_Kernel5_Kernel5Ideal
    ∧ algebraic_Kernel5Ideal_Reference5Ideal (hKernel5Ideal := hKernel5Ideal) (hReference5Ideal := hReference5Ideal)
    ∧ preserves_Kernel6_Kernel6Ideal
    ∧ algebraic_Kernel6Ideal_Reference6Ideal (hKernel6Ideal := hKernel6Ideal) (hReference6Ideal := hReference6Ideal)
    ∧ preserves_Kernel7_Kernel7Ideal
    ∧ algebraic_Kernel7Ideal_Reference7Ideal_pre_finite_c (hKernel7Ideal := hKernel7Ideal) (hReference7Ideal := hReference7Ideal) (hPre_finite_c := hPre_finite_c)
    ∧ preserves_Kernel8_Kernel8Ideal
    ∧ algebraic_Kernel8Ideal_Reference8Ideal (hKernel8Ideal := hKernel8Ideal) (hReference8Ideal := hReference8Ideal)
-- ==== On_owned.lean ====
abbrev S108288x1024 : Shape := ⟨2, ![108288, 1024]⟩
abbrev S32 : Shape := ⟨1, ![32]⟩
abbrev S4x4x8x1024x256 : Shape := ⟨5, ![4, 4, 8, 1024, 256]⟩
abbrev S4x4x8x256x1024 : Shape := ⟨5, ![4, 4, 8, 256, 1024]⟩
abbrev S_ : Shape := ⟨0, ![]⟩
abbrev S1x32 : Shape := ⟨2, ![1, 32]⟩
abbrev S32x1 : Shape := ⟨2, ![32, 1]⟩
abbrev S32x32 : Shape := ⟨2, ![32, 32]⟩
abbrev S108288 : Shape := ⟨1, ![108288]⟩
abbrev S108288x1 : Shape := ⟨2, ![108288, 1]⟩
abbrev S108288x32 : Shape := ⟨2, ![108288, 32]⟩

class Facts : Prop where
  bcast_S_S32 : S_.BroadcastsInDim S32 (![] : Fin 0 → Fin S32.rank)
  bcast_S32_S1x32_1 : S32.BroadcastsInDim S1x32 (![1] : Fin 1 → Fin S1x32.rank)
  bcast_S32_S32x1_0 : S32.BroadcastsInDim S32x1 (![0] : Fin 1 → Fin S32x1.rank)
  bcast_S1x32_S32x32_0_1 : S1x32.BroadcastsInDim S32x32 (![0, 1] : Fin 2 → Fin S32x32.rank)
  bcast_S32x1_S32x32_0_1 : S32x1.BroadcastsInDim S32x32 (![0, 1] : Fin 2 → Fin S32x32.rank)
  bcast_S_S32x32 : S_.BroadcastsInDim S32x32 (![] : Fin 0 → Fin S32x32.rank)
  reducesTo_S32x32_S32_d1 : S32x32.ReducesTo [1] S32
  h_S_ : 0 < S_.numel
  bcast_S108288_S108288x1_0 : S108288.BroadcastsInDim S108288x1 (![0] : Fin 1 → Fin S108288x1.rank)
  bcast_S108288x1_S108288x32_0_1 : S108288x1.BroadcastsInDim S108288x32 (![0, 1] : Fin 2 → Fin S108288x32.rank)
  bcast_S1x32_S108288x32_0_1 : S1x32.BroadcastsInDim S108288x32 (![0, 1] : Fin 2 → Fin S108288x32.rank)
  reducesTo_S108288x32_S108288_d1 : S108288x32.ReducesTo [1] S108288
  bcast_S108288x1_S108288x1024_0_1 : S108288x1.BroadcastsInDim S108288x1024 (![0, 1] : Fin 2 → Fin S108288x1024.rank)

variable [Facts]

def fn_where {F : FTy → Type} [FloatOps F] (arg0 : IVec S32 1) (arg1 : IVec S32 32) (arg2 : IVec S32 32) : IVec S32 32 :=
  let v0 : IVec S32 32 := select arg0 arg1 arg2
  v0

def fn_floor_divide {F : FTy → Type} [FloatOps F] (arg0 : IVec S32 32) (arg1 : IVec S_ 32) : IVec S32 32 :=
  let v0 : IVec S_ 32 := id arg1
  let v1 : IVec S32 32 := broadcastInDim S32 ![] bcast_S_S32 v0
  let v2 : IVec S32 32 := Host.divsi arg0 v1
  let v3 : IVec S32 32 := signi arg0
  let v4 : IVec S_ 32 := signi v0
  let v5 : IVec S32 32 := broadcastInDim S32 ![] bcast_S_S32 v4
  let v6 : IVec S32 1 := cmpi .ne v3 v5
  let v7 : IVec S32 32 := broadcastInDim S32 ![] bcast_S_S32 v0
  let v8 : IVec S32 32 := Host.remsi arg0 v7
  let c : IVec S_ 32 := constantI S_ 32 0#32
  let v9 : IVec S32 32 := broadcastInDim S32 ![] bcast_S_S32 c
  let v10 : IVec S32 1 := cmpi .ne v8 v9
  let v11 : IVec S32 1 := andi v6 v10
  let c_0 : IVec S_ 32 := constantI S_ 32 1#32
  let v12 : IVec S32 32 := broadcastInDim S32 ![] bcast_S_S32 c_0
  let v13 : IVec S32 32 := subi v2 v12
  let v14 : IVec S32 32 := fn_where (F := F) v11 v13 v2
  v14

def fn_where_0 {F : FTy → Type} [FloatOps F] (arg0 : IVec S32x32 1) (arg1 : IVec S1x32 32) (arg2 : IVec S_ 32) : IVec S32x32 32 :=
  let v0 : IVec S_ 32 := id arg2
  let v1 : IVec S32x32 32 := broadcastInDim S32x32 ![0, 1] bcast_S1x32_S32x32_0_1 arg1
  let v2 : IVec S32x32 32 := broadcastInDim S32x32 ![] bcast_S_S32x32 v0
  let v3 : IVec S32x32 32 := select arg0 v1 v2
  v3

def fn_part1 {F : FTy → Type} [FloatOps F] (main_v1 : IVec S32 32) (main_v15 : IVec S32 32) (main_v16 : IVec S108288 32) (main_v17 : IVec S108288x1 32) : IVec S108288x1024 1 :=
  let main_v18 : IVec S1x32 32 := broadcastInDim S1x32 ![1] bcast_S32_S1x32_1 main_v15
  let main_v19 : IVec S108288x32 32 := broadcastInDim S108288x32 ![0, 1] bcast_S108288x1_S108288x32_0_1 main_v17
  let main_v20 : IVec S108288x32 32 := broadcastInDim S108288x32 ![0, 1] bcast_S1x32_S108288x32_0_1 main_v18
  let main_v21 : IVec S108288x32 1 := cmpi .sge main_v19 main_v20
  let main_v22 : IVec S108288x1 32 := broadcastInDim S108288x1 ![0] bcast_S108288_S108288x1_0 main_v16
  let main_v23 : IVec S32 32 := addi main_v15 main_v1
  let main_v24 : IVec S1x32 32 := broadcastInDim S1x32 ![1] bcast_S32_S1x32_1 main_v23
  let main_v25 : IVec S108288x32 32 := broadcastInDim S108288x32 ![0, 1] bcast_S108288x1_S108288x32_0_1 main_v22
  let main_v26 : IVec S108288x32 32 := broadcastInDim S108288x32 ![0, 1] bcast_S1x32_S108288x32_0_1 main_v24
  let main_v27 : IVec S108288x32 1 := cmpi .slt main_v25 main_v26
  let main_v28 : IVec S108288x32 1 := andi main_v21 main_v27
  let main_c_5 : IVec S_ 1 := constantI S_ 1 0#1
  let main_v29 : IVec S108288 1 := (fun x v => Host.reduce IntOp.ori x v reducesTo_S108288x32_S108288_d1 h_S_) main_v28 main_c_5
  let main_v30 : IVec S108288x1 1 := broadcastInDim S108288x1 ![0] bcast_S108288_S108288x1_0 main_v29
  let main_v31 : IVec S108288x1024 1 := broadcastInDim S108288x1024 ![0, 1] bcast_S108288x1_S108288x1024_0_1 main_v30
  main_v31

def fn {F : FTy → Type} [FloatOps F] (main_arg0 : FVec F S108288x1024 .f32) (main_arg1 : IVec S32 32) (main_arg2 : FVec F S4x4x8x1024x256 .f32) (main_arg3 : FVec F S4x4x8x1024x256 .f32) (main_arg4 : FVec F S4x4x8x256x1024 .f32) : IVec S108288x1024 1 :=
  let main_c : IVec S_ 32 := constantI S_ 32 8#32
  let main_v0 : IVec S32 32 := broadcastInDim S32 ![] bcast_S_S32 main_c
  let main_v1 : IVec S32 32 := muli main_v0 main_arg1
  let main_c_0 : IVec S_ 32 := constantI S_ 32 255#32
  let main_v2 : IVec S32 32 := broadcastInDim S32 ![] bcast_S_S32 main_c_0
  let main_v3 : IVec S32 32 := addi main_v1 main_v2
  let main_c_1 : IVec S_ 32 := constantI S_ 32 256#32
  let main_v4 : IVec S32 32 := fn_floor_divide (F := F) main_v3 main_c_1
  let main_c_2 : IVec S_ 32 := constantI S_ 32 256#32
  let main_v5 : IVec S32 32 := broadcastInDim S32 ![] bcast_S_S32 main_c_2
  let main_v6 : IVec S32 32 := muli main_v5 main_v4
  let main_v7 : IVec S32 32 := iotaInDim S32 32 0
  let main_v8 : IVec S1x32 32 := broadcastInDim S1x32 ![1] bcast_S32_S1x32_1 main_v7
  let main_v9 : IVec S32x1 32 := broadcastInDim S32x1 ![0] bcast_S32_S32x1_0 main_v7
  let main_v10 : IVec S32x32 32 := broadcastInDim S32x32 ![0, 1] bcast_S1x32_S32x32_0_1 main_v8
  let main_v11 : IVec S32x32 32 := broadcastInDim S32x32 ![0, 1] bcast_S32x1_S32x32_0_1 main_v9
  let main_v12 : IVec S32x32 1 := cmpi .slt main_v10 main_v11
  let main_v13 : IVec S1x32 32 := broadcastInDim S1x32 ![1] bcast_S32_S1x32_1 main_v6
  let main_c_3 : IVec S_ 32 := constantI S_ 32 0#32
  let main_v14 : IVec S32x32 32 := fn_where_0 (F := F) main_v12 main_v13 main_c_3
  let main_c_4 : IVec S_ 32 := constantI S_ 32 0#32
  let main_v15 : IVec S32 32 := (fun x v => Host.reduce IntOp.addi x v reducesTo_S32x32_S32_d1 h_S_) main_v14 main_c_4
  let main_v16 : IVec S108288 32 := iotaInDim S108288 32 0
  let main_v17 : IVec S108288x1 32 := broadcastInDim S108288x1 ![0] bcast_S108288_S108288x1_0 main_v16
  fn_part1 (F := F) main_v1 main_v15 main_v16 main_v17
-- ==== Pre_finite_c.lean ====
abbrev S8x1024 : Shape := ⟨2, ![8, 1024]⟩
abbrev S1024 : Shape := ⟨1, ![1024]⟩
abbrev S4x1024x6144 : Shape := ⟨3, ![4, 1024, 6144]⟩
abbrev S4x6144 : Shape := ⟨2, ![4, 6144]⟩
abbrev S_ : Shape := ⟨0, ![]⟩

class Facts : Prop where
  bcast_S_S8x1024 : S_.BroadcastsInDim S8x1024 (![] : Fin 0 → Fin S8x1024.rank)
  bcast_S_S1024 : S_.BroadcastsInDim S1024 (![] : Fin 0 → Fin S1024.rank)
  bcast_S_S4x1024x6144 : S_.BroadcastsInDim S4x1024x6144 (![] : Fin 0 → Fin S4x1024x6144.rank)

variable [Facts]

def fn {F : FTy → Type} [FloatOps F] (main_arg0 : FVec F S8x1024 .f32) (main_arg1 : FVec F S1024 .f32) (main_arg2 : FVec F S4x1024x6144 .f32) (main_arg3 : FVec F S4x6144 .f32) : IVec S8x1024 1 × IVec S1024 1 × IVec S4x1024x6144 1 :=
  let main_v0 : FVec F S8x1024 .f32 := Host.absf main_arg0
  let main_cst : FVec F S_ .f32 := constant S_ .f32 0x7F800000#32
  let main_v1 : FVec F S8x1024 .f32 := broadcastInDim S8x1024 ![] bcast_S_S8x1024 main_cst
  let main_v2 : IVec S8x1024 1 := cmpf .olt main_v0 main_v1
  let main_v3 : FVec F S1024 .f32 := Host.absf main_arg1
  let main_cst_0 : FVec F S_ .f32 := constant S_ .f32 0x7F800000#32
  let main_v4 : FVec F S1024 .f32 := broadcastInDim S1024 ![] bcast_S_S1024 main_cst_0
  let main_v5 : IVec S1024 1 := cmpf .olt main_v3 main_v4
  let main_v6 : FVec F S4x1024x6144 .f32 := Host.absf main_arg2
  let main_cst_1 : FVec F S_ .f32 := constant S_ .f32 0x7F800000#32
  let main_v7 : FVec F S4x1024x6144 .f32 := broadcastInDim S4x1024x6144 ![] bcast_S_S4x1024x6144 main_cst_1
  let main_v8 : IVec S4x1024x6144 1 := cmpf .olt main_v6 main_v7
  (main_v2, main_v5, main_v8)
-- ==== Pre_finite_qk.lean ====
abbrev S8x4096x8x128 : Shape := ⟨4, ![8, 4096, 8, 128]⟩
abbrev S8x4096x2x128 : Shape := ⟨4, ![8, 4096, 2, 128]⟩
abbrev S8x256x8x128 : Shape := ⟨4, ![8, 256, 8, 128]⟩
abbrev S8x256x2x128 : Shape := ⟨4, ![8, 256, 2, 128]⟩
abbrev S_ : Shape := ⟨0, ![]⟩

class Facts : Prop where
  bcast_S_S8x4096x8x128 : S_.BroadcastsInDim S8x4096x8x128 (![] : Fin 0 → Fin S8x4096x8x128.rank)
  bcast_S_S8x4096x2x128 : S_.BroadcastsInDim S8x4096x2x128 (![] : Fin 0 → Fin S8x4096x2x128.rank)
  bcast_S_S8x256x8x128 : S_.BroadcastsInDim S8x256x8x128 (![] : Fin 0 → Fin S8x256x8x128.rank)
  bcast_S_S8x256x2x128 : S_.BroadcastsInDim S8x256x2x128 (![] : Fin 0 → Fin S8x256x2x128.rank)

variable [Facts]

def fn {F : FTy → Type} [FloatOps F] (main_arg0 : FVec F S8x4096x8x128 .f32) (main_arg1 : FVec F S8x4096x2x128 .f32) (main_arg2 : FVec F S8x4096x2x128 .f32) (main_arg3 : FVec F S8x256x8x128 .f32) (main_arg4 : FVec F S8x256x2x128 .f32) (main_arg5 : FVec F S8x256x2x128 .f32) : IVec S8x4096x8x128 1 × IVec S8x4096x2x128 1 × IVec S8x256x8x128 1 × IVec S8x256x2x128 1 :=
  let main_v0 : FVec F S8x4096x8x128 .f32 := Host.absf main_arg0
  let main_cst : FVec F S_ .f32 := constant S_ .f32 0x7F800000#32
  let main_v1 : FVec F S8x4096x8x128 .f32 := broadcastInDim S8x4096x8x128 ![] bcast_S_S8x4096x8x128 main_cst
  let main_v2 : IVec S8x4096x8x128 1 := cmpf .olt main_v0 main_v1
  let main_v3 : FVec F S8x4096x2x128 .f32 := Host.absf main_arg1
  let main_cst_0 : FVec F S_ .f32 := constant S_ .f32 0x7F800000#32
  let main_v4 : FVec F S8x4096x2x128 .f32 := broadcastInDim S8x4096x2x128 ![] bcast_S_S8x4096x2x128 main_cst_0
  let main_v5 : IVec S8x4096x2x128 1 := cmpf .olt main_v3 main_v4
  let main_v6 : FVec F S8x256x8x128 .f32 := Host.absf main_arg3
  let main_cst_1 : FVec F S_ .f32 := constant S_ .f32 0x7F800000#32
  let main_v7 : FVec F S8x256x8x128 .f32 := broadcastInDim S8x256x8x128 ![] bcast_S_S8x256x8x128 main_cst_1
  let main_v8 : IVec S8x256x8x128 1 := cmpf .olt main_v6 main_v7
  let main_v9 : FVec F S8x256x2x128 .f32 := Host.absf main_arg4
  let main_cst_2 : FVec F S_ .f32 := constant S_ .f32 0x7F800000#32
  let main_v10 : FVec F S8x256x2x128 .f32 := broadcastInDim S8x256x2x128 ![] bcast_S_S8x256x2x128 main_cst_2
  let main_v11 : IVec S8x256x2x128 1 := cmpf .olt main_v9 main_v10
  (main_v2, main_v5, main_v8, main_v11)
-- ==== Pre_routed.lean ====
abbrev S108288x1024 : Shape := ⟨2, ![108288, 1024]⟩
abbrev S32 : Shape := ⟨1, ![32]⟩
abbrev S4x4x8x1024x256 : Shape := ⟨5, ![4, 4, 8, 1024, 256]⟩
abbrev S4x4x8x256x1024 : Shape := ⟨5, ![4, 4, 8, 256, 1024]⟩
abbrev S_ : Shape := ⟨0, ![]⟩

class Facts : Prop where
  bcast_S_S32 : S_.BroadcastsInDim S32 (![] : Fin 0 → Fin S32.rank)
  reducesTo_S32_S_d0 : S32.ReducesTo [0] S_
  h_S_ : 0 < S_.numel

variable [Facts]

def fn {F : FTy → Type} [FloatOps F] (main_arg0 : FVec F S108288x1024 .f32) (main_arg1 : IVec S32 32) (main_arg2 : FVec F S4x4x8x1024x256 .f32) (main_arg3 : FVec F S4x4x8x1024x256 .f32) (main_arg4 : FVec F S4x4x8x256x1024 .f32) : IVec S32 1 × IVec S32 1 × IVec S_ 1 × IVec S_ 1 :=
  let main_c : IVec S_ 32 := constantI S_ 32 0#32
  let main_v0 : IVec S32 32 := broadcastInDim S32 ![] bcast_S_S32 main_c
  let main_v1 : IVec S32 1 := cmpi .sge main_arg1 main_v0
  let main_c_0 : IVec S_ 32 := constantI S_ 32 12512#32
  let main_v2 : IVec S32 32 := broadcastInDim S32 ![] bcast_S_S32 main_c_0
  let main_v3 : IVec S32 1 := cmpi .sle main_arg1 main_v2
  let main_c_1 : IVec S_ 32 := constantI S_ 32 0#32
  let main_v4 : IVec S_ 32 := (fun x v => Host.reduce IntOp.addi x v reducesTo_S32_S_d0 h_S_) main_arg1 main_c_1
  let main_c_2 : IVec S_ 32 := constantI S_ 32 1#32
  let main_v5 : IVec S_ 1 := cmpi .sge main_v4 main_c_2
  let main_c_3 : IVec S_ 32 := constantI S_ 32 0#32
  let main_v6 : IVec S_ 32 := (fun x v => Host.reduce IntOp.addi x v reducesTo_S32_S_d0 h_S_) main_arg1 main_c_3
  let main_c_4 : IVec S_ 32 := constantI S_ 32 12512#32
  let main_v7 : IVec S_ 1 := cmpi .sle main_v6 main_c_4
  (main_v1, main_v3, main_v5, main_v7)
-- ==== Kernel.lean ====
abbrev S8x4096x8x128 : Shape := ⟨4, ![8, 4096, 8, 128]⟩
abbrev S8x4096x2x128 : Shape := ⟨4, ![8, 4096, 2, 128]⟩
abbrev S8x256x8x128 : Shape := ⟨4, ![8, 256, 8, 128]⟩
abbrev S8x256x2x128 : Shape := ⟨4, ![8, 256, 2, 128]⟩
abbrev S32768x1024 : Shape := ⟨2, ![32768, 1024]⟩
abbrev S2048x1024 : Shape := ⟨2, ![2048, 1024]⟩
abbrev S34816x1024 : Shape := ⟨2, ![34816, 1024]⟩
abbrev S32768x256 : Shape := ⟨2, ![32768, 256]⟩
abbrev S2048x256 : Shape := ⟨2, ![2048, 256]⟩
abbrev S34816x256 : Shape := ⟨2, ![34816, 256]⟩
abbrev S_ : Shape := ⟨0, ![]⟩
abbrev S34816x1536 : Shape := ⟨2, ![34816, 1536]⟩
abbrev S256x512 : Shape := ⟨2, ![256, 512]⟩
abbrev S256x128 : Shape := ⟨2, ![256, 128]⟩
abbrev S4096x128 : Shape := ⟨2, ![4096, 128]⟩
abbrev S128x256 : Shape := ⟨2, ![128, 256]⟩
abbrev S2x128x2048 : Shape := ⟨3, ![2, 128, 2048]⟩
abbrev S2048x128 : Shape := ⟨2, ![2048, 128]⟩
abbrev S128x2048 : Shape := ⟨2, ![128, 2048]⟩
abbrev S1x128x2048 : Shape := ⟨3, ![1, 128, 2048]⟩
abbrev S128x1024 : Shape := ⟨2, ![128, 1024]⟩
abbrev S256x1024 : Shape := ⟨2, ![256, 1024]⟩
abbrev S1024 : Shape := ⟨1, ![1024]⟩
abbrev S1x1024 : Shape := ⟨2, ![1, 1024]⟩

abbrev nBuf : Space → Nat
  | .hbm => 25
  | .vmem => 14
  | .smem => 0
  | _ => 0

abbrev bufTy : (tb : Table) → Fin (tcTables nBuf tb) → BufTy
  | .hbm, ⟨0, _⟩ => ⟨S8x4096x8x128, .f32⟩
  | .hbm, ⟨1, _⟩ => ⟨S8x4096x2x128, .f32⟩
  | .hbm, ⟨2, _⟩ => ⟨S8x4096x2x128, .f32⟩
  | .hbm, ⟨3, _⟩ => ⟨S8x256x8x128, .f32⟩
  | .hbm, ⟨4, _⟩ => ⟨S8x256x2x128, .f32⟩
  | .hbm, ⟨5, _⟩ => ⟨S8x256x2x128, .f32⟩
  | .hbm, ⟨6, _⟩ => ⟨S32768x1024, .f32⟩
  | .hbm, ⟨7, _⟩ => ⟨S2048x1024, .f32⟩
  | .hbm, ⟨8, _⟩ => ⟨S34816x1024, .f32⟩
  | .hbm, ⟨9, _⟩ => ⟨S32768x256, .f32⟩
  | .hbm, ⟨10, _⟩ => ⟨S2048x256, .f32⟩
  | .hbm, ⟨11, _⟩ => ⟨S34816x256, .f32⟩
  | .hbm, ⟨12, _⟩ => ⟨S32768x256, .f32⟩
  | .hbm, ⟨13, _⟩ => ⟨S2048x256, .f32⟩
  | .hbm, ⟨14, _⟩ => ⟨S34816x256, .f32⟩
  | .hbm, ⟨15, _⟩ => ⟨S_, .f32⟩
  | .hbm, ⟨16, _⟩ => ⟨S_, .f32⟩
  | .hbm, ⟨17, _⟩ => ⟨S_, .f32⟩
  | .hbm, ⟨18, _⟩ => ⟨S_, .f32⟩
  | .hbm, ⟨19, _⟩ => ⟨S_, .f32⟩
  | .hbm, ⟨20, _⟩ => ⟨S34816x1024, .f32⟩
  | .hbm, ⟨21, _⟩ => ⟨S34816x1024, .f32⟩
  | .hbm, ⟨22, _⟩ => ⟨S34816x1536, .f32⟩
  | .hbm, ⟨23, _⟩ => ⟨S34816x1536, .bf16⟩
  | .hbm, ⟨24, _⟩ => ⟨S34816x1024, .bf16⟩
  | .local _ .vmem, ⟨0, _⟩ => ⟨S256x512, .bf16⟩
  | .local _ .vmem, ⟨1, _⟩ => ⟨S256x512, .bf16⟩
  | .local _ .vmem, ⟨2, _⟩ => ⟨S256x128, .bf16⟩
  | .local _ .vmem, ⟨3, _⟩ => ⟨S256x128, .bf16⟩
  | .local _ .vmem, ⟨4, _⟩ => ⟨S256x128, .bf16⟩
  | .local _ .vmem, ⟨5, _⟩ => ⟨S256x128, .bf16⟩
  | .local _ .vmem, ⟨6, _⟩ => ⟨S4096x128, .bf16⟩
  | .local _ .vmem, ⟨7, _⟩ => ⟨S4096x128, .bf16⟩
  | .local _ .vmem, ⟨8, _⟩ => ⟨S4096x128, .bf16⟩
  | .local _ .vmem, ⟨9, _⟩ => ⟨S4096x128, .bf16⟩
  | .local _ .vmem, ⟨10, _⟩ => ⟨S256x512, .bf16⟩
  | .local _ .vmem, ⟨11, _⟩ => ⟨S256x512, .bf16⟩
  | .local _ .vmem, ⟨12, _⟩ => ⟨S128x256, .bf16⟩
  | .local _ .vmem, ⟨13, _⟩ => ⟨S2x128x2048, .bf16⟩
  | _, _ => ⟨S8x4096x8x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_cst : Ref sig .tc := ⟨.hbm, 15, rfl⟩
abbrev main_v9 : Ref sig .tc := ⟨.hbm, 16, rfl⟩
abbrev main_cst_0 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_scratch0 : Ref sig .tc := ⟨.vmem, 12, rfl⟩
abbrev cc0_scratch1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨3, ![8, 2, 17], ![false, false, false]⟩

@[reducible] def k0_t1_loop (i : grid0.Coords) : Scf.Loop 32 :=
  let c0_i32_13 : BitVec 32 := 0#32
  let arg2 : BitVec 32 := BitVec.ofNat 32 (i 2).val
  let c16_i32 : BitVec 32 := 16#32
  let v37 : BitVec 1 := Scalar.cmpi .slt arg2 c16_i32
  let c2_i32 : BitVec 32 := 2#32
  let c0_i32_12 : BitVec 32 := 0#32
  let v38 : BitVec 32 := Scalar.select v37 c2_i32 c0_i32_12
  let v39 : BitVec 32 := Scalar.subi v38 c0_i32_13
  let c1_i32 : BitVec 32 := 1#32
  let v41 : BitVec 32 := Scalar.divsi v39 c1_i32
  let v42 : BitVec 32 := Scalar.muli v41 c1_i32
  let v43 : BitVec 32 := Scalar.addi c0_i32_13 v42
  let c1_i32_14 : BitVec 32 := 1#32
  ⟨c0_i32_13, v43, c1_i32_14⟩
def k0_mult1 (i : grid0.Coords) (k0_t1 : Fin (k0_t1_loop i).trips) : BitVec 32 :=
  let c0_i32_13 : BitVec 32 := 0#32
  let c1_i32_14 : BitVec 32 := 1#32
  let arg11 : BitVec 32 := Scf.iv c0_i32_13 c1_i32_14 k0_t1
  let c2048_i32 : BitVec 32 := 2048#32
  let v64 : BitVec 32 := Scalar.muli arg11 c2048_i32
  v64
def k0_off1 (i : grid0.Coords) (k0_t1 : Fin (k0_t1_loop i).trips) : Fin 2 → Nat :=
  let c0_i32_13 : BitVec 32 := 0#32
  let c1_i32_14 : BitVec 32 := 1#32
  let arg11 : BitVec 32 := Scf.iv c0_i32_13 c1_i32_14 k0_t1
  let c2048_i32 : BitVec 32 := 2048#32
  let v64 : BitVec 32 := Scalar.muli arg11 c2048_i32
  let v65 : BitVec 32 := v64
  let v66 : Index := Scalar.indexCast v65
  let c0_24 : Index := 0#32
  ![v66.toNat, 0]
def k0_off2 (i : grid0.Coords) (k0_t1 : Fin (k0_t1_loop i).trips) : Fin 3 → Nat :=
  let c0_i32_13 : BitVec 32 := 0#32
  let c1_i32_14 : BitVec 32 := 1#32
  let arg11 : BitVec 32 := Scf.iv c0_i32_13 c1_i32_14 k0_t1
  let v84 : Index := Scalar.indexCast arg11
  let c0_28 : Index := 0#32
  let c0_29 : Index := 0#32
  ![v84.toNat, 0, 0]
@[reducible] def k0_t2_loop (i : grid0.Coords) : Scf.Loop 32 :=
  let c0_i32_13 : BitVec 32 := 0#32
  let arg2 : BitVec 32 := BitVec.ofNat 32 (i 2).val
  let c16_i32 : BitVec 32 := 16#32
  let v37 : BitVec 1 := Scalar.cmpi .slt arg2 c16_i32
  let c2_i32 : BitVec 32 := 2#32
  let c0_i32_12 : BitVec 32 := 0#32
  let v38 : BitVec 32 := Scalar.select v37 c2_i32 c0_i32_12
  let v39 : BitVec 32 := Scalar.subi v38 c0_i32_13
  let c1_i32 : BitVec 32 := 1#32
  let v41 : BitVec 32 := Scalar.divsi v39 c1_i32
  let v42 : BitVec 32 := Scalar.muli v41 c1_i32
  let v43 : BitVec 32 := Scalar.addi c0_i32_13 v42
  let v40 : BitVec 32 := Scalar.addi c0_i32_13 v39
  let c1_i32_15 : BitVec 32 := 1#32
  ⟨v43, v40, c1_i32_15⟩
def k0_mult2 (i : grid0.Coords) (k0_t2 : Fin (k0_t2_loop i).trips) : BitVec 32 :=
  let c0_i32_13 : BitVec 32 := 0#32
  let arg2 : BitVec 32 := BitVec.ofNat 32 (i 2).val
  let c16_i32 : BitVec 32 := 16#32
  let v37 : BitVec 1 := Scalar.cmpi .slt arg2 c16_i32
  let c2_i32 : BitVec 32 := 2#32
  let c0_i32_12 : BitVec 32 := 0#32
  let v38 : BitVec 32 := Scalar.select v37 c2_i32 c0_i32_12
  let v39 : BitVec 32 := Scalar.subi v38 c0_i32_13
  let c1_i32 : BitVec 32 := 1#32
  let v41 : BitVec 32 := Scalar.divsi v39 c1_i32
  let v42 : BitVec 32 := Scalar.muli v41 c1_i32
  let v43 : BitVec 32 := Scalar.addi c0_i32_13 v42
  let c1_i32_15 : BitVec 32 := 1#32
  let arg11 : BitVec 32 := Scf.iv v43 c1_i32_15 k0_t2
  let c2048_i32 : BitVec 32 := 2048#32
  let v64 : BitVec 32 := Scalar.muli arg11 c2048_i32
  v64
def k0_off3 (i : grid0.Coords) (k0_t2 : Fin (k0_t2_loop i).trips) : Fin 2 → Nat :=
  let c0_i32_13 : BitVec 32 := 0#32
  let arg2 : BitVec 32 := BitVec.ofNat 32 (i 2).val
  let c16_i32 : BitVec 32 := 16#32
  let v37 : BitVec 1 := Scalar.cmpi .slt arg2 c16_i32
  let c2_i32 : BitVec 32 := 2#32
  let c0_i32_12 : BitVec 32 := 0#32
  let v38 : BitVec 32 := Scalar.select v37 c2_i32 c0_i32_12
  let v39 : BitVec 32 := Scalar.subi v38 c0_i32_13
  let c1_i32 : BitVec 32 := 1#32
  let v41 : BitVec 32 := Scalar.divsi v39 c1_i32
  let v42 : BitVec 32 := Scalar.muli v41 c1_i32
  let v43 : BitVec 32 := Scalar.addi c0_i32_13 v42
  let c1_i32_15 : BitVec 32 := 1#32
  let arg11 : BitVec 32 := Scf.iv v43 c1_i32_15 k0_t2
  let c2048_i32 : BitVec 32 := 2048#32
  let v64 : BitVec 32 := Scalar.muli arg11 c2048_i32
  let v65 : BitVec 32 := v64
  let v66 : Index := Scalar.indexCast v65
  let c0_24 : Index := 0#32
  ![v66.toNat, 0]
def k0_off4 (i : grid0.Coords) (k0_t2 : Fin (k0_t2_loop i).trips) : Fin 3 → Nat :=
  let c0_i32_13 : BitVec 32 := 0#32
  let arg2 : BitVec 32 := BitVec.ofNat 32 (i 2).val
  let c16_i32 : BitVec 32 := 16#32
  let v37 : BitVec 1 := Scalar.cmpi .slt arg2 c16_i32
  let c2_i32 : BitVec 32 := 2#32
  let c0_i32_12 : BitVec 32 := 0#32
  let v38 : BitVec 32 := Scalar.select v37 c2_i32 c0_i32_12
  let v39 : BitVec 32 := Scalar.subi v38 c0_i32_13
  let c1_i32 : BitVec 32 := 1#32
  let v41 : BitVec 32 := Scalar.divsi v39 c1_i32
  let v42 : BitVec 32 := Scalar.muli v41 c1_i32
  let v43 : BitVec 32 := Scalar.addi c0_i32_13 v42
  let c1_i32_15 : BitVec 32 := 1#32
  let arg11 : BitVec 32 := Scf.iv v43 c1_i32_15 k0_t2
  let v84 : Index := Scalar.indexCast arg11
  let c0_28 : Index := 0#32
  let c0_29 : Index := 0#32
  ![v84.toNat, 0, 0]
def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c16_i32 : BitVec 32 := 16#32
  let v0 : BitVec 1 := Scalar.cmpi .slt arg2 c16_i32
  let c16_i32_0 : BitVec 32 := 16#32
  let v1 : BitVec 32 := Scalar.muli arg0 c16_i32_0
  let v2 : BitVec 32 := Scalar.addi v1 arg2
  let c128_i32 : BitVec 32 := 128#32
  let v3 : BitVec 32 := Scalar.addi c128_i32 arg0
  let v4 : BitVec 32 := Scalar.select v0 v2 v3
  let c0_i32 : BitVec 32 := 0#32
  ![v4.toNat, arg1.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c128_i32 : BitVec 32 := 128#32
  let v0 : BitVec 32 := Scalar.addi c128_i32 arg0
  let c8_i32 : BitVec 32 := 8#32
  let v1 : BitVec 32 := Scalar.addi c8_i32 arg1
  let c0_i32 : BitVec 32 := 0#32
  ![v0.toNat, v1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c128_i32 : BitVec 32 := 128#32
  let v0 : BitVec 32 := Scalar.addi c128_i32 arg0
  let c10_i32 : BitVec 32 := 10#32
  let v1 : BitVec 32 := Scalar.addi c10_i32 arg1
  let c0_i32 : BitVec 32 := 0#32
  ![v0.toNat, v1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c8_i32 : BitVec 32 := 8#32
  let v0 : BitVec 32 := Scalar.addi c8_i32 arg1
  let c0_i32 : BitVec 32 := 0#32
  ![arg0.toNat, v0.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c10_i32 : BitVec 32 := 10#32
  let v0 : BitVec 32 := Scalar.addi c10_i32 arg1
  let c0_i32 : BitVec 32 := 0#32
  ![arg0.toNat, v0.toNat]

def cc0_transform_5 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c16_i32 : BitVec 32 := 16#32
  let v0 : BitVec 1 := Scalar.cmpi .slt arg2 c16_i32
  let c16_i32_0 : BitVec 32 := 16#32
  let v1 : BitVec 32 := Scalar.muli arg0 c16_i32_0
  let v2 : BitVec 32 := Scalar.addi v1 arg2
  let c128_i32 : BitVec 32 := 128#32
  let v3 : BitVec 32 := Scalar.addi c128_i32 arg0
  let v4 : BitVec 32 := Scalar.select v0 v2 v3
  let c0_i32 : BitVec 32 := 0#32
  ![v4.toNat, arg1.toNat]

abbrev stage0_0 : Fin 2 → Memref sig .tc .vmem S256x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, true]

abbrev stage0_1 : Fin 2 → Memref sig .tc .vmem S256x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, false]

abbrev stage0_2 : Fin 2 → Memref sig .tc .vmem S256x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S4096x128 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]

abbrev stage0_4 : Fin 2 → Memref sig .tc .vmem S4096x128 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, false]

abbrev stage0_5 : Fin 2 → Memref sig .tc .vmem S256x512 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, true]
-- ==== ReferenceIdeal.lean ====
abbrev S8x4096x8x128 : Shape := ⟨4, ![8, 4096, 8, 128]⟩
abbrev S8x4096x2x128 : Shape := ⟨4, ![8, 4096, 2, 128]⟩
abbrev S8x256x8x128 : Shape := ⟨4, ![8, 256, 8, 128]⟩
abbrev S8x256x2x128 : Shape := ⟨4, ![8, 256, 2, 128]⟩
abbrev S8x2x256x128 : Shape := ⟨4, ![8, 2, 256, 128]⟩
abbrev S8x2x4096x128 : Shape := ⟨4, ![8, 2, 4096, 128]⟩
abbrev S8x2x4352x128 : Shape := ⟨4, ![8, 2, 4352, 128]⟩
abbrev S8x4096x2x4x128 : Shape := ⟨5, ![8, 4096, 2, 4, 128]⟩
abbrev S8x2x4x4096x128 : Shape := ⟨5, ![8, 2, 4, 4096, 128]⟩
abbrev S8x2x4x4096x4352 : Shape := ⟨5, ![8, 2, 4, 4096, 4352]⟩
abbrev S_ : Shape := ⟨0, ![]⟩
abbrev S8x2x4x4096 : Shape := ⟨4, ![8, 2, 4, 4096]⟩
abbrev S8x2x4x4096x1 : Shape := ⟨5, ![8, 2, 4, 4096, 1]⟩
abbrev S32768x1024 : Shape := ⟨2, ![32768, 1024]⟩
abbrev S8x256x2x4x128 : Shape := ⟨5, ![8, 256, 2, 4, 128]⟩
abbrev S8x2x4x256x128 : Shape := ⟨5, ![8, 2, 4, 256, 128]⟩
abbrev S8x2x4x256x256 : Shape := ⟨5, ![8, 2, 4, 256, 256]⟩
abbrev S8x2x4x256 : Shape := ⟨4, ![8, 2, 4, 256]⟩
abbrev S8x2x4x256x1 : Shape := ⟨5, ![8, 2, 4, 256, 1]⟩
abbrev S2048x1024 : Shape := ⟨2, ![2048, 1024]⟩
abbrev S34816x1024 : Shape := ⟨2, ![34816, 1024]⟩

abbrev nBuf : Space → Nat
  | .hbm => 62
  | .vmem => 0
  | .smem => 0
  | _ => 0

abbrev bufTy : (tb : Table) → Fin (tcTables nBuf tb) → BufTy
  | .hbm, ⟨0, _⟩ => ⟨S8x4096x8x128, .f32⟩
  | .hbm, ⟨1, _⟩ => ⟨S8x4096x2x128, .f32⟩
  | .hbm, ⟨2, _⟩ => ⟨S8x4096x2x128, .f32⟩
  | .hbm, ⟨3, _⟩ => ⟨S8x256x8x128, .f32⟩
  | .hbm, ⟨4, _⟩ => ⟨S8x256x2x128, .f32⟩
  | .hbm, ⟨5, _⟩ => ⟨S8x256x2x128, .f32⟩
  | .hbm, ⟨6, _⟩ => ⟨S8x2x256x128, .f32⟩
  | .hbm, ⟨7, _⟩ => ⟨S8x2x256x128, .f32⟩
  | .hbm, ⟨8, _⟩ => ⟨S8x2x4096x128, .f32⟩
  | .hbm, ⟨9, _⟩ => ⟨S8x2x4352x128, .f32⟩
  | .hbm, ⟨10, _⟩ => ⟨S8x2x4096x128, .f32⟩
  | .hbm, ⟨11, _⟩ => ⟨S8x2x4352x128, .f32⟩
  | .hbm, ⟨12, _⟩ => ⟨S8x4096x2x4x128, .f32⟩
  | .hbm, ⟨13, _⟩ => ⟨S8x2x4x4096x128, .f32⟩
  | .hbm, ⟨14, _⟩ => ⟨S8x2x4x4096x4352, .f32⟩
  | .hbm, ⟨15, _⟩ => ⟨S_, .f32⟩
  | .hbm, ⟨16, _⟩ => ⟨S_, .f32⟩
  | .hbm, ⟨17, _⟩ => ⟨S8x2x4x4096x4352, .f32⟩
  | .hbm, ⟨18, _⟩ => ⟨S8x2x4x4096x4352, .f32⟩
  | .hbm, ⟨19, _⟩ => ⟨S_, .f32⟩
  | .hbm, ⟨20, _⟩ => ⟨S8x2x4x4096, .f32⟩
  | .hbm, ⟨21, _⟩ => ⟨S_, .f32⟩
  | .hbm, ⟨22, _⟩ => ⟨S8x2x4x4096, .f32⟩
  | .hbm, ⟨23, _⟩ => ⟨S8x2x4x4096, .f32⟩
  | .hbm, ⟨24, _⟩ => ⟨S8x2x4x4096x1, .f32⟩
  | .hbm, ⟨25, _⟩ => ⟨S8x2x4x4096x4352, .f32⟩
  | .hbm, ⟨26, _⟩ => ⟨S8x2x4x4096x4352, .f32⟩
  | .hbm, ⟨27, _⟩ => ⟨S8x2x4x4096x4352, .f32⟩
  | .hbm, ⟨28, _⟩ => ⟨S_, .f32⟩
  | .hbm, ⟨29, _⟩ => ⟨S8x2x4x4096, .f32⟩
  | .hbm, ⟨30, _⟩ => ⟨S8x2x4x4096x1, .f32⟩
  | .hbm, ⟨31, _⟩ => ⟨S8x2x4x4096x4352, .f32⟩
  | .hbm, ⟨32, _⟩ => ⟨S8x2x4x4096x4352, .f32⟩
  | .hbm, ⟨33, _⟩ => ⟨S8x2x4x4096x128, .f32⟩
  | .hbm, ⟨34, _⟩ => ⟨S8x4096x2x4x128, .f32⟩
  | .hbm, ⟨35, _⟩ => ⟨S32768x1024, .f32⟩
  | .hbm, ⟨36, _⟩ => ⟨S8x256x2x4x128, .f32⟩
  | .hbm, ⟨37, _⟩ => ⟨S8x2x4x256x128, .f32⟩
  | .hbm, ⟨38, _⟩ => ⟨S8x2x4x256x256, .f32⟩
  | .hbm, ⟨39, _⟩ => ⟨S_, .f32⟩
  | .hbm, ⟨40, _⟩ => ⟨S_, .f32⟩
  | .hbm, ⟨41, _⟩ => ⟨S8x2x4x256x256, .f32⟩
  | .hbm, ⟨42, _⟩ => ⟨S8x2x4x256x256, .f32⟩
  | .hbm, ⟨43, _⟩ => ⟨S_, .f32⟩
  | .hbm, ⟨44, _⟩ => ⟨S8x2x4x256, .f32⟩
  | .hbm, ⟨45, _⟩ => ⟨S_, .f32⟩
  | .hbm, ⟨46, _⟩ => ⟨S8x2x4x256, .f32⟩
  | .hbm, ⟨47, _⟩ => ⟨S8x2x4x256, .f32⟩
  | .hbm, ⟨48, _⟩ => ⟨S8x2x4x256x1, .f32⟩
  | .hbm, ⟨49, _⟩ => ⟨S8x2x4x256x256, .f32⟩
  | .hbm, ⟨50, _⟩ => ⟨S8x2x4x256x256, .f32⟩
  | .hbm, ⟨51, _⟩ => ⟨S8x2x4x256x256, .f32⟩
  | .hbm, ⟨52, _⟩ => ⟨S_, .f32⟩
  | .hbm, ⟨53, _⟩ => ⟨S8x2x4x256, .f32⟩
  | .hbm, ⟨54, _⟩ => ⟨S8x2x4x256x1, .f32⟩
  | .hbm, ⟨55, _⟩ => ⟨S8x2x4x256x256, .f32⟩
  | .hbm, ⟨56, _⟩ => ⟨S8x2x4x256x256, .f32⟩
  | .hbm, ⟨57, _⟩ => ⟨S8x2x4x256x128, .f32⟩
  | .hbm, ⟨58, _⟩ => ⟨S8x256x2x4x128, .f32⟩
  | .hbm, ⟨59, _⟩ => ⟨S2048x1024, .f32⟩
  | .hbm, ⟨60, _⟩ => ⟨S34816x1024, .f32⟩
  | .hbm, ⟨61, _⟩ => ⟨S34816x1024, .bf16⟩
  | _, _ => ⟨S8x4096x8x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_cst : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_cst_0 : Ref sig .tc := ⟨.hbm, 19, rfl⟩
abbrev main_v12 : Ref sig .tc := ⟨.hbm, 20, rfl⟩
abbrev main_cst_1 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_cst_2 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_cst_3 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_cst_4 : Ref sig .tc := ⟨.hbm, 43, rfl⟩
abbrev main_v32 : Ref sig .tc := ⟨.hbm, 44, rfl⟩
abbrev main_cst_5 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩
abbrev main_v38 : Ref sig .tc := ⟨.hbm, 51, rfl⟩
abbrev main_cst_6 : Ref sig .tc := ⟨.hbm, 52, rfl⟩
abbrev main_v39 : Ref sig .tc := ⟨.hbm, 53, rfl⟩
abbrev main_v40 : Ref sig .tc := ⟨.hbm, 54, rfl⟩
abbrev main_v41 : Ref sig .tc := ⟨.hbm, 55, rfl⟩
abbrev main_v42 : Ref sig .tc := ⟨.hbm, 56, rfl⟩
abbrev main_v43 : Ref sig .tc := ⟨.hbm, 57, rfl⟩
abbrev main_v44 : Ref sig .tc := ⟨.hbm, 58, rfl⟩
abbrev main_v45 : Ref sig .tc := ⟨.hbm, 59, rfl⟩
abbrev main_v46 : Ref sig .tc := ⟨.hbm, 60, rfl⟩
abbrev main_v47 : Ref sig .tc := ⟨.hbm, 61, rfl⟩

abbrev nD : Nat := 1
abbrev τ : Topo := Topo.v7x

variable {F : FTy → Type} [FloatOps F]
-- ==== Kernel2.lean ====
abbrev S108288x1024 : Shape := ⟨2, ![108288, 1024]⟩
abbrev S32 : Shape := ⟨1, ![32]⟩
abbrev S4x4x8x1024x256 : Shape := ⟨5, ![4, 4, 8, 1024, 256]⟩
abbrev S4x4x8x256x1024 : Shape := ⟨5, ![4, 4, 8, 256, 1024]⟩
abbrev S_ : Shape := ⟨0, ![]⟩
abbrev S423 : Shape := ⟨1, ![423]⟩
abbrev S1x32 : Shape := ⟨2, ![1, 32]⟩
abbrev S423x1 : Shape := ⟨2, ![423, 1]⟩
abbrev S423x32 : Shape := ⟨2, ![423, 32]⟩
abbrev S1 : Shape := ⟨1, ![1]⟩
abbrev S128x1024x256 : Shape := ⟨3, ![128, 1024, 256]⟩
abbrev S128x256x1024 : Shape := ⟨3, ![128, 256, 1024]⟩
abbrev S256x1024 : Shape := ⟨2, ![256, 1024]⟩
abbrev S1x1024x256 : Shape := ⟨3, ![1, 1024, 256]⟩
abbrev S1x256x1024 : Shape := ⟨3, ![1, 256, 1024]⟩
abbrev S1024x256 : Shape := ⟨2, ![1024, 256]⟩
abbrev S256x256 : Shape := ⟨2, ![256, 256]⟩

abbrev nBuf : Space → Nat
  | .hbm => 105
  | .vmem => 10
  | .smem => 3
  | _ => 0

abbrev bufTy : (tb : Table) → Fin (tcTables nBuf tb) → BufTy
  | .hbm, ⟨0, _⟩ => ⟨S108288x1024, .f32⟩
  | .hbm, ⟨1, _⟩ => ⟨S32, .i32⟩
  | .hbm, ⟨2, _⟩ => ⟨S4x4x8x1024x256, .f32⟩
  | .hbm, ⟨3, _⟩ => ⟨S4x4x8x1024x256, .f32⟩
  | .hbm, ⟨4, _⟩ => ⟨S4x4x8x256x1024, .f32⟩
  | .hbm, ⟨5, _⟩ => ⟨S_, .i32⟩
  | .hbm, ⟨6, _⟩ => ⟨S32, .i32⟩
  | .hbm, ⟨7, _⟩ => ⟨S32, .i32⟩
  | .hbm, ⟨8, _⟩ => ⟨S_, .i32⟩
  | .hbm, ⟨9, _⟩ => ⟨S32, .i32⟩
  | .hbm, ⟨10, _⟩ => ⟨S32, .i32⟩
  | .hbm, ⟨11, _⟩ => ⟨S_, .i32⟩
  | .hbm, ⟨12, _⟩ => ⟨S32, .i32⟩
  | .hbm, ⟨13, _⟩ => ⟨S32, .i32⟩
  | .hbm, ⟨14, _⟩ => ⟨S_, .i32⟩
  | .hbm, ⟨15, _⟩ => ⟨S_, .i32⟩
  | .hbm, ⟨16, _⟩ => ⟨S32, .i32⟩
  | .hbm, ⟨17, _⟩ => ⟨S32, .i32⟩
  | .hbm, ⟨18, _⟩ => ⟨S32, .i32⟩
  | .hbm, ⟨19, _⟩ => ⟨S_, .i32⟩
  | .hbm, ⟨20, _⟩ => ⟨S32, .i32⟩
  | .hbm, ⟨21, _⟩ => ⟨S32, .i1⟩
  | .hbm, ⟨22, _⟩ => ⟨S32, .i32⟩
  | .hbm, ⟨23, _⟩ => ⟨S32, .i32⟩
  | .hbm, ⟨24, _⟩ => ⟨S_, .i32⟩
  | .hbm, ⟨25, _⟩ => ⟨S32, .i32⟩
  | .hbm, ⟨26, _⟩ => ⟨S32, .i1⟩
  | .hbm, ⟨27, _⟩ => ⟨S32, .i1⟩
  | .hbm, ⟨28, _⟩ => ⟨S_, .i32⟩
  | .hbm, ⟨29, _⟩ => ⟨S32, .i32⟩
  | .hbm, ⟨30, _⟩ => ⟨S32, .i32⟩
  | .hbm, ⟨31, _⟩ => ⟨S32, .i32⟩
  | .hbm, ⟨32, _⟩ => ⟨S_, .i32⟩
  | .hbm, ⟨33, _⟩ => ⟨S32, .i32⟩
  | .hbm, ⟨34, _⟩ => ⟨S32, .i32⟩
  | .hbm, ⟨35, _⟩ => ⟨S_, .i32⟩
  | .hbm, ⟨36, _⟩ => ⟨S_, .i32⟩
  | .hbm, ⟨37, _⟩ => ⟨S32, .i32⟩
  | .hbm, ⟨38, _⟩ => ⟨S32, .i32⟩
  | .hbm, ⟨39, _⟩ => ⟨S423, .i32⟩
  | .hbm, ⟨40, _⟩ => ⟨S_, .i32⟩
  | .hbm, ⟨41, _⟩ => ⟨S423, .i32⟩
  | .hbm, ⟨42, _⟩ => ⟨S423, .i32⟩
  | .hbm, ⟨43, _⟩ => ⟨S1x32, .i32⟩
  | .hbm, ⟨44, _⟩ => ⟨S423x1, .i32⟩
  | .hbm, ⟨45, _⟩ => ⟨S423x32, .i32⟩
  | .hbm, ⟨46, _⟩ => ⟨S423x32, .i32⟩
  | .hbm, ⟨47, _⟩ => ⟨S423x32, .i1⟩
  | .hbm, ⟨48, _⟩ => ⟨S423x32, .i32⟩
  | .hbm, ⟨49, _⟩ => ⟨S_, .i32⟩
  | .hbm, ⟨50, _⟩ => ⟨S423, .i32⟩
  | .hbm, ⟨51, _⟩ => ⟨S_, .i32⟩
  | .hbm, ⟨52, _⟩ => ⟨S423, .i32⟩
  | .hbm, ⟨53, _⟩ => ⟨S423, .i32⟩
  | .hbm, ⟨54, _⟩ => ⟨S_, .i32⟩
  | .hbm, ⟨55, _⟩ => ⟨S423, .i32⟩
  | .hbm, ⟨56, _⟩ => ⟨S423, .i1⟩
  | .hbm, ⟨57, _⟩ => ⟨S_, .i32⟩
  | .hbm, ⟨58, _⟩ => ⟨S423, .i32⟩
  | .hbm, ⟨59, _⟩ => ⟨S423, .i32⟩
  | .hbm, ⟨60, _⟩ => ⟨S423, .i32⟩
  | .hbm, ⟨61, _⟩ => ⟨S423x1, .i32⟩
  | .hbm, ⟨62, _⟩ => ⟨S423, .i32⟩
  | .hbm, ⟨63, _⟩ => ⟨S_, .i32⟩
  | .hbm, ⟨64, _⟩ => ⟨S423, .i32⟩
  | .hbm, ⟨65, _⟩ => ⟨S423, .i1⟩
  | .hbm, ⟨66, _⟩ => ⟨S_, .i32⟩
  | .hbm, ⟨67, _⟩ => ⟨S423, .i32⟩
  | .hbm, ⟨68, _⟩ => ⟨S423, .i32⟩
  | .hbm, ⟨69, _⟩ => ⟨S423, .i32⟩
  | .hbm, ⟨70, _⟩ => ⟨S423x1, .i32⟩
  | .hbm, ⟨71, _⟩ => ⟨S423, .i32⟩
  | .hbm, ⟨72, _⟩ => ⟨S423, .i32⟩
  | .hbm, ⟨73, _⟩ => ⟨S423, .i32⟩
  | .hbm, ⟨74, _⟩ => ⟨S_, .i32⟩
  | .hbm, ⟨75, _⟩ => ⟨S_, .i32⟩
  | .hbm, ⟨76, _⟩ => ⟨S_, .i32⟩
  | .hbm, ⟨77, _⟩ => ⟨S423, .i32⟩
  | .hbm, ⟨78, _⟩ => ⟨S423, .i32⟩
  | .hbm, ⟨79, _⟩ => ⟨S_, .i32⟩
  | .hbm, ⟨80, _⟩ => ⟨S423, .i32⟩
  | .hbm, ⟨81, _⟩ => ⟨S1, .i32⟩
  | .hbm, ⟨82, _⟩ => ⟨S_, .i32⟩
  | .hbm, ⟨83, _⟩ => ⟨S_, .i32⟩
  | .hbm, ⟨84, _⟩ => ⟨S1, .i32⟩
  | .hbm, ⟨85, _⟩ => ⟨S1, .i32⟩
  | .hbm, ⟨86, _⟩ => ⟨S1, .i32⟩
  | .hbm, ⟨87, _⟩ => ⟨S_, .i32⟩
  | .hbm, ⟨88, _⟩ => ⟨S1, .i32⟩
  | .hbm, ⟨89, _⟩ => ⟨S1, .i1⟩
  | .hbm, ⟨90, _⟩ => ⟨S1, .i32⟩
  | .hbm, ⟨91, _⟩ => ⟨S1, .i32⟩
  | .hbm, ⟨92, _⟩ => ⟨S_, .i32⟩
  | .hbm, ⟨93, _⟩ => ⟨S1, .i32⟩
  | .hbm, ⟨94, _⟩ => ⟨S1, .i1⟩
  | .hbm, ⟨95, _⟩ => ⟨S1, .i1⟩
  | .hbm, ⟨96, _⟩ => ⟨S_, .i32⟩
  | .hbm, ⟨97, _⟩ => ⟨S1, .i32⟩
  | .hbm, ⟨98, _⟩ => ⟨S1, .i32⟩
  | .hbm, ⟨99, _⟩ => ⟨S_, .i32⟩
  | .hbm, ⟨100, _⟩ => ⟨S423, .i32⟩
  | .hbm, ⟨101, _⟩ => ⟨S128x1024x256, .f32⟩
  | .hbm, ⟨102, _⟩ => ⟨S128x1024x256, .f32⟩
  | .hbm, ⟨103, _⟩ => ⟨S128x256x1024, .f32⟩
  | .hbm, ⟨104, _⟩ => ⟨S108288x1024, .f32⟩
  | .local _ .vmem, ⟨0, _⟩ => ⟨S256x1024, .f32⟩
  | .local _ .vmem, ⟨1, _⟩ => ⟨S256x1024, .f32⟩
  | .local _ .vmem, ⟨2, _⟩ => ⟨S1x1024x256, .f32⟩
  | .local _ .vmem, ⟨3, _⟩ => ⟨S1x1024x256, .f32⟩
  | .local _ .vmem, ⟨4, _⟩ => ⟨S1x1024x256, .f32⟩
  | .local _ .vmem, ⟨5, _⟩ => ⟨S1x1024x256, .f32⟩
  | .local _ .vmem, ⟨6, _⟩ => ⟨S1x256x1024, .f32⟩
  | .local _ .vmem, ⟨7, _⟩ => ⟨S1x256x1024, .f32⟩
  | .local _ .vmem, ⟨8, _⟩ => ⟨S256x1024, .f32⟩
  | .local _ .vmem, ⟨9, _⟩ => ⟨S256x1024, .f32⟩
  | .local _ .smem, ⟨0, _⟩ => ⟨S423, .i32⟩
  | .local _ .smem, ⟨1, _⟩ => ⟨S423, .i32⟩
  | .local _ .smem, ⟨2, _⟩ => ⟨S1, .i32⟩
  | _, _ => ⟨S108288x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_c : Ref sig .tc := ⟨.hbm, 5, rfl⟩
abbrev main_v0 : Ref sig .tc := ⟨.hbm, 6, rfl⟩
abbrev main_v1 : Ref sig .tc := ⟨.hbm, 7, rfl⟩
abbrev main_c_0 : Ref sig .tc := ⟨.hbm, 8, rfl⟩
abbrev main_v2 : Ref sig .tc := ⟨.hbm, 9, rfl⟩
abbrev main_v3 : Ref sig .tc := ⟨.hbm, 10, rfl⟩
abbrev main_c_1 : Ref sig .tc := ⟨.hbm, 11, rfl⟩
abbrev main_v4 : Ref sig .tc := ⟨.hbm, 12, rfl⟩
abbrev main_v5 : Ref sig .tc := ⟨.hbm, 13, rfl⟩
abbrev main_c_2 : Ref sig .tc := ⟨.hbm, 14, rfl⟩
abbrev main_call0_v0 : Ref sig .tc := ⟨.hbm, 15, rfl⟩
abbrev main_call0_v1 : Ref sig .tc := ⟨.hbm, 16, rfl⟩
abbrev main_call0_v2 : Ref sig .tc := ⟨.hbm, 17, rfl⟩
abbrev main_call0_v3 : Ref sig .tc := ⟨.hbm, 18, rfl⟩
abbrev main_call0_v4 : Ref sig .tc := ⟨.hbm, 19, rfl⟩
abbrev main_call0_v5 : Ref sig .tc := ⟨.hbm, 20, rfl⟩
abbrev main_call0_v6 : Ref sig .tc := ⟨.hbm, 21, rfl⟩
abbrev main_call0_v7 : Ref sig .tc := ⟨.hbm, 22, rfl⟩
abbrev main_call0_v8 : Ref sig .tc := ⟨.hbm, 23, rfl⟩
abbrev main_call0_c : Ref sig .tc := ⟨.hbm, 24, rfl⟩
abbrev main_call0_v9 : Ref sig .tc := ⟨.hbm, 25, rfl⟩
abbrev main_call0_v10 : Ref sig .tc := ⟨.hbm, 26, rfl⟩
abbrev main_call0_v11 : Ref sig .tc := ⟨.hbm, 27, rfl⟩
abbrev main_call0_c_0 : Ref sig .tc := ⟨.hbm, 28, rfl⟩
abbrev main_call0_v12 : Ref sig .tc := ⟨.hbm, 29, rfl⟩
abbrev main_call0_v13 : Ref sig .tc := ⟨.hbm, 30, rfl⟩
abbrev main_v6 : Ref sig .tc := ⟨.hbm, 31, rfl⟩
abbrev main_c_3 : Ref sig .tc := ⟨.hbm, 32, rfl⟩
abbrev main_v7 : Ref sig .tc := ⟨.hbm, 33, rfl⟩
abbrev main_v8 : Ref sig .tc := ⟨.hbm, 34, rfl⟩
abbrev main_call1_call0_c : Ref sig .tc := ⟨.hbm, 35, rfl⟩
abbrev main_call1_call0_v0 : Ref sig .tc := ⟨.hbm, 36, rfl⟩
abbrev main_v9 : Ref sig .tc := ⟨.hbm, 37, rfl⟩
abbrev main_v10 : Ref sig .tc := ⟨.hbm, 38, rfl⟩
abbrev main_v11 : Ref sig .tc := ⟨.hbm, 39, rfl⟩
abbrev main_c_4 : Ref sig .tc := ⟨.hbm, 40, rfl⟩
abbrev main_v12 : Ref sig .tc := ⟨.hbm, 41, rfl⟩
abbrev main_v13 : Ref sig .tc := ⟨.hbm, 42, rfl⟩
abbrev main_v14 : Ref sig .tc := ⟨.hbm, 43, rfl⟩
abbrev main_v15 : Ref sig .tc := ⟨.hbm, 44, rfl⟩
abbrev main_v16 : Ref sig .tc := ⟨.hbm, 45, rfl⟩
abbrev main_v17 : Ref sig .tc := ⟨.hbm, 46, rfl⟩
abbrev main_v18 : Ref sig .tc := ⟨.hbm, 47, rfl⟩
abbrev main_v19 : Ref sig .tc := ⟨.hbm, 48, rfl⟩
abbrev main_c_5 : Ref sig .tc := ⟨.hbm, 49, rfl⟩
abbrev main_v20 : Ref sig .tc := ⟨.hbm, 50, rfl⟩
abbrev main_c_6 : Ref sig .tc := ⟨.hbm, 51, rfl⟩
abbrev main_v21 : Ref sig .tc := ⟨.hbm, 52, rfl⟩
abbrev main_v22 : Ref sig .tc := ⟨.hbm, 53, rfl⟩
abbrev main_c_7 : Ref sig .tc := ⟨.hbm, 54, rfl⟩
abbrev main_v23 : Ref sig .tc := ⟨.hbm, 55, rfl⟩
abbrev main_v24 : Ref sig .tc := ⟨.hbm, 56, rfl⟩
abbrev main_c_8 : Ref sig .tc := ⟨.hbm, 57, rfl⟩
abbrev main_v25 : Ref sig .tc := ⟨.hbm, 58, rfl⟩
abbrev main_v26 : Ref sig .tc := ⟨.hbm, 59, rfl⟩
abbrev main_v27 : Ref sig .tc := ⟨.hbm, 60, rfl⟩
abbrev main_v28 : Ref sig .tc := ⟨.hbm, 61, rfl⟩
abbrev main_v29 : Ref sig .tc := ⟨.hbm, 62, rfl⟩
abbrev main_c_9 : Ref sig .tc := ⟨.hbm, 63, rfl⟩
abbrev main_v30 : Ref sig .tc := ⟨.hbm, 64, rfl⟩
abbrev main_v31 : Ref sig .tc := ⟨.hbm, 65, rfl⟩
abbrev main_c_10 : Ref sig .tc := ⟨.hbm, 66, rfl⟩
abbrev main_v32 : Ref sig .tc := ⟨.hbm, 67, rfl⟩
abbrev main_v33 : Ref sig .tc := ⟨.hbm, 68, rfl⟩
abbrev main_v34 : Ref sig .tc := ⟨.hbm, 69, rfl⟩
abbrev main_v35 : Ref sig .tc := ⟨.hbm, 70, rfl⟩
abbrev main_v36 : Ref sig .tc := ⟨.hbm, 71, rfl⟩
abbrev main_v37 : Ref sig .tc := ⟨.hbm, 72, rfl⟩
abbrev main_v38 : Ref sig .tc := ⟨.hbm, 73, rfl⟩
abbrev main_c_11 : Ref sig .tc := ⟨.hbm, 74, rfl⟩
abbrev main_c_12 : Ref sig .tc := ⟨.hbm, 75, rfl⟩
abbrev main_call2_v0 : Ref sig .tc := ⟨.hbm, 76, rfl⟩
abbrev main_call2_v1 : Ref sig .tc := ⟨.hbm, 77, rfl⟩
abbrev main_call2_v2 : Ref sig .tc := ⟨.hbm, 78, rfl⟩
abbrev main_call2_v3 : Ref sig .tc := ⟨.hbm, 79, rfl⟩
abbrev main_call2_v4 : Ref sig .tc := ⟨.hbm, 80, rfl⟩
abbrev main_v40 : Ref sig .tc := ⟨.hbm, 81, rfl⟩
abbrev main_c_13 : Ref sig .tc := ⟨.hbm, 82, rfl⟩
abbrev main_call3_v0 : Ref sig .tc := ⟨.hbm, 83, rfl⟩
abbrev main_call3_v1 : Ref sig .tc := ⟨.hbm, 84, rfl⟩
abbrev main_call3_v2 : Ref sig .tc := ⟨.hbm, 85, rfl⟩
abbrev main_call3_v3 : Ref sig .tc := ⟨.hbm, 86, rfl⟩
abbrev main_call3_v4 : Ref sig .tc := ⟨.hbm, 87, rfl⟩
abbrev main_call3_v5 : Ref sig .tc := ⟨.hbm, 88, rfl⟩
abbrev main_call3_v6 : Ref sig .tc := ⟨.hbm, 89, rfl⟩
abbrev main_call3_v7 : Ref sig .tc := ⟨.hbm, 90, rfl⟩
abbrev main_call3_v8 : Ref sig .tc := ⟨.hbm, 91, rfl⟩
abbrev main_call3_c : Ref sig .tc := ⟨.hbm, 92, rfl⟩
abbrev main_call3_v9 : Ref sig .tc := ⟨.hbm, 93, rfl⟩
abbrev main_call3_v10 : Ref sig .tc := ⟨.hbm, 94, rfl⟩
abbrev main_call3_v11 : Ref sig .tc := ⟨.hbm, 95, rfl⟩
abbrev main_call3_c_0 : Ref sig .tc := ⟨.hbm, 96, rfl⟩
abbrev main_call3_v12 : Ref sig .tc := ⟨.hbm, 97, rfl⟩
abbrev main_call3_v13 : Ref sig .tc := ⟨.hbm, 98, rfl⟩
abbrev main_c_14 : Ref sig .tc := ⟨.hbm, 99, rfl⟩
abbrev main_v42 : Ref sig .tc := ⟨.hbm, 100, rfl⟩
abbrev main_v44 : Ref sig .tc := ⟨.hbm, 101, rfl⟩
abbrev main_v45 : Ref sig .tc := ⟨.hbm, 102, rfl⟩
abbrev main_v46 : Ref sig .tc := ⟨.hbm, 103, rfl⟩
abbrev main_v47 : Ref sig .tc := ⟨.hbm, 104, rfl⟩
abbrev main_v43 : Ref sig .tc := ⟨.smem, 0, rfl⟩
abbrev main_v39 : Ref sig .tc := ⟨.smem, 1, rfl⟩
abbrev main_v41 : Ref sig .tc := ⟨.smem, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨1, ![423], ![false]⟩

abbrev pre0 : Pipeline.Prefetch sig := ⟨3, ![main_v43.idx, main_v39.idx, main_v41.idx], fun | 0 => main_v43.names | 1 => main_v39.names | 2 => main_v41.names | ⟨_ + 3, h⟩ => absurd h (Nat.not_lt.2 (Nat.le_add_left _ _)), fun | 0 => rfl | 1 => rfl | 2 => rfl | ⟨_ + 3, h⟩ => absurd h (Nat.not_lt.2 (Nat.le_add_left _ _))⟩

def k0_off1 (i : grid0.Coords) : Fin 1 → Nat :=
  let arg0 : BitVec 32 := BitVec.ofNat 32 (i 0).val
  let v0 : Index := Scalar.indexCast arg0
  ![v0.toNat]
def k0_cond1 (v1 : BitVec 32) : BitVec 1 :=
  let c0_i32 : BitVec 32 := 0#32
  let v2 : BitVec 1 := Scalar.cmpi .sgt v1 c0_i32
  let v3 : BitVec 32 := Scalar.extui v2
  let c0_i32_0 : BitVec 32 := 0#32
  let v4 : BitVec 1 := Scalar.cmpi .ne v3 c0_i32_0
  v4

def cc0_transform_0 (inb_S1_S1_0 : ∀ a, (![0] : Fin 1 → Nat) a + S1.size a ≤ S1.size a) (numel1_S1 : S1.numel = 1) (pf : pre0.Contents (Elt F)) (i : grid0.Coords) : Fin 2 → Nat :=
  let arg0 : BitVec 32 := BitVec.ofNat 32 (i 0).val
  let c0 : Index := 0#32
  let v0 : BitVec 32 := pf.at 2 (Rect.unit (s := S1) ![0] S1.size inb_S1_S1_0) numel1_S1
  let c1_i32 : BitVec 32 := 1#32
  let v1 : BitVec 32 := Scalar.subi v0 c1_i32
  let v2 : BitVec 32 := Scalar.minsi arg0 v1
  let c0_i32 : BitVec 32 := 0#32
  let c0_i32_0 : BitVec 32 := 0#32
  ![v2.toNat, c0_i32.toNat]

def cc0_transform_1 (k0_off1_inb : ∀ i : grid0.Coords, ∀ a, (k0_off1 i) a + S1.size a ≤ S423.size a) (numel1_S1 : S1.numel = 1) (pf : pre0.Contents (Elt F)) (i : grid0.Coords) : Fin 3 → Nat :=
  let arg0 : BitVec 32 := BitVec.ofNat 32 (i 0).val
  let v0 : Index := Scalar.indexCast arg0
  let v1 : BitVec 32 := pf.at 0 (Rect.unit (s := S423) ![v0.toNat] S1.size (k0_off1_inb i)) numel1_S1
  let c0_i32 : BitVec 32 := 0#32
  let c0_i32_0 : BitVec 32 := 0#32
  let c0_i32_1 : BitVec 32 := 0#32
  ![v1.toNat, c0_i32.toNat, c0_i32_0.toNat]

def cc0_transform_2 (k0_off1_inb : ∀ i : grid0.Coords, ∀ a, (k0_off1 i) a + S1.size a ≤ S423.size a) (numel1_S1 : S1.numel = 1) (pf : pre0.Contents (Elt F)) (i : grid0.Coords) : Fin 3 → Nat :=
  let arg0 : BitVec 32 := BitVec.ofNat 32 (i 0).val
  let v0 : Index := Scalar.indexCast arg0
  let v1 : BitVec 32 := pf.at 0 (Rect.unit (s := S423) ![v0.toNat] S1.size (k0_off1_inb i)) numel1_S1
  let c0_i32 : BitVec 32 := 0#32
  let c0_i32_0 : BitVec 32 := 0#32
  let c0_i32_1 : BitVec 32 := 0#32
  ![v1.toNat, c0_i32.toNat, c0_i32_0.toNat]

def cc0_transform_3 (k0_off1_inb : ∀ i : grid0.Coords, ∀ a, (k0_off1 i) a + S1.size a ≤ S423.size a) (numel1_S1 : S1.numel = 1) (pf : pre0.Contents (Elt F)) (i : grid0.Coords) : Fin 3 → Nat :=
  let arg0 : BitVec 32 := BitVec.ofNat 32 (i 0).val
  let v0 : Index := Scalar.indexCast arg0
  let v1 : BitVec 32 := pf.at 0 (Rect.unit (s := S423) ![v0.toNat] S1.size (k0_off1_inb i)) numel1_S1
  let c0_i32 : BitVec 32 := 0#32
  let c0_i32_0 : BitVec 32 := 0#32
  let c0_i32_1 : BitVec 32 := 0#32
  ![v1.toNat, c0_i32.toNat, c0_i32_0.toNat]

def cc0_transform_4 (inb_S1_S1_0 : ∀ a, (![0] : Fin 1 → Nat) a + S1.size a ≤ S1.size a) (numel1_S1 : S1.numel = 1) (pf : pre0.Contents (Elt F)) (i : grid0.Coords) : Fin 2 → Nat :=
  let arg0 : BitVec 32 := BitVec.ofNat 32 (i 0).val
  let c0 : Index := 0#32
  let v0 : BitVec 32 := pf.at 2 (Rect.unit (s := S1) ![0] S1.size inb_S1_S1_0) numel1_S1
  let c1_i32 : BitVec 32 := 1#32
  let v1 : BitVec 32 := Scalar.subi v0 c1_i32
  let v2 : BitVec 32 := Scalar.minsi arg0 v1
  let c0_i32 : BitVec 32 := 0#32
  let c0_i32_0 : BitVec 32 := 0#32
  ![v2.toNat, c0_i32.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x1024x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x1024x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x256x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== Reference2Ideal.lean ====
abbrev S108288x1024 : Shape := ⟨2, ![108288, 1024]⟩
abbrev S32 : Shape := ⟨1, ![32]⟩
abbrev S4x4x8x1024x256 : Shape := ⟨5, ![4, 4, 8, 1024, 256]⟩
abbrev S4x4x8x256x1024 : Shape := ⟨5, ![4, 4, 8, 256, 1024]⟩
abbrev S_ : Shape := ⟨0, ![]⟩
abbrev S1x32 : Shape := ⟨2, ![1, 32]⟩
abbrev S32x1 : Shape := ⟨2, ![32, 1]⟩
abbrev S32x32 : Shape := ⟨2, ![32, 32]⟩
abbrev S108288 : Shape := ⟨1, ![108288]⟩
abbrev S108288x1 : Shape := ⟨2, ![108288, 1]⟩
abbrev S108288x32 : Shape := ⟨2, ![108288, 32]⟩
abbrev S1x4x8x1024x256 : Shape := ⟨5, ![1, 4, 8, 1024, 256]⟩
abbrev S4x8x1024x256 : Shape := ⟨4, ![4, 8, 1024, 256]⟩
abbrev S32x1024x256 : Shape := ⟨3, ![32, 1024, 256]⟩
abbrev S1x4x8x256x1024 : Shape := ⟨5, ![1, 4, 8, 256, 1024]⟩
abbrev S4x8x256x1024 : Shape := ⟨4, ![4, 8, 256, 1024]⟩
abbrev S32x256x1024 : Shape := ⟨3, ![32, 256, 1024]⟩
abbrev S108288x32x256 : Shape := ⟨3, ![108288, 32, 256]⟩
abbrev S108288x32x1 : Shape := ⟨3, ![108288, 32, 1]⟩

abbrev nBuf : Space → Nat
  | .hbm => 85
  | .vmem => 0
  | .smem => 0
  | _ => 0

abbrev bufTy : (tb : Table) → Fin (tcTables nBuf tb) → BufTy
  | .hbm, ⟨0, _⟩ => ⟨S108288x1024, .f32⟩
  | .hbm, ⟨1, _⟩ => ⟨S32, .i32⟩
  | .hbm, ⟨2, _⟩ => ⟨S4x4x8x1024x256, .f32⟩
  | .hbm, ⟨3, _⟩ => ⟨S4x4x8x1024x256, .f32⟩
  | .hbm, ⟨4, _⟩ => ⟨S4x4x8x256x1024, .f32⟩
  | .hbm, ⟨5, _⟩ => ⟨S_, .i32⟩
  | .hbm, ⟨6, _⟩ => ⟨S32, .i32⟩
  | .hbm, ⟨7, _⟩ => ⟨S32, .i32⟩
  | .hbm, ⟨8, _⟩ => ⟨S_, .i32⟩
  | .hbm, ⟨9, _⟩ => ⟨S32, .i32⟩
  | .hbm, ⟨10, _⟩ => ⟨S32, .i32⟩
  | .hbm, ⟨11, _⟩ => ⟨S_, .i32⟩
  | .hbm, ⟨12, _⟩ => ⟨S_, .i32⟩
  | .hbm, ⟨13, _⟩ => ⟨S32, .i32⟩
  | .hbm, ⟨14, _⟩ => ⟨S32, .i32⟩
  | .hbm, ⟨15, _⟩ => ⟨S32, .i32⟩
  | .hbm, ⟨16, _⟩ => ⟨S_, .i32⟩
  | .hbm, ⟨17, _⟩ => ⟨S32, .i32⟩
  | .hbm, ⟨18, _⟩ => ⟨S32, .i1⟩
  | .hbm, ⟨19, _⟩ => ⟨S32, .i32⟩
  | .hbm, ⟨20, _⟩ => ⟨S32, .i32⟩
  | .hbm, ⟨21, _⟩ => ⟨S_, .i32⟩
  | .hbm, ⟨22, _⟩ => ⟨S32, .i32⟩
  | .hbm, ⟨23, _⟩ => ⟨S32, .i1⟩
  | .hbm, ⟨24, _⟩ => ⟨S32, .i1⟩
  | .hbm, ⟨25, _⟩ => ⟨S_, .i32⟩
  | .hbm, ⟨26, _⟩ => ⟨S32, .i32⟩
  | .hbm, ⟨27, _⟩ => ⟨S32, .i32⟩
  | .hbm, ⟨28, _⟩ => ⟨S32, .i32⟩
  | .hbm, ⟨29, _⟩ => ⟨S_, .i32⟩
  | .hbm, ⟨30, _⟩ => ⟨S32, .i32⟩
  | .hbm, ⟨31, _⟩ => ⟨S32, .i32⟩
  | .hbm, ⟨32, _⟩ => ⟨S32, .i32⟩
  | .hbm, ⟨33, _⟩ => ⟨S1x32, .i32⟩
  | .hbm, ⟨34, _⟩ => ⟨S32x1, .i32⟩
  | .hbm, ⟨35, _⟩ => ⟨S32x32, .i32⟩
  | .hbm, ⟨36, _⟩ => ⟨S32x32, .i32⟩
  | .hbm, ⟨37, _⟩ => ⟨S32x32, .i1⟩
  | .hbm, ⟨38, _⟩ => ⟨S1x32, .i32⟩
  | .hbm, ⟨39, _⟩ => ⟨S_, .i32⟩
  | .hbm, ⟨40, _⟩ => ⟨S_, .i32⟩
  | .hbm, ⟨41, _⟩ => ⟨S32x32, .i32⟩
  | .hbm, ⟨42, _⟩ => ⟨S32x32, .i32⟩
  | .hbm, ⟨43, _⟩ => ⟨S32x32, .i32⟩
  | .hbm, ⟨44, _⟩ => ⟨S_, .i32⟩
  | .hbm, ⟨45, _⟩ => ⟨S32, .i32⟩
  | .hbm, ⟨46, _⟩ => ⟨S108288, .i32⟩
  | .hbm, ⟨47, _⟩ => ⟨S108288x1, .i32⟩
  | .hbm, ⟨48, _⟩ => ⟨S1x32, .i32⟩
  | .hbm, ⟨49, _⟩ => ⟨S108288x32, .i32⟩
  | .hbm, ⟨50, _⟩ => ⟨S108288x32, .i32⟩
  | .hbm, ⟨51, _⟩ => ⟨S108288x32, .i1⟩
  | .hbm, ⟨52, _⟩ => ⟨S108288x1, .i32⟩
  | .hbm, ⟨53, _⟩ => ⟨S32, .i32⟩
  | .hbm, ⟨54, _⟩ => ⟨S1x32, .i32⟩
  | .hbm, ⟨55, _⟩ => ⟨S108288x32, .i32⟩
  | .hbm, ⟨56, _⟩ => ⟨S108288x32, .i32⟩
  | .hbm, ⟨57, _⟩ => ⟨S108288x32, .i1⟩
  | .hbm, ⟨58, _⟩ => ⟨S108288x32, .i1⟩
  | .hbm, ⟨59, _⟩ => ⟨S108288x32, .f32⟩
  | .hbm, ⟨60, _⟩ => ⟨S1x4x8x1024x256, .f32⟩
  | .hbm, ⟨61, _⟩ => ⟨S4x8x1024x256, .f32⟩
  | .hbm, ⟨62, _⟩ => ⟨S32x1024x256, .f32⟩
  | .hbm, ⟨63, _⟩ => ⟨S1x4x8x1024x256, .f32⟩
  | .hbm, ⟨64, _⟩ => ⟨S4x8x1024x256, .f32⟩
  | .hbm, ⟨65, _⟩ => ⟨S32x1024x256, .f32⟩
  | .hbm, ⟨66, _⟩ => ⟨S1x4x8x256x1024, .f32⟩
  | .hbm, ⟨67, _⟩ => ⟨S4x8x256x1024, .f32⟩
  | .hbm, ⟨68, _⟩ => ⟨S32x256x1024, .f32⟩
  | .hbm, ⟨69, _⟩ => ⟨S108288x32x256, .f32⟩
  | .hbm, ⟨70, _⟩ => ⟨S108288x32x256, .f32⟩
  | .hbm, ⟨71, _⟩ => ⟨S108288x32x256, .f32⟩
  | .hbm, ⟨72, _⟩ => ⟨S108288x32x256, .f32⟩
  | .hbm, ⟨73, _⟩ => ⟨S_, .f32⟩
  | .hbm, ⟨74, _⟩ => ⟨S108288x32x256, .f32⟩
  | .hbm, ⟨75, _⟩ => ⟨S108288x32x256, .f32⟩
  | .hbm, ⟨76, _⟩ => ⟨S_, .f32⟩
  | .hbm, ⟨77, _⟩ => ⟨S108288x32x256, .f32⟩
  | .hbm, ⟨78, _⟩ => ⟨S108288x32x256, .f32⟩
  | .hbm, ⟨79, _⟩ => ⟨S108288x32x256, .f32⟩
  | .hbm, ⟨80, _⟩ => ⟨S108288x32x256, .f32⟩
  | .hbm, ⟨81, _⟩ => ⟨S108288x32x1, .f32⟩
  | .hbm, ⟨82, _⟩ => ⟨S108288x32x256, .f32⟩
  | .hbm, ⟨83, _⟩ => ⟨S108288x32x256, .f32⟩
  | .hbm, ⟨84, _⟩ => ⟨S108288x1024, .f32⟩
  | _, _ => ⟨S108288x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_c : Ref sig .tc := ⟨.hbm, 5, rfl⟩
abbrev main_v0 : Ref sig .tc := ⟨.hbm, 6, rfl⟩
abbrev main_v1 : Ref sig .tc := ⟨.hbm, 7, rfl⟩
abbrev main_c_0 : Ref sig .tc := ⟨.hbm, 8, rfl⟩
abbrev main_v2 : Ref sig .tc := ⟨.hbm, 9, rfl⟩
abbrev main_v3 : Ref sig .tc := ⟨.hbm, 10, rfl⟩
abbrev main_c_1 : Ref sig .tc := ⟨.hbm, 11, rfl⟩
abbrev main_call0_v0 : Ref sig .tc := ⟨.hbm, 12, rfl⟩
abbrev main_call0_v1 : Ref sig .tc := ⟨.hbm, 13, rfl⟩
abbrev main_call0_v2 : Ref sig .tc := ⟨.hbm, 14, rfl⟩
abbrev main_call0_v3 : Ref sig .tc := ⟨.hbm, 15, rfl⟩
abbrev main_call0_v4 : Ref sig .tc := ⟨.hbm, 16, rfl⟩
abbrev main_call0_v5 : Ref sig .tc := ⟨.hbm, 17, rfl⟩
abbrev main_call0_v6 : Ref sig .tc := ⟨.hbm, 18, rfl⟩
abbrev main_call0_v7 : Ref sig .tc := ⟨.hbm, 19, rfl⟩
abbrev main_call0_v8 : Ref sig .tc := ⟨.hbm, 20, rfl⟩
abbrev main_call0_c : Ref sig .tc := ⟨.hbm, 21, rfl⟩
abbrev main_call0_v9 : Ref sig .tc := ⟨.hbm, 22, rfl⟩
abbrev main_call0_v10 : Ref sig .tc := ⟨.hbm, 23, rfl⟩
abbrev main_call0_v11 : Ref sig .tc := ⟨.hbm, 24, rfl⟩
abbrev main_call0_c_0 : Ref sig .tc := ⟨.hbm, 25, rfl⟩
abbrev main_call0_v12 : Ref sig .tc := ⟨.hbm, 26, rfl⟩
abbrev main_call0_v13 : Ref sig .tc := ⟨.hbm, 27, rfl⟩
abbrev main_v4 : Ref sig .tc := ⟨.hbm, 28, rfl⟩
abbrev main_c_2 : Ref sig .tc := ⟨.hbm, 29, rfl⟩
abbrev main_v5 : Ref sig .tc := ⟨.hbm, 30, rfl⟩
abbrev main_v6 : Ref sig .tc := ⟨.hbm, 31, rfl⟩
abbrev main_v7 : Ref sig .tc := ⟨.hbm, 32, rfl⟩
abbrev main_v8 : Ref sig .tc := ⟨.hbm, 33, rfl⟩
abbrev main_v9 : Ref sig .tc := ⟨.hbm, 34, rfl⟩
abbrev main_v10 : Ref sig .tc := ⟨.hbm, 35, rfl⟩
abbrev main_v11 : Ref sig .tc := ⟨.hbm, 36, rfl⟩
abbrev main_v12 : Ref sig .tc := ⟨.hbm, 37, rfl⟩
abbrev main_v13 : Ref sig .tc := ⟨.hbm, 38, rfl⟩
abbrev main_c_3 : Ref sig .tc := ⟨.hbm, 39, rfl⟩
abbrev main_call1_v0 : Ref sig .tc := ⟨.hbm, 40, rfl⟩
abbrev main_call1_v1 : Ref sig .tc := ⟨.hbm, 41, rfl⟩
abbrev main_call1_v2 : Ref sig .tc := ⟨.hbm, 42, rfl⟩
abbrev main_v14 : Ref sig .tc := ⟨.hbm, 43, rfl⟩
abbrev main_c_4 : Ref sig .tc := ⟨.hbm, 44, rfl⟩
abbrev main_v15 : Ref sig .tc := ⟨.hbm, 45, rfl⟩
abbrev main_v16 : Ref sig .tc := ⟨.hbm, 46, rfl⟩
abbrev main_v17 : Ref sig .tc := ⟨.hbm, 47, rfl⟩
abbrev main_v18 : Ref sig .tc := ⟨.hbm, 48, rfl⟩
abbrev main_v19 : Ref sig .tc := ⟨.hbm, 49, rfl⟩
abbrev main_v20 : Ref sig .tc := ⟨.hbm, 50, rfl⟩
abbrev main_v21 : Ref sig .tc := ⟨.hbm, 51, rfl⟩
abbrev main_v22 : Ref sig .tc := ⟨.hbm, 52, rfl⟩
abbrev main_v23 : Ref sig .tc := ⟨.hbm, 53, rfl⟩
abbrev main_v24 : Ref sig .tc := ⟨.hbm, 54, rfl⟩
abbrev main_v25 : Ref sig .tc := ⟨.hbm, 55, rfl⟩
abbrev main_v26 : Ref sig .tc := ⟨.hbm, 56, rfl⟩
abbrev main_v27 : Ref sig .tc := ⟨.hbm, 57, rfl⟩
abbrev main_v28 : Ref sig .tc := ⟨.hbm, 58, rfl⟩
abbrev main_v29 : Ref sig .tc := ⟨.hbm, 59, rfl⟩
abbrev main_v30 : Ref sig .tc := ⟨.hbm, 60, rfl⟩
abbrev main_v31 : Ref sig .tc := ⟨.hbm, 61, rfl⟩
abbrev main_v32 : Ref sig .tc := ⟨.hbm, 62, rfl⟩
abbrev main_v33 : Ref sig .tc := ⟨.hbm, 63, rfl⟩
abbrev main_v34 : Ref sig .tc := ⟨.hbm, 64, rfl⟩
abbrev main_v35 : Ref sig .tc := ⟨.hbm, 65, rfl⟩
abbrev main_v36 : Ref sig .tc := ⟨.hbm, 66, rfl⟩
abbrev main_v37 : Ref sig .tc := ⟨.hbm, 67, rfl⟩
abbrev main_v38 : Ref sig .tc := ⟨.hbm, 68, rfl⟩
abbrev main_v39 : Ref sig .tc := ⟨.hbm, 69, rfl⟩
abbrev main_v40 : Ref sig .tc := ⟨.hbm, 70, rfl⟩
abbrev main_call2_v0 : Ref sig .tc := ⟨.hbm, 71, rfl⟩
abbrev main_call2_v1 : Ref sig .tc := ⟨.hbm, 72, rfl⟩
abbrev main_call2_cst : Ref sig .tc := ⟨.hbm, 73, rfl⟩
abbrev main_call2_v2 : Ref sig .tc := ⟨.hbm, 74, rfl⟩
abbrev main_call2_v3 : Ref sig .tc := ⟨.hbm, 75, rfl⟩
abbrev main_call2_cst_0 : Ref sig .tc := ⟨.hbm, 76, rfl⟩
abbrev main_call2_v4 : Ref sig .tc := ⟨.hbm, 77, rfl⟩
abbrev main_call2_v5 : Ref sig .tc := ⟨.hbm, 78, rfl⟩
abbrev main_v41 : Ref sig .tc := ⟨.hbm, 79, rfl⟩
abbrev main_v42 : Ref sig .tc := ⟨.hbm, 80, rfl⟩
abbrev main_v43 : Ref sig .tc := ⟨.hbm, 81, rfl⟩
abbrev main_v44 : Ref sig .tc := ⟨.hbm, 82, rfl⟩
abbrev main_v45 : Ref sig .tc := ⟨.hbm, 83, rfl⟩
abbrev main_v46 : Ref sig .tc := ⟨.hbm, 84, rfl⟩

abbrev nD : Nat := 1
abbrev τ : Topo := Topo.v7x

variable {F : FTy → Type} [FloatOps F]
-- ==== Kernel3.lean ====
abbrev S8x4096x1024 : Shape := ⟨3, ![8, 4096, 1024]⟩
abbrev S8x256x1024 : Shape := ⟨3, ![8, 256, 1024]⟩
abbrev S1024 : Shape := ⟨1, ![1024]⟩
abbrev S8x6144 : Shape := ⟨2, ![8, 6144]⟩
abbrev S6144 : Shape := ⟨1, ![6144]⟩
abbrev S1024x3072 : Shape := ⟨2, ![1024, 3072]⟩
abbrev S3072 : Shape := ⟨1, ![3072]⟩
abbrev S32768x1024 : Shape := ⟨2, ![32768, 1024]⟩
abbrev S2048x1024 : Shape := ⟨2, ![2048, 1024]⟩
abbrev S34816x1024 : Shape := ⟨2, ![34816, 1024]⟩
abbrev S1x6144 : Shape := ⟨2, ![1, 6144]⟩
abbrev S_ : Shape := ⟨0, ![]⟩
abbrev S7x6144 : Shape := ⟨2, ![7, 6144]⟩
abbrev S16x6144 : Shape := ⟨2, ![16, 6144]⟩
abbrev S96x1x1024 : Shape := ⟨3, ![96, 1, 1024]⟩
abbrev S1x1024 : Shape := ⟨2, ![1, 1024]⟩
abbrev S1x3072 : Shape := ⟨2, ![1, 3072]⟩
abbrev S34816x3072 : Shape := ⟨2, ![34816, 3072]⟩
abbrev S256x1024 : Shape := ⟨2, ![256, 1024]⟩
abbrev S1x1x1024 : Shape := ⟨3, ![1, 1, 1024]⟩
abbrev S256x3072 : Shape := ⟨2, ![256, 3072]⟩
abbrev S256 : Shape := ⟨1, ![256]⟩
abbrev S256x1 : Shape := ⟨2, ![256, 1]⟩

abbrev nBuf : Space → Nat
  | .hbm => 19
  | .vmem => 11
  | .smem => 0
  | _ => 0

abbrev bufTy : (tb : Table) → Fin (tcTables nBuf tb) → BufTy
  | .hbm, ⟨0, _⟩ => ⟨S8x4096x1024, .f32⟩
  | .hbm, ⟨1, _⟩ => ⟨S8x256x1024, .f32⟩
  | .hbm, ⟨2, _⟩ => ⟨S1024, .f32⟩
  | .hbm, ⟨3, _⟩ => ⟨S8x6144, .f32⟩
  | .hbm, ⟨4, _⟩ => ⟨S6144, .f32⟩
  | .hbm, ⟨5, _⟩ => ⟨S1024x3072, .f32⟩
  | .hbm, ⟨6, _⟩ => ⟨S3072, .f32⟩
  | .hbm, ⟨7, _⟩ => ⟨S32768x1024, .f32⟩
  | .hbm, ⟨8, _⟩ => ⟨S2048x1024, .f32⟩
  | .hbm, ⟨9, _⟩ => ⟨S34816x1024, .f32⟩
  | .hbm, ⟨10, _⟩ => ⟨S1x6144, .f32⟩
  | .hbm, ⟨11, _⟩ => ⟨S_, .f32⟩
  | .hbm, ⟨12, _⟩ => ⟨S7x6144, .f32⟩
  | .hbm, ⟨13, _⟩ => ⟨S16x6144, .f32⟩
  | .hbm, ⟨14, _⟩ => ⟨S96x1x1024, .f32⟩
  | .hbm, ⟨15, _⟩ => ⟨S1x1024, .f32⟩
  | .hbm, ⟨16, _⟩ => ⟨S1024x3072, .bf16⟩
  | .hbm, ⟨17, _⟩ => ⟨S1x3072, .f32⟩
  | .hbm, ⟨18, _⟩ => ⟨S34816x3072, .bf16⟩
  | .local _ .vmem, ⟨0, _⟩ => ⟨S256x1024, .f32⟩
  | .local _ .vmem, ⟨1, _⟩ => ⟨S256x1024, .f32⟩
  | .local _ .vmem, ⟨2, _⟩ => ⟨S1x1024, .f32⟩
  | .local _ .vmem, ⟨3, _⟩ => ⟨S1x1x1024, .f32⟩
  | .local _ .vmem, ⟨4, _⟩ => ⟨S1x1x1024, .f32⟩
  | .local _ .vmem, ⟨5, _⟩ => ⟨S1x1x1024, .f32⟩
  | .local _ .vmem, ⟨6, _⟩ => ⟨S1x1x1024, .f32⟩
  | .local _ .vmem, ⟨7, _⟩ => ⟨S1024x3072, .bf16⟩
  | .local _ .vmem, ⟨8, _⟩ => ⟨S1x3072, .f32⟩
  | .local _ .vmem, ⟨9, _⟩ => ⟨S256x3072, .bf16⟩
  | .local _ .vmem, ⟨10, _⟩ => ⟨S256x3072, .bf16⟩
  | _, _ => ⟨S8x4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_cst : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg6_1 : Ref sig .tc := ⟨.vmem, 10, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem5_0 : DmaSem sig := 8
abbrev cc0_sem6_0 : DmaSem sig := 9
abbrev cc0_sem6_1 : DmaSem sig := 10

abbrev nD : Nat := 1
abbrev τ : Topo := Topo.v7x

variable {F : FTy → Type} [FloatOps F]

abbrev grid0 : Pipeline.Grid := ⟨1, ![136], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let c128_i32 : BitVec 32 := 128#32
  let v0 : BitVec 1 := Scalar.cmpi .slt arg0 c128_i32
  let c16_i32 : BitVec 32 := 16#32
  let v1 : BitVec 32 := Scalar.divsi arg0 c16_i32
  let c0_i32 : BitVec 32 := 0#32
  let v2 : BitVec 1 := Scalar.cmpi .sgt arg0 c0_i32
  let v3 : BitVec 32 := Scalar.extui v2
  let c0_i32_0 : BitVec 32 := 0#32
  let v4 : BitVec 1 := Scalar.cmpi .slt arg0 c0_i32_0
  let v5 : BitVec 32 := Scalar.extui v4
  let v6 : BitVec 32 := Scalar.subi v3 v5
  let c0_i32_1 : BitVec 32 := 0#32
  let v7 : BitVec 1 := Scalar.cmpi .sgt c16_i32 c0_i32_1
  let v8 : BitVec 32 := Scalar.extui v7
  let c0_i32_2 : BitVec 32 := 0#32
  let v9 : BitVec 1 := Scalar.cmpi .slt c16_i32 c0_i32_2
  let v10 : BitVec 32 := Scalar.extui v9
  let v11 : BitVec 32 := Scalar.subi v8 v10
  let v12 : BitVec 1 := Scalar.cmpi .ne v6 v11
  let v13 : BitVec 32 := Scalar.remsi arg0 c16_i32
  let c0_i32_3 : BitVec 32 := 0#32
  let v14 : BitVec 1 := Scalar.cmpi .ne v13 c0_i32_3
  let v15 : BitVec 1 := Scalar.andi v12 v14
  let c1_i32 : BitVec 32 := 1#32
  let v16 : BitVec 32 := Scalar.subi v1 c1_i32
  let v17 : BitVec 32 := Scalar.select v15 v16 v1
  let c8_i32 : BitVec 32 := 8#32
  let v18 : BitVec 32 := Scalar.select v0 v17 c8_i32
  let c6_i32 : BitVec 32 := 6#32
  let v19 : BitVec 32 := Scalar.muli v18 c6_i32
  let c0_i32_4 : BitVec 32 := 0#32
  let v20 : BitVec 32 := Scalar.addi v19 c0_i32_4
  let c0_i32_5 : BitVec 32 := 0#32
  let c0_i32_6 : BitVec 32 := 0#32
  let c0_i32_7 : BitVec 32 := 0#32
  ![v20.toNat, c0_i32_5.toNat, c0_i32_6.toNat]

def cc0_transform_3 (i : grid0.Coords) : Fin 3 → Nat :=
  let arg0 : BitVec 32 := BitVec.ofNat 32 (i 0).val
  let c128_i32 : BitVec 32 := 128#32
  let v0 : BitVec 1 := Scalar.cmpi .slt arg0 c128_i32
  let c16_i32 : BitVec 32 := 16#32
  let v1 : BitVec 32 := Scalar.divsi arg0 c16_i32
  let c0_i32 : BitVec 32 := 0#32
  let v2 : BitVec 1 := Scalar.cmpi .sgt arg0 c0_i32
  let v3 : BitVec 32 := Scalar.extui v2
  let c0_i32_0 : BitVec 32 := 0#32
  let v4 : BitVec 1 := Scalar.cmpi .slt arg0 c0_i32_0
  let v5 : BitVec 32 := Scalar.extui v4
  let v6 : BitVec 32 := Scalar.subi v3 v5
  let c0_i32_1 : BitVec 32 := 0#32
  let v7 : BitVec 1 := Scalar.cmpi .sgt c16_i32 c0_i32_1
  let v8 : BitVec 32 := Scalar.extui v7
  let c0_i32_2 : BitVec 32 := 0#32
  let v9 : BitVec 1 := Scalar.cmpi .slt c16_i32 c0_i32_2
  let v10 : BitVec 32 := Scalar.extui v9
  let v11 : BitVec 32 := Scalar.subi v8 v10
  let v12 : BitVec 1 := Scalar.cmpi .ne v6 v11
  let v13 : BitVec 32 := Scalar.remsi arg0 c16_i32
  let c0_i32_3 : BitVec 32 := 0#32
  let v14 : BitVec 1 := Scalar.cmpi .ne v13 c0_i32_3
  let v15 : BitVec 1 := Scalar.andi v12 v14
  let c1_i32 : BitVec 32 := 1#32
  let v16 : BitVec 32 := Scalar.subi v1 c1_i32
  let v17 : BitVec 32 := Scalar.select v15 v16 v1
  let c8_i32 : BitVec 32 := 8#32
  let v18 : BitVec 32 := Scalar.select v0 v17 c8_i32
  let c6_i32 : BitVec 32 := 6#32
  let v19 : BitVec 32 := Scalar.muli v18 c6_i32
  let c1_i32_4 : BitVec 32 := 1#32
  let v20 : BitVec 32 := Scalar.addi v19 c1_i32_4
  let c0_i32_5 : BitVec 32 := 0#32
  let c0_i32_6 : BitVec 32 := 0#32
  let c0_i32_7 : BitVec 32 := 0#32
  ![v20.toNat, c0_i32_5.toNat, c0_i32_6.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S1x1x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x1x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S1024x3072 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x3072 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S256x3072 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== Reference3Ideal.lean ====
abbrev S8x4096x1024 : Shape := ⟨3, ![8, 4096, 1024]⟩
abbrev S8x256x1024 : Shape := ⟨3, ![8, 256, 1024]⟩
abbrev S1024 : Shape := ⟨1, ![1024]⟩
abbrev S8x6144 : Shape := ⟨2, ![8, 6144]⟩
abbrev S6144 : Shape := ⟨1, ![6144]⟩
abbrev S1024x3072 : Shape := ⟨2, ![1024, 3072]⟩
abbrev S3072 : Shape := ⟨1, ![3072]⟩
abbrev S8x1024 : Shape := ⟨2, ![8, 1024]⟩
abbrev S8x1x1024 : Shape := ⟨3, ![8, 1, 1024]⟩
abbrev S_ : Shape := ⟨0, ![]⟩
abbrev S8x4096 : Shape := ⟨2, ![8, 4096]⟩
abbrev S8x4096x1 : Shape := ⟨3, ![8, 4096, 1]⟩
abbrev S1x1x1024 : Shape := ⟨3, ![1, 1, 1024]⟩
abbrev S8x256 : Shape := ⟨2, ![8, 256]⟩
abbrev S8x256x1 : Shape := ⟨3, ![8, 256, 1]⟩
abbrev S8x4096x3072 : Shape := ⟨3, ![8, 4096, 3072]⟩
abbrev S1x1x3072 : Shape := ⟨3, ![1, 1, 3072]⟩
abbrev S8x256x3072 : Shape := ⟨3, ![8, 256, 3072]⟩
abbrev S32768x3072 : Shape := ⟨2, ![32768, 3072]⟩
abbrev S2048x3072 : Shape := ⟨2, ![2048, 3072]⟩
abbrev S34816x3072 : Shape := ⟨2, ![34816, 3072]⟩

abbrev nBuf : Space → Nat
  | .hbm => 73
  | .vmem => 0
  | .smem => 0
  | _ => 0

abbrev bufTy : (tb : Table) → Fin (tcTables nBuf tb) → BufTy
  | .hbm, ⟨0, _⟩ => ⟨S8x4096x1024, .f32⟩
  | .hbm, ⟨1, _⟩ => ⟨S8x256x1024, .f32⟩
  | .hbm, ⟨2, _⟩ => ⟨S1024, .f32⟩
  | .hbm, ⟨3, _⟩ => ⟨S8x6144, .f32⟩
  | .hbm, ⟨4, _⟩ => ⟨S6144, .f32⟩
  | .hbm, ⟨5, _⟩ => ⟨S1024x3072, .f32⟩
  | .hbm, ⟨6, _⟩ => ⟨S3072, .f32⟩
  | .hbm, ⟨7, _⟩ => ⟨S8x1024, .f32⟩
  | .hbm, ⟨8, _⟩ => ⟨S8x1x1024, .f32⟩
  | .hbm, ⟨9, _⟩ => ⟨S8x1024, .f32⟩
  | .hbm, ⟨10, _⟩ => ⟨S8x1x1024, .f32⟩
  | .hbm, ⟨11, _⟩ => ⟨S8x4096x1024, .f32⟩
  | .hbm, ⟨12, _⟩ => ⟨S_, .f32⟩
  | .hbm, ⟨13, _⟩ => ⟨S8x4096, .f32⟩
  | .hbm, ⟨14, _⟩ => ⟨S8x4096x1, .f32⟩
  | .hbm, ⟨15, _⟩ => ⟨S_, .f32⟩
  | .hbm, ⟨16, _⟩ => ⟨S8x4096x1, .f32⟩
  | .hbm, ⟨17, _⟩ => ⟨S8x4096x1, .f32⟩
  | .hbm, ⟨18, _⟩ => ⟨S_, .f32⟩
  | .hbm, ⟨19, _⟩ => ⟨S8x4096x1, .f32⟩
  | .hbm, ⟨20, _⟩ => ⟨S8x4096x1, .f32⟩
  | .hbm, ⟨21, _⟩ => ⟨S8x4096x1, .f32⟩
  | .hbm, ⟨22, _⟩ => ⟨S8x4096x1024, .f32⟩
  | .hbm, ⟨23, _⟩ => ⟨S8x4096x1024, .f32⟩
  | .hbm, ⟨24, _⟩ => ⟨S1x1x1024, .f32⟩
  | .hbm, ⟨25, _⟩ => ⟨S8x4096x1024, .f32⟩
  | .hbm, ⟨26, _⟩ => ⟨S8x4096x1024, .f32⟩
  | .hbm, ⟨27, _⟩ => ⟨S_, .f32⟩
  | .hbm, ⟨28, _⟩ => ⟨S8x1x1024, .f32⟩
  | .hbm, ⟨29, _⟩ => ⟨S8x1x1024, .f32⟩
  | .hbm, ⟨30, _⟩ => ⟨S8x4096x1024, .f32⟩
  | .hbm, ⟨31, _⟩ => ⟨S8x4096x1024, .f32⟩
  | .hbm, ⟨32, _⟩ => ⟨S8x4096x1024, .f32⟩
  | .hbm, ⟨33, _⟩ => ⟨S8x4096x1024, .f32⟩
  | .hbm, ⟨34, _⟩ => ⟨S1024, .f32⟩
  | .hbm, ⟨35, _⟩ => ⟨S1024, .f32⟩
  | .hbm, ⟨36, _⟩ => ⟨S8x256x1024, .f32⟩
  | .hbm, ⟨37, _⟩ => ⟨S_, .f32⟩
  | .hbm, ⟨38, _⟩ => ⟨S8x256, .f32⟩
  | .hbm, ⟨39, _⟩ => ⟨S8x256x1, .f32⟩
  | .hbm, ⟨40, _⟩ => ⟨S_, .f32⟩
  | .hbm, ⟨41, _⟩ => ⟨S8x256x1, .f32⟩
  | .hbm, ⟨42, _⟩ => ⟨S8x256x1, .f32⟩
  | .hbm, ⟨43, _⟩ => ⟨S_, .f32⟩
  | .hbm, ⟨44, _⟩ => ⟨S8x256x1, .f32⟩
  | .hbm, ⟨45, _⟩ => ⟨S8x256x1, .f32⟩
  | .hbm, ⟨46, _⟩ => ⟨S8x256x1, .f32⟩
  | .hbm, ⟨47, _⟩ => ⟨S8x256x1024, .f32⟩
  | .hbm, ⟨48, _⟩ => ⟨S8x256x1024, .f32⟩
  | .hbm, ⟨49, _⟩ => ⟨S1x1x1024, .f32⟩
  | .hbm, ⟨50, _⟩ => ⟨S8x256x1024, .f32⟩
  | .hbm, ⟨51, _⟩ => ⟨S8x256x1024, .f32⟩
  | .hbm, ⟨52, _⟩ => ⟨S_, .f32⟩
  | .hbm, ⟨53, _⟩ => ⟨S1024, .f32⟩
  | .hbm, ⟨54, _⟩ => ⟨S1024, .f32⟩
  | .hbm, ⟨55, _⟩ => ⟨S1x1x1024, .f32⟩
  | .hbm, ⟨56, _⟩ => ⟨S8x256x1024, .f32⟩
  | .hbm, ⟨57, _⟩ => ⟨S8x256x1024, .f32⟩
  | .hbm, ⟨58, _⟩ => ⟨S1x1x1024, .f32⟩
  | .hbm, ⟨59, _⟩ => ⟨S8x256x1024, .f32⟩
  | .hbm, ⟨60, _⟩ => ⟨S8x256x1024, .f32⟩
  | .hbm, ⟨61, _⟩ => ⟨S8x4096x3072, .f32⟩
  | .hbm, ⟨62, _⟩ => ⟨S1x1x3072, .f32⟩
  | .hbm, ⟨63, _⟩ => ⟨S8x4096x3072, .f32⟩
  | .hbm, ⟨64, _⟩ => ⟨S8x4096x3072, .f32⟩
  | .hbm, ⟨65, _⟩ => ⟨S8x256x3072, .f32⟩
  | .hbm, ⟨66, _⟩ => ⟨S1x1x3072, .f32⟩
  | .hbm, ⟨67, _⟩ => ⟨S8x256x3072, .f32⟩
  | .hbm, ⟨68, _⟩ => ⟨S8x256x3072, .f32⟩
  | .hbm, ⟨69, _⟩ => ⟨S32768x3072, .f32⟩
  | .hbm, ⟨70, _⟩ => ⟨S2048x3072, .f32⟩
  | .hbm, ⟨71, _⟩ => ⟨S34816x3072, .f32⟩
  | .hbm, ⟨72, _⟩ => ⟨S34816x3072, .bf16⟩
  | _, _ => ⟨S8x4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_cst : Ref sig .tc := ⟨.hbm, 12, rfl⟩
abbrev main_v5 : Ref sig .tc := ⟨.hbm, 13, rfl⟩
abbrev main_v6 : Ref sig .tc := ⟨.hbm, 14, rfl⟩
abbrev main_cst_0 : Ref sig .tc := ⟨.hbm, 15, rfl⟩
abbrev main_v7 : Ref sig .tc := ⟨.hbm, 16, rfl⟩
abbrev main_v8 : Ref sig .tc := ⟨.hbm, 17, rfl⟩
abbrev main_cst_1 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_cst_2 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_cst_3 : Ref sig .tc := ⟨.hbm, 37, rfl⟩
abbrev main_v26 : Ref sig .tc := ⟨.hbm, 38, rfl⟩
abbrev main_v27 : Ref sig .tc := ⟨.hbm, 39, rfl⟩
abbrev main_cst_4 : Ref sig .tc := ⟨.hbm, 40, rfl⟩
abbrev main_v28 : Ref sig .tc := ⟨.hbm, 41, rfl⟩
abbrev main_v29 : Ref sig .tc := ⟨.hbm, 42, rfl⟩
abbrev main_cst_5 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_cst_6 : Ref sig .tc := ⟨.hbm, 52, rfl⟩
abbrev main_v38 : Ref sig .tc := ⟨.hbm, 53, rfl⟩
abbrev main_v39 : Ref sig .tc := ⟨.hbm, 54, rfl⟩
abbrev main_v40 : Ref sig .tc := ⟨.hbm, 55, rfl⟩
abbrev main_v41 : Ref sig .tc := ⟨.hbm, 56, rfl⟩
abbrev main_v42 : Ref sig .tc := ⟨.hbm, 57, rfl⟩
abbrev main_v43 : Ref sig .tc := ⟨.hbm, 58, rfl⟩
abbrev main_v44 : Ref sig .tc := ⟨.hbm, 59, rfl⟩
abbrev main_v45 : Ref sig .tc := ⟨.hbm, 60, rfl⟩
abbrev main_v46 : Ref sig .tc := ⟨.hbm, 61, rfl⟩
abbrev main_v47 : Ref sig .tc := ⟨.hbm, 62, rfl⟩
abbrev main_v48 : Ref sig .tc := ⟨.hbm, 63, rfl⟩
abbrev main_v49 : Ref sig .tc := ⟨.hbm, 64, rfl⟩
abbrev main_v50 : Ref sig .tc := ⟨.hbm, 65, rfl⟩
abbrev main_v51 : Ref sig .tc := ⟨.hbm, 66, rfl⟩
abbrev main_v52 : Ref sig .tc := ⟨.hbm, 67, rfl⟩
abbrev main_v53 : Ref sig .tc := ⟨.hbm, 68, rfl⟩
abbrev main_v54 : Ref sig .tc := ⟨.hbm, 69, rfl⟩
abbrev main_v55 : Ref sig .tc := ⟨.hbm, 70, rfl⟩
abbrev main_v56 : Ref sig .tc := ⟨.hbm, 71, rfl⟩
abbrev main_v57 : Ref sig .tc := ⟨.hbm, 72, rfl⟩

abbrev nD : Nat := 1
abbrev τ : Topo := Topo.v7x

variable {F : FTy → Type} [FloatOps F]
-- ==== Kernel4.lean ====
abbrev S8x4096x1024 : Shape := ⟨3, ![8, 4096, 1024]⟩
abbrev S8x256x1024 : Shape := ⟨3, ![8, 256, 1024]⟩
abbrev S1024 : Shape := ⟨1, ![1024]⟩
abbrev S8x6144 : Shape := ⟨2, ![8, 6144]⟩
abbrev S6144 : Shape := ⟨1, ![6144]⟩
abbrev S1024x2048 : Shape := ⟨2, ![1024, 2048]⟩
abbrev S2048 : Shape := ⟨1, ![2048]⟩
abbrev S32768x1024 : Shape := ⟨2, ![32768, 1024]⟩
abbrev S2048x1024 : Shape := ⟨2, ![2048, 1024]⟩
abbrev S34816x1024 : Shape := ⟨2, ![34816, 1024]⟩
abbrev S1x6144 : Shape := ⟨2, ![1, 6144]⟩
abbrev S_ : Shape := ⟨0, ![]⟩
abbrev S7x6144 : Shape := ⟨2, ![7, 6144]⟩
abbrev S16x6144 : Shape := ⟨2, ![16, 6144]⟩
abbrev S96x1x1024 : Shape := ⟨3, ![96, 1, 1024]⟩
abbrev S1x1024 : Shape := ⟨2, ![1, 1024]⟩
abbrev S1x2048 : Shape := ⟨2, ![1, 2048]⟩
abbrev S256x1024 : Shape := ⟨2, ![256, 1024]⟩
abbrev S1x1x1024 : Shape := ⟨3, ![1, 1, 1024]⟩
abbrev S256 : Shape := ⟨1, ![256]⟩
abbrev S256x1 : Shape := ⟨2, ![256, 1]⟩
abbrev S256x2048 : Shape := ⟨2, ![256, 2048]⟩

abbrev nBuf : Space → Nat
  | .hbm => 19
  | .vmem => 11
  | .smem => 0
  | _ => 0

abbrev bufTy : (tb : Table) → Fin (tcTables nBuf tb) → BufTy
  | .hbm, ⟨0, _⟩ => ⟨S8x4096x1024, .f32⟩
  | .hbm, ⟨1, _⟩ => ⟨S8x256x1024, .f32⟩
  | .hbm, ⟨2, _⟩ => ⟨S1024, .f32⟩
  | .hbm, ⟨3, _⟩ => ⟨S8x6144, .f32⟩
  | .hbm, ⟨4, _⟩ => ⟨S6144, .f32⟩
  | .hbm, ⟨5, _⟩ => ⟨S1024x2048, .f32⟩
  | .hbm, ⟨6, _⟩ => ⟨S2048, .f32⟩
  | .hbm, ⟨7, _⟩ => ⟨S32768x1024, .f32⟩
  | .hbm, ⟨8, _⟩ => ⟨S2048x1024, .f32⟩
  | .hbm, ⟨9, _⟩ => ⟨S34816x1024, .f32⟩
  | .hbm, ⟨10, _⟩ => ⟨S1x6144, .f32⟩
  | .hbm, ⟨11, _⟩ => ⟨S_, .f32⟩
  | .hbm, ⟨12, _⟩ => ⟨S7x6144, .f32⟩
  | .hbm, ⟨13, _⟩ => ⟨S16x6144, .f32⟩
  | .hbm, ⟨14, _⟩ => ⟨S96x1x1024, .f32⟩
  | .hbm, ⟨15, _⟩ => ⟨S1x1024, .f32⟩
  | .hbm, ⟨16, _⟩ => ⟨S1024x2048, .bf16⟩
  | .hbm, ⟨17, _⟩ => ⟨S1x2048, .f32⟩
  | .hbm, ⟨18, _⟩ => ⟨S34816x1024, .bf16⟩
  | .local _ .vmem, ⟨0, _⟩ => ⟨S256x1024, .f32⟩
  | .local _ .vmem, ⟨1, _⟩ => ⟨S256x1024, .f32⟩
  | .local _ .vmem, ⟨2, _⟩ => ⟨S1x1024, .f32⟩
  | .local _ .vmem, ⟨3, _⟩ => ⟨S1x1x1024, .f32⟩
  | .local _ .vmem, ⟨4, _⟩ => ⟨S1x1x1024, .f32⟩
  | .local _ .vmem, ⟨5, _⟩ => ⟨S1x1x1024, .f32⟩
  | .local _ .vmem, ⟨6, _⟩ => ⟨S1x1x1024, .f32⟩
  | .local _ .vmem, ⟨7, _⟩ => ⟨S1024x2048, .bf16⟩
  | .local _ .vmem, ⟨8, _⟩ => ⟨S1x2048, .f32⟩
  | .local _ .vmem, ⟨9, _⟩ => ⟨S256x1024, .bf16⟩
  | .local _ .vmem, ⟨10, _⟩ => ⟨S256x1024, .bf16⟩
  | _, _ => ⟨S8x4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_cst : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg6_1 : Ref sig .tc := ⟨.vmem, 10, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem5_0 : DmaSem sig := 8
abbrev cc0_sem6_0 : DmaSem sig := 9
abbrev cc0_sem6_1 : DmaSem sig := 10

abbrev nD : Nat := 1
abbrev τ : Topo := Topo.v7x

variable {F : FTy → Type} [FloatOps F]

abbrev grid0 : Pipeline.Grid := ⟨1, ![136], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let c128_i32 : BitVec 32 := 128#32
  let v0 : BitVec 1 := Scalar.cmpi .slt arg0 c128_i32
  let c16_i32 : BitVec 32 := 16#32
  let v1 : BitVec 32 := Scalar.divsi arg0 c16_i32
  let c0_i32 : BitVec 32 := 0#32
  let v2 : BitVec 1 := Scalar.cmpi .sgt arg0 c0_i32
  let v3 : BitVec 32 := Scalar.extui v2
  let c0_i32_0 : BitVec 32 := 0#32
  let v4 : BitVec 1 := Scalar.cmpi .slt arg0 c0_i32_0
  let v5 : BitVec 32 := Scalar.extui v4
  let v6 : BitVec 32 := Scalar.subi v3 v5
  let c0_i32_1 : BitVec 32 := 0#32
  let v7 : BitVec 1 := Scalar.cmpi .sgt c16_i32 c0_i32_1
  let v8 : BitVec 32 := Scalar.extui v7
  let c0_i32_2 : BitVec 32 := 0#32
  let v9 : BitVec 1 := Scalar.cmpi .slt c16_i32 c0_i32_2
  let v10 : BitVec 32 := Scalar.extui v9
  let v11 : BitVec 32 := Scalar.subi v8 v10
  let v12 : BitVec 1 := Scalar.cmpi .ne v6 v11
  let v13 : BitVec 32 := Scalar.remsi arg0 c16_i32
  let c0_i32_3 : BitVec 32 := 0#32
  let v14 : BitVec 1 := Scalar.cmpi .ne v13 c0_i32_3
  let v15 : BitVec 1 := Scalar.andi v12 v14
  let c1_i32 : BitVec 32 := 1#32
  let v16 : BitVec 32 := Scalar.subi v1 c1_i32
  let v17 : BitVec 32 := Scalar.select v15 v16 v1
  let c8_i32 : BitVec 32 := 8#32
  let v18 : BitVec 32 := Scalar.select v0 v17 c8_i32
  let c6_i32 : BitVec 32 := 6#32
  let v19 : BitVec 32 := Scalar.muli v18 c6_i32
  let c0_i32_4 : BitVec 32 := 0#32
  let v20 : BitVec 32 := Scalar.addi v19 c0_i32_4
  let c0_i32_5 : BitVec 32 := 0#32
  let c0_i32_6 : BitVec 32 := 0#32
  let c0_i32_7 : BitVec 32 := 0#32
  ![v20.toNat, c0_i32_5.toNat, c0_i32_6.toNat]

def cc0_transform_3 (i : grid0.Coords) : Fin 3 → Nat :=
  let arg0 : BitVec 32 := BitVec.ofNat 32 (i 0).val
  let c128_i32 : BitVec 32 := 128#32
  let v0 : BitVec 1 := Scalar.cmpi .slt arg0 c128_i32
  let c16_i32 : BitVec 32 := 16#32
  let v1 : BitVec 32 := Scalar.divsi arg0 c16_i32
  let c0_i32 : BitVec 32 := 0#32
  let v2 : BitVec 1 := Scalar.cmpi .sgt arg0 c0_i32
  let v3 : BitVec 32 := Scalar.extui v2
  let c0_i32_0 : BitVec 32 := 0#32
  let v4 : BitVec 1 := Scalar.cmpi .slt arg0 c0_i32_0
  let v5 : BitVec 32 := Scalar.extui v4
  let v6 : BitVec 32 := Scalar.subi v3 v5
  let c0_i32_1 : BitVec 32 := 0#32
  let v7 : BitVec 1 := Scalar.cmpi .sgt c16_i32 c0_i32_1
  let v8 : BitVec 32 := Scalar.extui v7
  let c0_i32_2 : BitVec 32 := 0#32
  let v9 : BitVec 1 := Scalar.cmpi .slt c16_i32 c0_i32_2
  let v10 : BitVec 32 := Scalar.extui v9
  let v11 : BitVec 32 := Scalar.subi v8 v10
  let v12 : BitVec 1 := Scalar.cmpi .ne v6 v11
  let v13 : BitVec 32 := Scalar.remsi arg0 c16_i32
  let c0_i32_3 : BitVec 32 := 0#32
  let v14 : BitVec 1 := Scalar.cmpi .ne v13 c0_i32_3
  let v15 : BitVec 1 := Scalar.andi v12 v14
  let c1_i32 : BitVec 32 := 1#32
  let v16 : BitVec 32 := Scalar.subi v1 c1_i32
  let v17 : BitVec 32 := Scalar.select v15 v16 v1
  let c8_i32 : BitVec 32 := 8#32
  let v18 : BitVec 32 := Scalar.select v0 v17 c8_i32
  let c6_i32 : BitVec 32 := 6#32
  let v19 : BitVec 32 := Scalar.muli v18 c6_i32
  let c1_i32_4 : BitVec 32 := 1#32
  let v20 : BitVec 32 := Scalar.addi v19 c1_i32_4
  let c0_i32_5 : BitVec 32 := 0#32
  let c0_i32_6 : BitVec 32 := 0#32
  let c0_i32_7 : BitVec 32 := 0#32
  ![v20.toNat, c0_i32_5.toNat, c0_i32_6.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S1x1x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x1x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S1024x2048 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x2048 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S256x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== Reference4Ideal.lean ====
abbrev S8x4096x1024 : Shape := ⟨3, ![8, 4096, 1024]⟩
abbrev S8x256x1024 : Shape := ⟨3, ![8, 256, 1024]⟩
abbrev S1024 : Shape := ⟨1, ![1024]⟩
abbrev S8x6144 : Shape := ⟨2, ![8, 6144]⟩
abbrev S6144 : Shape := ⟨1, ![6144]⟩
abbrev S1024x2048 : Shape := ⟨2, ![1024, 2048]⟩
abbrev S2048 : Shape := ⟨1, ![2048]⟩
abbrev S8x1024 : Shape := ⟨2, ![8, 1024]⟩
abbrev S8x1x1024 : Shape := ⟨3, ![8, 1, 1024]⟩
abbrev S_ : Shape := ⟨0, ![]⟩
abbrev S8x4096 : Shape := ⟨2, ![8, 4096]⟩
abbrev S8x4096x1 : Shape := ⟨3, ![8, 4096, 1]⟩
abbrev S1x1x1024 : Shape := ⟨3, ![1, 1, 1024]⟩
abbrev S8x256 : Shape := ⟨2, ![8, 256]⟩
abbrev S8x256x1 : Shape := ⟨3, ![8, 256, 1]⟩
abbrev S8x4096x2048 : Shape := ⟨3, ![8, 4096, 2048]⟩
abbrev S1x1x2048 : Shape := ⟨3, ![1, 1, 2048]⟩
abbrev S32768x1024 : Shape := ⟨2, ![32768, 1024]⟩
abbrev S8x256x2048 : Shape := ⟨3, ![8, 256, 2048]⟩
abbrev S2048x1024 : Shape := ⟨2, ![2048, 1024]⟩
abbrev S34816x1024 : Shape := ⟨2, ![34816, 1024]⟩

abbrev nBuf : Space → Nat
  | .hbm => 95
  | .vmem => 0
  | .smem => 0
  | _ => 0

abbrev bufTy : (tb : Table) → Fin (tcTables nBuf tb) → BufTy
  | .hbm, ⟨0, _⟩ => ⟨S8x4096x1024, .f32⟩
  | .hbm, ⟨1, _⟩ => ⟨S8x256x1024, .f32⟩
  | .hbm, ⟨2, _⟩ => ⟨S1024, .f32⟩
  | .hbm, ⟨3, _⟩ => ⟨S8x6144, .f32⟩
  | .hbm, ⟨4, _⟩ => ⟨S6144, .f32⟩
  | .hbm, ⟨5, _⟩ => ⟨S1024x2048, .f32⟩
  | .hbm, ⟨6, _⟩ => ⟨S2048, .f32⟩
  | .hbm, ⟨7, _⟩ => ⟨S8x1024, .f32⟩
  | .hbm, ⟨8, _⟩ => ⟨S8x1x1024, .f32⟩
  | .hbm, ⟨9, _⟩ => ⟨S8x1024, .f32⟩
  | .hbm, ⟨10, _⟩ => ⟨S8x1x1024, .f32⟩
  | .hbm, ⟨11, _⟩ => ⟨S8x4096x1024, .f32⟩
  | .hbm, ⟨12, _⟩ => ⟨S_, .f32⟩
  | .hbm, ⟨13, _⟩ => ⟨S8x4096, .f32⟩
  | .hbm, ⟨14, _⟩ => ⟨S8x4096x1, .f32⟩
  | .hbm, ⟨15, _⟩ => ⟨S_, .f32⟩
  | .hbm, ⟨16, _⟩ => ⟨S8x4096x1, .f32⟩
  | .hbm, ⟨17, _⟩ => ⟨S8x4096x1, .f32⟩
  | .hbm, ⟨18, _⟩ => ⟨S_, .f32⟩
  | .hbm, ⟨19, _⟩ => ⟨S8x4096x1, .f32⟩
  | .hbm, ⟨20, _⟩ => ⟨S8x4096x1, .f32⟩
  | .hbm, ⟨21, _⟩ => ⟨S8x4096x1, .f32⟩
  | .hbm, ⟨22, _⟩ => ⟨S8x4096x1024, .f32⟩
  | .hbm, ⟨23, _⟩ => ⟨S8x4096x1024, .f32⟩
  | .hbm, ⟨24, _⟩ => ⟨S1x1x1024, .f32⟩
  | .hbm, ⟨25, _⟩ => ⟨S8x4096x1024, .f32⟩
  | .hbm, ⟨26, _⟩ => ⟨S8x4096x1024, .f32⟩
  | .hbm, ⟨27, _⟩ => ⟨S_, .f32⟩
  | .hbm, ⟨28, _⟩ => ⟨S8x1x1024, .f32⟩
  | .hbm, ⟨29, _⟩ => ⟨S8x1x1024, .f32⟩
  | .hbm, ⟨30, _⟩ => ⟨S8x4096x1024, .f32⟩
  | .hbm, ⟨31, _⟩ => ⟨S8x4096x1024, .f32⟩
  | .hbm, ⟨32, _⟩ => ⟨S8x4096x1024, .f32⟩
  | .hbm, ⟨33, _⟩ => ⟨S8x4096x1024, .f32⟩
  | .hbm, ⟨34, _⟩ => ⟨S1024, .f32⟩
  | .hbm, ⟨35, _⟩ => ⟨S1024, .f32⟩
  | .hbm, ⟨36, _⟩ => ⟨S8x256x1024, .f32⟩
  | .hbm, ⟨37, _⟩ => ⟨S_, .f32⟩
  | .hbm, ⟨38, _⟩ => ⟨S8x256, .f32⟩
  | .hbm, ⟨39, _⟩ => ⟨S8x256x1, .f32⟩
  | .hbm, ⟨40, _⟩ => ⟨S_, .f32⟩
  | .hbm, ⟨41, _⟩ => ⟨S8x256x1, .f32⟩
  | .hbm, ⟨42, _⟩ => ⟨S8x256x1, .f32⟩
  | .hbm, ⟨43, _⟩ => ⟨S_, .f32⟩
  | .hbm, ⟨44, _⟩ => ⟨S8x256x1, .f32⟩
  | .hbm, ⟨45, _⟩ => ⟨S8x256x1, .f32⟩
  | .hbm, ⟨46, _⟩ => ⟨S8x256x1, .f32⟩
  | .hbm, ⟨47, _⟩ => ⟨S8x256x1024, .f32⟩
  | .hbm, ⟨48, _⟩ => ⟨S8x256x1024, .f32⟩
  | .hbm, ⟨49, _⟩ => ⟨S1x1x1024, .f32⟩
  | .hbm, ⟨50, _⟩ => ⟨S8x256x1024, .f32⟩
  | .hbm, ⟨51, _⟩ => ⟨S8x256x1024, .f32⟩
  | .hbm, ⟨52, _⟩ => ⟨S_, .f32⟩
  | .hbm, ⟨53, _⟩ => ⟨S1024, .f32⟩
  | .hbm, ⟨54, _⟩ => ⟨S1024, .f32⟩
  | .hbm, ⟨55, _⟩ => ⟨S1x1x1024, .f32⟩
  | .hbm, ⟨56, _⟩ => ⟨S8x256x1024, .f32⟩
  | .hbm, ⟨57, _⟩ => ⟨S8x256x1024, .f32⟩
  | .hbm, ⟨58, _⟩ => ⟨S1x1x1024, .f32⟩
  | .hbm, ⟨59, _⟩ => ⟨S8x256x1024, .f32⟩
  | .hbm, ⟨60, _⟩ => ⟨S8x256x1024, .f32⟩
  | .hbm, ⟨61, _⟩ => ⟨S8x4096x2048, .f32⟩
  | .hbm, ⟨62, _⟩ => ⟨S1x1x2048, .f32⟩
  | .hbm, ⟨63, _⟩ => ⟨S8x4096x2048, .f32⟩
  | .hbm, ⟨64, _⟩ => ⟨S8x4096x2048, .f32⟩
  | .hbm, ⟨65, _⟩ => ⟨S8x4096x1024, .f32⟩
  | .hbm, ⟨66, _⟩ => ⟨S8x4096x1024, .f32⟩
  | .hbm, ⟨67, _⟩ => ⟨S8x4096x1024, .f32⟩
  | .hbm, ⟨68, _⟩ => ⟨S8x4096x1024, .f32⟩
  | .hbm, ⟨69, _⟩ => ⟨S_, .f32⟩
  | .hbm, ⟨70, _⟩ => ⟨S8x4096x1024, .f32⟩
  | .hbm, ⟨71, _⟩ => ⟨S8x4096x1024, .f32⟩
  | .hbm, ⟨72, _⟩ => ⟨S_, .f32⟩
  | .hbm, ⟨73, _⟩ => ⟨S8x4096x1024, .f32⟩
  | .hbm, ⟨74, _⟩ => ⟨S8x4096x1024, .f32⟩
  | .hbm, ⟨75, _⟩ => ⟨S8x4096x1024, .f32⟩
  | .hbm, ⟨76, _⟩ => ⟨S32768x1024, .f32⟩
  | .hbm, ⟨77, _⟩ => ⟨S8x256x2048, .f32⟩
  | .hbm, ⟨78, _⟩ => ⟨S1x1x2048, .f32⟩
  | .hbm, ⟨79, _⟩ => ⟨S8x256x2048, .f32⟩
  | .hbm, ⟨80, _⟩ => ⟨S8x256x2048, .f32⟩
  | .hbm, ⟨81, _⟩ => ⟨S8x256x1024, .f32⟩
  | .hbm, ⟨82, _⟩ => ⟨S8x256x1024, .f32⟩
  | .hbm, ⟨83, _⟩ => ⟨S8x256x1024, .f32⟩
  | .hbm, ⟨84, _⟩ => ⟨S8x256x1024, .f32⟩
  | .hbm, ⟨85, _⟩ => ⟨S_, .f32⟩
  | .hbm, ⟨86, _⟩ => ⟨S8x256x1024, .f32⟩
  | .hbm, ⟨87, _⟩ => ⟨S8x256x1024, .f32⟩
  | .hbm, ⟨88, _⟩ => ⟨S_, .f32⟩
  | .hbm, ⟨89, _⟩ => ⟨S8x256x1024, .f32⟩
  | .hbm, ⟨90, _⟩ => ⟨S8x256x1024, .f32⟩
  | .hbm, ⟨91, _⟩ => ⟨S8x256x1024, .f32⟩
  | .hbm, ⟨92, _⟩ => ⟨S2048x1024, .f32⟩
  | .hbm, ⟨93, _⟩ => ⟨S34816x1024, .f32⟩
  | .hbm, ⟨94, _⟩ => ⟨S34816x1024, .bf16⟩
  | _, _ => ⟨S8x4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_cst : Ref sig .tc := ⟨.hbm, 12, rfl⟩
abbrev main_v5 : Ref sig .tc := ⟨.hbm, 13, rfl⟩
abbrev main_v6 : Ref sig .tc := ⟨.hbm, 14, rfl⟩
abbrev main_cst_0 : Ref sig .tc := ⟨.hbm, 15, rfl⟩
abbrev main_v7 : Ref sig .tc := ⟨.hbm, 16, rfl⟩
abbrev main_v8 : Ref sig .tc := ⟨.hbm, 17, rfl⟩
abbrev main_cst_1 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_cst_2 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_cst_3 : Ref sig .tc := ⟨.hbm, 37, rfl⟩
abbrev main_v26 : Ref sig .tc := ⟨.hbm, 38, rfl⟩
abbrev main_v27 : Ref sig .tc := ⟨.hbm, 39, rfl⟩
abbrev main_cst_4 : Ref sig .tc := ⟨.hbm, 40, rfl⟩
abbrev main_v28 : Ref sig .tc := ⟨.hbm, 41, rfl⟩
abbrev main_v29 : Ref sig .tc := ⟨.hbm, 42, rfl⟩
abbrev main_cst_5 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_cst_6 : Ref sig .tc := ⟨.hbm, 52, rfl⟩
abbrev main_v38 : Ref sig .tc := ⟨.hbm, 53, rfl⟩
abbrev main_v39 : Ref sig .tc := ⟨.hbm, 54, rfl⟩
abbrev main_v40 : Ref sig .tc := ⟨.hbm, 55, rfl⟩
abbrev main_v41 : Ref sig .tc := ⟨.hbm, 56, rfl⟩
abbrev main_v42 : Ref sig .tc := ⟨.hbm, 57, rfl⟩
abbrev main_v43 : Ref sig .tc := ⟨.hbm, 58, rfl⟩
abbrev main_v44 : Ref sig .tc := ⟨.hbm, 59, rfl⟩
abbrev main_v45 : Ref sig .tc := ⟨.hbm, 60, rfl⟩
abbrev main_v46 : Ref sig .tc := ⟨.hbm, 61, rfl⟩
abbrev main_v47 : Ref sig .tc := ⟨.hbm, 62, rfl⟩
abbrev main_v48 : Ref sig .tc := ⟨.hbm, 63, rfl⟩
abbrev main_v49 : Ref sig .tc := ⟨.hbm, 64, rfl⟩
abbrev main_v50 : Ref sig .tc := ⟨.hbm, 65, rfl⟩
abbrev main_v51 : Ref sig .tc := ⟨.hbm, 66, rfl⟩
abbrev main_v52 : Ref sig .tc := ⟨.hbm, 67, rfl⟩
abbrev main_v53 : Ref sig .tc := ⟨.hbm, 68, rfl⟩
abbrev main_cst_7 : Ref sig .tc := ⟨.hbm, 69, rfl⟩
abbrev main_v54 : Ref sig .tc := ⟨.hbm, 70, rfl⟩
abbrev main_v55 : Ref sig .tc := ⟨.hbm, 71, rfl⟩
abbrev main_cst_8 : Ref sig .tc := ⟨.hbm, 72, rfl⟩
abbrev main_v56 : Ref sig .tc := ⟨.hbm, 73, rfl⟩
abbrev main_v57 : Ref sig .tc := ⟨.hbm, 74, rfl⟩
abbrev main_v58 : Ref sig .tc := ⟨.hbm, 75, rfl⟩
abbrev main_v59 : Ref sig .tc := ⟨.hbm, 76, rfl⟩
abbrev main_v60 : Ref sig .tc := ⟨.hbm, 77, rfl⟩
abbrev main_v61 : Ref sig .tc := ⟨.hbm, 78, rfl⟩
abbrev main_v62 : Ref sig .tc := ⟨.hbm, 79, rfl⟩
abbrev main_v63 : Ref sig .tc := ⟨.hbm, 80, rfl⟩
abbrev main_v64 : Ref sig .tc := ⟨.hbm, 81, rfl⟩
abbrev main_v65 : Ref sig .tc := ⟨.hbm, 82, rfl⟩
abbrev main_v66 : Ref sig .tc := ⟨.hbm, 83, rfl⟩
abbrev main_v67 : Ref sig .tc := ⟨.hbm, 84, rfl⟩
abbrev main_cst_9 : Ref sig .tc := ⟨.hbm, 85, rfl⟩
abbrev main_v68 : Ref sig .tc := ⟨.hbm, 86, rfl⟩
abbrev main_v69 : Ref sig .tc := ⟨.hbm, 87, rfl⟩
abbrev main_cst_10 : Ref sig .tc := ⟨.hbm, 88, rfl⟩
abbrev main_v70 : Ref sig .tc := ⟨.hbm, 89, rfl⟩
abbrev main_v71 : Ref sig .tc := ⟨.hbm, 90, rfl⟩
abbrev main_v72 : Ref sig .tc := ⟨.hbm, 91, rfl⟩
abbrev main_v73 : Ref sig .tc := ⟨.hbm, 92, rfl⟩
abbrev main_v74 : Ref sig .tc := ⟨.hbm, 93, rfl⟩
abbrev main_v75 : Ref sig .tc := ⟨.hbm, 94, rfl⟩

abbrev nD : Nat := 1
abbrev τ : Topo := Topo.v7x

variable {F : FTy → Type} [FloatOps F]
-- ==== Kernel5.lean ====
abbrev S8x4096x1024 : Shape := ⟨3, ![8, 4096, 1024]⟩
abbrev S8x256x1024 : Shape := ⟨3, ![8, 256, 1024]⟩
abbrev S1024x1024 : Shape := ⟨2, ![1024, 1024]⟩
abbrev S8x6144 : Shape := ⟨2, ![8, 6144]⟩
abbrev S6144 : Shape := ⟨1, ![6144]⟩
abbrev S32768x1024 : Shape := ⟨2, ![32768, 1024]⟩
abbrev S2048x1024 : Shape := ⟨2, ![2048, 1024]⟩
abbrev S34816x1024 : Shape := ⟨2, ![34816, 1024]⟩
abbrev S1x6144 : Shape := ⟨2, ![1, 6144]⟩
abbrev S_ : Shape := ⟨0, ![]⟩
abbrev S7x6144 : Shape := ⟨2, ![7, 6144]⟩
abbrev S16x6144 : Shape := ⟨2, ![16, 6144]⟩
abbrev S96x1x1024 : Shape := ⟨3, ![96, 1, 1024]⟩
abbrev S1x1024 : Shape := ⟨2, ![1, 1024]⟩
abbrev S256x1024 : Shape := ⟨2, ![256, 1024]⟩
abbrev S1x1x1024 : Shape := ⟨3, ![1, 1, 1024]⟩

abbrev nBuf : Space → Nat
  | .hbm => 23
  | .vmem => 10
  | .smem => 0
  | _ => 0

abbrev bufTy : (tb : Table) → Fin (tcTables nBuf tb) → BufTy
  | .hbm, ⟨0, _⟩ => ⟨S8x4096x1024, .f32⟩
  | .hbm, ⟨1, _⟩ => ⟨S8x256x1024, .f32⟩
  | .hbm, ⟨2, _⟩ => ⟨S1024x1024, .f32⟩
  | .hbm, ⟨3, _⟩ => ⟨S8x4096x1024, .f32⟩
  | .hbm, ⟨4, _⟩ => ⟨S8x256x1024, .f32⟩
  | .hbm, ⟨5, _⟩ => ⟨S8x6144, .f32⟩
  | .hbm, ⟨6, _⟩ => ⟨S6144, .f32⟩
  | .hbm, ⟨7, _⟩ => ⟨S32768x1024, .f32⟩
  | .hbm, ⟨8, _⟩ => ⟨S2048x1024, .f32⟩
  | .hbm, ⟨9, _⟩ => ⟨S34816x1024, .f32⟩
  | .hbm, ⟨10, _⟩ => ⟨S1x6144, .f32⟩
  | .hbm, ⟨11, _⟩ => ⟨S_, .f32⟩
  | .hbm, ⟨12, _⟩ => ⟨S7x6144, .f32⟩
  | .hbm, ⟨13, _⟩ => ⟨S16x6144, .f32⟩
  | .hbm, ⟨14, _⟩ => ⟨S96x1x1024, .f32⟩
  | .hbm, ⟨15, _⟩ => ⟨S32768x1024, .f32⟩
  | .hbm, ⟨16, _⟩ => ⟨S2048x1024, .f32⟩
  | .hbm, ⟨17, _⟩ => ⟨S34816x1024, .f32⟩
  | .hbm, ⟨18, _⟩ => ⟨S34816x1024, .bf16⟩
  | .hbm, ⟨19, _⟩ => ⟨S1024x1024, .bf16⟩
  | .hbm, ⟨20, _⟩ => ⟨S_, .f32⟩
  | .hbm, ⟨21, _⟩ => ⟨S1x1024, .f32⟩
  | .hbm, ⟨22, _⟩ => ⟨S34816x1024, .f32⟩
  | .local _ .vmem, ⟨0, _⟩ => ⟨S256x1024, .bf16⟩
  | .local _ .vmem, ⟨1, _⟩ => ⟨S256x1024, .bf16⟩
  | .local _ .vmem, ⟨2, _⟩ => ⟨S1024x1024, .bf16⟩
  | .local _ .vmem, ⟨3, _⟩ => ⟨S1x1024, .f32⟩
  | .local _ .vmem, ⟨4, _⟩ => ⟨S256x1024, .f32⟩
  | .local _ .vmem, ⟨5, _⟩ => ⟨S256x1024, .f32⟩
  | .local _ .vmem, ⟨6, _⟩ => ⟨S1x1x1024, .f32⟩
  | .local _ .vmem, ⟨7, _⟩ => ⟨S1x1x1024, .f32⟩
  | .local _ .vmem, ⟨8, _⟩ => ⟨S256x1024, .f32⟩
  | .local _ .vmem, ⟨9, _⟩ => ⟨S256x1024, .f32⟩
  | _, _ => ⟨S8x4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_cst : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_cst_0 : Ref sig .tc := ⟨.hbm, 20, rfl⟩
abbrev main_v12 : Ref sig .tc := ⟨.hbm, 21, rfl⟩
abbrev main_v13 : Ref sig .tc := ⟨.hbm, 22, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7
abbrev cc0_sem5_0 : DmaSem sig := 8
abbrev cc0_sem5_1 : DmaSem sig := 9

abbrev nD : Nat := 1
abbrev τ : Topo := Topo.v7x

variable {F : FTy → Type} [FloatOps F]

abbrev grid0 : Pipeline.Grid := ⟨1, ![136], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 3 → Nat :=
  let arg0 : BitVec 32 := BitVec.ofNat 32 (i 0).val
  let c128_i32 : BitVec 32 := 128#32
  let v0 : BitVec 1 := Scalar.cmpi .slt arg0 c128_i32
  let c16_i32 : BitVec 32 := 16#32
  let v1 : BitVec 32 := Scalar.divsi arg0 c16_i32
  let c0_i32 : BitVec 32 := 0#32
  let v2 : BitVec 1 := Scalar.cmpi .sgt arg0 c0_i32
  let v3 : BitVec 32 := Scalar.extui v2
  let c0_i32_0 : BitVec 32 := 0#32
  let v4 : BitVec 1 := Scalar.cmpi .slt arg0 c0_i32_0
  let v5 : BitVec 32 := Scalar.extui v4
  let v6 : BitVec 32 := Scalar.subi v3 v5
  let c0_i32_1 : BitVec 32 := 0#32
  let v7 : BitVec 1 := Scalar.cmpi .sgt c16_i32 c0_i32_1
  let v8 : BitVec 32 := Scalar.extui v7
  let c0_i32_2 : BitVec 32 := 0#32
  let v9 : BitVec 1 := Scalar.cmpi .slt c16_i32 c0_i32_2
  let v10 : BitVec 32 := Scalar.extui v9
  let v11 : BitVec 32 := Scalar.subi v8 v10
  let v12 : BitVec 1 := Scalar.cmpi .ne v6 v11
  let v13 : BitVec 32 := Scalar.remsi arg0 c16_i32
  let c0_i32_3 : BitVec 32 := 0#32
  let v14 : BitVec 1 := Scalar.cmpi .ne v13 c0_i32_3
  let v15 : BitVec 1 := Scalar.andi v12 v14
  let c1_i32 : BitVec 32 := 1#32
  let v16 : BitVec 32 := Scalar.subi v1 c1_i32
  let v17 : BitVec 32 := Scalar.select v15 v16 v1
  let c8_i32 : BitVec 32 := 8#32
  let v18 : BitVec 32 := Scalar.select v0 v17 c8_i32
  let c6_i32 : BitVec 32 := 6#32
  let v19 : BitVec 32 := Scalar.muli v18 c6_i32
  let c2_i32 : BitVec 32 := 2#32
  let v20 : BitVec 32 := Scalar.addi v19 c2_i32
  let c0_i32_4 : BitVec 32 := 0#32
  let c0_i32_5 : BitVec 32 := 0#32
  let c0_i32_6 : BitVec 32 := 0#32
  ![v20.toNat, c0_i32_4.toNat, c0_i32_5.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S256x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x1x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== Reference5Ideal.lean ====
abbrev S8x4096x1024 : Shape := ⟨3, ![8, 4096, 1024]⟩
abbrev S8x256x1024 : Shape := ⟨3, ![8, 256, 1024]⟩
abbrev S1024x1024 : Shape := ⟨2, ![1024, 1024]⟩
abbrev S8x6144 : Shape := ⟨2, ![8, 6144]⟩
abbrev S6144 : Shape := ⟨1, ![6144]⟩
abbrev S8x1024 : Shape := ⟨2, ![8, 1024]⟩
abbrev S8x1x1024 : Shape := ⟨3, ![8, 1, 1024]⟩
abbrev S1024 : Shape := ⟨1, ![1024]⟩
abbrev S1x1x1024 : Shape := ⟨3, ![1, 1, 1024]⟩
abbrev S32768x1024 : Shape := ⟨2, ![32768, 1024]⟩
abbrev S2048x1024 : Shape := ⟨2, ![2048, 1024]⟩
abbrev S34816x1024 : Shape := ⟨2, ![34816, 1024]⟩

abbrev nBuf : Space → Nat
  | .hbm => 22
  | .vmem => 0
  | .smem => 0
  | _ => 0

abbrev bufTy : (tb : Table) → Fin (tcTables nBuf tb) → BufTy
  | .hbm, ⟨0, _⟩ => ⟨S8x4096x1024, .f32⟩
  | .hbm, ⟨1, _⟩ => ⟨S8x256x1024, .f32⟩
  | .hbm, ⟨2, _⟩ => ⟨S1024x1024, .f32⟩
  | .hbm, ⟨3, _⟩ => ⟨S8x4096x1024, .f32⟩
  | .hbm, ⟨4, _⟩ => ⟨S8x256x1024, .f32⟩
  | .hbm, ⟨5, _⟩ => ⟨S8x6144, .f32⟩
  | .hbm, ⟨6, _⟩ => ⟨S6144, .f32⟩
  | .hbm, ⟨7, _⟩ => ⟨S8x1024, .f32⟩
  | .hbm, ⟨8, _⟩ => ⟨S8x1x1024, .f32⟩
  | .hbm, ⟨9, _⟩ => ⟨S8x4096x1024, .f32⟩
  | .hbm, ⟨10, _⟩ => ⟨S8x4096x1024, .f32⟩
  | .hbm, ⟨11, _⟩ => ⟨S8x4096x1024, .f32⟩
  | .hbm, ⟨12, _⟩ => ⟨S8x4096x1024, .f32⟩
  | .hbm, ⟨13, _⟩ => ⟨S1024, .f32⟩
  | .hbm, ⟨14, _⟩ => ⟨S8x256x1024, .f32⟩
  | .hbm, ⟨15, _⟩ => ⟨S1x1x1024, .f32⟩
  | .hbm, ⟨16, _⟩ => ⟨S8x256x1024, .f32⟩
  | .hbm, ⟨17, _⟩ => ⟨S8x256x1024, .f32⟩
  | .hbm, ⟨18, _⟩ => ⟨S8x256x1024, .f32⟩
  | .hbm, ⟨19, _⟩ => ⟨S32768x1024, .f32⟩
  | .hbm, ⟨20, _⟩ => ⟨S2048x1024, .f32⟩
  | .hbm, ⟨21, _⟩ => ⟨S34816x1024, .f32⟩
  | _, _ => ⟨S8x4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩

abbrev nD : Nat := 1
abbrev τ : Topo := Topo.v7x

variable {F : FTy → Type} [FloatOps F]
-- ==== Kernel6.lean ====
abbrev S8x4096x1024 : Shape := ⟨3, ![8, 4096, 1024]⟩
abbrev S8x256x1024 : Shape := ⟨3, ![8, 256, 1024]⟩
abbrev S1024x1024 : Shape := ⟨2, ![1024, 1024]⟩
abbrev S8x6144 : Shape := ⟨2, ![8, 6144]⟩
abbrev S6144 : Shape := ⟨1, ![6144]⟩
abbrev S32768x1024 : Shape := ⟨2, ![32768, 1024]⟩
abbrev S2048x1024 : Shape := ⟨2, ![2048, 1024]⟩
abbrev S34816x1024 : Shape := ⟨2, ![34816, 1024]⟩
abbrev S1x6144 : Shape := ⟨2, ![1, 6144]⟩
abbrev S_ : Shape := ⟨0, ![]⟩
abbrev S7x6144 : Shape := ⟨2, ![7, 6144]⟩
abbrev S16x6144 : Shape := ⟨2, ![16, 6144]⟩
abbrev S96x1x1024 : Shape := ⟨3, ![96, 1, 1024]⟩
abbrev S1x1024 : Shape := ⟨2, ![1, 1024]⟩
abbrev S256x1024 : Shape := ⟨2, ![256, 1024]⟩
abbrev S1x1x1024 : Shape := ⟨3, ![1, 1, 1024]⟩

abbrev nBuf : Space → Nat
  | .hbm => 23
  | .vmem => 10
  | .smem => 0
  | _ => 0

abbrev bufTy : (tb : Table) → Fin (tcTables nBuf tb) → BufTy
  | .hbm, ⟨0, _⟩ => ⟨S8x4096x1024, .f32⟩
  | .hbm, ⟨1, _⟩ => ⟨S8x256x1024, .f32⟩
  | .hbm, ⟨2, _⟩ => ⟨S1024x1024, .f32⟩
  | .hbm, ⟨3, _⟩ => ⟨S8x4096x1024, .f32⟩
  | .hbm, ⟨4, _⟩ => ⟨S8x256x1024, .f32⟩
  | .hbm, ⟨5, _⟩ => ⟨S8x6144, .f32⟩
  | .hbm, ⟨6, _⟩ => ⟨S6144, .f32⟩
  | .hbm, ⟨7, _⟩ => ⟨S32768x1024, .f32⟩
  | .hbm, ⟨8, _⟩ => ⟨S2048x1024, .f32⟩
  | .hbm, ⟨9, _⟩ => ⟨S34816x1024, .f32⟩
  | .hbm, ⟨10, _⟩ => ⟨S1x6144, .f32⟩
  | .hbm, ⟨11, _⟩ => ⟨S_, .f32⟩
  | .hbm, ⟨12, _⟩ => ⟨S7x6144, .f32⟩
  | .hbm, ⟨13, _⟩ => ⟨S16x6144, .f32⟩
  | .hbm, ⟨14, _⟩ => ⟨S96x1x1024, .f32⟩
  | .hbm, ⟨15, _⟩ => ⟨S32768x1024, .f32⟩
  | .hbm, ⟨16, _⟩ => ⟨S2048x1024, .f32⟩
  | .hbm, ⟨17, _⟩ => ⟨S34816x1024, .f32⟩
  | .hbm, ⟨18, _⟩ => ⟨S34816x1024, .bf16⟩
  | .hbm, ⟨19, _⟩ => ⟨S1024x1024, .bf16⟩
  | .hbm, ⟨20, _⟩ => ⟨S_, .f32⟩
  | .hbm, ⟨21, _⟩ => ⟨S1x1024, .f32⟩
  | .hbm, ⟨22, _⟩ => ⟨S32768x1024, .f32⟩
  | .local _ .vmem, ⟨0, _⟩ => ⟨S256x1024, .bf16⟩
  | .local _ .vmem, ⟨1, _⟩ => ⟨S256x1024, .bf16⟩
  | .local _ .vmem, ⟨2, _⟩ => ⟨S1024x1024, .bf16⟩
  | .local _ .vmem, ⟨3, _⟩ => ⟨S1x1024, .f32⟩
  | .local _ .vmem, ⟨4, _⟩ => ⟨S256x1024, .f32⟩
  | .local _ .vmem, ⟨5, _⟩ => ⟨S256x1024, .f32⟩
  | .local _ .vmem, ⟨6, _⟩ => ⟨S1x1x1024, .f32⟩
  | .local _ .vmem, ⟨7, _⟩ => ⟨S1x1x1024, .f32⟩
  | .local _ .vmem, ⟨8, _⟩ => ⟨S256x1024, .f32⟩
  | .local _ .vmem, ⟨9, _⟩ => ⟨S256x1024, .f32⟩
  | _, _ => ⟨S8x4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_cst : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_cst_0 : Ref sig .tc := ⟨.hbm, 20, rfl⟩
abbrev main_v12 : Ref sig .tc := ⟨.hbm, 21, rfl⟩
abbrev main_v13 : Ref sig .tc := ⟨.hbm, 22, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7
abbrev cc0_sem5_0 : DmaSem sig := 8
abbrev cc0_sem5_1 : DmaSem sig := 9

abbrev nD : Nat := 1
abbrev τ : Topo := Topo.v7x

variable {F : FTy → Type} [FloatOps F]

abbrev grid0 : Pipeline.Grid := ⟨1, ![128], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 3 → Nat :=
  let arg0 : BitVec 32 := BitVec.ofNat 32 (i 0).val
  let c128_i32 : BitVec 32 := 128#32
  let v0 : BitVec 1 := Scalar.cmpi .slt arg0 c128_i32
  let c16_i32 : BitVec 32 := 16#32
  let v1 : BitVec 32 := Scalar.divsi arg0 c16_i32
  let c0_i32 : BitVec 32 := 0#32
  let v2 : BitVec 1 := Scalar.cmpi .sgt arg0 c0_i32
  let v3 : BitVec 32 := Scalar.extui v2
  let c0_i32_0 : BitVec 32 := 0#32
  let v4 : BitVec 1 := Scalar.cmpi .slt arg0 c0_i32_0
  let v5 : BitVec 32 := Scalar.extui v4
  let v6 : BitVec 32 := Scalar.subi v3 v5
  let c0_i32_1 : BitVec 32 := 0#32
  let v7 : BitVec 1 := Scalar.cmpi .sgt c16_i32 c0_i32_1
  let v8 : BitVec 32 := Scalar.extui v7
  let c0_i32_2 : BitVec 32 := 0#32
  let v9 : BitVec 1 := Scalar.cmpi .slt c16_i32 c0_i32_2
  let v10 : BitVec 32 := Scalar.extui v9
  let v11 : BitVec 32 := Scalar.subi v8 v10
  let v12 : BitVec 1 := Scalar.cmpi .ne v6 v11
  let v13 : BitVec 32 := Scalar.remsi arg0 c16_i32
  let c0_i32_3 : BitVec 32 := 0#32
  let v14 : BitVec 1 := Scalar.cmpi .ne v13 c0_i32_3
  let v15 : BitVec 1 := Scalar.andi v12 v14
  let c1_i32 : BitVec 32 := 1#32
  let v16 : BitVec 32 := Scalar.subi v1 c1_i32
  let v17 : BitVec 32 := Scalar.select v15 v16 v1
  let c8_i32 : BitVec 32 := 8#32
  let v18 : BitVec 32 := Scalar.select v0 v17 c8_i32
  let c6_i32 : BitVec 32 := 6#32
  let v19 : BitVec 32 := Scalar.muli v18 c6_i32
  let c2_i32 : BitVec 32 := 2#32
  let v20 : BitVec 32 := Scalar.addi v19 c2_i32
  let c0_i32_4 : BitVec 32 := 0#32
  let c0_i32_5 : BitVec 32 := 0#32
  let c0_i32_6 : BitVec 32 := 0#32
  ![v20.toNat, c0_i32_4.toNat, c0_i32_5.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S256x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x1x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== Reference6Ideal.lean ====
abbrev S8x4096x1024 : Shape := ⟨3, ![8, 4096, 1024]⟩
abbrev S8x256x1024 : Shape := ⟨3, ![8, 256, 1024]⟩
abbrev S1024x1024 : Shape := ⟨2, ![1024, 1024]⟩
abbrev S8x6144 : Shape := ⟨2, ![8, 6144]⟩
abbrev S6144 : Shape := ⟨1, ![6144]⟩
abbrev S8x1024 : Shape := ⟨2, ![8, 1024]⟩
abbrev S8x1x1024 : Shape := ⟨3, ![8, 1, 1024]⟩
abbrev S32768x1024 : Shape := ⟨2, ![32768, 1024]⟩

abbrev nBuf : Space → Nat
  | .hbm => 14
  | .vmem => 0
  | .smem => 0
  | _ => 0

abbrev bufTy : (tb : Table) → Fin (tcTables nBuf tb) → BufTy
  | .hbm, ⟨0, _⟩ => ⟨S8x4096x1024, .f32⟩
  | .hbm, ⟨1, _⟩ => ⟨S8x256x1024, .f32⟩
  | .hbm, ⟨2, _⟩ => ⟨S1024x1024, .f32⟩
  | .hbm, ⟨3, _⟩ => ⟨S8x4096x1024, .f32⟩
  | .hbm, ⟨4, _⟩ => ⟨S8x256x1024, .f32⟩
  | .hbm, ⟨5, _⟩ => ⟨S8x6144, .f32⟩
  | .hbm, ⟨6, _⟩ => ⟨S6144, .f32⟩
  | .hbm, ⟨7, _⟩ => ⟨S8x1024, .f32⟩
  | .hbm, ⟨8, _⟩ => ⟨S8x1x1024, .f32⟩
  | .hbm, ⟨9, _⟩ => ⟨S8x4096x1024, .f32⟩
  | .hbm, ⟨10, _⟩ => ⟨S8x4096x1024, .f32⟩
  | .hbm, ⟨11, _⟩ => ⟨S8x4096x1024, .f32⟩
  | .hbm, ⟨12, _⟩ => ⟨S8x4096x1024, .f32⟩
  | .hbm, ⟨13, _⟩ => ⟨S32768x1024, .f32⟩
  | _, _ => ⟨S8x4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩

abbrev nD : Nat := 1
abbrev τ : Topo := Topo.v7x

variable {F : FTy → Type} [FloatOps F]
-- ==== Kernel7.lean ====
abbrev S8x1024 : Shape := ⟨2, ![8, 1024]⟩
abbrev S1024 : Shape := ⟨1, ![1024]⟩
abbrev S4x1024x6144 : Shape := ⟨3, ![4, 1024, 6144]⟩
abbrev S4x6144 : Shape := ⟨2, ![4, 6144]⟩
abbrev S1x1024 : Shape := ⟨2, ![1, 1024]⟩
abbrev S_ : Shape := ⟨0, ![]⟩
abbrev S7x1024 : Shape := ⟨2, ![7, 1024]⟩
abbrev S16x1024 : Shape := ⟨2, ![16, 1024]⟩
abbrev S4x1x6144 : Shape := ⟨3, ![4, 1, 6144]⟩
abbrev S4x16x6144 : Shape := ⟨3, ![4, 16, 6144]⟩
abbrev S1x1024x1536 : Shape := ⟨3, ![1, 1024, 1536]⟩
abbrev S1x1x1536 : Shape := ⟨3, ![1, 1, 1536]⟩
abbrev S1x16x1536 : Shape := ⟨3, ![1, 16, 1536]⟩
abbrev S1024x1536 : Shape := ⟨2, ![1024, 1536]⟩
abbrev S16x1536 : Shape := ⟨2, ![16, 1536]⟩
abbrev S1x1536 : Shape := ⟨2, ![1, 1536]⟩

abbrev nBuf : Space → Nat
  | .hbm => 10
  | .vmem => 7
  | .smem => 0
  | _ => 0

abbrev bufTy : (tb : Table) → Fin (tcTables nBuf tb) → BufTy
  | .hbm, ⟨0, _⟩ => ⟨S8x1024, .f32⟩
  | .hbm, ⟨1, _⟩ => ⟨S1024, .f32⟩
  | .hbm, ⟨2, _⟩ => ⟨S4x1024x6144, .f32⟩
  | .hbm, ⟨3, _⟩ => ⟨S4x6144, .f32⟩
  | .hbm, ⟨4, _⟩ => ⟨S1x1024, .f32⟩
  | .hbm, ⟨5, _⟩ => ⟨S_, .f32⟩
  | .hbm, ⟨6, _⟩ => ⟨S7x1024, .f32⟩
  | .hbm, ⟨7, _⟩ => ⟨S16x1024, .f32⟩
  | .hbm, ⟨8, _⟩ => ⟨S4x1x6144, .f32⟩
  | .hbm, ⟨9, _⟩ => ⟨S4x16x6144, .f32⟩
  | .local _ .vmem, ⟨0, _⟩ => ⟨S16x1024, .f32⟩
  | .local _ .vmem, ⟨1, _⟩ => ⟨S1x1024x1536, .f32⟩
  | .local _ .vmem, ⟨2, _⟩ => ⟨S1x1024x1536, .f32⟩
  | .local _ .vmem, ⟨3, _⟩ => ⟨S1x1x1536, .f32⟩
  | .local _ .vmem, ⟨4, _⟩ => ⟨S1x1x1536, .f32⟩
  | .local _ .vmem, ⟨5, _⟩ => ⟨S1x16x1536, .f32⟩
  | .local _ .vmem, ⟨6, _⟩ => ⟨S1x16x1536, .f32⟩
  | _, _ => ⟨S8x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨2, ![4, 4], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

abbrev stage0_0 : Fin 1 → Memref sig .tc .vmem S16x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, false]

abbrev stage0_1 : Fin 2 → Memref sig .tc .vmem S1x1024x1536 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x1x1536 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x16x1536 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== Reference7Ideal.lean ====
abbrev S8x1024 : Shape := ⟨2, ![8, 1024]⟩
abbrev S1024 : Shape := ⟨1, ![1024]⟩
abbrev S4x1024x6144 : Shape := ⟨3, ![4, 1024, 6144]⟩
abbrev S4x6144 : Shape := ⟨2, ![4, 6144]⟩
abbrev S1x1024 : Shape := ⟨2, ![1, 1024]⟩
abbrev S_ : Shape := ⟨0, ![]⟩
abbrev S7x1024 : Shape := ⟨2, ![7, 1024]⟩
abbrev S16x1024 : Shape := ⟨2, ![16, 1024]⟩
abbrev S4x6144x16 : Shape := ⟨3, ![4, 6144, 16]⟩
abbrev S4x16x6144 : Shape := ⟨3, ![4, 16, 6144]⟩
abbrev S4x1x6144 : Shape := ⟨3, ![4, 1, 6144]⟩

abbrev nBuf : Space → Nat
  | .hbm => 22
  | .vmem => 0
  | .smem => 0
  | _ => 0

abbrev bufTy : (tb : Table) → Fin (tcTables nBuf tb) → BufTy
  | .hbm, ⟨0, _⟩ => ⟨S8x1024, .f32⟩
  | .hbm, ⟨1, _⟩ => ⟨S1024, .f32⟩
  | .hbm, ⟨2, _⟩ => ⟨S4x1024x6144, .f32⟩
  | .hbm, ⟨3, _⟩ => ⟨S4x6144, .f32⟩
  | .hbm, ⟨4, _⟩ => ⟨S1x1024, .f32⟩
  | .hbm, ⟨5, _⟩ => ⟨S_, .f32⟩
  | .hbm, ⟨6, _⟩ => ⟨S7x1024, .f32⟩
  | .hbm, ⟨7, _⟩ => ⟨S16x1024, .f32⟩
  | .hbm, ⟨8, _⟩ => ⟨S16x1024, .f32⟩
  | .hbm, ⟨9, _⟩ => ⟨S16x1024, .f32⟩
  | .hbm, ⟨10, _⟩ => ⟨S_, .f32⟩
  | .hbm, ⟨11, _⟩ => ⟨S16x1024, .f32⟩
  | .hbm, ⟨12, _⟩ => ⟨S16x1024, .f32⟩
  | .hbm, ⟨13, _⟩ => ⟨S_, .f32⟩
  | .hbm, ⟨14, _⟩ => ⟨S16x1024, .f32⟩
  | .hbm, ⟨15, _⟩ => ⟨S16x1024, .f32⟩
  | .hbm, ⟨16, _⟩ => ⟨S16x1024, .f32⟩
  | .hbm, ⟨17, _⟩ => ⟨S4x6144x16, .f32⟩
  | .hbm, ⟨18, _⟩ => ⟨S4x16x6144, .f32⟩
  | .hbm, ⟨19, _⟩ => ⟨S4x1x6144, .f32⟩
  | .hbm, ⟨20, _⟩ => ⟨S4x16x6144, .f32⟩
  | .hbm, ⟨21, _⟩ => ⟨S4x16x6144, .f32⟩
  | _, _ => ⟨S8x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_call0_v0 : Ref sig .tc := ⟨.hbm, 8, rfl⟩
abbrev main_call0_v1 : Ref sig .tc := ⟨.hbm, 9, rfl⟩
abbrev main_call0_cst : Ref sig .tc := ⟨.hbm, 10, rfl⟩
abbrev main_call0_v2 : Ref sig .tc := ⟨.hbm, 11, rfl⟩
abbrev main_call0_v3 : Ref sig .tc := ⟨.hbm, 12, rfl⟩
abbrev main_call0_cst_0 : Ref sig .tc := ⟨.hbm, 13, rfl⟩
abbrev main_call0_v4 : Ref sig .tc := ⟨.hbm, 14, rfl⟩
abbrev main_call0_v5 : Ref sig .tc := ⟨.hbm, 15, rfl⟩
abbrev main_v3 : Ref sig .tc := ⟨.hbm, 16, rfl⟩
abbrev main_v4 : Ref sig .tc := ⟨.hbm, 17, rfl⟩
abbrev main_v5 : Ref sig .tc := ⟨.hbm, 18, rfl⟩
abbrev main_v6 : Ref sig .tc := ⟨.hbm, 19, rfl⟩
abbrev main_v7 : Ref sig .tc := ⟨.hbm, 20, rfl⟩
abbrev main_v8 : Ref sig .tc := ⟨.hbm, 21, rfl⟩

abbrev nD : Nat := 1
abbrev τ : Topo := Topo.v7x

variable {F : FTy → Type} [FloatOps F]
-- ==== Kernel8.lean ====
abbrev S8x4096x1024 : Shape := ⟨3, ![8, 4096, 1024]⟩
abbrev S8x256x1024 : Shape := ⟨3, ![8, 256, 1024]⟩
abbrev S1024 : Shape := ⟨1, ![1024]⟩
abbrev S8x6144 : Shape := ⟨2, ![8, 6144]⟩
abbrev S6144 : Shape := ⟨1, ![6144]⟩
abbrev S1024x1024 : Shape := ⟨2, ![1024, 1024]⟩
abbrev S1024x512 : Shape := ⟨2, ![1024, 512]⟩
abbrev S128 : Shape := ⟨1, ![128]⟩
abbrev S32768x1024 : Shape := ⟨2, ![32768, 1024]⟩
abbrev S2048x1024 : Shape := ⟨2, ![2048, 1024]⟩
abbrev S34816x1024 : Shape := ⟨2, ![34816, 1024]⟩
abbrev S1x6144 : Shape := ⟨2, ![1, 6144]⟩
abbrev S_ : Shape := ⟨0, ![]⟩
abbrev S7x6144 : Shape := ⟨2, ![7, 6144]⟩
abbrev S16x6144 : Shape := ⟨2, ![16, 6144]⟩
abbrev S96x1x1024 : Shape := ⟨3, ![96, 1, 1024]⟩
abbrev S64 : Shape := ⟨1, ![64]⟩
abbrev S64x64 : Shape := ⟨2, ![64, 64]⟩
abbrev S4096 : Shape := ⟨1, ![4096]⟩
abbrev S1x64 : Shape := ⟨2, ![1, 64]⟩
abbrev S32 : Shape := ⟨1, ![32]⟩
abbrev S4096x1 : Shape := ⟨2, ![4096, 1]⟩
abbrev S1x32 : Shape := ⟨2, ![1, 32]⟩
abbrev S4096x32 : Shape := ⟨2, ![4096, 32]⟩
abbrev S4096x128 : Shape := ⟨2, ![4096, 128]⟩
abbrev S256x128 : Shape := ⟨2, ![256, 128]⟩
abbrev S4352x128 : Shape := ⟨2, ![4352, 128]⟩
abbrev S1024x1536 : Shape := ⟨2, ![1024, 1536]⟩
abbrev S1x1024 : Shape := ⟨2, ![1, 1024]⟩
abbrev S1x128 : Shape := ⟨2, ![1, 128]⟩
abbrev S34816x1536 : Shape := ⟨2, ![34816, 1536]⟩
abbrev S256x1024 : Shape := ⟨2, ![256, 1024]⟩
abbrev S1x1x1024 : Shape := ⟨3, ![1, 1, 1024]⟩
abbrev S256x1536 : Shape := ⟨2, ![256, 1536]⟩
abbrev S256 : Shape := ⟨1, ![256]⟩
abbrev S256x1 : Shape := ⟨2, ![256, 1]⟩
abbrev S256x256 : Shape := ⟨2, ![256, 256]⟩

abbrev nBuf : Space → Nat
  | .hbm => 68
  | .vmem => 16
  | .smem => 0
  | _ => 0

abbrev bufTy : (tb : Table) → Fin (tcTables nBuf tb) → BufTy
  | .hbm, ⟨0, _⟩ => ⟨S8x4096x1024, .f32⟩
  | .hbm, ⟨1, _⟩ => ⟨S8x256x1024, .f32⟩
  | .hbm, ⟨2, _⟩ => ⟨S1024, .f32⟩
  | .hbm, ⟨3, _⟩ => ⟨S8x6144, .f32⟩
  | .hbm, ⟨4, _⟩ => ⟨S6144, .f32⟩
  | .hbm, ⟨5, _⟩ => ⟨S1024x1024, .f32⟩
  | .hbm, ⟨6, _⟩ => ⟨S1024x512, .f32⟩
  | .hbm, ⟨7, _⟩ => ⟨S128, .f32⟩
  | .hbm, ⟨8, _⟩ => ⟨S128, .f32⟩
  | .hbm, ⟨9, _⟩ => ⟨S32768x1024, .f32⟩
  | .hbm, ⟨10, _⟩ => ⟨S2048x1024, .f32⟩
  | .hbm, ⟨11, _⟩ => ⟨S34816x1024, .f32⟩
  | .hbm, ⟨12, _⟩ => ⟨S1x6144, .f32⟩
  | .hbm, ⟨13, _⟩ => ⟨S_, .f32⟩
  | .hbm, ⟨14, _⟩ => ⟨S7x6144, .f32⟩
  | .hbm, ⟨15, _⟩ => ⟨S16x6144, .f32⟩
  | .hbm, ⟨16, _⟩ => ⟨S96x1x1024, .f32⟩
  | .hbm, ⟨17, _⟩ => ⟨S64, .i32⟩
  | .hbm, ⟨18, _⟩ => ⟨S64x64, .i32⟩
  | .hbm, ⟨19, _⟩ => ⟨S4096, .i32⟩
  | .hbm, ⟨20, _⟩ => ⟨S4096, .f32⟩
  | .hbm, ⟨21, _⟩ => ⟨S64, .i32⟩
  | .hbm, ⟨22, _⟩ => ⟨S1x64, .i32⟩
  | .hbm, ⟨23, _⟩ => ⟨S64x64, .i32⟩
  | .hbm, ⟨24, _⟩ => ⟨S4096, .i32⟩
  | .hbm, ⟨25, _⟩ => ⟨S4096, .f32⟩
  | .hbm, ⟨26, _⟩ => ⟨S32, .f32⟩
  | .hbm, ⟨27, _⟩ => ⟨S32, .f32⟩
  | .hbm, ⟨28, _⟩ => ⟨S_, .f32⟩
  | .hbm, ⟨29, _⟩ => ⟨S32, .f32⟩
  | .hbm, ⟨30, _⟩ => ⟨S32, .f32⟩
  | .hbm, ⟨31, _⟩ => ⟨S_, .f32⟩
  | .hbm, ⟨32, _⟩ => ⟨S32, .f32⟩
  | .hbm, ⟨33, _⟩ => ⟨S32, .f32⟩
  | .hbm, ⟨34, _⟩ => ⟨S4096x1, .f32⟩
  | .hbm, ⟨35, _⟩ => ⟨S1x32, .f32⟩
  | .hbm, ⟨36, _⟩ => ⟨S4096x32, .f32⟩
  | .hbm, ⟨37, _⟩ => ⟨S4096x32, .f32⟩
  | .hbm, ⟨38, _⟩ => ⟨S4096x32, .f32⟩
  | .hbm, ⟨39, _⟩ => ⟨S4096x1, .f32⟩
  | .hbm, ⟨40, _⟩ => ⟨S1x32, .f32⟩
  | .hbm, ⟨41, _⟩ => ⟨S4096x32, .f32⟩
  | .hbm, ⟨42, _⟩ => ⟨S4096x32, .f32⟩
  | .hbm, ⟨43, _⟩ => ⟨S4096x32, .f32⟩
  | .hbm, ⟨44, _⟩ => ⟨S4096x32, .f32⟩
  | .hbm, ⟨45, _⟩ => ⟨S4096x32, .f32⟩
  | .hbm, ⟨46, _⟩ => ⟨S4096x32, .f32⟩
  | .hbm, ⟨47, _⟩ => ⟨S4096x32, .f32⟩
  | .hbm, ⟨48, _⟩ => ⟨S4096x128, .f32⟩
  | .hbm, ⟨49, _⟩ => ⟨S4096x32, .f32⟩
  | .hbm, ⟨50, _⟩ => ⟨S4096x32, .f32⟩
  | .hbm, ⟨51, _⟩ => ⟨S4096x32, .f32⟩
  | .hbm, ⟨52, _⟩ => ⟨S4096x32, .f32⟩
  | .hbm, ⟨53, _⟩ => ⟨S4096x32, .f32⟩
  | .hbm, ⟨54, _⟩ => ⟨S4096x32, .f32⟩
  | .hbm, ⟨55, _⟩ => ⟨S4096x128, .f32⟩
  | .hbm, ⟨56, _⟩ => ⟨S_, .f32⟩
  | .hbm, ⟨57, _⟩ => ⟨S256x128, .f32⟩
  | .hbm, ⟨58, _⟩ => ⟨S4352x128, .f32⟩
  | .hbm, ⟨59, _⟩ => ⟨S_, .f32⟩
  | .hbm, ⟨60, _⟩ => ⟨S256x128, .f32⟩
  | .hbm, ⟨61, _⟩ => ⟨S4352x128, .f32⟩
  | .hbm, ⟨62, _⟩ => ⟨S1024x1536, .f32⟩
  | .hbm, ⟨63, _⟩ => ⟨S1024x1536, .bf16⟩
  | .hbm, ⟨64, _⟩ => ⟨S1x1024, .f32⟩
  | .hbm, ⟨65, _⟩ => ⟨S1x128, .f32⟩
  | .hbm, ⟨66, _⟩ => ⟨S1x128, .f32⟩
  | .hbm, ⟨67, _⟩ => ⟨S34816x1536, .bf16⟩
  | .local _ .vmem, ⟨0, _⟩ => ⟨S256x1024, .f32⟩
  | .local _ .vmem, ⟨1, _⟩ => ⟨S256x1024, .f32⟩
  | .local _ .vmem, ⟨2, _⟩ => ⟨S1x1024, .f32⟩
  | .local _ .vmem, ⟨3, _⟩ => ⟨S1x1x1024, .f32⟩
  | .local _ .vmem, ⟨4, _⟩ => ⟨S1x1x1024, .f32⟩
  | .local _ .vmem, ⟨5, _⟩ => ⟨S1x1x1024, .f32⟩
  | .local _ .vmem, ⟨6, _⟩ => ⟨S1x1x1024, .f32⟩
  | .local _ .vmem, ⟨7, _⟩ => ⟨S1024x1536, .bf16⟩
  | .local _ .vmem, ⟨8, _⟩ => ⟨S256x128, .f32⟩
  | .local _ .vmem, ⟨9, _⟩ => ⟨S256x128, .f32⟩
  | .local _ .vmem, ⟨10, _⟩ => ⟨S256x128, .f32⟩
  | .local _ .vmem, ⟨11, _⟩ => ⟨S256x128, .f32⟩
  | .local _ .vmem, ⟨12, _⟩ => ⟨S1x128, .f32⟩
  | .local _ .vmem, ⟨13, _⟩ => ⟨S1x128, .f32⟩
  | .local _ .vmem, ⟨14, _⟩ => ⟨S256x1536, .bf16⟩
  | .local _ .vmem, ⟨15, _⟩ => ⟨S256x1536, .bf16⟩
  | _, _ => ⟨S8x4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_cst : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_cst_0 : Ref sig .tc := ⟨.hbm, 28, rfl⟩
abbrev main_v18 : Ref sig .tc := ⟨.hbm, 29, rfl⟩
abbrev main_v19 : Ref sig .tc := ⟨.hbm, 30, rfl⟩
abbrev main_cst_1 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_v35 : Ref sig .tc := ⟨.hbm, 47, rfl⟩
abbrev main_v36 : Ref sig .tc := ⟨.hbm, 48, rfl⟩
abbrev main_v37 : Ref sig .tc := ⟨.hbm, 49, rfl⟩
abbrev main_v38 : Ref sig .tc := ⟨.hbm, 50, rfl⟩
abbrev main_v39 : Ref sig .tc := ⟨.hbm, 51, rfl⟩
abbrev main_v40 : Ref sig .tc := ⟨.hbm, 52, rfl⟩
abbrev main_v41 : Ref sig .tc := ⟨.hbm, 53, rfl⟩
abbrev main_v42 : Ref sig .tc := ⟨.hbm, 54, rfl⟩
abbrev main_v43 : Ref sig .tc := ⟨.hbm, 55, rfl⟩
abbrev main_cst_2 : Ref sig .tc := ⟨.hbm, 56, rfl⟩
abbrev main_v44 : Ref sig .tc := ⟨.hbm, 57, rfl⟩
abbrev main_v45 : Ref sig .tc := ⟨.hbm, 58, rfl⟩
abbrev main_cst_3 : Ref sig .tc := ⟨.hbm, 59, rfl⟩
abbrev main_v46 : Ref sig .tc := ⟨.hbm, 60, rfl⟩
abbrev main_v47 : Ref sig .tc := ⟨.hbm, 61, rfl⟩
abbrev main_v48 : Ref sig .tc := ⟨.hbm, 62, rfl⟩
abbrev main_v49 : Ref sig .tc := ⟨.hbm, 63, rfl⟩
abbrev main_v50 : Ref sig .tc := ⟨.hbm, 64, rfl⟩
abbrev main_v51 : Ref sig .tc := ⟨.hbm, 65, rfl⟩
abbrev main_v52 : Ref sig .tc := ⟨.hbm, 66, rfl⟩
abbrev main_v53 : Ref sig .tc := ⟨.hbm, 67, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg8_0 : Ref sig .tc := ⟨.vmem, 13, rfl⟩
abbrev cc0_stg9_0 : Ref sig .tc := ⟨.vmem, 14, rfl⟩
abbrev cc0_stg9_1 : Ref sig .tc := ⟨.vmem, 15, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem5_0 : DmaSem sig := 8
abbrev cc0_sem5_1 : DmaSem sig := 9
abbrev cc0_sem6_0 : DmaSem sig := 10
abbrev cc0_sem6_1 : DmaSem sig := 11
abbrev cc0_sem7_0 : DmaSem sig := 12
abbrev cc0_sem8_0 : DmaSem sig := 13
abbrev cc0_sem9_0 : DmaSem sig := 14
abbrev cc0_sem9_1 : DmaSem sig := 15

abbrev nD : Nat := 1
abbrev τ : Topo := Topo.v7x

variable {F : FTy → Type} [FloatOps F]

abbrev grid0 : Pipeline.Grid := ⟨1, ![136], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let c128_i32 : BitVec 32 := 128#32
  let v0 : BitVec 1 := Scalar.cmpi .slt arg0 c128_i32
  let c16_i32 : BitVec 32 := 16#32
  let v1 : BitVec 32 := Scalar.divsi arg0 c16_i32
  let c0_i32 : BitVec 32 := 0#32
  let v2 : BitVec 1 := Scalar.cmpi .sgt arg0 c0_i32
  let v3 : BitVec 32 := Scalar.extui v2
  let c0_i32_0 : BitVec 32 := 0#32
  let v4 : BitVec 1 := Scalar.cmpi .slt arg0 c0_i32_0
  let v5 : BitVec 32 := Scalar.extui v4
  let v6 : BitVec 32 := Scalar.subi v3 v5
  let c0_i32_1 : BitVec 32 := 0#32
  let v7 : BitVec 1 := Scalar.cmpi .sgt c16_i32 c0_i32_1
  let v8 : BitVec 32 := Scalar.extui v7
  let c0_i32_2 : BitVec 32 := 0#32
  let v9 : BitVec 1 := Scalar.cmpi .slt c16_i32 c0_i32_2
  let v10 : BitVec 32 := Scalar.extui v9
  let v11 : BitVec 32 := Scalar.subi v8 v10
  let v12 : BitVec 1 := Scalar.cmpi .ne v6 v11
  let v13 : BitVec 32 := Scalar.remsi arg0 c16_i32
  let c0_i32_3 : BitVec 32 := 0#32
  let v14 : BitVec 1 := Scalar.cmpi .ne v13 c0_i32_3
  let v15 : BitVec 1 := Scalar.andi v12 v14
  let c1_i32 : BitVec 32 := 1#32
  let v16 : BitVec 32 := Scalar.subi v1 c1_i32
  let v17 : BitVec 32 := Scalar.select v15 v16 v1
  let c8_i32 : BitVec 32 := 8#32
  let v18 : BitVec 32 := Scalar.select v0 v17 c8_i32
  let c6_i32 : BitVec 32 := 6#32
  let v19 : BitVec 32 := Scalar.muli v18 c6_i32
  let c0_i32_4 : BitVec 32 := 0#32
  let v20 : BitVec 32 := Scalar.addi v19 c0_i32_4
  let c0_i32_5 : BitVec 32 := 0#32
  let c0_i32_6 : BitVec 32 := 0#32
  let c0_i32_7 : BitVec 32 := 0#32
  ![v20.toNat, c0_i32_5.toNat, c0_i32_6.toNat]

def cc0_transform_3 (i : grid0.Coords) : Fin 3 → Nat :=
  let arg0 : BitVec 32 := BitVec.ofNat 32 (i 0).val
  let c128_i32 : BitVec 32 := 128#32
  let v0 : BitVec 1 := Scalar.cmpi .slt arg0 c128_i32
  let c16_i32 : BitVec 32 := 16#32
  let v1 : BitVec 32 := Scalar.divsi arg0 c16_i32
  let c0_i32 : BitVec 32 := 0#32
  let v2 : BitVec 1 := Scalar.cmpi .sgt arg0 c0_i32
  let v3 : BitVec 32 := Scalar.extui v2
  let c0_i32_0 : BitVec 32 := 0#32
  let v4 : BitVec 1 := Scalar.cmpi .slt arg0 c0_i32_0
  let v5 : BitVec 32 := Scalar.extui v4
  let v6 : BitVec 32 := Scalar.subi v3 v5
  let c0_i32_1 : BitVec 32 := 0#32
  let v7 : BitVec 1 := Scalar.cmpi .sgt c16_i32 c0_i32_1
  let v8 : BitVec 32 := Scalar.extui v7
  let c0_i32_2 : BitVec 32 := 0#32
  let v9 : BitVec 1 := Scalar.cmpi .slt c16_i32 c0_i32_2
  let v10 : BitVec 32 := Scalar.extui v9
  let v11 : BitVec 32 := Scalar.subi v8 v10
  let v12 : BitVec 1 := Scalar.cmpi .ne v6 v11
  let v13 : BitVec 32 := Scalar.remsi arg0 c16_i32
  let c0_i32_3 : BitVec 32 := 0#32
  let v14 : BitVec 1 := Scalar.cmpi .ne v13 c0_i32_3
  let v15 : BitVec 1 := Scalar.andi v12 v14
  let c1_i32 : BitVec 32 := 1#32
  let v16 : BitVec 32 := Scalar.subi v1 c1_i32
  let v17 : BitVec 32 := Scalar.select v15 v16 v1
  let c8_i32 : BitVec 32 := 8#32
  let v18 : BitVec 32 := Scalar.select v0 v17 c8_i32
  let c6_i32 : BitVec 32 := 6#32
  let v19 : BitVec 32 := Scalar.muli v18 c6_i32
  let c1_i32_4 : BitVec 32 := 1#32
  let v20 : BitVec 32 := Scalar.addi v19 c1_i32_4
  let c0_i32_5 : BitVec 32 := 0#32
  let c0_i32_6 : BitVec 32 := 0#32
  let c0_i32_7 : BitVec 32 := 0#32
  ![v20.toNat, c0_i32_5.toNat, c0_i32_6.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c128_i32 : BitVec 32 := 128#32
  let v0 : BitVec 1 := Scalar.cmpi .slt arg0 c128_i32
  let c16_i32 : BitVec 32 := 16#32
  let c0_i32 : BitVec 32 := 0#32
  let v1 : BitVec 1 := Scalar.cmpi .eq c16_i32 c0_i32
  let c1_i32 : BitVec 32 := 1#32
  let v2 : BitVec 32 := Scalar.select v1 c1_i32 c16_i32
  let v3 : BitVec 32 := Scalar.remsi arg0 v2
  let c0_i32_0 : BitVec 32 := 0#32
  let v4 : BitVec 1 := Scalar.cmpi .ne v3 c0_i32_0
  let c0_i32_1 : BitVec 32 := 0#32
  let v5 : BitVec 1 := Scalar.cmpi .slt v3 c0_i32_1
  let c0_i32_2 : BitVec 32 := 0#32
  let v6 : BitVec 1 := Scalar.cmpi .slt v2 c0_i32_2
  let v7 : BitVec 1 := Scalar.xori v5 v6
  let v8 : BitVec 1 := Scalar.andi v7 v4
  let v9 : BitVec 32 := Scalar.addi v3 v2
  let v10 : BitVec 32 := Scalar.select v8 v9 v3
  let c16_i32_3 : BitVec 32 := 16#32
  let v11 : BitVec 32 := Scalar.select v0 v10 c16_i32_3
  let c0_i32_4 : BitVec 32 := 0#32
  let c0_i32_5 : BitVec 32 := 0#32
  ![v11.toNat, c0_i32_4.toNat]

def cc0_transform_6 (i : grid0.Coords) : Fin 2 → Nat :=
  let arg0 : BitVec 32 := BitVec.ofNat 32 (i 0).val
  let c128_i32 : BitVec 32 := 128#32
  let v0 : BitVec 1 := Scalar.cmpi .slt arg0 c128_i32
  let c16_i32 : BitVec 32 := 16#32
  let c0_i32 : BitVec 32 := 0#32
  let v1 : BitVec 1 := Scalar.cmpi .eq c16_i32 c0_i32
  let c1_i32 : BitVec 32 := 1#32
  let v2 : BitVec 32 := Scalar.select v1 c1_i32 c16_i32
  let v3 : BitVec 32 := Scalar.remsi arg0 v2
  let c0_i32_0 : BitVec 32 := 0#32
  let v4 : BitVec 1 := Scalar.cmpi .ne v3 c0_i32_0
  let c0_i32_1 : BitVec 32 := 0#32
  let v5 : BitVec 1 := Scalar.cmpi .slt v3 c0_i32_1
  let c0_i32_2 : BitVec 32 := 0#32
  let v6 : BitVec 1 := Scalar.cmpi .slt v2 c0_i32_2
  let v7 : BitVec 1 := Scalar.xori v5 v6
  let v8 : BitVec 1 := Scalar.andi v7 v4
  let v9 : BitVec 32 := Scalar.addi v3 v2
  let v10 : BitVec 32 := Scalar.select v8 v9 v3
  let c16_i32_3 : BitVec 32 := 16#32
  let v11 : BitVec 32 := Scalar.select v0 v10 c16_i32_3
  let c0_i32_4 : BitVec 32 := 0#32
  let c0_i32_5 : BitVec 32 := 0#32
  ![v11.toNat, c0_i32_4.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S1x1x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x1x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S1024x1536 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S256x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 1 → Memref sig .tc .vmem S1x128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x128 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 2 → Memref sig .tc .vmem S256x1536 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]
-- ==== Reference8Ideal.lean ====
abbrev S8x4096x1024 : Shape := ⟨3, ![8, 4096, 1024]⟩
abbrev S8x256x1024 : Shape := ⟨3, ![8, 256, 1024]⟩
abbrev S1024 : Shape := ⟨1, ![1024]⟩
abbrev S8x6144 : Shape := ⟨2, ![8, 6144]⟩
abbrev S6144 : Shape := ⟨1, ![6144]⟩
abbrev S1024x1024 : Shape := ⟨2, ![1024, 1024]⟩
abbrev S1024x512 : Shape := ⟨2, ![1024, 512]⟩
abbrev S128 : Shape := ⟨1, ![128]⟩
abbrev S8x1024 : Shape := ⟨2, ![8, 1024]⟩
abbrev S8x1x1024 : Shape := ⟨3, ![8, 1, 1024]⟩
abbrev S_ : Shape := ⟨0, ![]⟩
abbrev S8x4096 : Shape := ⟨2, ![8, 4096]⟩
abbrev S8x4096x1 : Shape := ⟨3, ![8, 4096, 1]⟩
abbrev S1x1x1024 : Shape := ⟨3, ![1, 1, 1024]⟩
abbrev S8x256 : Shape := ⟨2, ![8, 256]⟩
abbrev S8x256x1 : Shape := ⟨3, ![8, 256, 1]⟩
abbrev S64 : Shape := ⟨1, ![64]⟩
abbrev S64x64 : Shape := ⟨2, ![64, 64]⟩
abbrev S4096 : Shape := ⟨1, ![4096]⟩
abbrev S1x64 : Shape := ⟨2, ![1, 64]⟩
abbrev S32 : Shape := ⟨1, ![32]⟩
abbrev S4096x1 : Shape := ⟨2, ![4096, 1]⟩
abbrev S1x32 : Shape := ⟨2, ![1, 32]⟩
abbrev S4096x32 : Shape := ⟨2, ![4096, 32]⟩
abbrev S8x4096x512 : Shape := ⟨3, ![8, 4096, 512]⟩
abbrev S8x4096x2x2x128 : Shape := ⟨5, ![8, 4096, 2, 2, 128]⟩
abbrev S8x4096x1x2x128 : Shape := ⟨5, ![8, 4096, 1, 2, 128]⟩
abbrev S8x4096x2x128 : Shape := ⟨4, ![8, 4096, 2, 128]⟩
abbrev S8x4096x2 : Shape := ⟨3, ![8, 4096, 2]⟩
abbrev S8x4096x2x1 : Shape := ⟨4, ![8, 4096, 2, 1]⟩
abbrev S1x1x1x128 : Shape := ⟨4, ![1, 1, 1, 128]⟩
abbrev S8x256x512 : Shape := ⟨3, ![8, 256, 512]⟩
abbrev S8x256x2x2x128 : Shape := ⟨5, ![8, 256, 2, 2, 128]⟩
abbrev S8x256x1x2x128 : Shape := ⟨5, ![8, 256, 1, 2, 128]⟩
abbrev S8x256x2x128 : Shape := ⟨4, ![8, 256, 2, 128]⟩
abbrev S8x256x2 : Shape := ⟨3, ![8, 256, 2]⟩
abbrev S8x256x2x1 : Shape := ⟨4, ![8, 256, 2, 1]⟩
abbrev S8x4096x8x128 : Shape := ⟨4, ![8, 4096, 8, 128]⟩
abbrev S8x4096x8 : Shape := ⟨3, ![8, 4096, 8]⟩
abbrev S8x4096x8x1 : Shape := ⟨4, ![8, 4096, 8, 1]⟩
abbrev S8x4096x8x64 : Shape := ⟨4, ![8, 4096, 8, 64]⟩
abbrev S4096x1x32 : Shape := ⟨3, ![4096, 1, 32]⟩
abbrev S8x4096x8x32 : Shape := ⟨4, ![8, 4096, 8, 32]⟩
abbrev S1x4096x1x32 : Shape := ⟨4, ![1, 4096, 1, 32]⟩
abbrev S8x4096x2x64 : Shape := ⟨4, ![8, 4096, 2, 64]⟩
abbrev S8x4096x2x32 : Shape := ⟨4, ![8, 4096, 2, 32]⟩
abbrev S32768x1024 : Shape := ⟨2, ![32768, 1024]⟩
abbrev S32768x256 : Shape := ⟨2, ![32768, 256]⟩
abbrev S32768x1536 : Shape := ⟨2, ![32768, 1536]⟩
abbrev S8x256x8x128 : Shape := ⟨4, ![8, 256, 8, 128]⟩
abbrev S8x256x8 : Shape := ⟨3, ![8, 256, 8]⟩
abbrev S8x256x8x1 : Shape := ⟨4, ![8, 256, 8, 1]⟩
abbrev S2048x1024 : Shape := ⟨2, ![2048, 1024]⟩
abbrev S2048x256 : Shape := ⟨2, ![2048, 256]⟩
abbrev S2048x1536 : Shape := ⟨2, ![2048, 1536]⟩
abbrev S34816x1536 : Shape := ⟨2, ![34816, 1536]⟩

abbrev nBuf : Space → Nat
  | .hbm => 276
  | .vmem => 0
  | .smem => 0
  | _ => 0

abbrev hbmTy0_0 (i : Nat) : BufTy := match i % 128 with
  | 0 => ⟨S8x4096x1024, .f32⟩
  | 1 => ⟨S8x256x1024, .f32⟩
  | 2 => ⟨S1024, .f32⟩
  | 3 => ⟨S8x6144, .f32⟩
  | 4 => ⟨S6144, .f32⟩
  | 5 => ⟨S1024x1024, .f32⟩
  | 6 => ⟨S1024x512, .f32⟩
  | 7 => ⟨S128, .f32⟩
  | 8 => ⟨S128, .f32⟩
  | 9 => ⟨S8x1024, .f32⟩
  | 10 => ⟨S8x1x1024, .f32⟩
  | 11 => ⟨S8x1024, .f32⟩
  | 12 => ⟨S8x1x1024, .f32⟩
  | 13 => ⟨S8x4096x1024, .f32⟩
  | 14 => ⟨S_, .f32⟩
  | 15 => ⟨S8x4096, .f32⟩
  | 16 => ⟨S8x4096x1, .f32⟩
  | 17 => ⟨S_, .f32⟩
  | 18 => ⟨S8x4096x1, .f32⟩
  | 19 => ⟨S8x4096x1, .f32⟩
  | 20 => ⟨S_, .f32⟩
  | 21 => ⟨S8x4096x1, .f32⟩
  | 22 => ⟨S8x4096x1, .f32⟩
  | 23 => ⟨S8x4096x1, .f32⟩
  | 24 => ⟨S8x4096x1024, .f32⟩
  | 25 => ⟨S8x4096x1024, .f32⟩
  | 26 => ⟨S1x1x1024, .f32⟩
  | 27 => ⟨S8x4096x1024, .f32⟩
  | 28 => ⟨S8x4096x1024, .f32⟩
  | 29 => ⟨S_, .f32⟩
  | 30 => ⟨S8x1x1024, .f32⟩
  | 31 => ⟨S8x1x1024, .f32⟩
  | 32 => ⟨S8x4096x1024, .f32⟩
  | 33 => ⟨S8x4096x1024, .f32⟩
  | 34 => ⟨S8x4096x1024, .f32⟩
  | 35 => ⟨S8x4096x1024, .f32⟩
  | 36 => ⟨S1024, .f32⟩
  | 37 => ⟨S1024, .f32⟩
  | 38 => ⟨S8x256x1024, .f32⟩
  | 39 => ⟨S_, .f32⟩
  | 40 => ⟨S8x256, .f32⟩
  | 41 => ⟨S8x256x1, .f32⟩
  | 42 => ⟨S_, .f32⟩
  | 43 => ⟨S8x256x1, .f32⟩
  | 44 => ⟨S8x256x1, .f32⟩
  | 45 => ⟨S_, .f32⟩
  | 46 => ⟨S8x256x1, .f32⟩
  | 47 => ⟨S8x256x1, .f32⟩
  | 48 => ⟨S8x256x1, .f32⟩
  | 49 => ⟨S8x256x1024, .f32⟩
  | 50 => ⟨S8x256x1024, .f32⟩
  | 51 => ⟨S1x1x1024, .f32⟩
  | 52 => ⟨S8x256x1024, .f32⟩
  | 53 => ⟨S8x256x1024, .f32⟩
  | 54 => ⟨S_, .f32⟩
  | 55 => ⟨S1024, .f32⟩
  | 56 => ⟨S1024, .f32⟩
  | 57 => ⟨S1x1x1024, .f32⟩
  | 58 => ⟨S8x256x1024, .f32⟩
  | 59 => ⟨S8x256x1024, .f32⟩
  | 60 => ⟨S1x1x1024, .f32⟩
  | 61 => ⟨S8x256x1024, .f32⟩
  | 62 => ⟨S8x256x1024, .f32⟩
  | 63 => ⟨S64, .i32⟩
  | 64 => ⟨S64x64, .i32⟩
  | 65 => ⟨S4096, .i32⟩
  | 66 => ⟨S4096, .f32⟩
  | 67 => ⟨S64, .i32⟩
  | 68 => ⟨S1x64, .i32⟩
  | 69 => ⟨S64x64, .i32⟩
  | 70 => ⟨S4096, .i32⟩
  | 71 => ⟨S4096, .f32⟩
  | 72 => ⟨S32, .f32⟩
  | 73 => ⟨S32, .f32⟩
  | 74 => ⟨S_, .f32⟩
  | 75 => ⟨S32, .f32⟩
  | 76 => ⟨S32, .f32⟩
  | 77 => ⟨S_, .f32⟩
  | 78 => ⟨S32, .f32⟩
  | 79 => ⟨S32, .f32⟩
  | 80 => ⟨S4096x1, .f32⟩
  | 81 => ⟨S1x32, .f32⟩
  | 82 => ⟨S4096x32, .f32⟩
  | 83 => ⟨S4096x32, .f32⟩
  | 84 => ⟨S4096x32, .f32⟩
  | 85 => ⟨S4096x1, .f32⟩
  | 86 => ⟨S1x32, .f32⟩
  | 87 => ⟨S4096x32, .f32⟩
  | 88 => ⟨S4096x32, .f32⟩
  | 89 => ⟨S4096x32, .f32⟩
  | 90 => ⟨S8x4096x512, .f32⟩
  | 91 => ⟨S8x4096x2x2x128, .f32⟩
  | 92 => ⟨S8x4096x1x2x128, .f32⟩
  | 93 => ⟨S8x4096x2x128, .f32⟩
  | 94 => ⟨S8x4096x2x128, .f32⟩
  | 95 => ⟨S_, .f32⟩
  | 96 => ⟨S8x4096x2, .f32⟩
  | 97 => ⟨S8x4096x2x1, .f32⟩
  | 98 => ⟨S_, .f32⟩
  | 99 => ⟨S8x4096x2x1, .f32⟩
  | 100 => ⟨S8x4096x2x1, .f32⟩
  | 101 => ⟨S_, .f32⟩
  | 102 => ⟨S8x4096x2x1, .f32⟩
  | 103 => ⟨S8x4096x2x1, .f32⟩
  | 104 => ⟨S8x4096x2x1, .f32⟩
  | 105 => ⟨S8x4096x2x128, .f32⟩
  | 106 => ⟨S8x4096x2x128, .f32⟩
  | 107 => ⟨S1x1x1x128, .f32⟩
  | 108 => ⟨S8x4096x2x128, .f32⟩
  | 109 => ⟨S8x4096x2x128, .f32⟩
  | 110 => ⟨S8x4096x1x2x128, .f32⟩
  | 111 => ⟨S8x4096x2x128, .f32⟩
  | 112 => ⟨S8x256x512, .f32⟩
  | 113 => ⟨S8x256x2x2x128, .f32⟩
  | 114 => ⟨S8x256x1x2x128, .f32⟩
  | 115 => ⟨S8x256x2x128, .f32⟩
  | 116 => ⟨S8x256x2x128, .f32⟩
  | 117 => ⟨S_, .f32⟩
  | 118 => ⟨S8x256x2, .f32⟩
  | 119 => ⟨S8x256x2x1, .f32⟩
  | 120 => ⟨S_, .f32⟩
  | 121 => ⟨S8x256x2x1, .f32⟩
  | 122 => ⟨S8x256x2x1, .f32⟩
  | 123 => ⟨S_, .f32⟩
  | 124 => ⟨S8x256x2x1, .f32⟩
  | 125 => ⟨S8x256x2x1, .f32⟩
  | 126 => ⟨S8x256x2x1, .f32⟩
  | 127 => ⟨S8x256x2x128, .f32⟩
  | _ => ⟨S8x4096x1024, .f32⟩

abbrev hbmTy0_1 (i : Nat) : BufTy := match i % 128 with
  | 0 => ⟨S8x256x2x128, .f32⟩
  | 1 => ⟨S1x1x1x128, .f32⟩
  | 2 => ⟨S8x256x2x128, .f32⟩
  | 3 => ⟨S8x256x2x128, .f32⟩
  | 4 => ⟨S8x256x1x2x128, .f32⟩
  | 5 => ⟨S8x256x2x128, .f32⟩
  | 6 => ⟨S8x4096x1024, .f32⟩
  | 7 => ⟨S8x4096x8x128, .f32⟩
  | 8 => ⟨S8x4096x8x128, .f32⟩
  | 9 => ⟨S_, .f32⟩
  | 10 => ⟨S8x4096x8, .f32⟩
  | 11 => ⟨S8x4096x8x1, .f32⟩
  | 12 => ⟨S_, .f32⟩
  | 13 => ⟨S8x4096x8x1, .f32⟩
  | 14 => ⟨S8x4096x8x1, .f32⟩
  | 15 => ⟨S_, .f32⟩
  | 16 => ⟨S8x4096x8x1, .f32⟩
  | 17 => ⟨S8x4096x8x1, .f32⟩
  | 18 => ⟨S8x4096x8x1, .f32⟩
  | 19 => ⟨S8x4096x8x128, .f32⟩
  | 20 => ⟨S8x4096x8x128, .f32⟩
  | 21 => ⟨S1x1x1x128, .f32⟩
  | 22 => ⟨S8x4096x8x128, .f32⟩
  | 23 => ⟨S8x4096x8x128, .f32⟩
  | 24 => ⟨S8x4096x8x64, .f32⟩
  | 25 => ⟨S8x4096x8x64, .f32⟩
  | 26 => ⟨S4096x32, .f32⟩
  | 27 => ⟨S4096x1x32, .f32⟩
  | 28 => ⟨S4096x32, .f32⟩
  | 29 => ⟨S4096x1x32, .f32⟩
  | 30 => ⟨S8x4096x8x32, .f32⟩
  | 31 => ⟨S8x4096x8x32, .f32⟩
  | 32 => ⟨S1x4096x1x32, .f32⟩
  | 33 => ⟨S8x4096x8x32, .f32⟩
  | 34 => ⟨S8x4096x8x32, .f32⟩
  | 35 => ⟨S1x4096x1x32, .f32⟩
  | 36 => ⟨S8x4096x8x32, .f32⟩
  | 37 => ⟨S8x4096x8x32, .f32⟩
  | 38 => ⟨S8x4096x8x32, .f32⟩
  | 39 => ⟨S1x4096x1x32, .f32⟩
  | 40 => ⟨S8x4096x8x32, .f32⟩
  | 41 => ⟨S8x4096x8x32, .f32⟩
  | 42 => ⟨S1x4096x1x32, .f32⟩
  | 43 => ⟨S8x4096x8x32, .f32⟩
  | 44 => ⟨S8x4096x8x32, .f32⟩
  | 45 => ⟨S8x4096x8x32, .f32⟩
  | 46 => ⟨S8x4096x8x64, .f32⟩
  | 47 => ⟨S4096x32, .f32⟩
  | 48 => ⟨S4096x1x32, .f32⟩
  | 49 => ⟨S4096x32, .f32⟩
  | 50 => ⟨S4096x1x32, .f32⟩
  | 51 => ⟨S8x4096x8x32, .f32⟩
  | 52 => ⟨S8x4096x8x32, .f32⟩
  | 53 => ⟨S1x4096x1x32, .f32⟩
  | 54 => ⟨S8x4096x8x32, .f32⟩
  | 55 => ⟨S8x4096x8x32, .f32⟩
  | 56 => ⟨S1x4096x1x32, .f32⟩
  | 57 => ⟨S8x4096x8x32, .f32⟩
  | 58 => ⟨S8x4096x8x32, .f32⟩
  | 59 => ⟨S8x4096x8x32, .f32⟩
  | 60 => ⟨S1x4096x1x32, .f32⟩
  | 61 => ⟨S8x4096x8x32, .f32⟩
  | 62 => ⟨S8x4096x8x32, .f32⟩
  | 63 => ⟨S1x4096x1x32, .f32⟩
  | 64 => ⟨S8x4096x8x32, .f32⟩
  | 65 => ⟨S8x4096x8x32, .f32⟩
  | 66 => ⟨S8x4096x8x32, .f32⟩
  | 67 => ⟨S8x4096x8x64, .f32⟩
  | 68 => ⟨S8x4096x8x128, .f32⟩
  | 69 => ⟨S8x4096x2x64, .f32⟩
  | 70 => ⟨S8x4096x2x64, .f32⟩
  | 71 => ⟨S4096x32, .f32⟩
  | 72 => ⟨S4096x1x32, .f32⟩
  | 73 => ⟨S4096x32, .f32⟩
  | 74 => ⟨S4096x1x32, .f32⟩
  | 75 => ⟨S8x4096x2x32, .f32⟩
  | 76 => ⟨S8x4096x2x32, .f32⟩
  | 77 => ⟨S1x4096x1x32, .f32⟩
  | 78 => ⟨S8x4096x2x32, .f32⟩
  | 79 => ⟨S8x4096x2x32, .f32⟩
  | 80 => ⟨S1x4096x1x32, .f32⟩
  | 81 => ⟨S8x4096x2x32, .f32⟩
  | 82 => ⟨S8x4096x2x32, .f32⟩
  | 83 => ⟨S8x4096x2x32, .f32⟩
  | 84 => ⟨S1x4096x1x32, .f32⟩
  | 85 => ⟨S8x4096x2x32, .f32⟩
  | 86 => ⟨S8x4096x2x32, .f32⟩
  | 87 => ⟨S1x4096x1x32, .f32⟩
  | 88 => ⟨S8x4096x2x32, .f32⟩
  | 89 => ⟨S8x4096x2x32, .f32⟩
  | 90 => ⟨S8x4096x2x32, .f32⟩
  | 91 => ⟨S8x4096x2x64, .f32⟩
  | 92 => ⟨S4096x32, .f32⟩
  | 93 => ⟨S4096x1x32, .f32⟩
  | 94 => ⟨S4096x32, .f32⟩
  | 95 => ⟨S4096x1x32, .f32⟩
  | 96 => ⟨S8x4096x2x32, .f32⟩
  | 97 => ⟨S8x4096x2x32, .f32⟩
  | 98 => ⟨S1x4096x1x32, .f32⟩
  | 99 => ⟨S8x4096x2x32, .f32⟩
  | 100 => ⟨S8x4096x2x32, .f32⟩
  | 101 => ⟨S1x4096x1x32, .f32⟩
  | 102 => ⟨S8x4096x2x32, .f32⟩
  | 103 => ⟨S8x4096x2x32, .f32⟩
  | 104 => ⟨S8x4096x2x32, .f32⟩
  | 105 => ⟨S1x4096x1x32, .f32⟩
  | 106 => ⟨S8x4096x2x32, .f32⟩
  | 107 => ⟨S8x4096x2x32, .f32⟩
  | 108 => ⟨S1x4096x1x32, .f32⟩
  | 109 => ⟨S8x4096x2x32, .f32⟩
  | 110 => ⟨S8x4096x2x32, .f32⟩
  | 111 => ⟨S8x4096x2x32, .f32⟩
  | 112 => ⟨S8x4096x2x64, .f32⟩
  | 113 => ⟨S8x4096x2x128, .f32⟩
  | 114 => ⟨S_, .f32⟩
  | 115 => ⟨S8x4096x8x128, .f32⟩
  | 116 => ⟨S8x4096x8x128, .f32⟩
  | 117 => ⟨S32768x1024, .f32⟩
  | 118 => ⟨S32768x256, .f32⟩
  | 119 => ⟨S32768x256, .f32⟩
  | 120 => ⟨S32768x1536, .f32⟩
  | 121 => ⟨S8x256x1024, .f32⟩
  | 122 => ⟨S8x256x8x128, .f32⟩
  | 123 => ⟨S8x256x8x128, .f32⟩
  | 124 => ⟨S_, .f32⟩
  | 125 => ⟨S8x256x8, .f32⟩
  | 126 => ⟨S8x256x8x1, .f32⟩
  | 127 => ⟨S_, .f32⟩
  | _ => ⟨S8x4096x1024, .f32⟩

abbrev hbmTy0_2 (i : Nat) : BufTy := match i % 128 with
  | 0 => ⟨S8x256x8x1, .f32⟩
  | 1 => ⟨S8x256x8x1, .f32⟩
  | 2 => ⟨S_, .f32⟩
  | 3 => ⟨S8x256x8x1, .f32⟩
  | 4 => ⟨S8x256x8x1, .f32⟩
  | 5 => ⟨S8x256x8x1, .f32⟩
  | 6 => ⟨S8x256x8x128, .f32⟩
  | 7 => ⟨S8x256x8x128, .f32⟩
  | 8 => ⟨S1x1x1x128, .f32⟩
  | 9 => ⟨S8x256x8x128, .f32⟩
  | 10 => ⟨S8x256x8x128, .f32⟩
  | 11 => ⟨S_, .f32⟩
  | 12 => ⟨S8x256x8x128, .f32⟩
  | 13 => ⟨S8x256x8x128, .f32⟩
  | 14 => ⟨S2048x1024, .f32⟩
  | 15 => ⟨S2048x256, .f32⟩
  | 16 => ⟨S2048x256, .f32⟩
  | 17 => ⟨S2048x1536, .f32⟩
  | 18 => ⟨S34816x1536, .f32⟩
  | 19 => ⟨S34816x1536, .bf16⟩
  | _ => ⟨S8x4096x1024, .f32⟩

abbrev hbmTy (i : Nat) : BufTy := match i / 128 with
  | 0 => hbmTy0_0 i
  | 1 => hbmTy0_1 i
  | 2 => hbmTy0_2 i
  | _ => ⟨S8x4096x1024, .f32⟩

abbrev bufTy : (tb : Table) → Fin (tcTables nBuf tb) → BufTy
  | .hbm, ⟨i, _⟩ => hbmTy i
  | _, _ => ⟨S8x4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_cst : Ref sig .tc := ⟨.hbm, 14, rfl⟩
abbrev main_v5 : Ref sig .tc := ⟨.hbm, 15, rfl⟩
abbrev main_v6 : Ref sig .tc := ⟨.hbm, 16, rfl⟩
abbrev main_cst_0 : Ref sig .tc := ⟨.hbm, 17, rfl⟩
abbrev main_v7 : Ref sig .tc := ⟨.hbm, 18, rfl⟩
abbrev main_v8 : Ref sig .tc := ⟨.hbm, 19, rfl⟩
abbrev main_cst_1 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_cst_2 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_cst_3 : Ref sig .tc := ⟨.hbm, 39, rfl⟩
abbrev main_v26 : Ref sig .tc := ⟨.hbm, 40, rfl⟩
abbrev main_v27 : Ref sig .tc := ⟨.hbm, 41, rfl⟩
abbrev main_cst_4 : Ref sig .tc := ⟨.hbm, 42, rfl⟩
abbrev main_v28 : Ref sig .tc := ⟨.hbm, 43, rfl⟩
abbrev main_v29 : Ref sig .tc := ⟨.hbm, 44, rfl⟩
abbrev main_cst_5 : Ref sig .tc := ⟨.hbm, 45, rfl⟩
abbrev main_v30 : Ref sig .tc := ⟨.hbm, 46, rfl⟩
abbrev main_v31 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_v36 : Ref sig .tc := ⟨.hbm, 52, rfl⟩
abbrev main_v37 : Ref sig .tc := ⟨.hbm, 53, rfl⟩
abbrev main_cst_6 : Ref sig .tc := ⟨.hbm, 54, rfl⟩
abbrev main_v38 : Ref sig .tc := ⟨.hbm, 55, rfl⟩
abbrev main_v39 : Ref sig .tc := ⟨.hbm, 56, rfl⟩
abbrev main_v40 : Ref sig .tc := ⟨.hbm, 57, rfl⟩
abbrev main_v41 : Ref sig .tc := ⟨.hbm, 58, rfl⟩
abbrev main_v42 : Ref sig .tc := ⟨.hbm, 59, rfl⟩
abbrev main_v43 : Ref sig .tc := ⟨.hbm, 60, rfl⟩
abbrev main_v44 : Ref sig .tc := ⟨.hbm, 61, rfl⟩
abbrev main_v45 : Ref sig .tc := ⟨.hbm, 62, rfl⟩
abbrev main_v46 : Ref sig .tc := ⟨.hbm, 63, rfl⟩
abbrev main_v47 : Ref sig .tc := ⟨.hbm, 64, rfl⟩
abbrev main_v48 : Ref sig .tc := ⟨.hbm, 65, rfl⟩
abbrev main_v49 : Ref sig .tc := ⟨.hbm, 66, rfl⟩
abbrev main_v50 : Ref sig .tc := ⟨.hbm, 67, rfl⟩
abbrev main_v51 : Ref sig .tc := ⟨.hbm, 68, rfl⟩
abbrev main_v52 : Ref sig .tc := ⟨.hbm, 69, rfl⟩
abbrev main_v53 : Ref sig .tc := ⟨.hbm, 70, rfl⟩
abbrev main_v54 : Ref sig .tc := ⟨.hbm, 71, rfl⟩
abbrev main_v55 : Ref sig .tc := ⟨.hbm, 72, rfl⟩
abbrev main_v56 : Ref sig .tc := ⟨.hbm, 73, rfl⟩
abbrev main_cst_7 : Ref sig .tc := ⟨.hbm, 74, rfl⟩
abbrev main_v57 : Ref sig .tc := ⟨.hbm, 75, rfl⟩
abbrev main_v58 : Ref sig .tc := ⟨.hbm, 76, rfl⟩
abbrev main_cst_8 : Ref sig .tc := ⟨.hbm, 77, rfl⟩
abbrev main_v59 : Ref sig .tc := ⟨.hbm, 78, rfl⟩
abbrev main_v60 : Ref sig .tc := ⟨.hbm, 79, rfl⟩
abbrev main_v61 : Ref sig .tc := ⟨.hbm, 80, rfl⟩
abbrev main_v62 : Ref sig .tc := ⟨.hbm, 81, rfl⟩
abbrev main_v63 : Ref sig .tc := ⟨.hbm, 82, rfl⟩
abbrev main_v64 : Ref sig .tc := ⟨.hbm, 83, rfl⟩
abbrev main_v65 : Ref sig .tc := ⟨.hbm, 84, rfl⟩
abbrev main_v66 : Ref sig .tc := ⟨.hbm, 85, rfl⟩
abbrev main_v67 : Ref sig .tc := ⟨.hbm, 86, rfl⟩
abbrev main_v68 : Ref sig .tc := ⟨.hbm, 87, rfl⟩
abbrev main_v69 : Ref sig .tc := ⟨.hbm, 88, rfl⟩
abbrev main_v70 : Ref sig .tc := ⟨.hbm, 89, rfl⟩
abbrev main_v71 : Ref sig .tc := ⟨.hbm, 90, rfl⟩
abbrev main_v72 : Ref sig .tc := ⟨.hbm, 91, rfl⟩
abbrev main_v73 : Ref sig .tc := ⟨.hbm, 92, rfl⟩
abbrev main_v74 : Ref sig .tc := ⟨.hbm, 93, rfl⟩
abbrev main_v75 : Ref sig .tc := ⟨.hbm, 94, rfl⟩
abbrev main_cst_9 : Ref sig .tc := ⟨.hbm, 95, rfl⟩
abbrev main_v76 : Ref sig .tc := ⟨.hbm, 96, rfl⟩
abbrev main_v77 : Ref sig .tc := ⟨.hbm, 97, rfl⟩
abbrev main_cst_10 : Ref sig .tc := ⟨.hbm, 98, rfl⟩
abbrev main_v78 : Ref sig .tc := ⟨.hbm, 99, rfl⟩
abbrev main_v79 : Ref sig .tc := ⟨.hbm, 100, rfl⟩
abbrev main_cst_11 : Ref sig .tc := ⟨.hbm, 101, rfl⟩
abbrev main_v80 : Ref sig .tc := ⟨.hbm, 102, rfl⟩
abbrev main_v81 : Ref sig .tc := ⟨.hbm, 103, rfl⟩
abbrev main_v82 : Ref sig .tc := ⟨.hbm, 104, rfl⟩
abbrev main_v83 : Ref sig .tc := ⟨.hbm, 105, rfl⟩
abbrev main_v84 : Ref sig .tc := ⟨.hbm, 106, rfl⟩
abbrev main_v85 : Ref sig .tc := ⟨.hbm, 107, rfl⟩
abbrev main_v86 : Ref sig .tc := ⟨.hbm, 108, rfl⟩
abbrev main_v87 : Ref sig .tc := ⟨.hbm, 109, rfl⟩
abbrev main_v88 : Ref sig .tc := ⟨.hbm, 110, rfl⟩
abbrev main_v89 : Ref sig .tc := ⟨.hbm, 111, rfl⟩
abbrev main_v90 : Ref sig .tc := ⟨.hbm, 112, rfl⟩
abbrev main_v91 : Ref sig .tc := ⟨.hbm, 113, rfl⟩
abbrev main_v92 : Ref sig .tc := ⟨.hbm, 114, rfl⟩
abbrev main_v93 : Ref sig .tc := ⟨.hbm, 115, rfl⟩
abbrev main_v94 : Ref sig .tc := ⟨.hbm, 116, rfl⟩
abbrev main_cst_12 : Ref sig .tc := ⟨.hbm, 117, rfl⟩
abbrev main_v95 : Ref sig .tc := ⟨.hbm, 118, rfl⟩
abbrev main_v96 : Ref sig .tc := ⟨.hbm, 119, rfl⟩
abbrev main_cst_13 : Ref sig .tc := ⟨.hbm, 120, rfl⟩
abbrev main_v97 : Ref sig .tc := ⟨.hbm, 121, rfl⟩
abbrev main_v98 : Ref sig .tc := ⟨.hbm, 122, rfl⟩
abbrev main_cst_14 : Ref sig .tc := ⟨.hbm, 123, rfl⟩
abbrev main_v99 : Ref sig .tc := ⟨.hbm, 124, rfl⟩
abbrev main_v100 : Ref sig .tc := ⟨.hbm, 125, rfl⟩
abbrev main_v101 : Ref sig .tc := ⟨.hbm, 126, rfl⟩
abbrev main_v102 : Ref sig .tc := ⟨.hbm, 127, rfl⟩
abbrev main_v103 : Ref sig .tc := ⟨.hbm, 128, rfl⟩
abbrev main_v104 : Ref sig .tc := ⟨.hbm, 129, rfl⟩
abbrev main_v105 : Ref sig .tc := ⟨.hbm, 130, rfl⟩
abbrev main_v106 : Ref sig .tc := ⟨.hbm, 131, rfl⟩
abbrev main_v107 : Ref sig .tc := ⟨.hbm, 132, rfl⟩
abbrev main_v108 : Ref sig .tc := ⟨.hbm, 133, rfl⟩
abbrev main_v109 : Ref sig .tc := ⟨.hbm, 134, rfl⟩
abbrev main_v110 : Ref sig .tc := ⟨.hbm, 135, rfl⟩
abbrev main_v111 : Ref sig .tc := ⟨.hbm, 136, rfl⟩
abbrev main_cst_15 : Ref sig .tc := ⟨.hbm, 137, rfl⟩
abbrev main_v112 : Ref sig .tc := ⟨.hbm, 138, rfl⟩
abbrev main_v113 : Ref sig .tc := ⟨.hbm, 139, rfl⟩
abbrev main_cst_16 : Ref sig .tc := ⟨.hbm, 140, rfl⟩
abbrev main_v114 : Ref sig .tc := ⟨.hbm, 141, rfl⟩
abbrev main_v115 : Ref sig .tc := ⟨.hbm, 142, rfl⟩
abbrev main_cst_17 : Ref sig .tc := ⟨.hbm, 143, rfl⟩
abbrev main_v116 : Ref sig .tc := ⟨.hbm, 144, rfl⟩
abbrev main_v117 : Ref sig .tc := ⟨.hbm, 145, rfl⟩
abbrev main_v118 : Ref sig .tc := ⟨.hbm, 146, rfl⟩
abbrev main_v119 : Ref sig .tc := ⟨.hbm, 147, rfl⟩
abbrev main_v120 : Ref sig .tc := ⟨.hbm, 148, rfl⟩
abbrev main_v121 : Ref sig .tc := ⟨.hbm, 149, rfl⟩
abbrev main_v122 : Ref sig .tc := ⟨.hbm, 150, rfl⟩
abbrev main_v123 : Ref sig .tc := ⟨.hbm, 151, rfl⟩
abbrev main_v124 : Ref sig .tc := ⟨.hbm, 152, rfl⟩
abbrev main_v125 : Ref sig .tc := ⟨.hbm, 153, rfl⟩
abbrev main_v126 : Ref sig .tc := ⟨.hbm, 154, rfl⟩
abbrev main_v127 : Ref sig .tc := ⟨.hbm, 155, rfl⟩
abbrev main_v128 : Ref sig .tc := ⟨.hbm, 156, rfl⟩
abbrev main_v129 : Ref sig .tc := ⟨.hbm, 157, rfl⟩
abbrev main_v130 : Ref sig .tc := ⟨.hbm, 158, rfl⟩
abbrev main_v131 : Ref sig .tc := ⟨.hbm, 159, rfl⟩
abbrev main_v132 : Ref sig .tc := ⟨.hbm, 160, rfl⟩
abbrev main_v133 : Ref sig .tc := ⟨.hbm, 161, rfl⟩
abbrev main_v134 : Ref sig .tc := ⟨.hbm, 162, rfl⟩
abbrev main_v135 : Ref sig .tc := ⟨.hbm, 163, rfl⟩
abbrev main_v136 : Ref sig .tc := ⟨.hbm, 164, rfl⟩
abbrev main_v137 : Ref sig .tc := ⟨.hbm, 165, rfl⟩
abbrev main_v138 : Ref sig .tc := ⟨.hbm, 166, rfl⟩
abbrev main_v139 : Ref sig .tc := ⟨.hbm, 167, rfl⟩
abbrev main_v140 : Ref sig .tc := ⟨.hbm, 168, rfl⟩
abbrev main_v141 : Ref sig .tc := ⟨.hbm, 169, rfl⟩
abbrev main_v142 : Ref sig .tc := ⟨.hbm, 170, rfl⟩
abbrev main_v143 : Ref sig .tc := ⟨.hbm, 171, rfl⟩
abbrev main_v144 : Ref sig .tc := ⟨.hbm, 172, rfl⟩
abbrev main_v145 : Ref sig .tc := ⟨.hbm, 173, rfl⟩
abbrev main_v146 : Ref sig .tc := ⟨.hbm, 174, rfl⟩
abbrev main_v147 : Ref sig .tc := ⟨.hbm, 175, rfl⟩
abbrev main_v148 : Ref sig .tc := ⟨.hbm, 176, rfl⟩
abbrev main_v149 : Ref sig .tc := ⟨.hbm, 177, rfl⟩
abbrev main_v150 : Ref sig .tc := ⟨.hbm, 178, rfl⟩
abbrev main_v151 : Ref sig .tc := ⟨.hbm, 179, rfl⟩
abbrev main_v152 : Ref sig .tc := ⟨.hbm, 180, rfl⟩
abbrev main_v153 : Ref sig .tc := ⟨.hbm, 181, rfl⟩
abbrev main_v154 : Ref sig .tc := ⟨.hbm, 182, rfl⟩
abbrev main_v155 : Ref sig .tc := ⟨.hbm, 183, rfl⟩
abbrev main_v156 : Ref sig .tc := ⟨.hbm, 184, rfl⟩
abbrev main_v157 : Ref sig .tc := ⟨.hbm, 185, rfl⟩
abbrev main_v158 : Ref sig .tc := ⟨.hbm, 186, rfl⟩
abbrev main_v159 : Ref sig .tc := ⟨.hbm, 187, rfl⟩
abbrev main_v160 : Ref sig .tc := ⟨.hbm, 188, rfl⟩
abbrev main_v161 : Ref sig .tc := ⟨.hbm, 189, rfl⟩
abbrev main_v162 : Ref sig .tc := ⟨.hbm, 190, rfl⟩
abbrev main_v163 : Ref sig .tc := ⟨.hbm, 191, rfl⟩
abbrev main_v164 : Ref sig .tc := ⟨.hbm, 192, rfl⟩
abbrev main_v165 : Ref sig .tc := ⟨.hbm, 193, rfl⟩
abbrev main_v166 : Ref sig .tc := ⟨.hbm, 194, rfl⟩
abbrev main_v167 : Ref sig .tc := ⟨.hbm, 195, rfl⟩
abbrev main_v168 : Ref sig .tc := ⟨.hbm, 196, rfl⟩
abbrev main_v169 : Ref sig .tc := ⟨.hbm, 197, rfl⟩
abbrev main_v170 : Ref sig .tc := ⟨.hbm, 198, rfl⟩
abbrev main_v171 : Ref sig .tc := ⟨.hbm, 199, rfl⟩
abbrev main_v172 : Ref sig .tc := ⟨.hbm, 200, rfl⟩
abbrev main_v173 : Ref sig .tc := ⟨.hbm, 201, rfl⟩
abbrev main_v174 : Ref sig .tc := ⟨.hbm, 202, rfl⟩
abbrev main_v175 : Ref sig .tc := ⟨.hbm, 203, rfl⟩
abbrev main_v176 : Ref sig .tc := ⟨.hbm, 204, rfl⟩
abbrev main_v177 : Ref sig .tc := ⟨.hbm, 205, rfl⟩
abbrev main_v178 : Ref sig .tc := ⟨.hbm, 206, rfl⟩
abbrev main_v179 : Ref sig .tc := ⟨.hbm, 207, rfl⟩
abbrev main_v180 : Ref sig .tc := ⟨.hbm, 208, rfl⟩
abbrev main_v181 : Ref sig .tc := ⟨.hbm, 209, rfl⟩
abbrev main_v182 : Ref sig .tc := ⟨.hbm, 210, rfl⟩
abbrev main_v183 : Ref sig .tc := ⟨.hbm, 211, rfl⟩
abbrev main_v184 : Ref sig .tc := ⟨.hbm, 212, rfl⟩
abbrev main_v185 : Ref sig .tc := ⟨.hbm, 213, rfl⟩
abbrev main_v186 : Ref sig .tc := ⟨.hbm, 214, rfl⟩
abbrev main_v187 : Ref sig .tc := ⟨.hbm, 215, rfl⟩
abbrev main_v188 : Ref sig .tc := ⟨.hbm, 216, rfl⟩
abbrev main_v189 : Ref sig .tc := ⟨.hbm, 217, rfl⟩
abbrev main_v190 : Ref sig .tc := ⟨.hbm, 218, rfl⟩
abbrev main_v191 : Ref sig .tc := ⟨.hbm, 219, rfl⟩
abbrev main_v192 : Ref sig .tc := ⟨.hbm, 220, rfl⟩
abbrev main_v193 : Ref sig .tc := ⟨.hbm, 221, rfl⟩
abbrev main_v194 : Ref sig .tc := ⟨.hbm, 222, rfl⟩
abbrev main_v195 : Ref sig .tc := ⟨.hbm, 223, rfl⟩
abbrev main_v196 : Ref sig .tc := ⟨.hbm, 224, rfl⟩
abbrev main_v197 : Ref sig .tc := ⟨.hbm, 225, rfl⟩
abbrev main_v198 : Ref sig .tc := ⟨.hbm, 226, rfl⟩
abbrev main_v199 : Ref sig .tc := ⟨.hbm, 227, rfl⟩
abbrev main_v200 : Ref sig .tc := ⟨.hbm, 228, rfl⟩
abbrev main_v201 : Ref sig .tc := ⟨.hbm, 229, rfl⟩
abbrev main_v202 : Ref sig .tc := ⟨.hbm, 230, rfl⟩
abbrev main_v203 : Ref sig .tc := ⟨.hbm, 231, rfl⟩
abbrev main_v204 : Ref sig .tc := ⟨.hbm, 232, rfl⟩
abbrev main_v205 : Ref sig .tc := ⟨.hbm, 233, rfl⟩
abbrev main_v206 : Ref sig .tc := ⟨.hbm, 234, rfl⟩
abbrev main_v207 : Ref sig .tc := ⟨.hbm, 235, rfl⟩
abbrev main_v208 : Ref sig .tc := ⟨.hbm, 236, rfl⟩
abbrev main_v209 : Ref sig .tc := ⟨.hbm, 237, rfl⟩
abbrev main_v210 : Ref sig .tc := ⟨.hbm, 238, rfl⟩
abbrev main_v211 : Ref sig .tc := ⟨.hbm, 239, rfl⟩
abbrev main_v212 : Ref sig .tc := ⟨.hbm, 240, rfl⟩
abbrev main_v213 : Ref sig .tc := ⟨.hbm, 241, rfl⟩
abbrev main_cst_18 : Ref sig .tc := ⟨.hbm, 242, rfl⟩
abbrev main_v214 : Ref sig .tc := ⟨.hbm, 243, rfl⟩
abbrev main_v215 : Ref sig .tc := ⟨.hbm, 244, rfl⟩
abbrev main_v216 : Ref sig .tc := ⟨.hbm, 245, rfl⟩
abbrev main_v217 : Ref sig .tc := ⟨.hbm, 246, rfl⟩
abbrev main_v218 : Ref sig .tc := ⟨.hbm, 247, rfl⟩
abbrev main_v219 : Ref sig .tc := ⟨.hbm, 248, rfl⟩
abbrev main_v220 : Ref sig .tc := ⟨.hbm, 249, rfl⟩
abbrev main_v221 : Ref sig .tc := ⟨.hbm, 250, rfl⟩
abbrev main_v222 : Ref sig .tc := ⟨.hbm, 251, rfl⟩
abbrev main_cst_19 : Ref sig .tc := ⟨.hbm, 252, rfl⟩
abbrev main_v223 : Ref sig .tc := ⟨.hbm, 253, rfl⟩
abbrev main_v224 : Ref sig .tc := ⟨.hbm, 254, rfl⟩
abbrev main_cst_20 : Ref sig .tc := ⟨.hbm, 255, rfl⟩
abbrev main_v225 : Ref sig .tc := ⟨.hbm, 256, rfl⟩
abbrev main_v226 : Ref sig .tc := ⟨.hbm, 257, rfl⟩
abbrev main_cst_21 : Ref sig .tc := ⟨.hbm, 258, rfl⟩
abbrev main_v227 : Ref sig .tc := ⟨.hbm, 259, rfl⟩
abbrev main_v228 : Ref sig .tc := ⟨.hbm, 260, rfl⟩
abbrev main_v229 : Ref sig .tc := ⟨.hbm, 261, rfl⟩
abbrev main_v230 : Ref sig .tc := ⟨.hbm, 262, rfl⟩
abbrev main_v231 : Ref sig .tc := ⟨.hbm, 263, rfl⟩
abbrev main_v232 : Ref sig .tc := ⟨.hbm, 264, rfl⟩
abbrev main_v233 : Ref sig .tc := ⟨.hbm, 265, rfl⟩
abbrev main_v234 : Ref sig .tc := ⟨.hbm, 266, rfl⟩
abbrev main_cst_22 : Ref sig .tc := ⟨.hbm, 267, rfl⟩
abbrev main_v235 : Ref sig .tc := ⟨.hbm, 268, rfl⟩
abbrev main_v236 : Ref sig .tc := ⟨.hbm, 269, rfl⟩
abbrev main_v237 : Ref sig .tc := ⟨.hbm, 270, rfl⟩
abbrev main_v238 : Ref sig .tc := ⟨.hbm, 271, rfl⟩
abbrev main_v239 : Ref sig .tc := ⟨.hbm, 272, rfl⟩
abbrev main_v240 : Ref sig .tc := ⟨.hbm, 273, rfl⟩
abbrev main_v241 : Ref sig .tc := ⟨.hbm, 274, rfl⟩
abbrev main_v242 : Ref sig .tc := ⟨.hbm, 275, rfl⟩

abbrev nD : Nat := 1
abbrev τ : Topo := Topo.v7x

variable {F : FTy → Type} [FloatOps F]
-- ==== Proof.Softmax.lean ====
module

public import Idealize.ShloMosaic.PureOps.Ideal.Laws

@[expose] public section

noncomputable section

namespace Attn

open Idealize.ShloMosaic

/-- A nonnegative real factor moves through a finite sum of extended reals. -/
theorem real_mul_sum {ι : Type} (c : ℝ) (hc : 0 ≤ c) (S : Finset ι) (f : ι → EReal) :
    (c : EReal) * ∑ i ∈ S, f i = ∑ i ∈ S, (c : EReal) * f i := by
  classical
  induction S using Finset.induction_on with
  | empty => simp
  | insert a S ha ih =>
    rw [Finset.sum_insert ha, Finset.sum_insert ha,
      EReal.left_distrib_of_nonneg_of_ne_top (EReal.coe_nonneg.mpr hc) (EReal.coe_ne_top c), ih]

/-- A finite sum of reals is the same sum taken among the extended reals. -/
theorem coe_sum {ι : Type} (S : Finset ι) (f : ι → ℝ) :
    ((∑ i ∈ S, f i : ℝ) : EReal) = ∑ i ∈ S, (f i : EReal) := by
  classical
  induction S using Finset.induction_on with
  | empty => simp
  | insert a S ha ih => rw [Finset.sum_insert ha, Finset.sum_insert ha, EReal.coe_add, ih]

/-- The larger of two reals is the same among the extended reals. -/
theorem coe_max' (x y : ℝ) : ((max x y : ℝ) : EReal) = max (x : EReal) (y : EReal) := by
  rcases le_total x y with h | h
  · rw [max_eq_right h, max_eq_right (EReal.coe_le_coe_iff.mpr h)]
  · rw [max_eq_left h, max_eq_left (EReal.coe_le_coe_iff.mpr h)]

/-- The running maximum of a nonempty family of reals, started at minus infinity, is a real. -/
theorem fold_max_real {n : ℕ} (hn : 0 < n) (s : Fin n → ℝ) :
    ∃ μ : ℝ, Finset.univ.fold max (⊥ : EReal) (fun k => (s k : EReal)) = (μ : EReal) := by
  classical
  have key : ∀ S : Finset (Fin n), S.fold max (⊥ : EReal) (fun k => (s k : EReal)) = ⊥ ∧ S = ∅ ∨
      ∃ μ : ℝ, S.fold max (⊥ : EReal) (fun k => (s k : EReal)) = (μ : EReal) := by
    intro S
    induction S using Finset.induction_on with
    | empty => left; simp
    | insert a S ha ih =>
      right
      rw [Finset.fold_insert ha]
      rcases ih with ⟨h, -⟩ | ⟨μ, h⟩
      · exact ⟨s a, by rw [h]; exact max_eq_left bot_le⟩
      · exact ⟨max (s a) μ, by rw [h, coe_max']⟩
  rcases key Finset.univ with ⟨-, h⟩ | h
  · exact absurd (h ▸ Finset.mem_univ (⟨0, hn⟩ : Fin n)) (Finset.notMem_empty _)
  · exact h

/-- Two to a difference of two reals, split into a factor for each. -/
theorem exp2_sub (x μ : ℝ) :
    Ideal.exp2 ((x : EReal) - (μ : EReal)) = (((2 : ℝ) ^ (-μ) * (2 : ℝ) ^ x : ℝ) : EReal) := by
  rw [← EReal.coe_sub, Ideal.exp2_coe, ← Real.rpow_add two_pos]
  congr 1
  show (2 : ℝ) ^ (x - μ) = _
  congr 1
  ring

/-- The weight of key `k` among the first `n` keys, in base two. -/
def wt (s : ℕ → ℝ) (n k : ℕ) : ℝ := (2 : ℝ) ^ s k / ∑ j ∈ Finset.range n, (2 : ℝ) ^ s j

/-- What a running softmax holds after the first `n` keys: the reference point `m`, the sum `l` of the
    weights relative to it, and the sum `a` of the values under those weights. -/
def Upto (s : ℕ → ℝ) (v : ℕ → EReal) (n : ℕ) (m l a : EReal) : Prop :=
  ∃ μ : ℝ, m = (μ : EReal) ∧ l = (((2 : ℝ) ^ (-μ) * ∑ k ∈ Finset.range n, (2 : ℝ) ^ s k : ℝ) : EReal) ∧
    a = (((2 : ℝ) ^ (-μ) : ℝ) : EReal) * ∑ k ∈ Finset.range n, v k * (((2 : ℝ) ^ s k : ℝ) : EReal)

/-- The contribution of one stretch of keys to the sum of weights. -/
theorem chunk_l (s : ℕ → ℝ) (o n : ℕ) (μ : ℝ) :
    ∑ k : Fin n, Ideal.exp2 ((s (o + k.val) : EReal) - (μ : EReal)) =
      (((2 : ℝ) ^ (-μ) * ∑ k ∈ Finset.range n, (2 : ℝ) ^ s (o + k) : ℝ) : EReal) := by
  rw [Finset.mul_sum, coe_sum, ← Fin.sum_univ_eq_sum_range (fun k => (((2 : ℝ) ^ (-μ) * (2 : ℝ) ^ s (o + k) : ℝ) : EReal)) n]
  exact Finset.sum_congr rfl fun k _ => exp2_sub _ _

/-- The contribution of one stretch of keys to the weighted sum of values. -/
theorem chunk_a (s : ℕ → ℝ) (v : ℕ → EReal) (o n : ℕ) (μ : ℝ) :
    ∑ k : Fin n, v (o + k.val) * Ideal.exp2 ((s (o + k.val) : EReal) - (μ : EReal)) =
      (((2 : ℝ) ^ (-μ) : ℝ) : EReal) * ∑ k ∈ Finset.range n, v (o + k) * (((2 : ℝ) ^ s (o + k) : ℝ) : EReal) := by
  rw [real_mul_sum _ (Real.rpow_nonneg two_pos.le _),
    ← Fin.sum_univ_eq_sum_range (fun k => (((2 : ℝ) ^ (-μ) : ℝ) : EReal) * (v (o + k) * (((2 : ℝ) ^ s (o + k) : ℝ) : EReal))) n]
  refine Finset.sum_congr rfl fun k _ => ?_
  rw [exp2_sub, EReal.coe_mul, mul_left_comm]

/-- The first stretch of keys starts the running softmax. -/
theorem Upto.start (s : ℕ → ℝ) (v : ℕ → EReal) (n : ℕ) (hn : 0 < n) (m : EReal)
    (hm : m = Finset.univ.fold max (⊥ : EReal) (fun k : Fin n => (s k.val : EReal))) :
    Upto s v n m (∑ k : Fin n, Ideal.exp2 ((s k.val : EReal) - m))
      (∑ k : Fin n, v k.val * Ideal.exp2 ((s k.val : EReal) - m)) := by
  obtain ⟨μ, hμ⟩ := fold_max_real hn (fun k : Fin n => s k.val)
  obtain rfl : m = (μ : EReal) := hm.trans hμ
  refine ⟨μ, rfl, ?_, ?_⟩
  · simpa only [Nat.zero_add] using chunk_l s 0 n μ
  · simpa only [Nat.zero_add] using chunk_a s v 0 n μ

/-- A further stretch of keys: the old sums are rescaled to the new reference point and the stretch is added. -/
theorem Upto.step {s : ℕ → ℝ} {v : ℕ → EReal} {o : ℕ} {m l a : EReal} (h : Upto s v o m l a) (n : ℕ) (hn : 0 < n) (m' : EReal)
    (hm : m' = max m (Finset.univ.fold max (⊥ : EReal) (fun k : Fin n => (s (o + k.val) : EReal)))) :
    Upto s v (o + n) m' (Ideal.exp2 (m - m') * l + ∑ k : Fin n, Ideal.exp2 ((s (o + k.val) : EReal) - m'))
      (Ideal.exp2 (m - m') * a + ∑ k : Fin n, v (o + k.val) * Ideal.exp2 ((s (o + k.val) : EReal) - m')) := by
  obtain ⟨μ, rfl, rfl, rfl⟩ := h
  obtain ⟨ν, hν⟩ := fold_max_real hn (fun k : Fin n => s (o + k.val))
  rw [hν, ← coe_max'] at hm
  obtain ⟨κ, rfl⟩ : ∃ κ : ℝ, m' = (κ : EReal) := ⟨_, hm⟩
  have hc : (2 : ℝ) ^ (-κ) * (2 : ℝ) ^ μ * (2 : ℝ) ^ (-μ) = (2 : ℝ) ^ (-κ) := by
    rw [mul_assoc, ← Real.rpow_add two_pos]; simp
  refine ⟨κ, rfl, ?_, ?_⟩
  · rw [chunk_l, exp2_sub, ← EReal.coe_mul, ← EReal.coe_add, ← mul_assoc, hc, Finset.sum_range_add, mul_add]
  · rw [chunk_a, exp2_sub, ← mul_assoc, ← EReal.coe_mul, hc, Finset.sum_range_add,
      EReal.left_distrib_of_nonneg_of_ne_top (EReal.coe_nonneg.mpr (Real.rpow_nonneg two_pos.le _)) (EReal.coe_ne_top _)]

/-- The quotient of the two sums is the weighted mean of the values. -/
theorem Upto.finish {s : ℕ → ℝ} {v : ℕ → EReal} {n : ℕ} (hn : 0 < n) {m l a : EReal} (h : Upto s v n m l a) :
    Ideal.div a l = ∑ k : Fin n, v k.val * (wt s n k.val : EReal) := by
  obtain ⟨μ, rfl, rfl, rfl⟩ := h
  have hL : 0 < ∑ k ∈ Finset.range n, (2 : ℝ) ^ s k :=
    Finset.sum_pos (fun k _ => Real.rpow_pos_of_pos two_pos _) ⟨0, Finset.mem_range.mpr hn⟩
  have hp : (0 : ℝ) < (2 : ℝ) ^ (-μ) := Real.rpow_pos_of_pos two_pos _
  rw [Ideal.div_coe (mul_pos hp hL).ne', mul_comm, ← mul_assoc, ← EReal.coe_mul,
    real_mul_sum _ (by positivity),
    ← Fin.sum_univ_eq_sum_range (fun k => (((1 / ((2 : ℝ) ^ (-μ) * ∑ k ∈ Finset.range n, (2 : ℝ) ^ s k)) * (2 : ℝ) ^ (-μ) : ℝ) : EReal) * (v k * (((2 : ℝ) ^ s k : ℝ) : EReal))) n]
  refine Finset.sum_congr rfl fun k _ => ?_
  rw [mul_left_comm, ← EReal.coe_mul]
  congr 2
  rw [wt]
  field_simp

/-- The softmax in base e of scores `s * log 2` gives the same weights. -/
theorem softmax_eq (s : ℕ → ℝ) (n : ℕ) (hn : 0 < n) (M : EReal) (μ : ℝ) (hM : M = (μ : EReal)) (k : ℕ) :
    Ideal.div (Ideal.exp (((s k * Real.log 2 : ℝ) : EReal) - M))
      (∑ j : Fin n, Ideal.exp (((s j.val * Real.log 2 : ℝ) : EReal) - M)) = (wt s n k : EReal) := by
  subst hM
  have e : ∀ j : ℕ, Ideal.exp (((s j * Real.log 2 : ℝ) : EReal) - (μ : EReal)) =
      ((Real.exp (-μ) * (2 : ℝ) ^ s j : ℝ) : EReal) := fun j => by
    rw [← EReal.coe_sub, Ideal.exp_coe, Real.rpow_def_of_pos two_pos, ← Real.exp_add]
    congr 2
    ring
  have hL : 0 < ∑ k ∈ Finset.range n, (2 : ℝ) ^ s k :=
    Finset.sum_pos (fun k _ => Real.rpow_pos_of_pos two_pos _) ⟨0, Finset.mem_range.mpr hn⟩
  have hs : (∑ j : Fin n, Ideal.exp (((s j.val * Real.log 2 : ℝ) : EReal) - (μ : EReal))) =
      ((Real.exp (-μ) * ∑ k ∈ Finset.range n, (2 : ℝ) ^ s k : ℝ) : EReal) := by
    rw [Finset.mul_sum, coe_sum, ← Fin.sum_univ_eq_sum_range (fun j => ((Real.exp (-μ) * (2 : ℝ) ^ s j : ℝ) : EReal)) n]
    exact Finset.sum_congr rfl fun j _ => e _
  rw [hs, e, Ideal.div_coe (mul_pos (Real.exp_pos _) hL).ne', ← EReal.coe_mul]
  congr 1
  have := (Real.exp_pos (-μ)).ne'
  rw [wt]
  field_simp

end Attn

end
-- ==== Proof.Payload.lean ====
module

public import proofs.«01_k».proof.Proof.Gen.KernelIdeal.Value
public import proofs.«01_k».proof.Proof.Softmax
public import Idealize.ShloMosaic.Lib.MatmulPlain
public import Idealize.ShloMosaic.Lib.ValueLayout
public import Idealize.ShloMosaic.Lib.ValueIdxCoords
public import Idealize.ShloMosaic.Lib.ValueIdx

@[expose] public section

noncomputable section

namespace Attn

open Cert.KernelIdeal Cert.KernelIdeal.Gen Idealize.ShloMosaic Idealize.ShloMosaic.ValueIdx Idealize.ShloMosaic.TcCoe

/-- The word that starts a maximum is minus infinity. -/
theorem ofBits_neg_inf : FloatOps.ofBits (F := Ideal) .f32 0xFF800000#32 = (⊥ : EReal) := by
  simp [Ideal.ofBits, Ideal.ieee]

/-- A chunk's scores: keys against queries. -/
theorem pay1_apply (q : FVec Ideal S128x1024 .bf16) (k : Vec Ideal S2048x128 .bf16) (j : Fin 2048) (c : Fin 1024) :
    k0_pay1 q k (ix2 j c) = ∑ d : Fin 128, k (ix2 j d) * q (ix2 d c) := by
  unfold k0_pay1
  rw [shapeCast_self]
  refine (Ideal.matmul_plain_apply none k q _ j c).trans ?_
  rw [show (constant S2048x1024 .f32 0x00000000#32 : FVec Ideal S2048x1024 .f32) (ix2 j c) = 0 from Ideal.ofBits_zero_f32, zero_add]

/-- A column's maximum over 2048 rows, kept as one row. -/
theorem max2048 (x : FVec Ideal S2048x1024 .f32) (c : Fin 1024) :
    shapeCast S1x1024 (multiReduction .maximumf [0] S1024 x 0xFF800000#32 reduces_S2048x1024_S1024 (.inl rfl) rfl)
      shapeCasts_S1024_S1x1024 (ix2 (0 : Fin 1) c) = Finset.univ.fold max (⊥ : EReal) (fun j : Fin 2048 => x (ix2 j c)) := by
  rw [shapeCast_a_1a_apply]
  refine (Ideal.multiReduction_maximumf_single x _ _ _ _ _).trans ?_
  rw [ofBits_neg_inf]
  refine congrArg (fun f => Finset.fold max (⊥ : EReal) f Finset.univ) (funext fun j => congrArg x ?_)
  exact eq_ix2 _

/-- A column's sum over 2048 rows, kept as one row. -/
theorem sum2048 (x : FVec Ideal S2048x1024 .f32) (c : Fin 1024) :
    shapeCast S1x1024 (multiReduction .add [0] S1024 x 0x00000000#32 reduces_S2048x1024_S1024 (.inl rfl) rfl)
      shapeCasts_S1024_S1x1024 (ix2 (0 : Fin 1) c) = ∑ j : Fin 2048, x (ix2 j c) := by
  rw [shapeCast_a_1a_apply]
  refine (Ideal.multiReduction_add_single x _ _ _ _ _).trans ?_
  exact Finset.sum_congr rfl fun j _ => congrArg x (eq_ix2 _)

/-- A column's maximum over 256 rows, kept as one row. -/
theorem max256 (x : FVec Ideal S256x1024 .f32) (c : Fin 1024) :
    shapeCast S1x1024 (multiReduction .maximumf [0] S1024 x 0xFF800000#32 reduces_S256x1024_S1024 (.inl rfl) rfl)
      shapeCasts_S1024_S1x1024 (ix2 (0 : Fin 1) c) = Finset.univ.fold max (⊥ : EReal) (fun j : Fin 256 => x (ix2 j c)) := by
  rw [shapeCast_a_1a_apply]
  refine (Ideal.multiReduction_maximumf_single x _ _ _ _ _).trans ?_
  rw [ofBits_neg_inf]
  refine congrArg (fun f => Finset.fold max (⊥ : EReal) f Finset.univ) (funext fun j => congrArg x ?_)
  exact eq_ix2 _

/-- A column's sum over 256 rows, kept as one row. -/
theorem sum256 (x : FVec Ideal S256x1024 .f32) (c : Fin 1024) :
    shapeCast S1x1024 (multiReduction .add [0] S1024 x 0x00000000#32 reduces_S256x1024_S1024 (.inl rfl) rfl)
      shapeCasts_S1024_S1x1024 (ix2 (0 : Fin 1) c) = ∑ j : Fin 256, x (ix2 j c) := by
  rw [shapeCast_a_1a_apply]
  refine (Ideal.multiReduction_add_single x _ _ _ _ _).trans ?_
  exact Finset.sum_congr rfl fun j _ => congrArg x (eq_ix2 _)

/-- A trip's new reference point. -/
theorem pay2_apply (q : FVec Ideal S128x1024 .bf16) (m : FVec Ideal S1x1024 .f32) (k : Vec Ideal S2048x128 .bf16) (c : Fin 1024) :
    k0_pay2 q m k (ix2 (0 : Fin 1) c) =
      max (m (ix2 (0 : Fin 1) c)) (Finset.univ.fold max (⊥ : EReal) (fun j : Fin 2048 => k0_pay1 q k (ix2 j c))) := by
  unfold k0_pay2
  dsimp only
  rw [ValueIdx.maximumf_apply, max2048]

/-- The factor that takes the old sums to the new reference point. -/
theorem pay3_apply (q : FVec Ideal S128x1024 .bf16) (m : FVec Ideal S1x1024 .f32) (k : Vec Ideal S2048x128 .bf16) (c : Fin 1024) :
    k0_pay3 q m k (ix2 (0 : Fin 1) c) =
      Ideal.exp2 (m (ix2 (0 : Fin 1) c) - k0_pay2 q m k (ix2 (0 : Fin 1) c)) := rfl

/-- A trip's weights relative to the new reference point. -/
theorem pay4_apply (q : FVec Ideal S128x1024 .bf16) (m : FVec Ideal S1x1024 .f32) (k : Vec Ideal S2048x128 .bf16) (j : Fin 2048) (c : Fin 1024) :
    k0_pay4 q m k (ix2 j c) = Ideal.exp2 (k0_pay1 q k (ix2 j c) - k0_pay2 q m k (ix2 (0 : Fin 1) c)) := by
  unfold k0_pay4
  exact congrArg (fun y : EReal => Ideal.exp2 (k0_pay1 q k (ix2 j c) - y)) (broadcastTo_1b_ab_apply (k0_pay2 q m k) _ j c)

/-- A trip's new sum of weights. -/
theorem pay5_apply (q : FVec Ideal S128x1024 .bf16) (m l : FVec Ideal S1x1024 .f32) (k : Vec Ideal S2048x128 .bf16) (c : Fin 1024) :
    k0_pay5 q m l k (ix2 (0 : Fin 1) c) =
      k0_pay3 q m k (ix2 (0 : Fin 1) c) * l (ix2 (0 : Fin 1) c) + ∑ j : Fin 2048, k0_pay4 q m k (ix2 j c) := by
  unfold k0_pay5
  dsimp only
  exact congrArg (fun y : EReal => k0_pay3 q m k (ix2 (0 : Fin 1) c) * l (ix2 (0 : Fin 1) c) + y) (sum2048 (k0_pay4 q m k) c)

/-- A trip's new weighted sum of values. -/
theorem pay6_apply (q : FVec Ideal S128x1024 .bf16) (m : FVec Ideal S1x1024 .f32) (a : FVec Ideal S128x1024 .f32)
    (k : Vec Ideal S2048x128 .bf16) (v : Vec Ideal S1x128x2048 .bf16) (d : Fin 128) (c : Fin 1024) :
    k0_pay6 q m a k v (ix2 d c) = k0_pay3 q m k (ix2 (0 : Fin 1) c) * a (ix2 d c) +
      ∑ j : Fin 2048, v (ix3 (0 : Fin 1) d j) * k0_pay4 q m k (ix2 j c) := by
  unfold k0_pay6
  refine congrArg₂ (fun x y : EReal => x * a (ix2 d c) + y) (broadcastTo_1b_ab_apply (k0_pay3 q m k) _ d c) ?_
  refine (Ideal.matmul_plain_apply none _ _ _ d c).trans ?_
  rw [show (constant S128x1024 .f32 0x00000000#32 : FVec Ideal S128x1024 .f32) (ix2 d c) = 0 from Ideal.ofBits_zero_f32, zero_add]
  refine Finset.sum_congr rfl fun j _ => ?_
  exact congrArg (fun y : EReal => y * k0_pay4 q m k (ix2 j c)) (shapeCast_1ab_ab_apply v _ d j)

/-- The output before it is laid out: the weighted sum over the sum of weights. -/
theorem pay13_apply (l : FVec Ideal S1x1024 .f32) (a : FVec Ideal S128x1024 .f32) (d : Fin 128) (c : Fin 1024) :
    k0_pay13 l a (ix2 d c) = Ideal.div (a (ix2 d c)) (l (ix2 (0 : Fin 1) c)) := by
  unfold k0_pay13
  exact congrArg (fun y : EReal => Ideal.div (a (ix2 d c)) y) (broadcastTo_1b_ab_apply l _ d c)

/-- Column `g * 256 + r`: query row `r` of the block's head `g`. -/
def col (g : Fin 4) (r : Fin 256) : Fin 1024 := ⟨256 * g.val + r.val, by omega⟩

/-- Head 0 of the output block. -/
theorem pay14_apply (l : FVec Ideal S1x1024 .f32) (a : FVec Ideal S128x1024 .f32) (r : Fin 256) (d : Fin 128) :
    k0_pay14 l a (ix2 r d) = k0_pay13 l a (ix2 d (col 0 r)) := by
  unfold k0_pay14
  dsimp only
  refine (transpose_ix2_apply (a := 128) (b := 256) (extractStridedSlice S128x256 ![0, 0] (k0_pay13 l a) slices_S128x1024_o0_0_S128x256)
    transposes_S128x256_p1_0_S256x128 r d).trans ?_
  exact slice2_axis1_apply 0 (k0_pay13 l a) slices_S128x1024_o0_0_S128x256 d r (col 0 r) (by simp [col])

/-- Head 1 of the output block. -/
theorem pay15_apply (l : FVec Ideal S1x1024 .f32) (a : FVec Ideal S128x1024 .f32) (r : Fin 256) (d : Fin 128) :
    k0_pay15 l a (ix2 r d) = k0_pay13 l a (ix2 d (col 1 r)) := by
  unfold k0_pay15
  dsimp only
  refine (transpose_ix2_apply (a := 128) (b := 256) (extractStridedSlice S128x256 ![0, 256] (k0_pay13 l a) slices_S128x1024_o0_256_S128x256)
    transposes_S128x256_p1_0_S256x128 r d).trans ?_
  exact slice2_axis1_apply 256 (k0_pay13 l a) slices_S128x1024_o0_256_S128x256 d r (col 1 r) (by simp [col])

/-- Head 2 of the output block. -/
theorem pay16_apply (l : FVec Ideal S1x1024 .f32) (a : FVec Ideal S128x1024 .f32) (r : Fin 256) (d : Fin 128) :
    k0_pay16 l a (ix2 r d) = k0_pay13 l a (ix2 d (col 2 r)) := by
  unfold k0_pay16
  dsimp only
  refine (transpose_ix2_apply (a := 128) (b := 256) (extractStridedSlice S128x256 ![0, 512] (k0_pay13 l a) slices_S128x1024_o0_512_S128x256)
    transposes_S128x256_p1_0_S256x128 r d).trans ?_
  exact slice2_axis1_apply 512 (k0_pay13 l a) slices_S128x1024_o0_512_S128x256 d r (col 2 r) (by simp [col])

/-- Head 3 of the output block. -/
theorem pay17_apply (l : FVec Ideal S1x1024 .f32) (a : FVec Ideal S128x1024 .f32) (r : Fin 256) (d : Fin 128) :
    k0_pay17 l a (ix2 r d) = k0_pay13 l a (ix2 d (col 3 r)) := by
  unfold k0_pay17
  dsimp only
  refine (transpose_ix2_apply (a := 128) (b := 256) (extractStridedSlice S128x256 ![0, 768] (k0_pay13 l a) slices_S128x1024_o0_768_S128x256)
    transposes_S128x256_p1_0_S256x128 r d).trans ?_
  exact slice2_axis1_apply 768 (k0_pay13 l a) slices_S128x1024_o0_768_S128x256 d r (col 3 r) (by simp [col])

/-- The context values, transposed. -/
theorem pay18_apply (v : Vec Ideal S256x128 .bf16) (d : Fin 128) (j : Fin 256) : k0_pay18 v (ix2 d j) = v (ix2 j d) := by
  unfold k0_pay18
  dsimp only
  rw [shapeCast_self, shapeCast_self]
  exact transpose_ix2_apply v transposes_S256x128_p1_0_S128x256 d j

/-- The first half of the latent values, transposed. -/
theorem pay19_apply (v : Vec Ideal S2048x128 .bf16) (u : Fin 1) (d : Fin 128) (j : Fin 2048) :
    k0_pay19 v (ix3 u d j) = v (ix2 j d) := by
  unfold k0_pay19
  dsimp only
  rw [shapeCast_self]
  refine (shapeCast_ab_1ab_apply (a := 128) (b := 2048) _ shapeCasts_S128x2048_S1x128x2048 u d j).trans ?_
  exact transpose_ix2_apply v transposes_S2048x128_p1_0_S128x2048 d j

/-- The second half of the latent values, transposed. -/
theorem pay20_apply (v : Vec Ideal S2048x128 .bf16) (u : Fin 1) (d : Fin 128) (j : Fin 2048) :
    k0_pay20 v (ix3 u d j) = v (ix2 j d) := by
  unfold k0_pay20
  dsimp only
  rw [shapeCast_self]
  refine (shapeCast_ab_1ab_apply (a := 128) (b := 2048) _ shapeCasts_S128x2048_S1x128x2048 u d j).trans ?_
  exact transpose_ix2_apply v transposes_S2048x128_p1_0_S128x2048 d j

/-- The four heads of queries, transposed and laid side by side. -/
theorem pay21_apply (x : Fin 4 → Vec Ideal S256x128 .bf16) (d : Fin 128) (g : Fin 4) (r : Fin 256) :
    k0_pay21 (x 0) (x 1) (x 2) (x 3) (ix2 d (col g r)) = x g (ix2 r d) := by
  unfold k0_pay21
  dsimp only
  simp only [shapeCast_self]
  fin_cases g
  · refine (concatenate_apply_piece 1 _ _ (ix2 d (col 0 r)) 0 (by simp) S128x256 _ rfl rfl 0 rfl (ix2 d r) ?_ ?_).trans (transpose_ix2_apply (x 0) transposes_S256x128_p1_0_S128x256 d r)
    · intro b hb; match b with
      | ⟨0, _⟩ => rfl
      | ⟨1, _⟩ => exact absurd rfl hb
    · simp [col]
  · refine (concatenate_apply_piece 1 _ _ (ix2 d (col 1 r)) 1 (by simp) S128x256 _ rfl rfl 256 rfl (ix2 d r) ?_ ?_).trans (transpose_ix2_apply (x 1) transposes_S256x128_p1_0_S128x256 d r)
    · intro b hb; match b with
      | ⟨0, _⟩ => rfl
      | ⟨1, _⟩ => exact absurd rfl hb
    · simp [col]
  · refine (concatenate_apply_piece 1 _ _ (ix2 d (col 2 r)) 2 (by simp) S128x256 _ rfl rfl 512 rfl (ix2 d r) ?_ ?_).trans (transpose_ix2_apply (x 2) transposes_S256x128_p1_0_S128x256 d r)
    · intro b hb; match b with
      | ⟨0, _⟩ => rfl
      | ⟨1, _⟩ => exact absurd rfl hb
    · simp [col]
  · refine (concatenate_apply_piece 1 _ _ (ix2 d (col 3 r)) 3 (by simp) S128x256 _ rfl rfl 768 rfl (ix2 d r) ?_ ?_).trans (transpose_ix2_apply (x 3) transposes_S256x128_p1_0_S128x256 d r)
    · intro b hb; match b with
      | ⟨0, _⟩ => rfl
      | ⟨1, _⟩ => exact absurd rfl hb
    · simp [col]

/-- The context's scores: keys against queries. -/
theorem pay22_apply (x0 x1 x2 x3 : Vec Ideal S256x128 .bf16) (k : Vec Ideal S256x128 .bf16) (j : Fin 256) (c : Fin 1024) :
    k0_pay22 x0 x1 x2 x3 k (ix2 j c) = ∑ d : Fin 128, k (ix2 j d) * k0_pay21 x0 x1 x2 x3 (ix2 d c) := by
  unfold k0_pay22
  rw [shapeCast_self]
  refine (Ideal.matmul_plain_apply none k (k0_pay21 x0 x1 x2 x3) _ j c).trans ?_
  rw [show (constant S256x1024 .f32 0x00000000#32 : FVec Ideal S256x1024 .f32) (ix2 j c) = 0 from Ideal.ofBits_zero_f32, zero_add]

/-- The first reference point: the context's largest score. -/
theorem pay23_apply (x0 x1 x2 x3 : Vec Ideal S256x128 .bf16) (k : Vec Ideal S256x128 .bf16) (c : Fin 1024) :
    k0_pay23 x0 x1 x2 x3 k (ix2 (0 : Fin 1) c) =
      Finset.univ.fold max (⊥ : EReal) (fun j : Fin 256 => k0_pay22 x0 x1 x2 x3 k (ix2 j c)) := by
  unfold k0_pay23
  dsimp only
  exact max256 (k0_pay22 x0 x1 x2 x3 k) c

/-- The context's weights. -/
theorem pay24_apply (x0 x1 x2 x3 : Vec Ideal S256x128 .bf16) (k : Vec Ideal S256x128 .bf16) (j : Fin 256) (c : Fin 1024) :
    k0_pay24 x0 x1 x2 x3 k (ix2 j c) =
      Ideal.exp2 (k0_pay22 x0 x1 x2 x3 k (ix2 j c) - k0_pay23 x0 x1 x2 x3 k (ix2 (0 : Fin 1) c)) := by
  unfold k0_pay24
  exact congrArg (fun y : EReal => Ideal.exp2 (k0_pay22 x0 x1 x2 x3 k (ix2 j c) - y))
    (broadcastTo_1b_ab_apply (k0_pay23 x0 x1 x2 x3 k) _ j c)

/-- The context's sum of weights. -/
theorem pay25_apply (x0 x1 x2 x3 : Vec Ideal S256x128 .bf16) (k : Vec Ideal S256x128 .bf16) (c : Fin 1024) :
    k0_pay25 x0 x1 x2 x3 k (ix2 (0 : Fin 1) c) = ∑ j : Fin 256, k0_pay24 x0 x1 x2 x3 k (ix2 j c) := by
  unfold k0_pay25
  dsimp only
  exact sum256 (k0_pay24 x0 x1 x2 x3 k) c

/-- The context's weighted sum of values. -/
theorem pay26_apply (x0 x1 x2 x3 : Vec Ideal S256x128 .bf16) (k : Vec Ideal S256x128 .bf16) (v : Vec Ideal S128x256 .bf16)
    (d : Fin 128) (c : Fin 1024) :
    k0_pay26 x0 x1 x2 x3 k v (ix2 d c) = ∑ j : Fin 256, v (ix2 d j) * k0_pay24 x0 x1 x2 x3 k (ix2 j c) := by
  unfold k0_pay26
  refine (Ideal.matmul_plain_apply none v _ _ d c).trans ?_
  rw [show (constant S128x1024 .f32 0x00000000#32 : FVec Ideal S128x1024 .f32) (ix2 d c) = 0 from Ideal.ofBits_zero_f32, zero_add]
  rfl

/-- The context's keys start the running softmax of a column. -/
theorem ctx_upto (x0 x1 x2 x3 : Vec Ideal S256x128 .bf16) (k : Vec Ideal S256x128 .bf16) (vt : Vec Ideal S128x256 .bf16)
    (d : Fin 128) (c : Fin 1024) (s : ℕ → ℝ) (v : ℕ → EReal)
    (hs : ∀ j : Fin 256, ∑ e : Fin 128, k (ix2 j e) * k0_pay21 x0 x1 x2 x3 (ix2 e c) = (s j.val : EReal))
    (hv : ∀ j : Fin 256, vt (ix2 d j) = v j.val) :
    Upto s v 256 (k0_pay23 x0 x1 x2 x3 k (ix2 (0 : Fin 1) c)) (k0_pay25 x0 x1 x2 x3 k (ix2 (0 : Fin 1) c))
      (k0_pay26 x0 x1 x2 x3 k vt (ix2 d c)) := by
  rw [pay25_apply, pay26_apply]
  simp only [pay24_apply, pay22_apply, hs, hv]
  refine Upto.start s v 256 (by norm_num) _ ?_
  rw [pay23_apply]
  simp only [pay22_apply, hs]

/-- A trip takes a further 2048 keys into the running softmax of a column. -/
theorem trip_upto (q : FVec Ideal S128x1024 .bf16) (m l : FVec Ideal S1x1024 .f32) (a : FVec Ideal S128x1024 .f32)
    (k : Vec Ideal S2048x128 .bf16) (vt : Vec Ideal S1x128x2048 .bf16) (d : Fin 128) (c : Fin 1024) (s : ℕ → ℝ) (v : ℕ → EReal) (o : ℕ)
    (h : Upto s v o (m (ix2 (0 : Fin 1) c)) (l (ix2 (0 : Fin 1) c)) (a (ix2 d c)))
    (hs : ∀ j : Fin 2048, ∑ e : Fin 128, k (ix2 j e) * q (ix2 e c) = (s (o + j.val) : EReal))
    (hv : ∀ j : Fin 2048, vt (ix3 (0 : Fin 1) d j) = v (o + j.val)) :
    Upto s v (o + 2048) (k0_pay2 q m k (ix2 (0 : Fin 1) c)) (k0_pay5 q m l k (ix2 (0 : Fin 1) c)) (k0_pay6 q m a k vt (ix2 d c)) := by
  rw [pay5_apply, pay6_apply, pay3_apply]
  simp only [pay4_apply, pay1_apply, hs, hv]
  refine h.step 2048 (by norm_num) _ ?_
  rw [pay2_apply]
  simp only [pay1_apply, hs]

end Attn

end
-- ==== Proof.Loop.lean ====
module

public import proofs.«01_k».proof.Proof.Payload
public import Idealize.ShloMosaic.Lib.Pipeline.ValueKit.Tiles

@[expose] public section

noncomputable section

namespace Attn

open Cert.KernelIdeal Cert.KernelIdeal.Gen Idealize.ShloMosaic Idealize.ShloMosaic.ValueIdx Idealize.ShloMosaic.TcCoe
open Idealize.ShloMosaic.Tactic Idealize.SL.Sem

/-- The number of keys a query block attends to: all of them for latent queries, the context's for context queries. -/
def nk (i : grid0.Coords) : ℕ := if (i 2).val < 16 then 4352 else 256

/-- The loop over the latent keys makes two trips for latent queries and none for context queries. -/
theorem trips_t1 (i : grid0.Coords) : (k0_t1_loop i).trips = if (i 2).val < 16 then 2 else 0 := by
  have h : ∀ n : Fin 17, Scf.trips (0#32) (Scalar.addi 0#32 (Scalar.muli (Scalar.divsi (Scalar.subi (Scalar.select
      (Scalar.cmpi .slt (BitVec.ofNat 32 n.val) 16#32) 2#32 0#32) 0#32) 1#32) 1#32)) 1#32 = if n.val < 16 then 2 else 0 := by
    decide +kernel
  exact h (i 2)

/-- The remainder loop makes no trip. -/
theorem trips_t2 (i : grid0.Coords) : (k0_t2_loop i).trips = 0 := by
  have h : ∀ n : Fin 17, Scf.trips (Scalar.addi 0#32 (Scalar.muli (Scalar.divsi (Scalar.subi (Scalar.select
      (Scalar.cmpi .slt (BitVec.ofNat 32 n.val) 16#32) 2#32 0#32) 0#32) 1#32) 1#32)) (Scalar.addi 0#32 (Scalar.subi (Scalar.select
      (Scalar.cmpi .slt (BitVec.ofNat 32 n.val) 16#32) 2#32 0#32) 0#32)) 1#32 = 0 := by
    decide +kernel
  exact h (i 2)

/-- Rows `2048 k …` of the latent keys: the chunk a trip reads. -/
def kchunk (K : S4096x128.Idx → EReal) (k : Fin 2) : Vec Ideal S2048x128 .bf16 :=
  fun y => K (ix2 (⟨2048 * k.val + (y 0).val, by have := idx2_lt0 y; omega⟩ : Fin 4096) (y 1))

/-- Slab `k` of the transposed latent values: the chunk a trip reads. -/
def vchunk (V : S2x128x2048.Idx → EReal) (k : Fin 2) : Vec Ideal S1x128x2048 .bf16 :=
  fun y => V (ix3 k (y 1) (y 2))

section
variable (c : Dev nD) (i : grid0.Coords) (arg3 : Memref sig .tc .vmem S256x512 .bf16) (harg3 : arg3.IsWhole) (arg4 : Memref sig .tc .vmem S256x128 .bf16) (harg4 : arg4.IsWhole) (arg5 : Memref sig .tc .vmem S256x128 .bf16) (harg5 : arg5.IsWhole) (arg6 : Memref sig .tc .vmem S4096x128 .bf16) (harg6 : arg6.IsWhole) (arg7 : Memref sig .tc .vmem S4096x128 .bf16) (harg7 : arg7.IsWhole) (arg8 : Memref sig .tc .vmem S256x512 .bf16) (harg8 : arg8.IsWhole) (arg9 : Memref sig .tc .vmem S128x256 .bf16) (harg9 : arg9.IsWhole) (arg10 : Memref sig .tc .vmem S2x128x2048 .bf16) (harg10 : arg10.IsWhole)
  (q : FVec Ideal S128x1024 .bf16) (X6 : BufTy.Contents (Elt Ideal) arg6.view.ty) (X10 : BufTy.Contents (Elt Ideal) arg10.view.ty)

/-- What a trip yields, from what it reads and the carried state. -/
theorem trip_eq (k : Fin (k0_t1_loop i).trips) (hk : k.val < 2) (acc) :
    tripR_k0_t1 (F := Ideal) Variants.none c none i arg3 harg3 arg4 harg4 arg5 harg5 arg6 harg6 arg7 harg7 arg8 harg8 arg9 harg9 arg10 harg10 q X6 X10 k acc =
      (k0_pay2 q acc.1 (kchunk (arg6.view.read (Elt Ideal) X6) ⟨k.val, hk⟩),
       k0_pay5 q acc.1 acc.2.1 (kchunk (arg6.view.read (Elt Ideal) X6) ⟨k.val, hk⟩),
       k0_pay6 q acc.1 acc.2.2 (kchunk (arg6.view.read (Elt Ideal) X6) ⟨k.val, hk⟩)
         (vchunk (arg10.view.read (Elt Ideal) X10) ⟨k.val, hk⟩)) := by
  unfold tripR_k0_t1 trip_k0_t1
  dsimp only
  sl_unfold_words
  have e1 : ∀ n : ℕ, n < 2 → (Scalar.indexCast (Scalar.muli (Scf.iv 0#32 1#32 n) 2048#32) : BitVec 32).toNat = 2048 * n := by
    decide +kernel
  have e2 : ∀ n : ℕ, n < 2 → (Scalar.indexCast (Scf.iv 0#32 1#32 n) : BitVec 32).toNat = n := by
    decide +kernel
  have hK : ∀ inb, View.readAt (Elt Ideal) arg6.view (Rect.unit (k0_off1 i k) ![2048, 128] inb).toLoadRect X6 =
      kchunk (arg6.view.read (Elt Ideal) X6) ⟨k.val, hk⟩ := by
    intro inb
    rw [View.readAt_eq_ld]
    funext y
    refine View.ld_unit_apply_of _ _ _ inb y _ fun a => ?_
    match a with
    | ⟨0, _⟩ => exact congrArg (· + (y 0).val) (e1 k.val hk).symm
    | ⟨1, _⟩ => exact (Nat.zero_add _).symm
  have hV : ∀ inb, View.readAt (Elt Ideal) arg10.view (Rect.unit (k0_off2 i k) ![1, 128, 2048] inb).toLoadRect X10 =
      vchunk (arg10.view.read (Elt Ideal) X10) ⟨k.val, hk⟩ := by
    intro inb
    rw [View.readAt_eq_ld]
    funext y
    refine View.ld_unit_apply_of _ _ _ inb y _ fun a => ?_
    match a with
    | ⟨0, _⟩ =>
      have hy : (y 0).val = 0 := by have := (y 0).isLt; change (y 0).val < 1 at this; omega
      exact (congrArg₂ (· + ·) (e2 k.val hk) hy).symm
    | ⟨1, _⟩ => exact (Nat.zero_add _).symm
    | ⟨2, _⟩ => exact (Nat.zero_add _).symm
  exact congrArg₂ (fun a b => (k0_pay2 q acc.1 a, k0_pay5 q acc.1 acc.2.1 a, k0_pay6 q acc.1 acc.2.2 a b)) (hK _) (hV _)

variable (init : FVec Ideal S1x1024 .f32 × FVec Ideal S1x1024 .f32 × FVec Ideal S128x1024 .f32)

/-- After the loop over the latent keys a column has seen every key its query attends to. -/
theorem loop_upto (d : Fin 128) (cc : Fin 1024) (s : ℕ → ℝ) (v : ℕ → EReal)
    (h : Upto s v 256 (init.1 (ix2 (0 : Fin 1) cc)) (init.2.1 (ix2 (0 : Fin 1) cc)) (init.2.2 (ix2 d cc)))
    (hs : ∀ j : Fin 4096, ∑ e : Fin 128, arg6.view.read (Elt Ideal) X6 (ix2 j e) * q (ix2 e cc) = (s (256 + j.val) : EReal))
    (hv : ∀ (k : Fin 2) (j : Fin 2048), arg10.view.read (Elt Ideal) X10 (ix3 k d j) = v (256 + (2048 * k.val + j.val)))
    (n : ℕ) (hn : n = (k0_t1_loop i).trips) :
    Upto s v (nk i)
      ((st_k0_t1 (F := Ideal) Variants.none c none i arg3 harg3 arg4 harg4 arg5 harg5 arg6 harg6 arg7 harg7 arg8 harg8 arg9 harg9 arg10 harg10 q X6 X10 init n).1 (ix2 (0 : Fin 1) cc))
      ((st_k0_t1 (F := Ideal) Variants.none c none i arg3 harg3 arg4 harg4 arg5 harg5 arg6 harg6 arg7 harg7 arg8 harg8 arg9 harg9 arg10 harg10 q X6 X10 init n).2.1 (ix2 (0 : Fin 1) cc))
      ((st_k0_t1 (F := Ideal) Variants.none c none i arg3 harg3 arg4 harg4 arg5 harg5 arg6 harg6 arg7 harg7 arg8 harg8 arg9 harg9 arg10 harg10 q X6 X10 init n).2.2 (ix2 d cc)) := by
  have ht := trips_t1 i
  have key : ∀ n : ℕ, n ≤ 2 → n ≤ (k0_t1_loop i).trips → Upto s v (256 + 2048 * n)
      ((st_k0_t1 (F := Ideal) Variants.none c none i arg3 harg3 arg4 harg4 arg5 harg5 arg6 harg6 arg7 harg7 arg8 harg8 arg9 harg9 arg10 harg10 q X6 X10 init n).1 (ix2 (0 : Fin 1) cc))
      ((st_k0_t1 (F := Ideal) Variants.none c none i arg3 harg3 arg4 harg4 arg5 harg5 arg6 harg6 arg7 harg7 arg8 harg8 arg9 harg9 arg10 harg10 q X6 X10 init n).2.1 (ix2 (0 : Fin 1) cc))
      ((st_k0_t1 (F := Ideal) Variants.none c none i arg3 harg3 arg4 harg4 arg5 harg5 arg6 harg6 arg7 harg7 arg8 harg8 arg9 harg9 arg10 harg10 q X6 X10 init n).2.2 (ix2 d cc)) := by
    intro n
    induction n with
    | zero => intro _ _; rw [st_k0_t1_zero]; exact h
    | succ n ih =>
      intro h2 hlt
      have h2' : n < 2 := h2
      have e := st_k0_t1_succ (F := Ideal) Variants.none c none i arg3 harg3 arg4 harg4 arg5 harg5 arg6 harg6 arg7 harg7 arg8 harg8 arg9 harg9 arg10 harg10 q X6 X10 init ⟨n, hlt⟩
      rw [trip_eq c i arg3 harg3 arg4 harg4 arg5 harg5 arg6 harg6 arg7 harg7 arg8 harg8 arg9 harg9 arg10 harg10 q X6 X10 ⟨n, hlt⟩ h2'] at e
      rw [show (⟨n, hlt⟩ : Fin (k0_t1_loop i).trips).val + 1 = n + 1 from rfl] at e
      rw [e]
      have := trip_upto q _ _ _ (kchunk (arg6.view.read (Elt Ideal) X6) ⟨n, h2'⟩) (vchunk (arg10.view.read (Elt Ideal) X10) ⟨n, h2'⟩) d cc s v
        (256 + 2048 * n) (ih (by omega) (by omega)) (fun j => ?_) (fun j => ?_)
      · rw [show 256 + 2048 * (n + 1) = 256 + 2048 * n + 2048 by ring]
        exact this
      · have := hs ⟨2048 * n + j.val, by omega⟩
        rw [← Nat.add_assoc] at this
        exact this
      · have := hv ⟨n, h2'⟩ j
        rw [← Nat.add_assoc] at this
        exact this
  subst hn
  unfold nk
  have := key (k0_t1_loop i).trips (by rw [ht]; split <;> omega) le_rfl
  by_cases h16 : (i 2).val < 16
  · rw [if_pos h16]
    have e : 256 + 2048 * (k0_t1_loop i).trips = 4352 := by rw [ht, if_pos h16]
    rwa [e] at this
  · rw [if_neg h16]
    have e : 256 + 2048 * (k0_t1_loop i).trips = 256 := by rw [ht, if_neg h16]
    rwa [e] at this

/-- The remainder loop leaves its state as it was. -/
theorem loop2_eq (n : ℕ) (hn : n = (k0_t2_loop i).trips) :
    st_k0_t2 (F := Ideal) Variants.none c none i arg3 harg3 arg4 harg4 arg5 harg5 arg6 harg6 arg7 harg7 arg8 harg8 arg9 harg9 arg10 harg10 q X6 X10 init n = init := by
  rw [hn, trips_t2, st_k0_t2_zero]

end

end Attn

end
-- ==== Proof.Block.lean ====
module

public import proofs.«01_k».proof.Proof.Loop

@[expose] public section

noncomputable section

namespace Attn

open Cert.KernelIdeal Cert.KernelIdeal.Gen Idealize.ShloMosaic Idealize.ShloMosaic.ValueIdx Idealize.ShloMosaic.TcCoe
open Idealize.ShloMosaic.Tactic Idealize.SL.Sem

/-- Column `128 g + d` of a block: entry `d` of head `g`. -/
def hcol (g : Fin 4) (d : Fin 128) : Fin 512 := ⟨128 * g.val + d.val, by omega⟩

/-- The four heads' queries of a block. -/
def qhead (x0 : Vec Ideal S256x512 .bf16) (g : Fin 4) : Vec Ideal S256x128 .bf16 := fun y => x0 (ix2 (y 0) (hcol g (y 1)))

theorem ld_q (x0 : Vec Ideal S256x512 .bf16) (g : Fin 4) (o : ℕ) (ho : o = 128 * g.val) (inb) :
    View.ld (Val := Elt Ideal) (e' := .bf16) x0 (Rect.unit (s := S256x512) ![0, o] ![256, 128] inb) = qhead x0 g := by
  subst ho
  funext y
  refine View.ld_unit_apply_of _ _ _ inb y _ fun a => ?_
  match a with
  | ⟨0, _⟩ => exact (Nat.zero_add _).symm
  | ⟨1, _⟩ => rfl

theorem ld_ctx (x : Vec Ideal S256x128 .bf16) (inb) :
    View.ld (Val := Elt Ideal) (e' := .bf16) x (Rect.unit (s := S256x128) ![0, 0] ![256, 128] inb) = x :=
  View.ld_unit_zero (S := S256x128) (by funext a; fin_cases a <;> rfl) inb x

/-- The two stores of the transposed latent values reach every entry of the scratch. -/
theorem vtl_cover (p1 p0 : Vec Ideal S1x128x2048 .bf16) (inb0 inb1) (y : S2x128x2048.Idx) :
    ∃ p ∈ ([⟨Rect.unit ![1, 0, 0] ![1, 128, 2048] inb1, p1⟩, ⟨Rect.unit ![0, 0, 0] ![1, 128, 2048] inb0, p0⟩] :
      List (View.Piece (Elt Ideal) S2x128x2048 .bf16)), y ∈ p.1.set := by
  have h0 : (y 0).val < 2 := (y 0).isLt
  have h1 : (y 1).val < 128 := (y 1).isLt
  have h2 : (y 2).val < 2048 := (y 2).isLt
  have hk : (y 0).val = 0 ∨ (y 0).val = 1 := by omega
  rcases hk with hk | hk
  · refine ⟨_, List.mem_cons_of_mem _ List.mem_cons_self, (Rect.mem_set_unit (inb := inb0)).mpr fun a => ?_⟩
    match a with
    | ⟨0, _⟩ => show 0 ≤ (y 0).val ∧ (y 0).val < 0 + 1; omega
    | ⟨1, _⟩ => show 0 ≤ (y 1).val ∧ (y 1).val < 0 + 128; omega
    | ⟨2, _⟩ => show 0 ≤ (y 2).val ∧ (y 2).val < 0 + 2048; omega
  · refine ⟨_, List.mem_cons_self, (Rect.mem_set_unit (inb := inb1)).mpr fun a => ?_⟩
    match a with
    | ⟨0, _⟩ => show 1 ≤ (y 0).val ∧ (y 0).val < 1 + 1; omega
    | ⟨1, _⟩ => show 0 ≤ (y 1).val ∧ (y 1).val < 0 + 128; omega
    | ⟨2, _⟩ => show 0 ≤ (y 2).val ∧ (y 2).val < 0 + 2048; omega

/-- The transposed latent values as the two stores leave them. -/
theorem vtl_canon (x4 : Vec Ideal S4096x128 .bf16) (inb0 inb1 inb2 inb3) (k : Fin 2) (d : Fin 128) (j : Fin 2048) :
    View.canon (Val := Elt Ideal) (s := S2x128x2048) (e := .bf16)
      [⟨Rect.unit ![1, 0, 0] ![1, 128, 2048] inb1, k0_pay20 (View.ld x4 (Rect.unit (s := S4096x128) ![2048, 0] ![2048, 128] inb3))⟩,
       ⟨Rect.unit ![0, 0, 0] ![1, 128, 2048] inb0, k0_pay19 (View.ld x4 (Rect.unit (s := S4096x128) ![0, 0] ![2048, 128] inb2))⟩] (ix3 k d j) =
      x4 (ix2 (⟨2048 * k.val + j.val, by omega⟩ : Fin 4096) d) := by
  refine View.canon_apply_of_pieces (Val := Elt Ideal) (e := .bf16)
    (fun y : S2x128x2048.Idx => x4 (ix2 (⟨2048 * (y 0).val + (y 2).val, by
      have h0 : (y 0).val < 2 := (y 0).isLt
      have h2 : (y 2).val < 2048 := (y 2).isLt
      omega⟩ : Fin 4096) (y 1))) _ ?_ (ix3 k d j) ?_
  · intro p hp x
    simp only [List.mem_cons, List.not_mem_nil, or_false] at hp
    rcases hp with rfl | rfl
    · have hx : (x 0).val = 0 := by have := (x 0).isLt; change (x 0).val < 1 at this; omega
      have e := (congrArg (k0_pay20 (View.ld x4 (Rect.unit (s := S4096x128) ![2048, 0] ![2048, 128] inb3))) (eq_ix3 (n0 := 1) (n1 := 128) (n2 := 2048) x)).trans
        (pay20_apply (View.ld x4 (Rect.unit (s := S4096x128) ![2048, 0] ![2048, 128] inb3)) (x 0) (x 1) (x 2))
      refine e.trans ?_
      refine View.ld_unit_apply_of (S := S4096x128) x4 _ _ inb3 _ _ fun a => ?_
      match a with
      | ⟨0, _⟩ =>
        show 2048 * (1 + 1 * (x 0).val) + (0 + 1 * (x 2).val) = 2048 + (x 2).val
        omega
      | ⟨1, _⟩ =>
        show 0 + 1 * (x 1).val = 0 + (x 1).val
        omega
    · have hx : (x 0).val = 0 := by have := (x 0).isLt; change (x 0).val < 1 at this; omega
      have e := (congrArg (k0_pay19 (View.ld x4 (Rect.unit (s := S4096x128) ![0, 0] ![2048, 128] inb2))) (eq_ix3 (n0 := 1) (n1 := 128) (n2 := 2048) x)).trans
        (pay19_apply (View.ld x4 (Rect.unit (s := S4096x128) ![0, 0] ![2048, 128] inb2)) (x 0) (x 1) (x 2))
      refine e.trans ?_
      refine View.ld_unit_apply_of (S := S4096x128) x4 _ _ inb2 _ _ fun a => ?_
      match a with
      | ⟨0, _⟩ =>
        show 2048 * (0 + 1 * (x 0).val) + (0 + 1 * (x 2).val) = 0 + (x 2).val
        omega
      | ⟨1, _⟩ =>
        show 0 + 1 * (x 1).val = 0 + (x 1).val
        omega
  · exact vtl_cover _ _ inb0 inb1 _

/-- The output block as its four stores leave it: head by head, the quotient, transposed. -/
theorem out_canon (l : FVec Ideal S1x1024 .f32) (a : FVec Ideal S128x1024 .f32) (inb0 inb1 inb2 inb3) (r : Fin 256) (g : Fin 4) (d : Fin 128) :
    View.canon (Val := Elt Ideal) (s := S256x512) (e := .bf16)
      [⟨Rect.unit ![0, 384] ![256, 128] inb3, k0_pay17 l a⟩, ⟨Rect.unit ![0, 256] ![256, 128] inb2, k0_pay16 l a⟩,
       ⟨Rect.unit ![0, 128] ![256, 128] inb1, k0_pay15 l a⟩, ⟨Rect.unit ![0, 0] ![256, 128] inb0, k0_pay14 l a⟩] (ix2 r (hcol g d)) =
      Ideal.div (a (ix2 d (col g r))) (l (ix2 (0 : Fin 1) (col g r))) := by
  have hG : ∀ (y : S256x512.Idx) (g : Fin 4) (d : Fin 128) (r : Fin 256), (y 0).val = r.val → (y 1).val = 128 * g.val + d.val →
      k0_pay13 l a (ix2 d (col g r)) = (fun y : S256x512.Idx => k0_pay13 l a
        (ix2 (⟨(y 1).val % 128, Nat.mod_lt _ (by norm_num)⟩ : Fin 128)
          (col ⟨(y 1).val / 128, by have : (y 1).val < 512 := (y 1).isLt; omega⟩ (y 0)))) y := by
    intro y g d r h0 h1
    have e1 : (⟨(y 1).val % 128, Nat.mod_lt _ (by norm_num)⟩ : Fin 128) = d := Fin.ext (by show (y 1).val % 128 = d.val; omega)
    have e2 : (⟨(y 1).val / 128, by have : (y 1).val < 512 := (y 1).isLt; omega⟩ : Fin 4) = g :=
      Fin.ext (by show (y 1).val / 128 = g.val; omega)
    have e3 : y 0 = r := Fin.ext h0
    dsimp only
    rw [e1, e2]
    exact congrArg (fun z => k0_pay13 l a (ix2 d (col g z))) e3.symm
  rw [← pay13_apply]
  refine (View.canon_apply_of_pieces (Val := Elt Ideal) (e := .bf16) (fun y : S256x512.Idx => k0_pay13 l a
        (ix2 (⟨(y 1).val % 128, Nat.mod_lt _ (by norm_num)⟩ : Fin 128)
          (col ⟨(y 1).val / 128, by have : (y 1).val < 512 := (y 1).isLt; omega⟩ (y 0)))) _ ?_ (ix2 r (hcol g d)) ?_).trans
    (hG (ix2 r (hcol g d)) g d r rfl rfl).symm
  · intro p hp x
    simp only [List.mem_cons, List.not_mem_nil, or_false] at hp
    rcases hp with rfl | rfl | rfl | rfl
    · have e := (congrArg (k0_pay17 l a) (eq_ix2 (n0 := 256) (n1 := 128) x)).trans (pay17_apply l a (x 0) (x 1))
      refine e.trans (hG _ 3 (x 1) (x 0) ?_ ?_)
      · show 0 + 1 * (x 0).val = (x 0).val; omega
      · show 384 + 1 * (x 1).val = 128 * 3 + (x 1).val; omega
    · have e := (congrArg (k0_pay16 l a) (eq_ix2 (n0 := 256) (n1 := 128) x)).trans (pay16_apply l a (x 0) (x 1))
      refine e.trans (hG _ 2 (x 1) (x 0) ?_ ?_)
      · show 0 + 1 * (x 0).val = (x 0).val; omega
      · show 256 + 1 * (x 1).val = 128 * 2 + (x 1).val; omega
    · have e := (congrArg (k0_pay15 l a) (eq_ix2 (n0 := 256) (n1 := 128) x)).trans (pay15_apply l a (x 0) (x 1))
      refine e.trans (hG _ 1 (x 1) (x 0) ?_ ?_)
      · show 0 + 1 * (x 0).val = (x 0).val; omega
      · show 128 + 1 * (x 1).val = 128 * 1 + (x 1).val; omega
    · have e := (congrArg (k0_pay14 l a) (eq_ix2 (n0 := 256) (n1 := 128) x)).trans (pay14_apply l a (x 0) (x 1))
      refine e.trans (hG _ 0 (x 1) (x 0) ?_ ?_)
      · show 0 + 1 * (x 0).val = (x 0).val; omega
      · show 0 + 1 * (x 1).val = 128 * 0 + (x 1).val; omega
  · have hm : ∀ (o : ℕ) (inb), o = 128 * g.val → ix2 r (hcol g d) ∈ (Rect.unit (s := S256x512) ![0, o] ![256, 128] inb).set := by
      intro o inb ho
      refine Rect.mem_set_unit.mpr fun a => ?_
      match a with
      | ⟨0, _⟩ => show 0 ≤ r.val ∧ r.val < 0 + 256; omega
      | ⟨1, _⟩ => show o ≤ 128 * g.val + d.val ∧ 128 * g.val + d.val < o + 128; omega
    have hg : g.val = 0 ∨ g.val = 1 ∨ g.val = 2 ∨ g.val = 3 := by omega
    rcases hg with h | h | h | h
    · exact ⟨_, List.mem_cons_of_mem _ (List.mem_cons_of_mem _ (List.mem_cons_of_mem _ List.mem_cons_self)), hm 0 inb0 (by omega)⟩
    · exact ⟨_, List.mem_cons_of_mem _ (List.mem_cons_of_mem _ List.mem_cons_self), hm 128 inb1 (by omega)⟩
    · exact ⟨_, List.mem_cons_of_mem _ List.mem_cons_self, hm 256 inb2 (by omega)⟩
    · exact ⟨_, List.mem_cons_self, hm 384 inb3 (by omega)⟩

section
variable (c : Dev nD) (i : grid0.Coords) (arg3 : Memref sig .tc .vmem S256x512 .bf16) (harg3 : arg3.IsWhole) (arg4 : Memref sig .tc .vmem S256x128 .bf16) (harg4 : arg4.IsWhole) (arg5 : Memref sig .tc .vmem S256x128 .bf16) (harg5 : arg5.IsWhole) (arg6 : Memref sig .tc .vmem S4096x128 .bf16) (harg6 : arg6.IsWhole) (arg7 : Memref sig .tc .vmem S4096x128 .bf16) (harg7 : arg7.IsWhole) (arg8 : Memref sig .tc .vmem S256x512 .bf16) (harg8 : arg8.IsWhole) (arg9 : Memref sig .tc .vmem S128x256 .bf16) (harg9 : arg9.IsWhole) (arg10 : Memref sig .tc .vmem S2x128x2048 .bf16) (harg10 : arg10.IsWhole)
  (x0 : Vec Ideal S256x512 .bf16) (x1 : Vec Ideal S256x128 .bf16) (x2 : Vec Ideal S256x128 .bf16) (x3 : Vec Ideal S4096x128 .bf16) (x4 : Vec Ideal S4096x128 .bf16)

/-- The first block of a batch entry and key head leaves the transposed context values in scratch. -/
theorem sout0_apply (hc0 : cond0_0 i) (d : Fin 128) (j : Fin 256) :
    sout0_A_0 c i arg3 harg3 arg4 harg4 arg5 harg5 arg6 harg6 arg7 harg7 arg8 harg8 arg9 harg9 arg10 harg10 hc0 x0 x1 x2 x3 x4 (ix2 d j) = x2 (ix2 j d) := by
  unfold sout0_A_0
  rw [View.read_writes_eq_canon _ _ _ (scover0_A_0 c i arg3 harg3 arg4 harg4 arg5 harg5 arg6 harg6 arg7 harg7 arg8 harg8 arg9 harg9 arg10 harg10 hc0 x0 x1 x2 x3 x4)]
  unfold kernelRun0_A
  dsimp only
  sl_unfold_words
  simp only [View.readAt_eq_ld, harg5.read_unread]
  rw [ld_ctx, View.canon_unit_zero (S := S128x256) (by funext a; fin_cases a <;> rfl)]
  exact pay18_apply x2 d j

/-- … and the transposed latent values. -/
theorem sout1_apply (hc0 : cond0_0 i) (k : Fin 2) (d : Fin 128) (j : Fin 2048) :
    sout0_A_1 c i arg3 harg3 arg4 harg4 arg5 harg5 arg6 harg6 arg7 harg7 arg8 harg8 arg9 harg9 arg10 harg10 hc0 x0 x1 x2 x3 x4 (ix3 k d j) =
      x4 (ix2 (⟨2048 * k.val + j.val, by omega⟩ : Fin 4096) d) := by
  unfold sout0_A_1
  rw [View.read_writes_eq_canon _ _ _ (scover0_A_1 c i arg3 harg3 arg4 harg4 arg5 harg5 arg6 harg6 arg7 harg7 arg8 harg8 arg9 harg9 arg10 harg10 hc0 x0 x1 x2 x3 x4)]
  unfold kernelRun0_A
  dsimp only
  sl_unfold_words
  simp only [View.readAt_eq_ld, harg7.read_unread]
  exact vtl_canon x4 _ _ _ _ k d j

variable (r : Fin 256) (g : Fin 4) (d : Fin 128) (s : ℕ → ℝ) (v : ℕ → EReal)
  (hs : ∀ j : Fin 256, ∑ e : Fin 128, x1 (ix2 j e) * x0 (ix2 r (hcol g e)) = (s j.val : EReal))
  (hs' : ∀ j : Fin 4096, ∑ e : Fin 128, x3 (ix2 j e) * x0 (ix2 r (hcol g e)) = (s (256 + j.val) : EReal))

include hs hs'

/-- What the loops leave of a column, divided: the softmax-weighted mean of the values its query attends to. -/
theorem loops_apply (vt : Vec Ideal S128x256 .bf16) (X10 : BufTy.Contents (Elt Ideal) arg10.view.ty)
    (hv : ∀ j : Fin 256, vt (ix2 d j) = v j.val)
    (hv' : ∀ (k : Fin 2) (j : Fin 2048), arg10.view.read (Elt Ideal) X10 (ix3 k d j) = v (256 + (2048 * k.val + j.val)))
    (st : FVec Ideal S1x1024 .f32 × FVec Ideal S1x1024 .f32 × FVec Ideal S128x1024 .f32)
    (n : ℕ) (hn : n = (k0_t1_loop i).trips)
    (hst : st = st_k0_t1 (F := Ideal) Variants.none c none i arg3 harg3 arg4 harg4 arg5 harg5 arg6 harg6 arg7 harg7 arg8 harg8 arg9 harg9 arg10 harg10 (k0_pay21 (qhead x0 0) (qhead x0 1) (qhead x0 2) (qhead x0 3)) (harg6.unread x3) X10
      (k0_pay23 (qhead x0 0) (qhead x0 1) (qhead x0 2) (qhead x0 3) x1, k0_pay25 (qhead x0 0) (qhead x0 1) (qhead x0 2) (qhead x0 3) x1, k0_pay26 (qhead x0 0) (qhead x0 1) (qhead x0 2) (qhead x0 3) x1 vt) n)
    (X6' : BufTy.Contents (Elt Ideal) arg6.view.ty) (X10' : BufTy.Contents (Elt Ideal) arg10.view.ty) (q' : FVec Ideal S128x1024 .bf16)
    (n2 : ℕ) (hn2 : n2 = (k0_t2_loop i).trips) (T : FVec Ideal S1x1024 .f32 × FVec Ideal S1x1024 .f32 × FVec Ideal S128x1024 .f32)
    (hT : T = st_k0_t2 (F := Ideal) Variants.none c none i arg3 harg3 arg4 harg4 arg5 harg5 arg6 harg6 arg7 harg7 arg8 harg8 arg9 harg9 arg10 harg10 q' X6' X10' (st.1, st.2.1, st.2.2) n2) :
    Ideal.div (T.2.2 (ix2 d (col g r))) (T.2.1 (ix2 (0 : Fin 1) (col g r))) =
      ∑ k : Fin (nk i), v k.val * (wt s (nk i) k.val : EReal) := by
  rw [loop2_eq c i arg3 harg3 arg4 harg4 arg5 harg5 arg6 harg6 arg7 harg7 arg8 harg8 arg9 harg9 arg10 harg10 q' X6' X10' _ n2 hn2] at hT
  subst hT
  subst hst
  have hq : ∀ e : Fin 128, (k0_pay21 (qhead x0 0) (qhead x0 1) (qhead x0 2) (qhead x0 3)) (ix2 e (col g r)) = x0 (ix2 r (hcol g e)) := fun e => pay21_apply (qhead x0) e g r
  refine (loop_upto c i arg3 harg3 arg4 harg4 arg5 harg5 arg6 harg6 arg7 harg7 arg8 harg8 arg9 harg9 arg10 harg10 (k0_pay21 (qhead x0 0) (qhead x0 1) (qhead x0 2) (qhead x0 3)) (harg6.unread x3) X10
    (k0_pay23 (qhead x0 0) (qhead x0 1) (qhead x0 2) (qhead x0 3) x1, k0_pay25 (qhead x0 0) (qhead x0 1) (qhead x0 2) (qhead x0 3) x1, k0_pay26 (qhead x0 0) (qhead x0 1) (qhead x0 2) (qhead x0 3) x1 vt) d (col g r) s v ?_ ?_ hv' n hn).finish (by unfold nk; split <;> omega)
  · have h0 := ctx_upto (qhead x0 0) (qhead x0 1) (qhead x0 2) (qhead x0 3) x1 vt d (col g r) s v
      (fun j => (Finset.sum_congr rfl fun e _ => congrArg (x1 (ix2 j e) * ·) (hq e)).trans (hs j)) hv
    dsimp only
    exact h0
  · intro j
    simp only [hq, harg6.read_unread]
    exact hs' j

/-- A block that reads the transposed values from scratch: an entry of the output is the softmax-weighted mean of the values. -/
theorem outB_apply (hc0 : ¬ cond0_0 i) (xs0 : Vec Ideal S128x256 .bf16) (xs1 : Vec Ideal S2x128x2048 .bf16)
    (hv : ∀ j : Fin 256, xs0 (ix2 d j) = v j.val)
    (hv' : ∀ (k : Fin 2) (j : Fin 2048), xs1 (ix3 k d j) = v (256 + (2048 * k.val + j.val))) :
    out0_B_5 c i arg3 harg3 arg4 harg4 arg5 harg5 arg6 harg6 arg7 harg7 arg8 harg8 arg9 harg9 arg10 harg10 hc0 x0 x1 x2 x3 x4 xs0 xs1 (ix2 r (hcol g d)) =
      ∑ k : Fin (nk i), v k.val * (wt s (nk i) k.val : EReal) := by
  unfold out0_B_5
  rw [View.read_writes_eq_canon _ _ _ (cover0_B_5 c i arg3 harg3 arg4 harg4 arg5 harg5 arg6 harg6 arg7 harg7 arg8 harg8 arg9 harg9 arg10 harg10 hc0 x0 x1 x2 x3 x4 xs0 xs1)]
  unfold kernelRun0_B
  dsimp only
  sl_unfold_words
  simp only [View.readAt_eq_ld, harg3.read_unread, harg4.read_unread, harg5.read_unread, harg9.read_unread]
  rw [ld_q x0 0 0 rfl, ld_q x0 1 128 rfl, ld_q x0 2 256 rfl, ld_q x0 3 384 rfl, ld_ctx,
    View.ld_unit_zero (S := S128x256) (by funext a; fin_cases a <;> rfl)]
  refine (out_canon _ _ _ _ _ _ r g d).trans ?_
  generalize hst : st_k0_t1 (F := Ideal) Variants.none c none i arg3 harg3 arg4 harg4 arg5 harg5 arg6 harg6 arg7 harg7 arg8 harg8 arg9 harg9 arg10 harg10 _ _ _ _ _ = st
  generalize hT : st_k0_t2 (F := Ideal) Variants.none c none i arg3 harg3 arg4 harg4 arg5 harg5 arg6 harg6 arg7 harg7 arg8 harg8 arg9 harg9 arg10 harg10 _ _ _ _ _ = T
  refine loops_apply c i arg3 harg3 arg4 harg4 arg5 harg5 arg6 harg6 arg7 harg7 arg8 harg8 arg9 harg9 arg10 harg10 x0 x1 x3 r g d s v hs hs' _ _ ?_ ?_ st _ rfl hst.symm _ _ _ _ rfl T hT.symm
  · exact hv
  · rw [harg10.read_unread]; exact hv'

/-- The first block of a batch entry and key head, which transposes the values itself. -/
theorem outA_apply (hc0 : cond0_0 i) (hv : ∀ j : Fin 256, x2 (ix2 j d) = v j.val)
    (hv' : ∀ j : Fin 4096, x4 (ix2 j d) = v (256 + j.val)) :
    out0_A_5 c i arg3 harg3 arg4 harg4 arg5 harg5 arg6 harg6 arg7 harg7 arg8 harg8 arg9 harg9 arg10 harg10 hc0 x0 x1 x2 x3 x4 (ix2 r (hcol g d)) =
      ∑ k : Fin (nk i), v k.val * (wt s (nk i) k.val : EReal) := by
  unfold out0_A_5
  rw [View.read_writes_eq_canon _ _ _ (cover0_A_5 c i arg3 harg3 arg4 harg4 arg5 harg5 arg6 harg6 arg7 harg7 arg8 harg8 arg9 harg9 arg10 harg10 hc0 x0 x1 x2 x3 x4)]
  unfold kernelRun0_A
  dsimp only
  sl_unfold_words
  simp only [View.readAt_eq_ld, harg3.read_unread, harg4.read_unread, harg5.read_unread, harg7.read_unread]
  rw [ld_q x0 0 0 rfl, ld_q x0 1 128 rfl, ld_q x0 2 256 rfl, ld_q x0 3 384 rfl, ld_ctx, ld_ctx]
  refine (out_canon _ _ _ _ _ _ r g d).trans ?_
  generalize hst : st_k0_t1 (F := Ideal) Variants.none c none i arg3 harg3 arg4 harg4 arg5 harg5 arg6 harg6 arg7 harg7 arg8 harg8 arg9 harg9 arg10 harg10 _ _ _ _ _ = st
  generalize hT : st_k0_t2 (F := Ideal) Variants.none c none i arg3 harg3 arg4 harg4 arg5 harg5 arg6 harg6 arg7 harg7 arg8 harg8 arg9 harg9 arg10 harg10 _ _ _ _ _ = T
  refine loops_apply c i arg3 harg3 arg4 harg4 arg5 harg5 arg6 harg6 arg7 harg7 arg8 harg8 arg9 harg9 arg10 harg10 x0 x1 x3 r g d s v hs hs' _ _ ?_ ?_ st _ rfl hst.symm _ _ _ _ rfl T hT.symm
  · intro j
    rw [View.readCov_unit_zero (S := S128x256) _ (by funext a; fin_cases a <;> rfl)]
    exact (pay18_apply x2 d j).trans (hv j)
  · intro k j
    rw [View.read_writes_eq_canon]
    · exact (vtl_canon x4 _ _ _ _ k d j).trans (hv' _)
    · exact vtl_cover _ _ _ _

end

end Attn

end
-- ==== Proof.Array.lean ====
module

public import proofs.«01_k».proof.Proof.Block
public import proofs.«01_k».proof.Proof.Gen.KernelIdeal.Value
public import Idealize.ShloMosaic.Lib.Pipeline.ValueKit.Geometry

@[expose] public section

noncomputable section

namespace Attn

open Cert.KernelIdeal Cert.KernelIdeal.Gen Idealize.ShloMosaic Idealize.ShloMosaic.ValueIdx Idealize.ShloMosaic.TcCoe
open Idealize.SL.Sem

/-- The packed array read at natural coordinates, zero outside. -/
def nat2 (X : S34816x1536.Idx → EReal) (r c : ℕ) : EReal :=
  if h : r < 34816 ∧ c < 1536 then X (ix2 ⟨r, h.1⟩ ⟨c, h.2⟩) else 0

theorem nat2_of (X : S34816x1536.Idx → EReal) (i : S34816x1536.Idx) (r c : ℕ) (h0 : (i 0).val = r) (h1 : (i 1).val = c) :
    X i = nat2 X r c := by
  subst h0 h1
  unfold nat2
  rw [dif_pos ⟨(i 0).isLt, (i 1).isLt⟩]
  exact congrArg X (eq_ix2 i)

/-- The batch entry of a packed row. -/
def bat (R : ℕ) : ℕ := if R < 32768 then R / 4096 else (R - 32768) / 256

/-- The number of keys a packed row attends to. -/
def cnt (R : ℕ) : ℕ := if R < 32768 then 4352 else 256

/-- The packed row of a batch entry's key: the context's 256 first, then the latents' 4096. -/
def krow (b j : ℕ) : ℕ := if j < 256 then 32768 + 256 * b + j else 4096 * b + (j - 256)

/-- The score, in base two, of key `j` for the query at packed row `R`, head `C / 128`. -/
def score (A : ℕ → ℕ → EReal) (R C j : ℕ) : EReal :=
  ∑ e : Fin 128, A (krow (bat R) j) (1024 + 128 * (C / 512) + e.val) * A R (128 * (C / 128) + e.val)

/-- The attention output at packed row `R`, column `C`: the softmax-weighted mean of the values. -/
def outAt (A : ℕ → ℕ → EReal) (R C : ℕ) : EReal :=
  ∑ k : Fin (cnt R), A (krow (bat R) k.val) (1280 + 128 * (C / 512) + C % 128) *
    (wt (fun j => (score A R C j).toReal) (cnt R) k.val : EReal)

/-- The packed row at which the query block of a grid point starts. -/
def qrow (t : ℕ) : ℕ := if t % 17 < 16 then 4096 * (t / 34) + 256 * (t % 17) else 32768 + 256 * (t / 34)

theorem coord2 : ∀ t : Fin cfg0.N, (grid0.coords t 2).val = t.val % 17 :=
  (by decide +kernel : ∀ t : Fin grid0.N, (grid0.coords t 2).val = t.val % 17)

theorem nk_eq (t : Fin cfg0.N) (r : ℕ) (hr : r < 256) : nk (grid0.coords t) = cnt (qrow t.val + r) := by
  have hN : t.val < 272 := lt_of_lt_of_eq t.isLt N_0
  unfold nk cnt qrow
  rw [coord2]
  split <;> split <;> omega

theorem bat_eq (t r : ℕ) (ht : t < 272) (hr : r < 256) : bat (qrow t + r) = t / 34 := by
  unfold bat qrow
  split <;> split <;> omega

theorem index0 : ∀ t : Fin cfg0.N, 256 * win0_0.index t 0 = qrow t.val ∧ win0_0.index t 1 = t.val / 17 % 2 :=
  (by decide +kernel : ∀ t : Fin grid0.N, _)

theorem index1 : ∀ t : Fin cfg0.N, win0_1.index t 0 = 128 + t.val / 34 ∧ win0_1.index t 1 = 8 + t.val / 17 % 2 :=
  (by decide +kernel : ∀ t : Fin grid0.N, _)

theorem index2 : ∀ t : Fin cfg0.N, win0_2.index t 0 = 128 + t.val / 34 ∧ win0_2.index t 1 = 10 + t.val / 17 % 2 :=
  (by decide +kernel : ∀ t : Fin grid0.N, _)

theorem index3 : ∀ t : Fin cfg0.N, win0_3.index t 0 = t.val / 34 ∧ win0_3.index t 1 = 8 + t.val / 17 % 2 :=
  (by decide +kernel : ∀ t : Fin grid0.N, _)

theorem index4 : ∀ t : Fin cfg0.N, win0_4.index t 0 = t.val / 34 ∧ win0_4.index t 1 = 10 + t.val / 17 % 2 :=
  (by decide +kernel : ∀ t : Fin grid0.N, _)

theorem index5 : ∀ t : Fin cfg0.N, 256 * win0_5.index t 0 = qrow t.val ∧ win0_5.index t 1 = t.val / 17 % 2 :=
  (by decide +kernel : ∀ t : Fin grid0.N, _)

variable (m : (ℓ : Loc nD τ sig) → Buf (Elt Ideal) ℓ) (c : Dev nD)

/-- The packed array as the launch finds it. -/
def packed : ℕ → ℕ → EReal := nat2 (V m c main_v15)

/-- The query block of a grid point. -/
def qblk (t : Fin cfg0.N) : Vec Ideal S256x512 .bf16 := iblk m c 0 t
/-- The context keys of a grid point. -/
def kblk (t : Fin cfg0.N) : Vec Ideal S256x128 .bf16 := iblk m c 1 t
/-- The context values of a grid point. -/
def vblk (t : Fin cfg0.N) : Vec Ideal S256x128 .bf16 := iblk m c 2 t
/-- The latent keys of a grid point. -/
def klat (t : Fin cfg0.N) : Vec Ideal S4096x128 .bf16 := X0_3 m c t
/-- The latent values of a grid point. -/
def vlat (t : Fin cfg0.N) : Vec Ideal S4096x128 .bf16 := X0_4 m c t

/-- The query block of a grid point. -/
theorem x0_apply (t : Fin cfg0.N) (r : Fin 256) (e : Fin 512) :
    qblk m c t (ix2 r e) = packed m c (qrow t.val + r.val) (512 * (t.val / 17 % 2) + e.val) := by
  have hi := index0 t
  refine nat2_of (V m c main_v15) (((cfg0.win 0).blk t).view.emb (ix2 r e)) _ _ ?_ ?_
  · refine (Pipeline.Window.rect_emb_val win0_0 t (ix2 r e) 0).trans ?_
    show win0_0.index t 0 * 256 + r.val = _
    omega
  · refine (Pipeline.Window.rect_emb_val win0_0 t (ix2 r e) 1).trans ?_
    show win0_0.index t 1 * 512 + e.val = _
    omega

/-- The context keys of a grid point. -/
theorem x1_apply (t : Fin cfg0.N) (j : Fin 256) (e : Fin 128) :
    kblk m c t (ix2 j e) = packed m c (32768 + 256 * (t.val / 34) + j.val) (1024 + 128 * (t.val / 17 % 2) + e.val) := by
  have hi := index1 t
  refine nat2_of (V m c main_v15) (((cfg0.win 1).blk t).view.emb (ix2 j e)) _ _ ?_ ?_
  · refine (Pipeline.Window.rect_emb_val win0_1 t (ix2 j e) 0).trans ?_
    show win0_1.index t 0 * 256 + j.val = _
    omega
  · refine (Pipeline.Window.rect_emb_val win0_1 t (ix2 j e) 1).trans ?_
    show win0_1.index t 1 * 128 + e.val = _
    omega

/-- The context values of a grid point. -/
theorem x2_apply (t : Fin cfg0.N) (j : Fin 256) (e : Fin 128) :
    vblk m c t (ix2 j e) = packed m c (32768 + 256 * (t.val / 34) + j.val) (1280 + 128 * (t.val / 17 % 2) + e.val) := by
  have hi := index2 t
  refine nat2_of (V m c main_v15) (((cfg0.win 2).blk t).view.emb (ix2 j e)) _ _ ?_ ?_
  · refine (Pipeline.Window.rect_emb_val win0_2 t (ix2 j e) 0).trans ?_
    show win0_2.index t 0 * 256 + j.val = _
    omega
  · refine (Pipeline.Window.rect_emb_val win0_2 t (ix2 j e) 1).trans ?_
    show win0_2.index t 1 * 128 + e.val = _
    omega

/-- The latent keys of a grid point. -/
theorem x3_apply (t : Fin cfg0.N) (j : Fin 4096) (e : Fin 128) :
    klat m c t (ix2 j e) = packed m c (4096 * (t.val / 34) + j.val) (1024 + 128 * (t.val / 17 % 2) + e.val) := by
  have hi := index3 t
  unfold klat X0_3 Pipeline.Window.fill
  rw [dif_pos (moved0_3 t (ix2 j e))]
  refine nat2_of (V m c main_v15) (((cfg0.win 3).blk t).view.emb _) _ _ ?_ ?_
  · refine (Pipeline.Window.rect_emb_val win0_3 t _ 0).trans ?_
    show win0_3.index t 0 * 4096 + j.val = _
    omega
  · refine (Pipeline.Window.rect_emb_val win0_3 t _ 1).trans ?_
    show win0_3.index t 1 * 128 + e.val = _
    omega

/-- The latent values of a grid point. -/
theorem x4_apply (t : Fin cfg0.N) (j : Fin 4096) (e : Fin 128) :
    vlat m c t (ix2 j e) = packed m c (4096 * (t.val / 34) + j.val) (1280 + 128 * (t.val / 17 % 2) + e.val) := by
  have hi := index4 t
  unfold vlat X0_4 Pipeline.Window.fill
  rw [dif_pos (moved0_4 t (ix2 j e))]
  refine nat2_of (V m c main_v15) (((cfg0.win 4).blk t).view.emb _) _ _ ?_ ?_
  · refine (Pipeline.Window.rect_emb_val win0_4 t _ 0).trans ?_
    show win0_4.index t 0 * 4096 + j.val = _
    omega
  · refine (Pipeline.Window.rect_emb_val win0_4 t _ 1).trans ?_
    show win0_4.index t 1 * 128 + e.val = _
    omega

/-- The first point of a batch entry and key head fills the scratch buffers. -/
theorem scratch_first (t : Fin cfg0.N) (h0 : t.val % 17 = 0) :
    (∀ (d : Fin 128) (j : Fin 256), (outsAt0 m c t.val t.isLt).2.1 (ix2 d j) = vblk m c t (ix2 j d)) ∧
    (∀ (k : Fin 2) (d : Fin 128) (j : Fin 2048), (outsAt0 m c t.val t.isLt).2.2 (ix3 k d j) =
      vlat m c t (ix2 (⟨2048 * k.val + j.val, by omega⟩ : Fin 4096) d)) := by
  rw [outsAt0_A m c t h0]
  dsimp only
  exact ⟨fun d j => sout0_apply c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _)
      (qblk m c t) (kblk m c t) (vblk m c t) (klat m c t) (vlat m c t) ((hcond0_0 t).mpr h0) d j,
    fun k d j => sout1_apply c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _)
      (qblk m c t) (kblk m c t) (vblk m c t) (klat m c t) (vlat m c t) ((hcond0_0 t).mpr h0) k d j⟩

/-- The other points leave them as they were. -/
theorem scratch_next (t : Fin cfg0.N) (h0 : ¬ t.val % 17 = 0) :
    (outsAt0 m c t.val t.isLt).2 = (outsAt0 m c (t.val - 1) (Nat.lt_of_le_of_lt (Nat.sub_le _ _) t.isLt)).2 := by
  rw [outsAt0_B m c t h0]
  dsimp only
  unfold sout0_B_0 sout0_B_1
  rfl

/-- What the two scratch buffers hold after a grid point: the transposed values of its batch entry and key head. -/
theorem scratch_apply : ∀ (n : ℕ) (h : n < cfg0.N),
    (∀ (d : Fin 128) (j : Fin 256), (outsAt0 m c n h).2.1 (ix2 d j) =
      packed m c (32768 + 256 * (n / 34) + j.val) (1280 + 128 * (n / 17 % 2) + d.val)) ∧
    (∀ (k : Fin 2) (d : Fin 128) (j : Fin 2048), (outsAt0 m c n h).2.2 (ix3 k d j) =
      packed m c (4096 * (n / 34) + (2048 * k.val + j.val)) (1280 + 128 * (n / 17 % 2) + d.val)) := by
  have first : ∀ t : Fin cfg0.N, t.val % 17 = 0 →
      (∀ (d : Fin 128) (j : Fin 256), (outsAt0 m c t.val t.isLt).2.1 (ix2 d j) =
        packed m c (32768 + 256 * (t.val / 34) + j.val) (1280 + 128 * (t.val / 17 % 2) + d.val)) ∧
      (∀ (k : Fin 2) (d : Fin 128) (j : Fin 2048), (outsAt0 m c t.val t.isLt).2.2 (ix3 k d j) =
        packed m c (4096 * (t.val / 34) + (2048 * k.val + j.val)) (1280 + 128 * (t.val / 17 % 2) + d.val)) := fun t h0 =>
    ⟨fun d j => ((scratch_first m c t h0).1 d j).trans (x2_apply m c t j d),
      fun k d j => ((scratch_first m c t h0).2 k d j).trans (x4_apply m c t _ d)⟩
  intro n
  induction n with
  | zero => exact fun h => first ⟨0, h⟩ rfl
  | succ n ih =>
    intro h
    by_cases h0 : (n + 1) % 17 = 0
    · exact first ⟨n + 1, h⟩ h0
    · have e34 : (n + 1) / 34 = n / 34 := by omega
      have e17 : (n + 1) / 17 % 2 = n / 17 % 2 := by omega
      have e : (outsAt0 m c (n + 1) h).2 = (outsAt0 m c n (Nat.lt_of_succ_lt h)).2 := scratch_next m c ⟨n + 1, h⟩ h0
      rw [e, e34, e17]
      exact ih (Nat.lt_of_succ_lt h)

/-- What the two scratch buffers hold as a point finds them, when it is not the first of its batch entry and key head. -/
theorem scratch_before (t : Fin cfg0.N) (h0 : ¬ t.val % 17 = 0) :
    (∀ (d : Fin 128) (j : Fin 256), (outsAt0 m c (t.val - 1) (Nat.lt_of_le_of_lt (Nat.sub_le _ _) t.isLt)).2.1 (ix2 d j) =
      packed m c (32768 + 256 * (t.val / 34) + j.val) (1280 + 128 * (t.val / 17 % 2) + d.val)) ∧
    (∀ (k : Fin 2) (d : Fin 128) (j : Fin 2048), (outsAt0 m c (t.val - 1) (Nat.lt_of_le_of_lt (Nat.sub_le _ _) t.isLt)).2.2 (ix3 k d j) =
      packed m c (4096 * (t.val / 34) + (2048 * k.val + j.val)) (1280 + 128 * (t.val / 17 % 2) + d.val)) := by
  rw [← scratch_next m c t h0]
  exact scratch_apply m c t.val t.isLt

/-- What a grid point writes back, at an entry of its block. -/
theorem flushed_apply (hfin : ∀ R C j : ℕ, R < 34816 → C < 1024 → j < 4352 → ∃ x : ℝ, score (packed m c) R C j = (x : EReal))
    (t : Fin cfg0.N) (r : Fin 256) (g : Fin 4) (d : Fin 128) :
    (outsAt0 m c t.val t.isLt).1 (ix2 r (hcol g d)) =
      outAt (packed m c) (qrow t.val + r.val) (512 * (t.val / 17 % 2) + (128 * g.val + d.val)) := by
  have hN : t.val < 272 := lt_of_lt_of_eq t.isLt N_0
  have hq : qrow t.val + r.val < 34816 := by unfold qrow; split <;> omega
  have hb := bat_eq t.val r.val hN r.isLt
  have c1 : (512 * (t.val / 17 % 2) + (128 * g.val + d.val)) / 512 = t.val / 17 % 2 := by omega
  have c2 : 128 * ((512 * (t.val / 17 % 2) + (128 * g.val + d.val)) / 128) = 512 * (t.val / 17 % 2) + 128 * g.val := by omega
  have c3 : (512 * (t.val / 17 % 2) + (128 * g.val + d.val)) % 128 = d.val := by omega
  have hS : ∀ j : ℕ, j < 4352 → score (packed m c) (qrow t.val + r.val) (512 * (t.val / 17 % 2) + (128 * g.val + d.val)) j =
      ((score (packed m c) (qrow t.val + r.val) (512 * (t.val / 17 % 2) + (128 * g.val + d.val)) j).toReal : EReal) := by
    intro j hj
    obtain ⟨x, hx⟩ := hfin _ (512 * (t.val / 17 % 2) + (128 * g.val + d.val)) j hq (by omega) hj
    rw [hx, EReal.toReal_coe]
  have hs : ∀ j : Fin 256, ∑ e : Fin 128, kblk m c t (ix2 j e) * qblk m c t (ix2 r (hcol g e)) =
      ((score (packed m c) (qrow t.val + r.val) (512 * (t.val / 17 % 2) + (128 * g.val + d.val)) j.val).toReal : EReal) := by
    intro j
    rw [← hS j.val (by omega)]
    unfold score
    rw [hb, c1, c2]
    unfold krow
    rw [if_pos j.isLt]
    refine Finset.sum_congr rfl fun e _ => ?_
    rw [x1_apply, x0_apply, Nat.add_assoc (512 * _)]
    rfl
  have hs' : ∀ j : Fin 4096, ∑ e : Fin 128, klat m c t (ix2 j e) * qblk m c t (ix2 r (hcol g e)) =
      ((score (packed m c) (qrow t.val + r.val) (512 * (t.val / 17 % 2) + (128 * g.val + d.val)) (256 + j.val)).toReal : EReal) := by
    intro j
    rw [← hS (256 + j.val) (by omega)]
    unfold score
    rw [hb, c1, c2]
    unfold krow
    rw [if_neg (by omega), show 256 + j.val - 256 = j.val by omega]
    refine Finset.sum_congr rfl fun e _ => ?_
    rw [x3_apply, x0_apply, Nat.add_assoc (512 * _)]
    rfl
  have hk0 : ∀ j : ℕ, j < 256 → krow (t.val / 34) j = 32768 + 256 * (t.val / 34) + j := fun j hj => if_pos hj
  have hk1 : ∀ j : ℕ, krow (t.val / 34) (256 + j) = 4096 * (t.val / 34) + j := fun j => by
    unfold krow; rw [if_neg (by omega)]; congr 1; omega
  unfold outAt
  rw [← nk_eq t r.val r.isLt, hb, c1, c3]
  by_cases h0 : t.val % 17 = 0
  · rw [outsAt0_A m c t h0]
    dsimp only
    refine outA_apply c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _)
      (qblk m c t) (kblk m c t) (vblk m c t) (klat m c t) (vlat m c t) r g d _
      (fun k => packed m c (krow (t.val / 34) k) (1280 + 128 * (t.val / 17 % 2) + d.val)) hs hs' ((hcond0_0 t).mpr h0) ?_ ?_
    · intro j; rw [hk0 j.val j.isLt]; exact x2_apply m c t j d
    · intro j; rw [hk1]; exact x4_apply m c t j d
  · have hsc := scratch_before m c t h0
    rw [outsAt0_B m c t h0]
    dsimp only
    refine outB_apply c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _)
      (qblk m c t) (kblk m c t) (vblk m c t) (klat m c t) (vlat m c t) r g d _
      (fun k => packed m c (krow (t.val / 34) k) (1280 + 128 * (t.val / 17 % 2) + d.val)) hs hs' (fun h => h0 ((hcond0_0 t).mp h)) _ _ ?_ ?_
    · intro j; rw [hk0 j.val j.isLt]; exact hsc.1 d j
    · intro k j; rw [hk1]; exact hsc.2 k d j

/-- The attention output, as contents of the result array. -/
def result : Buf (Elt Ideal) ((c : Thread nD τ).loc main_v16) :=
  fun y : S34816x1024.Idx => outAt (packed m c) (y 0).val (y 1).val

/-- After the run the result array holds the attention output. -/
theorem final (hfin : ∀ R C j : ℕ, R < 34816 → C < 1024 → j < 4352 → ∃ x : ℝ, score (packed m c) R C j = (x : EReal)) :
    (dats m 0 c).arrAt 5 cfg0.N = result m c := by
  refine (dats m 0 c).arrAt_eq_of_covers 5 (result m c) (by decide +kernel) fun t _ y => ?_
  rw [after0_5]
  have hi := index5 t
  have hy0 : (y 0).val < 256 := (y 0).isLt
  have hy1 : (y 1).val < 512 := (y 1).isLt
  have e : (outsAt0 m c t.val t.isLt).1 y =
      (outsAt0 m c t.val t.isLt).1 (ix2 (⟨(y 0).val, hy0⟩ : Fin 256)
        (hcol ⟨(y 1).val / 128, by omega⟩ ⟨(y 1).val % 128, Nat.mod_lt _ (by norm_num)⟩)) := by
    refine congrArg (outsAt0 m c t.val t.isLt).1 (funext fun a => Fin.ext ?_)
    match a with
    | ⟨0, _⟩ => rfl
    | ⟨1, _⟩ => show (y 1).val = 128 * ((y 1).val / 128) + (y 1).val % 128; omega
  refine e.trans ((flushed_apply m c hfin t _ _ _).trans ?_)
  have e0 : ((((cfg0.win 5).blk t).view.emb y) 0).val = qrow t.val + (y 0).val := by
    refine (Pipeline.Window.rect_emb_val win0_5 t y 0).trans ?_
    show win0_5.index t 0 * 256 + (y 0).val = _
    omega
  have e1 : ((((cfg0.win 5).blk t).view.emb y) 1).val = 512 * (t.val / 17 % 2) + (128 * ((y 1).val / 128) + (y 1).val % 128) := by
    refine (Pipeline.Window.rect_emb_val win0_5 t y 1).trans ?_
    show win0_5.index t 1 * 512 + (y 1).val = _
    omega
  exact (congrArg₂ (outAt (packed m c)) e0 e1).symm

end Attn

end
-- ==== Proof.Host.lean ====
module

public import proofs.«01_k».proof.Proof.Array
public import Idealize.ShloMosaic.Lib.StableHlo.RunRead
public import Idealize.ShloMosaic.Lib.IdealHost

@[expose] public section

noncomputable section

namespace Attn

open Cert.KernelIdeal Cert.KernelIdeal.Gen Idealize.ShloMosaic Idealize.ShloMosaic.ValueIdx Idealize.ShloMosaic.TcCoe
open Idealize.SL.Sem

/-- Two stacks of query rows, one under the other. -/
def under1024 (a : FVec Ideal S32768x1024 .f32) (b : FVec Ideal S2048x1024 .f32) : FVec Ideal S34816x1024 .f32 :=
  concatenate S34816x1024 0 [⟨S32768x1024, a⟩, ⟨S2048x1024, b⟩] concatenates_S32768x1024_S2048x1024_S34816x1024_d0

/-- Two stacks of key or value rows, one under the other. -/
def under256 (a : FVec Ideal S32768x256 .f32) (b : FVec Ideal S2048x256 .f32) : FVec Ideal S34816x256 .f32 :=
  concatenate S34816x256 0 [⟨S32768x256, a⟩, ⟨S2048x256, b⟩] concatenates_S32768x256_S2048x256_S34816x256_d0

/-- Queries, keys and values side by side. -/
def beside (q : FVec Ideal S34816x1024 .f32) (k v : FVec Ideal S34816x256 .f32) : FVec Ideal S34816x1536 .f32 :=
  concatenate S34816x1536 1 [⟨S34816x1024, q⟩, ⟨S34816x256, k⟩, ⟨S34816x256, v⟩]
    concatenates_S34816x1024_S34816x256_S34816x256_S34816x1536_d1

/-- The factor on the queries, as the host computes it. -/
def hostScale : FVec Ideal S_ .f32 :=
  Host.divf (Host.rsqrt (constant S_ .f32 0x43000000#32)) (Host.log (constant S_ .f32 0x40000000#32))

/-- The packed array as the host computes it from the six arguments. -/
def pack (a0 : FVec Ideal S8x4096x8x128 .f32) (a1 a2 : FVec Ideal S8x4096x2x128 .f32)
    (a3 : FVec Ideal S8x256x8x128 .f32) (a4 a5 : FVec Ideal S8x256x2x128 .f32) : FVec Ideal S34816x1536 .f32 :=
  beside
    (mulf (under1024 (shapeCast _ a0 shapeCasts_S8x4096x8x128_S32768x1024) (shapeCast _ a3 shapeCasts_S8x256x8x128_S2048x1024))
      (broadcastInDim S34816x1024 ![] bcast_S_S34816x1024 hostScale))
    (under256 (shapeCast _ a1 shapeCasts_S8x4096x2x128_S32768x256) (shapeCast _ a4 shapeCasts_S8x256x2x128_S2048x256))
    (under256 (shapeCast _ a2 shapeCasts_S8x4096x2x128_S32768x256) (shapeCast _ a5 shapeCasts_S8x256x2x128_S2048x256))

variable (m : (ℓ : Loc nD τ sig) → Buf (Elt Ideal) ℓ) (c : Dev nD)

/-- The array every window reads holds the packed arguments. -/
theorem V15 : (V m c main_v15 : S34816x1536.Idx → EReal) =
    pack (m ((c : Thread nD τ).loc main_arg0)) (m ((c : Thread nD τ).loc main_arg1)) (m ((c : Thread nD τ).loc main_arg2))
      (m ((c : Thread nD τ).loc main_arg3)) (m ((c : Thread nD τ).loc main_arg4)) (m ((c : Thread nD τ).loc main_arg5)) := by
  unfold V
  after_reads_simp
  rfl

/-- The factor on the queries is a real number: one over the root of the head size, over the logarithm of two. -/
theorem hostScale_apply (i : S_.Idx) : hostScale i = (((√128)⁻¹ * (1 / Real.log 2) : ℝ) : EReal) := by
  have h128 : Ideal.ofBits .f32 0x43000000#32 = ((128 : ℝ) : EReal) := by
    simp only [Ideal.ofBits, Ideal.ieee]
    simp
    rw [← EReal.coe_mul]
    norm_num
  have h2 : Ideal.ofBits .f32 0x40000000#32 = ((2 : ℝ) : EReal) := by
    simp only [Ideal.ofBits, Ideal.ieee]
    simp
    rw [← EReal.coe_mul]
    norm_num
  show Ideal.div (Ideal.rsqrt (Ideal.ofBits .f32 0x43000000#32)) (Ideal.log (Ideal.ofBits .f32 0x40000000#32)) = _
  rw [h128, h2, Ideal.rsqrt_coe, Ideal.log_coe]
  rw [if_neg (by norm_num), if_neg (by norm_num), if_neg (by norm_num),
    Ideal.div_coe (Real.log_pos (by norm_num)).ne', ← EReal.coe_mul]

section rows

variable (a0 : FVec Ideal S8x4096x8x128 .f32) (a1 a2 : FVec Ideal S8x4096x2x128 .f32)
  (a3 : FVec Ideal S8x256x8x128 .f32) (a4 a5 : FVec Ideal S8x256x2x128 .f32)

/-- The query columns of the packed array. -/
theorem beside_q (q : FVec Ideal S34816x1024 .f32) (k v : FVec Ideal S34816x256 .f32) (r cc : ℕ) (hr : r < 34816) (hc : cc < 1024) :
    nat2 (beside q k v) r cc = q (ix2 ⟨r, hr⟩ ⟨cc, hc⟩) := by
  unfold nat2 beside
  rw [dif_pos ⟨hr, by omega⟩]
  exact concatenate_apply_piece (t := S34816x1536) (1 : Fin 2) [⟨S34816x1024, q⟩, ⟨S34816x256, k⟩, ⟨S34816x256, v⟩] _ _ 0 (by simp) S34816x1024 q rfl rfl 0 rfl (ix2 ⟨r, hr⟩ ⟨cc, hc⟩)
    (fun | ⟨0, _⟩ => fun _ => rfl | ⟨1, _⟩ => fun h => absurd rfl h) (Nat.zero_add _)

/-- The key columns of the packed array. -/
theorem beside_k (q : FVec Ideal S34816x1024 .f32) (k v : FVec Ideal S34816x256 .f32) (r cc : ℕ) (hr : r < 34816) (hc : cc < 256) :
    nat2 (beside q k v) r (1024 + cc) = k (ix2 ⟨r, hr⟩ ⟨cc, hc⟩) := by
  unfold nat2 beside
  rw [dif_pos ⟨hr, by omega⟩]
  exact concatenate_apply_piece (t := S34816x1536) (1 : Fin 2) [⟨S34816x1024, q⟩, ⟨S34816x256, k⟩, ⟨S34816x256, v⟩] _ _ 1 (by simp) S34816x256 k rfl rfl 1024 rfl (ix2 ⟨r, hr⟩ ⟨cc, hc⟩)
    (fun | ⟨0, _⟩ => fun _ => rfl | ⟨1, _⟩ => fun h => absurd rfl h) rfl

/-- The value columns of the packed array. -/
theorem beside_v (q : FVec Ideal S34816x1024 .f32) (k v : FVec Ideal S34816x256 .f32) (r cc : ℕ) (hr : r < 34816) (hc : cc < 256) :
    nat2 (beside q k v) r (1280 + cc) = v (ix2 ⟨r, hr⟩ ⟨cc, hc⟩) := by
  unfold nat2 beside
  rw [dif_pos ⟨hr, by omega⟩]
  exact concatenate_apply_piece (t := S34816x1536) (1 : Fin 2) [⟨S34816x1024, q⟩, ⟨S34816x256, k⟩, ⟨S34816x256, v⟩] _ _ 2 (by simp) S34816x256 v rfl rfl 1280 rfl (ix2 ⟨r, hr⟩ ⟨cc, hc⟩)
    (fun | ⟨0, _⟩ => fun _ => rfl | ⟨1, _⟩ => fun h => absurd rfl h) rfl

/-- The latent rows of a stack of 256 columns. -/
theorem under256_lat (x : FVec Ideal S8x4096x2x128 .f32) (y : FVec Ideal S8x256x2x128 .f32) (b : Fin 8) (s : Fin 4096) (h : Fin 2) (d : Fin 128)
    (r : Fin 34816) (cc : Fin 256) (hr : r.val = 4096 * b.val + s.val) (hc : cc.val = 128 * h.val + d.val) :
    under256 (shapeCast _ x shapeCasts_S8x4096x2x128_S32768x256) (shapeCast _ y shapeCasts_S8x256x2x128_S2048x256) (ix2 r cc) = x (ix4 b s h d) := by
  have hb := b.isLt; have hs := s.isLt
  unfold under256
  refine (concatenate_pair_apply_left (s₁ := S32768x256) (s₂ := S2048x256) (t := S34816x256) (0 : Fin 2) (shapeCast S32768x256 x shapeCasts_S8x4096x2x128_S32768x256) (shapeCast S2048x256 y shapeCasts_S8x256x2x128_S2048x256) _ _ rfl (ix2 (⟨r.val, by omega⟩ : Fin 32768) cc)
    (fun | ⟨0, _⟩ => rfl | ⟨1, _⟩ => rfl)).trans ?_
  refine shapeCast_apply x _ _ (ix4 b s h d) ?_
  rw [Shape.rowMajor_val_four, Shape.rowMajor_val_two]
  show ((b.val * 4096 + s.val) * 2 + h.val) * 128 + d.val = r.val * 256 + cc.val
  omega

/-- The context rows of a stack of 256 columns. -/
theorem under256_ctx (x : FVec Ideal S8x4096x2x128 .f32) (y : FVec Ideal S8x256x2x128 .f32) (b : Fin 8) (s : Fin 256) (h : Fin 2) (d : Fin 128)
    (r : Fin 34816) (cc : Fin 256) (hr : r.val = 32768 + 256 * b.val + s.val) (hc : cc.val = 128 * h.val + d.val) :
    under256 (shapeCast _ x shapeCasts_S8x4096x2x128_S32768x256) (shapeCast _ y shapeCasts_S8x256x2x128_S2048x256) (ix2 r cc) = y (ix4 b s h d) := by
  have hb := b.isLt; have hs := s.isLt
  unfold under256
  refine (concatenate_apply_piece (t := S34816x256) (0 : Fin 2) [⟨S32768x256, (shapeCast S32768x256 x shapeCasts_S8x4096x2x128_S32768x256)⟩, ⟨S2048x256, (shapeCast S2048x256 y shapeCasts_S8x256x2x128_S2048x256)⟩] _ _ 1 (by simp) S2048x256 _ rfl rfl 32768 rfl (ix2 (⟨256 * b.val + s.val, by omega⟩ : Fin 2048) cc)
    (fun | ⟨0, _⟩ => fun h => absurd rfl h | ⟨1, _⟩ => fun _ => rfl) ?_).trans ?_
  · show 32768 + (256 * b.val + s.val) = r.val
    omega
  refine shapeCast_apply y _ _ (ix4 b s h d) ?_
  rw [Shape.rowMajor_val_four, Shape.rowMajor_val_two]
  show ((b.val * 256 + s.val) * 2 + h.val) * 128 + d.val = (256 * b.val + s.val) * 256 + cc.val
  omega

/-- The latent rows of the queries. -/
theorem under1024_lat (b : Fin 8) (s : Fin 4096) (h : Fin 8) (d : Fin 128)
    (r : Fin 34816) (cc : Fin 1024) (hr : r.val = 4096 * b.val + s.val) (hc : cc.val = 128 * h.val + d.val) :
    under1024 (shapeCast _ a0 shapeCasts_S8x4096x8x128_S32768x1024) (shapeCast _ a3 shapeCasts_S8x256x8x128_S2048x1024) (ix2 r cc) = a0 (ix4 b s h d) := by
  have hb := b.isLt; have hs := s.isLt
  unfold under1024
  refine (concatenate_pair_apply_left (s₁ := S32768x1024) (s₂ := S2048x1024) (t := S34816x1024) (0 : Fin 2) (shapeCast S32768x1024 a0 shapeCasts_S8x4096x8x128_S32768x1024) (shapeCast S2048x1024 a3 shapeCasts_S8x256x8x128_S2048x1024) _ _ rfl (ix2 (⟨r.val, by omega⟩ : Fin 32768) cc)
    (fun | ⟨0, _⟩ => rfl | ⟨1, _⟩ => rfl)).trans ?_
  refine shapeCast_apply a0 _ _ (ix4 b s h d) ?_
  rw [Shape.rowMajor_val_four, Shape.rowMajor_val_two]
  show ((b.val * 4096 + s.val) * 8 + h.val) * 128 + d.val = r.val * 1024 + cc.val
  omega

/-- The context rows of the queries. -/
theorem under1024_ctx (b : Fin 8) (s : Fin 256) (h : Fin 8) (d : Fin 128)
    (r : Fin 34816) (cc : Fin 1024) (hr : r.val = 32768 + 256 * b.val + s.val) (hc : cc.val = 128 * h.val + d.val) :
    under1024 (shapeCast _ a0 shapeCasts_S8x4096x8x128_S32768x1024) (shapeCast _ a3 shapeCasts_S8x256x8x128_S2048x1024) (ix2 r cc) = a3 (ix4 b s h d) := by
  have hb := b.isLt; have hs := s.isLt
  unfold under1024
  refine (concatenate_apply_piece (t := S34816x1024) (0 : Fin 2) [⟨S32768x1024, (shapeCast S32768x1024 a0 shapeCasts_S8x4096x8x128_S32768x1024)⟩, ⟨S2048x1024, (shapeCast S2048x1024 a3 shapeCasts_S8x256x8x128_S2048x1024)⟩] _ _ 1 (by simp) S2048x1024 _ rfl rfl 32768 rfl (ix2 (⟨256 * b.val + s.val, by omega⟩ : Fin 2048) cc)
    (fun | ⟨0, _⟩ => fun h => absurd rfl h | ⟨1, _⟩ => fun _ => rfl) ?_).trans ?_
  · show 32768 + (256 * b.val + s.val) = r.val
    omega
  refine shapeCast_apply a3 _ _ (ix4 b s h d) ?_
  rw [Shape.rowMajor_val_four, Shape.rowMajor_val_two]
  show ((b.val * 256 + s.val) * 8 + h.val) * 128 + d.val = (256 * b.val + s.val) * 1024 + cc.val
  omega

/-- A latent query in the packed array. -/
theorem pack_q_lat (b : Fin 8) (s : Fin 4096) (h : Fin 8) (d : Fin 128) :
    nat2 (pack a0 a1 a2 a3 a4 a5) (4096 * b.val + s.val) (128 * h.val + d.val) =
      a0 (ix4 b s h d) * (((√128)⁻¹ * (1 / Real.log 2) : ℝ) : EReal) := by
  have hb := b.isLt; have hs := s.isLt; have hh := h.isLt; have hd := d.isLt
  unfold pack
  rw [beside_q _ _ _ _ _ (by omega) (by omega), mulf_apply, under1024_lat a0 a3 b s h d _ _ rfl rfl,
    broadcastInDim_scalar_apply, hostScale_apply]

/-- A context query in the packed array. -/
theorem pack_q_ctx (b : Fin 8) (s : Fin 256) (h : Fin 8) (d : Fin 128) :
    nat2 (pack a0 a1 a2 a3 a4 a5) (32768 + 256 * b.val + s.val) (128 * h.val + d.val) =
      a3 (ix4 b s h d) * (((√128)⁻¹ * (1 / Real.log 2) : ℝ) : EReal) := by
  have hb := b.isLt; have hs := s.isLt; have hh := h.isLt; have hd := d.isLt
  unfold pack
  rw [beside_q _ _ _ _ _ (by omega) (by omega), mulf_apply, under1024_ctx a0 a3 b s h d _ _ rfl rfl,
    broadcastInDim_scalar_apply, hostScale_apply]

/-- A latent key in the packed array. -/
theorem pack_k_lat (b : Fin 8) (s : Fin 4096) (h : Fin 2) (d : Fin 128) :
    nat2 (pack a0 a1 a2 a3 a4 a5) (4096 * b.val + s.val) (1024 + 128 * h.val + d.val) = a1 (ix4 b s h d) := by
  have hb := b.isLt; have hs := s.isLt; have hh := h.isLt; have hd := d.isLt
  unfold pack
  rw [Nat.add_assoc 1024, beside_k _ _ _ _ _ (by omega) (by omega), under256_lat a1 a4 b s h d _ _ rfl rfl]

/-- A context key in the packed array. -/
theorem pack_k_ctx (b : Fin 8) (s : Fin 256) (h : Fin 2) (d : Fin 128) :
    nat2 (pack a0 a1 a2 a3 a4 a5) (32768 + 256 * b.val + s.val) (1024 + 128 * h.val + d.val) = a4 (ix4 b s h d) := by
  have hb := b.isLt; have hs := s.isLt; have hh := h.isLt; have hd := d.isLt
  unfold pack
  rw [Nat.add_assoc 1024, beside_k _ _ _ _ _ (by omega) (by omega), under256_ctx a1 a4 b s h d _ _ rfl rfl]

/-- A latent value in the packed array. -/
theorem pack_v_lat (b : Fin 8) (s : Fin 4096) (h : Fin 2) (d : Fin 128) :
    nat2 (pack a0 a1 a2 a3 a4 a5) (4096 * b.val + s.val) (1280 + 128 * h.val + d.val) = a2 (ix4 b s h d) := by
  have hb := b.isLt; have hs := s.isLt; have hh := h.isLt; have hd := d.isLt
  unfold pack
  rw [Nat.add_assoc 1280, beside_v _ _ _ _ _ (by omega) (by omega), under256_lat a2 a5 b s h d _ _ rfl rfl]

/-- A context value in the packed array. -/
theorem pack_v_ctx (b : Fin 8) (s : Fin 256) (h : Fin 2) (d : Fin 128) :
    nat2 (pack a0 a1 a2 a3 a4 a5) (32768 + 256 * b.val + s.val) (1280 + 128 * h.val + d.val) = a5 (ix4 b s h d) := by
  have hb := b.isLt; have hs := s.isLt; have hh := h.isLt; have hd := d.isLt
  unfold pack
  rw [Nat.add_assoc 1280, beside_v _ _ _ _ _ (by omega) (by omega), under256_ctx a2 a5 b s h d _ _ rfl rfl]

end rows

end Attn
-- ==== Proof.RefValue.lean ====
module

public import proofs.«01_k».proof.Proof.Softmax
public import proofs.«01_k».proof.Proof.Gen.ReferenceIdeal.Read
public import Idealize.ShloMosaic.Lib.KernelVsHost

@[expose] public section

noncomputable section

namespace Attn

open Cert.ReferenceIdeal Cert.ReferenceIdeal.Gen Cert.ReferenceIdeal.Read Idealize.ShloMosaic Idealize.ShloMosaic.ValueIdx Idealize.ShloMosaic.TcCoe

variable (a0 : FVec Ideal S8x4096x8x128 .f32) (a1 a2 : FVec Ideal S8x4096x2x128 .f32)
  (a3 : FVec Ideal S8x256x8x128 .f32) (a4 a5 : FVec Ideal S8x256x2x128 .f32)

/-- The reference's keys: the context's 256 first, then the latents' 4096. -/
theorem v3_ctx (b : Fin 8) (h : Fin 2) (j : Fin 256) (d : Fin 128) (k : Fin 4352) (hk : k.val = j.val) :
    val_main_v3 (F := Ideal) a1 a4 (ix4 b h k d) = a4 (ix4 b j h d) := by
  unfold val_main_v3
  refine (concatenate_pair_apply_left (t := S8x2x4352x128) (s₁ := S8x2x256x128) (s₂ := S8x2x4096x128) (2 : Fin 4)
    (val_main_v0 (F := Ideal) a4) (val_main_v2 (F := Ideal) a1) _ (ix4 b h k d) rfl (ix4 b h j d)
    (fun | ⟨0, _⟩ => rfl | ⟨1, _⟩ => rfl | ⟨2, _⟩ => hk.symm | ⟨3, _⟩ => rfl)).trans ?_
  rw [val_main_v0_apply]
  exact congrArg a4 (eq_ix4 _)

theorem v3_lat (b : Fin 8) (h : Fin 2) (j : Fin 4096) (d : Fin 128) (k : Fin 4352) (hk : k.val = 256 + j.val) :
    val_main_v3 (F := Ideal) a1 a4 (ix4 b h k d) = a1 (ix4 b j h d) := by
  unfold val_main_v3
  refine (concatenate_apply_piece (t := S8x2x4352x128) (2 : Fin 4)
    [⟨S8x2x256x128, val_main_v0 (F := Ideal) a4⟩, ⟨S8x2x4096x128, val_main_v2 (F := Ideal) a1⟩] _ (ix4 b h k d) 1 (by simp) S8x2x4096x128
    (val_main_v2 (F := Ideal) a1) rfl rfl 256 rfl (ix4 b h j d)
    (fun | ⟨0, _⟩ => fun _ => rfl | ⟨1, _⟩ => fun _ => rfl | ⟨2, _⟩ => fun h => absurd rfl h | ⟨3, _⟩ => fun _ => rfl) hk.symm).trans ?_
  rw [val_main_v2_apply]
  exact congrArg a1 (eq_ix4 _)

/-- The reference's values, in the same order. -/
theorem v5_ctx (b : Fin 8) (h : Fin 2) (j : Fin 256) (d : Fin 128) (k : Fin 4352) (hk : k.val = j.val) :
    val_main_v5 (F := Ideal) a2 a5 (ix4 b h k d) = a5 (ix4 b j h d) := by
  unfold val_main_v5
  refine (concatenate_pair_apply_left (t := S8x2x4352x128) (s₁ := S8x2x256x128) (s₂ := S8x2x4096x128) (2 : Fin 4)
    (val_main_v1 (F := Ideal) a5) (val_main_v4 (F := Ideal) a2) _ (ix4 b h k d) rfl (ix4 b h j d)
    (fun | ⟨0, _⟩ => rfl | ⟨1, _⟩ => rfl | ⟨2, _⟩ => hk.symm | ⟨3, _⟩ => rfl)).trans ?_
  rw [val_main_v1_apply]
  exact congrArg a5 (eq_ix4 _)

theorem v5_lat (b : Fin 8) (h : Fin 2) (j : Fin 4096) (d : Fin 128) (k : Fin 4352) (hk : k.val = 256 + j.val) :
    val_main_v5 (F := Ideal) a2 a5 (ix4 b h k d) = a2 (ix4 b j h d) := by
  unfold val_main_v5
  refine (concatenate_apply_piece (t := S8x2x4352x128) (2 : Fin 4)
    [⟨S8x2x256x128, val_main_v1 (F := Ideal) a5⟩, ⟨S8x2x4096x128, val_main_v4 (F := Ideal) a2⟩] _ (ix4 b h k d) 1 (by simp) S8x2x4096x128
    (val_main_v4 (F := Ideal) a2) rfl rfl 256 rfl (ix4 b h j d)
    (fun | ⟨0, _⟩ => fun _ => rfl | ⟨1, _⟩ => fun _ => rfl | ⟨2, _⟩ => fun h => absurd rfl h | ⟨3, _⟩ => fun _ => rfl) hk.symm).trans ?_
  rw [val_main_v4_apply]
  exact congrArg a2 (eq_ix4 _)

/-- The word 128. -/
theorem rsqrt128 : Ideal.rsqrt (Ideal.ofBits .f32 0x43000000#32) = (((√128)⁻¹ : ℝ) : EReal) := by
  have h128 : Ideal.ofBits .f32 0x43000000#32 = ((128 : ℝ) : EReal) := by
    simp only [Ideal.ofBits, Ideal.ieee]
    simp
    rw [← EReal.coe_mul]
    norm_num
  rw [h128, Ideal.rsqrt_coe, if_neg (by norm_num), if_neg (by norm_num)]

/-- The word that starts a maximum. -/
theorem neg_inf_word : Ideal.ofBits .f32 0xFF800000#32 = (⊥ : EReal) := by
  simp [Ideal.ofBits, Ideal.ieee]

/-- A latent query's score against a key. -/
theorem v11_apply (b : Fin 8) (h : Fin 2) (g : Fin 4) (s : Fin 4096) (k : Fin 4352) (hd : Fin 8) (hhd : hd.val = 4 * h.val + g.val) :
    val_main_v11 (F := Ideal) a0 a1 a4 (ix5 b h g s k) =
      (∑ e : Fin 128, a0 (ix4 b s hd e) * val_main_v3 (F := Ideal) a1 a4 (ix4 b h k e)) * (((√128)⁻¹ : ℝ) : EReal) := by
  rw [val_main_v11_apply, val_main_v8_apply, val_main_v10_apply, val_main_v9_apply]
  refine congrArg₂ (fun x y : EReal => x * y) (Finset.sum_congr rfl fun e _ => ?_) rsqrt128
  rw [val_main_v7_apply, val_main_v6_apply]
  refine congrArg₂ (fun x y : EReal => x * y) (congrArg a0 ?_) (congrArg (val_main_v3 (F := Ideal) a1 a4) (eq_ix4 _))
  refine funext fun a => Fin.ext ?_
  have hb := b.isLt; have hs := s.isLt; have hh := h.isLt; have hg := g.isLt; have he := e.isLt
  match a with
  | ⟨0, _⟩ => show ((((b.val * 4096 + s.val) * 2 + h.val) * 4 + g.val) * 128 + e.val) / 4194304 = b.val; omega
  | ⟨1, _⟩ => show ((((b.val * 4096 + s.val) * 2 + h.val) * 4 + g.val) * 128 + e.val) / 1024 % 4096 = s.val; omega
  | ⟨2, _⟩ => show ((((b.val * 4096 + s.val) * 2 + h.val) * 4 + g.val) * 128 + e.val) / 128 % 8 = hd.val; omega
  | ⟨3, _⟩ => show ((((b.val * 4096 + s.val) * 2 + h.val) * 4 + g.val) * 128 + e.val) % 128 = e.val; omega

/-- A context query's score against a key. -/
theorem v31_apply (b : Fin 8) (h : Fin 2) (g : Fin 4) (s : Fin 256) (k : Fin 256) (hd : Fin 8) (hhd : hd.val = 4 * h.val + g.val) :
    val_main_v31 (F := Ideal) a3 a4 (ix5 b h g s k) =
      (∑ e : Fin 128, a3 (ix4 b s hd e) * a4 (ix4 b k h e)) * (((√128)⁻¹ : ℝ) : EReal) := by
  rw [val_main_v31_apply, val_main_v28_apply, val_main_v30_apply, val_main_v29_apply]
  refine congrArg₂ (fun x y : EReal => x * y) (Finset.sum_congr rfl fun e _ => ?_) rsqrt128
  rw [val_main_v27_apply, val_main_v26_apply, val_main_v0_apply]
  refine congrArg₂ (fun x y : EReal => x * y) (congrArg a3 ?_) (congrArg a4 (eq_ix4 _))
  refine funext fun a => Fin.ext ?_
  have hb := b.isLt; have hs := s.isLt; have hh := h.isLt; have hg := g.isLt; have he := e.isLt
  match a with
  | ⟨0, _⟩ => show ((((b.val * 256 + s.val) * 2 + h.val) * 4 + g.val) * 128 + e.val) / 262144 = b.val; omega
  | ⟨1, _⟩ => show ((((b.val * 256 + s.val) * 2 + h.val) * 4 + g.val) * 128 + e.val) / 1024 % 256 = s.val; omega
  | ⟨2, _⟩ => show ((((b.val * 256 + s.val) * 2 + h.val) * 4 + g.val) * 128 + e.val) / 128 % 8 = hd.val; omega
  | ⟨3, _⟩ => show ((((b.val * 256 + s.val) * 2 + h.val) * 4 + g.val) * 128 + e.val) % 128 = e.val; omega

/-- The host's maximum over 4352 keys. -/
theorem hostMax4352 (y : FVec Ideal S8x2x4x4096x4352 .f32) (b : Fin 8) (h : Fin 2) (g : Fin 4) (s : Fin 4096) :
    Host.reduce FloatOps.maximumf y (constant S_ .f32 0xFF800000#32) reducesTo_S8x2x4x4096x4352_S8x2x4x4096_d4 h_S_ (ix4 b h g s) =
      Finset.univ.fold max (⊥ : EReal) (fun k : Fin 4352 => y (ix5 b h g s k)) := by
  have hr : S8x2x4x4096x4352.Reduces [4] S8x2x4x4096 := by decide
  rw [hostReduce_maximumf_eq_multiReduction y 0xFF800000#32 reducesTo_S8x2x4x4096x4352_S8x2x4x4096_d4 h_S_ hr (.inl rfl) rfl]
  refine (Ideal.multiReduction_maximumf_single y _ hr _ _ _).trans ?_
  rw [show FloatOps.ofBits (F := Ideal) .f32 0xFF800000#32 = (⊥ : EReal) from neg_inf_word]
  have e : ∀ j, hr.lift (ix4 b h g s) j = ix5 b h g s j := fun j => eq_ix5 _
  refine congrArg (fun f => Finset.fold max (⊥ : EReal) f Finset.univ) (funext fun j => ?_)
  exact congrArg y (e j)

/-- A query's largest score. -/
theorem v12_apply (b : Fin 8) (h : Fin 2) (g : Fin 4) (s : Fin 4096) :
    val_main_v12 (F := Ideal) a0 a1 a4 (ix4 b h g s) =
      Finset.univ.fold max (⊥ : EReal) (fun k : Fin 4352 => val_main_v11 (F := Ideal) a0 a1 a4 (ix5 b h g s k)) :=
  hostMax4352 _ b h g s

/-- The host's maximum over 256 keys. -/
theorem hostMax256 (y : FVec Ideal S8x2x4x256x256 .f32) (b : Fin 8) (h : Fin 2) (g : Fin 4) (s : Fin 256) :
    Host.reduce FloatOps.maximumf y (constant S_ .f32 0xFF800000#32) reducesTo_S8x2x4x256x256_S8x2x4x256_d4 h_S_ (ix4 b h g s) =
      Finset.univ.fold max (⊥ : EReal) (fun k : Fin 256 => y (ix5 b h g s k)) := by
  have hr : S8x2x4x256x256.Reduces [4] S8x2x4x256 := by decide
  rw [hostReduce_maximumf_eq_multiReduction y 0xFF800000#32 reducesTo_S8x2x4x256x256_S8x2x4x256_d4 h_S_ hr (.inl rfl) rfl]
  refine (Ideal.multiReduction_maximumf_single y _ hr _ _ _).trans ?_
  rw [show FloatOps.ofBits (F := Ideal) .f32 0xFF800000#32 = (⊥ : EReal) from neg_inf_word]
  have e : ∀ j, hr.lift (ix4 b h g s) j = ix5 b h g s j := fun j => eq_ix5 _
  refine congrArg (fun f => Finset.fold max (⊥ : EReal) f Finset.univ) (funext fun j => ?_)
  exact congrArg y (e j)

/-- A query's largest score. -/
theorem v32_apply (b : Fin 8) (h : Fin 2) (g : Fin 4) (s : Fin 256) :
    val_main_v32 (F := Ideal) a3 a4 (ix4 b h g s) =
      Finset.univ.fold max (⊥ : EReal) (fun k : Fin 256 => val_main_v31 (F := Ideal) a3 a4 (ix5 b h g s k)) :=
  hostMax256 _ b h g s

/-- The softmax weights of a latent query whose scores are real. -/
theorem v22_apply (b : Fin 8) (h : Fin 2) (g : Fin 4) (s : Fin 4096) (S : ℕ → ℝ)
    (hS : ∀ k : Fin 4352, val_main_v11 (F := Ideal) a0 a1 a4 (ix5 b h g s k) = ((S k.val * Real.log 2 : ℝ) : EReal)) (k : Fin 4352) :
    val_main_v22 (F := Ideal) a0 a1 a4 (ix5 b h g s k) = (wt S 4352 k.val : EReal) := by
  have hmax : ∃ μ : ℝ, val_main_v14 (F := Ideal) a0 a1 a4 (ix4 b h g s) = (μ : EReal) := by
    obtain ⟨μ, hμ⟩ := fold_max_real (n := 4352) (by norm_num) (fun k => S k.val * Real.log 2)
    refine ⟨μ, ?_⟩
    rw [val_main_v14_apply, val_main_v13_apply]
    rw [v12_apply]
    refine (congrArg₂ (fun x y : EReal => max x y) neg_inf_word ?_).trans (max_eq_right bot_le) |>.trans hμ
    exact congrArg (fun f => Finset.fold max (⊥ : EReal) f Finset.univ) (funext hS)
  obtain ⟨μ, hμ⟩ := hmax
  have e18 : ∀ j : Fin 4352, val_main_v18 (F := Ideal) a0 a1 a4 (ix5 b h g s j) =
      Ideal.exp (((S j.val * Real.log 2 : ℝ) : EReal) - (μ : EReal)) := fun j => by
    rw [val_main_v18_apply, val_main_v17_apply, val_main_v16_apply, val_main_v15_apply, hS]
    rw [Ideal.hostUnary_exp_def, Ideal.subf_def]
    exact congrArg (fun x : EReal => Ideal.exp (((S j.val * Real.log 2 : ℝ) : EReal) - x))
      ((congrArg (val_main_v14 (F := Ideal) a0 a1 a4) (eq_ix4 _)).trans hμ)
  rw [val_main_v22_apply, val_main_v21_apply, val_main_v20_apply, val_main_v19_apply, e18, val_main_cst_2_apply]
  refine (congrArg (fun y => Ideal.div (Ideal.exp (((S k.val * Real.log 2 : ℝ) : EReal) - (μ : EReal))) y) ?_).trans
    (softmax_eq S 4352 (by norm_num) _ μ rfl k.val)
  refine (congrArg₂ (fun x y : EReal => x + y) Ideal.ofBits_zero_f32 (Finset.sum_congr rfl fun j _ => ?_)).trans (zero_add _)
  exact (congrArg (val_main_v18 (F := Ideal) a0 a1 a4) (eq_ix5 _)).trans (e18 j)

/-- The softmax weights of a context query whose scores are real. -/
theorem v42_apply (b : Fin 8) (h : Fin 2) (g : Fin 4) (s : Fin 256) (S : ℕ → ℝ)
    (hS : ∀ k : Fin 256, val_main_v31 (F := Ideal) a3 a4 (ix5 b h g s k) = ((S k.val * Real.log 2 : ℝ) : EReal)) (k : Fin 256) :
    val_main_v42 (F := Ideal) a3 a4 (ix5 b h g s k) = (wt S 256 k.val : EReal) := by
  have hmax : ∃ μ : ℝ, val_main_v34 (F := Ideal) a3 a4 (ix4 b h g s) = (μ : EReal) := by
    obtain ⟨μ, hμ⟩ := fold_max_real (n := 256) (by norm_num) (fun k => S k.val * Real.log 2)
    refine ⟨μ, ?_⟩
    rw [val_main_v34_apply, val_main_v33_apply]
    rw [v32_apply]
    refine (congrArg₂ (fun x y : EReal => max x y) neg_inf_word ?_).trans (max_eq_right bot_le) |>.trans hμ
    exact congrArg (fun f => Finset.fold max (⊥ : EReal) f Finset.univ) (funext hS)
  obtain ⟨μ, hμ⟩ := hmax
  have e38 : ∀ j : Fin 256, val_main_v38 (F := Ideal) a3 a4 (ix5 b h g s j) =
      Ideal.exp (((S j.val * Real.log 2 : ℝ) : EReal) - (μ : EReal)) := fun j => by
    rw [val_main_v38_apply, val_main_v37_apply, val_main_v36_apply, val_main_v35_apply, hS]
    rw [Ideal.hostUnary_exp_def, Ideal.subf_def]
    exact congrArg (fun x : EReal => Ideal.exp (((S j.val * Real.log 2 : ℝ) : EReal) - x))
      ((congrArg (val_main_v34 (F := Ideal) a3 a4) (eq_ix4 _)).trans hμ)
  rw [val_main_v42_apply, val_main_v41_apply, val_main_v40_apply, val_main_v39_apply, e38]
  refine (congrArg (fun y => Ideal.div (Ideal.exp (((S k.val * Real.log 2 : ℝ) : EReal) - (μ : EReal))) y) ?_).trans
    (softmax_eq S 256 (by norm_num) _ μ rfl k.val)
  refine (congrArg₂ (fun x y : EReal => x + y) Ideal.ofBits_zero_f32 (Finset.sum_congr rfl fun j _ => ?_)).trans (zero_add _)
  exact (congrArg (val_main_v38 (F := Ideal) a3 a4) (eq_ix5 _)).trans (e38 j)

/-- The reference's result at a latent row. -/
theorem v47_lat (b : Fin 8) (h : Fin 2) (g : Fin 4) (s : Fin 4096) (d : Fin 128) (S : ℕ → ℝ)
    (hS : ∀ k : Fin 4352, val_main_v11 (F := Ideal) a0 a1 a4 (ix5 b h g s k) = ((S k.val * Real.log 2 : ℝ) : EReal))
    (R : Fin 34816) (C : Fin 1024) (hR : R.val = 4096 * b.val + s.val) (hC : C.val = 512 * h.val + 128 * g.val + d.val) :
    val_main_v47 (F := Ideal) a0 a1 a2 a3 a4 a5 (ix2 R C) =
      ∑ k : Fin 4352, val_main_v5 (F := Ideal) a2 a5 (ix4 b h k d) * (wt S 4352 k.val : EReal) := by
  have hb := b.isLt; have hs := s.isLt; have hh := h.isLt; have hg := g.isLt; have hd := d.isLt
  rw [val_main_v47_apply]
  unfold val_main_v46
  refine (concatenate_pair_apply_left (t := S34816x1024) (s₁ := S32768x1024) (s₂ := S2048x1024) (0 : Fin 2)
    (val_main_v25 (F := Ideal) a0 a1 a2 a4 a5) (val_main_v45 (F := Ideal) a3 a4 a5) _ (ix2 R C) rfl
    (ix2 (⟨R.val, by omega⟩ : Fin 32768) C) (fun | ⟨0, _⟩ => rfl | ⟨1, _⟩ => rfl)).trans ?_
  rw [val_main_v25_apply, val_main_v24_apply]
  refine (congrArg (val_main_v23 (F := Ideal) a0 a1 a2 a4 a5) (?_ : _ = ix5 b h g s d)).trans ?_
  · refine funext fun a => Fin.ext ?_
    match a with
    | ⟨0, _⟩ => show (R.val * 1024 + C.val) / 4194304 = b.val; omega
    | ⟨1, _⟩ => show (R.val * 1024 + C.val) / 512 % 2 = h.val; omega
    | ⟨2, _⟩ => show (R.val * 1024 + C.val) / 128 % 4 = g.val; omega
    | ⟨3, _⟩ => show (R.val * 1024 + C.val) / 1024 % 4096 = s.val; omega
    | ⟨4, _⟩ => show (R.val * 1024 + C.val) % 128 = d.val; omega
  rw [val_main_v23_apply]
  refine Finset.sum_congr rfl fun k _ => ?_
  rw [mul_comm]
  refine congrArg₂ (fun x y : EReal => x * y) (congrArg (val_main_v5 (F := Ideal) a2 a5) (eq_ix4 _)) ?_
  exact (congrArg (val_main_v22 (F := Ideal) a0 a1 a4) (eq_ix5 _)).trans (v22_apply a0 a1 a4 b h g s S hS k)

/-- The reference's result at a context row. -/
theorem v47_ctx (b : Fin 8) (h : Fin 2) (g : Fin 4) (s : Fin 256) (d : Fin 128) (S : ℕ → ℝ)
    (hS : ∀ k : Fin 256, val_main_v31 (F := Ideal) a3 a4 (ix5 b h g s k) = ((S k.val * Real.log 2 : ℝ) : EReal))
    (R : Fin 34816) (C : Fin 1024) (hR : R.val = 32768 + 256 * b.val + s.val) (hC : C.val = 512 * h.val + 128 * g.val + d.val) :
    val_main_v47 (F := Ideal) a0 a1 a2 a3 a4 a5 (ix2 R C) =
      ∑ k : Fin 256, a5 (ix4 b k h d) * (wt S 256 k.val : EReal) := by
  have hb := b.isLt; have hs := s.isLt; have hh := h.isLt; have hg := g.isLt; have hd := d.isLt
  rw [val_main_v47_apply]
  unfold val_main_v46
  refine (concatenate_apply_piece (t := S34816x1024) (0 : Fin 2)
    [⟨S32768x1024, val_main_v25 (F := Ideal) a0 a1 a2 a4 a5⟩, ⟨S2048x1024, val_main_v45 (F := Ideal) a3 a4 a5⟩] _ (ix2 R C) 1 (by simp) S2048x1024
    (val_main_v45 (F := Ideal) a3 a4 a5) rfl rfl 32768 rfl (ix2 (⟨256 * b.val + s.val, by omega⟩ : Fin 2048) C)
    (fun | ⟨0, _⟩ => fun h => absurd rfl h | ⟨1, _⟩ => fun _ => rfl) ?_).trans ?_
  · show 32768 + (256 * b.val + s.val) = R.val
    omega
  rw [val_main_v45_apply, val_main_v44_apply]
  refine (congrArg (val_main_v43 (F := Ideal) a3 a4 a5) (?_ : _ = ix5 b h g s d)).trans ?_
  · refine funext fun a => Fin.ext ?_
    match a with
    | ⟨0, _⟩ => show ((256 * b.val + s.val) * 1024 + C.val) / 262144 = b.val; omega
    | ⟨1, _⟩ => show ((256 * b.val + s.val) * 1024 + C.val) / 512 % 2 = h.val; omega
    | ⟨2, _⟩ => show ((256 * b.val + s.val) * 1024 + C.val) / 128 % 4 = g.val; omega
    | ⟨3, _⟩ => show ((256 * b.val + s.val) * 1024 + C.val) / 1024 % 256 = s.val; omega
    | ⟨4, _⟩ => show ((256 * b.val + s.val) * 1024 + C.val) % 128 = d.val; omega
  rw [val_main_v43_apply]
  refine Finset.sum_congr rfl fun k _ => ?_
  rw [mul_comm, val_main_v1_apply]
  refine congrArg₂ (fun x y : EReal => x * y) (congrArg a5 (eq_ix4 _)) ?_
  exact (congrArg (val_main_v42 (F := Ideal) a3 a4) (eq_ix5 _)).trans (v42_apply a3 a4 b h g s S hS k)

end Attn
-- ==== Proof.Equation.lean ====
module

public import proofs.«01_k».proof.Proof.Host
public import proofs.«01_k».proof.Proof.RefValue

@[expose] public section

noncomputable section

namespace Attn

open Cert.KernelIdeal Cert.KernelIdeal.Gen Cert.ReferenceIdeal.Read Idealize.ShloMosaic Idealize.ShloMosaic.ValueIdx Idealize.ShloMosaic.TcCoe

/-- A value whose magnitude lies below infinity is a real number. -/
theorem real_of_abs_lt (a : EReal) (h : Ideal.cmp .olt (max a (-a)) (Ideal.ofBits .f32 0x7F800000#32) = 1#1) : ∃ x : ℝ, a = (x : EReal) := by
  have htop : Ideal.ofBits .f32 0x7F800000#32 = (⊤ : EReal) := by simp [Ideal.ofBits, Ideal.ieee]
  rw [htop] at h
  induction a with
  | bot => simp [Ideal.cmp] at h
  | coe x => exact ⟨x, rfl⟩
  | top => simp [Ideal.cmp] at h

/-- A sum of products of real queries and keys: the kernel's base-two score and the reference's score, both real and equal up
    to the factor `log 2`. -/
theorem scores (q k : Fin 128 → EReal) (hq : ∀ e, ∃ x : ℝ, q e = (x : EReal)) (hk : ∀ e, ∃ x : ℝ, k e = (x : EReal)) :
    ∃ S : ℝ, (∑ e, k e * (q e * (((√128)⁻¹ * (1 / Real.log 2) : ℝ) : EReal))) = (S : EReal) ∧
      (∑ e, q e * k e) * (((√128)⁻¹ : ℝ) : EReal) = ((S * Real.log 2 : ℝ) : EReal) := by
  choose qr hqr using hq
  choose kr hkr using hk
  refine ⟨∑ e, kr e * (qr e * ((√128)⁻¹ * (1 / Real.log 2))), ?_, ?_⟩
  · rw [coe_sum]
    exact Finset.sum_congr rfl fun e _ => by rw [hqr, hkr, ← EReal.coe_mul, ← EReal.coe_mul]
  · have hl : Real.log 2 ≠ 0 := (Real.log_pos (by norm_num)).ne'
    have e1 : (∑ e, q e * k e) = ((∑ e, qr e * kr e : ℝ) : EReal) := by
      rw [coe_sum]
      exact Finset.sum_congr rfl fun e _ => by rw [hqr, hkr, EReal.coe_mul]
    rw [e1, ← EReal.coe_mul, Finset.sum_mul, Finset.sum_mul]
    refine congrArg _ (Finset.sum_congr rfl fun e _ => ?_)
    field_simp

section main

variable (a0 : FVec Ideal S8x4096x8x128 .f32) (a1 a2 : FVec Ideal S8x4096x2x128 .f32)
  (a3 : FVec Ideal S8x256x8x128 .f32) (a4 a5 : FVec Ideal S8x256x2x128 .f32)

/-- The packed arguments at natural coordinates. -/
abbrev packN : ℕ → ℕ → EReal := nat2 (pack a0 a1 a2 a3 a4 a5)

/-- A batch entry's key `k` in the packed array is the reference's. -/
theorem key_eq (b : Fin 8) (h : Fin 2) (k : Fin 4352) (e : Fin 128) :
    packN a0 a1 a2 a3 a4 a5 (krow b.val k.val) (1024 + 128 * h.val + e.val) = val_main_v3 (F := Ideal) a1 a4 (ix4 b h k e) := by
  have hk := k.isLt
  unfold krow
  split
  · rename_i hlt
    exact (pack_k_ctx a0 a1 a2 a3 a4 a5 b ⟨k.val, hlt⟩ h e).trans (v3_ctx a1 a4 b h ⟨k.val, hlt⟩ e k rfl).symm
  · rename_i hge
    exact (pack_k_lat a0 a1 a2 a3 a4 a5 b ⟨k.val - 256, by omega⟩ h e).trans
      (v3_lat a1 a4 b h ⟨k.val - 256, by omega⟩ e k (by show k.val = 256 + (k.val - 256); omega)).symm

/-- A batch entry's value `k` in the packed array is the reference's. -/
theorem value_eq (b : Fin 8) (h : Fin 2) (k : Fin 4352) (e : Fin 128) :
    packN a0 a1 a2 a3 a4 a5 (krow b.val k.val) (1280 + 128 * h.val + e.val) = val_main_v5 (F := Ideal) a2 a5 (ix4 b h k e) := by
  have hk := k.isLt
  unfold krow
  split
  · rename_i hlt
    exact (pack_v_ctx a0 a1 a2 a3 a4 a5 b ⟨k.val, hlt⟩ h e).trans (v5_ctx a2 a5 b h ⟨k.val, hlt⟩ e k rfl).symm
  · rename_i hge
    exact (pack_v_lat a0 a1 a2 a3 a4 a5 b ⟨k.val - 256, by omega⟩ h e).trans
      (v5_lat a2 a5 b h ⟨k.val - 256, by omega⟩ e k (by show k.val = 256 + (k.val - 256); omega)).symm

variable (h0 : ∀ i, ∃ x : ℝ, a0 i = (x : EReal)) (h1 : ∀ i, ∃ x : ℝ, a1 i = (x : EReal))
  (h3 : ∀ i, ∃ x : ℝ, a3 i = (x : EReal)) (h4 : ∀ i, ∃ x : ℝ, a4 i = (x : EReal))

include h1 h4 in
/-- The reference's keys are real when the arguments are. -/
theorem v3_real (b : Fin 8) (h : Fin 2) (k : Fin 4352) (e : Fin 128) : ∃ x : ℝ, val_main_v3 (F := Ideal) a1 a4 (ix4 b h k e) = (x : EReal) := by
  have hk := k.isLt
  rcases lt_or_ge k.val 256 with hlt | hge
  · rw [v3_ctx a1 a4 b h ⟨k.val, hlt⟩ e k rfl]; exact h4 _
  · rw [v3_lat a1 a4 b h ⟨k.val - 256, by omega⟩ e k (by show k.val = 256 + (k.val - 256); omega)]; exact h1 _

include h0 h1 h4 in
/-- A latent row's scores, in the kernel's base and in the reference's. -/
theorem score_lat (b : Fin 8) (s : Fin 4096) (h : Fin 2) (g : Fin 4) (C : ℕ) (hC : C / 128 = 4 * h.val + g.val) (R : ℕ) (hR : R = 4096 * b.val + s.val)
    (k : Fin 4352) : ∃ S : ℝ, score (packN a0 a1 a2 a3 a4 a5) R C k.val = (S : EReal) ∧
      val_main_v11 (F := Ideal) a0 a1 a4 (ix5 b h g s k) = ((S * Real.log 2 : ℝ) : EReal) := by
  have hb := b.isLt; have hs := s.isLt; have hh := h.isLt; have hg := g.isLt
  obtain ⟨S, e1, e2⟩ := scores (fun e => a0 (ix4 b s (⟨4 * h.val + g.val, by omega⟩ : Fin 8) e))
    (fun e => val_main_v3 (F := Ideal) a1 a4 (ix4 b h k e)) (fun e => h0 _) (fun e => v3_real a1 a4 h1 h4 b h k e)
  refine ⟨S, ?_, (v11_apply a0 a1 a4 b h g s k ⟨4 * h.val + g.val, by omega⟩ rfl).trans e2⟩
  rw [← e1]
  have hbat : bat R = b.val := by unfold bat; rw [if_pos (by omega)]; omega
  unfold score
  rw [hbat, show C / 512 = h.val by omega, hC, hR]
  exact Finset.sum_congr rfl fun e _ => congrArg₂ (fun x y : EReal => x * y) (key_eq a0 a1 a2 a3 a4 a5 b h k e)
    (pack_q_lat a0 a1 a2 a3 a4 a5 b s ⟨4 * h.val + g.val, by omega⟩ e)

include h1 h3 h4 in
/-- A context row's scores against any key of its batch entry, in the kernel's base. -/
theorem score_ctx (b : Fin 8) (s : Fin 256) (h : Fin 2) (g : Fin 4) (C : ℕ) (hC : C / 128 = 4 * h.val + g.val) (R : ℕ)
    (hR : R = 32768 + 256 * b.val + s.val) (k : Fin 4352) : ∃ S : ℝ, score (packN a0 a1 a2 a3 a4 a5) R C k.val = (S : EReal) ∧
      ∀ j : Fin 256, j.val = k.val → val_main_v31 (F := Ideal) a3 a4 (ix5 b h g s j) = ((S * Real.log 2 : ℝ) : EReal) := by
  have hb := b.isLt; have hs := s.isLt; have hh := h.isLt; have hg := g.isLt
  obtain ⟨S, e1, e2⟩ := scores (fun e => a3 (ix4 b s (⟨4 * h.val + g.val, by omega⟩ : Fin 8) e))
    (fun e => val_main_v3 (F := Ideal) a1 a4 (ix4 b h k e)) (fun e => h3 _) (fun e => v3_real a1 a4 h1 h4 b h k e)
  refine ⟨S, ?_, fun j hj => (v31_apply a3 a4 b h g s j ⟨4 * h.val + g.val, by omega⟩ rfl).trans (Eq.trans ?_ e2)⟩
  · rw [← e1]
    have hbat : bat R = b.val := by unfold bat; rw [if_neg (by omega)]; omega
    unfold score
    rw [hbat, show C / 512 = h.val by omega, hC, hR]
    exact Finset.sum_congr rfl fun e _ => congrArg₂ (fun x y : EReal => x * y) (key_eq a0 a1 a2 a3 a4 a5 b h k e)
      (pack_q_ctx a0 a1 a2 a3 a4 a5 b s ⟨4 * h.val + g.val, by omega⟩ e)
  · refine congrArg (fun x : EReal => x * (((√128)⁻¹ : ℝ) : EReal)) (Finset.sum_congr rfl fun e _ => ?_)
    exact congrArg (fun y : EReal => a3 (ix4 b s (⟨4 * h.val + g.val, by omega⟩ : Fin 8) e) * y) (v3_ctx a1 a4 b h j e k hj.symm).symm

include h0 h1 h3 h4 in
/-- Every score of the kernel is real. -/
theorem score_real (R C j : ℕ) (hR : R < 34816) (hC : C < 1024) (hj : j < 4352) :
    ∃ x : ℝ, score (packN a0 a1 a2 a3 a4 a5) R C j = (x : EReal) := by
  rcases lt_or_ge R 32768 with hlt | hge
  · obtain ⟨S, e, _⟩ := score_lat a0 a1 a2 a3 a4 a5 h0 h1 h4 ⟨R / 4096, by omega⟩ ⟨R % 4096, by omega⟩ ⟨C / 512, by omega⟩ ⟨C / 128 % 4, by omega⟩ C
      (by show C / 128 = 4 * (C / 512) + C / 128 % 4; omega) R (by show R = 4096 * (R / 4096) + R % 4096; omega) ⟨j, hj⟩
    exact ⟨S, e⟩
  · obtain ⟨S, e, _⟩ := score_ctx a0 a1 a2 a3 a4 a5 h1 h3 h4 ⟨(R - 32768) / 256, by omega⟩ ⟨(R - 32768) % 256, by omega⟩ ⟨C / 512, by omega⟩
      ⟨C / 128 % 4, by omega⟩ C (by show C / 128 = 4 * (C / 512) + C / 128 % 4; omega) R
      (by show R = 32768 + 256 * ((R - 32768) / 256) + (R - 32768) % 256; omega) ⟨j, hj⟩
    exact ⟨S, e⟩

include h0 h1 h3 h4 in
/-- The kernel's result is the reference's, entry by entry. -/
theorem equation (R : Fin 34816) (C : Fin 1024) :
    outAt (packN a0 a1 a2 a3 a4 a5) R.val C.val = val_main_v47 (F := Ideal) a0 a1 a2 a3 a4 a5 (ix2 R C) := by
  have hR := R.isLt; have hC := C.isLt
  rcases lt_or_ge R.val 32768 with hlt | hge
  · have hc : cnt R.val = 4352 := by unfold cnt; rw [if_pos hlt]
    have hbat : bat R.val = R.val / 4096 := by unfold bat; rw [if_pos hlt]
    have key := v47_lat a0 a1 a2 a3 a4 a5 ⟨R.val / 4096, by omega⟩ ⟨C.val / 512, by omega⟩ ⟨C.val / 128 % 4, by omega⟩ ⟨R.val % 4096, by omega⟩
      ⟨C.val % 128, by omega⟩ (fun j => (score (packN a0 a1 a2 a3 a4 a5) R.val C.val j).toReal) (fun k => ?_) R C
      (by show R.val = 4096 * (R.val / 4096) + R.val % 4096; omega)
      (by show C.val = 512 * (C.val / 512) + 128 * (C.val / 128 % 4) + C.val % 128; omega)
    · rw [key]
      unfold outAt
      rw [hc, hbat]
      refine Finset.sum_congr rfl fun k _ => congrArg (fun x : EReal => x * _) ?_
      exact value_eq a0 a1 a2 a3 a4 a5 ⟨R.val / 4096, by omega⟩ ⟨C.val / 512, by omega⟩ k ⟨C.val % 128, by omega⟩
    · obtain ⟨S, e1, e2⟩ := score_lat a0 a1 a2 a3 a4 a5 h0 h1 h4 ⟨R.val / 4096, by omega⟩ ⟨R.val % 4096, by omega⟩ ⟨C.val / 512, by omega⟩
        ⟨C.val / 128 % 4, by omega⟩ C.val (by show C.val / 128 = 4 * (C.val / 512) + C.val / 128 % 4; omega) R.val
        (by show R.val = 4096 * (R.val / 4096) + R.val % 4096; omega) k
      rw [e2]
      dsimp only
      rw [e1, EReal.toReal_coe]
  · have hc : cnt R.val = 256 := by unfold cnt; rw [if_neg (by omega)]
    have hbat : bat R.val = (R.val - 32768) / 256 := by unfold bat; rw [if_neg (by omega)]
    have key := v47_ctx a0 a1 a2 a3 a4 a5 ⟨(R.val - 32768) / 256, by omega⟩ ⟨C.val / 512, by omega⟩ ⟨C.val / 128 % 4, by omega⟩
      ⟨(R.val - 32768) % 256, by omega⟩
      ⟨C.val % 128, by omega⟩ (fun j => (score (packN a0 a1 a2 a3 a4 a5) R.val C.val j).toReal) (fun k => ?_) R C
      (by show R.val = 32768 + 256 * ((R.val - 32768) / 256) + (R.val - 32768) % 256; omega)
      (by show C.val = 512 * (C.val / 512) + 128 * (C.val / 128 % 4) + C.val % 128; omega)
    · rw [key]
      unfold outAt
      rw [hc, hbat]
      refine Finset.sum_congr rfl fun k _ => congrArg (fun x : EReal => x * _) ?_
      have hk := k.isLt
      exact (value_eq a0 a1 a2 a3 a4 a5 ⟨(R.val - 32768) / 256, by omega⟩ ⟨C.val / 512, by omega⟩ ⟨k.val, by omega⟩ ⟨C.val % 128, by omega⟩).trans
        (v5_ctx a2 a5 _ _ k _ _ rfl)
    · have hk := k.isLt
      obtain ⟨S, e1, e2⟩ := score_ctx a0 a1 a2 a3 a4 a5 h1 h3 h4 ⟨(R.val - 32768) / 256, by omega⟩ ⟨(R.val - 32768) % 256, by omega⟩
        ⟨C.val / 512, by omega⟩ ⟨C.val / 128 % 4, by omega⟩ C.val (by show C.val / 128 = 4 * (C.val / 512) + C.val / 128 % 4; omega) R.val
        (by show R.val = 32768 + 256 * ((R.val - 32768) / 256) + (R.val - 32768) % 256; omega) ⟨k.val, by omega⟩
      rw [e2 k rfl]
      dsimp only
      dsimp only at e1
      rw [e1, EReal.toReal_coe]

end main

end Attn
-- ==== Proof.Attention.lean ====
module

public import proofs.«01_k».proof.Defs
public import proofs.«01_k».proof.Proof.Equation
public import proofs.«01_k».proof.Proof.Gen.Pre_finite_qk
public import Idealize.ShloMosaic.Lib.Quiescent

@[expose] public section

noncomputable section

namespace Attn

open Idealize.ShloMosaic Idealize.SL.Sem Idealize.ShloMosaic.ValueIdx Idealize.ShloMosaic.TcCoe

/-- The precondition, read: queries and keys, of the latents and of the context, are real numbers. -/
theorem pre_real (a0 : FVec Ideal Cert.KernelIdeal.S8x4096x8x128 .f32) (a1 a2 : FVec Ideal Cert.KernelIdeal.S8x4096x2x128 .f32)
    (a3 : FVec Ideal Cert.KernelIdeal.S8x256x8x128 .f32) (a4 a5 : FVec Ideal Cert.KernelIdeal.S8x256x2x128 .f32)
    (h : (Cert.Pre_finite_qk.fn (F := Ideal) a0 a1 a2 a3 a4 a5).1 = (fun _ => 1#1)
      ∧ (Cert.Pre_finite_qk.fn (F := Ideal) a0 a1 a2 a3 a4 a5).2.1 = (fun _ => 1#1)
      ∧ (Cert.Pre_finite_qk.fn (F := Ideal) a0 a1 a2 a3 a4 a5).2.2.1 = (fun _ => 1#1)
      ∧ (Cert.Pre_finite_qk.fn (F := Ideal) a0 a1 a2 a3 a4 a5).2.2.2 = (fun _ => 1#1)) :
    (∀ i, ∃ x : ℝ, a0 i = (x : EReal)) ∧ (∀ i, ∃ x : ℝ, a1 i = (x : EReal)) ∧
      (∀ i, ∃ x : ℝ, a3 i = (x : EReal)) ∧ (∀ i, ∃ x : ℝ, a4 i = (x : EReal)) := by
  simp only [Cert.Pre_finite_qk.fn] at h
  obtain ⟨h0, h1, h3, h4⟩ := h
  exact ⟨fun i => real_of_abs_lt _ (congrFun h0 i), fun i => real_of_abs_lt _ (congrFun h1 i),
    fun i => real_of_abs_lt _ (congrFun h3 i), fun i => real_of_abs_lt _ (congrFun h4 i)⟩

/-- What the kernel leaves in its result array: the reference's value of the arguments. -/
theorem kernel_value (m : (ℓ : Loc Cert.KernelIdeal.nD Cert.KernelIdeal.τ Cert.KernelIdeal.sig) → Buf (Elt Ideal) ℓ)
    (hpre : Cert.Pre_KernelIdeal_finite_qk m) (c : Dev Cert.KernelIdeal.nD) :
    (Cert.KernelIdeal.Gen.dats m 0 c).arrAt 5 Cert.KernelIdeal.cfg0.N =
      (Cert.ReferenceIdeal.Read.val_main_v47 (F := Ideal)
        (m ((c.tc : Thread Cert.KernelIdeal.nD Cert.KernelIdeal.τ).loc Cert.KernelIdeal.main_arg0))
        (m ((c.tc : Thread Cert.KernelIdeal.nD Cert.KernelIdeal.τ).loc Cert.KernelIdeal.main_arg1))
        (m ((c.tc : Thread Cert.KernelIdeal.nD Cert.KernelIdeal.τ).loc Cert.KernelIdeal.main_arg2))
        (m ((c.tc : Thread Cert.KernelIdeal.nD Cert.KernelIdeal.τ).loc Cert.KernelIdeal.main_arg3))
        (m ((c.tc : Thread Cert.KernelIdeal.nD Cert.KernelIdeal.τ).loc Cert.KernelIdeal.main_arg4))
        (m ((c.tc : Thread Cert.KernelIdeal.nD Cert.KernelIdeal.τ).loc Cert.KernelIdeal.main_arg5)) :
          Buf (Elt Ideal) ((c.tc : Thread Cert.KernelIdeal.nD Cert.KernelIdeal.τ).loc Cert.KernelIdeal.main_v16)) := by
  obtain ⟨h0, h1, h3, h4⟩ := pre_real _ _ _ _ _ _ (hpre c)
  have hpk : packed m c = packN _ _ _ _ _ _ := congrArg nat2 (V15 m c)
  refine (final m c fun R C j hR hC hj => ?_).trans (funext fun y => ?_)
  · rw [hpk]
    exact score_real _ _ _ _ _ _ h0 h1 h3 h4 R C j hR hC hj
  · unfold result
    rw [hpk]
    refine (equation _ _ _ _ _ _ h0 h1 h3 h4 (y 0) (y 1)).trans (congrArg _ ?_)
    exact (eq_ix2 y).symm

/-- The attention kernel and the plain attention end with equal results. -/
theorem attention : Cert.algebraic_KernelIdeal_ReferenceIdeal_pre_finite_qk := by
  intro m g m' g' hpre hagree
  refine ⟨fun c => (Cert.KernelIdeal.Gen.dats m 0 c).arrAt 5 Cert.KernelIdeal.cfg0.N, Cert.KernelIdeal.Value.run_blocks m g, ?_⟩
  refine (θ_run Cert.ReferenceIdeal.defs _ _).mono (fun r h c => ⟨?_, (h c).2⟩) (Cert.ReferenceIdeal.Value.run (F := Ideal) m' g')
  rw [(h c).1, Cert.ReferenceIdeal.Read.val_main_v47_eq]
  obtain ⟨e0, e1, e2, e3, e4, e5⟩ := hagree c
  rw [e0, e1, e2, e3, e4, e5]
  exact (kernel_value m hpre c).symm

/-- The plain attention ends with its arguments as they were and no semaphore raised. -/
theorem reference_frame : Cert.quiescent_ReferenceIdeal := fun m g _ =>
  (θ_run Cert.ReferenceIdeal.defs _ _).mono (fun r h => ⟨fun c => (h c).2, sem_eq_zero_of_no_sems rfl _⟩)
    (Cert.ReferenceIdeal.Value.run (F := Ideal) m g)

end Attn
-- ==== Proof.Expert.Setup.lean ====
module

public import proofs.«01_k».proof.Proof.Gen.Kernel2Ideal.Launch
public import proofs.«01_k».proof.Proof.Gen.Kernel2Ideal.Skeleton
public import Idealize.ShloMosaic.Lib.Pipeline.FrameBody
public import Idealize.ShloMosaic.Lib.Pipeline.TableIdle
public import Idealize.ShloMosaic.Lib.Ring
public import Idealize.ShloMosaic.Lib.Tactic
public import Idealize.ShloMosaic.Lib.WordCmp

@[expose] public section

noncomputable section

namespace Expert

open Cert.Kernel2Ideal Cert.Kernel2Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The host operations before the region, in order. -/
abbrev prefixOps : List (List (HloOp τ sig (Elt F))) := [hostOps0, hostOps0_1, hostOps0_2, hostOps0_3, hostOps0_4, hostOps0_5, hostOps0_6, hostOps0_7, hostOps0_8]

/-- What a buffer of core `c` holds when the region is entered. -/
abbrev V (c : Dev nD) (b : Ref sig .tc) : Buf (Elt F) ((c : Thread nD τ).loc b) :=
  StableHlo.after (List.flatten prefixOps) (fun b => m (c, b)) b

/-- No host operation allocates. -/
theorem prefixOps_fresh : (prefixOps : List (List (HloOp τ sig (Elt F)))).Forall fun ops => ops.Forall fun op => op.fresh = ∅ := by
  simp only [List.Forall]; repeat' constructor

/-- Every host operation touches buffers of the TensorCore only. -/
theorem prefixOps_sub : (prefixOps : List (List (HloOp τ sig (Elt F)))).Forall fun ops => ops.Forall fun op => op.bufs ⊆ StableHlo.tcRefs τ sig := by
  simp only [List.Forall]
  exact ⟨hostOps0_sub, hostOps0_1_sub, hostOps0_2_sub, hostOps0_3_sub, hostOps0_4_sub, hostOps0_5_sub, hostOps0_6_sub, hostOps0_7_sub, hostOps0_8_sub⟩

set_option maxHeartbeats 800000 in
/-- The program is its host operations, then the region. -/
theorem hmain (𝒱₀ : Variants) : Pipeline.HMainP (Ix := Unit) (Name := ℕ) (U := UR sig nD τ) (Lvl := ℕ) pcfgs 0 defs₀ 𝒱₀ m (main (F := F)) (V m) :=
  Pipeline.hmainP_prefixes pcfgs 0 defs₀ 𝒱₀ m main prefixOps prefixOps_sub prefixOps_fresh main_chain

/-- No host operation before the region writes an argument. -/
theorem not_written (b : Ref sig .tc) (hb : b = main_arg0 ∨ b = main_arg1 ∨ b = main_arg2 ∨ b = main_arg3 ∨ b = main_arg4) :
    ∀ op ∈ (List.flatten prefixOps : List (HloOp τ sig (Elt F))), Proc.devRef .tc b ∉ op.writes := by
  refine List.forall_iff_forall_mem.mp ?_
  rcases hb with rfl | rfl | rfl | rfl | rfl <;>
  · simp only [prefixOps, hostOps0, hostOps0_1, hostOps0_2, hostOps0_3, hostOps0_4, hostOps0_5, hostOps0_6, hostOps0_7, hostOps0_8, List.flatten_cons, List.flatten_nil, List.append_nil, List.cons_append,
      List.nil_append, List.Forall, StableHlo.nullary_writes, StableHlo.unary_writes, StableHlo.binary_writes, StableHlo.ternary_writes,
      StableHlo.quaternary_writes, StableHlo.reshape_writes, StableHlo.binaryIndexed_writes, Finset.mem_singleton]
    repeat' apply And.intro
    all_goals exact StableHlo.devRef_ne_of_ne (by decide)

/-- The region finds an argument as it was at the start. -/
theorem V_arg (c : Dev nD) (b : Ref sig .tc) (hb : b = main_arg0 ∨ b = main_arg1 ∨ b = main_arg2 ∨ b = main_arg3 ∨ b = main_arg4) :
    V m c b = m ((c : Thread nD τ).loc b) :=
  StableHlo.after_of_forall_not_mem (b := Proc.devRef .tc b) _ _ (not_written b hb)

/-! ## The tables -/

/-- The tables when the region is entered. -/
def tbl : pre0.Contents (Elt F) := fun j => V m (0 : Dev nD) (pre0.ref j)

/-- The tables are those of the one device. -/
theorem V_pre (c : Dev nD) (j : Fin 3) : V m c (pre0.ref j) = tbl m j := by
  obtain rfl : c = 0 := Subsingleton.elim _ _; rfl

/-- Every block that the tables name lies inside its array. -/
abbrev Ok : Prop := ok0 (F := F) (tbl m)
/-- The tables, as contents that the pipeline admits. -/
abbrev adm (hO : Ok m) : (pcfg0 (F := F)).Adm := ⟨tbl m, hO⟩
/-- The pipeline at the tables. -/
abbrev cfgM (hO : Ok m) : Pipeline.Cfg sig Λ₀ := cfg0 (adm m hO)

/-- The table of experts, as the body is handed it. -/
abbrev tb0 : Memref sig .tc .smem S423 .i32 := Memref.whole main_v43
/-- The table of row counts. -/
abbrev tb1 : Memref sig .tc .smem S423 .i32 := Memref.whole main_v39
/-- The number of blocks in use. -/
abbrev tb2 : Memref sig .tc .smem S1 .i32 := Memref.whole main_v41

/-- The contents of a table's buffer. -/
abbrev TbBuf (c : Dev nD) {S : Shape} {e : EltTy} (M : Memref sig .tc .smem S e) : Type := Buf (Elt F) (M.view.loc (c : Thread nD τ))
/-- A table held for reading, at half the full share. -/
abbrev tbPt (c : Dev nD) {S : Shape} {e : EltTy} (M : Memref sig .tc .smem S e) (f : TbBuf (F := F) c M) : sProp 𝕄 :=
  M.view.loc (c : Thread nD τ) ↦{fullShare.right} f

/-- The halves of the tables that the region hands the body, one by one. -/
theorem PhiT_eq (c : Dev nD) : (Pipeline.ΦT pre0 (tbl m) c : sProp 𝕄) = iprop(tbPt c tb0 (tbl m 0) ∗ tbPt c tb1 (tbl m 1) ∗ tbPt c tb2 (tbl m 2)) := by
  unfold Pipeline.ΦT Pipeline.prefHeld
  rw [show (Finset.univ : Finset (Fin 3)) = {0, 1, 2} from by decide,
    bigSep_insert (by decide), bigSep_insert (by decide), bigSep_singleton]
  rfl

/-! ## The windows' blocks -/

/-- Window `w`'s block at point `t`, of its array as the region finds it. -/
def iblk (hO : Ok m) (c : Dev nD) (w : Fin (cfgM m hO).W) (t : Fin (cfgM m hO).N) : (((cfgM m hO).win w).xblock ((cfgM m hO).grid.coords t)).Idx → Elt F ((cfgM m hO).win w).elt :=
  (((cfgM m hO).win w).blk t).view.read (Elt F) (V m c (Pipeline.arrRef spec0 w))

/-- The body finds window 0's block in its staging buffer at every point, whatever the point before left elsewhere. -/
theorem before_0_of (hO : Ok m) {c : Dev nD} (dat : Dat τ (Elt F) Unit ℕ (UR sig nD τ) ℕ (cfgM m hO) c) (hA : dat.A 0 = V m c (Pipeline.arrRef spec0 0))
    (hafter : ∀ t, dat.after 0 t = iblk m hO c 0 t) (t : Fin (cfgM m hO).N) (d) : dat.before 0 t d = iblk m hO c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)

/-- The body finds window 1's block in its staging buffer at every point, whatever the point before left elsewhere. -/
theorem before_1_of (hO : Ok m) {c : Dev nD} (dat : Dat τ (Elt F) Unit ℕ (UR sig nD τ) ℕ (cfgM m hO) c) (hA : dat.A 1 = V m c (Pipeline.arrRef spec0 1))
    (hafter : ∀ t, dat.after 1 t = iblk m hO c 1 t) (t : Fin (cfgM m hO).N) (d) : dat.before 1 t d = iblk m hO c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)

/-- The body finds window 2's block in its staging buffer at every point, whatever the point before left elsewhere. -/
theorem before_2_of (hO : Ok m) {c : Dev nD} (dat : Dat τ (Elt F) Unit ℕ (UR sig nD τ) ℕ (cfgM m hO) c) (hA : dat.A 2 = V m c (Pipeline.arrRef spec0 2))
    (hafter : ∀ t, dat.after 2 t = iblk m hO c 2 t) (t : Fin (cfgM m hO).N) (d) : dat.before 2 t d = iblk m hO c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)

/-- The body finds window 3's block in its staging buffer at every point, whatever the point before left elsewhere. -/
theorem before_3_of (hO : Ok m) {c : Dev nD} (dat : Dat τ (Elt F) Unit ℕ (UR sig nD τ) ℕ (cfgM m hO) c) (hA : dat.A 3 = V m c (Pipeline.arrRef spec0 3))
    (hafter : ∀ t, dat.after 3 t = iblk m hO c 3 t) (t : Fin (cfgM m hO).N) (d) : dat.before 3 t d = iblk m hO c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)

/-- The staging memref of each window at point `t`, as the pipeline passes it, and that it is a whole buffer. -/
abbrev ms0 (hO : Ok m) (t : Fin (cfgM m hO).N) : Memref sig .tc .vmem S256x1024 .f32 := spec0_0.stage ((cfgM m hO).slots t 0)
abbrev hs0 (hO : Ok m) (t : Fin (cfgM m hO).N) : (ms0 m hO t).IsWhole := hstage0_0 (((cfgM m hO).slots t 0).cast nbuf0_0)
abbrev ms1 (hO : Ok m) (t : Fin (cfgM m hO).N) : Memref sig .tc .vmem S1x1024x256 .f32 := spec0_1.stage ((cfgM m hO).slots t 1)
abbrev hs1 (hO : Ok m) (t : Fin (cfgM m hO).N) : (ms1 m hO t).IsWhole := hstage0_1 (((cfgM m hO).slots t 1).cast nbuf0_1)
abbrev ms2 (hO : Ok m) (t : Fin (cfgM m hO).N) : Memref sig .tc .vmem S1x1024x256 .f32 := spec0_2.stage ((cfgM m hO).slots t 2)
abbrev hs2 (hO : Ok m) (t : Fin (cfgM m hO).N) : (ms2 m hO t).IsWhole := hstage0_2 (((cfgM m hO).slots t 2).cast nbuf0_2)
abbrev ms3 (hO : Ok m) (t : Fin (cfgM m hO).N) : Memref sig .tc .vmem S1x256x1024 .f32 := spec0_3.stage ((cfgM m hO).slots t 3)
abbrev hs3 (hO : Ok m) (t : Fin (cfgM m hO).N) : (ms3 m hO t).IsWhole := hstage0_3 (((cfgM m hO).slots t 3).cast nbuf0_3)
abbrev ms4 (hO : Ok m) (t : Fin (cfgM m hO).N) : Memref sig .tc .vmem S256x1024 .f32 := spec0_4.stage ((cfgM m hO).slots t 4)
abbrev hs4 (hO : Ok m) (t : Fin (cfgM m hO).N) : (ms4 m hO t).IsWhole := hstage0_4 (((cfgM m hO).slots t 4).cast nbuf0_4)

/-- The body at point `t`, on what the pipeline calls it with. -/
abbrev bodyAt (hO : Ok m) (t : Fin (cfgM m hO).N) : Prog (TpuEff nD τ sig (Elt F) Λ₀ .tc) PUnit :=
  cc0_expert_mlp (grid0.coords t) tb0 (Memref.isWhole_whole _) tb1 (Memref.isWhole_whole _) tb2 (Memref.isWhole_whole _)
    (ms0 m hO t) (hs0 m hO t) (ms1 m hO t) (hs1 m hO t) (ms2 m hO t) (hs2 m hO t) (ms3 m hO t) (hs3 m hO t) (ms4 m hO t) (hs4 m hO t)

end Expert

end
-- ==== Proof.Expert.Counts.lean ====
module

public import Idealize.ShloMosaic.Lib.Routing.Words

@[expose] public section

/-! Where the segments of the experts lie: natural numbers only. Expert `e` holds `8 * c e` rows, in a room that is a whole number of blocks of 256 rows. -/

namespace Expert

/-- The rows set aside for expert `e`. -/
def room (c : ℕ → ℕ) (e : ℕ) : ℕ := (8 * c e + 255) / 256 * 256

/-- The first row of expert `e`. -/
def start (c : ℕ → ℕ) (e : ℕ) : ℕ := ((List.range e).map (room c)).sum

/-- The number of blocks in use. -/
def blocks (c : ℕ → ℕ) : ℕ := start c 32 / 256

/-- The expert whose segment block `t` lies in; past the last block in use, the last expert. -/
def owner (c : ℕ → ℕ) (t : ℕ) : ℕ := min (Nat.count (fun e => start c (e + 1) ≤ t * 256) 32) 31

/-- How many rows of block `t` hold a token. -/
def filled (c : ℕ → ℕ) (t : ℕ) : ℕ := min 256 (start c (owner c t) + 8 * c (owner c t) - t * 256)

/-- The counts that the routing can give. -/
structure Counted (c : ℕ → ℕ) : Prop where
  one_le : 1 ≤ ((List.range 32).map c).sum
  le : ((List.range 32).map c).sum ≤ 12512

variable {c : ℕ → ℕ}

theorem start_succ (e : ℕ) : start c (e + 1) = start c e + room c e := by
  unfold start; rw [List.range_succ, List.map_append, List.sum_append]; simp

theorem start_mono {a b : ℕ} (h : a ≤ b) : start c a ≤ start c b :=
  monotone_nat_of_le_succ (f := start c) (fun e => by rw [start_succ]; omega) h

/-- Segments begin at whole blocks. -/
theorem start_dvd (e : ℕ) : 256 ∣ start c e := by
  induction e with
  | zero => exact ⟨0, rfl⟩
  | succ e ih => rw [start_succ]; exact (Nat.dvd_add_right ih).mpr ⟨(8 * c e + 255) / 256, by unfold room; ring⟩

/-- A room has at least the rows used, and less than one block more. -/
theorem room_bounds (e : ℕ) : 8 * c e ≤ room c e ∧ room c e ≤ 8 * c e + 255 := by unfold room; omega

theorem sum_bounds (k : ℕ) : 8 * ((List.range k).map c).sum ≤ start c k ∧ start c k ≤ 8 * ((List.range k).map c).sum + 255 * k := by
  induction k with
  | zero => simp [start]
  | succ k ih =>
    have := room_bounds (c := c) k
    rw [start_succ, List.range_succ, List.map_append, List.sum_append]
    simp only [List.map_cons, List.map_nil, List.sum_cons, List.sum_nil]
    omega

theorem Counted.total (h : Counted c) : 8 ≤ start c 32 ∧ start c 32 ≤ 108256 := by
  have := sum_bounds (c := c) 32; have := h.one_le; have := h.le; omega

theorem Counted.count_le (h : Counted c) {e : ℕ} (he : e < 32) : c e ≤ 12512 :=
  le_trans (List.single_le_sum (fun _ _ => Nat.zero_le _) _ (List.mem_map.mpr ⟨e, List.mem_range.mpr he, rfl⟩)) h.le

theorem blocks_mul : blocks c * 256 = start c 32 := Nat.div_mul_cancel (start_dvd 32)

theorem Counted.blocks_pos (h : Counted c) : 1 ≤ blocks c := by
  have := h.total; have := blocks_mul (c := c); omega

theorem Counted.blocks_le (h : Counted c) : blocks c ≤ 422 := by
  have := h.total; have := blocks_mul (c := c); omega

/-- The owner of a block inside a segment. -/
theorem owner_of {e t : ℕ} (he : e < 32) (h1 : start c e ≤ t * 256) (h2 : t * 256 < start c (e + 1)) : owner c t = e := by
  have hc : Nat.count (fun e => start c (e + 1) ≤ t * 256) 32 = e := by
    obtain ⟨k, hk⟩ : ∃ k, 32 = e + k := ⟨32 - e, by omega⟩
    rw [hk, Nat.count_add, Nat.count_iff_forall.mpr, Nat.count_iff_forall_not.mpr, Nat.add_zero]
    · intro i _ hi
      have := start_mono (c := c) (show e + 1 ≤ e + i + 1 by omega)
      omega
    · intro i hi
      exact le_trans (start_mono hi) h1
  unfold owner; rw [hc]; omega

/-- Every row below the end of a prefix lies in the room of an expert of it. -/
theorem exists_room (r : ℕ) : ∀ k, r < start c k → ∃ e, e < k ∧ start c e ≤ r ∧ r < start c (e + 1)
  | 0, h => absurd h (by simp [start])
  | k + 1, h => by
    by_cases hk : r < start c k
    · obtain ⟨e, he, h1, h2⟩ := exists_room r k hk; exact ⟨e, by omega, h1, h2⟩
    · exact ⟨k, by omega, by omega, h⟩

/-- A block holds a token exactly when it is in use. -/
theorem filled_pos_iff (t : ℕ) : 0 < filled c t ↔ t < blocks c := by
  have hb := blocks_mul (c := c)
  constructor
  · intro h
    by_contra hn
    have h32 : start c 32 ≤ t * 256 := by omega
    have hle := start_mono (c := c) (show owner c t + 1 ≤ 32 by unfold owner; omega)
    rw [start_succ] at hle
    have := (room_bounds (c := c) (owner c t)).1
    unfold filled at h; omega
  · intro h
    obtain ⟨e, he, h1, h2⟩ := exists_room (c := c) (t * 256) 32 (by omega)
    rw [filled, owner_of he h1 h2]
    obtain ⟨a, ha⟩ := start_dvd (c := c) e
    rw [start_succ] at h2
    have hr : ∃ b, room c e = b * 256 := ⟨_, rfl⟩
    obtain ⟨b, hb⟩ := hr
    have := room_bounds (c := c) e
    omega

/-- A row of an expert's segment: its block is the expert's, and the row is among the block's filled ones. -/
theorem owned_row {e r : ℕ} (he : e < 32) (h1 : start c e ≤ r) (h2 : r < start c e + 8 * c e) :
    owner c (r / 256) = e ∧ r % 256 < filled c (r / 256) ∧ r / 256 < blocks c := by
  obtain ⟨a, ha⟩ := start_dvd (c := c) e
  have hr := room_bounds (c := c) e
  have ho : owner c (r / 256) = e := owner_of he (by omega) (by rw [start_succ]; omega)
  have hf : r % 256 < filled c (r / 256) := by rw [filled, ho]; omega
  exact ⟨ho, hf, (filled_pos_iff _).mp (by omega)⟩

/-- A row lies in the segment of one expert only. -/
theorem owner_unique {e e' r : ℕ} (h1 : start c e ≤ r) (h2 : r < start c e + 8 * c e) (h1' : start c e' ≤ r) (h2' : r < start c e' + 8 * c e') : e = e' := by
  have hr := room_bounds (c := c) e; have hr' := room_bounds (c := c) e'
  rcases Nat.lt_trichotomy e e' with h | h | h
  · have := start_mono (c := c) (show e + 1 ≤ e' by omega); rw [start_succ] at this; omega
  · exact h
  · have := start_mono (c := c) (show e' + 1 ≤ e by omega); rw [start_succ] at this; omega

end Expert
-- ==== Proof.Expert.Tables.lean ====
module

public import proofs.«01_k».proof.Proof.Gen.Kernel2Ideal.Launch
public import proofs.«01_k».proof.Proof.Expert.Counts
public import Idealize.ShloMosaic.Lib.Routing.OpsSet
public import Idealize.ShloMosaic.Lib.PlanTiles.Rows

@[expose] public section

noncomputable section

/-! The integer arrays that the host code makes of the counts of chunks, read at an index as natural numbers. -/

namespace Expert

open Cert.Kernel2Ideal Cert.Kernel2Ideal.Gen
open Idealize.ShloMosaic Idealize.ShloMosaic.ValueIdx Idealize.ShloMosaic.WordCmp Idealize.ShloMosaic.Routing

/-- The counts of chunks as natural numbers. -/
def chunkOf (x : IVec S32 32) (e : ℕ) : ℕ := if h : e < 32 then (x (ix1 ⟨e, h⟩)).toNat else 0

theorem chunk_word (x : IVec S32 32) (e : Fin 32) : x (ix1 e) = BitVec.ofNat 32 (chunkOf x e.val) := by
  unfold chunkOf; rw [dif_pos e.isLt, BitVec.ofNat_toNat, BitVec.setWidth_eq]

/-- A vector of one word repeated. -/
abbrev rep32 (b : BitVec 32) : IVec S32 32 := broadcastInDim S32 ![] bcast_S_S32 (constantI S_ 32 b)
/-- The same over the blocks. -/
abbrev rep423 (b : BitVec 32) : IVec S423 32 := broadcastInDim S423 ![] bcast_S_S423 (constantI S_ 32 b)

/-- The rows in use of each expert. -/
def wUsed (x : IVec S32 32) : IVec S32 32 := muli (rep32 8#32) x
/-- The rows set aside for each expert. -/
def wRoom (x : IVec S32 32) : IVec S32 32 := muli (pyDiv bcast_S_S32 (subi (addi (wUsed x) (rep32 256#32)) (rep32 1#32)) (constantI S_ 32 256#32)) (rep32 256#32)
/-- The row after the last of each expert. -/
def wEnd (x : IVec S32 32) : IVec S32 32 :=
  Host.reduceWindow IntOp.addi ![32] ![1] ![31] ![0] (wRoom x) (broadcastInDim S_ ![] bcast_S_S_ (constantI S_ 32 0#32)) reduceWindows_S32_S32_w32s1p31_0 h_S_
/-- The first row of each expert. -/
def wStart (x : IVec S32 32) : IVec S32 32 := subi (wEnd x) (wRoom x)
/-- The first row of each block. -/
def wRow : IVec S423 32 := muli (iotaInDim S423 32 0) (rep423 256#32)
/-- The expert of each block. -/
def wOwner (x : IVec S32 32) : IVec S423 32 :=
  minsi (Host.reduce IntOp.addi (extui 32 (cmpi .sle (broadcastInDim S423x32 ![0, 1] bcast_S1x32_S423x32_0_1 (broadcastInDim S1x32 ![1] bcast_S32_S1x32_1 (wEnd x)))
    (broadcastInDim S423x32 ![0, 1] bcast_S423x1_S423x32_0_1 (broadcastInDim S423x1 ![0] bcast_S423_S423x1_0 wRow))) natLt_1_32)
    (constantI S_ 32 0#32) reducesTo_S423x32_S423_d1 h_S_) (rep423 31#32)
/-- The expert of each block, as the index of a gather. -/
def wPick (x : IVec S32 32) : IVec S423x1 32 :=
  broadcastInDim S423x1 ![0] bcast_S423_S423x1_0 (select (cmpi .slt (wOwner x) (rep423 0#32)) (addi (wOwner x) (rep423 32#32)) (wOwner x))
/-- How many rows of each block hold a token. -/
def wFilled (x : IVec S32 32) : IVec S423 32 :=
  minsi (rep423 256#32) (maxsi (rep423 0#32) (subi (addi (Host.gather gather_S32_S423x1_S423_n_0_n_n_0_1_1 (wStart x) (wPick x))
    (Host.gather gather_S32_S423x1_S423_n_0_n_n_0_1_1 (wUsed x) (wPick x))) wRow))
/-- The number of blocks in use. -/
def wBlocks (x : IVec S32 32) : IVec S1 32 := pyDiv bcast_S_S1 (extractStridedSlice S1 ![31] (wEnd x) slices_S32_S1_31) (constantI S_ 32 256#32)
/-- The expert of each block, counted over all the layers' experts. -/
def wExpert (x : IVec S32 32) : IVec S423 32 := addi (wOwner x) (rep423 32#32)

section Words

variable {x : IVec S32 32} (h : Counted (chunkOf x))
include h

/-- The rows in use, as natural numbers. -/
theorem used_ap (e : Fin 32) : wUsed x (ix1 e) = BitVec.ofNat 32 (8 * chunkOf x e.val) := by
  unfold wUsed rep32
  rw [muli_ap, bc0, constantI_at, chunk_word x e, BitVec.ofNat_mul]

/-- The rows set aside, as natural numbers. -/
theorem room_ap (e : Fin 32) : wRoom x (ix1 e) = BitVec.ofNat 32 (room (chunkOf x) e.val) := by
  have hc := h.count_le e.isLt
  unfold wRoom rep32
  rw [muli_ap, bc0, constantI_at, pyDiv_ap bcast_S_S32 _ _ _ (a := 8 * chunkOf x e.val + 255) (b := 256), room, BitVec.ofNat_mul]
  · rw [subi_ap, addi_ap, bc0, constantI_at, bc0, constantI_at, used_ap h, BitVec.ofNat_add_ofNat]
    exact ofNat32_sub (by omega)
  · rfl
  · omega
  · omega
  · omega

/-- The ends, as natural numbers. -/
theorem end_ap (e : Fin 32) : wEnd x (ix1 e) = BitVec.ofNat 32 (start (chunkOf x) (e.val + 1)) := by
  unfold wEnd
  exact cumsum1 (by rfl) (wRoom x) (room (chunkOf x)) (room_ap h) _ (by rw [bc0, constantI_at]) _ _ e

theorem start_le {k : ℕ} (hk : k ≤ 32) : start (chunkOf x) k ≤ 108256 := le_trans (start_mono hk) h.total.2

/-- The first rows, as natural numbers. -/
theorem start_ap (e : Fin 32) : wStart x (ix1 e) = BitVec.ofNat 32 (start (chunkOf x) e.val) := by
  unfold wStart
  rw [subi_ap, end_ap h, room_ap h, start_succ, ofNat32_sub (by omega), Nat.add_sub_cancel]

omit h in
/-- The blocks' first rows, as natural numbers. -/
theorem row_ap (t : Fin 423) : wRow (ix1 t) = BitVec.ofNat 32 (t.val * 256) := by
  unfold wRow rep423
  rw [muli_ap, bc0, constantI_at, iota1_ap, BitVec.ofNat_mul]

/-- The blocks' experts, as natural numbers. -/
theorem owner_ap (t : Fin 423) : wOwner x (ix1 t) = BitVec.ofNat 32 (owner (chunkOf x) t.val) := by
  have ht := t.isLt
  unfold wOwner rep423
  rw [minsi_apply, bc0, constantI_at, reduce_count (by norm_num) _ _ _ _ t (fun e => start (chunkOf x) (e + 1) ≤ t.val * 256)]
  · have hc : Nat.count (fun e => start (chunkOf x) (e + 1) ≤ t.val * 256) 32 ≤ 32 := Nat.count_le _
    rw [PlanTiles.minsi_word (by omega) (by norm_num), owner, Nat.min_comm]
  · intro e
    have he := start_le h (show e.val + 1 ≤ 32 by omega)
    rw [cmpi_at, bcCols bcast_S32_S1x32_1 bcast_S1x32_S423x32_0_1, bcRows bcast_S423_S423x1_0 bcast_S423x1_S423x32_0_1, end_ap h, row_ap,
      cmpi_sle_ofNat (w := 32) (by omega) (by omega)]
    by_cases hle : start (chunkOf x) (e.val + 1) ≤ t.val * 256 <;> simp [hle]

omit h in
theorem owner_lt (c : ℕ → ℕ) (t : ℕ) : owner c t < 32 := by unfold owner; omega

/-- The blocks' experts as indices, as natural numbers. -/
theorem pick_ap (t : Fin 423) : wPick x (ix2 t (0 : Fin 1)) = BitVec.ofNat 32 (owner (chunkOf x) t.val) := by
  have ho := owner_lt (chunkOf x) t.val
  unfold wPick rep423
  rw [bcCol bcast_S423_S423x1_0, select_at, cmpi_at, bc0, constantI_at, owner_ap h, show (0#32 : BitVec 32) = BitVec.ofNat 32 0 from rfl,
    cmpi_slt_ofNat (w := 32) (by omega) (by omega)]
  simp [Scalar.select]

omit h in
theorem clip_word {a b : ℕ} (ha : a < 2 ^ 30) (hb : b < 2 ^ 30) :
    IntOp.minsi 256#32 (IntOp.maxsi 0#32 (BitVec.ofNat 32 a - BitVec.ofNat 32 b)) = BitVec.ofNat 32 (min 256 (a - b)) := by
  have hm : IntOp.maxsi 0#32 (BitVec.ofNat 32 a - BitVec.ofNat 32 b) = BitVec.ofNat 32 (a - b) := by
    rcases Nat.lt_or_ge a b with hab | hab
    · have e : BitVec.ofNat 32 a - BitVec.ofNat 32 b = -BitVec.ofNat 32 (b - a) := by
        rw [← ofNat32_sub (Nat.le_of_lt hab), BitVec.sub_eq_add_neg, BitVec.sub_eq_add_neg, BitVec.neg_add, BitVec.sub_eq_add_neg, BitVec.neg_neg, BitVec.add_comm]
      rw [e, show a - b = 0 by omega]
      unfold IntOp.maxsi BitVec.slt
      rw [PlanTiles.toInt_neg_ofNat32 (by omega)]
      have : ¬ (0 < -((b - a : ℕ) : ℤ)) := by omega
      have h2 : -((b - a : ℕ) : ℤ) < 0 := by omega
      simp [this, h2]
      try omega
    · rw [ofNat32_sub hab]
      unfold IntOp.maxsi
      rw [show (0#32 : BitVec 32) = BitVec.ofNat 32 0 from rfl, slt_ofNat32 (by omega) (by omega)]
      by_cases h0 : 0 < a - b
      · simp [h0]
      · simp [h0]
  rw [hm, show (256#32 : BitVec 32) = BitVec.ofNat 32 256 from rfl, PlanTiles.minsi_word (by norm_num) (by omega), Nat.min_comm]

/-- The blocks' filled rows, as natural numbers. -/
theorem filled_ap (t : Fin 423) : wFilled x (ix1 t) = BitVec.ofNat 32 (filled (chunkOf x) t.val) := by
  have ho := owner_lt (chunkOf x) t.val
  have ht := t.isLt
  have hc := h.count_le ho
  have hs := start_le h (show owner (chunkOf x) t.val ≤ 32 by omega)
  unfold wFilled rep423
  rw [minsi_apply, maxsi_apply, subi_ap, addi_ap, bc0, constantI_at, bc0, constantI_at,
    gather_take1 _ rfl rfl rfl rfl _ _ t ⟨owner (chunkOf x) t.val, ho⟩ (pick_ap h t) (by norm_num),
    gather_take1 _ rfl rfl rfl rfl _ _ t ⟨owner (chunkOf x) t.val, ho⟩ (pick_ap h t) (by norm_num), start_ap h, used_ap h, row_ap, BitVec.ofNat_add_ofNat,
    clip_word (by dsimp only; omega) (by omega), filled]

/-- The number of blocks in use, as natural numbers. -/
theorem blocks_ap : wBlocks x (ix1 (0 : Fin 1)) = BitVec.ofNat 32 (blocks (chunkOf x)) := by
  unfold wBlocks
  rw [pyDiv_ap bcast_S_S1 _ _ _ (a := start (chunkOf x) 32) (b := 256) _ rfl (lt_of_le_of_lt h.total.2 (by norm_num)) (by norm_num) (by norm_num), blocks]
  rw [← end_ap h ⟨31, by norm_num⟩]
  unfold extractStridedSlice
  refine congrArg (wEnd x) (funext fun a => Fin.ext ?_)
  match a with
  | ⟨0, _⟩ => rfl

/-- The blocks' experts among all layers', as natural numbers. -/
theorem expert_ap (t : Fin 423) : wExpert x (ix1 t) = BitVec.ofNat 32 (owner (chunkOf x) t.val + 32) := by
  unfold wExpert rep423
  rw [addi_ap, bc0, constantI_at, owner_ap h, BitVec.ofNat_add_ofNat]

end Words

end Expert
-- ==== Proof.Expert.Host.lean ====
module

public import proofs.«01_k».proof.Proof.Expert.Setup
public import proofs.«01_k».proof.Proof.Expert.Tables
public import Idealize.ShloMosaic.Lib.StableHlo.RunRead

@[expose] public section

set_option maxRecDepth 16384

noncomputable section

/-! The tables and the weights that the region is entered with, as the host code makes them. -/

namespace Expert

open Cert.Kernel2Ideal Cert.Kernel2Ideal.Gen
open Idealize.ShloMosaic Idealize.ShloMosaic.TcCoe Idealize.ShloMosaic.Tactic Idealize.ShloMosaic.ValueIdx

variable {F : FTy → Type} [FloatOps F]
variable (m : (ℓ : Loc nD τ sig) → Buf (Elt F) ℓ)

/-- The counts of chunks. -/
abbrev chunks (c : Dev nD) : IVec S32 32 := m ((c : Thread nD τ).loc main_arg1)

theorem V_end (c : Dev nD) : V m c main_v9 = wEnd (chunks m c) := by
  unfold V; after_reads_simp
  simp only [StableHlo.TRef.ofBuf_toBuf, StableHlo.TRef.ofBuf, StableHlo.TRef.toBuf, cast_eq, id]
  rfl

theorem V_expert (c : Dev nD) : V m c main_v43 = wExpert (chunks m c) := by
  unfold V; after_reads_simp
  simp only [StableHlo.TRef.ofBuf_toBuf, StableHlo.TRef.ofBuf, StableHlo.TRef.toBuf, cast_eq, id]
  rfl

theorem V_filled (c : Dev nD) : V m c main_v39 = wFilled (chunks m c) := by
  unfold V; after_reads_simp
  simp only [StableHlo.TRef.ofBuf_toBuf, StableHlo.TRef.ofBuf, StableHlo.TRef.toBuf, cast_eq, id]
  rfl

theorem V_blocks (c : Dev nD) : V m c main_v41 = wBlocks (chunks m c) := by
  unfold V; after_reads_simp
  simp only [StableHlo.TRef.ofBuf_toBuf, StableHlo.TRef.ofBuf, StableHlo.TRef.toBuf, cast_eq, id]
  rfl

end Expert
-- ==== Proof.Expert.Payload.lean ====
module

public import proofs.«01_k».proof.Proof.Expert.Host
public import Idealize.ShloMosaic.Lib.MatmulPlain
public import Idealize.ShloMosaic.Lib.ValueLayout
public import Idealize.ShloMosaic.Lib.ValueIdxCoords
public import Idealize.ShloMosaic.Lib.ValueIdx

@[expose] public section

set_option maxRecDepth 16384

noncomputable section

/-! The product of one block of rows with one expert's weights, entry by entry. -/

namespace Expert

open Cert.Kernel2Ideal Cert.Kernel2Ideal.Gen
open Idealize.ShloMosaic Idealize.ShloMosaic.TcCoe Idealize.ShloMosaic.ValueIdx Idealize.ShloMosaic.WordCmp Idealize.ShloMosaic.Routing

/-- The gated unit: `a` through its own sigmoid, times `b`. -/
def unit (a b : EReal) : EReal := a * Ideal.logistic a * b

/-- The group of an expert. -/
def grp (e : Fin 32) : Fin 4 := ⟨e.val / 8, by omega⟩
/-- The number of an expert within its group. -/
def sub (e : Fin 32) : Fin 8 := ⟨e.val % 8, by omega⟩

/-- Row `r` through expert `e` of layer 1, at column `d`. -/
def through (h : FVec Ideal S108288x1024 .f32) (wg wu : FVec Ideal S4x4x8x1024x256 .f32) (wd : FVec Ideal S4x4x8x256x1024 .f32)
    (e : Fin 32) (r : Fin 108288) (d : Fin 1024) : EReal :=
  ∑ f : Fin 256, unit (∑ k : Fin 1024, h (ix2 r k) * wg (ix5 (1 : Fin 4) (grp e) (sub e) k f))
    (∑ k : Fin 1024, h (ix2 r k) * wu (ix5 (1 : Fin 4) (grp e) (sub e) k f)) * wd (ix5 (1 : Fin 4) (grp e) (sub e) f d)

/-- A row below the number of valid rows passes the mask. -/
theorem mask_apply (v : ℕ) (hv : v ≤ 256) (x z : FVec Ideal S256x1024 .f32) (r : Fin 256) (hr : r.val < v) (k : Fin 1024) :
    select (cmpi .slt (iota .tc S256x1024 32 [0] iota_S256x1024_d0_w32) (broadcast S256x1024 (BitVec.ofNat 32 v))) x z (ix2 r k) = x (ix2 r k) := by
  have hr' := r.isLt
  have e : cmpi .slt (iota .tc S256x1024 32 [0] iota_S256x1024_d0_w32) (broadcast S256x1024 (BitVec.ofNat 32 v)) (ix2 r k)
      = IntOp.cmpi .slt (BitVec.ofNat 32 r.val) (BitVec.ofNat 32 v) := by
    rw [cmpi_at, iota_single_apply]
    rfl
  rw [select_at, e, cmpi_slt_ofNat (w := 32) (by omega) (by omega), decide_eq_true hr]
  rfl

/-- A product with a weight matrix into the hidden units. -/
theorem in_apply (x : FVec Ideal S256x1024 .bf16) (w : Vec Ideal S1x1024x256 .f32) (r : Fin 256) (f : Fin 256) :
    matmul dot_S256x1024_S1024x256_S256x256_1_0_0_1_n_n none x (truncf .bf16 (shapeCast S1024x256 w shapeCasts_S1x1024x256_S1024x256) bitsLt_bf16_f32)
      (constant S256x256 .f32 0x00000000#32) (ix2 r f) = ∑ k : Fin 1024, x (ix2 r k) * w (ix3 (0 : Fin 1) k f) := by
  refine (Ideal.matmul_plain_apply none x _ _ r f).trans ?_
  rw [show (constant S256x256 .f32 0x00000000#32 : FVec Ideal S256x256 .f32) (ix2 r f) = 0 from Ideal.ofBits_zero_f32, zero_add]
  exact Finset.sum_congr rfl fun k _ => congrArg (fun y : EReal => x (ix2 r k) * y) (shapeCast_1ab_ab_apply w _ k f)

/-- A product with a weight matrix out of the hidden units. -/
theorem out_apply (x : FVec Ideal S256x256 .bf16) (w : Vec Ideal S1x256x1024 .f32) (r : Fin 256) (d : Fin 1024) :
    matmul dot_S256x256_S256x1024_S256x1024_1_0_0_1_n_n none x (truncf .bf16 (shapeCast S256x1024 w shapeCasts_S1x256x1024_S256x1024) bitsLt_bf16_f32)
      (constant S256x1024 .f32 0x00000000#32) (ix2 r d) = ∑ f : Fin 256, x (ix2 r f) * w (ix3 (0 : Fin 1) f d) := by
  refine (Ideal.matmul_plain_apply none x _ _ r d).trans ?_
  rw [show (constant S256x1024 .f32 0x00000000#32 : FVec Ideal S256x1024 .f32) (ix2 r d) = 0 from Ideal.ofBits_zero_f32, zero_add]
  exact Finset.sum_congr rfl fun f _ => congrArg (fun y : EReal => x (ix2 r f) * y) (shapeCast_1ab_ab_apply w _ f d)

/-- A valid row of the product that a grid point stores. -/
theorem pay_apply (v : ℕ) (hv : v ≤ 256) (x : Vec Ideal S256x1024 .f32) (wg wu : Vec Ideal S1x1024x256 .f32) (wd : Vec Ideal S1x256x1024 .f32)
    (r : Fin 256) (hr : r.val < v) (d : Fin 1024) :
    k0_pay1 (BitVec.ofNat 32 v) x wg wu wd (ix2 r d) =
      ∑ f : Fin 256, unit (∑ k : Fin 1024, x (ix2 r k) * wg (ix3 (0 : Fin 1) k f)) (∑ k : Fin 1024, x (ix2 r k) * wu (ix3 (0 : Fin 1) k f))
        * wd (ix3 (0 : Fin 1) f d) := by
  have hx : ∀ k : Fin 1024, (truncf .bf16 (select (cmpi .slt (iota .tc S256x1024 32 [0] iota_S256x1024_d0_w32) (broadcast S256x1024 (BitVec.ofNat 32 v))) x
      (broadcast S256x1024 (Scalar.ofBits .f32 0x00000000#32 : Ideal .f32))) bitsLt_bf16_f32 : FVec Ideal S256x1024 .bf16) (ix2 r k) = x (ix2 r k) :=
    fun k => mask_apply v hv x _ r hr k
  unfold k0_pay1
  refine (out_apply _ wd r d).trans (Finset.sum_congr rfl fun f _ => congrArg (fun y : EReal => y * wd (ix3 (0 : Fin 1) f d)) ?_)
  refine (congrArg₂ unit (in_apply _ wg r f) (in_apply _ wu r f) :)|>.trans ?_
  simp only [hx]

variable (m : (ℓ : Loc nD τ sig) → Buf (Elt Ideal) ℓ) (c : Dev nD)

/-- The sorted rows. -/
abbrev rowsIn : FVec Ideal S108288x1024 .f32 := m ((c : Thread nD τ).loc main_arg0)
/-- The gate weights. -/
abbrev gateIn : FVec Ideal S4x4x8x1024x256 .f32 := m ((c : Thread nD τ).loc main_arg2)
/-- The weights beside the gate. -/
abbrev upIn : FVec Ideal S4x4x8x1024x256 .f32 := m ((c : Thread nD τ).loc main_arg3)
/-- The weights out of the hidden units. -/
abbrev downIn : FVec Ideal S4x4x8x256x1024 .f32 := m ((c : Thread nD τ).loc main_arg4)

theorem V_gate : V m c main_v44 = shapeCast S128x1024x256 (gateIn m c) shapeCasts_S4x4x8x1024x256_S128x1024x256 := by
  unfold V; after_reads_simp
  try rfl

theorem V_up : V m c main_v45 = shapeCast S128x1024x256 (upIn m c) shapeCasts_S4x4x8x1024x256_S128x1024x256 := by
  unfold V; after_reads_simp
  try rfl

theorem V_down : V m c main_v46 = shapeCast S128x256x1024 (downIn m c) shapeCasts_S4x4x8x256x1024_S128x256x1024 := by
  unfold V; after_reads_simp
  try rfl

/-- The flattened weights into the hidden units at an expert of layer 1. -/
theorem flat_in (w : FVec Ideal S4x4x8x1024x256 .f32) (e : Fin 32) (a : Fin 128) (ha : a.val = e.val + 32) (k : Fin 1024) (f : Fin 256) :
    shapeCast S128x1024x256 w shapeCasts_S4x4x8x1024x256_S128x1024x256 (ix3 a k f) = w (ix5 (1 : Fin 4) (grp e) (sub e) k f) := by
  refine shapeCast_apply w _ _ (ix5 (1 : Fin 4) (grp e) (sub e) k f) ?_
  rewrite [Shape.rowMajor_val_five, Shape.rowMajor_val_three]
  have he := e.isLt
  show (((1 * 4 + e.val / 8) * 8 + e.val % 8) * 1024 + k.val) * 256 + f.val = (a.val * 1024 + k.val) * 256 + f.val
  omega

/-- The flattened weights out of the hidden units at an expert of layer 1. -/
theorem flat_out (w : FVec Ideal S4x4x8x256x1024 .f32) (e : Fin 32) (a : Fin 128) (ha : a.val = e.val + 32) (f : Fin 256) (d : Fin 1024) :
    shapeCast S128x256x1024 w shapeCasts_S4x4x8x256x1024_S128x256x1024 (ix3 a f d) = w (ix5 (1 : Fin 4) (grp e) (sub e) f d) := by
  refine shapeCast_apply w _ _ (ix5 (1 : Fin 4) (grp e) (sub e) f d) ?_
  rewrite [Shape.rowMajor_val_five, Shape.rowMajor_val_three]
  have he := e.isLt
  show (((1 * 4 + e.val / 8) * 8 + e.val % 8) * 256 + f.val) * 1024 + d.val = (a.val * 256 + f.val) * 1024 + d.val
  omega

end Expert

end
-- ==== Proof.Expert.Run.lean ====
module

public import proofs.«01_k».proof.Proof.Expert.Setup
public import Idealize.ShloMosaic.Lib.VecWindow

@[expose] public section

noncomputable section

namespace Expert

open Cert.Kernel2Ideal Cert.Kernel2Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation cellOf)

variable {F : FTy → Type} [FloatOps F]

local notation "𝕄" => MT nD τ sig Unit (Elt F) ℕ (UR sig nD τ) ℕ

/-- The number of valid rows that the tables give point `i`. -/
def word (pf : pre0.Contents (Elt F)) (i : grid0.Coords) : BitVec 32 :=
  pf.at 1 (Rect.unit (s := S423) (k0_off1 i) S1.size (k0_off1_inb i)) numel1_S1

/-- The word under which the pipeline counts a point as idle is the one that the body reads. -/
theorem atD_eq_word (pf : pre0.Contents (Elt F)) (i : grid0.Coords) : pf.atD 1 (k0_off1 i) = word pf i := by
  refine (dif_pos fun a => ?_).trans ?_
  · have := k0_off1_inb i a
    obtain rfl : a = (0 : Fin 1) := Subsingleton.elim (α := Fin 1) a 0
    exact this
  · refine congrArg (pf 1) (funext fun a => Fin.ext ?_)
    obtain rfl : a = (0 : Fin 1) := Subsingleton.elim (α := Fin 1) a 0
    rfl

/-- Where the body finds no valid row it leaves every buffer as it found it. -/
theorem run_idle (c : Dev nD) (i : grid0.Coords) (arg4 : Memref sig .tc .vmem S256x1024 .f32) (harg4 : arg4.IsWhole) (arg5 : Memref sig .tc .vmem S1x1024x256 .f32) (harg5 : arg5.IsWhole) (arg6 : Memref sig .tc .vmem S1x1024x256 .f32) (harg6 : arg6.IsWhole) (arg7 : Memref sig .tc .vmem S1x256x1024 .f32) (harg7 : arg7.IsWhole) (arg8 : Memref sig .tc .vmem S256x1024 .f32) (harg8 : arg8.IsWhole)
    (pf : pre0.Contents (Elt F)) (h : ¬ k0_cond1 (word pf i) = 1#1) (E : Set ℕ) (K : PUnit → sProp 𝕄) :
    iprop(tbPt c tb1 (pf 1) ∗ (tbPt c tb1 (pf 1) -∗ K ⟨⟩))
      ⊢ wp frame (wpE (defs₀ (F := F)) Variants.none c none) E (cc0_expert_mlp i tb0 (Memref.isWhole_whole _) tb1 (Memref.isWhole_whole _) tb2 (Memref.isWhole_whole _) arg4 harg4 arg5 harg5 arg6 harg6 arg7 harg7 arg8 harg8) K := by
  simp only [cc0_expert_mlp_eq_skeleton]; unfold cc0_expert_mlp_skel
  iintro ⟨HT1, Hk⟩
  sl_exec
  rw [dif_neg (show ¬ k0_cond1 (run_idle.sl.r i pf) = 1#1 from h)]
  sl_step
  iapply Hk
  iexact HT1

/-- Where the body finds valid rows it stores the block's product, and leaves the inputs as it found them. -/
theorem run_live (c : Dev nD) (i : grid0.Coords) (arg4 : Memref sig .tc .vmem S256x1024 .f32) (harg4 : arg4.IsWhole) (arg5 : Memref sig .tc .vmem S1x1024x256 .f32) (harg5 : arg5.IsWhole) (arg6 : Memref sig .tc .vmem S1x1024x256 .f32) (harg6 : arg6.IsWhole) (arg7 : Memref sig .tc .vmem S1x256x1024 .f32) (harg7 : arg7.IsWhole) (arg8 : Memref sig .tc .vmem S256x1024 .f32) (harg8 : arg8.IsWhole)
    (x0 : Vec F S256x1024 .f32) (x1 : Vec F S1x1024x256 .f32) (x2 : Vec F S1x1024x256 .f32) (x3 : Vec F S1x256x1024 .f32)
    (pf : pre0.Contents (Elt F)) (h : k0_cond1 (word pf i) = 1#1) (E : Set ℕ) (K : PUnit → sProp 𝕄) :
    iprop(owns (c : Thread nD τ) arg4 fullShare x0 ∗ owns (c : Thread nD τ) arg5 fullShare x1 ∗ owns (c : Thread nD τ) arg6 fullShare x2 ∗ owns (c : Thread nD τ) arg7 fullShare x3
        ∗ (∃ d, owns (c : Thread nD τ) arg8 fullShare d) ∗ tbPt c tb1 (pf 1)
        ∗ (iprop(owns (c : Thread nD τ) arg4 fullShare x0 ∗ owns (c : Thread nD τ) arg5 fullShare x1 ∗ owns (c : Thread nD τ) arg6 fullShare x2 ∗ owns (c : Thread nD τ) arg7 fullShare x3
            ∗ owns (c : Thread nD τ) arg8 fullShare (k0_pay1 (word pf i) x0 x1 x2 x3) ∗ tbPt c tb1 (pf 1)) -∗ K ⟨⟩))
      ⊢ wp frame (wpE (defs₀ (F := F)) Variants.none c none) E (cc0_expert_mlp i tb0 (Memref.isWhole_whole _) tb1 (Memref.isWhole_whole _) tb2 (Memref.isWhole_whole _) arg4 harg4 arg5 harg5 arg6 harg6 arg7 harg7 arg8 harg8) K := by
  simp only [cc0_expert_mlp_eq_skeleton]; unfold cc0_expert_mlp_skel
  unfold owns
  iintro ⟨⟨%f0, %hf0, H0⟩, ⟨%f1, %hf1, H1⟩, ⟨%f2, %hf2, H2⟩, ⟨%f3, %hf3, H3⟩, ⟨%d4, %f4, -, H4⟩, HT1, Hk⟩
  obtain rfl := harg4.eq_unread hf0; obtain rfl := harg5.eq_unread hf1; obtain rfl := harg6.eq_unread hf2; obtain rfl := harg7.eq_unread hf3
  sl_exec
  rw [dif_pos (show k0_cond1 (run_live.sl.r i pf) = 1#1 from h)]
  sl_step
  iapply Hk
  isplitl [H0]
  · iexists _; isplitr; · ipureintro; exact harg4.read_unread _
    iexact H0
  isplitl [H1]
  · iexists _; isplitr; · ipureintro; exact harg5.read_unread _
    iexact H1
  isplitl [H2]
  · iexists _; isplitr; · ipureintro; exact harg6.read_unread _
    iexact H2
  isplitl [H3]
  · iexists _; isplitr; · ipureintro; exact harg7.read_unread _
    iexact H3
  isplitl [H4]
  · iexists _; isplitr
    swap; · iexact H4
    ipureintro
    refine (View.read_writes_full (s := S256x1024) _ _ _ _ _).trans ?_
    refine congr (congr (congr (congrArg (k0_pay1 (word pf i)) ?_) ?_) ?_) ?_
    · exact (View.readAt_full (s := S256x1024) _ _ _).trans (harg4.read_unread x0)
    · exact (View.readAt_full (s := S1x1024x256) _ _ _).trans (harg5.read_unread x1)
    · exact (View.readAt_full (s := S1x1024x256) _ _ _).trans (harg6.read_unread x2)
    · exact (View.readAt_full (s := S1x256x1024) _ _ _).trans (harg7.read_unread x3)
  iexact HT1

end Expert

end
-- ==== Proof.Expert.Schedule.lean ====
module

public import proofs.«01_k».proof.Proof.Expert.Run

@[expose] public section

noncomputable section

namespace Expert

open Cert.Kernel2Ideal Cert.Kernel2Ideal.Gen
open Idealize.ShloMosaic Idealize.ShloMosaic.TcCoe Idealize.ShloMosaic.WordCmp
open Idealize.ShloMosaic.Pipeline (Dat Cfg Window BodyObligation cellOf)

variable {F : FTy → Type} [FloatOps F]

/-- The number of blocks in use, as the tables give it. -/
def inUse (pf : pre0.Contents (Elt F)) : BitVec 32 :=
  pf.at 2 (Rect.unit (s := S1) ![0] S1.size inb_S1_S1_0) numel1_S1

/-- The weight block that the tables give point `i`. -/
def expertOf (pf : pre0.Contents (Elt F)) (i : grid0.Coords) : BitVec 32 :=
  pf.at 0 (Rect.unit (s := S423) (k0_off1 i) S1.size (k0_off1_inb i)) numel1_S1

/-- What the schedule of the blocks rests on: `n` blocks are in use, the first `n` points are those with a valid row,
    and every weight block exists. -/
structure Sched (pf : pre0.Contents (Elt F)) (n : ℕ) : Prop where
  one_le : 1 ≤ n
  le : n ≤ 423
  used : inUse pf = BitVec.ofNat 32 n
  live : ∀ i : grid0.Coords, k0_cond1 (word pf i) = 1#1 ↔ (i 0).val < n
  expert : ∀ i : grid0.Coords, (expertOf pf i).toNat < 128

/-- The smaller of a point and the last block in use, as a word. -/
theorem min_word {x n : ℕ} (hx : x < 423) (h1 : 1 ≤ n) (hn : n ≤ 423) :
    (Scalar.minsi (BitVec.ofNat 32 x) (Scalar.subi (BitVec.ofNat 32 n) 1#32)).toNat = min x (n - 1) := by
  have e : Scalar.subi (BitVec.ofNat 32 n) 1#32 = BitVec.ofNat 32 (n - 1) := by
    show BitVec.ofNat 32 n - 1#32 = _
    apply BitVec.eq_of_toNat_eq
    simp only [BitVec.toNat_sub, BitVec.toNat_ofNat]
    omega
  rw [e]
  show (IntOp.minsi (BitVec.ofNat 32 x) (BitVec.ofNat 32 (n - 1))).toNat = _
  unfold IntOp.minsi
  rw [BitVec.slt_eq_decide, toInt_ofNat_of_lt (by omega), toInt_ofNat_of_lt (by omega)]
  split <;> rename_i h <;> simp only [decide_eq_true_eq] at h <;> rw [toNat_ofNat_of_lt (by omega)] <;> omega

variable {pf : pre0.Contents (Elt F)} {n : ℕ}

/-- The rows of point `i` are those of the block `i`, or of the last block in use. -/
theorem Sched.rows (S : Sched pf n) (i : grid0.Coords) : cc0_transform_4 inb_S1_S1_0 numel1_S1 pf i = ![min (i 0).val (n - 1), 0] := by
  have h : cc0_transform_4 inb_S1_S1_0 numel1_S1 pf i = ![(Scalar.minsi (BitVec.ofNat 32 (i 0).val) (Scalar.subi (inUse pf) 1#32)).toNat, 0] := rfl
  rw [h, S.used, min_word (i 0).isLt S.one_le S.le]

/-- The rows read at point `i` are the rows written there. -/
theorem rows_in (i : grid0.Coords) : cc0_transform_0 inb_S1_S1_0 numel1_S1 pf i = cc0_transform_4 inb_S1_S1_0 numel1_S1 pf i := rfl

/-- Every block that such tables name lies inside its array. -/
theorem Sched.ok (S : Sched pf n) : ok0 pf := by
  have hrow : ∀ i : grid0.Coords, ∀ a, (cc0_transform_4 inb_S1_S1_0 numel1_S1 pf i a + 1) * S256x1024.size a ≤ S108288x1024.size a := fun i a => by
    rw [S.rows]
    have h := (i 0).isLt
    have : (i 0).val < 423 := h
    have := S.le
    match a with
    | ⟨0, _⟩ => show (min (i 0).val (n - 1) + 1) * 256 ≤ 108288; omega
    | ⟨1, _⟩ => show (0 + 1) * 1024 ≤ 1024; omega
  have hup : ∀ i : grid0.Coords, ∀ a, (![(expertOf pf i).toNat, 0, 0] a + 1) * S1x1024x256.size a ≤ S128x1024x256.size a := fun i a => by
    have := S.expert i
    match a with
    | ⟨0, _⟩ => show ((expertOf pf i).toNat + 1) * 1 ≤ 128; omega
    | ⟨1, _⟩ => show (0 + 1) * 1024 ≤ 1024; omega
    | ⟨2, _⟩ => show (0 + 1) * 256 ≤ 256; omega
  have hdn : ∀ i : grid0.Coords, ∀ a, (![(expertOf pf i).toNat, 0, 0] a + 1) * S1x256x1024.size a ≤ S128x256x1024.size a := fun i a => by
    have := S.expert i
    match a with
    | ⟨0, _⟩ => show ((expertOf pf i).toNat + 1) * 1 ≤ 128; omega
    | ⟨1, _⟩ => show (0 + 1) * 256 ≤ 256; omega
    | ⟨2, _⟩ => show (0 + 1) * 1024 ≤ 1024; omega
  exact ⟨fun i => ⟨hrow i, .inl rfl⟩, fun i => ⟨hup i, .inl rfl⟩, fun i => ⟨hup i, .inl rfl⟩, fun i => ⟨hdn i, .inl rfl⟩, fun i => ⟨hrow i, .inl rfl⟩⟩

end Expert

end
-- ==== Proof.Expert.Routed.lean ====
module

public import proofs.«01_k».proof.Defs
public import proofs.«01_k».proof.Proof.Expert.Host
public import proofs.«01_k».proof.Proof.Expert.Schedule
public import proofs.«01_k».proof.Proof.Gen.Pre_routed

@[expose] public section

noncomputable section

/-! What the precondition says of the counts, and the schedule that follows from it. -/

namespace Expert

open Cert.Kernel2Ideal Cert.Kernel2Ideal.Gen
open Idealize.ShloMosaic Idealize.ShloMosaic.TcCoe Idealize.ShloMosaic.ValueIdx Idealize.ShloMosaic.WordCmp Idealize.ShloMosaic.Routing

variable {F : FTy → Type} [FloatOps F]

theorem toInt_of_sge {a b : BitVec 32} (h : IntOp.cmpi .sge a b = 1#1) : b.toInt ≤ a.toInt := by
  unfold IntOp.cmpi BitVec.sle at h
  by_contra hn
  simp [hn] at h

theorem toInt_of_sle {a b : BitVec 32} (h : IntOp.cmpi .sle a b = 1#1) : a.toInt ≤ b.toInt := by
  unfold IntOp.cmpi BitVec.sle at h
  by_contra hn
  simp [hn] at h

/-- Counts that the precondition admits are such as the routing can give. -/
theorem counted_of_routed (a0 : FVec F S108288x1024 .f32) (x : IVec S32 32) (a2 a3 : FVec F S4x4x8x1024x256 .f32) (a4 : FVec F S4x4x8x256x1024 .f32)
    (h : (Cert.Pre_routed.fn (F := F) a0 x a2 a3 a4).1 = (fun _ => 1#1) ∧ (Cert.Pre_routed.fn (F := F) a0 x a2 a3 a4).2.1 = (fun _ => 1#1)
      ∧ (Cert.Pre_routed.fn (F := F) a0 x a2 a3 a4).2.2.1 = (fun _ => 1#1) ∧ (Cert.Pre_routed.fn (F := F) a0 x a2 a3 a4).2.2.2 = (fun _ => 1#1)) :
    Counted (chunkOf x) := by
  obtain ⟨h1, h2, h3, h4⟩ := h
  have hx : ∀ e : Fin 32, (x (ix1 e)).toNat ≤ 12512 := fun e => by
    have g1 : (0#32 : BitVec 32).toInt ≤ (x (ix1 e)).toInt := toInt_of_sge (congrFun h1 (ix1 e))
    have g2 : (x (ix1 e)).toInt ≤ (12512#32 : BitVec 32).toInt := toInt_of_sle (congrFun h2 (ix1 e))
    have e0 : (0#32 : BitVec 32).toInt = 0 := by decide
    have e1 : (12512#32 : BitVec 32).toInt = 12512 := by decide
    rw [e0] at g1; rw [e1] at g2
    rw [BitVec.toInt_eq_toNat_cond] at g1 g2
    have := (x (ix1 e)).isLt
    split at g1 <;> omega
  have hs : ((List.range 32).map (chunkOf x)).sum ≤ 32 * 12512 := by
    refine le_trans (List.sum_le_card_nsmul _ 12512 fun a ha => ?_) (by simp)
    obtain ⟨e, he, rfl⟩ := List.mem_map.mp ha
    have he := List.mem_range.mp he
    unfold chunkOf; rw [dif_pos he]; exact hx ⟨e, he⟩
  have hr := reduce_sum x (chunkOf x) (chunk_word x) Cert.Pre_routed.Facts.reducesTo_S32_S_d0 Cert.Pre_routed.Facts.h_S_
  have g3 : (1#32 : BitVec 32).toInt ≤ (Host.reduce IntOp.addi x (constantI shape0 32 0#32) Cert.Pre_routed.Facts.reducesTo_S32_S_d0 Cert.Pre_routed.Facts.h_S_ ix0).toInt := toInt_of_sge (congrFun h3 ix0)
  have g4 : (Host.reduce IntOp.addi x (constantI shape0 32 0#32) Cert.Pre_routed.Facts.reducesTo_S32_S_d0 Cert.Pre_routed.Facts.h_S_ ix0).toInt ≤ (12512#32 : BitVec 32).toInt := toInt_of_sle (congrFun h4 ix0)
  have e1 : (1#32 : BitVec 32).toInt = 1 := by decide
  have e2 : (12512#32 : BitVec 32).toInt = 12512 := by decide
  have hi : (BitVec.ofNat 32 ((List.range 32).map (chunkOf x)).sum).toInt = (((List.range 32).map (chunkOf x)).sum : ℤ) := toInt_ofNat_of_lt (w := 32) (by omega)
  rw [hr, e1, hi] at g3
  rw [hr, e2, hi] at g4
  exact ⟨by omega, by omega⟩

variable (m : (ℓ : Loc nD τ sig) → Buf (Elt F) ℓ)

/-- The counts of the one device, as natural numbers. -/
abbrev cnt : ℕ → ℕ := chunkOf (chunks m 0)

variable {m} (h : Counted (cnt m))

/-- The entry of a table of the blocks that point `i` reads. -/
theorem point_423 (i : grid0.Coords) : (Rect.unit (s := S423) (k0_off1 i) S1.size (k0_off1_inb i)).point numel1_S1 = ix1 ⟨(i 0).val, (i 0).isLt⟩ := by
  have hi : (i 0).val < 423 := (i 0).isLt
  funext a; apply Fin.ext
  obtain rfl : a = (0 : Fin 1) := Subsingleton.elim (α := Fin 1) a 0
  refine (show _ = k0_off1 i 0 from rfl).trans ?_
  show (BitVec.ofNat 32 (i 0).val).toNat = (i 0).val
  exact toNat_ofNat_of_lt (by omega)

include h in
theorem expertOf_eq (i : grid0.Coords) : expertOf (tbl m) i = BitVec.ofNat 32 (owner (cnt m) (i 0).val + 32) :=
  (congrFun (V_expert m 0) _).trans ((congrArg (wExpert (chunks m 0)) (point_423 i)).trans (expert_ap h ⟨(i 0).val, (i 0).isLt⟩))

include h in
theorem word_eq (i : grid0.Coords) : word (tbl m) i = BitVec.ofNat 32 (filled (cnt m) (i 0).val) :=
  (congrFun (V_filled m 0) _).trans ((congrArg (wFilled (chunks m 0)) (point_423 i)).trans (filled_ap h ⟨(i 0).val, (i 0).isLt⟩))

include h in
theorem inUse_eq : inUse (tbl m) = BitVec.ofNat 32 (blocks (cnt m)) :=
  (congrFun (V_blocks m 0) _).trans ((congrArg (wBlocks (chunks m 0)) (funext fun a => Fin.ext (by obtain rfl : a = (0 : Fin 1) := Subsingleton.elim (α := Fin 1) a 0; rfl))).trans (blocks_ap h))

/-- The condition of the body on a count of rows. -/
theorem live_word {v : ℕ} (hv : v < 2 ^ 31) : k0_cond1 (BitVec.ofNat 32 v) = 1#1 ↔ 0 < v := by
  unfold k0_cond1
  have e : Scalar.cmpi .sgt (BitVec.ofNat 32 v) 0#32 = BitVec.ofBool (decide (0 < v)) := cmpi_sgt_ofNat (w := 32) (b := 0) (by omega) (by omega)
  dsimp only
  rw [e]
  by_cases hv0 : 0 < v
  · simp only [hv0, decide_true, iff_true]; decide
  · simp only [hv0, decide_false, iff_false]; decide

theorem filled_le (c : ℕ → ℕ) (t : ℕ) : filled c t ≤ 256 := by unfold filled; omega

include h in
/-- The tables schedule the blocks as the body needs it. -/
theorem sched : Sched (tbl m) (blocks (cnt m)) where
  one_le := h.blocks_pos
  le := le_trans h.blocks_le (by norm_num)
  used := inUse_eq h
  live := fun i => by
    have hf := filled_le (cnt m) (i 0).val
    rw [word_eq h, ← filled_pos_iff]
    exact live_word (by omega)
  expert := fun i => by
    have := owner_lt (cnt m) (i 0).val
    rw [expertOf_eq h, toNat_ofNat_of_lt (by omega)]
    omega

end Expert
-- ==== Proof.Expert.Frame.lean ====
module

public import proofs.«01_k».proof.Proof.Expert.Schedule
public import Idealize.ShloMosaic.Lib.Claim

@[expose] public section

noncomputable section

namespace Expert

open Cert.Kernel2Ideal Cert.Kernel2Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The point's one coordinate is its number. -/
theorem coord_val (t : Fin grid0.N) : (grid0.coords t 0).val = t.val := by
  rw [Pipeline.Grid.coords_val t (0 : Fin 1) (S := 1) (B := 423) (by decide) rfl, Nat.div_one, Nat.mod_eq_of_lt (Nat.lt_of_lt_of_eq t.isLt (by decide : grid0.N = 423))]

variable {n : ℕ} (S : Sched (tbl m) n)

/-- The point whose product the output's buffer holds after point `t`: the point itself, or the last one in use. -/
def lastUsed (n : ℕ) (t : Fin grid0.N) : Fin grid0.N := ⟨min t.val (n - 1), Nat.lt_of_le_of_lt (Nat.min_le_left _ _) t.isLt⟩

/-- The product that the body stores at a point with valid rows. -/
def prod (hO : Ok m) (c : Dev nD) (t : Fin (cfgM m hO).N) : Vec F S256x1024 .f32 :=
  k0_pay1 (word (tbl m) (grid0.coords t)) (iblk m hO c 0 t) (iblk m hO c 1 t) (iblk m hO c 2 t) (iblk m hO c 3 t)

/-- The pipeline's proof data: the arrays as the region finds them; each input's buffer at its block after every point,
    the output's at the product of the last point in use; nothing owed, full shares. -/
def dats (n : ℕ) (hO : Ok m) (_ : Fin 1) (c : Dev nD) : Dat τ (Elt F) Unit ℕ (UR sig nD τ) ℕ (cfgM m hO) c where
  A w := V m c (Pipeline.arrRef spec0 w)
  after w t := match w with
    | ⟨0, _⟩ => iblk m hO c 0 t
    | ⟨1, _⟩ => iblk m hO c 1 t
    | ⟨2, _⟩ => iblk m hO c 2 t
    | ⟨3, _⟩ => iblk m hO c 3 t
    | ⟨4, _⟩ => prod m hO c (lastUsed n t)
  Φ _ := iprop(Pipeline.ΦA spec0 c ∗ Pipeline.ΦT pre0 (tbl m) c)
  q _ := fullShare
  owed _ := 0

/-- The proof data's arrays are those that the region finds. -/
theorem A_eq (n : ℕ) (hO : Ok m) (c : Dev nD) (w : Fin (cfgM m hO).W) : (dats m n hO 0 c).A w = V m c (Pipeline.arrRef spec0 w) := by
  dsimp only [dats]

theorem after_0 (n : ℕ) (hO : Ok m) (c : Dev nD) (t : Fin (cfgM m hO).N) : (dats m n hO 0 c).after 0 t = iblk m hO c 0 t := by dsimp only [dats]; try rfl
theorem after_1 (n : ℕ) (hO : Ok m) (c : Dev nD) (t : Fin (cfgM m hO).N) : (dats m n hO 0 c).after 1 t = iblk m hO c 1 t := by dsimp only [dats]; try rfl
theorem after_2 (n : ℕ) (hO : Ok m) (c : Dev nD) (t : Fin (cfgM m hO).N) : (dats m n hO 0 c).after 2 t = iblk m hO c 2 t := by dsimp only [dats]; try rfl
theorem after_3 (n : ℕ) (hO : Ok m) (c : Dev nD) (t : Fin (cfgM m hO).N) : (dats m n hO 0 c).after 3 t = iblk m hO c 3 t := by dsimp only [dats]; try rfl
theorem after_4 (n : ℕ) (hO : Ok m) (c : Dev nD) (t : Fin (cfgM m hO).N) : (dats m n hO 0 c).after 4 t = prod m hO c (lastUsed n t) := by dsimp only [dats]; try rfl

theorem before_0 (n : ℕ) (hO : Ok m) (c : Dev nD) (t : Fin (cfgM m hO).N) (d) : (dats m n hO 0 c).before 0 t d = iblk m hO c 0 t :=
  before_0_of m hO (dats m n hO 0 c) (A_eq m n hO c 0) (after_0 m n hO c) t d
theorem before_1 (n : ℕ) (hO : Ok m) (c : Dev nD) (t : Fin (cfgM m hO).N) (d) : (dats m n hO 0 c).before 1 t d = iblk m hO c 1 t :=
  before_1_of m hO (dats m n hO 0 c) (A_eq m n hO c 1) (after_1 m n hO c) t d
theorem before_2 (n : ℕ) (hO : Ok m) (c : Dev nD) (t : Fin (cfgM m hO).N) (d) : (dats m n hO 0 c).before 2 t d = iblk m hO c 2 t :=
  before_2_of m hO (dats m n hO 0 c) (A_eq m n hO c 2) (after_2 m n hO c) t d
theorem before_3 (n : ℕ) (hO : Ok m) (c : Dev nD) (t : Fin (cfgM m hO).N) (d) : (dats m n hO 0 c).before 3 t d = iblk m hO c 3 t :=
  before_3_of m hO (dats m n hO 0 c) (A_eq m n hO c 3) (after_3 m n hO c) t d

/-! ## Where the output is idle and where it is written back -/

/-- The output is idle where the word of the point's table says so. -/
theorem idle_of (pf : pre0.Contents (Elt F)) (i : grid0.Coords) : idle0 pf 4 i = !(k0_cond1 (pf.atD 1 (k0_off1 i)) == 1#1) := by
  dsimp only [idle0]

/-- The output is idle exactly where no row is valid. -/
theorem idle_4 (hO : Ok m) (t : Fin (cfgM m hO).N) : (cfgM m hO).idle 4 ((cfgM m hO).grid.coords t) = !(k0_cond1 (word (tbl m) (grid0.coords t)) == 1#1) := by
  have h : (cfgM m hO).idle = idle0 (tbl m) := by with_reducible_and_instances rfl
  exact (congrFun (congrFun h 4) (grid0.coords t)).trans ((idle_of _ _).trans (by rw [atD_eq_word]))

include S in
/-- The output is idle from the end of the blocks in use on. -/
theorem idle_4_iff (hO : Ok m) (t : Fin (cfgM m hO).N) : (cfgM m hO).idle 4 ((cfgM m hO).grid.coords t) = true ↔ n ≤ t.val := by
  rw [idle_4]
  have := (S.live (grid0.coords t)).trans (by rw [coord_val])
  rw [Bool.not_eq_true', beq_eq_false_iff_ne, ne_eq, this, not_lt]

include S in
/-- The output is written back where its block changes, and at the end. -/
theorem flush_4 (hO : Ok m) (t : Fin (cfgM m hO).N) : ((cfgM m hO).win 4).flush t = true ↔ t.val + 1 < n ∨ t.val = 422 := by
  have hN : grid0.N = 423 := by decide
  have ht : t.val < 423 := hN ▸ t.isLt
  have h1 := S.one_le
  have hix : ∀ u : Fin (cfgM m hO).N, ((cfgM m hO).win 4).index u = ![min u.val (n - 1), 0] := fun u => by
    have := S.rows (grid0.coords u)
    rw [coord_val] at this
    exact this
  have hO4 : ((cfgM m hO).win 4).isOut = true := rfl
  unfold Pipeline.Window.flush
  rw [hO4, Bool.true_and, Bool.or_eq_true, decide_eq_true_eq, decide_eq_true_eq]
  have hne : ∀ h : t.val + 1 < (cfgM m hO).grid.N, ((cfgM m hO).win 4).index ⟨t.val + 1, h⟩ ≠ ((cfgM m hO).win 4).index t ↔ t.val + 1 < n := fun h => by
    rw [hix, hix]
    constructor
    · intro hh; by_contra hc
      refine hh ?_
      have : min (t.val + 1) (n - 1) = min t.val (n - 1) := by omega
      show ![min (t.val + 1) (n - 1), 0] = _
      rw [this]
    · intro hh e
      have := congrFun e (0 : Fin 2)
      have : min (t.val + 1) (n - 1) = min t.val (n - 1) := this
      omega
  have hG : (cfgM m hO).grid.N = 423 := hN
  have := S.le
  constructor
  · rintro (h | ⟨h, hh⟩)
    · right; omega
    · exact .inl ((hne h).1 hh)
  · rintro (h | h)
    · exact .inr ⟨by omega, (hne (by omega)).2 h⟩
    · exact .inl (by omega)

include S in
/-- From the end of the blocks in use on, the output's buffer holds what the body stored at the last of them. -/
theorem fresh_4 (hO : Ok m) : ∀ k, n ≤ k → k < 423 → (cfgM m hO).fresh 4 k = false
  | 0, h, _ => absurd S.one_le (by omega)
  | k + 1, h, hk => by
    have hN : k < (cfgM m hO).N := by
      have : (cfgM m hO).N = 423 := (by decide : grid0.N = 423)
      omega
    rw [Pipeline.Cfg.fresh_succ _ _ _ hN]
    have hf : ((cfgM m hO).win 4).flush ⟨k, hN⟩ = false := by
      rw [← Bool.not_eq_true, flush_4 m S]; show ¬ (k + 1 < n ∨ k = 422); omega
    rw [hf, Bool.false_or, Bool.and_eq_false_iff]
    by_cases hkn : n ≤ k
    · exact .inr (fresh_4 hO k hkn (by omega))
    · left
      rw [← Bool.not_eq_true, idle_4_iff m S]
      exact hkn

include S in
/-- At an idle point the output's buffer already holds what is to be left there. -/
theorem before_4_idle (hO : Ok m) (c : Dev nD) (t : Fin (cfgM m hO).N) (ht : n ≤ t.val) (d) :
    (dats m n hO 0 c).before 4 t d = (dats m n hO 0 c).after 4 t := by
  have hN : (cfgM m hO).N = 423 := (by decide : grid0.N = 423)
  have h1 := S.one_le
  have key : ∀ u : Fin (cfgM m hO).N, ∀ h : u.val - 1 < (cfgM m hO).N, n ≤ u.val → (dats m n hO 0 c).after 4 u = (dats m n hO 0 c).after 4 ⟨u.val - 1, h⟩ := fun u h hu => by
    rw [after_4, after_4]
    refine congrArg (prod m hO c) (Fin.ext ?_)
    show min u.val (n - 1) = min (u.val - 1) (n - 1)
    omega
  rw [(dats m n hO 0 c).before_out_traj 4 rfl (fun _ _ => rfl) (fun u _ hi _ => key u _ ((idle_4_iff m S hO u).1 hi)) t.val t rfl d,
    fresh_4 m S hO t.val ht (hN ▸ t.isLt), if_neg Bool.false_ne_true]
  exact (key t _ ht).symm

/-! ## The body at a point -/

/-- What the body is called with at point `t`. -/
def bodyPre (n : ℕ) (hO : Ok m) (c : Dev nD) (t : Fin (cfgM m hO).N) : sProp 𝕄 :=
  iprop((dats m n hO 0 c).Φ t.castSucc ∗ (dats m n hO 0 c).owesAt () t.castSucc
    ∗ (∃ d, owns (c : Thread nD τ) (ms0 m hO t) fullShare ((dats m n hO 0 c).before 0 t d))
    ∗ (∃ d, owns (c : Thread nD τ) (ms1 m hO t) fullShare ((dats m n hO 0 c).before 1 t d))
    ∗ (∃ d, owns (c : Thread nD τ) (ms2 m hO t) fullShare ((dats m n hO 0 c).before 2 t d))
    ∗ (∃ d, owns (c : Thread nD τ) (ms3 m hO t) fullShare ((dats m n hO 0 c).before 3 t d))
    ∗ (∃ d, owns (c : Thread nD τ) (ms4 m hO t) fullShare ((dats m n hO 0 c).before 4 t d)))

/-- What the body returns at point `t`. -/
def bodyPost (n : ℕ) (hO : Ok m) (c : Dev nD) (t : Fin (cfgM m hO).N) : sProp 𝕄 :=
  iprop((dats m n hO 0 c).Φ t.succ ∗ (dats m n hO 0 c).owesAt () t.succ
    ∗ owns (c : Thread nD τ) (ms0 m hO t) fullShare ((dats m n hO 0 c).after 0 t)
    ∗ owns (c : Thread nD τ) (ms1 m hO t) fullShare ((dats m n hO 0 c).after 1 t)
    ∗ owns (c : Thread nD τ) (ms2 m hO t) fullShare ((dats m n hO 0 c).after 2 t)
    ∗ owns (c : Thread nD τ) (ms3 m hO t) fullShare ((dats m n hO 0 c).after 3 t)
    ∗ owns (c : Thread nD τ) (ms4 m hO t) fullShare ((dats m n hO 0 c).after 4 t))

include S in
/-- The body at any point leaves every buffer as the proof data say. -/
theorem sound_body (hO : Ok m) (c : Dev nD) (t : Fin (cfgM m hO).N) :
    bodyPre m n hO c t ⊢ wp frame (wpE (defs₀ (F := F)) Variants.none c none) Set.univ (bodyAt m hO t) (fun _ => bodyPost m n hO c t) := by
  unfold bodyPre bodyPost bodyAt
  simp only [before_0, before_1, before_2, before_3]
  rw [show (dats m n hO 0 c).Φ t.succ = (dats m n hO 0 c).Φ t.castSucc from rfl,
    show (dats m n hO 0 c).owesAt () t.succ = (dats m n hO 0 c).owesAt () t.castSucc from rfl,
    after_0, after_1, after_2, after_3]
  rw [show (dats m n hO 0 c).Φ t.castSucc = iprop(Pipeline.ΦA spec0 c ∗ Pipeline.ΦT pre0 (tbl m) c) from rfl, PhiT_eq]
  have hlive := (S.live (grid0.coords t)).trans (by rw [coord_val])
  by_cases hl : n ≤ t.val
  · simp only [before_4_idle m S hO c t hl]
    iintro ⟨⟨HΦ, ⟨HT0, HT1, HT2⟩⟩, Ho, ⟨%d0, H0⟩, ⟨%d1, H1⟩, ⟨%d2, H2⟩, ⟨%d3, H3⟩, ⟨%d4, H4⟩⟩
    iapply (run_idle c (grid0.coords t) _ _ _ _ _ _ _ _ _ _ (tbl m) (fun h => absurd (hlive.1 h) (by omega)) Set.univ _)
    isplitl [HT1]; · iexact HT1
    iintro HT1
    isplitl [HΦ HT0 HT1 HT2]
    · isplitl [HΦ]
      · iexact HΦ
      isplitl [HT0]; · iexact HT0
      isplitl [HT1]; · iexact HT1
      iexact HT2
    isplitl [Ho]; · iexact Ho
    isplitl [H0]; · iexact H0
    isplitl [H1]; · iexact H1
    isplitl [H2]; · iexact H2
    isplitl [H3]; · iexact H3
    iexact H4
  · have e : lastUsed n t = t := Fin.ext (by show min t.val (n - 1) = t.val; omega)
    rw [after_4, e]
    unfold prod
    iintro ⟨⟨HΦ, ⟨HT0, HT1, HT2⟩⟩, Ho, ⟨%d0, H0⟩, ⟨%d1, H1⟩, ⟨%d2, H2⟩, ⟨%d3, H3⟩, ⟨%d4, H4⟩⟩
    iapply (run_live c (grid0.coords t) _ _ _ _ _ _ _ _ _ _ (iblk m hO c 0 t) (iblk m hO c 1 t) (iblk m hO c 2 t) (iblk m hO c 3 t) (tbl m) (hlive.2 (by omega)) Set.univ _)
    isplitl [H0]; · iexact H0
    isplitl [H1]; · iexact H1
    isplitl [H2]; · iexact H2
    isplitl [H3]; · iexact H3
    isplitl [H4]; · iexists _; iexact H4
    isplitl [HT1]; · iexact HT1
    iintro ⟨H0, H1, H2, H3, H4, HT1⟩
    isplitl [HΦ HT0 HT1 HT2]
    · isplitl [HΦ]
      · iexact HΦ
      isplitl [HT0]; · iexact HT0
      isplitl [HT1]; · iexact HT1
      iexact HT2
    isplitl [Ho]; · iexact Ho
    isplitl [H0]; · iexact H0
    isplitl [H1]; · iexact H1
    isplitl [H2]; · iexact H2
    isplitl [H3]; · iexact H3
    iexact H4

/-- The body table's row at point `t` is the body there. -/
theorem defs₀_row (hO : Ok m) (t : Fin (cfgM m hO).N) :
    defs₀ (F := F) .tc (cfgM m hO).body ((cfgM m hO).bodyArgs t ((cfgM m hO).slots t)) = bodyAt m hO t := by
  unfold defs₀; rw [Defs.onTc_tc]

include S in
/-- What is left of the output is what the pipeline asks for, idle or not. -/
theorem leaves_4 (hO : Ok m) (c : Dev nD) (t : Fin (cfgM m hO).N) :
    owns (c : Thread nD τ) (ms4 m hO t) fullShare ((dats m n hO 0 c).after 4 t) ⊢ (dats m n hO 0 c).leavesExact 4 t := by
  by_cases hi : (cfgM m hO).idle 4 ((cfgM m hO).grid.coords t) = true
  · cases hf : ((cfgM m hO).win 4).flush t with
    | false =>
      rw [Dat.leavesExact_idle _ 4 t hi hf, ← before_4_idle m S hO c t ((idle_4_iff m S hO t).1 hi) ((dats m n hO 0 c).after 4 t)]
      iintro H; iexists _; iexact H
    | true => unfold Dat.leavesExact; rw [hi, hf]; exact .rfl
  · rw [Bool.not_eq_true] at hi
    unfold Dat.leavesExact; rw [hi]; exact .rfl

include S in
/-- The library's body obligation, at every point. -/
theorem body_obligation (hO : Ok m) (c : Dev nD) : BodyObligation (dats (F := F) m n hO 0 c) (defs₀ (F := F)) Variants.none () Set.univ := fun t => by
  rw [bigSep_W0, bigSep_W0, defs₀_row m hO]
  exact triple_restated (sound_body m S hO c t) rfl .rfl fun _ =>
    sep_mono .rfl (sep_mono .rfl (sep_mono .rfl (sep_mono .rfl (sep_mono .rfl (sep_mono .rfl (leaves_4 m S hO c t))))))

end Expert

end
-- ==== Proof.Expert.Launch.lean ====
module

public import proofs.«01_k».proof.Proof.Expert.Frame

@[expose] public section

noncomputable section

namespace Expert

open Cert.Kernel2Ideal Cert.Kernel2Ideal.Gen
open Idealize.ShloMosaic Idealize.ShloMosaic.TcCoe Idealize.ShloMosaic.Tactic
open Idealize.SL Idealize.SL.RA Idealize.SL.BI
open Idealize.SL.Sem
open Idealize.ShloMosaic.Rounds
open Idealize.ShloMosaic.Pipeline (Dat Cfg Window BodyObligation cellOf)

variable {F : FTy → Type} [FloatOps F]

variable (m : (ℓ : Loc nD τ sig) → Buf (Elt F) ℓ) (ρ : Dev nD → PrngReg) {n : ℕ} (S : Sched (tbl m) n)

set_option maxHeartbeats 4000000 in
set_option backward.isDefEq.respectTransparency.types false in
include S in
/-- Every run of the program ends with the pipeline's arrays at what the proof data say, every other buffer as the
    region found it, and every semaphore at zero. -/
theorem run_main (hO : Ok m) : θ_run defs (onTc (τ := τ) (main (F := F))) (s₀ m ρ)
    (fun r => (Pipeline.FramePost (Pipeline.pin pcfgs fun _ => adm m hO) (dats m n hO) 0 (V m)) r ∧ r.2.sem = fun _ => 0) :=
  Pipeline.θ_run_frameP (Q' := _) pcfgs (fun _ => adm m hO) (dats m n hO) (0 : Fin 1) launch0 defs₀ Variants.none m ρ main
    (hbody := fun c => (body_obligation m S hO c).loose) (hshare := fun c => (dats m n hO 0 c).share_full fun _ => rfl)
    (howed := fun _ _ => rfl) (V := V m) (hmain := hmain m Variants.none) (hA := A_eq m n hO) (hpf := V_pre m)
    (hΦ := fun _ _ => rfl)

/-- After a run the arguments are unchanged, and the output array is what the proof data say. -/
theorem args_of_post (hO : Ok m) {r} (h : Pipeline.FramePost (Pipeline.pin pcfgs fun _ => adm m hO) (dats m n hO) 0 (V m) r) (c : Dev nD) :
    r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4) :=
  ⟨((h c).1 0).trans (((dats m n hO 0 c).arrAt_in 0 rfl _).trans ((A_eq m n hO c 0).trans (V_arg m c main_arg0 (by simp)))),
    ((h c).2 main_arg1 (by decide : main_arg1 ∈ Pipeline.restRefs sig spec0)).trans (V_arg m c main_arg1 (by simp)),
    ((h c).2 main_arg2 (by decide : main_arg2 ∈ Pipeline.restRefs sig spec0)).trans (V_arg m c main_arg2 (by simp)),
    ((h c).2 main_arg3 (by decide : main_arg3 ∈ Pipeline.restRefs sig spec0)).trans (V_arg m c main_arg3 (by simp)),
    ((h c).2 main_arg4 (by decide : main_arg4 ∈ Pipeline.restRefs sig spec0)).trans (V_arg m c main_arg4 (by simp))⟩

include S in
/-- Every run ends with the arguments unchanged and every semaphore at zero. -/
theorem frame_run (hO : Ok m) : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4))
      ∧ r.2.sem = fun _ => 0) :=
  (θ_run defs _ _).mono (fun _ h => ⟨args_of_post m hO h.1, h.2⟩) (run_main m ρ S hO)

end Expert

end
-- ==== Proof.Expert.Value.lean ====
module

public import proofs.«01_k».proof.Proof.Expert.Payload
public import proofs.«01_k».proof.Proof.Expert.Routed
public import proofs.«01_k».proof.Proof.Expert.Launch
public import Idealize.ShloMosaic.Lib.Pipeline.ValueKit.Geometry

@[expose] public section

set_option maxRecDepth 16384

noncomputable section

/-! What the kernel leaves in the rows of the experts' segments. -/

namespace Expert

open Cert.Kernel2Ideal Cert.Kernel2Ideal.Gen
open Idealize.ShloMosaic Idealize.ShloMosaic.TcCoe Idealize.ShloMosaic.ValueIdx Idealize.ShloMosaic.WordCmp Idealize.ShloMosaic.Routing
open Idealize.SL.Sem
open Idealize.ShloMosaic.Pipeline (Dat Cfg Window)

variable {m : (ℓ : Loc nD τ sig) → Buf (Elt Ideal) ℓ} (h : Counted (cnt m)) (hO : Ok m) (c : Dev nD)

/-- An entry of an input's block is the entry of the array at its place there. -/
theorem iblk_at (w : Fin 5) (t : Fin (cfgM m hO).N) (B : Buf (Elt Ideal) ((c : Thread nD τ).loc (Pipeline.arrRef spec0 w)))
    (hB : V m c (Pipeline.arrRef spec0 w) = B) (y : (((cfgM m hO).win w).xblock ((cfgM m hO).grid.coords t)).Idx) :
    iblk m hO c w t y = _root_.cast (congrArg (Elt Ideal) (((cfgM m hO).win w).blk t).view.elt_eq) (B ((((cfgM m hO).win w).blk t).view.emb y)) := by
  subst hB
  rfl

include h in
/-- The block of rows at a point in use. -/
theorem rows_apply (t : Fin (cfgM m hO).N) (ht : t.val < blocks (cnt m)) (y : Fin 256) (k : Fin 1024) (r : Fin 108288) (hr : r.val = 256 * t.val + y.val) :
    (iblk m hO c 0 t : Vec Ideal S256x1024 .f32) (ix2 y k) = rowsIn m c (ix2 r k) := by
  have hi : ((cfgM m hO).win 0).index t = ![min t.val (blocks (cnt m) - 1), 0] := by
    have := (rows_in (pf := tbl m) (grid0.coords t)).trans ((sched h).rows (grid0.coords t))
    rw [coord_val] at this
    exact this
  have hV : V m c (Pipeline.arrRef spec0 0) = rowsIn m c := V_arg m c main_arg0 (by simp)
  refine (iblk_at hO c 0 t _ hV (ix2 y k)).trans ?_
  refine congrArg (rowsIn m c) (funext fun a => Fin.ext ?_)
  match a with
  | ⟨0, _⟩ =>
    refine (Pipeline.Window.rect_emb_val ((cfgM m hO).win 0) t (ix2 y k) (0 : Fin 2)).trans ?_
    show ((cfgM m hO).win 0).index t (0 : Fin 2) * 256 + y.val = r.val
    rw [hi]
    show min t.val (blocks (cnt m) - 1) * 256 + y.val = r.val
    omega
  | ⟨1, _⟩ =>
    refine (Pipeline.Window.rect_emb_val ((cfgM m hO).win 0) t (ix2 y k) (1 : Fin 2)).trans ?_
    show ((cfgM m hO).win 0).index t (1 : Fin 2) * 1024 + k.val = k.val
    rw [hi]
    show 0 * 1024 + k.val = k.val
    omega

include h in
/-- The expert whose weights a point reads, as a natural number. -/
theorem expert_nat (t : Fin (cfgM m hO).N) : (expertOf (tbl m) (grid0.coords t)).toNat = owner (cnt m) t.val + 32 := by
  have ho := owner_lt (cnt m) t.val
  rw [expertOf_eq h, coord_val, toNat_ofNat_of_lt (by omega)]

include h in
/-- The gate weights at a point. -/
theorem gate_apply (t : Fin (cfgM m hO).N) (e : Fin 32) (he : owner (cnt m) t.val = e.val) (k : Fin 1024) (f : Fin 256) :
    (iblk m hO c 1 t : Vec Ideal S1x1024x256 .f32) (ix3 (0 : Fin 1) k f) = gateIn m c (ix5 (1 : Fin 4) (grp e) (sub e) k f) := by
  have hi : ((cfgM m hO).win 1).index t = ![(expertOf (tbl m) (grid0.coords t)).toNat, 0, 0] := rfl
  refine (iblk_at hO c 1 t _ (V_gate m c) (ix3 (0 : Fin 1) k f)).trans ?_
  refine Eq.trans ?_ (flat_in (gateIn m c) e ⟨e.val + 32, by omega⟩ rfl k f)
  refine congrArg (shapeCast S128x1024x256 (gateIn m c) shapeCasts_S4x4x8x1024x256_S128x1024x256) (funext fun a => Fin.ext ?_)
  match a with
  | ⟨0, _⟩ =>
    refine (Pipeline.Window.rect_emb_val ((cfgM m hO).win 1) t (ix3 (0 : Fin 1) k f) (0 : Fin 3)).trans ?_
    show ((cfgM m hO).win 1).index t (0 : Fin 3) * 1 + 0 = e.val + 32
    rw [hi]
    show (expertOf (tbl m) (grid0.coords t)).toNat * 1 + 0 = _
    rw [expert_nat h, he, Nat.mul_one]
  | ⟨1, _⟩ =>
    refine (Pipeline.Window.rect_emb_val ((cfgM m hO).win 1) t (ix3 (0 : Fin 1) k f) (1 : Fin 3)).trans ?_
    show 0 * 1024 + k.val = k.val
    omega
  | ⟨2, _⟩ =>
    refine (Pipeline.Window.rect_emb_val ((cfgM m hO).win 1) t (ix3 (0 : Fin 1) k f) (2 : Fin 3)).trans ?_
    show 0 * 256 + f.val = f.val
    omega

include h in
/-- The weights beside the gate at a point. -/
theorem up_apply (t : Fin (cfgM m hO).N) (e : Fin 32) (he : owner (cnt m) t.val = e.val) (k : Fin 1024) (f : Fin 256) :
    (iblk m hO c 2 t : Vec Ideal S1x1024x256 .f32) (ix3 (0 : Fin 1) k f) = upIn m c (ix5 (1 : Fin 4) (grp e) (sub e) k f) := by
  have hi : ((cfgM m hO).win 2).index t = ![(expertOf (tbl m) (grid0.coords t)).toNat, 0, 0] := rfl
  refine (iblk_at hO c 2 t _ (V_up m c) (ix3 (0 : Fin 1) k f)).trans ?_
  refine Eq.trans ?_ (flat_in (upIn m c) e ⟨e.val + 32, by omega⟩ rfl k f)
  refine congrArg (shapeCast S128x1024x256 (upIn m c) shapeCasts_S4x4x8x1024x256_S128x1024x256) (funext fun a => Fin.ext ?_)
  match a with
  | ⟨0, _⟩ =>
    refine (Pipeline.Window.rect_emb_val ((cfgM m hO).win 2) t (ix3 (0 : Fin 1) k f) (0 : Fin 3)).trans ?_
    show ((cfgM m hO).win 2).index t (0 : Fin 3) * 1 + 0 = e.val + 32
    rw [hi]
    show (expertOf (tbl m) (grid0.coords t)).toNat * 1 + 0 = _
    rw [expert_nat h, he, Nat.mul_one]
  | ⟨1, _⟩ =>
    refine (Pipeline.Window.rect_emb_val ((cfgM m hO).win 2) t (ix3 (0 : Fin 1) k f) (1 : Fin 3)).trans ?_
    show 0 * 1024 + k.val = k.val
    omega
  | ⟨2, _⟩ =>
    refine (Pipeline.Window.rect_emb_val ((cfgM m hO).win 2) t (ix3 (0 : Fin 1) k f) (2 : Fin 3)).trans ?_
    show 0 * 256 + f.val = f.val
    omega

include h in
/-- The weights out of the hidden units at a point. -/
theorem down_apply (t : Fin (cfgM m hO).N) (e : Fin 32) (he : owner (cnt m) t.val = e.val) (f : Fin 256) (d : Fin 1024) :
    (iblk m hO c 3 t : Vec Ideal S1x256x1024 .f32) (ix3 (0 : Fin 1) f d) = downIn m c (ix5 (1 : Fin 4) (grp e) (sub e) f d) := by
  have hi : ((cfgM m hO).win 3).index t = ![(expertOf (tbl m) (grid0.coords t)).toNat, 0, 0] := rfl
  refine (iblk_at hO c 3 t _ (V_down m c) (ix3 (0 : Fin 1) f d)).trans ?_
  refine Eq.trans ?_ (flat_out (downIn m c) e ⟨e.val + 32, by omega⟩ rfl f d)
  refine congrArg (shapeCast S128x256x1024 (downIn m c) shapeCasts_S4x4x8x256x1024_S128x256x1024) (funext fun a => Fin.ext ?_)
  match a with
  | ⟨0, _⟩ =>
    refine (Pipeline.Window.rect_emb_val ((cfgM m hO).win 3) t (ix3 (0 : Fin 1) f d) (0 : Fin 3)).trans ?_
    show ((cfgM m hO).win 3).index t (0 : Fin 3) * 1 + 0 = e.val + 32
    rw [hi]
    show (expertOf (tbl m) (grid0.coords t)).toNat * 1 + 0 = _
    rw [expert_nat h, he, Nat.mul_one]
  | ⟨1, _⟩ =>
    refine (Pipeline.Window.rect_emb_val ((cfgM m hO).win 3) t (ix3 (0 : Fin 1) f d) (1 : Fin 3)).trans ?_
    show 0 * 256 + f.val = f.val
    omega
  | ⟨2, _⟩ =>
    refine (Pipeline.Window.rect_emb_val ((cfgM m hO).win 3) t (ix3 (0 : Fin 1) f d) (2 : Fin 3)).trans ?_
    show 0 * 1024 + d.val = d.val
    omega

include h in
/-- A row of the product at a point, when it lies in an expert's segment: that row through that expert. -/
theorem prod_apply (t : Fin (cfgM m hO).N) (e : Fin 32) (r : Fin 108288) (y : Fin 256) (hr : r.val = 256 * t.val + y.val)
    (h1 : start (cnt m) e.val ≤ r.val) (h2 : r.val < start (cnt m) e.val + 8 * cnt m e.val) (d : Fin 1024) :
    prod m hO c t (ix2 y d) = through (rowsIn m c) (gateIn m c) (upIn m c) (downIn m c) e r d := by
  obtain ⟨ho, hf, hb⟩ := owned_row e.isLt h1 h2
  have hy := y.isLt
  have q : r.val / 256 = t.val := by omega
  have q' : r.val % 256 = y.val := by omega
  rw [q] at ho hf hb
  rw [q'] at hf
  unfold prod
  rw [word_eq h, coord_val]
  refine (pay_apply _ (filled_le _ _) _ _ _ _ y hf d).trans ?_
  unfold through
  refine Finset.sum_congr rfl fun f _ => ?_
  rw [down_apply h hO c t e ho f d]
  refine congrArg (fun x : EReal => x * _) (congrArg₂ unit (Finset.sum_congr rfl fun k _ => ?_) (Finset.sum_congr rfl fun k _ => ?_))
  · rw [rows_apply h hO c t hb y k r hr, gate_apply h hO c t e ho k f]
  · rw [rows_apply h hO c t hb y k r hr, up_apply h hO c t e ho k f]

include h in
/-- After the run a row of an expert's segment holds that row through that expert. -/
theorem final (e : Fin 32) (r : Fin 108288) (h1 : start (cnt m) e.val ≤ r.val) (h2 : r.val < start (cnt m) e.val + 8 * cnt m e.val) (d : Fin 1024) :
    (dats m (blocks (cnt m)) hO 0 c).arrAt 4 (cfgM m hO).N (ix2 r d) = through (rowsIn m c) (gateIn m c) (upIn m c) (downIn m c) e r d := by
  have S := sched h
  have hN : (cfgM m hO).N = 423 := (by decide : grid0.N = 423)
  have hix : ∀ u : Fin (cfgM m hO).N, ((cfgM m hO).win 4).index u = ![min u.val (blocks (cnt m) - 1), 0] := fun u => by
    have := S.rows (grid0.coords u)
    rw [coord_val] at this
    exact this
  have he0 : ∀ (u : Fin (cfgM m hO).N) (y : S256x1024.Idx),
      ((((cfgM m hO).win 4).blk u).view.emb y (0 : Fin 2)).val = 256 * (lastUsed (blocks (cnt m)) u).val + (y 0).val := fun u y => by
    refine (Pipeline.Window.rect_emb_val ((cfgM m hO).win 4) u y (0 : Fin 2)).trans ?_
    show ((cfgM m hO).win 4).index u (0 : Fin 2) * 256 + (y 0).val = _
    rw [hix]
    show min u.val (blocks (cnt m) - 1) * 256 + (y 0).val = 256 * (min u.val (blocks (cnt m) - 1)) + (y 0).val
    omega
  have he1 : ∀ (u : Fin (cfgM m hO).N) (y : S256x1024.Idx),
      ((((cfgM m hO).win 4).blk u).view.emb y (1 : Fin 2)).val = (y 1).val := fun u y => by
    refine (Pipeline.Window.rect_emb_val ((cfgM m hO).win 4) u y (1 : Fin 2)).trans ?_
    show ((cfgM m hO).win 4).index u (1 : Fin 2) * 1024 + (y 1).val = _
    rw [hix]
    show 0 * 1024 + (y 1).val = (y 1).val
    omega
  obtain ⟨-, -, hb⟩ := owned_row e.isLt h1 h2
  have hb' := S.le
  -- the point that writes the row's block back
  obtain ⟨t, htf, hlu⟩ : ∃ t : Fin (cfgM m hO).N, ((cfgM m hO).win 4).flush t = true ∧ (lastUsed (blocks (cnt m)) t).val = r.val / 256 := by
    by_cases hc : r.val / 256 + 1 < blocks (cnt m)
    · refine ⟨⟨r.val / 256, by omega⟩, (flush_4 m S hO _).2 (.inl hc), ?_⟩
      show min (r.val / 256) (blocks (cnt m) - 1) = _
      omega
    · refine ⟨⟨422, by omega⟩, (flush_4 m S hO _).2 (.inr rfl), ?_⟩
      show min 422 (blocks (cnt m) - 1) = _
      omega
  have hmem : (ix2 r d : S108288x1024.Idx) ∈ (((cfgM m hO).win 4).blk t).view.set := by
    have : (ix2 r d : S108288x1024.Idx) = (((cfgM m hO).win 4).blk t).view.emb (ix2 (⟨r.val % 256, Nat.mod_lt _ (by norm_num)⟩ : Fin 256) d : S256x1024.Idx) := by
      refine funext fun a => Fin.ext ?_
      match a with
      | ⟨0, _⟩ =>
        refine Eq.trans ?_ (he0 t _).symm
        show r.val = 256 * (lastUsed (blocks (cnt m)) t).val + r.val % 256
        omega
      | ⟨1, _⟩ =>
        refine Eq.trans ?_ (he1 t _).symm
        rfl
    rw [this]
    exact View.emb_mem_set _ _
  refine Dat.arrAt_forall_of_flushed (dats m (blocks (cnt m)) hO 0 c) 4
    (fun (i : S108288x1024.Idx) (v : EReal) => ∀ e : Fin 32, start (cnt m) e.val ≤ (i 0).val → (i 0).val < start (cnt m) e.val + 8 * cnt m e.val →
      v = through (rowsIn m c) (gateIn m c) (upIn m c) (downIn m c) e (i 0) (i 1))
    (fun u hu y e' g1 g2 => ?_) _ t (ix2 r d) t.isLt htf hmem e h1 h2
  refine (show _ = prod m hO c (lastUsed (blocks (cnt m)) u) y from congrFun (after_4 m _ hO c u) y).trans ?_
  refine (congrArg (prod m hO c (lastUsed (blocks (cnt m)) u)) (eq_ix2 (n0 := 256) (n1 := 1024) y)).trans ?_
  refine (prod_apply h hO c (lastUsed (blocks (cnt m)) u) e' _ (y (0 : Fin 2)) (he0 u y) g1 g2 (y (1 : Fin 2))).trans ?_
  exact congrArg (through (rowsIn m c) (gateIn m c) (upIn m c) (downIn m c) e' _) (Fin.ext (he1 u y).symm)

end Expert

end
-- ==== Proof.Expert.Segments.lean ====
module

public import proofs.«01_k».proof.Proof.Expert.Tables
public import proofs.«01_k».proof.Proof.Gen.Reference2Ideal.Read
public import proofs.«01_k».proof.Proof.Gen.On_owned
public import Idealize.ShloMosaic.Lib.Routing.OpsOrder

@[expose] public section

set_option maxRecDepth 16384

noncomputable section

/-! The segments of the experts, as the plain layer computes them from the counts of chunks. -/

namespace Expert

open Cert.Reference2Ideal Cert.Reference2Ideal.Gen Cert.Reference2Ideal.Read
open Idealize.ShloMosaic Idealize.ShloMosaic.ValueIdx Idealize.ShloMosaic.WordCmp Idealize.ShloMosaic.Routing

variable {F : FTy → Type} [FloatOps F]

/-- The source indices of a row of a matrix are its columns: a fold of words over them, as a sum. -/
theorem reduce_rows {n k : ℕ} (x : IVec (shape2 n k) 32) (f : ℕ → ℕ → ℕ) (hx : ∀ (i : Fin n) (j : Fin k), x (ix2 i j) = BitVec.ofNat 32 (f i.val j.val))
    {u : Shape} (h : (shape2 n k).ReducesTo [1] (shape1 n)) (hu : 0 < u.numel) (i : Fin n)
    (hb : ∀ j : Fin k, f i.val j.val < 2 ^ 32) (hs : ∑ j : Fin k, f i.val j.val < 2 ^ 32) :
    Host.reduce IntOp.addi x (constantI u 32 0#32) h hu (ix1 i) = BitVec.ofNat 32 (∑ j : Fin k, f i.val j.val) := by
  classical
  rw [Host.reduce_eq_fold]
  have hdrop : ∀ q : (shape2 n k).Idx, h.drop q = ix1 i ↔ q 0 = i := by
    intro q
    have hv : (h.drop q 0 : ℕ) = q 0 := Shape.ReducesTo.drop_apply_val h q 0
    constructor
    · intro e; rw [e] at hv; exact Fin.ext hv.symm
    · intro e; funext b
      obtain rfl : b = (0 : Fin 1) := Subsingleton.elim (α := Fin 1) b 0
      exact Fin.ext (by rw [hv, e])
  have hback : ∀ q : (shape2 n k).Idx, q 0 = i → (ix2 i (q 1) : (shape2 n k).Idx) = q := fun q h0 => by
    subst h0; exact (eq_ix2 q).symm
  have hsum : ∑ q ∈ Finset.univ.filter (fun q : (shape2 n k).Idx => h.drop q = ix1 i), (x q).toNat = ∑ j : Fin k, f i.val j.val := by
    refine Finset.sum_bij' (fun q _ => q 1) (fun j _ => ix2 i j) (fun _ _ => Finset.mem_univ _)
      (fun j _ => Finset.mem_filter.2 ⟨Finset.mem_univ _, (hdrop _).2 rfl⟩)
      (fun q hq => hback q ((hdrop q).1 (Finset.mem_filter.1 hq).2)) (fun _ _ => rfl) ?_
    intro q hq
    have e := hback q ((hdrop q).1 (Finset.mem_filter.1 hq).2)
    have e2 := hx i (q 1)
    rw [e] at e2
    rw [e2, BitVec.toNat_ofNat]
    exact Nat.mod_eq_of_lt (hb (q 1))
  apply BitVec.eq_of_toNat_eq
  rw [BitVec.toNat_ofNat, Nat.mod_eq_of_lt hs, ← hsum]
  exact StableHlo.Predicate.toNat_fold_addi _ _ (by rw [hsum]; exact hs)

/-- The first row of an expert, as a sum over the experts before it. -/
theorem start_sum (c : ℕ → ℕ) (e : ℕ) : ∑ j ∈ Finset.range e, room c j = start c e := by
  induction e with
  | zero => rfl
  | succ e ih => rw [Finset.sum_range_succ, ih, start_succ]

variable {x : IVec S32 32} (h : Counted (chunkOf x))
include h

/-- The rows in use, as the reference computes them. -/
theorem ref_used (e : Fin 32) : val_main_v1 (F := F) x (ix1 e) = BitVec.ofNat 32 (8 * chunkOf x e.val) := by
  refine (show _ = IntOp.muli 8#32 (x (ix1 e)) from rfl).trans ?_
  rw [chunk_word x e]
  rw [BitVec.ofNat_mul]
  rfl

/-- The rows set aside, as the reference computes them. -/
theorem ref_room (e : Fin 32) : val_main_v6 (F := F) x (ix1 e) = BitVec.ofNat 32 (room (chunkOf x) e.val) := by
  have hc := h.count_le e.isLt
  have hd : val_main_v4 (F := F) x = pyDiv bcast_S_S32 (val_main_v3 (F := F) x) (constantI S_ 32 256#32) := rfl
  rw [val_main_v6_apply, hd, pyDiv_ap bcast_S_S32 _ _ _ (a := 8 * chunkOf x e.val + 255) (b := 256)]
  · rw [room, Nat.mul_comm (_ / 256) 256, BitVec.ofNat_mul]
    rfl
  · rw [val_main_v3_apply, ref_used h, BitVec.ofNat_add]
    rfl
  · rfl
  · omega
  · omega
  · omega

/-- The first rows, as the reference computes them. -/
theorem ref_start (e : Fin 32) : val_main_v15 (F := F) x (ix1 e) = BitVec.ofNat 32 (start (chunkOf x) e.val) := by
  have hle := start_le h (Nat.le_of_lt e.isLt)
  have hs : ∑ j : Fin 32, (if j.val < e.val then room (chunkOf x) j.val else 0) = start (chunkOf x) e.val := by
    rw [Fin.sum_univ_eq_sum_range (fun j => if j < e.val then room (chunkOf x) j else 0) 32, ← Finset.sum_filter, ← start_sum]
    refine Finset.sum_congr (Finset.ext fun j => ?_) fun _ _ => rfl
    have := e.isLt
    simp only [Finset.mem_filter, Finset.mem_range]
    omega
  unfold val_main_v15
  refine (reduce_rows (n := 32) (k := 32) _ (fun e j => if j < e then room (chunkOf x) j else 0) (fun i j => ?_) _ _ e (fun j => ?_) ?_).trans ?_
  · have hi := i.isLt; have hj := j.isLt
    rw [val_main_v14_apply, val_main_v12_apply]
    have e1 : val_main_v10 (F := F) (ix2 i j) = BitVec.ofNat 32 j.val := by
      rw [val_main_v10_apply, val_main_v8_apply]; rfl
    have e2 : val_main_v11 (F := F) (ix2 i j) = BitVec.ofNat 32 i.val := by
      rw [val_main_v11_apply, val_main_v9_apply]; rfl
    have e3 : val_main_call1_v1 (F := F) x (ix2 i j) = BitVec.ofNat 32 (room (chunkOf x) j.val) := by
      rw [val_main_call1_v1_apply, val_main_v13_apply, ← ref_room (F := F) h j]
      exact congrArg _ (funext fun a => by obtain rfl : a = (0 : Fin 1) := Subsingleton.elim (α := Fin 1) a 0; rfl)
    have e4 : val_main_call1_v2 (F := F) (ix2 i j) = 0#32 := by
      rw [val_main_call1_v2_apply]; rfl
    rw [e1, e2, e3, e4, cmpi_slt_ofNat (w := 32) (by omega) (by omega)]
    by_cases hji : j.val < i.val <;> simp [hji, Scalar.select]
  · split
    · rename_i hj
      have := start_le h (show j.val + 1 ≤ 32 by omega)
      rw [start_succ] at this
      omega
    · norm_num
  · rw [hs]; omega
  · rw [hs]

/-- A row is in an expert's segment exactly when it lies in the segment's used rows. -/
theorem ref_bit (r : Fin 108288) (e : Fin 32) : val_main_v28 (F := F) x (ix2 r e) =
    BitVec.ofBool (decide (start (chunkOf x) e.val ≤ r.val ∧ r.val < start (chunkOf x) e.val + 8 * chunkOf x e.val)) := by
  have hr := r.isLt
  have hle := start_le h (Nat.le_of_lt e.isLt)
  have hc := h.count_le e.isLt
  have e1 : val_main_v19 (F := F) (ix2 r e) = BitVec.ofNat 32 r.val := by
    rw [val_main_v19_apply, val_main_v17_apply]; rfl
  have e2 : val_main_v20 (F := F) x (ix2 r e) = BitVec.ofNat 32 (start (chunkOf x) e.val) := by
    rw [val_main_v20_apply, val_main_v18_apply, ← ref_start (F := F) h e]
    exact congrArg _ (funext fun a => by obtain rfl : a = (0 : Fin 1) := Subsingleton.elim (α := Fin 1) a 0; rfl)
  have e3 : val_main_v25 (F := F) (ix2 r e) = BitVec.ofNat 32 r.val := by
    rw [val_main_v25_apply, val_main_v22_apply]; rfl
  have e4 : val_main_v26 (F := F) x (ix2 r e) = BitVec.ofNat 32 (start (chunkOf x) e.val + 8 * chunkOf x e.val) := by
    rw [val_main_v26_apply, val_main_v24_apply, BitVec.ofNat_add, ← ref_start (F := F) h e, ← ref_used (F := F) h e]
    refine (congrArg (val_main_v23 (F := F) x) (?_ : _ = ix1 e)).trans rfl
    exact funext fun a => by obtain rfl : a = (0 : Fin 1) := Subsingleton.elim (α := Fin 1) a 0; rfl
  rw [val_main_v28_apply, val_main_v21_apply, val_main_v27_apply, e1, e2, e3, e4,
    cmpi_sge_ofNat (w := 32) (by omega) (by omega), cmpi_slt_ofNat (w := 32) (by omega) (by omega)]
  by_cases g1 : start (chunkOf x) e.val ≤ r.val <;> by_cases g2 : r.val < start (chunkOf x) e.val + 8 * chunkOf x e.val <;> simp [g1, g2, IntOp.andi]

omit h in
/-- The mask repeats along a row whether the row is in a segment. -/
theorem mask_rows (a0 : FVec F S108288x1024 .f32) (a2 a3 : FVec F S4x4x8x1024x256 .f32) (a4 : FVec F S4x4x8x256x1024 .f32) :
    Cert.On_owned.fn (F := F) a0 x a2 a3 a4 = broadcastInDim S108288x1024 ![0, 1] Cert.On_owned.Gen.bcast_S108288x1_S108288x1024_0_1
      (broadcastInDim Cert.On_owned.S108288x1 ![0] Cert.On_owned.Gen.bcast_S108288_S108288x1_0
        (Host.reduce IntOp.ori (val_main_v28 (F := F) x) (constantI Cert.On_owned.S_ 1 0#1) Cert.On_owned.Gen.reducesTo_S108288x32_S108288_d1 Cert.On_owned.Gen.h_S_)) := by
  rfl

omit h in
/-- The mask, read: a row that it admits is in some expert's segment. -/
theorem mask_bit (a0 : FVec F S108288x1024 .f32) (a2 a3 : FVec F S4x4x8x1024x256 .f32) (a4 : FVec F S4x4x8x256x1024 .f32)
    (r : Fin 108288) (d : Fin 1024) (hm : Cert.On_owned.fn (F := F) a0 x a2 a3 a4 (ix2 r d) = 1#1) :
    ∃ e : Fin 32, val_main_v28 (F := F) x (ix2 r e) = 1#1 := by
  classical
  have hm := (congrFun (mask_rows a0 a2 a3 a4) (ix2 r d)).symm.trans hm
  rw [bcRows Cert.On_owned.Gen.bcast_S108288_S108288x1_0 Cert.On_owned.Gen.bcast_S108288x1_S108288x1024_0_1] at hm
  rw [Host.reduce_eq_fold] at hm
  obtain ⟨q, hq, hq1⟩ := (fold_ori _ _).1 hm
  have hv : (Cert.On_owned.Gen.reducesTo_S108288x32_S108288_d1.drop q 0 : ℕ) = q 0 := Shape.ReducesTo.drop_apply_val _ q 0
  rw [(Finset.mem_filter.1 hq).2] at hv
  refine ⟨q (1 : Fin 2), ?_⟩
  have e0 : q (0 : Fin 2) = r := Fin.ext hv.symm
  rw [← hq1, ← e0]
  exact congrArg _ (eq_ix2 (n0 := 108288) (n1 := 32) q).symm

end Expert

end
-- ==== Proof.Expert.RefValue.lean ====
module

public import proofs.«01_k».proof.Proof.Expert.Payload
public import proofs.«01_k».proof.Proof.Expert.Segments
public import Idealize.ShloMosaic.Lib.TwoAxisContraction
public import Idealize.ShloMosaic.Lib.IdealHost

@[expose] public section

set_option maxRecDepth 16384

noncomputable section

/-! The result of the plain expert layer at a row of an expert's segment. -/

namespace Expert

open Cert.Reference2Ideal Cert.Reference2Ideal.Gen Cert.Reference2Ideal.Read
open Idealize.ShloMosaic Idealize.ShloMosaic.ValueIdx Idealize.ShloMosaic.WordCmp Idealize.ShloMosaic.Routing

/-- Layer 1 of the weights into the hidden units, its experts in one row. -/
theorem layer_in (w : FVec Ideal S4x4x8x1024x256 .f32) (e : Fin 32) (k : Fin 1024) (f : Fin 256) :
    val_main_v32 (F := Ideal) w (ix3 e k f) = w (ix5 (1 : Fin 4) (grp e) (sub e) k f) := by
  have he := e.isLt
  unfold val_main_v32
  refine (shapeCast_apply _ _ _ (ix4 (grp e) (sub e) k f) ?_).trans ?_
  · rewrite [Shape.rowMajor_val_four, Shape.rowMajor_val_three]
    show ((e.val / 8 * 8 + e.val % 8) * 1024 + k.val) * 256 + f.val = (e.val * 1024 + k.val) * 256 + f.val
    omega
  unfold val_main_v31
  refine (shapeCast_apply _ _ _ (ix5 (0 : Fin 1) (grp e) (sub e) k f) ?_).trans ?_
  · rewrite [Shape.rowMajor_val_five, Shape.rowMajor_val_four]
    show (((0 * 4 + e.val / 8) * 8 + e.val % 8) * 1024 + k.val) * 256 + f.val = ((e.val / 8 * 8 + e.val % 8) * 1024 + k.val) * 256 + f.val
    omega
  unfold val_main_v30
  refine extractStridedSlice_apply _ _ _ _ _ fun a => ?_
  match a with
  | ⟨0, _⟩ => rfl
  | ⟨1, _⟩ => exact (Nat.zero_add _).symm
  | ⟨2, _⟩ => exact (Nat.zero_add _).symm
  | ⟨3, _⟩ => exact (Nat.zero_add _).symm
  | ⟨4, _⟩ => exact (Nat.zero_add _).symm

/-- Layer 1 of the weights out of the hidden units, its experts in one row. -/
theorem layer_out (w : FVec Ideal S4x4x8x256x1024 .f32) (e : Fin 32) (f : Fin 256) (d : Fin 1024) :
    val_main_v38 (F := Ideal) w (ix3 e f d) = w (ix5 (1 : Fin 4) (grp e) (sub e) f d) := by
  have he := e.isLt
  unfold val_main_v38
  refine (shapeCast_apply _ _ _ (ix4 (grp e) (sub e) f d) ?_).trans ?_
  · rewrite [Shape.rowMajor_val_four, Shape.rowMajor_val_three]
    show ((e.val / 8 * 8 + e.val % 8) * 256 + f.val) * 1024 + d.val = (e.val * 256 + f.val) * 1024 + d.val
    omega
  unfold val_main_v37
  refine (shapeCast_apply _ _ _ (ix5 (0 : Fin 1) (grp e) (sub e) f d) ?_).trans ?_
  · rewrite [Shape.rowMajor_val_five, Shape.rowMajor_val_four]
    show (((0 * 4 + e.val / 8) * 8 + e.val % 8) * 256 + f.val) * 1024 + d.val = ((e.val / 8 * 8 + e.val % 8) * 256 + f.val) * 1024 + d.val
    omega
  unfold val_main_v36
  refine extractStridedSlice_apply _ _ _ _ _ fun a => ?_
  match a with
  | ⟨0, _⟩ => rfl
  | ⟨1, _⟩ => exact (Nat.zero_add _).symm
  | ⟨2, _⟩ => exact (Nat.zero_add _).symm
  | ⟨3, _⟩ => exact (Nat.zero_add _).symm
  | ⟨4, _⟩ => exact (Nat.zero_add _).symm

/-- A row times an expert's weights into its hidden units. -/
theorem hidden (a0 : FVec Ideal S108288x1024 .f32) (w : FVec Ideal S4x4x8x1024x256 .f32) (r : Fin 108288) (e : Fin 32) (f : Fin 256) :
    val_main_v39 (F := Ideal) a0 w (ix3 r e f) = ∑ k : Fin 1024, a0 (ix2 r k) * w (ix5 (1 : Fin 4) (grp e) (sub e) k f) := by
  rw [val_main_v39_apply]
  refine Finset.sum_congr rfl fun k _ => ?_
  rw [← layer_in w e k f]
  have el : lidx_main_v39 (ix3 r e f) k = ix2 r k := funext fun a => match a with
    | ⟨0, _⟩ => rfl
    | ⟨1, _⟩ => rfl
  have er : ridx_main_v39 (ix3 r e f) k = ix3 e k f := funext fun a => match a with
    | ⟨0, _⟩ => rfl
    | ⟨1, _⟩ => rfl
    | ⟨2, _⟩ => rfl
  rw [el, er]

/-- The gated unit of the plain layer. -/
theorem gated (a0 : FVec Ideal S108288x1024 .f32) (wg wu : FVec Ideal S4x4x8x1024x256 .f32) (r : Fin 108288) (e : Fin 32) (f : Fin 256) :
    val_main_v42 (F := Ideal) a0 wg wu (ix3 r e f) =
      unit (∑ k : Fin 1024, a0 (ix2 r k) * wg (ix5 (1 : Fin 4) (grp e) (sub e) k f)) (∑ k : Fin 1024, a0 (ix2 r k) * wu (ix5 (1 : Fin 4) (grp e) (sub e) k f)) := by
  rw [← hidden a0 wg, ← hidden a0 wu]
  have e1 : ∀ i, val_main_call2_v2 (F := Ideal) i = 1 := fun i => by
    rw [val_main_call2_v2_apply]; exact Ideal.ofBits_one_f32
  have e2 : ∀ i, val_main_call2_v4 (F := Ideal) i = 1 := fun i => by
    rw [val_main_call2_v4_apply]; exact Ideal.ofBits_one_f32
  rw [val_main_v42_apply, val_main_v41_apply, val_main_call2_v5_apply, val_main_call2_v3_apply, val_main_call2_v1_apply, val_main_call2_v0_apply, e1, e2]
  rfl

/-- The sum over experts and hidden units that the plain layer ends with. -/
theorem combined (l : FVec Ideal S108288x32x256 .f32) (w : FVec Ideal S32x256x1024 .f32) (r : Fin 108288) (d : Fin 1024) :
    Host.dotGeneral dot_S108288x32x256_S32x256x1024_S108288x1024_12_01_0_2_n_n none l w (ix2 r d) =
      ∑ e : Fin 32, ∑ f : Fin 256, l (ix3 r e f) * w (ix3 e f d) := by
  let D := dot_S108288x32x256_S32x256x1024_S108288x1024_12_01_0_2_n_n
  have hr : D.contr.rank = 2 := rfl
  have c0 : D.contr.size ⟨0, by rw [hr]; omega⟩ = 32 := rfl
  have c1 : D.contr.size ⟨1, by rw [hr]; omega⟩ = 256 := rfl
  refine (Ideal.dotGeneral_apply D _ _ l w (ix2 r d)).trans ((sum_contr2 D 32 256 hr c0 c1 _).trans ?_)
  refine Finset.sum_congr rfl fun e _ => Finset.sum_congr rfl fun f _ => ?_
  have h0 := contrEquiv2_symm_val0 D 32 256 hr c0 c1 (e, f)
  have h1 := contrEquiv2_symm_val1 D 32 256 hr c0 c1 (e, f)
  refine congrArg₂ (fun a b : EReal => a * b) (congrArg l (?_ : _ = ix3 r e f)) (congrArg w (?_ : _ = ix3 e f d))
  · funext a; apply Fin.ext
    match a with
    | ⟨0, _⟩ => rfl
    | ⟨1, _⟩ => exact h0
    | ⟨2, _⟩ => exact h1
  · funext a; apply Fin.ext
    match a with
    | ⟨0, _⟩ => exact h0
    | ⟨1, _⟩ => exact h1
    | ⟨2, _⟩ => rfl

variable {x : IVec S32 32} (h : Counted (chunkOf x))
include h

/-- The factor of an expert at a row: 1 in its segment, 0 elsewhere. -/
theorem factor (r : Fin 108288) (e : Fin 32) (f : Fin 256) : val_main_v44 (F := Ideal) x (ix3 r e f) =
    if start (chunkOf x) e.val ≤ r.val ∧ r.val < start (chunkOf x) e.val + 8 * chunkOf x e.val then (1 : EReal) else 0 := by
  rw [val_main_v44_apply, val_main_v43_apply, val_main_v29_apply]
  have ei : idx_main_v43 (idx_main_v44 (ix3 r e f)) = ix2 r e := funext fun a => match a with
    | ⟨0, _⟩ => rfl
    | ⟨1, _⟩ => rfl
  rw [ei, ref_bit h]
  show (((BitVec.ofBool (decide _)).toNat : ℝ) : EReal) = _
  split
  · rename_i hc; rw [decide_eq_true hc]; simp
  · rename_i hc; rw [decide_eq_false hc]; simp

/-- A row in an expert's segment is that row through that expert. -/
theorem ref_value (a0 : FVec Ideal S108288x1024 .f32) (wg wu : FVec Ideal S4x4x8x1024x256 .f32) (wd : FVec Ideal S4x4x8x256x1024 .f32)
    (e : Fin 32) (r : Fin 108288) (h1 : start (chunkOf x) e.val ≤ r.val) (h2 : r.val < start (chunkOf x) e.val + 8 * chunkOf x e.val) (d : Fin 1024) :
    val_main_v46 (F := Ideal) a0 x wg wu wd (ix2 r d) = through a0 wg wu wd e r d := by
  unfold val_main_v46
  refine (combined _ _ r d).trans ((Finset.sum_eq_single e (fun e' _ hne => ?_) (fun hn => absurd (Finset.mem_univ e) hn)).trans ?_)
  · refine Finset.sum_eq_zero fun f _ => ?_
    rw [val_main_v45_apply, factor h, if_neg (fun hc => hne (Fin.ext (owner_unique hc.1 hc.2 h1 h2)))]
    show (_ * (0 : EReal)) * _ = 0
    rw [mul_zero, zero_mul]
  · unfold through
    refine Finset.sum_congr rfl fun f _ => ?_
    rw [val_main_v45_apply, factor h, if_pos ⟨h1, h2⟩, gated, layer_out]
    show (_ * (1 : EReal)) * _ = _
    rw [mul_one]

end Expert

end
-- ==== Proof.Expert.Same.lean ====
module

public import proofs.«01_k».proof.Proof.Expert.Launch
public import proofs.«01_k».proof.Proof.Gen.Kernel2.Launch
public import proofs.«01_k».proof.Proof.Gen.Kernel2.Skeleton
public import proofs.«01_k».proof.Defs

@[expose] public section

noncomputable section

namespace Expert

open Idealize.ShloMosaic Idealize.ShloMosaic.TcCoe Idealize.SL.Sem

/-! The program before idealization and after it have the same text, so a run of the one is a run of the other. -/

set_option maxHeartbeats 4000000 in
/-- The two programs have the same bodies. -/
theorem same_defs₀ : Cert.Kernel2.defs₀ (F := Bits) = Cert.Kernel2Ideal.defs₀ (F := Bits) := by
  unfold Cert.Kernel2.defs₀ Cert.Kernel2Ideal.defs₀
  congr 1; funext l x
  match l, x with
  | 0, (t, s) => rfl

set_option maxHeartbeats 4000000 in
/-- The two programs have the same calls. -/
theorem same_defs : Cert.Kernel2.defs (F := Bits) = Cert.Kernel2Ideal.defs (F := Bits) :=
  congrArg (Pipeline.defs (Cert.Kernel2Ideal.pcfgs (F := Bits))) same_defs₀

set_option maxHeartbeats 4000000 in
/-- The two programs have the same host operations. -/
theorem same_main : Cert.Kernel2.main (F := Bits) = Cert.Kernel2Ideal.main (F := Bits) := by
  unfold Cert.Kernel2.main Cert.Kernel2Ideal.main
  rfl

set_option maxHeartbeats 4000000 in
/-- So they have the same runs. -/
theorem same_run : θ_run (Cert.Kernel2.defs (F := Bits)) (onTc (τ := Cert.Kernel2.τ) (Cert.Kernel2.main (F := Bits)))
    = θ_run (Cert.Kernel2Ideal.defs (F := Bits)) (onTc (τ := Cert.Kernel2Ideal.τ) (Cert.Kernel2Ideal.main (F := Bits))) :=
  congr (congrArg (θ_run (Val := Elt Bits)) same_defs) (congrArg onTc same_main)

end Expert

end
-- ==== Proof.Expert.Frames.lean ====
module

public import proofs.«01_k».proof.Proof.Expert.Routed
public import proofs.«01_k».proof.Proof.Expert.Same
public import proofs.«01_k».proof.Proof.Gen.Reference2Ideal.Run
public import Idealize.ShloMosaic.Lib.Quiescent

@[expose] public section

noncomputable section

namespace Expert

open Idealize.ShloMosaic Idealize.ShloMosaic.TcCoe Idealize.SL.Sem

/-- The idealized experts end with their arguments as they were and no semaphore raised. -/
theorem kernel_frame : Cert.quiescent_Kernel2Ideal := fun m g hp =>
  frame_run (F := Ideal) m g (sched (counted_of_routed _ _ _ _ _ (hp 0))) (sched (counted_of_routed _ _ _ _ _ (hp 0))).ok

/-- So do the experts as printed. -/
theorem bits_frame : Cert.quiescent_Kernel2 := fun m g hp => by
  rw [same_run]
  exact frame_run (F := Bits) m g (sched (counted_of_routed _ _ _ _ _ (hp 0))) (sched (counted_of_routed _ _ _ _ _ (hp 0))).ok

/-- And so does the plain reference. -/
theorem reference_frame : Cert.quiescent_Reference2Ideal := fun m g _ =>
  (θ_run Cert.Reference2Ideal.defs _ _).mono (fun r h => ⟨fun c => (h c).2, sem_eq_zero_of_no_sems rfl _⟩)
    (Cert.Reference2Ideal.Value.run (F := Ideal) m g)

end Expert
-- ==== Proof.Expert.Experts.lean ====
module

public import proofs.«01_k».proof.Proof.Expert.Value
public import proofs.«01_k».proof.Proof.Expert.RefValue
public import proofs.«01_k».proof.Proof.Expert.Frames

@[expose] public section

noncomputable section

/-! The expert kernel against the plain expert layer. -/

namespace Expert

open Idealize.ShloMosaic Idealize.SL.Sem Idealize.ShloMosaic.ValueIdx Idealize.ShloMosaic.TcCoe

open Cert.Kernel2Ideal Cert.Kernel2Ideal.Gen

/-- The expert kernel and the plain expert layer end with equal results in every row of an expert's segment. -/
theorem experts : Cert.algebraic_Kernel2Ideal_Reference2Ideal_on_owned := by
  intro m g m' g' hp hagree
  have hC : Counted (cnt m) := counted_of_routed _ _ _ _ _ (hp 0)
  have hO := (sched hC).ok
  refine ⟨fun c => (Cert.Reference2Ideal.Read.val_main_v46 (F := Ideal) (rowsIn m c) (chunks m c) (gateIn m c) (upIn m c) (downIn m c) :
    Buf (Elt Ideal) ((c.tc : Thread nD τ).loc main_v47)), ?_, ?_⟩
  · refine (θ_run defs _ _).mono (fun r h c => ⟨fun i hi => ?_, args_of_post m hO h.1 c⟩) (run_main m g (sched hC) hO)
    obtain rfl : c = 0 := Subsingleton.elim _ _
    obtain ⟨a, b, rfl⟩ : ∃ (a : Fin 108288) (b : Fin 1024), i = ix2 a b := ⟨i 0, i 1, eq_ix2 i⟩
    obtain ⟨e, he⟩ := mask_bit (F := Ideal) _ _ _ _ a b hi
    rw [ref_bit (x := chunks m 0) hC] at he
    obtain ⟨h1, h2⟩ := (WordCmp.ofBool_decide_eq_one_iff _).1 he
    exact ((congrFun ((h.1 0).1 4) (ix2 a b)).trans (final hC hO 0 e a h1 h2 b)).trans
      (ref_value (x := chunks m 0) hC (rowsIn m 0) (gateIn m 0) (upIn m 0) (downIn m 0) e a h1 h2 b).symm
  · refine (θ_run Cert.Reference2Ideal.defs _ _).mono (fun r h c => ⟨fun i _ => ?_, (h c).2⟩) (Cert.Reference2Ideal.Value.run (F := Ideal) m' g')
    rw [(h c).1, Cert.Reference2Ideal.Read.val_main_v46_eq]
    obtain ⟨e0, e1, e2, e3, e4⟩ := hagree c
    rw [e0, e1, e2, e3, e4]

end Expert

end
-- ==== Proof.Proj.Norm.lean ====
module

public import Idealize.ShloMosaic.Lib.MatmulPlain
public import Idealize.ShloMosaic.Lib.ValueLayout
public import Idealize.ShloMosaic.Lib.ValueIdxCoords
public import Idealize.ShloMosaic.Lib.ValueIdx
public import Idealize.ShloMosaic.Lib.IdealHost

@[expose] public section

noncomputable section

/-! The modulated norm of a row, and the products that a projection takes of it. -/

namespace Proj

open Idealize.ShloMosaic Idealize.ShloMosaic.TcCoe Idealize.ShloMosaic.ValueIdx

/-- A matrix's shape. -/
abbrev mat (a b : ℕ) : Shape := ⟨2, ![a, b]⟩

/-- One over the root of a row's mean square. -/
def inv (x : Fin 1024 → EReal) : EReal :=
  Ideal.rsqrt (Ideal.div (∑ k, x k * x k) (Ideal.ofBits .f32 0x44800000#32) + Ideal.ofBits .f32 0x358637BD#32)

/-- A row, normed, with a gain, then scaled and shifted. -/
def normed (x g sh sc : Fin 1024 → EReal) (k : Fin 1024) : EReal :=
  x k * inv x * g k * (Ideal.ofBits .f32 0x3F800000#32 + sc k) + sh k

/-- A normed row times a column of weights, plus a bias. -/
def proj (x g sh sc w : Fin 1024 → EReal) (b : EReal) : EReal := (∑ k, normed x g sh sc k * w k) + b

/-- The projection of equal data. -/
theorem proj_congr {x x' g g' sh sh' sc sc' w w' : Fin 1024 → EReal} {b b' : EReal} (h0 : ∀ k, x k = x' k) (h1 : ∀ k, g k = g' k) (h2 : ∀ k, sh k = sh' k)
    (h3 : ∀ k, sc k = sc' k) (h4 : ∀ k, w k = w' k) (h5 : b = b') : proj x g sh sc w b = proj x' g' sh' sc' w' b' := by
  obtain rfl : x = x' := funext h0
  obtain rfl : g = g' := funext h1
  obtain rfl : sh = sh' := funext h2
  obtain rfl : sc = sc' := funext h3
  obtain rfl : w = w' := funext h4
  rw [h5]

/-- A column repeated along its rows. -/
theorem col_apply (v : (mat 256 1).Idx → EReal) (h : (mat 256 1).Broadcasts (mat 256 1024)) (r : Fin 256) (k : Fin 1024) :
    broadcastTo (mat 256 1024) v h (ix2 r k) = v (ix2 r (0 : Fin 1)) :=
  broadcastTo_apply v h (ix2 r k) (ix2 r (0 : Fin 1)) fun | ⟨0, _⟩ => rfl | ⟨1, _⟩ => rfl

/-- The inverse root of the mean square, as a block computes it. -/
theorem inv_apply (x : FVec Ideal (mat 256 1024) .f32) (hr : (mat 256 1024).Reduces [1] ⟨1, ![256]⟩)
    (hc : (⟨1, ![256]⟩ : Shape).ShapeCasts (mat 256 1)) (hφ : FKind.Formats .f32) (ha : 0x00000000#32 = FKind.add.neutral .f32 hφ) (r : Fin 256) :
    rsqrt (addf (divf (shapeCast (mat 256 1) (multiReduction .add [1] ⟨1, ![256]⟩ (mulf x x) 0x00000000#32 hr hφ ha) hc)
      (broadcast (mat 256 1) (Scalar.ofBits .f32 0x44800000#32 : Ideal .f32))) (broadcast (mat 256 1) (Scalar.ofBits .f32 0x358637BD#32 : Ideal .f32)))
      (ix2 r (0 : Fin 1)) = inv fun k => x (ix2 r k) := by
  refine congrArg (fun s : EReal => Ideal.rsqrt (Ideal.div s (Ideal.ofBits .f32 0x44800000#32) + Ideal.ofBits .f32 0x358637BD#32)) ?_
  refine (shapeCast_apply _ hc _ (ix1 r) ?_).trans ?_
  · rw [Shape.rowMajor_val_one, Shape.rowMajor_val_two]
    show r.val = r.val * 1 + 0
    omega
  · refine (Ideal.multiReduction_add_single _ _ hr hφ ha _).trans ?_
    exact Finset.sum_congr rfl fun k _ => congrArg (fun i => x i * x i) (eq_ix2 _)

/-- The modulated norm, as a block computes it. -/
theorem norm_apply (x : FVec Ideal (mat 256 1024) .f32) (g : FVec Ideal (mat 1 1024) .f32) (sh sc : FVec Ideal ⟨3, ![1, 1, 1024]⟩ .f32)
    (hr : (mat 256 1024).Reduces [1] ⟨1, ![256]⟩)
    (hc : (⟨1, ![256]⟩ : Shape).ShapeCasts (mat 256 1)) (hφ : FKind.Formats .f32) (ha : 0x00000000#32 = FKind.add.neutral .f32 hφ)
    (hb : (mat 256 1).Broadcasts (mat 256 1024)) (h1 : (mat 1 1024).Broadcasts (mat 256 1024)) (h3 : (⟨3, ![1, 1, 1024]⟩ : Shape).ShapeCasts (mat 1 1024))
    (r : Fin 256) (k : Fin 1024) :
    addf (mulf (mulf (mulf x (broadcastTo (mat 256 1024)
      (rsqrt (addf (divf (shapeCast (mat 256 1) (multiReduction .add [1] ⟨1, ![256]⟩ (mulf x x) 0x00000000#32 hr hφ ha) hc)
        (broadcast (mat 256 1) (Scalar.ofBits .f32 0x44800000#32 : Ideal .f32))) (broadcast (mat 256 1) (Scalar.ofBits .f32 0x358637BD#32 : Ideal .f32)))) hb))
      (broadcastTo (mat 256 1024) g h1))
      (broadcastTo (mat 256 1024) (addf (broadcast (mat 1 1024) (Scalar.ofBits .f32 0x3F800000#32 : Ideal .f32)) (shapeCast (mat 1 1024) sc h3)) h1))
      (broadcastTo (mat 256 1024) (shapeCast (mat 1 1024) sh h3) h1) (ix2 r k) =
    normed (fun k => x (ix2 r k)) (fun k => g (ix2 (0 : Fin 1) k)) (fun k => sh (ix3 (0 : Fin 1) (0 : Fin 1) k))
      (fun k => sc (ix3 (0 : Fin 1) (0 : Fin 1) k)) k := by
  refine congrArg₂ (fun a b : EReal => a + b) (congrArg₂ (fun a b : EReal => a * b) (congrArg₂ (fun a b : EReal => a * b)
    (congrArg (fun b : EReal => x (ix2 r k) * b) ?_) ?_) ?_) ?_
  · exact (col_apply _ hb r k).trans (inv_apply x hr hc hφ ha r)
  · exact broadcastTo_1b_ab_apply g h1 r k
  · refine (broadcastTo_1b_ab_apply _ h1 r k).trans ?_
    exact congrArg (fun b : EReal => Ideal.ofBits .f32 0x3F800000#32 + b) (shapeCast_1ab_ab_apply sc h3 (0 : Fin 1) k)
  · exact (broadcastTo_1b_ab_apply _ h1 r k).trans (shapeCast_1ab_ab_apply sh h3 (0 : Fin 1) k)

end Proj

end
-- ==== Proof.Proj.Pack.lean ====
module

public import proofs.«01_k».proof.Proof.Proj.Norm
public import Idealize.ShloMosaic.Lib.Pipeline.Value

@[expose] public section

noncomputable section

/-! How the rows and their modulations are laid out for a projection: the latents' rows, then the context's. -/

namespace Proj

open Idealize.ShloMosaic Idealize.ShloMosaic.TcCoe Idealize.ShloMosaic.ValueIdx

/-- The shape of a batch of sequences. -/
abbrev cub (a b c : ℕ) : Shape := ⟨3, ![a, b, c]⟩

/-- The rows of the latents, then those of the context. -/
def stack {n : ℕ} (x : FVec Ideal (cub 8 4096 n) .f32) (y : FVec Ideal (cub 8 256 n) .f32) (hx : (cub 8 4096 n).ShapeCasts (mat 32768 n))
    (hy : (cub 8 256 n).ShapeCasts (mat 2048 n)) (hc : Shape.Concatenates [mat 32768 n, mat 2048 n] (mat 34816 n) 0) : FVec Ideal (mat 34816 n) .f32 :=
  concatenate (mat 34816 n) 0 [⟨mat 32768 n, shapeCast (mat 32768 n) x hx⟩, ⟨mat 2048 n, shapeCast (mat 2048 n) y hy⟩] hc

section rows

variable {n : ℕ} (x : FVec Ideal (cub 8 4096 n) .f32) (y : FVec Ideal (cub 8 256 n) .f32) (hx : (cub 8 4096 n).ShapeCasts (mat 32768 n))
  (hy : (cub 8 256 n).ShapeCasts (mat 2048 n)) (hc : Shape.Concatenates [mat 32768 n, mat 2048 n] (mat 34816 n) 0)

/-- A latent's row of the stack. -/
theorem stack_lat (b : Fin 8) (s : Fin 4096) (R : Fin 34816) (hR : R.val = 4096 * b.val + s.val) (k : Fin n) :
    stack x y hx hy hc (ix2 R k) = x (ix3 b s k) := by
  have hb := b.isLt; have hs := s.isLt
  refine (concatenate_pair_apply_left (s₁ := mat 32768 n) (s₂ := mat 2048 n) (t := mat 34816 n) (0 : Fin 2) _ _ hc _ rfl
    (ix2 (⟨R.val, by omega⟩ : Fin 32768) k) (fun | ⟨0, _⟩ => rfl | ⟨1, _⟩ => rfl)).trans ?_
  refine shapeCast_apply x _ _ (ix3 b s k) ?_
  rw [Shape.rowMajor_val_three, Shape.rowMajor_val_two]
  show (b.val * 4096 + s.val) * n + k.val = R.val * n + k.val
  rw [hR, Nat.mul_comm b.val]

/-- A context's row of the stack. -/
theorem stack_ctx (b : Fin 8) (s : Fin 256) (R : Fin 34816) (hR : R.val = 32768 + (256 * b.val + s.val)) (k : Fin n) :
    stack x y hx hy hc (ix2 R k) = y (ix3 b s k) := by
  have hb := b.isLt; have hs := s.isLt
  refine (concatenate_apply_piece (t := mat 34816 n) (0 : Fin 2) [⟨mat 32768 n, shapeCast (mat 32768 n) x hx⟩, ⟨mat 2048 n, shapeCast (mat 2048 n) y hy⟩] hc (ix2 R k)
    1 (by simp) (mat 2048 n) _ rfl rfl 32768 rfl (ix2 (⟨256 * b.val + s.val, by omega⟩ : Fin 2048) k)
    (fun | ⟨0, _⟩ => fun h => absurd rfl h | ⟨1, _⟩ => fun _ => rfl) hR.symm).trans ?_
  refine shapeCast_apply y _ _ (ix3 b s k) ?_
  rw [Shape.rowMajor_val_three, Shape.rowMajor_val_two]
  show (b.val * 256 + s.val) * n + k.val = (256 * b.val + s.val) * n + k.val
  rw [Nat.mul_comm b.val]

end rows

/-- The modulations, in sixteen rows cut into pieces of 1024: the latents' eight, the context's, and nothing. -/
def mods (p : FVec Ideal (mat 8 6144) .f32) (q : FVec Ideal ⟨1, ![6144]⟩ .f32) (z : FVec Ideal (mat 7 6144) .f32)
    (hq : (⟨1, ![6144]⟩ : Shape).BroadcastsInDim (mat 1 6144) ![1]) (hc : Shape.Concatenates [mat 8 6144, mat 1 6144, mat 7 6144] (mat 16 6144) 0)
    (hs : (mat 16 6144).ShapeCasts (cub 96 1 1024)) : FVec Ideal (cub 96 1 1024) .f32 :=
  shapeCast (cub 96 1 1024) (concatenate (mat 16 6144) 0 [⟨mat 8 6144, p⟩, ⟨mat 1 6144, broadcastInDim (mat 1 6144) ![1] hq q⟩, ⟨mat 7 6144, z⟩] hc) hs

section mods

variable (p : FVec Ideal (mat 8 6144) .f32) (q : FVec Ideal ⟨1, ![6144]⟩ .f32) (z : FVec Ideal (mat 7 6144) .f32)
  (hq : (⟨1, ![6144]⟩ : Shape).BroadcastsInDim (mat 1 6144) ![1]) (hc : Shape.Concatenates [mat 8 6144, mat 1 6144, mat 7 6144] (mat 16 6144) 0)
  (hs : (mat 16 6144).ShapeCasts (cub 96 1 1024))

/-- A piece of a latent's modulation. -/
theorem mods_lat (b : Fin 8) (e : Fin 6) (i : Fin 96) (hi : i.val = 6 * b.val + e.val) (k : Fin 1024) (j : Fin 6144) (hj : j.val = 1024 * e.val + k.val) :
    mods p q z hq hc hs (ix3 i (0 : Fin 1) k) = p (ix2 b j) := by
  have hb := b.isLt; have he := e.isLt
  refine (shapeCast_apply _ hs _ (ix2 (⟨b.val, by omega⟩ : Fin 16) j) ?_).trans ?_
  · rw [Shape.rowMajor_val_three, Shape.rowMajor_val_two]
    show b.val * 6144 + j.val = (i.val * 1 + 0) * 1024 + k.val
    omega
  · exact concatenate_apply_piece (t := mat 16 6144) (0 : Fin 2) [⟨mat 8 6144, p⟩, ⟨mat 1 6144, broadcastInDim (mat 1 6144) ![1] hq q⟩, ⟨mat 7 6144, z⟩] hc _
      0 (by simp) (mat 8 6144) p rfl rfl 0 rfl (ix2 b j) (fun | ⟨0, _⟩ => fun h => absurd rfl h | ⟨1, _⟩ => fun _ => rfl) (Nat.zero_add _)

/-- A piece of the context's modulation. -/
theorem mods_ctx (e : Fin 6) (i : Fin 96) (hi : i.val = 48 + e.val) (k : Fin 1024) (j : Fin 6144) (hj : j.val = 1024 * e.val + k.val) :
    mods p q z hq hc hs (ix3 i (0 : Fin 1) k) = q (ix1 j) := by
  have he := e.isLt
  refine (shapeCast_apply _ hs _ (ix2 (8 : Fin 16) j) ?_).trans ?_
  · rw [Shape.rowMajor_val_three, Shape.rowMajor_val_two]
    show 8 * 6144 + j.val = (i.val * 1 + 0) * 1024 + k.val
    omega
  · refine (concatenate_apply_piece (t := mat 16 6144) (0 : Fin 2) [⟨mat 8 6144, p⟩, ⟨mat 1 6144, broadcastInDim (mat 1 6144) ![1] hq q⟩, ⟨mat 7 6144, z⟩] hc _
      1 (by simp) (mat 1 6144) _ rfl rfl 8 rfl (ix2 (0 : Fin 1) j) (fun | ⟨0, _⟩ => fun h => absurd rfl h | ⟨1, _⟩ => fun _ => rfl) rfl).trans ?_
    exact broadcastInDim_apply _ hq q _ (ix1 j) fun | ⟨0, _⟩ => rfl

end mods

/-- The row of modulations that a row of the stack takes. -/
def modRow (R : ℕ) : ℕ := if R < 32768 then R / 4096 else 8

theorem modRow_le {R : ℕ} : modRow R ≤ 8 := by unfold modRow; split <;> omega

/-- A piece of a row's modulation. -/
def piece (M : FVec Ideal (cub 96 1 1024) .f32) (R : ℕ) (e : Fin 6) (k : Fin 1024) : EReal :=
  M (ix3 (⟨6 * modRow R + e.val, by have := modRow_le (R := R); omega⟩ : Fin 96) (0 : Fin 1) k)

/-- A row of the stack, normed and modulated, against a column of weights. -/
def outOf {n : ℕ} (X : FVec Ideal (mat 34816 1024) .f32) (M : FVec Ideal (cub 96 1 1024) .f32) (g : FVec Ideal (mat 1 1024) .f32)
    (w : FVec Ideal (mat 1024 n) .bf16) (b : FVec Ideal (mat 1 n) .f32) (R : Fin 34816) (c : Fin n) : EReal :=
  proj (fun k => X (ix2 R k)) (fun k => g (ix2 (0 : Fin 1) k)) (piece M R.val 0) (piece M R.val 1) (fun k => w (ix2 k c)) (b (ix2 (0 : Fin 1) c))

end Proj

end
-- ==== Proof.Proj.InBlock.lean ====
module

public import proofs.«01_k».proof.Proof.Proj.Pack
public import proofs.«01_k».proof.Proof.Gen.Kernel3Ideal.Value
public import Idealize.ShloMosaic.Lib.Pipeline.ValueKit.Geometry
public import Idealize.ShloMosaic.Lib.StableHlo.RunRead

@[expose] public section

set_option maxRecDepth 16384

noncomputable section

/-! What the input projection leaves in its result, block by block. -/

namespace Proj.In

open Cert.Kernel3Ideal Cert.Kernel3Ideal.Gen Idealize.ShloMosaic Idealize.ShloMosaic.ValueIdx Idealize.ShloMosaic.TcCoe
open Idealize.SL.Sem

/-- An entry of what a grid point stores. -/
theorem pay_apply (x : Vec Ideal S256x1024 .f32) (g : Vec Ideal S1x1024 .f32) (sh sc : Vec Ideal S1x1x1024 .f32) (w : Vec Ideal S1024x3072 .bf16)
    (b : Vec Ideal S1x3072 .f32) (r : Fin 256) (n : Fin 3072) :
    k0_pay1 x g sh sc w b (ix2 r n) = proj (fun k => x (ix2 r k)) (fun k => g (ix2 (0 : Fin 1) k)) (fun k => sh (ix3 (0 : Fin 1) (0 : Fin 1) k))
      (fun k => sc (ix3 (0 : Fin 1) (0 : Fin 1) k)) (fun k => w (ix2 k n)) (b (ix2 (0 : Fin 1) n)) := by
  unfold k0_pay1
  simp only [shapeCast_self]
  refine congrArg₂ (fun a b : EReal => a + b) ?_ (broadcastTo_1b_ab_apply b _ r n)
  refine (Ideal.matmul_plain_apply none _ w _ r n).trans ?_
  rw [show (constant S256x3072 .f32 0x00000000#32 : FVec Ideal S256x3072 .f32) (ix2 r n) = 0 from Ideal.ofBits_zero_f32, zero_add]
  exact Finset.sum_congr rfl fun k _ => congrArg (fun y : EReal => y * w (ix2 k n)) (norm_apply x g sh sc _ _ _ _ _ _ _ r k)

theorem index0 : ∀ t : Fin cfg0.N, win0_0.index t 0 = t.val ∧ win0_0.index t 1 = 0 :=
  (by decide +kernel : ∀ t : Fin grid0.N, _)

theorem index1 : ∀ t : Fin cfg0.N, win0_1.index t 0 = 0 ∧ win0_1.index t 1 = 0 :=
  (by decide +kernel : ∀ t : Fin grid0.N, _)

theorem index2 : ∀ t : Fin cfg0.N, win0_2.index t 0 = 6 * modRow (256 * t.val) ∧ win0_2.index t 1 = 0 ∧ win0_2.index t 2 = 0 :=
  (by decide +kernel : ∀ t : Fin grid0.N, _)

theorem index3 : ∀ t : Fin cfg0.N, win0_3.index t 0 = 6 * modRow (256 * t.val) + 1 ∧ win0_3.index t 1 = 0 ∧ win0_3.index t 2 = 0 :=
  (by decide +kernel : ∀ t : Fin grid0.N, _)

theorem index4 : ∀ t : Fin cfg0.N, win0_4.index t 0 = 0 ∧ win0_4.index t 1 = 0 :=
  (by decide +kernel : ∀ t : Fin grid0.N, _)

theorem index5 : ∀ t : Fin cfg0.N, win0_5.index t 0 = 0 ∧ win0_5.index t 1 = 0 :=
  (by decide +kernel : ∀ t : Fin grid0.N, _)

theorem index6 : ∀ t : Fin cfg0.N, win0_6.index t 0 = t.val ∧ win0_6.index t 1 = 0 :=
  (by decide +kernel : ∀ t : Fin grid0.N, _)

/-- The rows of a block take one row of modulations. -/
theorem modRow_block (t r : ℕ) (hr : r < 256) : modRow (256 * t + r) = modRow (256 * t) := by
  unfold modRow
  split <;> split <;> omega

variable (m : (ℓ : Loc nD τ sig) → Buf (Elt Ideal) ℓ) (c : Dev nD)

/-- The block of rows at a point. -/
theorem x0 (t : Fin cfg0.N) (r : Fin 256) (k : Fin 1024) (R : Fin 34816) (hR : R.val = 256 * t.val + r.val) :
    (iblk m c 0 t : Vec Ideal S256x1024 .f32) (ix2 r k) = (V m c main_v2 : FVec Ideal S34816x1024 .f32) (ix2 R k) := by
  have hi := index0 t
  refine congrArg (V m c main_v2 : FVec Ideal S34816x1024 .f32) (funext fun a => Fin.ext ?_)
  match a with
  | ⟨0, _⟩ =>
    refine (Pipeline.Window.rect_emb_val win0_0 t (ix2 r k) 0).trans ?_
    show win0_0.index t 0 * 256 + r.val = R.val
    omega
  | ⟨1, _⟩ =>
    refine (Pipeline.Window.rect_emb_val win0_0 t (ix2 r k) 1).trans ?_
    show win0_0.index t 1 * 1024 + k.val = k.val
    omega

/-- The gains at a point. -/
theorem x1 (t : Fin cfg0.N) (k : Fin 1024) :
    (iblk m c 1 t : Vec Ideal S1x1024 .f32) (ix2 (0 : Fin 1) k) = (V m c main_v7 : FVec Ideal S1x1024 .f32) (ix2 (0 : Fin 1) k) := by
  have hi := index1 t
  refine congrArg (V m c main_v7 : FVec Ideal S1x1024 .f32) (funext fun a => Fin.ext ?_)
  match a with
  | ⟨0, _⟩ =>
    refine (Pipeline.Window.rect_emb_val win0_1 t (ix2 (0 : Fin 1) k) 0).trans ?_
    show win0_1.index t 0 * 1 + 0 = 0
    omega
  | ⟨1, _⟩ =>
    refine (Pipeline.Window.rect_emb_val win0_1 t (ix2 (0 : Fin 1) k) 1).trans ?_
    show win0_1.index t 1 * 1024 + k.val = k.val
    omega

/-- The shift at a point. -/
theorem x2 (t : Fin cfg0.N) (r : ℕ) (hr : r < 256) (k : Fin 1024) :
    (iblk m c 2 t : Vec Ideal S1x1x1024 .f32) (ix3 (0 : Fin 1) (0 : Fin 1) k) = piece (V m c main_v6 : FVec Ideal S96x1x1024 .f32) (256 * t.val + r) 0 k := by
  have hi := index2 t
  have hm := modRow_block t.val r hr
  refine congrArg (V m c main_v6 : FVec Ideal S96x1x1024 .f32) (funext fun a => Fin.ext ?_)
  match a with
  | ⟨0, _⟩ =>
    refine (Pipeline.Window.rect_emb_val win0_2 t (ix3 (0 : Fin 1) (0 : Fin 1) k) 0).trans ?_
    show win0_2.index t 0 * 1 + 0 = 6 * modRow (256 * t.val + r) + 0
    omega
  | ⟨1, _⟩ =>
    refine (Pipeline.Window.rect_emb_val win0_2 t (ix3 (0 : Fin 1) (0 : Fin 1) k) 1).trans ?_
    show win0_2.index t 1 * 1 + 0 = 0
    omega
  | ⟨2, _⟩ =>
    refine (Pipeline.Window.rect_emb_val win0_2 t (ix3 (0 : Fin 1) (0 : Fin 1) k) 2).trans ?_
    show win0_2.index t 2 * 1024 + k.val = k.val
    omega

/-- The scale at a point. -/
theorem x3 (t : Fin cfg0.N) (r : ℕ) (hr : r < 256) (k : Fin 1024) :
    (iblk m c 3 t : Vec Ideal S1x1x1024 .f32) (ix3 (0 : Fin 1) (0 : Fin 1) k) = piece (V m c main_v6 : FVec Ideal S96x1x1024 .f32) (256 * t.val + r) 1 k := by
  have hi := index3 t
  have hm := modRow_block t.val r hr
  refine congrArg (V m c main_v6 : FVec Ideal S96x1x1024 .f32) (funext fun a => Fin.ext ?_)
  match a with
  | ⟨0, _⟩ =>
    refine (Pipeline.Window.rect_emb_val win0_3 t (ix3 (0 : Fin 1) (0 : Fin 1) k) 0).trans ?_
    show win0_3.index t 0 * 1 + 0 = 6 * modRow (256 * t.val + r) + 1
    omega
  | ⟨1, _⟩ =>
    refine (Pipeline.Window.rect_emb_val win0_3 t (ix3 (0 : Fin 1) (0 : Fin 1) k) 1).trans ?_
    show win0_3.index t 1 * 1 + 0 = 0
    omega
  | ⟨2, _⟩ =>
    refine (Pipeline.Window.rect_emb_val win0_3 t (ix3 (0 : Fin 1) (0 : Fin 1) k) 2).trans ?_
    show win0_3.index t 2 * 1024 + k.val = k.val
    omega

/-- The weights at a point. -/
theorem x4 (t : Fin cfg0.N) (k : Fin 1024) (n : Fin 3072) :
    (iblk m c 4 t : Vec Ideal S1024x3072 .bf16) (ix2 k n) = (V m c main_v8 : FVec Ideal S1024x3072 .bf16) (ix2 k n) := by
  have hi := index4 t
  refine congrArg (V m c main_v8 : FVec Ideal S1024x3072 .bf16) (funext fun a => Fin.ext ?_)
  match a with
  | ⟨0, _⟩ =>
    refine (Pipeline.Window.rect_emb_val win0_4 t (ix2 k n) 0).trans ?_
    show win0_4.index t 0 * 1024 + k.val = k.val
    omega
  | ⟨1, _⟩ =>
    refine (Pipeline.Window.rect_emb_val win0_4 t (ix2 k n) 1).trans ?_
    show win0_4.index t 1 * 3072 + n.val = n.val
    omega

/-- The biases at a point. -/
theorem x5 (t : Fin cfg0.N) (n : Fin 3072) :
    (iblk m c 5 t : Vec Ideal S1x3072 .f32) (ix2 (0 : Fin 1) n) = (V m c main_v9 : FVec Ideal S1x3072 .f32) (ix2 (0 : Fin 1) n) := by
  have hi := index5 t
  refine congrArg (V m c main_v9 : FVec Ideal S1x3072 .f32) (funext fun a => Fin.ext ?_)
  match a with
  | ⟨0, _⟩ =>
    refine (Pipeline.Window.rect_emb_val win0_5 t (ix2 (0 : Fin 1) n) 0).trans ?_
    show win0_5.index t 0 * 1 + 0 = 0
    omega
  | ⟨1, _⟩ =>
    refine (Pipeline.Window.rect_emb_val win0_5 t (ix2 (0 : Fin 1) n) 1).trans ?_
    show win0_5.index t 1 * 3072 + n.val = n.val
    omega

/-- The projection of the arrays that the launch finds. -/
def result : Buf (Elt Ideal) ((c : Thread nD τ).loc main_v10) :=
  fun y : S34816x3072.Idx => outOf (V m c main_v2 : FVec Ideal S34816x1024 .f32) (V m c main_v6 : FVec Ideal S96x1x1024 .f32)
    (V m c main_v7 : FVec Ideal S1x1024 .f32) (V m c main_v8 : FVec Ideal S1024x3072 .bf16) (V m c main_v9 : FVec Ideal S1x3072 .f32) (y 0) (y 1)

/-- What a grid point stores, of the blocks that it reads. -/
theorem out_eq (x : Vec Ideal S256x1024 .f32) (g : Vec Ideal S1x1024 .f32) (sh sc : Vec Ideal S1x1x1024 .f32) (w : Vec Ideal S1024x3072 .bf16)
    (b : Vec Ideal S1x3072 .f32) : out0_6 (F := Ideal) x g sh sc w b = k0_pay1 x g sh sc w b := by
  unfold out0_6
  rw [View.canon_cons_unit_lit, View.ld_unit_lit, View.ld_unit_lit, View.ld_unit_lit, View.ld_unit_lit, View.ld_unit_lit, View.ld_unit_lit] <;> decide

/-- What a grid point writes back. -/
def blockOut (t : Fin cfg0.N) : S256x3072.Idx → EReal :=
  out0_6 (F := Ideal) (iblk m c 0 t) (iblk m c 1 t) (iblk m c 2 t) (iblk m c 3 t) (iblk m c 4 t) (iblk m c 5 t)

/-- What a grid point writes back, at an entry of its block. -/
theorem block_apply (t : Fin cfg0.N) (r : Fin 256) (n : Fin 3072) (R : Fin 34816) (hR : R.val = 256 * t.val + r.val) :
    blockOut m c t (ix2 r n) =
      outOf (V m c main_v2 : FVec Ideal S34816x1024 .f32) (V m c main_v6 : FVec Ideal S96x1x1024 .f32)
    (V m c main_v7 : FVec Ideal S1x1024 .f32) (V m c main_v8 : FVec Ideal S1024x3072 .bf16) (V m c main_v9 : FVec Ideal S1x3072 .f32) R n := by
  unfold blockOut
  refine (congrFun (out_eq _ _ _ _ _ _) _).trans ((pay_apply _ _ _ _ _ _ r n).trans ?_)
  unfold outOf
  refine proj_congr (fun k => x0 m c t r k R hR) (fun k => x1 m c t k) (fun k => ?_) (fun k => ?_) (fun k => x4 m c t k n) (x5 m c t n)
  · rw [hR]; exact x2 m c t r.val r.isLt k
  · rw [hR]; exact x3 m c t r.val r.isLt k

/-- The same, of the entry's place in the array. -/
theorem block_at (t : Fin cfg0.N) (r : Fin 256) (n : Fin 3072) (z : S34816x3072.Idx) (h0 : (z 0).val = 256 * t.val + r.val) (h1 : (z 1).val = n.val) :
    blockOut m c t (ix2 r n) = (result m c : S34816x3072.Idx → EReal) z := by
  obtain rfl : z 1 = n := Fin.ext h1
  exact block_apply m c t r (z 1) (z 0) h0

/-- The row of the array that an entry of a block lies in. -/
theorem emb_row (t : Fin cfg0.N) (y : ((cfg0.win 6).xblock (cfg0.grid.coords t)).Idx) :
    ((((cfg0.win 6).blk t).view.emb y) 0).val = 256 * t.val + (y 0).val := by
  have hi := index6 t
  refine (Pipeline.Window.rect_emb_val win0_6 t y 0).trans ?_
  show win0_6.index t 0 * 256 + (y 0).val = _
  omega

/-- The column of the array that an entry of a block lies in. -/
theorem emb_col (t : Fin cfg0.N) (y : ((cfg0.win 6).xblock (cfg0.grid.coords t)).Idx) :
    ((((cfg0.win 6).blk t).view.emb y) 1).val = (y 1).val := by
  have hi := index6 t
  refine (Pipeline.Window.rect_emb_val win0_6 t y 1).trans ?_
  show win0_6.index t 1 * 3072 + (y 1).val = (y 1).val
  omega

/-- An entry of the block that a point writes back. -/
theorem entry (t : Fin cfg0.N) (y : ((cfg0.win 6).xblock (cfg0.grid.coords t)).Idx) :
    blockOut m c t ((cfg0.win 6).xinj (cfg0.grid.coords t) y) = (result m c : S34816x3072.Idx → EReal) (((cfg0.win 6).blk t).view.emb y) := by
  have hy0 : (y 0).val < 256 := (y 0).isLt
  have hy1 : (y 1).val < 3072 := (y 1).isLt
  have hx : (cfg0.win 6).xinj (cfg0.grid.coords t) y = ix2 (⟨(y 0).val, hy0⟩ : Fin 256) (⟨(y 1).val, hy1⟩ : Fin 3072) := eq_ix2 _
  rw [hx]
  exact block_at m c t _ _ _ (emb_row t y) (emb_col t y)

/-- The array that the run leaves, of the blocks that its points write back. -/
theorem of_blocks (f : Buf (Elt Ideal) ((c : Thread nD τ).loc main_v10))
    (h : ∀ (t : Fin cfg0.N) (y : ((cfg0.win 6).xblock (cfg0.grid.coords t)).Idx),
      blockOut m c t ((cfg0.win 6).xinj (cfg0.grid.coords t) y) = (f : S34816x3072.Idx → EReal) (((cfg0.win 6).blk t).view.emb y)) :
    (dats m 0 c).arrAt 6 cfg0.N = f := by
  refine (dats m 0 c).arrAt_eq_of_covers 6 f (by decide +kernel) fun t _ y => ?_
  rw [after0_6]
  exact (cast_eq _ _).trans (h t y)

/-- After the run the result array holds the projection. -/
theorem final : (dats m 0 c).arrAt 6 cfg0.N = result m c :=
  of_blocks m c (result m c) (entry m c)

end Proj.In

end
-- ==== Proof.Proj.InHost.lean ====
module

public import proofs.«01_k».proof.Proof.Proj.InBlock

@[expose] public section

set_option maxRecDepth 16384

noncomputable section

/-! The arrays that the input projection's launch finds, as the host code makes them. -/

namespace Proj.In

open Cert.Kernel3Ideal Cert.Kernel3Ideal.Gen Idealize.ShloMosaic Idealize.ShloMosaic.ValueIdx Idealize.ShloMosaic.TcCoe
open Idealize.SL.Sem

variable (m : (ℓ : Loc nD τ sig) → Buf (Elt Ideal) ℓ) (c : Dev nD)

/-- The rows. -/
theorem V_rows : (V m c main_v2 : S34816x1024.Idx → EReal) =
    stack (m ((c : Thread nD τ).loc main_arg0)) (m ((c : Thread nD τ).loc main_arg1)) shapeCasts_S8x4096x1024_S32768x1024
      shapeCasts_S8x256x1024_S2048x1024 concatenates_S32768x1024_S2048x1024_S34816x1024_d0 := by
  unfold V
  after_reads_simp
  rfl

/-- The modulations. -/
theorem V_mods : (V m c main_v6 : S96x1x1024.Idx → EReal) =
    mods (m ((c : Thread nD τ).loc main_arg3)) (m ((c : Thread nD τ).loc main_arg4)) (broadcastInDim S7x6144 ![] bcast_S_S7x6144 (constant S_ .f32 0x00000000#32))
      bcast_S6144_S1x6144_1 concatenates_S8x6144_S1x6144_S7x6144_S16x6144_d0 shapeCasts_S16x6144_S96x1x1024 := by
  unfold V
  after_reads_simp
  rfl

/-- The gain. -/
theorem V_gain : (V m c main_v7 : S1x1024.Idx → EReal) = shapeCast S1x1024 (m ((c : Thread nD τ).loc main_arg2)) shapeCasts_S1024_S1x1024 := by
  unfold V
  after_reads_simp
  rfl

/-- The weights. -/
theorem V_weights : (V m c main_v8 : S1024x3072.Idx → EReal) = m ((c : Thread nD τ).loc main_arg5) := by
  unfold V
  after_reads_simp
  rfl

/-- The biases. -/
theorem V_bias : (V m c main_v9 : S1x3072.Idx → EReal) = shapeCast S1x3072 (m ((c : Thread nD τ).loc main_arg6)) shapeCasts_S3072_S1x3072 := by
  unfold V
  after_reads_simp
  rfl

end Proj.In

end
-- ==== Proof.Proj.RefNorm.lean ====
module

public import proofs.«01_k».proof.Proof.Proj.Norm
public import proofs.«01_k».proof.Proof.Gen.Reference3Ideal.Read

@[expose] public section

noncomputable section

/-! The plain projection's modulated norm, read at a row of the latents and at a row of the context. -/

namespace Proj

open Cert.Reference3Ideal Cert.Reference3Ideal.Gen Cert.Reference3Ideal.Read Idealize.ShloMosaic Idealize.ShloMosaic.ValueIdx Idealize.ShloMosaic.TcCoe

/-- A column of the shift's piece. -/
def lo (k : Fin 1024) : Fin 6144 := ⟨k.val, by omega⟩
/-- A column of the scale's piece. -/
def hi (k : Fin 1024) : Fin 6144 := ⟨1024 + k.val, by omega⟩

/-- A latent's row, normed and modulated by its batch entry's modulation. -/
abbrev latNorm (a0 : FVec Ideal S8x4096x1024 .f32) (a2 : FVec Ideal S1024 .f32) (a3 : FVec Ideal S8x6144 .f32) (b : Fin 8) (s : Fin 4096) :
    Fin 1024 → EReal :=
  normed (fun k => a0 (ix3 b s k)) (fun k => a2 (ix1 k)) (fun k => a3 (ix2 b (lo k))) (fun k => a3 (ix2 b (hi k)))

/-- A context's row, normed and modulated. -/
abbrev ctxNorm (a1 : FVec Ideal S8x256x1024 .f32) (a2 : FVec Ideal S1024 .f32) (a4 : FVec Ideal S6144 .f32) (b : Fin 8) (s : Fin 256) :
    Fin 1024 → EReal :=
  normed (fun k => a1 (ix3 b s k)) (fun k => a2 (ix1 k)) (fun k => a4 (ix1 (lo k))) (fun k => a4 (ix1 (hi k)))

variable (a0 : FVec Ideal S8x4096x1024 .f32) (a1 : FVec Ideal S8x256x1024 .f32) (a2 : FVec Ideal S1024 .f32)
  (a3 : FVec Ideal S8x6144 .f32) (a4 : FVec Ideal S6144 .f32)

/-- The inverse root of a latent's mean square. -/
theorem ref_inv_lat (b : Fin 8) (s : Fin 4096) :
    val_main_v11 (F := Ideal) a0 (ix3 b s (0 : Fin 1)) = inv fun k => a0 (ix3 b s k) := by
  rw [val_main_v11_apply, val_main_v10_apply, val_main_v9_apply, val_main_v8_apply, val_main_v7_apply, val_main_v6_apply, val_main_v5_apply]
  refine congrArg (fun s : EReal => Ideal.rsqrt (Ideal.div s (Ideal.ofBits .f32 0x44800000#32) + Ideal.ofBits .f32 0x358637BD#32)) ?_
  rw [show (val_main_cst (F := Ideal)) (Shape.Idx.first h_S_) = 0 from Ideal.ofBits_zero_f32, zero_add]
  exact Finset.sum_congr rfl fun k _ => congrArg (fun i => a0 i * a0 i) (eq_ix3 _)

/-- The inverse root of a context row's mean square. -/
theorem ref_inv_ctx (b : Fin 8) (s : Fin 256) :
    val_main_v32 (F := Ideal) a1 (ix3 b s (0 : Fin 1)) = inv fun k => a1 (ix3 b s k) := by
  rw [val_main_v32_apply, val_main_v31_apply, val_main_v30_apply, val_main_v29_apply, val_main_v28_apply, val_main_v27_apply, val_main_v26_apply]
  refine congrArg (fun s : EReal => Ideal.rsqrt (Ideal.div s (Ideal.ofBits .f32 0x44800000#32) + Ideal.ofBits .f32 0x358637BD#32)) ?_
  rw [show (val_main_cst_3 (F := Ideal)) (Shape.Idx.first h_S_) = 0 from Ideal.ofBits_zero_f32, zero_add]
  exact Finset.sum_congr rfl fun k _ => congrArg (fun i => a1 i * a1 i) (eq_ix3 _)

/-- The latents' modulated norm. -/
theorem ref_lat (b : Fin 8) (s : Fin 4096) (k : Fin 1024) :
    val_main_v22 (F := Ideal) a0 a2 a3 (ix3 b s k) = latNorm a0 a2 a3 b s k := by
  rw [val_main_v22_apply, val_main_v20_apply, val_main_v16_apply, val_main_v13_apply, val_main_v12_apply, val_main_v15_apply, val_main_v14_apply,
    val_main_v19_apply, val_main_v18_apply, val_main_v17_apply, val_main_v3_apply, val_main_v2_apply, val_main_v21_apply, val_main_v1_apply, val_main_v0_apply]
  refine congrArg₂ (fun a b : EReal => a + b) (congrArg₂ (fun a b : EReal => a * b) (congrArg₂ (fun a b : EReal => a * b)
    (congrArg (fun y : EReal => a0 (ix3 b s k) * y) ?_) (congrArg a2 (eq_ix1 _))) (congrArg (fun y : EReal => Ideal.ofBits .f32 0x3F800000#32 + y) (congrArg a3 (eq_ix2 _))))
    (congrArg a3 (eq_ix2 _))
  exact (congrArg (val_main_v11 (F := Ideal) a0) (eq_ix3 _)).trans (ref_inv_lat a0 b s)

/-- The context's modulated norm. -/
theorem ref_ctx (b : Fin 8) (s : Fin 256) (k : Fin 1024) :
    val_main_v45 (F := Ideal) a1 a2 a4 (ix3 b s k) = ctxNorm a1 a2 a4 b s k := by
  rw [val_main_v45_apply, val_main_v42_apply, val_main_v37_apply, val_main_v34_apply, val_main_v33_apply, val_main_v36_apply, val_main_v35_apply,
    val_main_v41_apply, val_main_v40_apply, val_main_v39_apply, val_main_v38_apply, val_main_v24_apply, val_main_v44_apply, val_main_v43_apply, val_main_v23_apply]
  refine congrArg₂ (fun a b : EReal => a + b) (congrArg₂ (fun a b : EReal => a * b) (congrArg₂ (fun a b : EReal => a * b)
    (congrArg (fun y : EReal => a1 (ix3 b s k) * y) ?_) (congrArg a2 (eq_ix1 _))) (congrArg (fun y : EReal => Ideal.ofBits .f32 0x3F800000#32 + y) (congrArg a4 (eq_ix1 _))))
    (congrArg a4 (eq_ix1 _))
  exact (congrArg (val_main_v32 (F := Ideal) a1) (eq_ix3 _)).trans (ref_inv_ctx a1 b s)

end Proj

end
-- ==== Proof.Proj.InRef.lean ====
module

public import proofs.«01_k».proof.Proof.Proj.RefNorm
public import proofs.«01_k».proof.Proof.Proj.Pack

@[expose] public section

noncomputable section

/-! The plain input projection, read at a row of the latents and at a row of the context. -/

namespace Proj

open Cert.Reference3Ideal Cert.Reference3Ideal.Gen Cert.Reference3Ideal.Read Idealize.ShloMosaic Idealize.ShloMosaic.ValueIdx Idealize.ShloMosaic.TcCoe

variable (a0 : FVec Ideal S8x4096x1024 .f32) (a1 : FVec Ideal S8x256x1024 .f32) (a2 : FVec Ideal S1024 .f32)
  (a3 : FVec Ideal S8x6144 .f32) (a4 : FVec Ideal S6144 .f32) (a5 : FVec Ideal S1024x3072 .f32) (a6 : FVec Ideal S3072 .f32)

/-- A latent's projection. -/
theorem in_lat (b : Fin 8) (s : Fin 4096) (n : Fin 3072) (R : Fin 34816) (hR : R.val = 4096 * b.val + s.val) :
    val_main_v57 (F := Ideal) a0 a1 a2 a3 a4 a5 a6 (ix2 R n) = (∑ k, latNorm a0 a2 a3 b s k * a5 (ix2 k n)) + a6 (ix1 n) := by
  rw [val_main_v57_apply]
  refine (stack_lat (n := 3072) (val_main_v49 (F := Ideal) a0 a2 a3 a5 a6) (val_main_v53 (F := Ideal) a1 a2 a4 a5 a6) shapeCasts_S8x4096x3072_S32768x3072
    shapeCasts_S8x256x3072_S2048x3072 concatenates_S32768x3072_S2048x3072_S34816x3072_d0 b s R hR n).trans ?_
  rw [val_main_v49_apply, val_main_v46_apply, val_main_v48_apply, val_main_v47_apply]
  refine congrArg₂ (fun a b : EReal => a + b) (Finset.sum_congr rfl fun k _ => congrArg₂ (fun a b : EReal => a * b) ?_ (congrArg a5 (eq_ix2 _))) (congrArg a6 (eq_ix1 _))
  exact (congrArg (val_main_v22 (F := Ideal) a0 a2 a3) (eq_ix3 _)).trans (ref_lat a0 a2 a3 b s k)

/-- A context row's projection. -/
theorem in_ctx (b : Fin 8) (s : Fin 256) (n : Fin 3072) (R : Fin 34816) (hR : R.val = 32768 + (256 * b.val + s.val)) :
    val_main_v57 (F := Ideal) a0 a1 a2 a3 a4 a5 a6 (ix2 R n) = (∑ k, ctxNorm a1 a2 a4 b s k * a5 (ix2 k n)) + a6 (ix1 n) := by
  rw [val_main_v57_apply]
  refine (stack_ctx (n := 3072) (val_main_v49 (F := Ideal) a0 a2 a3 a5 a6) (val_main_v53 (F := Ideal) a1 a2 a4 a5 a6) shapeCasts_S8x4096x3072_S32768x3072
    shapeCasts_S8x256x3072_S2048x3072 concatenates_S32768x3072_S2048x3072_S34816x3072_d0 b s R hR n).trans ?_
  rw [val_main_v53_apply, val_main_v50_apply, val_main_v52_apply, val_main_v51_apply]
  refine congrArg₂ (fun a b : EReal => a + b) (Finset.sum_congr rfl fun k _ => congrArg₂ (fun a b : EReal => a * b) ?_ (congrArg a5 (eq_ix2 _))) (congrArg a6 (eq_ix1 _))
  exact (congrArg (val_main_v45 (F := Ideal) a1 a2 a4) (eq_ix3 _)).trans (ref_ctx a1 a2 a4 b s k)

end Proj

end
-- ==== Proof.Proj.Sheet.lean ====
module

public import proofs.«01_k».proof.Proof.Proj.RefNorm
public import proofs.«01_k».proof.Proof.Proj.Pack

@[expose] public section

noncomputable section

/-! The projection of the stacked rows, in terms of the arrays that were stacked. -/

namespace Proj

open Idealize.ShloMosaic Idealize.ShloMosaic.TcCoe Idealize.ShloMosaic.ValueIdx

/-- A vector written as a matrix of one row. -/
theorem flat_apply {n : ℕ} (g : FVec Ideal ⟨1, ![n]⟩ .f32) (h : (⟨1, ![n]⟩ : Shape).ShapeCasts (mat 1 n)) (k : Fin n) :
    shapeCast (mat 1 n) g h (ix2 (0 : Fin 1) k) = g (ix1 k) := by
  refine shapeCast_apply g h _ (ix1 k) ?_
  rw [Shape.rowMajor_val_one, Shape.rowMajor_val_two]
  show k.val = 0 * n + k.val
  omega

section

variable {n : ℕ} (x : FVec Ideal (cub 8 4096 1024) .f32) (y : FVec Ideal (cub 8 256 1024) .f32) (hx : (cub 8 4096 1024).ShapeCasts (mat 32768 1024))
  (hy : (cub 8 256 1024).ShapeCasts (mat 2048 1024)) (hc : Shape.Concatenates [mat 32768 1024, mat 2048 1024] (mat 34816 1024) 0)
  (p : FVec Ideal (mat 8 6144) .f32) (q : FVec Ideal ⟨1, ![6144]⟩ .f32) (z : FVec Ideal (mat 7 6144) .f32)
  (hq : (⟨1, ![6144]⟩ : Shape).BroadcastsInDim (mat 1 6144) ![1]) (hm : Shape.Concatenates [mat 8 6144, mat 1 6144, mat 7 6144] (mat 16 6144) 0)
  (hs : (mat 16 6144).ShapeCasts (cub 96 1 1024))
  (g : FVec Ideal ⟨1, ![1024]⟩ .f32) (hg : (⟨1, ![1024]⟩ : Shape).ShapeCasts (mat 1 1024)) (w : FVec Ideal (mat 1024 n) .bf16)
  (b : FVec Ideal ⟨1, ![n]⟩ .f32) (hb : (⟨1, ![n]⟩ : Shape).ShapeCasts (mat 1 n))

/-- The projection of a latent's row. -/
theorem outOf_lat (i : Fin 8) (s : Fin 4096) (R : Fin 34816) (hR : R.val = 4096 * i.val + s.val) (c : Fin n) :
    outOf (stack x y hx hy hc) (mods p q z hq hm hs) (shapeCast (mat 1 1024) g hg) w (shapeCast (mat 1 n) b hb) R c =
      (∑ k, latNorm x g p i s k * w (ix2 k c)) + b (ix1 c) := by
  have hlt := i.isLt; have hs' := s.isLt
  have hrow : modRow R.val = i.val := by
    unfold modRow
    rw [if_pos (by omega), hR]
    omega
  refine proj_congr (fun k => stack_lat x y hx hy hc i s R hR k) (fun k => flat_apply g hg k) (fun k => ?_) (fun k => ?_) (fun _ => rfl) (flat_apply b hb c)
  · exact mods_lat p q z hq hm hs i 0 _ (by show 6 * modRow R.val + 0 = _; rw [hrow]; rfl) k (lo k) (by show k.val = 1024 * 0 + k.val; omega)
  · exact mods_lat p q z hq hm hs i 1 _ (by show 6 * modRow R.val + 1 = _; rw [hrow]; rfl) k (hi k) (by show 1024 + k.val = 1024 * 1 + k.val; omega)

/-- The projection of a context row. -/
theorem outOf_ctx (i : Fin 8) (s : Fin 256) (R : Fin 34816) (hR : R.val = 32768 + (256 * i.val + s.val)) (c : Fin n) :
    outOf (stack x y hx hy hc) (mods p q z hq hm hs) (shapeCast (mat 1 1024) g hg) w (shapeCast (mat 1 n) b hb) R c =
      (∑ k, ctxNorm y g q i s k * w (ix2 k c)) + b (ix1 c) := by
  have hrow : modRow R.val = 8 := by
    unfold modRow
    rw [if_neg (by omega)]
  refine proj_congr (fun k => stack_ctx x y hx hy hc i s R hR k) (fun k => flat_apply g hg k) (fun k => ?_) (fun k => ?_) (fun _ => rfl) (flat_apply b hb c)
  · exact mods_ctx p q z hq hm hs 0 _ (by show 6 * modRow R.val + 0 = _; rw [hrow]; rfl) k (lo k) (by show k.val = 1024 * 0 + k.val; omega)
  · exact mods_ctx p q z hq hm hs 1 _ (by show 6 * modRow R.val + 1 = _; rw [hrow]; rfl) k (hi k) (by show 1024 + k.val = 1024 * 1 + k.val; omega)

end

end Proj

end
-- ==== Proof.Proj.In.lean ====
module

public import proofs.«01_k».proof.Defs
public import proofs.«01_k».proof.Proof.Proj.InHost
public import proofs.«01_k».proof.Proof.Proj.InRef
public import proofs.«01_k».proof.Proof.Proj.Sheet
public import proofs.«01_k».proof.Proof.Gen.Reference3Ideal.Run
public import Idealize.ShloMosaic.Lib.Quiescent

@[expose] public section

noncomputable section

/-! The input projection: the kernel and the plain mathematics end with equal results. -/

namespace Proj.In

open Idealize.ShloMosaic Idealize.SL.Sem Idealize.ShloMosaic.ValueIdx Idealize.ShloMosaic.TcCoe

section

open Cert.Kernel3Ideal Cert.Kernel3Ideal.Gen

variable (m : (ℓ : Loc nD τ sig) → Buf (Elt Ideal) ℓ) (c : Dev nD)

/-- An entry of the result, of the arguments. -/
theorem result_apply (R : Fin 34816) (n : Fin 3072) : (result m c : S34816x3072.Idx → EReal) (ix2 R n) =
    Cert.Reference3Ideal.Read.val_main_v57 (F := Ideal) (m ((c : Thread nD τ).loc main_arg0)) (m ((c : Thread nD τ).loc main_arg1))
      (m ((c : Thread nD τ).loc main_arg2)) (m ((c : Thread nD τ).loc main_arg3)) (m ((c : Thread nD τ).loc main_arg4))
      (m ((c : Thread nD τ).loc main_arg5)) (m ((c : Thread nD τ).loc main_arg6)) (ix2 R n) := by
  show outOf (V m c main_v2) (V m c main_v6) (V m c main_v7) (V m c main_v8) (V m c main_v9) R n = _
  rw [V_rows, V_mods, V_gain, V_weights, V_bias]
  by_cases h : R.val < 32768
  · have hR : R.val = 4096 * (⟨R.val / 4096, by omega⟩ : Fin 8).val + (⟨R.val % 4096, by omega⟩ : Fin 4096).val := by
      show R.val = 4096 * (R.val / 4096) + R.val % 4096
      omega
    exact (outOf_lat _ _ _ _ _ _ _ _ _ _ _ _ _ _ _ _ _ _ R hR n).trans (in_lat _ _ _ _ _ _ _ _ _ n R hR).symm
  · have hR : R.val = 32768 + (256 * (⟨(R.val - 32768) / 256, by omega⟩ : Fin 8).val + (⟨(R.val - 32768) % 256, by omega⟩ : Fin 256).val) := by
      show R.val = 32768 + (256 * ((R.val - 32768) / 256) + (R.val - 32768) % 256)
      omega
    exact (outOf_ctx _ _ _ _ _ _ _ _ _ _ _ _ _ _ _ _ _ _ R hR n).trans (in_ctx _ _ _ _ _ _ _ _ _ n R hR).symm

/-- What the kernel leaves in its result array: the reference's value of the arguments. -/
theorem kernel_value : (dats m 0 c).arrAt 6 cfg0.N =
    (Cert.Reference3Ideal.Read.val_main_v57 (F := Ideal) (m ((c : Thread nD τ).loc main_arg0)) (m ((c : Thread nD τ).loc main_arg1))
      (m ((c : Thread nD τ).loc main_arg2)) (m ((c : Thread nD τ).loc main_arg3)) (m ((c : Thread nD τ).loc main_arg4))
      (m ((c : Thread nD τ).loc main_arg5)) (m ((c : Thread nD τ).loc main_arg6)) : Buf (Elt Ideal) ((c : Thread nD τ).loc main_v10)) := by
  refine (final m c).trans (funext ?_)
  have key : ∀ y : S34816x3072.Idx, (result m c : S34816x3072.Idx → EReal) y =
      Cert.Reference3Ideal.Read.val_main_v57 (F := Ideal) (m ((c : Thread nD τ).loc main_arg0)) (m ((c : Thread nD τ).loc main_arg1))
        (m ((c : Thread nD τ).loc main_arg2)) (m ((c : Thread nD τ).loc main_arg3)) (m ((c : Thread nD τ).loc main_arg4))
        (m ((c : Thread nD τ).loc main_arg5)) (m ((c : Thread nD τ).loc main_arg6)) y := fun y => by
    rw [eq_ix2 y]
    exact result_apply m c (y 0) (y 1)
  exact key

end

/-- The kernel and the plain projection end with equal results. -/
theorem projects : Cert.algebraic_Kernel3Ideal_Reference3Ideal := by
  intro m g m' g' _ hagree
  refine ⟨fun c => (Cert.Kernel3Ideal.Gen.dats m 0 c).arrAt 6 Cert.Kernel3Ideal.cfg0.N, Cert.Kernel3Ideal.Value.run_blocks m g, ?_⟩
  refine (θ_run Cert.Reference3Ideal.defs _ _).mono (fun r h c => ⟨?_, (h c).2⟩) (Cert.Reference3Ideal.Value.run (F := Ideal) m' g')
  rw [(h c).1, Cert.Reference3Ideal.Read.val_main_v57_eq]
  obtain ⟨e0, e1, e2, e3, e4, e5, e6⟩ := hagree c
  rw [e0, e1, e2, e3, e4, e5, e6]
  exact (kernel_value m c).symm

/-- The plain projection ends with its arguments as they were and no semaphore raised. -/
theorem reference_frame : Cert.quiescent_Reference3Ideal := fun m g _ =>
  (θ_run Cert.Reference3Ideal.defs _ _).mono (fun r h => ⟨fun c => (h c).2, sem_eq_zero_of_no_sems rfl _⟩)
    (Cert.Reference3Ideal.Value.run (F := Ideal) m g)

end Proj.In

end
-- ==== Proof.Proj.GluBlock.lean ====
module

public import proofs.«01_k».proof.Proof.Proj.Pack
public import proofs.«01_k».proof.Proof.Gen.Kernel4Ideal.Value
public import Idealize.ShloMosaic.Lib.Pipeline.ValueKit.Geometry
public import Idealize.ShloMosaic.Lib.StableHlo.RunRead

@[expose] public section

set_option maxRecDepth 16384

noncomputable section

/-! What the gated projection leaves in its result, block by block. -/

namespace Proj.Glu

open Cert.Kernel4Ideal Cert.Kernel4Ideal.Gen Idealize.ShloMosaic Idealize.ShloMosaic.ValueIdx Idealize.ShloMosaic.TcCoe
open Idealize.SL.Sem

/-- The column of the values. -/
def lft (n : Fin 1024) : Fin 2048 := ⟨n.val, by omega⟩
/-- The column of the gates. -/
def rgt (n : Fin 1024) : Fin 2048 := ⟨1024 + n.val, by omega⟩

/-- A value times the sigmoid of its gate. -/
def gated (a b : EReal) : EReal := a * Ideal.logistic b

/-- An entry of what a grid point stores. -/
theorem pay_apply (x : Vec Ideal S256x1024 .f32) (g : Vec Ideal S1x1024 .f32) (sh sc : Vec Ideal S1x1x1024 .f32) (w : Vec Ideal S1024x2048 .bf16)
    (b : Vec Ideal S1x2048 .f32) (r : Fin 256) (n : Fin 1024) :
    k0_pay1 x g sh sc w b (ix2 r n) = gated
      (proj (fun k => x (ix2 r k)) (fun k => g (ix2 (0 : Fin 1) k)) (fun k => sh (ix3 (0 : Fin 1) (0 : Fin 1) k))
        (fun k => sc (ix3 (0 : Fin 1) (0 : Fin 1) k)) (fun k => w (ix2 k (lft n))) (b (ix2 (0 : Fin 1) (lft n))))
      (proj (fun k => x (ix2 r k)) (fun k => g (ix2 (0 : Fin 1) k)) (fun k => sh (ix3 (0 : Fin 1) (0 : Fin 1) k))
        (fun k => sc (ix3 (0 : Fin 1) (0 : Fin 1) k)) (fun k => w (ix2 k (rgt n))) (b (ix2 (0 : Fin 1) (rgt n)))) := by
  unfold k0_pay1
  simp only [shapeCast_self]
  refine congrArg₂ gated ((slice2_axis1_apply 0 _ _ r n (lft n) (Nat.zero_add _).symm).trans ?_)
    ((slice2_axis1_apply 1024 _ _ r n (rgt n) rfl).trans ?_)
  · refine congrArg₂ (fun a b : EReal => a + b) ?_ (broadcastTo_1b_ab_apply b _ r (lft n))
    refine (Ideal.matmul_plain_apply none _ w _ r (lft n)).trans ?_
    rw [show (constant S256x2048 .f32 0x00000000#32 : FVec Ideal S256x2048 .f32) (ix2 r (lft n)) = 0 from Ideal.ofBits_zero_f32, zero_add]
    exact Finset.sum_congr rfl fun k _ => congrArg (fun y : EReal => y * w (ix2 k (lft n))) (norm_apply x g sh sc _ _ _ _ _ _ _ r k)
  · refine congrArg₂ (fun a b : EReal => a + b) ?_ (broadcastTo_1b_ab_apply b _ r (rgt n))
    refine (Ideal.matmul_plain_apply none _ w _ r (rgt n)).trans ?_
    rw [show (constant S256x2048 .f32 0x00000000#32 : FVec Ideal S256x2048 .f32) (ix2 r (rgt n)) = 0 from Ideal.ofBits_zero_f32, zero_add]
    exact Finset.sum_congr rfl fun k _ => congrArg (fun y : EReal => y * w (ix2 k (rgt n))) (norm_apply x g sh sc _ _ _ _ _ _ _ r k)

theorem index0 : ∀ t : Fin cfg0.N, win0_0.index t 0 = t.val ∧ win0_0.index t 1 = 0 :=
  (by decide +kernel : ∀ t : Fin grid0.N, _)

theorem index1 : ∀ t : Fin cfg0.N, win0_1.index t 0 = 0 ∧ win0_1.index t 1 = 0 :=
  (by decide +kernel : ∀ t : Fin grid0.N, _)

theorem index2 : ∀ t : Fin cfg0.N, win0_2.index t 0 = 6 * modRow (256 * t.val) ∧ win0_2.index t 1 = 0 ∧ win0_2.index t 2 = 0 :=
  (by decide +kernel : ∀ t : Fin grid0.N, _)

theorem index3 : ∀ t : Fin cfg0.N, win0_3.index t 0 = 6 * modRow (256 * t.val) + 1 ∧ win0_3.index t 1 = 0 ∧ win0_3.index t 2 = 0 :=
  (by decide +kernel : ∀ t : Fin grid0.N, _)

theorem index4 : ∀ t : Fin cfg0.N, win0_4.index t 0 = 0 ∧ win0_4.index t 1 = 0 :=
  (by decide +kernel : ∀ t : Fin grid0.N, _)

theorem index5 : ∀ t : Fin cfg0.N, win0_5.index t 0 = 0 ∧ win0_5.index t 1 = 0 :=
  (by decide +kernel : ∀ t : Fin grid0.N, _)

theorem index6 : ∀ t : Fin cfg0.N, win0_6.index t 0 = t.val ∧ win0_6.index t 1 = 0 :=
  (by decide +kernel : ∀ t : Fin grid0.N, _)

/-- The rows of a block take one row of modulations. -/
theorem modRow_block (t r : ℕ) (hr : r < 256) : modRow (256 * t + r) = modRow (256 * t) := by
  unfold modRow
  split <;> split <;> omega

variable (m : (ℓ : Loc nD τ sig) → Buf (Elt Ideal) ℓ) (c : Dev nD)

/-- The block of rows at a point. -/
theorem x0 (t : Fin cfg0.N) (r : Fin 256) (k : Fin 1024) (R : Fin 34816) (hR : R.val = 256 * t.val + r.val) :
    (iblk m c 0 t : Vec Ideal S256x1024 .f32) (ix2 r k) = (V m c main_v2 : FVec Ideal S34816x1024 .f32) (ix2 R k) := by
  have hi := index0 t
  refine congrArg (V m c main_v2 : FVec Ideal S34816x1024 .f32) (funext fun a => Fin.ext ?_)
  match a with
  | ⟨0, _⟩ =>
    refine (Pipeline.Window.rect_emb_val win0_0 t (ix2 r k) 0).trans ?_
    show win0_0.index t 0 * 256 + r.val = R.val
    omega
  | ⟨1, _⟩ =>
    refine (Pipeline.Window.rect_emb_val win0_0 t (ix2 r k) 1).trans ?_
    show win0_0.index t 1 * 1024 + k.val = k.val
    omega

/-- The gains at a point. -/
theorem x1 (t : Fin cfg0.N) (k : Fin 1024) :
    (iblk m c 1 t : Vec Ideal S1x1024 .f32) (ix2 (0 : Fin 1) k) = (V m c main_v7 : FVec Ideal S1x1024 .f32) (ix2 (0 : Fin 1) k) := by
  have hi := index1 t
  refine congrArg (V m c main_v7 : FVec Ideal S1x1024 .f32) (funext fun a => Fin.ext ?_)
  match a with
  | ⟨0, _⟩ =>
    refine (Pipeline.Window.rect_emb_val win0_1 t (ix2 (0 : Fin 1) k) 0).trans ?_
    show win0_1.index t 0 * 1 + 0 = 0
    omega
  | ⟨1, _⟩ =>
    refine (Pipeline.Window.rect_emb_val win0_1 t (ix2 (0 : Fin 1) k) 1).trans ?_
    show win0_1.index t 1 * 1024 + k.val = k.val
    omega

/-- The shift at a point. -/
theorem x2 (t : Fin cfg0.N) (r : ℕ) (hr : r < 256) (k : Fin 1024) :
    (iblk m c 2 t : Vec Ideal S1x1x1024 .f32) (ix3 (0 : Fin 1) (0 : Fin 1) k) = piece (V m c main_v6 : FVec Ideal S96x1x1024 .f32) (256 * t.val + r) 0 k := by
  have hi := index2 t
  have hm := modRow_block t.val r hr
  refine congrArg (V m c main_v6 : FVec Ideal S96x1x1024 .f32) (funext fun a => Fin.ext ?_)
  match a with
  | ⟨0, _⟩ =>
    refine (Pipeline.Window.rect_emb_val win0_2 t (ix3 (0 : Fin 1) (0 : Fin 1) k) 0).trans ?_
    show win0_2.index t 0 * 1 + 0 = 6 * modRow (256 * t.val + r) + 0
    omega
  | ⟨1, _⟩ =>
    refine (Pipeline.Window.rect_emb_val win0_2 t (ix3 (0 : Fin 1) (0 : Fin 1) k) 1).trans ?_
    show win0_2.index t 1 * 1 + 0 = 0
    omega
  | ⟨2, _⟩ =>
    refine (Pipeline.Window.rect_emb_val win0_2 t (ix3 (0 : Fin 1) (0 : Fin 1) k) 2).trans ?_
    show win0_2.index t 2 * 1024 + k.val = k.val
    omega

/-- The scale at a point. -/
theorem x3 (t : Fin cfg0.N) (r : ℕ) (hr : r < 256) (k : Fin 1024) :
    (iblk m c 3 t : Vec Ideal S1x1x1024 .f32) (ix3 (0 : Fin 1) (0 : Fin 1) k) = piece (V m c main_v6 : FVec Ideal S96x1x1024 .f32) (256 * t.val + r) 1 k := by
  have hi := index3 t
  have hm := modRow_block t.val r hr
  refine congrArg (V m c main_v6 : FVec Ideal S96x1x1024 .f32) (funext fun a => Fin.ext ?_)
  match a with
  | ⟨0, _⟩ =>
    refine (Pipeline.Window.rect_emb_val win0_3 t (ix3 (0 : Fin 1) (0 : Fin 1) k) 0).trans ?_
    show win0_3.index t 0 * 1 + 0 = 6 * modRow (256 * t.val + r) + 1
    omega
  | ⟨1, _⟩ =>
    refine (Pipeline.Window.rect_emb_val win0_3 t (ix3 (0 : Fin 1) (0 : Fin 1) k) 1).trans ?_
    show win0_3.index t 1 * 1 + 0 = 0
    omega
  | ⟨2, _⟩ =>
    refine (Pipeline.Window.rect_emb_val win0_3 t (ix3 (0 : Fin 1) (0 : Fin 1) k) 2).trans ?_
    show win0_3.index t 2 * 1024 + k.val = k.val
    omega

/-- The weights at a point. -/
theorem x4 (t : Fin cfg0.N) (k : Fin 1024) (n : Fin 2048) :
    (iblk m c 4 t : Vec Ideal S1024x2048 .bf16) (ix2 k n) = (V m c main_v8 : FVec Ideal S1024x2048 .bf16) (ix2 k n) := by
  have hi := index4 t
  refine congrArg (V m c main_v8 : FVec Ideal S1024x2048 .bf16) (funext fun a => Fin.ext ?_)
  match a with
  | ⟨0, _⟩ =>
    refine (Pipeline.Window.rect_emb_val win0_4 t (ix2 k n) 0).trans ?_
    show win0_4.index t 0 * 1024 + k.val = k.val
    omega
  | ⟨1, _⟩ =>
    refine (Pipeline.Window.rect_emb_val win0_4 t (ix2 k n) 1).trans ?_
    show win0_4.index t 1 * 2048 + n.val = n.val
    omega

/-- The biases at a point. -/
theorem x5 (t : Fin cfg0.N) (n : Fin 2048) :
    (iblk m c 5 t : Vec Ideal S1x2048 .f32) (ix2 (0 : Fin 1) n) = (V m c main_v9 : FVec Ideal S1x2048 .f32) (ix2 (0 : Fin 1) n) := by
  have hi := index5 t
  refine congrArg (V m c main_v9 : FVec Ideal S1x2048 .f32) (funext fun a => Fin.ext ?_)
  match a with
  | ⟨0, _⟩ =>
    refine (Pipeline.Window.rect_emb_val win0_5 t (ix2 (0 : Fin 1) n) 0).trans ?_
    show win0_5.index t 0 * 1 + 0 = 0
    omega
  | ⟨1, _⟩ =>
    refine (Pipeline.Window.rect_emb_val win0_5 t (ix2 (0 : Fin 1) n) 1).trans ?_
    show win0_5.index t 1 * 2048 + n.val = n.val
    omega

/-- The gated projection of a row. -/
def glu (X : FVec Ideal (mat 34816 1024) .f32) (M : FVec Ideal (cub 96 1 1024) .f32) (g : FVec Ideal (mat 1 1024) .f32)
    (w : FVec Ideal (mat 1024 2048) .bf16) (b : FVec Ideal (mat 1 2048) .f32) (R : Fin 34816) (n : Fin 1024) : EReal :=
  gated (outOf X M g w b R (lft n)) (outOf X M g w b R (rgt n))

/-- The gated projection of the arrays that the launch finds. -/
def result : Buf (Elt Ideal) ((c : Thread nD τ).loc main_v10) :=
  fun y : S34816x1024.Idx => glu (V m c main_v2 : FVec Ideal S34816x1024 .f32) (V m c main_v6 : FVec Ideal S96x1x1024 .f32)
    (V m c main_v7 : FVec Ideal S1x1024 .f32) (V m c main_v8 : FVec Ideal S1024x2048 .bf16) (V m c main_v9 : FVec Ideal S1x2048 .f32) (y 0) (y 1)

/-- What a grid point stores, of the blocks that it reads. -/
theorem out_eq (x : Vec Ideal S256x1024 .f32) (g : Vec Ideal S1x1024 .f32) (sh sc : Vec Ideal S1x1x1024 .f32) (w : Vec Ideal S1024x2048 .bf16)
    (b : Vec Ideal S1x2048 .f32) : out0_6 (F := Ideal) x g sh sc w b = k0_pay1 x g sh sc w b := by
  unfold out0_6
  rw [View.canon_cons_unit_lit, View.ld_unit_lit, View.ld_unit_lit, View.ld_unit_lit, View.ld_unit_lit, View.ld_unit_lit, View.ld_unit_lit] <;> decide

/-- What a grid point writes back. -/
def blockOut (t : Fin cfg0.N) : S256x1024.Idx → EReal :=
  out0_6 (F := Ideal) (iblk m c 0 t) (iblk m c 1 t) (iblk m c 2 t) (iblk m c 3 t) (iblk m c 4 t) (iblk m c 5 t)

/-- What a grid point writes back, at an entry of its block. -/
theorem block_apply (t : Fin cfg0.N) (r : Fin 256) (n : Fin 1024) (R : Fin 34816) (hR : R.val = 256 * t.val + r.val) :
    blockOut m c t (ix2 r n) =
      glu (V m c main_v2 : FVec Ideal S34816x1024 .f32) (V m c main_v6 : FVec Ideal S96x1x1024 .f32)
    (V m c main_v7 : FVec Ideal S1x1024 .f32) (V m c main_v8 : FVec Ideal S1024x2048 .bf16) (V m c main_v9 : FVec Ideal S1x2048 .f32) R n := by
  unfold blockOut
  refine (congrFun (out_eq _ _ _ _ _ _) _).trans ((pay_apply _ _ _ _ _ _ r n).trans ?_)
  unfold glu
  refine congrArg₂ gated ?_ ?_
  · unfold outOf
    refine proj_congr (fun k => x0 m c t r k R hR) (fun k => x1 m c t k) (fun k => ?_) (fun k => ?_) (fun k => x4 m c t k (lft n)) (x5 m c t (lft n))
    · rw [hR]; exact x2 m c t r.val r.isLt k
    · rw [hR]; exact x3 m c t r.val r.isLt k
  · unfold outOf
    refine proj_congr (fun k => x0 m c t r k R hR) (fun k => x1 m c t k) (fun k => ?_) (fun k => ?_) (fun k => x4 m c t k (rgt n)) (x5 m c t (rgt n))
    · rw [hR]; exact x2 m c t r.val r.isLt k
    · rw [hR]; exact x3 m c t r.val r.isLt k

/-- The same, of the entry's place in the array. -/
theorem block_at (t : Fin cfg0.N) (r : Fin 256) (n : Fin 1024) (z : S34816x1024.Idx) (h0 : (z 0).val = 256 * t.val + r.val) (h1 : (z 1).val = n.val) :
    blockOut m c t (ix2 r n) = (result m c : S34816x1024.Idx → EReal) z := by
  obtain rfl : z 1 = n := Fin.ext h1
  exact block_apply m c t r (z 1) (z 0) h0

/-- The row of the array that an entry of a block lies in. -/
theorem emb_row (t : Fin cfg0.N) (y : ((cfg0.win 6).xblock (cfg0.grid.coords t)).Idx) :
    ((((cfg0.win 6).blk t).view.emb y) 0).val = 256 * t.val + (y 0).val := by
  have hi := index6 t
  refine (Pipeline.Window.rect_emb_val win0_6 t y 0).trans ?_
  show win0_6.index t 0 * 256 + (y 0).val = _
  omega

/-- The column of the array that an entry of a block lies in. -/
theorem emb_col (t : Fin cfg0.N) (y : ((cfg0.win 6).xblock (cfg0.grid.coords t)).Idx) :
    ((((cfg0.win 6).blk t).view.emb y) 1).val = (y 1).val := by
  have hi := index6 t
  refine (Pipeline.Window.rect_emb_val win0_6 t y 1).trans ?_
  show win0_6.index t 1 * 1024 + (y 1).val = (y 1).val
  omega

/-- An entry of the block that a point writes back. -/
theorem entry (t : Fin cfg0.N) (y : ((cfg0.win 6).xblock (cfg0.grid.coords t)).Idx) :
    blockOut m c t ((cfg0.win 6).xinj (cfg0.grid.coords t) y) = (result m c : S34816x1024.Idx → EReal) (((cfg0.win 6).blk t).view.emb y) := by
  have hy0 : (y 0).val < 256 := (y 0).isLt
  have hy1 : (y 1).val < 1024 := (y 1).isLt
  have hx : (cfg0.win 6).xinj (cfg0.grid.coords t) y = ix2 (⟨(y 0).val, hy0⟩ : Fin 256) (⟨(y 1).val, hy1⟩ : Fin 1024) := eq_ix2 _
  rw [hx]
  exact block_at m c t _ _ _ (emb_row t y) (emb_col t y)

/-- The array that the run leaves, of the blocks that its points write back. -/
theorem of_blocks (f : Buf (Elt Ideal) ((c : Thread nD τ).loc main_v10))
    (h : ∀ (t : Fin cfg0.N) (y : ((cfg0.win 6).xblock (cfg0.grid.coords t)).Idx),
      blockOut m c t ((cfg0.win 6).xinj (cfg0.grid.coords t) y) = (f : S34816x1024.Idx → EReal) (((cfg0.win 6).blk t).view.emb y)) :
    (dats m 0 c).arrAt 6 cfg0.N = f := by
  refine (dats m 0 c).arrAt_eq_of_covers 6 f (by decide +kernel) fun t _ y => ?_
  rw [after0_6]
  exact (cast_eq _ _).trans (h t y)

/-- After the run the result array holds the gated projection. -/
theorem final : (dats m 0 c).arrAt 6 cfg0.N = result m c :=
  of_blocks m c (result m c) (entry m c)

end Proj.Glu

end
-- ==== Proof.Proj.GluHost.lean ====
module

public import proofs.«01_k».proof.Proof.Proj.GluBlock

@[expose] public section

set_option maxRecDepth 16384

noncomputable section

/-! The arrays that the gated projection's launch finds, as the host code makes them. -/

namespace Proj.Glu

open Cert.Kernel4Ideal Cert.Kernel4Ideal.Gen Idealize.ShloMosaic Idealize.ShloMosaic.ValueIdx Idealize.ShloMosaic.TcCoe
open Idealize.SL.Sem

variable (m : (ℓ : Loc nD τ sig) → Buf (Elt Ideal) ℓ) (c : Dev nD)

/-- The rows. -/
theorem V_rows : (V m c main_v2 : S34816x1024.Idx → EReal) =
    stack (m ((c : Thread nD τ).loc main_arg0)) (m ((c : Thread nD τ).loc main_arg1)) shapeCasts_S8x4096x1024_S32768x1024
      shapeCasts_S8x256x1024_S2048x1024 concatenates_S32768x1024_S2048x1024_S34816x1024_d0 := by
  unfold V
  after_reads_simp
  rfl

/-- The modulations. -/
theorem V_mods : (V m c main_v6 : S96x1x1024.Idx → EReal) =
    mods (m ((c : Thread nD τ).loc main_arg3)) (m ((c : Thread nD τ).loc main_arg4)) (broadcastInDim S7x6144 ![] bcast_S_S7x6144 (constant S_ .f32 0x00000000#32))
      bcast_S6144_S1x6144_1 concatenates_S8x6144_S1x6144_S7x6144_S16x6144_d0 shapeCasts_S16x6144_S96x1x1024 := by
  unfold V
  after_reads_simp
  rfl

/-- The gain. -/
theorem V_gain : (V m c main_v7 : S1x1024.Idx → EReal) = shapeCast S1x1024 (m ((c : Thread nD τ).loc main_arg2)) shapeCasts_S1024_S1x1024 := by
  unfold V
  after_reads_simp
  rfl

/-- The weights. -/
theorem V_weights : (V m c main_v8 : S1024x2048.Idx → EReal) = m ((c : Thread nD τ).loc main_arg5) := by
  unfold V
  after_reads_simp
  rfl

/-- The biases. -/
theorem V_bias : (V m c main_v9 : S1x2048.Idx → EReal) = shapeCast S1x2048 (m ((c : Thread nD τ).loc main_arg6)) shapeCasts_S2048_S1x2048 := by
  unfold V
  after_reads_simp
  rfl

end Proj.Glu

end
-- ==== Proof.Proj.GluRef.lean ====
module

public import proofs.«01_k».proof.Proof.Proj.RefNorm
public import proofs.«01_k».proof.Proof.Proj.GluBlock
public import proofs.«01_k».proof.Proof.Gen.Reference4Ideal.Read
public import Idealize.ShloMosaic.Lib.IdealHost

@[expose] public section

noncomputable section

/-! The plain gated projection, read at a row of the latents and at a row of the context. -/

namespace Proj.Glu

open Cert.Reference4Ideal Cert.Reference4Ideal.Gen Cert.Reference4Ideal.Read Idealize.ShloMosaic Idealize.ShloMosaic.ValueIdx Idealize.ShloMosaic.TcCoe

variable (a0 : FVec Ideal S8x4096x1024 .f32) (a1 : FVec Ideal S8x256x1024 .f32) (a2 : FVec Ideal S1024 .f32)
  (a3 : FVec Ideal S8x6144 .f32) (a4 : FVec Ideal S6144 .f32) (a5 : FVec Ideal S1024x2048 .f32) (a6 : FVec Ideal S2048 .f32)

/-- Both plain projections norm the latents alike. -/
theorem same_lat : val_main_v22 (F := Ideal) a0 a2 a3 = Cert.Reference3Ideal.Read.val_main_v22 (F := Ideal) a0 a2 a3 := rfl

/-- Both plain projections norm the context alike. -/
theorem same_ctx : val_main_v45 (F := Ideal) a1 a2 a4 = Cert.Reference3Ideal.Read.val_main_v45 (F := Ideal) a1 a2 a4 := rfl

/-- A latent's projection before the gate. -/
theorem wide_lat (b : Fin 8) (s : Fin 4096) (n : Fin 2048) :
    val_main_v49 (F := Ideal) a0 a2 a3 a5 a6 (ix3 b s n) = (∑ k, latNorm a0 a2 a3 b s k * a5 (ix2 k n)) + a6 (ix1 n) := by
  rw [val_main_v49_apply, val_main_v46_apply, val_main_v48_apply, val_main_v47_apply]
  refine congrArg₂ (fun a b : EReal => a + b) (Finset.sum_congr rfl fun k _ => congrArg₂ (fun a b : EReal => a * b) ?_ (congrArg a5 (eq_ix2 _))) (congrArg a6 (eq_ix1 _))
  exact (congrArg (val_main_v22 (F := Ideal) a0 a2 a3) (eq_ix3 _)).trans ((congrFun (same_lat a0 a2 a3) _).trans (ref_lat a0 a2 a3 b s k))

/-- A context row's projection before the gate. -/
theorem wide_ctx (b : Fin 8) (s : Fin 256) (n : Fin 2048) :
    val_main_v63 (F := Ideal) a1 a2 a4 a5 a6 (ix3 b s n) = (∑ k, ctxNorm a1 a2 a4 b s k * a5 (ix2 k n)) + a6 (ix1 n) := by
  rw [val_main_v63_apply, val_main_v60_apply, val_main_v62_apply, val_main_v61_apply]
  refine congrArg₂ (fun a b : EReal => a + b) (Finset.sum_congr rfl fun k _ => congrArg₂ (fun a b : EReal => a * b) ?_ (congrArg a5 (eq_ix2 _))) (congrArg a6 (eq_ix1 _))
  exact (congrArg (val_main_v45 (F := Ideal) a1 a2 a4) (eq_ix3 _)).trans ((congrFun (same_ctx a1 a2 a4) _).trans (ref_ctx a1 a2 a4 b s k))

/-- The gate, as the plain projection writes it. -/
theorem gate_eq (a b : EReal) :
    a * Ideal.div (Ideal.ofBits .f32 0x3F800000#32) (Ideal.ofBits .f32 0x3F800000#32 + Ideal.exp (-b)) = gated a b := by
  rw [Ideal.ofBits_one_f32]
  rfl

/-- A latent's gated projection. -/
theorem glu_lat (b : Fin 8) (s : Fin 4096) (n : Fin 1024) (R : Fin 34816) (hR : R.val = 4096 * b.val + s.val) :
    val_main_v75 (F := Ideal) a0 a1 a2 a3 a4 a5 a6 (ix2 R n) =
      gated ((∑ k, latNorm a0 a2 a3 b s k * a5 (ix2 k (lft n))) + a6 (ix1 (lft n))) ((∑ k, latNorm a0 a2 a3 b s k * a5 (ix2 k (rgt n))) + a6 (ix1 (rgt n))) := by
  rw [val_main_v75_apply]
  refine (stack_lat (n := 1024) (val_main_v58 (F := Ideal) a0 a2 a3 a5 a6) (val_main_v72 (F := Ideal) a1 a2 a4 a5 a6) shapeCasts_S8x4096x1024_S32768x1024
    shapeCasts_S8x256x1024_S2048x1024 concatenates_S32768x1024_S2048x1024_S34816x1024_d0 b s R hR n).trans ?_
  rw [val_main_v58_apply, val_main_v50_apply, val_main_v57_apply, val_main_v56_apply, val_main_v55_apply, val_main_v54_apply, val_main_v53_apply,
    val_main_v52_apply, val_main_v51_apply, ← wide_lat, ← wide_lat]
  refine Eq.trans ?_ (gate_eq _ _)
  refine congrArg₂ (fun a b : EReal => a * Ideal.div (Ideal.ofBits .f32 0x3F800000#32) (Ideal.ofBits .f32 0x3F800000#32 + Ideal.exp (-b)))
    (congrArg (val_main_v49 (F := Ideal) a0 a2 a3 a5 a6) ?_) (congrArg (val_main_v49 (F := Ideal) a0 a2 a3 a5 a6) ?_)
  · exact funext fun a => Fin.ext (match a with | ⟨0, _⟩ => rfl | ⟨1, _⟩ => rfl | ⟨2, _⟩ => rfl)
  · exact funext fun a => Fin.ext (match a with | ⟨0, _⟩ => rfl | ⟨1, _⟩ => rfl | ⟨2, _⟩ => rfl)

/-- A context row's gated projection. -/
theorem glu_ctx (b : Fin 8) (s : Fin 256) (n : Fin 1024) (R : Fin 34816) (hR : R.val = 32768 + (256 * b.val + s.val)) :
    val_main_v75 (F := Ideal) a0 a1 a2 a3 a4 a5 a6 (ix2 R n) =
      gated ((∑ k, ctxNorm a1 a2 a4 b s k * a5 (ix2 k (lft n))) + a6 (ix1 (lft n))) ((∑ k, ctxNorm a1 a2 a4 b s k * a5 (ix2 k (rgt n))) + a6 (ix1 (rgt n))) := by
  rw [val_main_v75_apply]
  refine (stack_ctx (n := 1024) (val_main_v58 (F := Ideal) a0 a2 a3 a5 a6) (val_main_v72 (F := Ideal) a1 a2 a4 a5 a6) shapeCasts_S8x4096x1024_S32768x1024
    shapeCasts_S8x256x1024_S2048x1024 concatenates_S32768x1024_S2048x1024_S34816x1024_d0 b s R hR n).trans ?_
  rw [val_main_v72_apply, val_main_v64_apply, val_main_v71_apply, val_main_v70_apply, val_main_v69_apply, val_main_v68_apply, val_main_v67_apply,
    val_main_v66_apply, val_main_v65_apply, ← wide_ctx, ← wide_ctx]
  refine Eq.trans ?_ (gate_eq _ _)
  refine congrArg₂ (fun a b : EReal => a * Ideal.div (Ideal.ofBits .f32 0x3F800000#32) (Ideal.ofBits .f32 0x3F800000#32 + Ideal.exp (-b)))
    (congrArg (val_main_v63 (F := Ideal) a1 a2 a4 a5 a6) ?_) (congrArg (val_main_v63 (F := Ideal) a1 a2 a4 a5 a6) ?_)
  · exact funext fun a => Fin.ext (match a with | ⟨0, _⟩ => rfl | ⟨1, _⟩ => rfl | ⟨2, _⟩ => rfl)
  · exact funext fun a => Fin.ext (match a with | ⟨0, _⟩ => rfl | ⟨1, _⟩ => rfl | ⟨2, _⟩ => rfl)

end Proj.Glu

end
-- ==== Proof.Proj.Glu.lean ====
module

public import proofs.«01_k».proof.Defs
public import proofs.«01_k».proof.Proof.Proj.GluHost
public import proofs.«01_k».proof.Proof.Proj.GluRef
public import proofs.«01_k».proof.Proof.Proj.Sheet
public import proofs.«01_k».proof.Proof.Gen.Reference4Ideal.Run
public import Idealize.ShloMosaic.Lib.Quiescent

@[expose] public section

noncomputable section

/-! The gated projection: the kernel and the plain mathematics end with equal results. -/

namespace Proj.Glu

open Idealize.ShloMosaic Idealize.SL.Sem Idealize.ShloMosaic.ValueIdx Idealize.ShloMosaic.TcCoe

section

open Cert.Kernel4Ideal Cert.Kernel4Ideal.Gen

variable (m : (ℓ : Loc nD τ sig) → Buf (Elt Ideal) ℓ) (c : Dev nD)

/-- An entry of the result, of the arguments. -/
theorem result_apply (R : Fin 34816) (n : Fin 1024) : (result m c : S34816x1024.Idx → EReal) (ix2 R n) =
    Cert.Reference4Ideal.Read.val_main_v75 (F := Ideal) (m ((c : Thread nD τ).loc main_arg0)) (m ((c : Thread nD τ).loc main_arg1))
      (m ((c : Thread nD τ).loc main_arg2)) (m ((c : Thread nD τ).loc main_arg3)) (m ((c : Thread nD τ).loc main_arg4))
      (m ((c : Thread nD τ).loc main_arg5)) (m ((c : Thread nD τ).loc main_arg6)) (ix2 R n) := by
  show glu (V m c main_v2) (V m c main_v6) (V m c main_v7) (V m c main_v8) (V m c main_v9) R n = _
  rw [V_rows, V_mods, V_gain, V_weights, V_bias]
  unfold glu
  by_cases h : R.val < 32768
  · have hR : R.val = 4096 * (⟨R.val / 4096, by omega⟩ : Fin 8).val + (⟨R.val % 4096, by omega⟩ : Fin 4096).val := by
      show R.val = 4096 * (R.val / 4096) + R.val % 4096
      omega
    exact (congrArg₂ gated (outOf_lat _ _ _ _ _ _ _ _ _ _ _ _ _ _ _ _ _ _ R hR (lft n)) (outOf_lat _ _ _ _ _ _ _ _ _ _ _ _ _ _ _ _ _ _ R hR (rgt n))).trans (glu_lat _ _ _ _ _ _ _ _ _ n R hR).symm
  · have hR : R.val = 32768 + (256 * (⟨(R.val - 32768) / 256, by omega⟩ : Fin 8).val + (⟨(R.val - 32768) % 256, by omega⟩ : Fin 256).val) := by
      show R.val = 32768 + (256 * ((R.val - 32768) / 256) + (R.val - 32768) % 256)
      omega
    exact (congrArg₂ gated (outOf_ctx _ _ _ _ _ _ _ _ _ _ _ _ _ _ _ _ _ _ R hR (lft n)) (outOf_ctx _ _ _ _ _ _ _ _ _ _ _ _ _ _ _ _ _ _ R hR (rgt n))).trans (glu_ctx _ _ _ _ _ _ _ _ _ n R hR).symm

/-- What the kernel leaves in its result array: the reference's value of the arguments. -/
theorem kernel_value : (dats m 0 c).arrAt 6 cfg0.N =
    (Cert.Reference4Ideal.Read.val_main_v75 (F := Ideal) (m ((c : Thread nD τ).loc main_arg0)) (m ((c : Thread nD τ).loc main_arg1))
      (m ((c : Thread nD τ).loc main_arg2)) (m ((c : Thread nD τ).loc main_arg3)) (m ((c : Thread nD τ).loc main_arg4))
      (m ((c : Thread nD τ).loc main_arg5)) (m ((c : Thread nD τ).loc main_arg6)) : Buf (Elt Ideal) ((c : Thread nD τ).loc main_v10)) := by
  refine (final m c).trans (funext ?_)
  have key : ∀ y : S34816x1024.Idx, (result m c : S34816x1024.Idx → EReal) y =
      Cert.Reference4Ideal.Read.val_main_v75 (F := Ideal) (m ((c : Thread nD τ).loc main_arg0)) (m ((c : Thread nD τ).loc main_arg1))
        (m ((c : Thread nD τ).loc main_arg2)) (m ((c : Thread nD τ).loc main_arg3)) (m ((c : Thread nD τ).loc main_arg4))
        (m ((c : Thread nD τ).loc main_arg5)) (m ((c : Thread nD τ).loc main_arg6)) y := fun y => by
    rw [eq_ix2 y]
    exact result_apply m c (y 0) (y 1)
  exact key

end

/-- The kernel and the plain gated projection end with equal results. -/
theorem projects : Cert.algebraic_Kernel4Ideal_Reference4Ideal := by
  intro m g m' g' _ hagree
  refine ⟨fun c => (Cert.Kernel4Ideal.Gen.dats m 0 c).arrAt 6 Cert.Kernel4Ideal.cfg0.N, Cert.Kernel4Ideal.Value.run_blocks m g, ?_⟩
  refine (θ_run Cert.Reference4Ideal.defs _ _).mono (fun r h c => ⟨?_, (h c).2⟩) (Cert.Reference4Ideal.Value.run (F := Ideal) m' g')
  rw [(h c).1, Cert.Reference4Ideal.Read.val_main_v75_eq]
  obtain ⟨e0, e1, e2, e3, e4, e5, e6⟩ := hagree c
  rw [e0, e1, e2, e3, e4, e5, e6]
  exact (kernel_value m c).symm

/-- The plain gated projection ends with its arguments as they were and no semaphore raised. -/
theorem reference_frame : Cert.quiescent_Reference4Ideal := fun m g _ =>
  (θ_run Cert.Reference4Ideal.defs _ _).mono (fun r h => ⟨fun c => (h c).2, sem_eq_zero_of_no_sems rfl _⟩)
    (Cert.Reference4Ideal.Value.run (F := Ideal) m g)

end Proj.Glu

end
-- ==== Proof.Proj.ResBlock.lean ====
module

public import proofs.«01_k».proof.Proof.Proj.Pack
public import proofs.«01_k».proof.Proof.Gen.Kernel5Ideal.Value
public import Idealize.ShloMosaic.Lib.Pipeline.ValueKit.Geometry
public import Idealize.ShloMosaic.Lib.StableHlo.RunRead

@[expose] public section

set_option maxRecDepth 16384

noncomputable section

/-! What the output projection with its residual leaves in its result, block by block. -/

namespace Proj.Res

open Cert.Kernel5Ideal Cert.Kernel5Ideal.Gen Idealize.ShloMosaic Idealize.ShloMosaic.ValueIdx Idealize.ShloMosaic.TcCoe
open Idealize.SL.Sem

/-- A row's product with a column of weights and a bias, gated and added to what was there. -/
def res (a w : Fin 1024 → EReal) (b x gate : EReal) : EReal := x + gate * ((∑ k, a k * w k) + b)

/-- The same of equal data. -/
theorem res_congr {a a' w w' : Fin 1024 → EReal} {b b' x x' g g' : EReal} (h0 : ∀ k, a k = a' k) (h1 : ∀ k, w k = w' k) (h2 : b = b') (h3 : x = x')
    (h4 : g = g') : res a w b x g = res a' w' b' x' g' := by
  obtain rfl : a = a' := funext h0
  obtain rfl : w = w' := funext h1
  rw [h2, h3, h4]

/-- An entry of what a grid point stores. -/
theorem pay_apply (a : Vec Ideal S256x1024 .bf16) (w : Vec Ideal S1024x1024 .bf16) (b : Vec Ideal S1x1024 .f32) (x : Vec Ideal S256x1024 .f32)
    (gate : Vec Ideal S1x1x1024 .f32) (r : Fin 256) (n : Fin 1024) :
    k0_pay1 a w b x gate (ix2 r n) = res (fun k => a (ix2 r k)) (fun k => w (ix2 k n)) (b (ix2 (0 : Fin 1) n)) (x (ix2 r n))
      (gate (ix3 (0 : Fin 1) (0 : Fin 1) n)) := by
  unfold k0_pay1
  simp only [shapeCast_self]
  refine congrArg₂ (fun g y : EReal => x (ix2 r n) + g * y) ((broadcastTo_1b_ab_apply _ _ r n).trans (shapeCast_1ab_ab_apply gate _ (0 : Fin 1) n)) ?_
  refine congrArg₂ (fun a b : EReal => a + b) ?_ (broadcastTo_1b_ab_apply b _ r n)
  refine (Ideal.matmul_plain_apply none a w _ r n).trans ?_
  rw [show (constant S256x1024 .f32 0x00000000#32 : FVec Ideal S256x1024 .f32) (ix2 r n) = 0 from Ideal.ofBits_zero_f32, zero_add]

theorem index0 : ∀ t : Fin cfg0.N, win0_0.index t 0 = t.val ∧ win0_0.index t 1 = 0 :=
  (by decide +kernel : ∀ t : Fin grid0.N, _)

theorem index1 : ∀ t : Fin cfg0.N, win0_1.index t 0 = 0 ∧ win0_1.index t 1 = 0 :=
  (by decide +kernel : ∀ t : Fin grid0.N, _)

theorem index2 : ∀ t : Fin cfg0.N, win0_2.index t 0 = 0 ∧ win0_2.index t 1 = 0 :=
  (by decide +kernel : ∀ t : Fin grid0.N, _)

theorem index3 : ∀ t : Fin cfg0.N, win0_3.index t 0 = t.val ∧ win0_3.index t 1 = 0 :=
  (by decide +kernel : ∀ t : Fin grid0.N, _)

theorem index4 : ∀ t : Fin cfg0.N, win0_4.index t 0 = 6 * modRow (256 * t.val) + 2 ∧ win0_4.index t 1 = 0 ∧ win0_4.index t 2 = 0 :=
  (by decide +kernel : ∀ t : Fin grid0.N, _)

theorem index5 : ∀ t : Fin cfg0.N, win0_5.index t 0 = t.val ∧ win0_5.index t 1 = 0 :=
  (by decide +kernel : ∀ t : Fin grid0.N, _)

/-- The rows of a block take one row of modulations. -/
theorem modRow_block (t r : ℕ) (hr : r < 256) : modRow (256 * t + r) = modRow (256 * t) := by
  unfold modRow
  split <;> split <;> omega

variable (m : (ℓ : Loc nD τ sig) → Buf (Elt Ideal) ℓ) (c : Dev nD)

/-- The block of rows to project, at a point. -/
theorem x0 (t : Fin cfg0.N) (r : Fin 256) (k : Fin 1024) (R : Fin 34816) (hR : R.val = 256 * t.val + r.val) :
    (iblk m c 0 t : Vec Ideal S256x1024 .bf16) (ix2 r k) = (V m c main_v10 : FVec Ideal S34816x1024 .bf16) (ix2 R k) := by
  have hi := index0 t
  refine congrArg (V m c main_v10 : FVec Ideal S34816x1024 .bf16) (funext fun a => Fin.ext ?_)
  match a with
  | ⟨0, _⟩ =>
    refine (Pipeline.Window.rect_emb_val win0_0 t (ix2 r k) 0).trans ?_
    show win0_0.index t 0 * 256 + r.val = R.val
    omega
  | ⟨1, _⟩ =>
    refine (Pipeline.Window.rect_emb_val win0_0 t (ix2 r k) 1).trans ?_
    show win0_0.index t 1 * 1024 + k.val = k.val
    omega

/-- The weights at a point. -/
theorem x1 (t : Fin cfg0.N) (k n : Fin 1024) :
    (iblk m c 1 t : Vec Ideal S1024x1024 .bf16) (ix2 k n) = (V m c main_v11 : FVec Ideal S1024x1024 .bf16) (ix2 k n) := by
  have hi := index1 t
  refine congrArg (V m c main_v11 : FVec Ideal S1024x1024 .bf16) (funext fun a => Fin.ext ?_)
  match a with
  | ⟨0, _⟩ =>
    refine (Pipeline.Window.rect_emb_val win0_1 t (ix2 k n) 0).trans ?_
    show win0_1.index t 0 * 1024 + k.val = k.val
    omega
  | ⟨1, _⟩ =>
    refine (Pipeline.Window.rect_emb_val win0_1 t (ix2 k n) 1).trans ?_
    show win0_1.index t 1 * 1024 + n.val = n.val
    omega

/-- The biases at a point. -/
theorem x2 (t : Fin cfg0.N) (n : Fin 1024) :
    (iblk m c 2 t : Vec Ideal S1x1024 .f32) (ix2 (0 : Fin 1) n) = (V m c main_v12 : FVec Ideal S1x1024 .f32) (ix2 (0 : Fin 1) n) := by
  have hi := index2 t
  refine congrArg (V m c main_v12 : FVec Ideal S1x1024 .f32) (funext fun a => Fin.ext ?_)
  match a with
  | ⟨0, _⟩ =>
    refine (Pipeline.Window.rect_emb_val win0_2 t (ix2 (0 : Fin 1) n) 0).trans ?_
    show win0_2.index t 0 * 1 + 0 = 0
    omega
  | ⟨1, _⟩ =>
    refine (Pipeline.Window.rect_emb_val win0_2 t (ix2 (0 : Fin 1) n) 1).trans ?_
    show win0_2.index t 1 * 1024 + n.val = n.val
    omega

/-- The block of rows to add to, at a point. -/
theorem x3 (t : Fin cfg0.N) (r : Fin 256) (k : Fin 1024) (R : Fin 34816) (hR : R.val = 256 * t.val + r.val) :
    (iblk m c 3 t : Vec Ideal S256x1024 .f32) (ix2 r k) = (V m c main_v2 : FVec Ideal S34816x1024 .f32) (ix2 R k) := by
  have hi := index3 t
  refine congrArg (V m c main_v2 : FVec Ideal S34816x1024 .f32) (funext fun a => Fin.ext ?_)
  match a with
  | ⟨0, _⟩ =>
    refine (Pipeline.Window.rect_emb_val win0_3 t (ix2 r k) 0).trans ?_
    show win0_3.index t 0 * 256 + r.val = R.val
    omega
  | ⟨1, _⟩ =>
    refine (Pipeline.Window.rect_emb_val win0_3 t (ix2 r k) 1).trans ?_
    show win0_3.index t 1 * 1024 + k.val = k.val
    omega

/-- The gate at a point. -/
theorem x4 (t : Fin cfg0.N) (r : ℕ) (hr : r < 256) (k : Fin 1024) :
    (iblk m c 4 t : Vec Ideal S1x1x1024 .f32) (ix3 (0 : Fin 1) (0 : Fin 1) k) = piece (V m c main_v6 : FVec Ideal S96x1x1024 .f32) (256 * t.val + r) 2 k := by
  have hi := index4 t
  have hm := modRow_block t.val r hr
  refine congrArg (V m c main_v6 : FVec Ideal S96x1x1024 .f32) (funext fun a => Fin.ext ?_)
  match a with
  | ⟨0, _⟩ =>
    refine (Pipeline.Window.rect_emb_val win0_4 t (ix3 (0 : Fin 1) (0 : Fin 1) k) 0).trans ?_
    show win0_4.index t 0 * 1 + 0 = 6 * modRow (256 * t.val + r) + 2
    omega
  | ⟨1, _⟩ =>
    refine (Pipeline.Window.rect_emb_val win0_4 t (ix3 (0 : Fin 1) (0 : Fin 1) k) 1).trans ?_
    show win0_4.index t 1 * 1 + 0 = 0
    omega
  | ⟨2, _⟩ =>
    refine (Pipeline.Window.rect_emb_val win0_4 t (ix3 (0 : Fin 1) (0 : Fin 1) k) 2).trans ?_
    show win0_4.index t 2 * 1024 + k.val = k.val
    omega

/-- A row's projection, gated by its modulation's third piece and added to the row. -/
def resOf (A : FVec Ideal (mat 34816 1024) .bf16) (w : FVec Ideal (mat 1024 1024) .bf16) (b : FVec Ideal (mat 1 1024) .f32)
    (X : FVec Ideal (mat 34816 1024) .f32) (M : FVec Ideal (cub 96 1 1024) .f32) (R : Fin 34816) (n : Fin 1024) : EReal :=
  res (fun k => A (ix2 R k)) (fun k => w (ix2 k n)) (b (ix2 (0 : Fin 1) n)) (X (ix2 R n)) (piece M R.val 2 n)

/-- The projection with its residual, of the arrays that the launch finds. -/
def result : Buf (Elt Ideal) ((c : Thread nD τ).loc main_v13) :=
  fun y : S34816x1024.Idx => resOf (V m c main_v10 : FVec Ideal S34816x1024 .bf16) (V m c main_v11 : FVec Ideal S1024x1024 .bf16)
    (V m c main_v12 : FVec Ideal S1x1024 .f32) (V m c main_v2 : FVec Ideal S34816x1024 .f32) (V m c main_v6 : FVec Ideal S96x1x1024 .f32) (y 0) (y 1)

/-- What a grid point stores, of the blocks that it reads. -/
theorem out_eq (a : Vec Ideal S256x1024 .bf16) (w : Vec Ideal S1024x1024 .bf16) (b : Vec Ideal S1x1024 .f32) (x : Vec Ideal S256x1024 .f32)
    (gate : Vec Ideal S1x1x1024 .f32) : out0_5 (F := Ideal) a w b x gate = k0_pay1 a w b x gate := by
  unfold out0_5
  rw [View.canon_cons_unit_lit, View.ld_unit_lit, View.ld_unit_lit, View.ld_unit_lit, View.ld_unit_lit, View.ld_unit_lit] <;> decide

/-- What a grid point writes back. -/
def blockOut (t : Fin cfg0.N) : S256x1024.Idx → EReal :=
  out0_5 (F := Ideal) (iblk m c 0 t) (iblk m c 1 t) (iblk m c 2 t) (iblk m c 3 t) (iblk m c 4 t)

/-- What a grid point writes back, at an entry of its block. -/
theorem block_apply (t : Fin cfg0.N) (r : Fin 256) (n : Fin 1024) (R : Fin 34816) (hR : R.val = 256 * t.val + r.val) :
    blockOut m c t (ix2 r n) =
      resOf (V m c main_v10 : FVec Ideal S34816x1024 .bf16) (V m c main_v11 : FVec Ideal S1024x1024 .bf16)
        (V m c main_v12 : FVec Ideal S1x1024 .f32) (V m c main_v2 : FVec Ideal S34816x1024 .f32) (V m c main_v6 : FVec Ideal S96x1x1024 .f32) R n := by
  unfold blockOut
  refine (congrFun (out_eq _ _ _ _ _) _).trans ((pay_apply _ _ _ _ _ r n).trans ?_)
  unfold resOf
  refine res_congr (fun k => x0 m c t r k R hR) (fun k => x1 m c t k n) (x2 m c t n) (x3 m c t r n R hR) ?_
  rw [hR]
  exact x4 m c t r.val r.isLt n

/-- The same, of the entry's place in the array. -/
theorem block_at (t : Fin cfg0.N) (r : Fin 256) (n : Fin 1024) (z : S34816x1024.Idx) (h0 : (z 0).val = 256 * t.val + r.val) (h1 : (z 1).val = n.val) :
    blockOut m c t (ix2 r n) = (result m c : S34816x1024.Idx → EReal) z := by
  obtain rfl : z 1 = n := Fin.ext h1
  exact block_apply m c t r (z 1) (z 0) h0

/-- The row of the array that an entry of a block lies in. -/
theorem emb_row (t : Fin cfg0.N) (y : ((cfg0.win 5).xblock (cfg0.grid.coords t)).Idx) :
    ((((cfg0.win 5).blk t).view.emb y) 0).val = 256 * t.val + (y 0).val := by
  have hi := index5 t
  refine (Pipeline.Window.rect_emb_val win0_5 t y 0).trans ?_
  show win0_5.index t 0 * 256 + (y 0).val = _
  omega

/-- The column of the array that an entry of a block lies in. -/
theorem emb_col (t : Fin cfg0.N) (y : ((cfg0.win 5).xblock (cfg0.grid.coords t)).Idx) :
    ((((cfg0.win 5).blk t).view.emb y) 1).val = (y 1).val := by
  have hi := index5 t
  refine (Pipeline.Window.rect_emb_val win0_5 t y 1).trans ?_
  show win0_5.index t 1 * 1024 + (y 1).val = (y 1).val
  omega

/-- An entry of the block that a point writes back. -/
theorem entry (t : Fin cfg0.N) (y : ((cfg0.win 5).xblock (cfg0.grid.coords t)).Idx) :
    blockOut m c t ((cfg0.win 5).xinj (cfg0.grid.coords t) y) = (result m c : S34816x1024.Idx → EReal) (((cfg0.win 5).blk t).view.emb y) := by
  have hy0 : (y 0).val < 256 := (y 0).isLt
  have hy1 : (y 1).val < 1024 := (y 1).isLt
  have hx : (cfg0.win 5).xinj (cfg0.grid.coords t) y = ix2 (⟨(y 0).val, hy0⟩ : Fin 256) (⟨(y 1).val, hy1⟩ : Fin 1024) := eq_ix2 _
  rw [hx]
  exact block_at m c t _ _ _ (emb_row t y) (emb_col t y)

/-- The array that the run leaves, of the blocks that its points write back. -/
theorem of_blocks (f : Buf (Elt Ideal) ((c : Thread nD τ).loc main_v13))
    (h : ∀ (t : Fin cfg0.N) (y : ((cfg0.win 5).xblock (cfg0.grid.coords t)).Idx),
      blockOut m c t ((cfg0.win 5).xinj (cfg0.grid.coords t) y) = (f : S34816x1024.Idx → EReal) (((cfg0.win 5).blk t).view.emb y)) :
    (dats m 0 c).arrAt 5 cfg0.N = f := by
  refine (dats m 0 c).arrAt_eq_of_covers 5 f (by decide +kernel) fun t _ y => ?_
  rw [after0_5]
  exact (cast_eq _ _).trans (h t y)

/-- After the run the result array holds the projection with its residual. -/
theorem final : (dats m 0 c).arrAt 5 cfg0.N = result m c :=
  of_blocks m c (result m c) (entry m c)

end Proj.Res

end
-- ==== Proof.Proj.ResHost.lean ====
module

public import proofs.«01_k».proof.Proof.Proj.ResBlock

@[expose] public section

set_option maxRecDepth 16384

noncomputable section

/-! The arrays that the output projection's launch finds, as the host code makes them. -/

namespace Proj.Res

open Cert.Kernel5Ideal Cert.Kernel5Ideal.Gen Idealize.ShloMosaic Idealize.ShloMosaic.ValueIdx Idealize.ShloMosaic.TcCoe
open Idealize.SL.Sem

variable (m : (ℓ : Loc nD τ sig) → Buf (Elt Ideal) ℓ) (c : Dev nD)

/-- The rows to add to. -/
theorem V_rows : (V m c main_v2 : S34816x1024.Idx → EReal) =
    stack (m ((c : Thread nD τ).loc main_arg3)) (m ((c : Thread nD τ).loc main_arg4)) shapeCasts_S8x4096x1024_S32768x1024
      shapeCasts_S8x256x1024_S2048x1024 concatenates_S32768x1024_S2048x1024_S34816x1024_d0 := by
  unfold V
  after_reads_simp
  rfl

/-- The modulations. -/
theorem V_mods : (V m c main_v6 : S96x1x1024.Idx → EReal) =
    mods (m ((c : Thread nD τ).loc main_arg5)) (m ((c : Thread nD τ).loc main_arg6)) (broadcastInDim S7x6144 ![] bcast_S_S7x6144 (constant S_ .f32 0x00000000#32))
      bcast_S6144_S1x6144_1 concatenates_S8x6144_S1x6144_S7x6144_S16x6144_d0 shapeCasts_S16x6144_S96x1x1024 := by
  unfold V
  after_reads_simp
  rfl

/-- The rows to project. -/
theorem V_heads : (V m c main_v10 : S34816x1024.Idx → EReal) =
    stack (m ((c : Thread nD τ).loc main_arg0)) (m ((c : Thread nD τ).loc main_arg1)) shapeCasts_S8x4096x1024_S32768x1024
      shapeCasts_S8x256x1024_S2048x1024 concatenates_S32768x1024_S2048x1024_S34816x1024_d0 := by
  unfold V
  after_reads_simp
  rfl

/-- The weights. -/
theorem V_weights : (V m c main_v11 : S1024x1024.Idx → EReal) = m ((c : Thread nD τ).loc main_arg2) := by
  unfold V
  after_reads_simp
  rfl

/-- The biases are zero. -/
theorem V_bias : (V m c main_v12 : S1x1024.Idx → EReal) = fun _ => (0 : EReal) := by
  unfold V
  after_reads_simp
  exact funext fun _ => Ideal.ofBits_zero_f32

end Proj.Res

end
-- ==== Proof.Proj.ResRef.lean ====
module

public import proofs.«01_k».proof.Proof.Proj.RefNorm
public import proofs.«01_k».proof.Proof.Proj.Pack
public import proofs.«01_k».proof.Proof.Proj.ResBlock
public import proofs.«01_k».proof.Proof.Gen.Reference5Ideal.Read

@[expose] public section

set_option maxRecDepth 16384

noncomputable section

/-! The plain output projection with its residual, read at a row of the latents and at a row of the context. -/

namespace Proj.Res

open Cert.Reference5Ideal Cert.Reference5Ideal.Gen Cert.Reference5Ideal.Read Idealize.ShloMosaic Idealize.ShloMosaic.ValueIdx Idealize.ShloMosaic.TcCoe

/-- A column of the gate's piece. -/
def gt (k : Fin 1024) : Fin 6144 := ⟨2048 + k.val, by omega⟩

variable (a0 : FVec Ideal S8x4096x1024 .f32) (a1 : FVec Ideal S8x256x1024 .f32) (a2 : FVec Ideal S1024x1024 .f32)
  (a3 : FVec Ideal S8x4096x1024 .f32) (a4 : FVec Ideal S8x256x1024 .f32) (a5 : FVec Ideal S8x6144 .f32) (a6 : FVec Ideal S6144 .f32)

/-- A latent's row. -/
theorem res_lat (b : Fin 8) (s : Fin 4096) (n : Fin 1024) (R : Fin 34816) (hR : R.val = 4096 * b.val + s.val) :
    val_main_v14 (F := Ideal) a0 a1 a2 a3 a4 a5 a6 (ix2 R n) =
      res (fun k => a0 (ix3 b s k)) (fun k => a2 (ix2 k n)) 0 (a3 (ix3 b s n)) (a5 (ix2 b (gt n))) := by
  refine (stack_lat (n := 1024) (val_main_v5 (F := Ideal) a0 a2 a3 a5) (val_main_v11 (F := Ideal) a1 a2 a4 a6) shapeCasts_S8x4096x1024_S32768x1024
    shapeCasts_S8x256x1024_S2048x1024 concatenates_S32768x1024_S2048x1024_S34816x1024_d0 b s R hR n).trans ?_
  rw [val_main_v5_apply, val_main_v4_apply, val_main_v3_apply, val_main_v2_apply, val_main_v1_apply, val_main_v0_apply]
  unfold res
  rw [add_zero]
  refine congrArg₂ (fun g y : EReal => a3 (ix3 b s n) + g * y) (congrArg a5 (eq_ix2 _)) (Finset.sum_congr rfl fun k _ => ?_)
  exact congrArg₂ (fun a b : EReal => a * b) (congrArg a0 (eq_ix3 _)) (congrArg a2 (eq_ix2 _))

/-- A context row. -/
theorem res_ctx (b : Fin 8) (s : Fin 256) (n : Fin 1024) (R : Fin 34816) (hR : R.val = 32768 + (256 * b.val + s.val)) :
    val_main_v14 (F := Ideal) a0 a1 a2 a3 a4 a5 a6 (ix2 R n) =
      res (fun k => a1 (ix3 b s k)) (fun k => a2 (ix2 k n)) 0 (a4 (ix3 b s n)) (a6 (ix1 (gt n))) := by
  refine (stack_ctx (n := 1024) (val_main_v5 (F := Ideal) a0 a2 a3 a5) (val_main_v11 (F := Ideal) a1 a2 a4 a6) shapeCasts_S8x4096x1024_S32768x1024
    shapeCasts_S8x256x1024_S2048x1024 concatenates_S32768x1024_S2048x1024_S34816x1024_d0 b s R hR n).trans ?_
  rw [val_main_v11_apply, val_main_v10_apply, val_main_v9_apply, val_main_v8_apply, val_main_v7_apply, val_main_v6_apply]
  unfold res
  rw [add_zero]
  refine congrArg₂ (fun g y : EReal => a4 (ix3 b s n) + g * y) (congrArg a6 (eq_ix1 _)) (Finset.sum_congr rfl fun k _ => ?_)
  exact congrArg₂ (fun a b : EReal => a * b) (congrArg a1 (eq_ix3 _)) (congrArg a2 (eq_ix2 _))

end Proj.Res

end
-- ==== Proof.Proj.Res.lean ====
module

public import proofs.«01_k».proof.Defs
public import proofs.«01_k».proof.Proof.Proj.ResHost
public import proofs.«01_k».proof.Proof.Proj.ResRef
public import proofs.«01_k».proof.Proof.Gen.Reference5Ideal.Run
public import Idealize.ShloMosaic.Lib.Quiescent

@[expose] public section

noncomputable section

/-! The output projection: the kernel and the plain mathematics end with equal results. -/

namespace Proj.Res

open Idealize.ShloMosaic Idealize.SL.Sem Idealize.ShloMosaic.ValueIdx Idealize.ShloMosaic.TcCoe

section

open Cert.Kernel5Ideal Cert.Kernel5Ideal.Gen

variable (m : (ℓ : Loc nD τ sig) → Buf (Elt Ideal) ℓ) (c : Dev nD)

/-- An entry of the result, of the arguments. -/
theorem result_apply (R : Fin 34816) (n : Fin 1024) : (result m c : S34816x1024.Idx → EReal) (ix2 R n) =
    Cert.Reference5Ideal.Read.val_main_v14 (F := Ideal) (m ((c : Thread nD τ).loc main_arg0)) (m ((c : Thread nD τ).loc main_arg1))
      (m ((c : Thread nD τ).loc main_arg2)) (m ((c : Thread nD τ).loc main_arg3)) (m ((c : Thread nD τ).loc main_arg4))
      (m ((c : Thread nD τ).loc main_arg5)) (m ((c : Thread nD τ).loc main_arg6)) (ix2 R n) := by
  show resOf (V m c main_v10) (V m c main_v11) (V m c main_v12) (V m c main_v2) (V m c main_v6) R n = _
  rw [V_heads, V_weights, V_bias, V_rows, V_mods]
  by_cases h : R.val < 32768
  · have hR : R.val = 4096 * (⟨R.val / 4096, by omega⟩ : Fin 8).val + (⟨R.val % 4096, by omega⟩ : Fin 4096).val := by
      show R.val = 4096 * (R.val / 4096) + R.val % 4096
      omega
    have hrow : modRow R.val = R.val / 4096 := if_pos h
    refine (res_congr (fun k => stack_lat _ _ _ _ _ _ _ R hR k) (fun _ => rfl) rfl (stack_lat _ _ _ _ _ _ _ R hR n) ?_).trans (res_lat _ _ _ _ _ _ _ _ _ n R hR).symm
    exact mods_lat _ _ _ _ _ _ (⟨R.val / 4096, by omega⟩ : Fin 8) 2 _ (by show 6 * modRow R.val + 2 = 6 * (R.val / 4096) + 2; rw [hrow]) n (gt n)
      (by show 2048 + n.val = 1024 * 2 + n.val; omega)
  · have hR : R.val = 32768 + (256 * (⟨(R.val - 32768) / 256, by omega⟩ : Fin 8).val + (⟨(R.val - 32768) % 256, by omega⟩ : Fin 256).val) := by
      show R.val = 32768 + (256 * ((R.val - 32768) / 256) + (R.val - 32768) % 256)
      omega
    have hrow : modRow R.val = 8 := if_neg h
    refine (res_congr (fun k => stack_ctx _ _ _ _ _ _ _ R hR k) (fun _ => rfl) rfl (stack_ctx _ _ _ _ _ _ _ R hR n) ?_).trans (res_ctx _ _ _ _ _ _ _ _ _ n R hR).symm
    exact mods_ctx _ _ _ _ _ _ 2 _ (by show 6 * modRow R.val + 2 = 48 + 2; rw [hrow]) n (gt n) (by show 2048 + n.val = 1024 * 2 + n.val; omega)

/-- What the kernel leaves in its result array: the reference's value of the arguments. -/
theorem kernel_value : (dats m 0 c).arrAt 5 cfg0.N =
    (Cert.Reference5Ideal.Read.val_main_v14 (F := Ideal) (m ((c : Thread nD τ).loc main_arg0)) (m ((c : Thread nD τ).loc main_arg1))
      (m ((c : Thread nD τ).loc main_arg2)) (m ((c : Thread nD τ).loc main_arg3)) (m ((c : Thread nD τ).loc main_arg4))
      (m ((c : Thread nD τ).loc main_arg5)) (m ((c : Thread nD τ).loc main_arg6)) : Buf (Elt Ideal) ((c : Thread nD τ).loc main_v13)) := by
  refine (final m c).trans (funext ?_)
  have key : ∀ y : S34816x1024.Idx, (result m c : S34816x1024.Idx → EReal) y =
      Cert.Reference5Ideal.Read.val_main_v14 (F := Ideal) (m ((c : Thread nD τ).loc main_arg0)) (m ((c : Thread nD τ).loc main_arg1))
        (m ((c : Thread nD τ).loc main_arg2)) (m ((c : Thread nD τ).loc main_arg3)) (m ((c : Thread nD τ).loc main_arg4))
        (m ((c : Thread nD τ).loc main_arg5)) (m ((c : Thread nD τ).loc main_arg6)) y := fun y => by
    rw [eq_ix2 y]
    exact result_apply m c (y 0) (y 1)
  exact key

end

/-- The kernel and the plain output projection end with equal results. -/
theorem projects : Cert.algebraic_Kernel5Ideal_Reference5Ideal := by
  intro m g m' g' _ hagree
  refine ⟨fun c => (Cert.Kernel5Ideal.Gen.dats m 0 c).arrAt 5 Cert.Kernel5Ideal.cfg0.N, Cert.Kernel5Ideal.Value.run_blocks m g, ?_⟩
  refine (θ_run Cert.Reference5Ideal.defs _ _).mono (fun r h c => ⟨?_, (h c).2⟩) (Cert.Reference5Ideal.Value.run (F := Ideal) m' g')
  rw [(h c).1, Cert.Reference5Ideal.Read.val_main_v14_eq]
  obtain ⟨e0, e1, e2, e3, e4, e5, e6⟩ := hagree c
  rw [e0, e1, e2, e3, e4, e5, e6]
  exact (kernel_value m c).symm

/-- The plain output projection ends with its arguments as they were and no semaphore raised. -/
theorem reference_frame : Cert.quiescent_Reference5Ideal := fun m g _ =>
  (θ_run Cert.Reference5Ideal.defs _ _).mono (fun r h => ⟨fun c => (h c).2, sem_eq_zero_of_no_sems rfl _⟩)
    (Cert.Reference5Ideal.Value.run (F := Ideal) m g)

end Proj.Res

end
-- ==== Proof.Proj.LastBlock.lean ====
module

public import proofs.«01_k».proof.Proof.Proj.ResBlock
public import proofs.«01_k».proof.Proof.Gen.Kernel6Ideal.Value
public import Idealize.ShloMosaic.Lib.Pipeline.ValueKit.Geometry
public import Idealize.ShloMosaic.Lib.StableHlo.RunRead

@[expose] public section

set_option maxRecDepth 16384

noncomputable section

/-! What the last layer's output projection with its residual leaves in its result, block by block. -/

namespace Proj.Last

open Cert.Kernel6Ideal Cert.Kernel6Ideal.Gen Idealize.ShloMosaic Idealize.ShloMosaic.ValueIdx Idealize.ShloMosaic.TcCoe
open Idealize.SL.Sem
open Proj.Res (res res_congr resOf modRow_block)

/-- An entry of what a grid point stores. -/
theorem pay_apply (a : Vec Ideal S256x1024 .bf16) (w : Vec Ideal S1024x1024 .bf16) (b : Vec Ideal S1x1024 .f32) (x : Vec Ideal S256x1024 .f32)
    (gate : Vec Ideal S1x1x1024 .f32) (r : Fin 256) (n : Fin 1024) :
    k0_pay1 a w b x gate (ix2 r n) = res (fun k => a (ix2 r k)) (fun k => w (ix2 k n)) (b (ix2 (0 : Fin 1) n)) (x (ix2 r n))
      (gate (ix3 (0 : Fin 1) (0 : Fin 1) n)) := by
  unfold k0_pay1
  simp only [shapeCast_self]
  refine congrArg₂ (fun g y : EReal => x (ix2 r n) + g * y) ((broadcastTo_1b_ab_apply _ _ r n).trans (shapeCast_1ab_ab_apply gate _ (0 : Fin 1) n)) ?_
  refine congrArg₂ (fun a b : EReal => a + b) ?_ (broadcastTo_1b_ab_apply b _ r n)
  refine (Ideal.matmul_plain_apply none a w _ r n).trans ?_
  rw [show (constant S256x1024 .f32 0x00000000#32 : FVec Ideal S256x1024 .f32) (ix2 r n) = 0 from Ideal.ofBits_zero_f32, zero_add]

theorem index0 : ∀ t : Fin cfg0.N, win0_0.index t 0 = t.val ∧ win0_0.index t 1 = 0 :=
  (by decide +kernel : ∀ t : Fin grid0.N, _)

theorem index1 : ∀ t : Fin cfg0.N, win0_1.index t 0 = 0 ∧ win0_1.index t 1 = 0 :=
  (by decide +kernel : ∀ t : Fin grid0.N, _)

theorem index2 : ∀ t : Fin cfg0.N, win0_2.index t 0 = 0 ∧ win0_2.index t 1 = 0 :=
  (by decide +kernel : ∀ t : Fin grid0.N, _)

theorem index3 : ∀ t : Fin cfg0.N, win0_3.index t 0 = t.val ∧ win0_3.index t 1 = 0 :=
  (by decide +kernel : ∀ t : Fin grid0.N, _)

theorem index4 : ∀ t : Fin cfg0.N, win0_4.index t 0 = 6 * modRow (256 * t.val) + 2 ∧ win0_4.index t 1 = 0 ∧ win0_4.index t 2 = 0 :=
  (by decide +kernel : ∀ t : Fin grid0.N, _)

theorem index5 : ∀ t : Fin cfg0.N, win0_5.index t 0 = t.val ∧ win0_5.index t 1 = 0 :=
  (by decide +kernel : ∀ t : Fin grid0.N, _)

variable (m : (ℓ : Loc nD τ sig) → Buf (Elt Ideal) ℓ) (c : Dev nD)

/-- The block of rows to project, at a point. -/
theorem x0 (t : Fin cfg0.N) (r : Fin 256) (k : Fin 1024) (R : Fin 34816) (hR : R.val = 256 * t.val + r.val) :
    (iblk m c 0 t : Vec Ideal S256x1024 .bf16) (ix2 r k) = (V m c main_v10 : FVec Ideal S34816x1024 .bf16) (ix2 R k) := by
  have hi := index0 t
  refine congrArg (V m c main_v10 : FVec Ideal S34816x1024 .bf16) (funext fun a => Fin.ext ?_)
  match a with
  | ⟨0, _⟩ =>
    refine (Pipeline.Window.rect_emb_val win0_0 t (ix2 r k) 0).trans ?_
    show win0_0.index t 0 * 256 + r.val = R.val
    omega
  | ⟨1, _⟩ =>
    refine (Pipeline.Window.rect_emb_val win0_0 t (ix2 r k) 1).trans ?_
    show win0_0.index t 1 * 1024 + k.val = k.val
    omega

/-- The weights at a point. -/
theorem x1 (t : Fin cfg0.N) (k n : Fin 1024) :
    (iblk m c 1 t : Vec Ideal S1024x1024 .bf16) (ix2 k n) = (V m c main_v11 : FVec Ideal S1024x1024 .bf16) (ix2 k n) := by
  have hi := index1 t
  refine congrArg (V m c main_v11 : FVec Ideal S1024x1024 .bf16) (funext fun a => Fin.ext ?_)
  match a with
  | ⟨0, _⟩ =>
    refine (Pipeline.Window.rect_emb_val win0_1 t (ix2 k n) 0).trans ?_
    show win0_1.index t 0 * 1024 + k.val = k.val
    omega
  | ⟨1, _⟩ =>
    refine (Pipeline.Window.rect_emb_val win0_1 t (ix2 k n) 1).trans ?_
    show win0_1.index t 1 * 1024 + n.val = n.val
    omega

/-- The biases at a point. -/
theorem x2 (t : Fin cfg0.N) (n : Fin 1024) :
    (iblk m c 2 t : Vec Ideal S1x1024 .f32) (ix2 (0 : Fin 1) n) = (V m c main_v12 : FVec Ideal S1x1024 .f32) (ix2 (0 : Fin 1) n) := by
  have hi := index2 t
  refine congrArg (V m c main_v12 : FVec Ideal S1x1024 .f32) (funext fun a => Fin.ext ?_)
  match a with
  | ⟨0, _⟩ =>
    refine (Pipeline.Window.rect_emb_val win0_2 t (ix2 (0 : Fin 1) n) 0).trans ?_
    show win0_2.index t 0 * 1 + 0 = 0
    omega
  | ⟨1, _⟩ =>
    refine (Pipeline.Window.rect_emb_val win0_2 t (ix2 (0 : Fin 1) n) 1).trans ?_
    show win0_2.index t 1 * 1024 + n.val = n.val
    omega

/-- The block of rows to add to, at a point. -/
theorem x3 (t : Fin cfg0.N) (r : Fin 256) (k : Fin 1024) (R : Fin 34816) (hR : R.val = 256 * t.val + r.val) :
    (iblk m c 3 t : Vec Ideal S256x1024 .f32) (ix2 r k) = (V m c main_v2 : FVec Ideal S34816x1024 .f32) (ix2 R k) := by
  have hi := index3 t
  refine congrArg (V m c main_v2 : FVec Ideal S34816x1024 .f32) (funext fun a => Fin.ext ?_)
  match a with
  | ⟨0, _⟩ =>
    refine (Pipeline.Window.rect_emb_val win0_3 t (ix2 r k) 0).trans ?_
    show win0_3.index t 0 * 256 + r.val = R.val
    omega
  | ⟨1, _⟩ =>
    refine (Pipeline.Window.rect_emb_val win0_3 t (ix2 r k) 1).trans ?_
    show win0_3.index t 1 * 1024 + k.val = k.val
    omega

/-- The gate at a point. -/
theorem x4 (t : Fin cfg0.N) (r : ℕ) (hr : r < 256) (k : Fin 1024) :
    (iblk m c 4 t : Vec Ideal S1x1x1024 .f32) (ix3 (0 : Fin 1) (0 : Fin 1) k) = piece (V m c main_v6 : FVec Ideal S96x1x1024 .f32) (256 * t.val + r) 2 k := by
  have hi := index4 t
  have hm := modRow_block t.val r hr
  refine congrArg (V m c main_v6 : FVec Ideal S96x1x1024 .f32) (funext fun a => Fin.ext ?_)
  match a with
  | ⟨0, _⟩ =>
    refine (Pipeline.Window.rect_emb_val win0_4 t (ix3 (0 : Fin 1) (0 : Fin 1) k) 0).trans ?_
    show win0_4.index t 0 * 1 + 0 = 6 * modRow (256 * t.val + r) + 2
    omega
  | ⟨1, _⟩ =>
    refine (Pipeline.Window.rect_emb_val win0_4 t (ix3 (0 : Fin 1) (0 : Fin 1) k) 1).trans ?_
    show win0_4.index t 1 * 1 + 0 = 0
    omega
  | ⟨2, _⟩ =>
    refine (Pipeline.Window.rect_emb_val win0_4 t (ix3 (0 : Fin 1) (0 : Fin 1) k) 2).trans ?_
    show win0_4.index t 2 * 1024 + k.val = k.val
    omega

/-- A row of the latents among all rows. -/
def lift (R : Fin 32768) : Fin 34816 := ⟨R.val, by omega⟩

/-- The projection with its residual, of the arrays that the launch finds. -/
def result : Buf (Elt Ideal) ((c : Thread nD τ).loc main_v13) :=
  fun y : S32768x1024.Idx => resOf (V m c main_v10 : FVec Ideal S34816x1024 .bf16) (V m c main_v11 : FVec Ideal S1024x1024 .bf16)
    (V m c main_v12 : FVec Ideal S1x1024 .f32) (V m c main_v2 : FVec Ideal S34816x1024 .f32) (V m c main_v6 : FVec Ideal S96x1x1024 .f32) (lift (y 0)) (y 1)

/-- What a grid point stores, of the blocks that it reads. -/
theorem out_eq (a : Vec Ideal S256x1024 .bf16) (w : Vec Ideal S1024x1024 .bf16) (b : Vec Ideal S1x1024 .f32) (x : Vec Ideal S256x1024 .f32)
    (gate : Vec Ideal S1x1x1024 .f32) : out0_5 (F := Ideal) a w b x gate = k0_pay1 a w b x gate := by
  unfold out0_5
  rw [View.canon_cons_unit_lit, View.ld_unit_lit, View.ld_unit_lit, View.ld_unit_lit, View.ld_unit_lit, View.ld_unit_lit] <;> decide

/-- What a grid point writes back. -/
def blockOut (t : Fin cfg0.N) : S256x1024.Idx → EReal :=
  out0_5 (F := Ideal) (iblk m c 0 t) (iblk m c 1 t) (iblk m c 2 t) (iblk m c 3 t) (iblk m c 4 t)

/-- What a grid point writes back, at an entry of its block. -/
theorem block_apply (t : Fin cfg0.N) (r : Fin 256) (n : Fin 1024) (R : Fin 32768) (hR : R.val = 256 * t.val + r.val) :
    blockOut m c t (ix2 r n) =
      resOf (V m c main_v10 : FVec Ideal S34816x1024 .bf16) (V m c main_v11 : FVec Ideal S1024x1024 .bf16)
        (V m c main_v12 : FVec Ideal S1x1024 .f32) (V m c main_v2 : FVec Ideal S34816x1024 .f32) (V m c main_v6 : FVec Ideal S96x1x1024 .f32) (lift R) n := by
  unfold blockOut
  refine (congrFun (out_eq _ _ _ _ _) _).trans ((pay_apply _ _ _ _ _ r n).trans ?_)
  unfold resOf
  refine res_congr (fun k => x0 m c t r k (lift R) hR) (fun k => x1 m c t k n) (x2 m c t n) (x3 m c t r n (lift R) hR) ?_
  rw [show (lift R).val = 256 * t.val + r.val from hR]
  exact x4 m c t r.val r.isLt n

/-- The same, of the entry's place in the array. -/
theorem block_at (t : Fin cfg0.N) (r : Fin 256) (n : Fin 1024) (z : S32768x1024.Idx) (h0 : (z 0).val = 256 * t.val + r.val) (h1 : (z 1).val = n.val) :
    blockOut m c t (ix2 r n) = (result m c : S32768x1024.Idx → EReal) z := by
  obtain rfl : z 1 = n := Fin.ext h1
  exact block_apply m c t r (z 1) (z 0) h0

/-- The row of the array that an entry of a block lies in. -/
theorem emb_row (t : Fin cfg0.N) (y : ((cfg0.win 5).xblock (cfg0.grid.coords t)).Idx) :
    ((((cfg0.win 5).blk t).view.emb y) 0).val = 256 * t.val + (y 0).val := by
  have hi := index5 t
  refine (Pipeline.Window.rect_emb_val win0_5 t y 0).trans ?_
  show win0_5.index t 0 * 256 + (y 0).val = _
  omega

/-- The column of the array that an entry of a block lies in. -/
theorem emb_col (t : Fin cfg0.N) (y : ((cfg0.win 5).xblock (cfg0.grid.coords t)).Idx) :
    ((((cfg0.win 5).blk t).view.emb y) 1).val = (y 1).val := by
  have hi := index5 t
  refine (Pipeline.Window.rect_emb_val win0_5 t y 1).trans ?_
  show win0_5.index t 1 * 1024 + (y 1).val = (y 1).val
  omega

/-- An entry of the block that a point writes back. -/
theorem entry (t : Fin cfg0.N) (y : ((cfg0.win 5).xblock (cfg0.grid.coords t)).Idx) :
    blockOut m c t ((cfg0.win 5).xinj (cfg0.grid.coords t) y) = (result m c : S32768x1024.Idx → EReal) (((cfg0.win 5).blk t).view.emb y) := by
  have hy0 : (y 0).val < 256 := (y 0).isLt
  have hy1 : (y 1).val < 1024 := (y 1).isLt
  have hx : (cfg0.win 5).xinj (cfg0.grid.coords t) y = ix2 (⟨(y 0).val, hy0⟩ : Fin 256) (⟨(y 1).val, hy1⟩ : Fin 1024) := eq_ix2 _
  rw [hx]
  exact block_at m c t _ _ _ (emb_row t y) (emb_col t y)

/-- The array that the run leaves, of the blocks that its points write back. -/
theorem of_blocks (f : Buf (Elt Ideal) ((c : Thread nD τ).loc main_v13))
    (h : ∀ (t : Fin cfg0.N) (y : ((cfg0.win 5).xblock (cfg0.grid.coords t)).Idx),
      blockOut m c t ((cfg0.win 5).xinj (cfg0.grid.coords t) y) = (f : S32768x1024.Idx → EReal) (((cfg0.win 5).blk t).view.emb y)) :
    (dats m 0 c).arrAt 5 cfg0.N = f := by
  refine (dats m 0 c).arrAt_eq_of_covers 5 f (by decide +kernel) fun t _ y => ?_
  rw [after0_5]
  exact (cast_eq _ _).trans (h t y)

/-- After the run the result array holds the projection with its residual. -/
theorem final : (dats m 0 c).arrAt 5 cfg0.N = result m c :=
  of_blocks m c (result m c) (entry m c)

end Proj.Last

end
-- ==== Proof.Proj.LastHost.lean ====
module

public import proofs.«01_k».proof.Proof.Proj.LastBlock

@[expose] public section

set_option maxRecDepth 16384

noncomputable section

/-! The arrays that the last output projection's launch finds, as the host code makes them. -/

namespace Proj.Last

open Cert.Kernel6Ideal Cert.Kernel6Ideal.Gen Idealize.ShloMosaic Idealize.ShloMosaic.ValueIdx Idealize.ShloMosaic.TcCoe
open Idealize.SL.Sem

variable (m : (ℓ : Loc nD τ sig) → Buf (Elt Ideal) ℓ) (c : Dev nD)

/-- The rows to add to. -/
theorem V_rows : (V m c main_v2 : S34816x1024.Idx → EReal) =
    stack (m ((c : Thread nD τ).loc main_arg3)) (m ((c : Thread nD τ).loc main_arg4)) shapeCasts_S8x4096x1024_S32768x1024
      shapeCasts_S8x256x1024_S2048x1024 concatenates_S32768x1024_S2048x1024_S34816x1024_d0 := by
  unfold V
  after_reads_simp
  rfl

/-- The modulations. -/
theorem V_mods : (V m c main_v6 : S96x1x1024.Idx → EReal) =
    mods (m ((c : Thread nD τ).loc main_arg5)) (m ((c : Thread nD τ).loc main_arg6)) (broadcastInDim S7x6144 ![] bcast_S_S7x6144 (constant S_ .f32 0x00000000#32))
      bcast_S6144_S1x6144_1 concatenates_S8x6144_S1x6144_S7x6144_S16x6144_d0 shapeCasts_S16x6144_S96x1x1024 := by
  unfold V
  after_reads_simp
  rfl

/-- The rows to project. -/
theorem V_heads : (V m c main_v10 : S34816x1024.Idx → EReal) =
    stack (m ((c : Thread nD τ).loc main_arg0)) (m ((c : Thread nD τ).loc main_arg1)) shapeCasts_S8x4096x1024_S32768x1024
      shapeCasts_S8x256x1024_S2048x1024 concatenates_S32768x1024_S2048x1024_S34816x1024_d0 := by
  unfold V
  after_reads_simp
  rfl

/-- The weights. -/
theorem V_weights : (V m c main_v11 : S1024x1024.Idx → EReal) = m ((c : Thread nD τ).loc main_arg2) := by
  unfold V
  after_reads_simp
  rfl

/-- The biases are zero. -/
theorem V_bias : (V m c main_v12 : S1x1024.Idx → EReal) = fun _ => (0 : EReal) := by
  unfold V
  after_reads_simp
  exact funext fun _ => Ideal.ofBits_zero_f32

end Proj.Last

end
-- ==== Proof.Proj.LastRef.lean ====
module

public import proofs.«01_k».proof.Proof.Proj.RefNorm
public import proofs.«01_k».proof.Proof.Proj.Pack
public import proofs.«01_k».proof.Proof.Proj.ResRef
public import proofs.«01_k».proof.Proof.Gen.Reference6Ideal.Read

@[expose] public section

set_option maxRecDepth 16384

noncomputable section

/-! The plain output projection with its residual, of the last layer, read at a row of the latents. -/

namespace Proj.Last

open Cert.Reference6Ideal Cert.Reference6Ideal.Gen Cert.Reference6Ideal.Read Idealize.ShloMosaic Idealize.ShloMosaic.ValueIdx Idealize.ShloMosaic.TcCoe

variable (a0 : FVec Ideal S8x4096x1024 .f32) (a2 : FVec Ideal S1024x1024 .f32) (a3 : FVec Ideal S8x4096x1024 .f32) (a5 : FVec Ideal S8x6144 .f32)

/-- A latent's row. -/
theorem res_lat (b : Fin 8) (s : Fin 4096) (n : Fin 1024) (R : Fin 32768) (hR : R.val = 4096 * b.val + s.val) :
    val_main_v6 (F := Ideal) a0 a2 a3 a5 (ix2 R n) =
      Proj.Res.res (fun k => a0 (ix3 b s k)) (fun k => a2 (ix2 k n)) 0 (a3 (ix3 b s n)) (a5 (ix2 b (Proj.Res.gt n))) := by
  have hi : idx_main_v6 (ix2 R n) = ix3 b s n := funext fun a => Fin.ext (by
    match a with
    | ⟨0, _⟩ => show (R.val * 1024 + n.val) / 4194304 = b.val; omega
    | ⟨1, _⟩ => show (R.val * 1024 + n.val) / 1024 % 4096 = s.val; omega
    | ⟨2, _⟩ => show (R.val * 1024 + n.val) % 1024 = n.val; omega)
  rw [val_main_v6_apply, hi, val_main_v5_apply, val_main_v4_apply, val_main_v3_apply, val_main_v2_apply, val_main_v1_apply, val_main_v0_apply]
  unfold Proj.Res.res
  rw [add_zero]
  refine congrArg₂ (fun g y : EReal => a3 (ix3 b s n) + g * y) (congrArg a5 (eq_ix2 _)) (Finset.sum_congr rfl fun k _ => ?_)
  exact congrArg₂ (fun a b : EReal => a * b) (congrArg a0 (eq_ix3 _)) (congrArg a2 (eq_ix2 _))

end Proj.Last

end
-- ==== Proof.Proj.Last.lean ====
module

public import proofs.«01_k».proof.Defs
public import proofs.«01_k».proof.Proof.Proj.LastHost
public import proofs.«01_k».proof.Proof.Proj.LastRef
public import proofs.«01_k».proof.Proof.Gen.Reference6Ideal.Run
public import Idealize.ShloMosaic.Lib.Quiescent

@[expose] public section

noncomputable section

/-! The last layer's output projection: the kernel and the plain mathematics end with equal results. -/

namespace Proj.Last

open Idealize.ShloMosaic Idealize.SL.Sem Idealize.ShloMosaic.ValueIdx Idealize.ShloMosaic.TcCoe

section

open Cert.Kernel6Ideal Cert.Kernel6Ideal.Gen

variable (m : (ℓ : Loc nD τ sig) → Buf (Elt Ideal) ℓ) (c : Dev nD)

/-- An entry of the result, of the arguments. -/
theorem result_apply (R : Fin 32768) (n : Fin 1024) : (result m c : S32768x1024.Idx → EReal) (ix2 R n) =
    Cert.Reference6Ideal.Read.val_main_v6 (F := Ideal) (m ((c : Thread nD τ).loc main_arg0)) (m ((c : Thread nD τ).loc main_arg2))
      (m ((c : Thread nD τ).loc main_arg3)) (m ((c : Thread nD τ).loc main_arg5)) (ix2 R n) := by
  have hlt := R.isLt
  have hR : R.val = 4096 * (⟨R.val / 4096, by omega⟩ : Fin 8).val + (⟨R.val % 4096, by omega⟩ : Fin 4096).val := by
    show R.val = 4096 * (R.val / 4096) + R.val % 4096
    omega
  have hrow : modRow R.val = R.val / 4096 := if_pos hlt
  show Proj.Res.resOf (V m c main_v10) (V m c main_v11) (V m c main_v12) (V m c main_v2) (V m c main_v6) (lift R) n = _
  rw [V_heads, V_weights, V_bias, V_rows, V_mods]
  refine (Proj.Res.res_congr (fun k => stack_lat _ _ _ _ _ _ _ (lift R) hR k) (fun _ => rfl) rfl (stack_lat _ _ _ _ _ _ _ (lift R) hR n) ?_).trans
    (res_lat _ _ _ _ _ _ n R hR).symm
  exact mods_lat _ _ _ _ _ _ (⟨R.val / 4096, by omega⟩ : Fin 8) 2 _ (by show 6 * modRow R.val + 2 = 6 * (R.val / 4096) + 2; rw [hrow]) n (Proj.Res.gt n)
    (by show 2048 + n.val = 1024 * 2 + n.val; omega)

/-- What the kernel leaves in its result array: the reference's value of the arguments. -/
theorem kernel_value : (dats m 0 c).arrAt 5 cfg0.N =
    (Cert.Reference6Ideal.Read.val_main_v6 (F := Ideal) (m ((c : Thread nD τ).loc main_arg0)) (m ((c : Thread nD τ).loc main_arg2))
      (m ((c : Thread nD τ).loc main_arg3)) (m ((c : Thread nD τ).loc main_arg5)) : Buf (Elt Ideal) ((c : Thread nD τ).loc main_v13)) := by
  refine (final m c).trans (funext ?_)
  have key : ∀ y : S32768x1024.Idx, (result m c : S32768x1024.Idx → EReal) y =
      Cert.Reference6Ideal.Read.val_main_v6 (F := Ideal) (m ((c : Thread nD τ).loc main_arg0)) (m ((c : Thread nD τ).loc main_arg2))
      (m ((c : Thread nD τ).loc main_arg3)) (m ((c : Thread nD τ).loc main_arg5)) y := fun y => by
    rw [eq_ix2 y]
    exact result_apply m c (y 0) (y 1)
  exact key

end

/-- The kernel and the plain last output projection end with equal results. -/
theorem projects : Cert.algebraic_Kernel6Ideal_Reference6Ideal := by
  intro m g m' g' _ hagree
  refine ⟨fun c => (Cert.Kernel6Ideal.Gen.dats m 0 c).arrAt 5 Cert.Kernel6Ideal.cfg0.N, Cert.Kernel6Ideal.Value.run_blocks m g, ?_⟩
  refine (θ_run Cert.Reference6Ideal.defs _ _).mono (fun r h c => ⟨?_, (h c).2⟩) (Cert.Reference6Ideal.Value.run (F := Ideal) m' g')
  rw [(h c).1, Cert.Reference6Ideal.Read.val_main_v6_eq]
  obtain ⟨e0, -, e2, e3, -, e5, -⟩ := hagree c
  rw [e0, e2, e3, e5]
  exact (kernel_value m c).symm

/-- The plain last output projection ends with its arguments as they were and no semaphore raised. -/
theorem reference_frame : Cert.quiescent_Reference6Ideal := fun m g _ =>
  (θ_run Cert.Reference6Ideal.defs _ _).mono (fun r h => ⟨fun c => (h c).2, sem_eq_zero_of_no_sems rfl _⟩)
    (Cert.Reference6Ideal.Value.run (F := Ideal) m g)

end Proj.Last

end
-- ==== Proof.Mod.Block.lean ====
module

public import proofs.«01_k».proof.Proof.Proj.Pack
public import proofs.«01_k».proof.Proof.Gen.Kernel7Ideal.Value
public import Idealize.ShloMosaic.Lib.Pipeline.ValueKit.Geometry
public import Idealize.ShloMosaic.Lib.StableHlo.RunRead

@[expose] public section

set_option maxRecDepth 16384

noncomputable section

/-! What the modulation call leaves in its result, block by block. -/

namespace Modulation

open Cert.Kernel7Ideal Cert.Kernel7Ideal.Gen Idealize.ShloMosaic Idealize.ShloMosaic.ValueIdx Idealize.ShloMosaic.TcCoe
open Idealize.SL.Sem

/-- The activation of a condition. -/
def silu (x : EReal) : EReal := x * Ideal.logistic x

/-- A product of two vectors in three parts: their leading parts, and each leading part with the other's rest. -/
def three (a w : Fin 1024 → EReal) : EReal := (∑ k, a k * w k) + ((∑ k, a k * (w k - w k)) + ∑ k, (a k - a k) * w k)

/-- A real number less itself. -/
theorem sub_self_real {a : EReal} (h : ∃ x : ℝ, a = (x : EReal)) : a - a = 0 := by
  obtain ⟨x, rfl⟩ := h
  rw [← EReal.coe_sub, sub_self, EReal.coe_zero]

/-- Of real numbers the three parts are the product. -/
theorem three_eq (a w : Fin 1024 → EReal) (ha : ∀ k, ∃ x : ℝ, a k = (x : EReal)) (hw : ∀ k, ∃ x : ℝ, w k = (x : EReal)) :
    three a w = ∑ k, a k * w k := by
  unfold three
  simp only [sub_self_real (ha _), sub_self_real (hw _), mul_zero, zero_mul, Finset.sum_const_zero, add_zero]

/-- The activation of a real number is real. -/
theorem silu_real {a : EReal} (h : ∃ x : ℝ, a = (x : EReal)) : ∃ x : ℝ, silu a = (x : EReal) := by
  obtain ⟨x, rfl⟩ := h
  refine ⟨x * (1 + Real.exp (-x))⁻¹, ?_⟩
  unfold silu
  rw [Ideal.logistic_coe, EReal.coe_mul]

/-- A product with a zero start. -/
theorem prod_apply {φ : FTy} (x : FVec Ideal S16x1024 φ) (w : FVec Ideal S1024x1536 φ) (r : Fin 16) (n : Fin 1536) :
    matmul dot_S16x1024_S1024x1536_S16x1536_1_0_0_1_n_n none x w (constant S16x1536 .f32 0x00000000#32) (ix2 r n) = ∑ k, x (ix2 r k) * w (ix2 k n) := by
  refine (Ideal.matmul_plain_apply none x w _ r n).trans ?_
  rw [show (constant S16x1536 .f32 0x00000000#32 : FVec Ideal S16x1536 .f32) (ix2 r n) = 0 from Ideal.ofBits_zero_f32, zero_add]

/-- An entry of what a grid point stores. -/
theorem pay_apply (x : Vec Ideal S16x1024 .f32) (w : Vec Ideal S1x1024x1536 .f32) (b : Vec Ideal S1x1x1536 .f32) (r : Fin 16) (n : Fin 1536) :
    k0_pay1 x w b (ix3 (0 : Fin 1) r n) =
      three (fun k => silu (x (ix2 r k))) (fun k => w (ix3 (0 : Fin 1) k n)) + b (ix3 (0 : Fin 1) (0 : Fin 1) n) := by
  have hw : ∀ k : Fin 1024, shapeCast S1024x1536 w shapeCasts_S1x1024x1536_S1024x1536 (ix2 k n) = w (ix3 (0 : Fin 1) k n) :=
    fun k => shapeCast_1ab_ab_apply w _ k n
  unfold k0_pay1
  simp only [shapeCast_self]
  refine (shapeCast_ab_1ab_apply _ _ (0 : Fin 1) r n).trans ?_
  refine congrArg₂ (fun a b : EReal => a + b) ?_ ((broadcastTo_1b_ab_apply _ _ r n).trans (shapeCast_1ab_ab_apply b _ (0 : Fin 1) n))
  unfold three
  refine congrArg₂ (fun a b : EReal => a + b) ?_ (congrArg₂ (fun a b : EReal => a + b) ?_ ?_)
  · refine (prod_apply _ _ r n).trans (Finset.sum_congr rfl fun k _ => ?_)
    exact congrArg (fun y : EReal => silu (x (ix2 r k)) * y) (hw k)
  · refine (prod_apply _ _ r n).trans (Finset.sum_congr rfl fun k _ => ?_)
    exact congrArg (fun y : EReal => silu (x (ix2 r k)) * (y - y)) (hw k)
  · refine (prod_apply _ _ r n).trans (Finset.sum_congr rfl fun k _ => ?_)
    exact congrArg (fun y : EReal => (silu (x (ix2 r k)) - silu (x (ix2 r k))) * y) (hw k)

theorem index0 : ∀ t : Fin cfg0.N, win0_0.index t 0 = 0 ∧ win0_0.index t 1 = 0 :=
  (by decide +kernel : ∀ t : Fin grid0.N, _)

theorem index1 : ∀ t : Fin cfg0.N, win0_1.index t 0 = t.val / 4 ∧ win0_1.index t 1 = 0 ∧ win0_1.index t 2 = t.val % 4 :=
  (by decide +kernel : ∀ t : Fin grid0.N, _)

theorem index2 : ∀ t : Fin cfg0.N, win0_2.index t 0 = t.val / 4 ∧ win0_2.index t 1 = 0 ∧ win0_2.index t 2 = t.val % 4 :=
  (by decide +kernel : ∀ t : Fin grid0.N, _)

theorem index3 : ∀ t : Fin cfg0.N, win0_3.index t 0 = t.val / 4 ∧ win0_3.index t 1 = 0 ∧ win0_3.index t 2 = t.val % 4 :=
  (by decide +kernel : ∀ t : Fin grid0.N, _)

variable (m : (ℓ : Loc nD τ sig) → Buf (Elt Ideal) ℓ) (c : Dev nD)

/-- The conditions at a point. -/
theorem x0 (t : Fin cfg0.N) (r : Fin 16) (k : Fin 1024) :
    (iblk m c 0 t : Vec Ideal S16x1024 .f32) (ix2 r k) = (V m c main_v2 : FVec Ideal S16x1024 .f32) (ix2 r k) := by
  have hi := index0 t
  refine congrArg (V m c main_v2 : FVec Ideal S16x1024 .f32) (funext fun a => Fin.ext ?_)
  match a with
  | ⟨0, _⟩ =>
    refine (Pipeline.Window.rect_emb_val win0_0 t (ix2 r k) 0).trans ?_
    show win0_0.index t 0 * 16 + r.val = r.val
    omega
  | ⟨1, _⟩ =>
    refine (Pipeline.Window.rect_emb_val win0_0 t (ix2 r k) 1).trans ?_
    show win0_0.index t 1 * 1024 + k.val = k.val
    omega

/-- The weights at a point. -/
theorem x1 (t : Fin cfg0.N) (k : Fin 1024) (n : Fin 1536) (i : Fin 4) (j : Fin 6144) (hi : i.val = t.val / 4) (hj : j.val = 1536 * (t.val % 4) + n.val) :
    (iblk m c 1 t : Vec Ideal S1x1024x1536 .f32) (ix3 (0 : Fin 1) k n) = (V m c main_arg2 : FVec Ideal S4x1024x6144 .f32) (ix3 i k j) := by
  have hx := index1 t
  refine congrArg (V m c main_arg2 : FVec Ideal S4x1024x6144 .f32) (funext fun a => Fin.ext ?_)
  match a with
  | ⟨0, _⟩ =>
    refine (Pipeline.Window.rect_emb_val win0_1 t (ix3 (0 : Fin 1) k n) 0).trans ?_
    show win0_1.index t 0 * 1 + 0 = i.val
    omega
  | ⟨1, _⟩ =>
    refine (Pipeline.Window.rect_emb_val win0_1 t (ix3 (0 : Fin 1) k n) 1).trans ?_
    show win0_1.index t 1 * 1024 + k.val = k.val
    omega
  | ⟨2, _⟩ =>
    refine (Pipeline.Window.rect_emb_val win0_1 t (ix3 (0 : Fin 1) k n) 2).trans ?_
    show win0_1.index t 2 * 1536 + n.val = j.val
    omega

/-- The biases at a point. -/
theorem x2 (t : Fin cfg0.N) (n : Fin 1536) (i : Fin 4) (j : Fin 6144) (hi : i.val = t.val / 4) (hj : j.val = 1536 * (t.val % 4) + n.val) :
    (iblk m c 2 t : Vec Ideal S1x1x1536 .f32) (ix3 (0 : Fin 1) (0 : Fin 1) n) = (V m c main_v3 : FVec Ideal S4x1x6144 .f32) (ix3 i (0 : Fin 1) j) := by
  have hx := index2 t
  refine congrArg (V m c main_v3 : FVec Ideal S4x1x6144 .f32) (funext fun a => Fin.ext ?_)
  match a with
  | ⟨0, _⟩ =>
    refine (Pipeline.Window.rect_emb_val win0_2 t (ix3 (0 : Fin 1) (0 : Fin 1) n) 0).trans ?_
    show win0_2.index t 0 * 1 + 0 = i.val
    omega
  | ⟨1, _⟩ =>
    refine (Pipeline.Window.rect_emb_val win0_2 t (ix3 (0 : Fin 1) (0 : Fin 1) n) 1).trans ?_
    show win0_2.index t 1 * 1 + 0 = 0
    omega
  | ⟨2, _⟩ =>
    refine (Pipeline.Window.rect_emb_val win0_2 t (ix3 (0 : Fin 1) (0 : Fin 1) n) 2).trans ?_
    show win0_2.index t 2 * 1536 + n.val = j.val
    omega

/-- A row's modulation in a layer, at a column. -/
def modOf (C : FVec Ideal S16x1024 .f32) (W : FVec Ideal S4x1024x6144 .f32) (B : FVec Ideal S4x1x6144 .f32) (i : Fin 4) (r : Fin 16) (j : Fin 6144) : EReal :=
  three (fun k => silu (C (ix2 r k))) (fun k => W (ix3 i k j)) + B (ix3 i (0 : Fin 1) j)

/-- The modulations, of the arrays that the launch finds. -/
def result : Buf (Elt Ideal) ((c : Thread nD τ).loc main_v4) :=
  fun y : S4x16x6144.Idx => modOf (V m c main_v2 : FVec Ideal S16x1024 .f32) (V m c main_arg2 : FVec Ideal S4x1024x6144 .f32)
    (V m c main_v3 : FVec Ideal S4x1x6144 .f32) (y 0) (y 1) (y 2)

/-- What a grid point stores, of the blocks that it reads. -/
theorem out_eq (x : Vec Ideal S16x1024 .f32) (w : Vec Ideal S1x1024x1536 .f32) (b : Vec Ideal S1x1x1536 .f32) :
    out0_3 (F := Ideal) x w b = k0_pay1 x w b := by
  unfold out0_3
  rw [View.canon_cons_unit_lit, View.ld_unit_lit, View.ld_unit_lit, View.ld_unit_lit] <;> decide

/-- What a grid point writes back. -/
def blockOut (t : Fin cfg0.N) : S1x16x1536.Idx → EReal :=
  out0_3 (F := Ideal) (iblk m c 0 t) (iblk m c 1 t) (iblk m c 2 t)

/-- What a grid point writes back, at an entry of its block. -/
theorem block_apply (t : Fin cfg0.N) (r : Fin 16) (n : Fin 1536) (i : Fin 4) (j : Fin 6144) (hi : i.val = t.val / 4) (hj : j.val = 1536 * (t.val % 4) + n.val) :
    blockOut m c t (ix3 (0 : Fin 1) r n) = modOf (V m c main_v2 : FVec Ideal S16x1024 .f32) (V m c main_arg2 : FVec Ideal S4x1024x6144 .f32)
      (V m c main_v3 : FVec Ideal S4x1x6144 .f32) i r j := by
  unfold blockOut
  refine (congrFun (out_eq _ _ _) _).trans ((pay_apply _ _ _ r n).trans ?_)
  unfold modOf
  refine congrArg₂ (fun a b : EReal => a + b) (congrArg₂ three (funext fun k => congrArg silu (x0 m c t r k)) (funext fun k => x1 m c t k n i j hi hj)) ?_
  exact x2 m c t n i j hi hj

/-- The same, of the entry's place in the array. -/
theorem block_at (t : Fin cfg0.N) (r : Fin 16) (n : Fin 1536) (z : S4x16x6144.Idx) (h0 : (z 0).val = t.val / 4) (h1 : (z 1).val = r.val)
    (h2 : (z 2).val = 1536 * (t.val % 4) + n.val) : blockOut m c t (ix3 (0 : Fin 1) r n) = (result m c : S4x16x6144.Idx → EReal) z := by
  obtain rfl : z 1 = r := Fin.ext h1
  exact block_apply m c t (z 1) n (z 0) (z 2) h0 h2

/-- The layer of the array that an entry of a block lies in. -/
theorem emb_layer (t : Fin cfg0.N) (y : ((cfg0.win 3).xblock (cfg0.grid.coords t)).Idx) :
    ((((cfg0.win 3).blk t).view.emb y) 0).val = t.val / 4 := by
  have hi := index3 t
  have hy : (y 0).val < 1 := (y 0).isLt
  refine (Pipeline.Window.rect_emb_val win0_3 t y 0).trans ?_
  show win0_3.index t 0 * 1 + (y 0).val = _
  omega

/-- The row of the array that an entry of a block lies in. -/
theorem emb_row (t : Fin cfg0.N) (y : ((cfg0.win 3).xblock (cfg0.grid.coords t)).Idx) :
    ((((cfg0.win 3).blk t).view.emb y) 1).val = (y 1).val := by
  have hi := index3 t
  refine (Pipeline.Window.rect_emb_val win0_3 t y 1).trans ?_
  show win0_3.index t 1 * 16 + (y 1).val = (y 1).val
  omega

/-- The column of the array that an entry of a block lies in. -/
theorem emb_col (t : Fin cfg0.N) (y : ((cfg0.win 3).xblock (cfg0.grid.coords t)).Idx) :
    ((((cfg0.win 3).blk t).view.emb y) 2).val = 1536 * (t.val % 4) + (y 2).val := by
  have hi := index3 t
  refine (Pipeline.Window.rect_emb_val win0_3 t y 2).trans ?_
  show win0_3.index t 2 * 1536 + (y 2).val = _
  omega

/-- An entry of the block that a point writes back. -/
theorem entry (t : Fin cfg0.N) (y : ((cfg0.win 3).xblock (cfg0.grid.coords t)).Idx) :
    blockOut m c t ((cfg0.win 3).xinj (cfg0.grid.coords t) y) = (result m c : S4x16x6144.Idx → EReal) (((cfg0.win 3).blk t).view.emb y) := by
  have hy0 : (y 0).val < 1 := (y 0).isLt
  have hy1 : (y 1).val < 16 := (y 1).isLt
  have hy2 : (y 2).val < 1536 := (y 2).isLt
  have hx : (cfg0.win 3).xinj (cfg0.grid.coords t) y = ix3 (0 : Fin 1) (⟨(y 1).val, hy1⟩ : Fin 16) (⟨(y 2).val, hy2⟩ : Fin 1536) :=
    funext fun a => Fin.ext (by
      match a with
      | ⟨0, _⟩ => show (y 0).val = 0; omega
      | ⟨1, _⟩ => rfl
      | ⟨2, _⟩ => rfl)
  rw [hx]
  exact block_at m c t _ _ _ (emb_layer t y) (emb_row t y) (emb_col t y)

/-- The array that the run leaves, of the blocks that its points write back. -/
theorem of_blocks (f : Buf (Elt Ideal) ((c : Thread nD τ).loc main_v4))
    (h : ∀ (t : Fin cfg0.N) (y : ((cfg0.win 3).xblock (cfg0.grid.coords t)).Idx),
      blockOut m c t ((cfg0.win 3).xinj (cfg0.grid.coords t) y) = (f : S4x16x6144.Idx → EReal) (((cfg0.win 3).blk t).view.emb y)) :
    (dats m 0 c).arrAt 3 cfg0.N = f := by
  refine (dats m 0 c).arrAt_eq_of_covers 3 f (by decide +kernel) fun t _ y => ?_
  rw [after0_3]
  exact (cast_eq _ _).trans (h t y)

/-- After the run the result array holds the modulations. -/
theorem final : (dats m 0 c).arrAt 3 cfg0.N = result m c :=
  of_blocks m c (result m c) (entry m c)

end Modulation

end
-- ==== Proof.Mod.Ref.lean ====
module

public import proofs.«01_k».proof.Proof.Mod.Block
public import proofs.«01_k».proof.Proof.Gen.Reference7Ideal.Read
public import Idealize.ShloMosaic.Lib.IdealHost

@[expose] public section

set_option maxRecDepth 16384

noncomputable section

/-! The plain modulations, entry by entry. -/

namespace Modulation

open Cert.Reference7Ideal Cert.Reference7Ideal.Gen Cert.Reference7Ideal.Read Idealize.ShloMosaic Idealize.ShloMosaic.ValueIdx Idealize.ShloMosaic.TcCoe

variable (a0 : FVec Ideal S8x1024 .f32) (a1 : FVec Ideal S1024 .f32) (a2 : FVec Ideal S4x1024x6144 .f32) (a3 : FVec Ideal S4x6144 .f32)

/-- The rows of conditions are real where the conditions are. -/
theorem rows_real (h0 : ∀ i, ∃ x : ℝ, a0 i = (x : EReal)) (h1 : ∀ i, ∃ x : ℝ, a1 i = (x : EReal)) (r : Fin 16) (k : Fin 1024) :
    ∃ x : ℝ, val_main_v2 (F := Ideal) a0 a1 (ix2 r k) = (x : EReal) := by
  unfold val_main_v2
  by_cases hr : r.val < 8
  · obtain ⟨x, hx⟩ := h0 (ix2 (⟨r.val, hr⟩ : Fin 8) k)
    refine ⟨x, Eq.trans ?_ hx⟩
    exact concatenate_apply_piece (t := S16x1024) (0 : Fin 2) [⟨S8x1024, a0⟩, ⟨S1x1024, val_main_v0 (F := Ideal) a1⟩, ⟨S7x1024, val_main_v1 (F := Ideal)⟩]
      concatenates_S8x1024_S1x1024_S7x1024_S16x1024_d0 _ 0 (by simp) S8x1024 a0 rfl rfl 0 rfl (ix2 (⟨r.val, hr⟩ : Fin 8) k)
      (fun | ⟨0, _⟩ => fun h => absurd rfl h | ⟨1, _⟩ => fun _ => rfl) (Nat.zero_add _)
  by_cases hr' : r.val = 8
  · obtain ⟨x, hx⟩ := h1 (idx_main_v0 (ix2 (0 : Fin 1) k))
    refine ⟨x, Eq.trans ?_ ((val_main_v0_apply (F := Ideal) a1 _).trans hx)⟩
    exact concatenate_apply_piece (t := S16x1024) (0 : Fin 2) [⟨S8x1024, a0⟩, ⟨S1x1024, val_main_v0 (F := Ideal) a1⟩, ⟨S7x1024, val_main_v1 (F := Ideal)⟩]
      concatenates_S8x1024_S1x1024_S7x1024_S16x1024_d0 _ 1 (by simp) S1x1024 _ rfl rfl 8 rfl (ix2 (0 : Fin 1) k)
      (fun | ⟨0, _⟩ => fun h => absurd rfl h | ⟨1, _⟩ => fun _ => rfl) (by show 8 + 0 = r.val; omega)
  · refine ⟨0, Eq.trans (b := val_main_v1 (F := Ideal) (ix2 (⟨r.val - 9, by omega⟩ : Fin 7) k)) ?_ ?_⟩
    · exact concatenate_apply_piece (t := S16x1024) (0 : Fin 2) [⟨S8x1024, a0⟩, ⟨S1x1024, val_main_v0 (F := Ideal) a1⟩, ⟨S7x1024, val_main_v1 (F := Ideal)⟩]
        concatenates_S8x1024_S1x1024_S7x1024_S16x1024_d0 _ 2 (by simp) S7x1024 _ rfl rfl 9 rfl (ix2 (⟨r.val - 9, by omega⟩ : Fin 7) k)
        (fun | ⟨0, _⟩ => fun h => absurd rfl h | ⟨1, _⟩ => fun _ => rfl) (by show 9 + (r.val - 9) = r.val; omega)
    · rw [val_main_v1_apply, val_main_cst_apply]
      exact Ideal.ofBits_zero_f32

/-- The activation, as the plain modulation writes it. -/
theorem silu_eq (a : EReal) :
    a * Ideal.div (Ideal.ofBits .f32 0x3F800000#32) (Ideal.ofBits .f32 0x3F800000#32 + Ideal.exp (-a)) = silu a := by
  rw [Ideal.ofBits_one_f32]
  rfl

/-- An activated condition. -/
theorem act_apply (i : S16x1024.Idx) : val_main_v3 (F := Ideal) a0 a1 i = silu (val_main_v2 (F := Ideal) a0 a1 i) := by
  rw [val_main_v3_apply, val_main_call0_v5_apply, val_main_call0_v4_apply, val_main_call0_cst_0_apply, val_main_call0_v3_apply, val_main_call0_v2_apply,
    val_main_call0_cst_apply, val_main_call0_v1_apply, val_main_call0_v0_apply]
  exact silu_eq _

/-- An entry of the modulations. -/
theorem ref_apply (i : Fin 4) (r : Fin 16) (j : Fin 6144) :
    val_main_v8 (F := Ideal) a0 a1 a2 a3 (ix3 i r j) =
      (∑ k, silu (val_main_v2 (F := Ideal) a0 a1 (ix2 r k)) * a2 (ix3 i k j)) + a3 (ix2 i j) := by
  rw [val_main_v8_apply, val_main_v7_apply, val_main_v6_apply, val_main_v5_apply, val_main_v4_apply]
  refine congrArg₂ (fun a b : EReal => a + b) (Finset.sum_congr rfl fun k _ => ?_) (congrArg a3 (eq_ix2 _))
  rw [act_apply, mul_comm]
  exact congrArg₂ (fun a b : EReal => silu a * b) (congrArg (val_main_v2 (F := Ideal) a0 a1) (eq_ix2 _)) (congrArg a2 (eq_ix3 _))

end Modulation

end
-- ==== Proof.Mod.Mod.lean ====
module

public import proofs.«01_k».proof.Defs
public import proofs.«01_k».proof.Proof.Mod.Ref
public import proofs.«01_k».proof.Proof.Equation
public import proofs.«01_k».proof.Proof.Gen.Reference7Ideal.Run
public import proofs.«01_k».proof.Proof.Gen.Pre_finite_c
public import Idealize.ShloMosaic.Lib.Quiescent

@[expose] public section

set_option maxRecDepth 16384

noncomputable section

/-! The modulations: the kernel and the plain mathematics end with equal results. -/

namespace Modulation

open Idealize.ShloMosaic Idealize.SL.Sem Idealize.ShloMosaic.ValueIdx Idealize.ShloMosaic.TcCoe

/-- The precondition, read: conditions and weights are real numbers. -/
theorem pre_real (a0 : FVec Ideal Cert.Kernel7Ideal.S8x1024 .f32) (a1 : FVec Ideal Cert.Kernel7Ideal.S1024 .f32)
    (a2 : FVec Ideal Cert.Kernel7Ideal.S4x1024x6144 .f32) (a3 : FVec Ideal Cert.Kernel7Ideal.S4x6144 .f32)
    (h : (Cert.Pre_finite_c.fn (F := Ideal) a0 a1 a2 a3).1 = (fun _ => 1#1)
      ∧ (Cert.Pre_finite_c.fn (F := Ideal) a0 a1 a2 a3).2.1 = (fun _ => 1#1)
      ∧ (Cert.Pre_finite_c.fn (F := Ideal) a0 a1 a2 a3).2.2 = (fun _ => 1#1)) :
    (∀ i, ∃ x : ℝ, a0 i = (x : EReal)) ∧ (∀ i, ∃ x : ℝ, a1 i = (x : EReal)) ∧ (∀ i, ∃ x : ℝ, a2 i = (x : EReal)) := by
  simp only [Cert.Pre_finite_c.fn] at h
  obtain ⟨h0, h1, h2⟩ := h
  exact ⟨fun i => Attn.real_of_abs_lt _ (congrFun h0 i), fun i => Attn.real_of_abs_lt _ (congrFun h1 i),
    fun i => Attn.real_of_abs_lt _ (congrFun h2 i)⟩

section

open Cert.Kernel7Ideal Cert.Kernel7Ideal.Gen

variable (m : (ℓ : Loc nD τ sig) → Buf (Elt Ideal) ℓ) (c : Dev nD)

/-- The rows of conditions. -/
theorem V_rows : (V m c main_v2 : S16x1024.Idx → EReal) =
    Cert.Reference7Ideal.Read.val_main_v2 (F := Ideal) (m ((c : Thread nD τ).loc main_arg0)) (m ((c : Thread nD τ).loc main_arg1)) := by
  unfold V
  after_reads_simp
  rfl

/-- The weights. -/
theorem V_weights : (V m c main_arg2 : S4x1024x6144.Idx → EReal) = m ((c : Thread nD τ).loc main_arg2) := by
  unfold V
  after_reads_simp

/-- The biases, in a layer of their own. -/
theorem V_bias : (V m c main_v3 : S4x1x6144.Idx → EReal) =
    shapeCast S4x1x6144 (m ((c : Thread nD τ).loc main_arg3) : S4x6144.Idx → EReal) shapeCasts_S4x6144_S4x1x6144 := by
  unfold V
  after_reads_simp
  rfl

/-- An entry of the result, of the arguments. -/
theorem result_apply (hpre : Cert.Pre_Kernel7Ideal_finite_c m) (i : Fin 4) (r : Fin 16) (j : Fin 6144) :
    (result m c : S4x16x6144.Idx → EReal) (ix3 i r j) =
      Cert.Reference7Ideal.Read.val_main_v8 (F := Ideal) (m ((c : Thread nD τ).loc main_arg0)) (m ((c : Thread nD τ).loc main_arg1))
        (m ((c : Thread nD τ).loc main_arg2)) (m ((c : Thread nD τ).loc main_arg3)) (ix3 i r j) := by
  obtain ⟨h0, h1, h2⟩ := pre_real _ _ _ _ (hpre c)
  show modOf (V m c main_v2) (V m c main_arg2) (V m c main_v3) i r j = _
  rw [V_rows, V_weights, V_bias]
  refine Eq.trans ?_ (ref_apply _ _ _ _ i r j).symm
  unfold modOf
  refine congrArg₂ (fun a b : EReal => a + b) ?_ ?_
  · exact three_eq _ _ (fun k => silu_real (rows_real _ _ h0 h1 r k)) (fun k => h2 _)
  · refine shapeCast_apply _ _ _ (ix2 i j) ?_
    rw [Shape.rowMajor_val_three, Shape.rowMajor_val_two]
    show i.val * 6144 + j.val = (i.val * 1 + 0) * 6144 + j.val
    omega

/-- What the kernel leaves in its result array: the reference's value of the arguments. -/
theorem kernel_value (hpre : Cert.Pre_Kernel7Ideal_finite_c m) : (dats m 0 c).arrAt 3 cfg0.N =
    (Cert.Reference7Ideal.Read.val_main_v8 (F := Ideal) (m ((c : Thread nD τ).loc main_arg0)) (m ((c : Thread nD τ).loc main_arg1))
      (m ((c : Thread nD τ).loc main_arg2)) (m ((c : Thread nD τ).loc main_arg3)) : Buf (Elt Ideal) ((c : Thread nD τ).loc main_v4)) := by
  refine (final m c).trans (funext ?_)
  have key : ∀ y : S4x16x6144.Idx, (result m c : S4x16x6144.Idx → EReal) y =
      Cert.Reference7Ideal.Read.val_main_v8 (F := Ideal) (m ((c : Thread nD τ).loc main_arg0)) (m ((c : Thread nD τ).loc main_arg1))
        (m ((c : Thread nD τ).loc main_arg2)) (m ((c : Thread nD τ).loc main_arg3)) y := fun y => by
    rw [eq_ix3 y]
    exact result_apply m c hpre (y 0) (y 1) (y 2)
  exact key

end

/-- The kernel and the plain modulations end with equal results. -/
theorem modulates : Cert.algebraic_Kernel7Ideal_Reference7Ideal_pre_finite_c := by
  intro m g m' g' hpre hagree
  refine ⟨fun c => (Cert.Kernel7Ideal.Gen.dats m 0 c).arrAt 3 Cert.Kernel7Ideal.cfg0.N, Cert.Kernel7Ideal.Value.run_blocks m g, ?_⟩
  refine (θ_run Cert.Reference7Ideal.defs _ _).mono (fun r h c => ⟨?_, (h c).2⟩) (Cert.Reference7Ideal.Value.run (F := Ideal) m' g')
  rw [(h c).1, Cert.Reference7Ideal.Read.val_main_v8_eq]
  obtain ⟨e0, e1, e2, e3⟩ := hagree c
  rw [e0, e1, e2, e3]
  exact (kernel_value m c hpre).symm

/-- The plain modulations end with their arguments as they were and no semaphore raised. -/
theorem reference_frame : Cert.quiescent_Reference7Ideal := fun m g _ =>
  (θ_run Cert.Reference7Ideal.defs _ _).mono (fun r h => ⟨fun c => (h c).2, sem_eq_zero_of_no_sems rfl _⟩)
    (Cert.Reference7Ideal.Value.run (F := Ideal) m g)

end Modulation

end
-- ==== Proof.Qkv.Head.lean ====
module

public import proofs.«01_k».proof.Proof.Proj.Pack
public import proofs.«01_k».proof.Proof.Gen.Kernel8Ideal.Value
public import Idealize.ShloMosaic.Lib.KernelVsHost

@[expose] public section

set_option maxRecDepth 16384

noncomputable section

/-! One head of the query, key and value projections: its norm, and its rotation. -/

namespace Qkv

open Cert.Kernel8Ideal Cert.Kernel8Ideal.Gen Idealize.ShloMosaic Idealize.ShloMosaic.ValueIdx Idealize.ShloMosaic.TcCoe Proj

/-- One over the root of a head's mean square. -/
def hinv (v : Fin 128 → EReal) : EReal :=
  Ideal.rsqrt (Ideal.div (∑ k, v k * v k) (Ideal.ofBits .f32 0x43000000#32) + Ideal.ofBits .f32 0x358637BD#32)

/-- A head, normed, with a gain. -/
def hn (v g : Fin 128 → EReal) (d : Fin 128) : EReal := v d * hinv v * g d

/-- The entry that an entry is rotated with. -/
def partner (d : Fin 128) : Fin 128 := if h : d.val % 64 < 32 then ⟨d.val + 32, by omega⟩ else ⟨d.val - 32, by omega⟩

/-- A head, normed, rotated and scaled. -/
def rot (v g cs sn : Fin 128 → EReal) (s : EReal) (d : Fin 128) : EReal :=
  (hn v g d * cs d + hn v g (partner d) * sn d) * s

/-- The lower half of each pair of quarters. -/
abbrev mask : IVec S256x128 1 := k0_pay6 (iota .tc S256x128 32 [1] iota_S256x128_d1_w32) 64#32 0#1

theorem mask_row (d : Fin 128) : mask (ix2 (0 : Fin 256) d) = if d.val % 64 < 32 then 1#1 else 0#1 := by
  revert d
  decide +kernel

theorem mask_apply (r : Fin 256) (d : Fin 128) : mask (ix2 r d) = if d.val % 64 < 32 then 1#1 else 0#1 := mask_row d

/-- A head's norm, as a block computes it. -/
def nvec (v : FVec Ideal S256x128 .f32) (g : FVec Ideal S1x128 .f32) : FVec Ideal S256x128 .f32 :=
  mulf (mulf v (broadcastTo S256x128 (rsqrt (addf (divf (shapeCast S256x1 (multiReduction .add [1] S256 (mulf v v) 0x00000000#32 reduces_S256x128_S256 (.inl rfl) rfl)
    shapeCasts_S256_S256x1) (broadcast S256x1 (Scalar.ofBits .f32 0x43000000#32 : Ideal .f32))) (broadcast S256x1 (Scalar.ofBits .f32 0x358637BD#32 : Ideal .f32))))
    broadcasts_S256x1_S256x128)) (broadcastTo S256x128 g broadcasts_S1x128_S256x128)

/-- A head, as a block computes it. -/
def hvec (v : FVec Ideal S256x128 .f32) (g : FVec Ideal S1x128 .f32) (cs sn : FVec Ideal S256x128 .f32) (s : BitVec 32) : FVec Ideal S256x128 .bf16 :=
  truncf .bf16 (mulf (addf (mulf (nvec v g) cs) (mulf (select mask (dynamicRotate 1 96#32 none (nvec v g) rotates_S256x128_d1)
    (dynamicRotate 1 32#32 none (nvec v g) rotates_S256x128_d1)) sn)) (broadcast S256x128 (Scalar.ofBits .f32 s : Ideal .f32))) bitsLt_bf16_f32

theorem nvec_apply (v : FVec Ideal S256x128 .f32) (g : FVec Ideal S1x128 .f32) (r : Fin 256) (d : Fin 128) :
    nvec v g (ix2 r d) = hn (fun k => v (ix2 r k)) (fun k => g (ix2 (0 : Fin 1) k)) d := by
  refine congrArg₂ (fun a b : EReal => a * b) (congrArg (fun b : EReal => v (ix2 r d) * b) ?_) (broadcastTo_1b_ab_apply g _ r d)
  refine (broadcastTo_apply _ broadcasts_S256x1_S256x128 (ix2 r d) (ix2 r (0 : Fin 1)) fun | ⟨0, _⟩ => rfl | ⟨1, _⟩ => rfl).trans ?_
  refine congrArg (fun s : EReal => Ideal.rsqrt (Ideal.div s (Ideal.ofBits .f32 0x43000000#32) + Ideal.ofBits .f32 0x358637BD#32)) ?_
  refine (shapeCast_apply _ shapeCasts_S256_S256x1 _ (ix1 r) ?_).trans ?_
  · rw [Shape.rowMajor_val_one, Shape.rowMajor_val_two]
    show r.val = r.val * 1 + 0
    omega
  · refine (Ideal.multiReduction_add_single _ _ reduces_S256x128_S256 (.inl rfl) rfl _).trans ?_
    exact Finset.sum_congr rfl fun k _ => congrArg (fun i => v i * v i) (eq_ix2 _)

theorem hvec_apply (v : FVec Ideal S256x128 .f32) (g : FVec Ideal S1x128 .f32) (cs sn : FVec Ideal S256x128 .f32) (s : BitVec 32) (r : Fin 256) (d : Fin 128) :
    hvec v g cs sn s (ix2 r d) = rot (fun k => v (ix2 r k)) (fun k => g (ix2 (0 : Fin 1) k)) (fun k => cs (ix2 r k)) (fun k => sn (ix2 r k)) (Ideal.ofBits .f32 s) d := by
  refine congrArg (fun a : EReal => a * Ideal.ofBits .f32 s) (congrArg₂ (fun a b : EReal => a + b)
    (congrArg (fun a : EReal => a * cs (ix2 r d)) (nvec_apply v g r d)) (congrArg (fun a : EReal => a * sn (ix2 r d)) ?_))
  refine Eq.trans ?_ (nvec_apply v g r (partner d))
  show (if mask (ix2 r d) = 1#1 then dynamicRotate 1 96#32 none (nvec v g) rotates_S256x128_d1 (ix2 r d)
    else dynamicRotate 1 32#32 none (nvec v g) rotates_S256x128_d1 (ix2 r d)) = _
  rw [mask_apply]
  by_cases h : d.val % 64 < 32
  · rw [if_pos h, if_pos rfl]
    refine dynamicRotate_apply _ _ _ _ _ _ fun b => ?_
    unfold partner
    rw [dif_pos h]
    match b with
    | ⟨0, _⟩ => rfl
    | ⟨1, _⟩ =>
      show d.val + 32 = (d.val + 128 - 96) % 128
      omega
  · rw [if_neg h, if_neg (by decide)]
    refine dynamicRotate_apply _ _ _ _ _ _ fun b => ?_
    unfold partner
    rw [dif_neg h]
    match b with
    | ⟨0, _⟩ => rfl
    | ⟨1, _⟩ =>
      show d.val - 32 = (d.val + 128 - 32) % 128
      omega

end Qkv

end
-- ==== Proof.Qkv.Pay.lean ====
module

public import proofs.«01_k».proof.Proof.Qkv.Head

@[expose] public section

set_option maxRecDepth 16384

noncomputable section

/-! The heads that a block stores, and the columns that they lie in. -/

namespace Qkv

open Cert.Kernel8Ideal Cert.Kernel8Ideal.Gen Idealize.ShloMosaic Idealize.ShloMosaic.ValueIdx Idealize.ShloMosaic.TcCoe Proj

/-- A head's columns of a row. -/
def hcol (Y : Fin 1536 → EReal) (h : Fin 12) (d : Fin 128) : EReal := Y ⟨128 * h.val + d.val, by omega⟩

/-- A row of projections, its query and key heads normed and rotated. -/
def colOut (Y : Fin 1536 → EReal) (q k cs sn : Fin 128 → EReal) (n : Fin 1536) : EReal :=
  if n.val < 1024 then rot (hcol Y ⟨n.val / 128, by omega⟩) q cs sn (Ideal.ofBits .f32 0x3E0293EE#32) ⟨n.val % 128, by omega⟩
  else if n.val < 1280 then rot (hcol Y ⟨n.val / 128, by omega⟩) k cs sn (Ideal.ofBits .f32 0x3F800000#32) ⟨n.val % 128, by omega⟩
  else Y n

theorem colOut_q (Y : Fin 1536 → EReal) (q k cs sn : Fin 128 → EReal) (n : Fin 1536) (h : Fin 12) (d : Fin 128) (hn : n.val = 128 * h.val + d.val)
    (hh : h.val < 8) : colOut Y q k cs sn n = rot (hcol Y h) q cs sn (Ideal.ofBits .f32 0x3E0293EE#32) d := by
  have e1 : (⟨n.val / 128, by omega⟩ : Fin 12) = h := Fin.ext (by show n.val / 128 = h.val; omega)
  have e2 : (⟨n.val % 128, by omega⟩ : Fin 128) = d := Fin.ext (by show n.val % 128 = d.val; omega)
  unfold colOut
  rw [if_pos (by omega), e1, e2]

theorem colOut_k (Y : Fin 1536 → EReal) (q k cs sn : Fin 128 → EReal) (n : Fin 1536) (h : Fin 12) (d : Fin 128) (hn : n.val = 128 * h.val + d.val)
    (hh : 8 ≤ h.val) (hh' : h.val < 10) : colOut Y q k cs sn n = rot (hcol Y h) k cs sn (Ideal.ofBits .f32 0x3F800000#32) d := by
  have e1 : (⟨n.val / 128, by omega⟩ : Fin 12) = h := Fin.ext (by show n.val / 128 = h.val; omega)
  have e2 : (⟨n.val % 128, by omega⟩ : Fin 128) = d := Fin.ext (by show n.val % 128 = d.val; omega)
  unfold colOut
  rw [if_neg (by omega), if_pos (by omega), e1, e2]

theorem colOut_v (Y : Fin 1536 → EReal) (q k cs sn : Fin 128 → EReal) (n : Fin 1536) (h : 1280 ≤ n.val) : colOut Y q k cs sn n = Y n := by
  unfold colOut
  rw [if_neg (by omega), if_neg (by omega)]

/-- A head cut out of a block of rows. -/
theorem cut_apply (Y : FVec Ideal S256x1536 .f32) (o : ℕ) (hs : S256x1536.Slices ![0, o] S256x128) (h : Fin 12) (ho : o = 128 * h.val) (r : Fin 256)
    (d : Fin 128) : extractStridedSlice S256x128 ![0, o] Y hs (ix2 r d) = hcol (fun n => Y (ix2 r n)) h d := by
  subst ho
  exact extractStridedSlice_apply _ Y hs _ _ fun | ⟨0, _⟩ => (Nat.zero_add _).symm | ⟨1, _⟩ => rfl

variable (Y : FVec Ideal S256x1536 .f32) (cs sn : FVec Ideal S256x128 .f32) (q : FVec Ideal S1x128 .f32) (r : Fin 256) (d : Fin 128)

/-- A cut head, normed and rotated. -/
theorem hcut_apply (o : ℕ) (hs : S256x1536.Slices ![0, o] S256x128) (h : Fin 12) (ho : o = 128 * h.val) (s : BitVec 32) :
    hvec (extractStridedSlice S256x128 ![0, o] Y hs) (shapeCast S1x128 q shapeCasts_S1x128_S1x128) cs sn s (ix2 r d) =
      rot (hcol (fun n => Y (ix2 r n)) h) (fun k => q (ix2 (0 : Fin 1) k)) (fun k => cs (ix2 r k)) (fun k => sn (ix2 r k)) (Ideal.ofBits .f32 s) d := by
  rw [shapeCast_self]
  refine (hvec_apply _ _ _ _ _ _ _).trans ?_
  rw [show (fun k => extractStridedSlice S256x128 ![0, o] Y hs (ix2 r k)) = hcol (fun n => Y (ix2 r n)) h from funext fun k => cut_apply Y o hs h ho r k]

theorem head0 : (k0_pay7 Y cs sn (iota .tc S256x128 32 [1] iota_S256x128_d1_w32) 64#32 0#1 q) (ix2 r d) = rot (hcol (fun n => Y (ix2 r n)) 0) (fun k => q (ix2 (0 : Fin 1) k)) (fun k => cs (ix2 r k))
    (fun k => sn (ix2 r k)) (Ideal.ofBits .f32 0x3E0293EE#32) d :=
  hcut_apply Y cs sn q r d 0 slices_S256x1536_o0_0_S256x128 0 rfl 0x3E0293EE#32

theorem head1 : (k0_pay9 cs sn mask (k0_pay8 Y) q) (ix2 r d) = rot (hcol (fun n => Y (ix2 r n)) 1) (fun k => q (ix2 (0 : Fin 1) k)) (fun k => cs (ix2 r k))
    (fun k => sn (ix2 r k)) (Ideal.ofBits .f32 0x3E0293EE#32) d :=
  hcut_apply Y cs sn q r d 128 slices_S256x1536_o0_128_S256x128 1 rfl 0x3E0293EE#32

theorem head2 : (k0_pay13 sn (k0_pay11 Y mask q) (k0_pay12 Y cs q)) (ix2 r d) = rot (hcol (fun n => Y (ix2 r n)) 2) (fun k => q (ix2 (0 : Fin 1) k)) (fun k => cs (ix2 r k))
    (fun k => sn (ix2 r k)) (Ideal.ofBits .f32 0x3E0293EE#32) d :=
  hcut_apply Y cs sn q r d 256 slices_S256x1536_o0_256_S256x128 2 rfl 0x3E0293EE#32

theorem head3 : (k0_pay14 Y cs sn mask q) (ix2 r d) = rot (hcol (fun n => Y (ix2 r n)) 3) (fun k => q (ix2 (0 : Fin 1) k)) (fun k => cs (ix2 r k))
    (fun k => sn (ix2 r k)) (Ideal.ofBits .f32 0x3E0293EE#32) d :=
  hcut_apply Y cs sn q r d 384 slices_S256x1536_o0_384_S256x128 3 rfl 0x3E0293EE#32

theorem head4 : (k0_pay19 cs sn mask (k0_pay15 Y) (k0_pay16 q) (k0_pay17 Y) k0_pay18) (ix2 r d) = rot (hcol (fun n => Y (ix2 r n)) 4) (fun k => q (ix2 (0 : Fin 1) k)) (fun k => cs (ix2 r k))
    (fun k => sn (ix2 r k)) (Ideal.ofBits .f32 0x3E0293EE#32) d :=
  hcut_apply Y cs sn q r d 512 slices_S256x1536_o0_512_S256x128 4 rfl 0x3E0293EE#32

theorem head5 : (k0_pay20 Y cs sn mask q) (ix2 r d) = rot (hcol (fun n => Y (ix2 r n)) 5) (fun k => q (ix2 (0 : Fin 1) k)) (fun k => cs (ix2 r k))
    (fun k => sn (ix2 r k)) (Ideal.ofBits .f32 0x3E0293EE#32) d :=
  hcut_apply Y cs sn q r d 640 slices_S256x1536_o0_640_S256x128 5 rfl 0x3E0293EE#32

theorem head6 : (k0_pay22 cs sn mask (k0_pay21 Y) q) (ix2 r d) = rot (hcol (fun n => Y (ix2 r n)) 6) (fun k => q (ix2 (0 : Fin 1) k)) (fun k => cs (ix2 r k))
    (fun k => sn (ix2 r k)) (Ideal.ofBits .f32 0x3E0293EE#32) d :=
  hcut_apply Y cs sn q r d 768 slices_S256x1536_o0_768_S256x128 6 rfl 0x3E0293EE#32

theorem head7 : (k0_pay26 sn (k0_pay24 Y mask q) (k0_pay25 Y cs q)) (ix2 r d) = rot (hcol (fun n => Y (ix2 r n)) 7) (fun k => q (ix2 (0 : Fin 1) k)) (fun k => cs (ix2 r k))
    (fun k => sn (ix2 r k)) (Ideal.ofBits .f32 0x3E0293EE#32) d :=
  hcut_apply Y cs sn q r d 896 slices_S256x1536_o0_896_S256x128 7 rfl 0x3E0293EE#32

theorem head8 : (k0_pay27 Y cs sn mask q) (ix2 r d) = rot (hcol (fun n => Y (ix2 r n)) 8) (fun k => q (ix2 (0 : Fin 1) k)) (fun k => cs (ix2 r k))
    (fun k => sn (ix2 r k)) (Ideal.ofBits .f32 0x3F800000#32) d :=
  hcut_apply Y cs sn q r d 1024 slices_S256x1536_o0_1024_S256x128 8 rfl 0x3F800000#32

theorem head9 : (k0_pay1 cs sn mask (k0_pay28 Y) (k0_pay29 q) (k0_pay30 Y) k0_pay31) (ix2 r d) = rot (hcol (fun n => Y (ix2 r n)) 9) (fun k => q (ix2 (0 : Fin 1) k)) (fun k => cs (ix2 r k))
    (fun k => sn (ix2 r k)) (Ideal.ofBits .f32 0x3F800000#32) d :=
  hcut_apply Y cs sn q r d 1152 slices_S256x1536_o0_1152_S256x128 9 rfl 0x3F800000#32

theorem values (d : Fin 256) (n : Fin 1536) (hn : n.val = 1280 + d.val) : k0_pay2 Y (ix2 r d) = Y (ix2 r n) :=
  extractStridedSlice_apply ![0, 1280] Y slices_S256x1536_o0_1280_S256x256 (ix2 r d) (ix2 r n) fun | ⟨0, _⟩ => (Nat.zero_add _).symm | ⟨1, _⟩ => hn

end Qkv

end
-- ==== Proof.Qkv.Block.lean ====
module

public import proofs.«01_k».proof.Proof.Qkv.Pay
public import Idealize.ShloMosaic.Lib.Pipeline.ValueKit.Geometry
public import Idealize.ShloMosaic.Lib.StableHlo.RunRead

@[expose] public section

set_option maxRecDepth 16384

noncomputable section

/-! What a grid point of the query, key and value projections leaves in its block. -/

namespace Qkv

open Cert.Kernel8Ideal Cert.Kernel8Ideal.Gen Idealize.ShloMosaic Idealize.ShloMosaic.ValueIdx Idealize.ShloMosaic.TcCoe
open Idealize.ShloMosaic.Tactic Idealize.SL.Sem Proj

/-- An entry of a block, of the rows' projections. -/
def blockRow (Y : FVec Ideal S256x1536 .f32) (cs sn : FVec Ideal S256x128 .f32) (q k : FVec Ideal S1x128 .f32) (y : S256x1536.Idx) : EReal :=
  colOut (fun n => Y (ix2 (y 0) n)) (fun j => q (ix2 (0 : Fin 1) j)) (fun j => k (ix2 (0 : Fin 1) j)) (fun j => cs (ix2 (y 0) j)) (fun j => sn (ix2 (y 0) j)) (y 1)

section

variable (Y : FVec Ideal S256x1536 .f32) (cs sn : FVec Ideal S256x128 .f32) (q k : FVec Ideal S1x128 .f32)

theorem blockRow_q (y : S256x1536.Idx) (h : Fin 12) (r : Fin 256) (d : Fin 128) (h0 : (y 0).val = r.val) (h1 : (y 1).val = 128 * h.val + d.val) (hh : h.val < 8) :
    rot (hcol (fun n => Y (ix2 r n)) h) (fun j => q (ix2 (0 : Fin 1) j)) (fun j => cs (ix2 r j)) (fun j => sn (ix2 r j)) (Ideal.ofBits .f32 0x3E0293EE#32) d =
      blockRow Y cs sn q k y := by
  obtain rfl : y 0 = r := Fin.ext h0
  exact (colOut_q _ _ _ _ _ (y 1) h d h1 hh).symm

theorem blockRow_k (y : S256x1536.Idx) (h : Fin 12) (r : Fin 256) (d : Fin 128) (h0 : (y 0).val = r.val) (h1 : (y 1).val = 128 * h.val + d.val) (hh : 8 ≤ h.val)
    (hh' : h.val < 10) :
    rot (hcol (fun n => Y (ix2 r n)) h) (fun j => k (ix2 (0 : Fin 1) j)) (fun j => cs (ix2 r j)) (fun j => sn (ix2 r j)) (Ideal.ofBits .f32 0x3F800000#32) d =
      blockRow Y cs sn q k y := by
  obtain rfl : y 0 = r := Fin.ext h0
  exact (colOut_k _ _ _ _ _ (y 1) h d h1 hh hh').symm

theorem blockRow_v (y : S256x1536.Idx) (r : Fin 256) (d : Fin 256) (h0 : (y 0).val = r.val) (h1 : (y 1).val = 1280 + d.val) :
    k0_pay2 Y (ix2 r d) = blockRow Y cs sn q k y := by
  obtain rfl : y 0 = r := Fin.ext h0
  exact (values Y (y 0) d (y 1) h1).trans (colOut_v (fun n => Y (ix2 (y 0) n)) _ _ _ _ (y 1) (by omega)).symm

/-- The block as its eleven stores leave it. -/
theorem canon_apply (inb10 inb9 inb8 inb7 inb6 inb5 inb4 inb3 inb2 inb1 inb0) (y : S256x1536.Idx) :
    View.canon (Val := Elt Ideal) (s := S256x1536) (e := .bf16)
      [⟨Rect.unit ![0, 1280] ![256, 256] inb10, k0_pay2 Y⟩,
       ⟨Rect.unit ![0, 1152] ![256, 128] inb9, k0_pay1 cs sn mask (k0_pay28 Y) (k0_pay29 k) (k0_pay30 Y) k0_pay31⟩,
       ⟨Rect.unit ![0, 1024] ![256, 128] inb8, k0_pay27 Y cs sn mask k⟩,
       ⟨Rect.unit ![0, 896] ![256, 128] inb7, k0_pay26 sn (k0_pay24 Y mask q) (k0_pay25 Y cs q)⟩,
       ⟨Rect.unit ![0, 768] ![256, 128] inb6, k0_pay22 cs sn mask (k0_pay21 Y) q⟩,
       ⟨Rect.unit ![0, 640] ![256, 128] inb5, k0_pay20 Y cs sn mask q⟩,
       ⟨Rect.unit ![0, 512] ![256, 128] inb4, k0_pay19 cs sn mask (k0_pay15 Y) (k0_pay16 q) (k0_pay17 Y) k0_pay18⟩,
       ⟨Rect.unit ![0, 384] ![256, 128] inb3, k0_pay14 Y cs sn mask q⟩,
       ⟨Rect.unit ![0, 256] ![256, 128] inb2, k0_pay13 sn (k0_pay11 Y mask q) (k0_pay12 Y cs q)⟩,
       ⟨Rect.unit ![0, 128] ![256, 128] inb1, k0_pay9 cs sn mask (k0_pay8 Y) q⟩,
       ⟨Rect.unit ![0, 0] ![256, 128] inb0, k0_pay7 Y cs sn (iota .tc S256x128 32 [1] iota_S256x128_d1_w32) 64#32 0#1 q⟩] y = blockRow Y cs sn q k y := by
  refine View.canon_apply_of_pieces (Val := Elt Ideal) (e := .bf16) (blockRow Y cs sn q k) _ ?_ y ?_
  · intro p hp x
    simp only [List.mem_cons, List.not_mem_nil, or_false] at hp
    rcases hp with rfl | rfl | rfl | rfl | rfl | rfl | rfl | rfl | rfl | rfl | rfl
    · refine (congrArg (k0_pay2 Y) (eq_ix2 (n0 := 256) (n1 := 256) x)).trans (blockRow_v Y cs sn q k _ (x 0) (x 1) ?_ ?_)
      · show 0 + 1 * (x 0).val = (x 0).val; omega
      · show 1280 + 1 * (x 1).val = 1280 + (x 1).val; omega
    · refine (congrArg (k0_pay1 cs sn mask (k0_pay28 Y) (k0_pay29 k) (k0_pay30 Y) k0_pay31) (eq_ix2 (n0 := 256) (n1 := 128) x)).trans ((head9 Y cs sn k (x 0) (x 1)).trans (blockRow_k Y cs sn q k _ 9 (x 0) (x 1) ?_ ?_ (by decide) (by decide)))
      · show 0 + 1 * (x 0).val = (x 0).val; omega
      · show 1152 + 1 * (x 1).val = 128 * 9 + (x 1).val; omega
    · refine (congrArg (k0_pay27 Y cs sn mask k) (eq_ix2 (n0 := 256) (n1 := 128) x)).trans ((head8 Y cs sn k (x 0) (x 1)).trans (blockRow_k Y cs sn q k _ 8 (x 0) (x 1) ?_ ?_ (by decide) (by decide)))
      · show 0 + 1 * (x 0).val = (x 0).val; omega
      · show 1024 + 1 * (x 1).val = 128 * 8 + (x 1).val; omega
    · refine (congrArg (k0_pay26 sn (k0_pay24 Y mask q) (k0_pay25 Y cs q)) (eq_ix2 (n0 := 256) (n1 := 128) x)).trans ((head7 Y cs sn q (x 0) (x 1)).trans (blockRow_q Y cs sn q k _ 7 (x 0) (x 1) ?_ ?_ (by decide)))
      · show 0 + 1 * (x 0).val = (x 0).val; omega
      · show 896 + 1 * (x 1).val = 128 * 7 + (x 1).val; omega
    · refine (congrArg (k0_pay22 cs sn mask (k0_pay21 Y) q) (eq_ix2 (n0 := 256) (n1 := 128) x)).trans ((head6 Y cs sn q (x 0) (x 1)).trans (blockRow_q Y cs sn q k _ 6 (x 0) (x 1) ?_ ?_ (by decide)))
      · show 0 + 1 * (x 0).val = (x 0).val; omega
      · show 768 + 1 * (x 1).val = 128 * 6 + (x 1).val; omega
    · refine (congrArg (k0_pay20 Y cs sn mask q) (eq_ix2 (n0 := 256) (n1 := 128) x)).trans ((head5 Y cs sn q (x 0) (x 1)).trans (blockRow_q Y cs sn q k _ 5 (x 0) (x 1) ?_ ?_ (by decide)))
      · show 0 + 1 * (x 0).val = (x 0).val; omega
      · show 640 + 1 * (x 1).val = 128 * 5 + (x 1).val; omega
    · refine (congrArg (k0_pay19 cs sn mask (k0_pay15 Y) (k0_pay16 q) (k0_pay17 Y) k0_pay18) (eq_ix2 (n0 := 256) (n1 := 128) x)).trans ((head4 Y cs sn q (x 0) (x 1)).trans (blockRow_q Y cs sn q k _ 4 (x 0) (x 1) ?_ ?_ (by decide)))
      · show 0 + 1 * (x 0).val = (x 0).val; omega
      · show 512 + 1 * (x 1).val = 128 * 4 + (x 1).val; omega
    · refine (congrArg (k0_pay14 Y cs sn mask q) (eq_ix2 (n0 := 256) (n1 := 128) x)).trans ((head3 Y cs sn q (x 0) (x 1)).trans (blockRow_q Y cs sn q k _ 3 (x 0) (x 1) ?_ ?_ (by decide)))
      · show 0 + 1 * (x 0).val = (x 0).val; omega
      · show 384 + 1 * (x 1).val = 128 * 3 + (x 1).val; omega
    · refine (congrArg (k0_pay13 sn (k0_pay11 Y mask q) (k0_pay12 Y cs q)) (eq_ix2 (n0 := 256) (n1 := 128) x)).trans ((head2 Y cs sn q (x 0) (x 1)).trans (blockRow_q Y cs sn q k _ 2 (x 0) (x 1) ?_ ?_ (by decide)))
      · show 0 + 1 * (x 0).val = (x 0).val; omega
      · show 256 + 1 * (x 1).val = 128 * 2 + (x 1).val; omega
    · refine (congrArg (k0_pay9 cs sn mask (k0_pay8 Y) q) (eq_ix2 (n0 := 256) (n1 := 128) x)).trans ((head1 Y cs sn q (x 0) (x 1)).trans (blockRow_q Y cs sn q k _ 1 (x 0) (x 1) ?_ ?_ (by decide)))
      · show 0 + 1 * (x 0).val = (x 0).val; omega
      · show 128 + 1 * (x 1).val = 128 * 1 + (x 1).val; omega
    · refine (congrArg (k0_pay7 Y cs sn (iota .tc S256x128 32 [1] iota_S256x128_d1_w32) 64#32 0#1 q) (eq_ix2 (n0 := 256) (n1 := 128) x)).trans ((head0 Y cs sn q (x 0) (x 1)).trans (blockRow_q Y cs sn q k _ 0 (x 0) (x 1) ?_ ?_ (by decide)))
      · show 0 + 1 * (x 0).val = (x 0).val; omega
      · show 0 + 1 * (x 1).val = 128 * 0 + (x 1).val; omega
  · have hy0 : (y 0).val < 256 := (y 0).isLt
    have hy1 : (y 1).val < 1536 := (y 1).isLt
    have hm : ∀ (o w : ℕ) (inb), o ≤ (y 1).val → (y 1).val < o + w → y ∈ (Rect.unit (s := S256x1536) ![0, o] ![256, w] inb).set := by
      intro o w inb ho hw
      refine Rect.mem_set_unit.mpr fun a => ?_
      match a with
      | ⟨0, _⟩ => show 0 ≤ (y 0).val ∧ (y 0).val < 0 + 256; omega
      | ⟨1, _⟩ => show o ≤ (y 1).val ∧ (y 1).val < o + w; omega
    have hg : (0 ≤ (y 1).val ∧ (y 1).val < 0 + 128) ∨ (128 ≤ (y 1).val ∧ (y 1).val < 128 + 128) ∨ (256 ≤ (y 1).val ∧ (y 1).val < 256 + 128) ∨ (384 ≤ (y 1).val ∧ (y 1).val < 384 + 128) ∨ (512 ≤ (y 1).val ∧ (y 1).val < 512 + 128) ∨ (640 ≤ (y 1).val ∧ (y 1).val < 640 + 128) ∨ (768 ≤ (y 1).val ∧ (y 1).val < 768 + 128) ∨ (896 ≤ (y 1).val ∧ (y 1).val < 896 + 128) ∨ (1024 ≤ (y 1).val ∧ (y 1).val < 1024 + 128) ∨ (1152 ≤ (y 1).val ∧ (y 1).val < 1152 + 128) ∨ (1280 ≤ (y 1).val ∧ (y 1).val < 1280 + 256) := by omega
    rcases hg with h | h | h | h | h | h | h | h | h | h | h
    · exact ⟨_, (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ List.mem_cons_self)))))))))), hm 0 128 inb0 h.1 h.2⟩
    · exact ⟨_, (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ List.mem_cons_self))))))))), hm 128 128 inb1 h.1 h.2⟩
    · exact ⟨_, (List.mem_cons_of_mem _ (List.mem_cons_of_mem _ (List.mem_cons_of_mem _ (List.mem_cons_of_mem _ (List.mem_cons_of_mem _ (List.mem_cons_of_mem _ (List.mem_cons_of_mem _ (List.mem_cons_of_mem _ List.mem_cons_self)))))))), hm 256 128 inb2 h.1 h.2⟩
    · exact ⟨_, (List.mem_cons_of_mem _ (List.mem_cons_of_mem _ (List.mem_cons_of_mem _ (List.mem_cons_of_mem _ (List.mem_cons_of_mem _ (List.mem_cons_of_mem _ (List.mem_cons_of_mem _ List.mem_cons_self))))))), hm 384 128 inb3 h.1 h.2⟩
    · exact ⟨_, (List.mem_cons_of_mem _ (List.mem_cons_of_mem _ (List.mem_cons_of_mem _ (List.mem_cons_of_mem _ (List.mem_cons_of_mem _ (List.mem_cons_of_mem _ List.mem_cons_self)))))), hm 512 128 inb4 h.1 h.2⟩
    · exact ⟨_, (List.mem_cons_of_mem _ (List.mem_cons_of_mem _ (List.mem_cons_of_mem _ (List.mem_cons_of_mem _ (List.mem_cons_of_mem _ List.mem_cons_self))))), hm 640 128 inb5 h.1 h.2⟩
    · exact ⟨_, (List.mem_cons_of_mem _ (List.mem_cons_of_mem _ (List.mem_cons_of_mem _ (List.mem_cons_of_mem _ List.mem_cons_self)))), hm 768 128 inb6 h.1 h.2⟩
    · exact ⟨_, (List.mem_cons_of_mem _ (List.mem_cons_of_mem _ (List.mem_cons_of_mem _ List.mem_cons_self))), hm 896 128 inb7 h.1 h.2⟩
    · exact ⟨_, (List.mem_cons_of_mem _ (List.mem_cons_of_mem _ List.mem_cons_self)), hm 1024 128 inb8 h.1 h.2⟩
    · exact ⟨_, (List.mem_cons_of_mem _ List.mem_cons_self), hm 1152 128 inb9 h.1 h.2⟩
    · exact ⟨_, List.mem_cons_self, hm 1280 256 inb10 h.1 h.2⟩

end

section

variable (c : Dev nD) (i : grid0.Coords) (arg1 : Memref sig .tc .vmem S256x1024 .f32) (harg1 : arg1.IsWhole) (arg2 : Memref sig .tc .vmem S1x1024 .f32) (harg2 : arg2.IsWhole) (arg3 : Memref sig .tc .vmem S1x1x1024 .f32) (harg3 : arg3.IsWhole) (arg4 : Memref sig .tc .vmem S1x1x1024 .f32) (harg4 : arg4.IsWhole) (arg5 : Memref sig .tc .vmem S1024x1536 .bf16) (harg5 : arg5.IsWhole) (arg6 : Memref sig .tc .vmem S256x128 .f32) (harg6 : arg6.IsWhole) (arg7 : Memref sig .tc .vmem S256x128 .f32) (harg7 : arg7.IsWhole) (arg8 : Memref sig .tc .vmem S1x128 .f32) (harg8 : arg8.IsWhole) (arg9 : Memref sig .tc .vmem S1x128 .f32) (harg9 : arg9.IsWhole) (arg10 : Memref sig .tc .vmem S256x1536 .bf16) (harg10 : arg10.IsWhole)
  (x0 : Vec Ideal S256x1024 .f32) (x1 : Vec Ideal S1x1024 .f32) (x2 : Vec Ideal S1x1x1024 .f32) (x3 : Vec Ideal S1x1x1024 .f32) (x4 : Vec Ideal S1024x1536 .bf16) (x5 : Vec Ideal S256x128 .f32) (x6 : Vec Ideal S256x128 .f32) (x7 : Vec Ideal S1x128 .f32) (x8 : Vec Ideal S1x128 .f32)

/-- What a grid point stores, of the blocks that it reads. -/
theorem outA (y : S256x1536.Idx) :
    out0_A_9 (F := Ideal) c i arg1 harg1 arg2 harg2 arg3 harg3 arg4 harg4 arg5 harg5 arg6 harg6 arg7 harg7 arg8 harg8 arg9 harg9 arg10 harg10 x0 x1 x2 x3 x4 x5 x6 x7 x8 y = blockRow (k0_pay3 x0 x1 x2 x3 x4) x5 x6 x7 x8 y := by
  unfold out0_A_9
  rw [View.read_writes_eq_canon _ _ _ (cover0_A_9 c i arg1 harg1 arg2 harg2 arg3 harg3 arg4 harg4 arg5 harg5 arg6 harg6 arg7 harg7 arg8 harg8 arg9 harg9 arg10 harg10 x0 x1 x2 x3 x4 x5 x6 x7 x8)]
  unfold kernelRun0_A
  dsimp only
  sl_unfold_words
  simp only [View.readAt_eq_ld, harg1.read_unread, harg2.read_unread, harg3.read_unread, harg4.read_unread, harg5.read_unread, harg6.read_unread, harg7.read_unread, harg8.read_unread, harg9.read_unread]
  rw [View.ld_unit_lit, View.ld_unit_lit, View.ld_unit_lit, View.ld_unit_lit, View.ld_unit_lit, View.ld_unit_lit, View.ld_unit_lit, View.ld_unit_lit, View.ld_unit_lit] <;> try decide
  rw [show k0_pay4 x5 = x5 from shapeCast_self _ _, show k0_pay5 x6 = x6 from shapeCast_self _ _]
  exact canon_apply _ x5 x6 x7 x8 _ _ _ _ _ _ _ _ _ _ _ y

end

end Qkv

end
-- ==== Proof.Qkv.Out.lean ====
module

public import proofs.«01_k».proof.Proof.Qkv.Block

@[expose] public section

set_option maxRecDepth 16384

noncomputable section

/-! What the query, key and value projections leave in their result. -/

namespace Qkv

open Cert.Kernel8Ideal Cert.Kernel8Ideal.Gen Idealize.ShloMosaic Idealize.ShloMosaic.ValueIdx Idealize.ShloMosaic.TcCoe
open Idealize.SL.Sem Proj

/-- A row of the stack, normed and modulated. -/
def rowOf (X : FVec Ideal (mat 34816 1024) .f32) (M : FVec Ideal (cub 96 1 1024) .f32) (g : FVec Ideal (mat 1 1024) .f32) (R : Fin 34816) : Fin 1024 → EReal :=
  normed (fun k => X (ix2 R k)) (fun k => g (ix2 (0 : Fin 1) k)) (fun k => piece M R.val 0 k) (fun k => piece M R.val 1 k)

/-- Its projections. -/
def lin (X : FVec Ideal (mat 34816 1024) .f32) (M : FVec Ideal (cub 96 1 1024) .f32) (g : FVec Ideal (mat 1 1024) .f32) (W : FVec Ideal (mat 1024 1536) .bf16)
    (R : Fin 34816) (n : Fin 1536) : EReal := ∑ k, rowOf X M g R k * W (ix2 k n)

/-- The row of the rotation tables that a row takes. -/
def tabRow (R : Fin 34816) : Fin 4352 := if R.val < 32768 then ⟨R.val % 4096, by omega⟩ else ⟨4096 + R.val % 256, by omega⟩

/-- The projections of a block of rows. -/
theorem pay3_apply (x : Vec Ideal S256x1024 .f32) (g : Vec Ideal S1x1024 .f32) (sh sc : Vec Ideal S1x1x1024 .f32) (w : Vec Ideal S1024x1536 .bf16)
    (r : Fin 256) (n : Fin 1536) :
    k0_pay3 x g sh sc w (ix2 r n) = ∑ k, normed (fun k => x (ix2 r k)) (fun k => g (ix2 (0 : Fin 1) k)) (fun k => sh (ix3 (0 : Fin 1) (0 : Fin 1) k))
      (fun k => sc (ix3 (0 : Fin 1) (0 : Fin 1) k)) k * w (ix2 k n) := by
  unfold k0_pay3
  simp only [shapeCast_self]
  refine (Ideal.matmul_plain_apply none _ w _ r n).trans ?_
  rw [show (constant S256x1536 .f32 0x00000000#32 : FVec Ideal S256x1536 .f32) (ix2 r n) = 0 from Ideal.ofBits_zero_f32, zero_add]
  exact Finset.sum_congr rfl fun k _ => congrArg (fun y : EReal => y * w (ix2 k n)) (norm_apply x g sh sc _ _ _ _ _ _ _ r k)

theorem index0 : ∀ t : Fin cfg0.N, win0_0.index t 0 = t.val ∧ win0_0.index t 1 = 0 :=
  (by decide +kernel : ∀ t : Fin grid0.N, _)

theorem index1 : ∀ t : Fin cfg0.N, win0_1.index t 0 = 0 ∧ win0_1.index t 1 = 0 :=
  (by decide +kernel : ∀ t : Fin grid0.N, _)

theorem index2 : ∀ t : Fin cfg0.N, win0_2.index t 0 = 6 * modRow (256 * t.val) ∧ win0_2.index t 1 = 0 ∧ win0_2.index t 2 = 0 :=
  (by decide +kernel : ∀ t : Fin grid0.N, _)

theorem index3 : ∀ t : Fin cfg0.N, win0_3.index t 0 = 6 * modRow (256 * t.val) + 1 ∧ win0_3.index t 1 = 0 ∧ win0_3.index t 2 = 0 :=
  (by decide +kernel : ∀ t : Fin grid0.N, _)

theorem index4 : ∀ t : Fin cfg0.N, win0_4.index t 0 = 0 ∧ win0_4.index t 1 = 0 :=
  (by decide +kernel : ∀ t : Fin grid0.N, _)

theorem index5 : ∀ t : Fin cfg0.N, win0_5.index t 0 = (if t.val < 128 then t.val % 16 else 16) ∧ win0_5.index t 1 = 0 :=
  (by decide +kernel : ∀ t : Fin grid0.N, _)

theorem index6 : ∀ t : Fin cfg0.N, win0_6.index t 0 = (if t.val < 128 then t.val % 16 else 16) ∧ win0_6.index t 1 = 0 :=
  (by decide +kernel : ∀ t : Fin grid0.N, _)

theorem index7 : ∀ t : Fin cfg0.N, win0_7.index t 0 = 0 ∧ win0_7.index t 1 = 0 :=
  (by decide +kernel : ∀ t : Fin grid0.N, _)

theorem index8 : ∀ t : Fin cfg0.N, win0_8.index t 0 = 0 ∧ win0_8.index t 1 = 0 :=
  (by decide +kernel : ∀ t : Fin grid0.N, _)

theorem index9 : ∀ t : Fin cfg0.N, win0_9.index t 0 = t.val ∧ win0_9.index t 1 = 0 :=
  (by decide +kernel : ∀ t : Fin grid0.N, _)

/-- The rows of a block take one row of modulations. -/
theorem modRow_block (t r : ℕ) (hr : r < 256) : modRow (256 * t + r) = modRow (256 * t) := by
  unfold modRow
  split <;> split <;> omega

variable (m : (ℓ : Loc nD τ sig) → Buf (Elt Ideal) ℓ) (c : Dev nD)

/-- The block of rows at a point. -/
theorem x0 (t : Fin cfg0.N) (r : Fin 256) (k : Fin 1024) (R : Fin 34816) (hR : R.val = 256 * t.val + r.val) :
    (iblk m c 0 t : Vec Ideal S256x1024 .f32) (ix2 r k) = (V m c main_v2 : FVec Ideal S34816x1024 .f32) (ix2 R k) := by
  have hi := index0 t
  refine congrArg (V m c main_v2 : FVec Ideal S34816x1024 .f32) (funext fun a => Fin.ext ?_)
  match a with
  | ⟨0, _⟩ =>
    refine (Pipeline.Window.rect_emb_val win0_0 t (ix2 r k) 0).trans ?_
    show win0_0.index t 0 * 256 + r.val = R.val
    omega
  | ⟨1, _⟩ =>
    refine (Pipeline.Window.rect_emb_val win0_0 t (ix2 r k) 1).trans ?_
    show win0_0.index t 1 * 1024 + k.val = k.val
    omega

/-- The gains at a point. -/
theorem x1 (t : Fin cfg0.N) (k : Fin 1024) :
    (iblk m c 1 t : Vec Ideal S1x1024 .f32) (ix2 (0 : Fin 1) k) = (V m c main_v50 : FVec Ideal S1x1024 .f32) (ix2 (0 : Fin 1) k) := by
  have hi := index1 t
  refine congrArg (V m c main_v50 : FVec Ideal S1x1024 .f32) (funext fun a => Fin.ext ?_)
  match a with
  | ⟨0, _⟩ =>
    refine (Pipeline.Window.rect_emb_val win0_1 t (ix2 (0 : Fin 1) k) 0).trans ?_
    show win0_1.index t 0 * 1 + 0 = 0
    omega
  | ⟨1, _⟩ =>
    refine (Pipeline.Window.rect_emb_val win0_1 t (ix2 (0 : Fin 1) k) 1).trans ?_
    show win0_1.index t 1 * 1024 + k.val = k.val
    omega

/-- The queries' gains at a point. -/
theorem x7 (t : Fin cfg0.N) (k : Fin 128) :
    (iblk m c 7 t : Vec Ideal S1x128 .f32) (ix2 (0 : Fin 1) k) = (V m c main_v51 : FVec Ideal S1x128 .f32) (ix2 (0 : Fin 1) k) := by
  have hi := index7 t
  refine congrArg (V m c main_v51 : FVec Ideal S1x128 .f32) (funext fun a => Fin.ext ?_)
  match a with
  | ⟨0, _⟩ =>
    refine (Pipeline.Window.rect_emb_val win0_7 t (ix2 (0 : Fin 1) k) 0).trans ?_
    show win0_7.index t 0 * 1 + 0 = 0
    omega
  | ⟨1, _⟩ =>
    refine (Pipeline.Window.rect_emb_val win0_7 t (ix2 (0 : Fin 1) k) 1).trans ?_
    show win0_7.index t 1 * 128 + k.val = k.val
    omega

/-- The keys' gains at a point. -/
theorem x8 (t : Fin cfg0.N) (k : Fin 128) :
    (iblk m c 8 t : Vec Ideal S1x128 .f32) (ix2 (0 : Fin 1) k) = (V m c main_v52 : FVec Ideal S1x128 .f32) (ix2 (0 : Fin 1) k) := by
  have hi := index8 t
  refine congrArg (V m c main_v52 : FVec Ideal S1x128 .f32) (funext fun a => Fin.ext ?_)
  match a with
  | ⟨0, _⟩ =>
    refine (Pipeline.Window.rect_emb_val win0_8 t (ix2 (0 : Fin 1) k) 0).trans ?_
    show win0_8.index t 0 * 1 + 0 = 0
    omega
  | ⟨1, _⟩ =>
    refine (Pipeline.Window.rect_emb_val win0_8 t (ix2 (0 : Fin 1) k) 1).trans ?_
    show win0_8.index t 1 * 128 + k.val = k.val
    omega

/-- The shift at a point. -/
theorem x2 (t : Fin cfg0.N) (r : ℕ) (hr : r < 256) (k : Fin 1024) :
    (iblk m c 2 t : Vec Ideal S1x1x1024 .f32) (ix3 (0 : Fin 1) (0 : Fin 1) k) = piece (V m c main_v6 : FVec Ideal S96x1x1024 .f32) (256 * t.val + r) 0 k := by
  have hi := index2 t
  have hm := modRow_block t.val r hr
  refine congrArg (V m c main_v6 : FVec Ideal S96x1x1024 .f32) (funext fun a => Fin.ext ?_)
  match a with
  | ⟨0, _⟩ =>
    refine (Pipeline.Window.rect_emb_val win0_2 t (ix3 (0 : Fin 1) (0 : Fin 1) k) 0).trans ?_
    show win0_2.index t 0 * 1 + 0 = 6 * modRow (256 * t.val + r) + 0
    omega
  | ⟨1, _⟩ =>
    refine (Pipeline.Window.rect_emb_val win0_2 t (ix3 (0 : Fin 1) (0 : Fin 1) k) 1).trans ?_
    show win0_2.index t 1 * 1 + 0 = 0
    omega
  | ⟨2, _⟩ =>
    refine (Pipeline.Window.rect_emb_val win0_2 t (ix3 (0 : Fin 1) (0 : Fin 1) k) 2).trans ?_
    show win0_2.index t 2 * 1024 + k.val = k.val
    omega

/-- The scale at a point. -/
theorem x3 (t : Fin cfg0.N) (r : ℕ) (hr : r < 256) (k : Fin 1024) :
    (iblk m c 3 t : Vec Ideal S1x1x1024 .f32) (ix3 (0 : Fin 1) (0 : Fin 1) k) = piece (V m c main_v6 : FVec Ideal S96x1x1024 .f32) (256 * t.val + r) 1 k := by
  have hi := index3 t
  have hm := modRow_block t.val r hr
  refine congrArg (V m c main_v6 : FVec Ideal S96x1x1024 .f32) (funext fun a => Fin.ext ?_)
  match a with
  | ⟨0, _⟩ =>
    refine (Pipeline.Window.rect_emb_val win0_3 t (ix3 (0 : Fin 1) (0 : Fin 1) k) 0).trans ?_
    show win0_3.index t 0 * 1 + 0 = 6 * modRow (256 * t.val + r) + 1
    omega
  | ⟨1, _⟩ =>
    refine (Pipeline.Window.rect_emb_val win0_3 t (ix3 (0 : Fin 1) (0 : Fin 1) k) 1).trans ?_
    show win0_3.index t 1 * 1 + 0 = 0
    omega
  | ⟨2, _⟩ =>
    refine (Pipeline.Window.rect_emb_val win0_3 t (ix3 (0 : Fin 1) (0 : Fin 1) k) 2).trans ?_
    show win0_3.index t 2 * 1024 + k.val = k.val
    omega

/-- The weights at a point. -/
theorem x4 (t : Fin cfg0.N) (k : Fin 1024) (n : Fin 1536) :
    (iblk m c 4 t : Vec Ideal S1024x1536 .bf16) (ix2 k n) = (V m c main_v49 : FVec Ideal S1024x1536 .bf16) (ix2 k n) := by
  have hi := index4 t
  refine congrArg (V m c main_v49 : FVec Ideal S1024x1536 .bf16) (funext fun a => Fin.ext ?_)
  match a with
  | ⟨0, _⟩ =>
    refine (Pipeline.Window.rect_emb_val win0_4 t (ix2 k n) 0).trans ?_
    show win0_4.index t 0 * 1024 + k.val = k.val
    omega
  | ⟨1, _⟩ =>
    refine (Pipeline.Window.rect_emb_val win0_4 t (ix2 k n) 1).trans ?_
    show win0_4.index t 1 * 1536 + n.val = n.val
    omega

/-- The table rows of a block are consecutive. -/
theorem tabRow_block (t r : ℕ) (hr : r < 256) (R : Fin 34816) (hR : R.val = 256 * t + r) :
    (tabRow R).val = (if t < 128 then t % 16 else 16) * 256 + r := by
  unfold tabRow
  have hlt := R.isLt
  by_cases h : t < 128
  · rw [if_pos h, if_pos (by omega)]
    show R.val % 4096 = _
    omega
  · rw [if_neg h, if_neg (by omega)]
    show 4096 + R.val % 256 = _
    omega

/-- The cosines at a point. -/
theorem x5 (t : Fin cfg0.N) (r : Fin 256) (k : Fin 128) (R : Fin 34816) (hR : R.val = 256 * t.val + r.val) :
    (iblk m c 5 t : Vec Ideal S256x128 .f32) (ix2 r k) = (V m c main_v45 : FVec Ideal S4352x128 .f32) (ix2 (tabRow R) k) := by
  have hi := index5 t
  have hT := tabRow_block t.val r.val r.isLt R hR
  refine congrArg (V m c main_v45 : FVec Ideal S4352x128 .f32) (funext fun a => Fin.ext ?_)
  match a with
  | ⟨0, _⟩ =>
    refine (Pipeline.Window.rect_emb_val win0_5 t (ix2 r k) 0).trans ?_
    show win0_5.index t 0 * 256 + r.val = (tabRow R).val
    rw [hi.1, hT]
  | ⟨1, _⟩ =>
    refine (Pipeline.Window.rect_emb_val win0_5 t (ix2 r k) 1).trans ?_
    show win0_5.index t 1 * 128 + k.val = k.val
    omega

/-- The sines at a point. -/
theorem x6 (t : Fin cfg0.N) (r : Fin 256) (k : Fin 128) (R : Fin 34816) (hR : R.val = 256 * t.val + r.val) :
    (iblk m c 6 t : Vec Ideal S256x128 .f32) (ix2 r k) = (V m c main_v47 : FVec Ideal S4352x128 .f32) (ix2 (tabRow R) k) := by
  have hi := index6 t
  have hT := tabRow_block t.val r.val r.isLt R hR
  refine congrArg (V m c main_v47 : FVec Ideal S4352x128 .f32) (funext fun a => Fin.ext ?_)
  match a with
  | ⟨0, _⟩ =>
    refine (Pipeline.Window.rect_emb_val win0_6 t (ix2 r k) 0).trans ?_
    show win0_6.index t 0 * 256 + r.val = (tabRow R).val
    rw [hi.1, hT]
  | ⟨1, _⟩ =>
    refine (Pipeline.Window.rect_emb_val win0_6 t (ix2 r k) 1).trans ?_
    show win0_6.index t 1 * 128 + k.val = k.val
    omega

/-- An entry of the result, of the arrays that the launch finds. -/
def entryOf (X : FVec Ideal (mat 34816 1024) .f32) (M : FVec Ideal (cub 96 1 1024) .f32) (g : FVec Ideal (mat 1 1024) .f32) (W : FVec Ideal (mat 1024 1536) .bf16)
    (C S : FVec Ideal (mat 4352 128) .f32) (q k : FVec Ideal (mat 1 128) .f32) (R : Fin 34816) (n : Fin 1536) : EReal :=
  colOut (lin X M g W R) (fun j => q (ix2 (0 : Fin 1) j)) (fun j => k (ix2 (0 : Fin 1) j)) (fun j => C (ix2 (tabRow R) j)) (fun j => S (ix2 (tabRow R) j)) n

/-- The projections of the arrays that the launch finds. -/
def result : Buf (Elt Ideal) ((c : Thread nD τ).loc main_v53) :=
  fun y : S34816x1536.Idx => entryOf (V m c main_v2 : FVec Ideal S34816x1024 .f32) (V m c main_v6 : FVec Ideal S96x1x1024 .f32)
    (V m c main_v50 : FVec Ideal S1x1024 .f32) (V m c main_v49 : FVec Ideal S1024x1536 .bf16) (V m c main_v45 : FVec Ideal S4352x128 .f32)
    (V m c main_v47 : FVec Ideal S4352x128 .f32) (V m c main_v51 : FVec Ideal S1x128 .f32) (V m c main_v52 : FVec Ideal S1x128 .f32) (y 0) (y 1)

/-- What a grid point writes back. -/
def blockOut (t : Fin cfg0.N) : S256x1536.Idx → EReal := outsAt0 (F := Ideal) m c t

/-- What a grid point writes back, at an entry of its block. -/
theorem block_apply (t : Fin cfg0.N) (r : Fin 256) (n : Fin 1536) (R : Fin 34816) (hR : R.val = 256 * t.val + r.val) :
    blockOut m c t (ix2 r n) =
      entryOf (V m c main_v2 : FVec Ideal S34816x1024 .f32) (V m c main_v6 : FVec Ideal S96x1x1024 .f32)
    (V m c main_v50 : FVec Ideal S1x1024 .f32) (V m c main_v49 : FVec Ideal S1024x1536 .bf16) (V m c main_v45 : FVec Ideal S4352x128 .f32)
    (V m c main_v47 : FVec Ideal S4352x128 .f32) (V m c main_v51 : FVec Ideal S1x128 .f32) (V m c main_v52 : FVec Ideal S1x128 .f32) R n := by
  unfold blockOut outsAt0
  refine (outA _ _ _ _ _ _ _ _ _ _ _ _ _ _ _ _ _ _ _ _ _ _ _ _ _ _ _ _ _ _ _ _).trans ?_
  have e0 : (fun n => k0_pay3 (iblk m c 0 t : Vec Ideal S256x1024 .f32) (iblk m c 1 t : Vec Ideal S1x1024 .f32) (iblk m c 2 t : Vec Ideal S1x1x1024 .f32)
      (iblk m c 3 t : Vec Ideal S1x1x1024 .f32) (iblk m c 4 t : Vec Ideal S1024x1536 .bf16) (ix2 r n)) =
      lin (V m c main_v2 : FVec Ideal S34816x1024 .f32) (V m c main_v6 : FVec Ideal S96x1x1024 .f32) (V m c main_v50 : FVec Ideal S1x1024 .f32)
        (V m c main_v49 : FVec Ideal S1024x1536 .bf16) R := by
    funext n
    refine (pay3_apply _ _ _ _ _ r n).trans (Finset.sum_congr rfl fun k _ => ?_)
    refine congrArg₂ (fun a b : EReal => a * b) ?_ (x4 m c t k n)
    unfold rowOf
    rw [funext fun k => x0 m c t r k R hR, funext fun k => x1 m c t k, funext fun k => x2 m c t r.val r.isLt k, funext fun k => x3 m c t r.val r.isLt k, hR]
  have e5 := funext fun k => x5 m c t r k R hR
  have e6 := funext fun k => x6 m c t r k R hR
  have e7 := funext fun k => x7 m c t k
  have e8 := funext fun k => x8 m c t k
  show colOut (fun n => k0_pay3 (iblk m c 0 t : Vec Ideal S256x1024 .f32) (iblk m c 1 t : Vec Ideal S1x1024 .f32) (iblk m c 2 t : Vec Ideal S1x1x1024 .f32)
      (iblk m c 3 t : Vec Ideal S1x1x1024 .f32) (iblk m c 4 t : Vec Ideal S1024x1536 .bf16) (ix2 r n))
    (fun k => (iblk m c 7 t : Vec Ideal S1x128 .f32) (ix2 (0 : Fin 1) k)) (fun k => (iblk m c 8 t : Vec Ideal S1x128 .f32) (ix2 (0 : Fin 1) k))
    (fun k => (iblk m c 5 t : Vec Ideal S256x128 .f32) (ix2 r k)) (fun k => (iblk m c 6 t : Vec Ideal S256x128 .f32) (ix2 r k)) n = _
  rw [e0, e5, e6, e7, e8]
  rfl

/-- The same, of the entry's place in the array. -/
theorem block_at (t : Fin cfg0.N) (r : Fin 256) (n : Fin 1536) (z : S34816x1536.Idx) (h0 : (z 0).val = 256 * t.val + r.val) (h1 : (z 1).val = n.val) :
    blockOut m c t (ix2 r n) = (result m c : S34816x1536.Idx → EReal) z := by
  obtain rfl : z 1 = n := Fin.ext h1
  exact block_apply m c t r (z 1) (z 0) h0

/-- The row of the array that an entry of a block lies in. -/
theorem emb_row (t : Fin cfg0.N) (y : ((cfg0.win 9).xblock (cfg0.grid.coords t)).Idx) :
    ((((cfg0.win 9).blk t).view.emb y) 0).val = 256 * t.val + (y 0).val := by
  have hi := index9 t
  refine (Pipeline.Window.rect_emb_val win0_9 t y 0).trans ?_
  show win0_9.index t 0 * 256 + (y 0).val = _
  omega

/-- The column of the array that an entry of a block lies in. -/
theorem emb_col (t : Fin cfg0.N) (y : ((cfg0.win 9).xblock (cfg0.grid.coords t)).Idx) :
    ((((cfg0.win 9).blk t).view.emb y) 1).val = (y 1).val := by
  have hi := index9 t
  refine (Pipeline.Window.rect_emb_val win0_9 t y 1).trans ?_
  show win0_9.index t 1 * 1536 + (y 1).val = (y 1).val
  omega

/-- An entry of the block that a point writes back. -/
theorem entry (t : Fin cfg0.N) (y : ((cfg0.win 9).xblock (cfg0.grid.coords t)).Idx) :
    blockOut m c t ((cfg0.win 9).xinj (cfg0.grid.coords t) y) = (result m c : S34816x1536.Idx → EReal) (((cfg0.win 9).blk t).view.emb y) := by
  have hy0 : (y 0).val < 256 := (y 0).isLt
  have hy1 : (y 1).val < 1536 := (y 1).isLt
  have hx : (cfg0.win 9).xinj (cfg0.grid.coords t) y = ix2 (⟨(y 0).val, hy0⟩ : Fin 256) (⟨(y 1).val, hy1⟩ : Fin 1536) := eq_ix2 _
  rw [hx]
  exact block_at m c t _ _ _ (emb_row t y) (emb_col t y)

/-- The array that the run leaves, of the blocks that its points write back. -/
theorem of_blocks (f : Buf (Elt Ideal) ((c : Thread nD τ).loc main_v53))
    (h : ∀ (t : Fin cfg0.N) (y : ((cfg0.win 9).xblock (cfg0.grid.coords t)).Idx),
      blockOut m c t ((cfg0.win 9).xinj (cfg0.grid.coords t) y) = (f : S34816x1536.Idx → EReal) (((cfg0.win 9).blk t).view.emb y)) :
    (dats m 0 c).arrAt 9 cfg0.N = f := by
  refine (dats m 0 c).arrAt_eq_of_covers 9 f (by decide +kernel) fun t _ y => ?_
  rw [after0_9]
  exact (cast_eq _ _).trans (h t y)

/-- After the run the result array holds the projections. -/
theorem final : (dats m 0 c).arrAt 9 cfg0.N = result m c :=
  of_blocks m c (result m c) (entry m c)

end Qkv

end
-- ==== Proof.Qkv.Tab.lean ====
module

public import proofs.«01_k».proof.Proof.Qkv.Out

@[expose] public section

set_option maxRecDepth 16384

noncomputable section

/-! The tables of cosines and sines, and the rotation that they make of a head. -/

namespace Qkv

open Idealize.ShloMosaic Idealize.ShloMosaic.ValueIdx Idealize.ShloMosaic.TcCoe Proj

/-- An entry of a head's quarter. -/
def at4 (q : Fin 4) (e : Fin 32) : Fin 128 := ⟨32 * q.val + e.val, by omega⟩

theorem at4_cases (d : Fin 128) : ∃ q e, d = at4 q e :=
  ⟨⟨d.val / 32, by omega⟩, ⟨d.val % 32, by omega⟩, Fin.ext (by show d.val = 32 * (d.val / 32) + d.val % 32; omega)⟩

theorem partner0 (e : Fin 32) : partner (at4 0 e) = at4 1 e := by
  have h : (at4 0 e).val = e.val := by show 32 * 0 + e.val = e.val; omega
  unfold partner
  rw [dif_pos (by omega)]
  exact Fin.ext (by show (at4 0 e).val + 32 = 32 * 1 + e.val; omega)

theorem partner1 (e : Fin 32) : partner (at4 1 e) = at4 0 e := by
  have h : (at4 1 e).val = 32 + e.val := by show 32 * 1 + e.val = 32 + e.val; omega
  unfold partner
  rw [dif_neg (by omega)]
  exact Fin.ext (by show (at4 1 e).val - 32 = 32 * 0 + e.val; omega)

theorem partner2 (e : Fin 32) : partner (at4 2 e) = at4 3 e := by
  have h : (at4 2 e).val = 64 + e.val := by show 32 * 2 + e.val = 64 + e.val; omega
  unfold partner
  rw [dif_pos (by omega)]
  exact Fin.ext (by show (at4 2 e).val + 32 = 32 * 3 + e.val; omega)

theorem partner3 (e : Fin 32) : partner (at4 3 e) = at4 2 e := by
  have h : (at4 3 e).val = 96 + e.val := by show 32 * 3 + e.val = 96 + e.val; omega
  unfold partner
  rw [dif_neg (by omega)]
  exact Fin.ext (by show (at4 3 e).val - 32 = 32 * 2 + e.val; omega)

/-- The rotation by a table of cosines and a table of signed sines is the rotation of each half. -/
theorem rope_eq (f C S r : Fin 128 → EReal) (ca sa cb sb : Fin 32 → EReal)
    (c0 : ∀ e, C (at4 0 e) = ca e) (c1 : ∀ e, C (at4 1 e) = ca e) (c2 : ∀ e, C (at4 2 e) = cb e) (c3 : ∀ e, C (at4 3 e) = cb e)
    (s0 : ∀ e, S (at4 0 e) = -sa e) (s1 : ∀ e, S (at4 1 e) = sa e) (s2 : ∀ e, S (at4 2 e) = -sb e) (s3 : ∀ e, S (at4 3 e) = sb e)
    (r0 : ∀ e, r (at4 0 e) = f (at4 0 e) * ca e - f (at4 1 e) * sa e) (r1 : ∀ e, r (at4 1 e) = f (at4 0 e) * sa e + f (at4 1 e) * ca e)
    (r2 : ∀ e, r (at4 2 e) = f (at4 2 e) * cb e - f (at4 3 e) * sb e) (r3 : ∀ e, r (at4 3 e) = f (at4 2 e) * sb e + f (at4 3 e) * cb e)
    (d : Fin 128) : r d = f d * C d + f (partner d) * S d := by
  obtain ⟨q, e, rfl⟩ := at4_cases d
  have hq : q = 0 ∨ q = 1 ∨ q = 2 ∨ q = 3 := by omega
  rcases hq with rfl | rfl | rfl | rfl
  · rw [partner0, c0, s0, r0, mul_neg, sub_eq_add_neg]
  · rw [partner1, c1, s1, r1, add_comm]
  · rw [partner2, c2, s2, r2, mul_neg, sub_eq_add_neg]
  · rw [partner3, c3, s3, r3, add_comm]

section

variable (p0 p1 p2 p3 : FVec Ideal (mat 4096 32) .f32) (z : FVec Ideal (mat 256 128) .f32)
  (h1 : Shape.Concatenates [mat 4096 32, mat 4096 32, mat 4096 32, mat 4096 32] (mat 4096 128) 1)
  (h0 : Shape.Concatenates [mat 4096 128, mat 256 128] (mat 4352 128) 0)

/-- A table: four quarters side by side for the latents, then the context's rows. -/
def tab : FVec Ideal (mat 4352 128) .f32 :=
  concatenate (mat 4352 128) 0 [⟨mat 4096 128, concatenate (mat 4096 128) 1 [⟨mat 4096 32, p0⟩, ⟨mat 4096 32, p1⟩, ⟨mat 4096 32, p2⟩, ⟨mat 4096 32, p3⟩] h1⟩,
    ⟨mat 256 128, z⟩] h0

theorem tab_lat (R : Fin 4352) (s : Fin 4096) (hR : R.val = s.val) (d : Fin 128) : tab p0 p1 p2 p3 z h1 h0 (ix2 R d) =
    concatenate (mat 4096 128) 1 [⟨mat 4096 32, p0⟩, ⟨mat 4096 32, p1⟩, ⟨mat 4096 32, p2⟩, ⟨mat 4096 32, p3⟩] h1 (ix2 s d) :=
  concatenate_pair_apply_left (s₁ := mat 4096 128) (s₂ := mat 256 128) (t := mat 4352 128) (0 : Fin 2) _ _ h0 (ix2 R d) rfl (ix2 s d)
    (fun | ⟨0, _⟩ => hR.symm | ⟨1, _⟩ => rfl)

theorem tab_ctx (R : Fin 4352) (j : Fin 256) (hR : R.val = 4096 + j.val) (d : Fin 128) : tab p0 p1 p2 p3 z h1 h0 (ix2 R d) = z (ix2 j d) :=
  concatenate_pair_apply_right (s₁ := mat 4096 128) (s₂ := mat 256 128) (t := mat 4352 128) (0 : Fin 2) _ _ h0 (ix2 R d) rfl rfl (ix2 j d)
    (fun | ⟨0, _⟩ => fun h => absurd rfl h | ⟨1, _⟩ => fun _ => rfl) (by show j.val + 4096 = R.val; omega)

theorem tab0 (R : Fin 4352) (s : Fin 4096) (hR : R.val = s.val) (e : Fin 32) : tab p0 p1 p2 p3 z h1 h0 (ix2 R (at4 0 e)) = p0 (ix2 s e) :=
  (tab_lat p0 p1 p2 p3 z h1 h0 R s hR (at4 0 e)).trans
    (concatenate_apply_piece (t := mat 4096 128) (1 : Fin 2) [⟨mat 4096 32, p0⟩, ⟨mat 4096 32, p1⟩, ⟨mat 4096 32, p2⟩, ⟨mat 4096 32, p3⟩] h1 (ix2 s (at4 0 e))
      0 (by simp) (mat 4096 32) p0 rfl rfl 0 rfl (ix2 s e) (fun | ⟨0, _⟩ => fun _ => rfl | ⟨1, _⟩ => fun h => absurd rfl h)
      (by show 0 + e.val = 32 * 0 + e.val; omega))

theorem tab1 (R : Fin 4352) (s : Fin 4096) (hR : R.val = s.val) (e : Fin 32) : tab p0 p1 p2 p3 z h1 h0 (ix2 R (at4 1 e)) = p1 (ix2 s e) :=
  (tab_lat p0 p1 p2 p3 z h1 h0 R s hR (at4 1 e)).trans
    (concatenate_apply_piece (t := mat 4096 128) (1 : Fin 2) [⟨mat 4096 32, p0⟩, ⟨mat 4096 32, p1⟩, ⟨mat 4096 32, p2⟩, ⟨mat 4096 32, p3⟩] h1 (ix2 s (at4 1 e))
      1 (by simp) (mat 4096 32) p1 rfl rfl 32 rfl (ix2 s e) (fun | ⟨0, _⟩ => fun _ => rfl | ⟨1, _⟩ => fun h => absurd rfl h)
      (by show 32 + e.val = 32 * 1 + e.val; omega))

theorem tab2 (R : Fin 4352) (s : Fin 4096) (hR : R.val = s.val) (e : Fin 32) : tab p0 p1 p2 p3 z h1 h0 (ix2 R (at4 2 e)) = p2 (ix2 s e) :=
  (tab_lat p0 p1 p2 p3 z h1 h0 R s hR (at4 2 e)).trans
    (concatenate_apply_piece (t := mat 4096 128) (1 : Fin 2) [⟨mat 4096 32, p0⟩, ⟨mat 4096 32, p1⟩, ⟨mat 4096 32, p2⟩, ⟨mat 4096 32, p3⟩] h1 (ix2 s (at4 2 e))
      2 (by simp) (mat 4096 32) p2 rfl rfl 64 rfl (ix2 s e) (fun | ⟨0, _⟩ => fun _ => rfl | ⟨1, _⟩ => fun h => absurd rfl h)
      (by show 64 + e.val = 32 * 2 + e.val; omega))

theorem tab3 (R : Fin 4352) (s : Fin 4096) (hR : R.val = s.val) (e : Fin 32) : tab p0 p1 p2 p3 z h1 h0 (ix2 R (at4 3 e)) = p3 (ix2 s e) :=
  (tab_lat p0 p1 p2 p3 z h1 h0 R s hR (at4 3 e)).trans
    (concatenate_apply_piece (t := mat 4096 128) (1 : Fin 2) [⟨mat 4096 32, p0⟩, ⟨mat 4096 32, p1⟩, ⟨mat 4096 32, p2⟩, ⟨mat 4096 32, p3⟩] h1 (ix2 s (at4 3 e))
      3 (by simp) (mat 4096 32) p3 rfl rfl 96 rfl (ix2 s e) (fun | ⟨0, _⟩ => fun _ => rfl | ⟨1, _⟩ => fun h => absurd rfl h)
      (by show 96 + e.val = 32 * 3 + e.val; omega))

end

/-- The tables' row of a latent. -/
theorem tabRow_lat (R : Fin 34816) (b : Fin 8) (s : Fin 4096) (hR : R.val = 4096 * b.val + s.val) : (tabRow R).val = s.val := by
  have := b.isLt; have := s.isLt
  unfold tabRow
  rw [if_pos (by omega)]
  show R.val % 4096 = s.val
  omega

/-- The tables' row of a context row. -/
theorem tabRow_ctx (R : Fin 34816) (b : Fin 8) (s : Fin 256) (hR : R.val = 32768 + (256 * b.val + s.val)) : (tabRow R).val = 4096 + s.val := by
  have := b.isLt; have := s.isLt
  unfold tabRow
  rw [if_neg (by omega)]
  show 4096 + R.val % 256 = 4096 + s.val
  omega

end Qkv

end
-- ==== Proof.Qkv.Host.lean ====
module

public import proofs.«01_k».proof.Proof.Qkv.Tab
public import proofs.«01_k».proof.Proof.Gen.Reference8Ideal.Read

@[expose] public section

set_option maxRecDepth 16384
set_option maxHeartbeats 2000000

noncomputable section

/-! The arrays that the query, key and value projections' launch finds, as the host code makes them. -/

namespace Qkv

open Cert.Kernel8Ideal Cert.Kernel8Ideal.Gen Idealize.ShloMosaic Idealize.ShloMosaic.ValueIdx Idealize.ShloMosaic.TcCoe
open Idealize.SL.Sem Proj Cert.Reference8Ideal.Read

variable (m : (ℓ : Loc nD τ sig) → Buf (Elt Ideal) ℓ) (c : Dev nD)

/-- The rows. -/
theorem V_rows : (V m c main_v2 : S34816x1024.Idx → EReal) =
    stack (m ((c : Thread nD τ).loc main_arg0)) (m ((c : Thread nD τ).loc main_arg1)) shapeCasts_S8x4096x1024_S32768x1024
      shapeCasts_S8x256x1024_S2048x1024 concatenates_S32768x1024_S2048x1024_S34816x1024_d0 := by
  unfold V
  after_reads_simp
  rfl

/-- The modulations. -/
theorem V_mods : (V m c main_v6 : S96x1x1024.Idx → EReal) =
    mods (m ((c : Thread nD τ).loc main_arg3)) (m ((c : Thread nD τ).loc main_arg4)) (broadcastInDim S7x6144 ![] bcast_S_S7x6144 (constant S_ .f32 0x00000000#32))
      bcast_S6144_S1x6144_1 concatenates_S8x6144_S1x6144_S7x6144_S16x6144_d0 shapeCasts_S16x6144_S96x1x1024 := by
  unfold V
  after_reads_simp
  rfl

/-- The gain. -/
theorem V_gain : (V m c main_v50 : S1x1024.Idx → EReal) = shapeCast S1x1024 (m ((c : Thread nD τ).loc main_arg2)) shapeCasts_S1024_S1x1024 := by
  unfold V
  after_reads_simp
  rfl

/-- The weights, side by side. -/
theorem V_weights : (V m c main_v49 : S1024x1536.Idx → EReal) =
    concatenate S1024x1536 1 [⟨S1024x1024, (m ((c : Thread nD τ).loc main_arg5) : FVec Ideal S1024x1024 .f32)⟩, ⟨S1024x512, (m ((c : Thread nD τ).loc main_arg6) : FVec Ideal S1024x512 .f32)⟩]
      concatenates_S1024x1024_S1024x512_S1024x1536_d1 := by
  unfold V
  after_reads_simp
  rfl

/-- The queries' gain. -/
theorem V_qgain : (V m c main_v51 : S1x128.Idx → EReal) = shapeCast S1x128 (m ((c : Thread nD τ).loc main_arg7)) shapeCasts_S128_S1x128 := by
  unfold V
  after_reads_simp
  rfl

/-- The keys' gain. -/
theorem V_kgain : (V m c main_v52 : S1x128.Idx → EReal) = shapeCast S1x128 (m ((c : Thread nD τ).loc main_arg8)) shapeCasts_S128_S1x128 := by
  unfold V
  after_reads_simp
  rfl

/-- The cosines. -/
theorem V_cos : (V m c main_v45 : S4352x128.Idx → EReal) =
    tab (val_main_v126 (F := Ideal)) (val_main_v126 (F := Ideal)) (val_main_v147 (F := Ideal)) (val_main_v147 (F := Ideal))
      (broadcastInDim S256x128 ![] bcast_S_S256x128 (constant S_ .f32 0x3F800000#32))
      concatenates_S4096x32_S4096x32_S4096x32_S4096x32_S4096x128_d1 concatenates_S4096x128_S256x128_S4352x128_d0 := by
  unfold V
  after_reads_simp
  rfl

/-- The signed sines. -/
theorem V_sin : (V m c main_v47 : S4352x128.Idx → EReal) =
    tab (Host.negf (val_main_v128 (F := Ideal))) (val_main_v128 (F := Ideal)) (Host.negf (val_main_v149 (F := Ideal))) (val_main_v149 (F := Ideal))
      (broadcastInDim S256x128 ![] bcast_S_S256x128 (constant S_ .f32 0x00000000#32))
      concatenates_S4096x32_S4096x32_S4096x32_S4096x32_S4096x128_d1 concatenates_S4096x128_S256x128_S4352x128_d0 := by
  unfold V
  after_reads_simp
  rfl

end Qkv

end
-- ==== Proof.Qkv.RefHead.lean ====
module

public import proofs.«01_k».proof.Proof.Proj.RefNorm
public import proofs.«01_k».proof.Proof.Qkv.Pay
public import proofs.«01_k».proof.Proof.Gen.Reference8Ideal.Read

@[expose] public section

set_option maxRecDepth 16384

noncomputable section

/-! The plain query, key and value projections: a row's products, and its heads' norms. -/

namespace Qkv

open Cert.Reference8Ideal Cert.Reference8Ideal.Gen Cert.Reference8Ideal.Read Idealize.ShloMosaic Idealize.ShloMosaic.ValueIdx Idealize.ShloMosaic.TcCoe Proj

variable (a0 : FVec Ideal S8x4096x1024 .f32) (a1 : FVec Ideal S8x256x1024 .f32) (a2 : FVec Ideal S1024 .f32)
  (a3 : FVec Ideal S8x6144 .f32) (a4 : FVec Ideal S6144 .f32) (a5 : FVec Ideal S1024x1024 .f32) (a6 : FVec Ideal S1024x512 .f32)
  (a7 a8 : FVec Ideal S128 .f32)

/-- The weights, side by side: the queries', then the keys' and values'. -/
def wcol (k : Fin 1024) (n : Fin 1536) : EReal :=
  if h : n.val < 1024 then a5 (ix2 k (⟨n.val, h⟩ : Fin 1024)) else a6 (ix2 k (⟨n.val - 1024, by omega⟩ : Fin 512))

theorem wcol_q (k : Fin 1024) (n : Fin 1536) (j : Fin 1024) (h : n.val = j.val) : wcol a5 a6 k n = a5 (ix2 k j) := by
  have := j.isLt
  unfold wcol
  rw [dif_pos (by omega)]
  exact congrArg (fun j => a5 (ix2 k j)) (Fin.ext h)

theorem wcol_kv (k : Fin 1024) (n : Fin 1536) (j : Fin 512) (h : n.val = 1024 + j.val) : wcol a5 a6 k n = a6 (ix2 k j) := by
  unfold wcol
  rw [dif_neg (by omega)]
  exact congrArg (fun j => a6 (ix2 k j)) (Fin.ext (by show n.val - 1024 = j.val; omega))

/-- A latent's products. -/
def latLin (b : Fin 8) (s : Fin 4096) (n : Fin 1536) : EReal := ∑ k, latNorm a0 a2 a3 b s k * wcol a5 a6 k n

/-- A context row's products. -/
def ctxLin (b : Fin 8) (s : Fin 256) (n : Fin 1536) : EReal := ∑ k, ctxNorm a1 a2 a4 b s k * wcol a5 a6 k n

theorem same_lat (b : Fin 8) (s : Fin 4096) (k : Fin 1024) : val_main_v22 (F := Ideal) a0 a2 a3 (ix3 b s k) = latNorm a0 a2 a3 b s k :=
  (congrFun (show val_main_v22 (F := Ideal) a0 a2 a3 = Cert.Reference3Ideal.Read.val_main_v22 (F := Ideal) a0 a2 a3 from rfl) _).trans (ref_lat a0 a2 a3 b s k)

theorem same_ctx (b : Fin 8) (s : Fin 256) (k : Fin 1024) : val_main_v45 (F := Ideal) a1 a2 a4 (ix3 b s k) = ctxNorm a1 a2 a4 b s k :=
  (congrFun (show val_main_v45 (F := Ideal) a1 a2 a4 = Cert.Reference3Ideal.Read.val_main_v45 (F := Ideal) a1 a2 a4 from rfl) _).trans (ref_ctx a1 a2 a4 b s k)

theorem lat_dot_q (b : Fin 8) (s : Fin 4096) (j : Fin 1024) (n : Fin 1536) (h : n.val = j.val) :
    val_main_v109 (F := Ideal) a0 a2 a3 a5 (ix3 b s j) = latLin a0 a2 a3 a5 a6 b s n := by
  rw [val_main_v109_apply]
  refine Finset.sum_congr rfl fun k _ => congrArg₂ (fun a b : EReal => a * b) ?_ ((congrArg a5 (eq_ix2 _)).trans (wcol_q a5 a6 k n j h).symm)
  exact (congrArg (val_main_v22 (F := Ideal) a0 a2 a3) (eq_ix3 _)).trans (same_lat a0 a2 a3 b s k)

theorem lat_dot_kv (b : Fin 8) (s : Fin 4096) (j : Fin 512) (n : Fin 1536) (h : n.val = 1024 + j.val) :
    val_main_v71 (F := Ideal) a0 a2 a3 a6 (ix3 b s j) = latLin a0 a2 a3 a5 a6 b s n := by
  rw [val_main_v71_apply]
  refine Finset.sum_congr rfl fun k _ => congrArg₂ (fun a b : EReal => a * b) ?_ ((congrArg a6 (eq_ix2 _)).trans (wcol_kv a5 a6 k n j h).symm)
  exact (congrArg (val_main_v22 (F := Ideal) a0 a2 a3) (eq_ix3 _)).trans (same_lat a0 a2 a3 b s k)

/-- A query head's products. -/
theorem lat_q (b : Fin 8) (s : Fin 4096) (h : Fin 8) (g : Fin 12) (hg : g.val = h.val) (d : Fin 128) :
    val_main_v110 (F := Ideal) a0 a2 a3 a5 (ix4 b s h d) = hcol (latLin a0 a2 a3 a5 a6 b s) g d := by
  unfold val_main_v110
  refine (shapeCast_apply _ _ (ix4 b s h d) (ix3 b s (⟨128 * h.val + d.val, by omega⟩ : Fin 1024)) ?_).trans (lat_dot_q a0 a2 a3 a5 a6 b s _ _ (by
    show 128 * g.val + d.val = 128 * h.val + d.val; omega))
  rw [Shape.rowMajor_val_three, Shape.rowMajor_val_four]
  show (b.val * 4096 + s.val) * 1024 + (128 * h.val + d.val) = ((b.val * 4096 + s.val) * 8 + h.val) * 128 + d.val
  omega

theorem lat_kv (b : Fin 8) (s : Fin 4096) (u h : Fin 2) (d : Fin 128) (n : Fin 1536) (hn : n.val = 1024 + (256 * u.val + 128 * h.val + d.val)) :
    val_main_v72 (F := Ideal) a0 a2 a3 a6 (ix5 b s u h d) = latLin a0 a2 a3 a5 a6 b s n := by
  unfold val_main_v72
  refine (shapeCast_apply _ _ (ix5 b s u h d) (ix3 b s (⟨256 * u.val + 128 * h.val + d.val, by omega⟩ : Fin 512)) ?_).trans (lat_dot_kv a0 a2 a3 a5 a6 b s _ n hn)
  rw [Shape.rowMajor_val_three, Shape.rowMajor_val_five]
  show (b.val * 4096 + s.val) * 512 + (256 * u.val + 128 * h.val + d.val) = ((((b.val * 4096 + s.val) * 2 + u.val) * 2 + h.val) * 128) + d.val
  omega

/-- A key head's products. -/
theorem lat_k (b : Fin 8) (s : Fin 4096) (h : Fin 2) (g : Fin 12) (hg : g.val = 8 + h.val) (d : Fin 128) :
    val_main_v74 (F := Ideal) a0 a2 a3 a6 (ix4 b s h d) = hcol (latLin a0 a2 a3 a5 a6 b s) g d := by
  unfold val_main_v74
  refine (shapeCast_apply _ _ (ix4 b s h d) (ix5 b s (0 : Fin 1) h d) ?_).trans ?_
  · rw [Shape.rowMajor_val_four, Shape.rowMajor_val_five]
    show ((((b.val * 4096 + s.val) * 1 + 0) * 2 + h.val) * 128) + d.val = ((b.val * 4096 + s.val) * 2 + h.val) * 128 + d.val
    omega
  · rw [val_main_v73_apply]
    refine (congrArg (val_main_v72 (F := Ideal) a0 a2 a3 a6) (eq_ix5 _)).trans (lat_kv a0 a2 a3 a5 a6 b s 0 h d _ ?_)
    show 128 * g.val + d.val = 1024 + (256 * 0 + 128 * h.val + d.val)
    omega

/-- A value head's products. -/
theorem lat_v (b : Fin 8) (s : Fin 4096) (h : Fin 2) (d : Fin 128) (n : Fin 1536) (hn : n.val = 1280 + (128 * h.val + d.val)) :
    val_main_v89 (F := Ideal) a0 a2 a3 a6 (ix4 b s h d) = latLin a0 a2 a3 a5 a6 b s n := by
  unfold val_main_v89
  refine (shapeCast_apply _ _ (ix4 b s h d) (ix5 b s (0 : Fin 1) h d) ?_).trans ?_
  · rw [Shape.rowMajor_val_four, Shape.rowMajor_val_five]
    show ((((b.val * 4096 + s.val) * 1 + 0) * 2 + h.val) * 128) + d.val = ((b.val * 4096 + s.val) * 2 + h.val) * 128 + d.val
    omega
  · rw [val_main_v88_apply]
    refine (congrArg (val_main_v72 (F := Ideal) a0 a2 a3 a6) (eq_ix5 _)).trans (lat_kv a0 a2 a3 a5 a6 b s 1 h d n ?_)
    show n.val = 1024 + (256 * 1 + 128 * h.val + d.val)
    omega

/-- A query head's norm. -/
theorem lat_hn_q (b : Fin 8) (s : Fin 4096) (h : Fin 8) (g : Fin 12) (hg : g.val = h.val) (d : Fin 128) :
    val_main_v123 (F := Ideal) a0 a2 a3 a5 a7 (ix4 b s h d) = hn (hcol (latLin a0 a2 a3 a5 a6 b s) g) (fun k => a7 (ix1 k)) d := by
  rw [val_main_v123_apply, val_main_v120_apply, val_main_v119_apply, val_main_v118_apply, val_main_v117_apply, val_main_v115_apply, val_main_v113_apply, val_main_v114_apply, val_main_v116_apply, val_main_v122_apply, val_main_v121_apply, val_main_v112_apply]
  refine congrArg₂ (fun a b : EReal => a * b) (congrArg₂ (fun a b : EReal => a * b) (lat_q a0 a2 a3 a5 a6 b s h g hg d) ?_) (congrArg a7 (eq_ix1 _))
  refine congrArg (fun s : EReal => Ideal.rsqrt (Ideal.div s (Ideal.ofBits .f32 0x43000000#32) + Ideal.ofBits .f32 0x358637BD#32)) ?_
  rw [show (val_main_cst_15 (F := Ideal)) (Shape.Idx.first h_S_) = 0 from Ideal.ofBits_zero_f32, zero_add]
  refine Finset.sum_congr rfl fun k _ => ?_
  rw [val_main_v111_apply]
  exact congrArg₂ (fun a b : EReal => a * b) ((congrArg (val_main_v110 (F := Ideal) a0 a2 a3 a5) (eq_ix4 _)).trans (lat_q a0 a2 a3 a5 a6 b s h g hg k)) ((congrArg (val_main_v110 (F := Ideal) a0 a2 a3 a5) (eq_ix4 _)).trans (lat_q a0 a2 a3 a5 a6 b s h g hg k))

/-- A key head's norm. -/
theorem lat_hn_k (b : Fin 8) (s : Fin 4096) (h : Fin 2) (g : Fin 12) (hg : g.val = 8 + h.val) (d : Fin 128) :
    val_main_v87 (F := Ideal) a0 a2 a3 a6 a8 (ix4 b s h d) = hn (hcol (latLin a0 a2 a3 a5 a6 b s) g) (fun k => a8 (ix1 k)) d := by
  rw [val_main_v87_apply, val_main_v84_apply, val_main_v83_apply, val_main_v82_apply, val_main_v81_apply, val_main_v79_apply, val_main_v77_apply, val_main_v78_apply, val_main_v80_apply, val_main_v86_apply, val_main_v85_apply, val_main_v76_apply]
  refine congrArg₂ (fun a b : EReal => a * b) (congrArg₂ (fun a b : EReal => a * b) (lat_k a0 a2 a3 a5 a6 b s h g hg d) ?_) (congrArg a8 (eq_ix1 _))
  refine congrArg (fun s : EReal => Ideal.rsqrt (Ideal.div s (Ideal.ofBits .f32 0x43000000#32) + Ideal.ofBits .f32 0x358637BD#32)) ?_
  rw [show (val_main_cst_9 (F := Ideal)) (Shape.Idx.first h_S_) = 0 from Ideal.ofBits_zero_f32, zero_add]
  refine Finset.sum_congr rfl fun k _ => ?_
  rw [val_main_v75_apply]
  exact congrArg₂ (fun a b : EReal => a * b) ((congrArg (val_main_v74 (F := Ideal) a0 a2 a3 a6) (eq_ix4 _)).trans (lat_k a0 a2 a3 a5 a6 b s h g hg k)) ((congrArg (val_main_v74 (F := Ideal) a0 a2 a3 a6) (eq_ix4 _)).trans (lat_k a0 a2 a3 a5 a6 b s h g hg k))

theorem ctx_dot_q (b : Fin 8) (s : Fin 256) (j : Fin 1024) (n : Fin 1536) (h : n.val = j.val) :
    val_main_v220 (F := Ideal) a1 a2 a4 a5 (ix3 b s j) = ctxLin a1 a2 a4 a5 a6 b s n := by
  rw [val_main_v220_apply]
  refine Finset.sum_congr rfl fun k _ => congrArg₂ (fun a b : EReal => a * b) ?_ ((congrArg a5 (eq_ix2 _)).trans (wcol_q a5 a6 k n j h).symm)
  exact (congrArg (val_main_v45 (F := Ideal) a1 a2 a4) (eq_ix3 _)).trans (same_ctx a1 a2 a4 b s k)

theorem ctx_dot_kv (b : Fin 8) (s : Fin 256) (j : Fin 512) (n : Fin 1536) (h : n.val = 1024 + j.val) :
    val_main_v90 (F := Ideal) a1 a2 a4 a6 (ix3 b s j) = ctxLin a1 a2 a4 a5 a6 b s n := by
  rw [val_main_v90_apply]
  refine Finset.sum_congr rfl fun k _ => congrArg₂ (fun a b : EReal => a * b) ?_ ((congrArg a6 (eq_ix2 _)).trans (wcol_kv a5 a6 k n j h).symm)
  exact (congrArg (val_main_v45 (F := Ideal) a1 a2 a4) (eq_ix3 _)).trans (same_ctx a1 a2 a4 b s k)

/-- A query head's products. -/
theorem ctx_q (b : Fin 8) (s : Fin 256) (h : Fin 8) (g : Fin 12) (hg : g.val = h.val) (d : Fin 128) :
    val_main_v221 (F := Ideal) a1 a2 a4 a5 (ix4 b s h d) = hcol (ctxLin a1 a2 a4 a5 a6 b s) g d := by
  unfold val_main_v221
  refine (shapeCast_apply _ _ (ix4 b s h d) (ix3 b s (⟨128 * h.val + d.val, by omega⟩ : Fin 1024)) ?_).trans (ctx_dot_q a1 a2 a4 a5 a6 b s _ _ (by
    show 128 * g.val + d.val = 128 * h.val + d.val; omega))
  rw [Shape.rowMajor_val_three, Shape.rowMajor_val_four]
  show (b.val * 256 + s.val) * 1024 + (128 * h.val + d.val) = ((b.val * 256 + s.val) * 8 + h.val) * 128 + d.val
  omega

theorem ctx_kv (b : Fin 8) (s : Fin 256) (u h : Fin 2) (d : Fin 128) (n : Fin 1536) (hn : n.val = 1024 + (256 * u.val + 128 * h.val + d.val)) :
    val_main_v91 (F := Ideal) a1 a2 a4 a6 (ix5 b s u h d) = ctxLin a1 a2 a4 a5 a6 b s n := by
  unfold val_main_v91
  refine (shapeCast_apply _ _ (ix5 b s u h d) (ix3 b s (⟨256 * u.val + 128 * h.val + d.val, by omega⟩ : Fin 512)) ?_).trans (ctx_dot_kv a1 a2 a4 a5 a6 b s _ n hn)
  rw [Shape.rowMajor_val_three, Shape.rowMajor_val_five]
  show (b.val * 256 + s.val) * 512 + (256 * u.val + 128 * h.val + d.val) = ((((b.val * 256 + s.val) * 2 + u.val) * 2 + h.val) * 128) + d.val
  omega

/-- A key head's products. -/
theorem ctx_k (b : Fin 8) (s : Fin 256) (h : Fin 2) (g : Fin 12) (hg : g.val = 8 + h.val) (d : Fin 128) :
    val_main_v93 (F := Ideal) a1 a2 a4 a6 (ix4 b s h d) = hcol (ctxLin a1 a2 a4 a5 a6 b s) g d := by
  unfold val_main_v93
  refine (shapeCast_apply _ _ (ix4 b s h d) (ix5 b s (0 : Fin 1) h d) ?_).trans ?_
  · rw [Shape.rowMajor_val_four, Shape.rowMajor_val_five]
    show ((((b.val * 256 + s.val) * 1 + 0) * 2 + h.val) * 128) + d.val = ((b.val * 256 + s.val) * 2 + h.val) * 128 + d.val
    omega
  · rw [val_main_v92_apply]
    refine (congrArg (val_main_v91 (F := Ideal) a1 a2 a4 a6) (eq_ix5 _)).trans (ctx_kv a1 a2 a4 a5 a6 b s 0 h d _ ?_)
    show 128 * g.val + d.val = 1024 + (256 * 0 + 128 * h.val + d.val)
    omega

/-- A value head's products. -/
theorem ctx_v (b : Fin 8) (s : Fin 256) (h : Fin 2) (d : Fin 128) (n : Fin 1536) (hn : n.val = 1280 + (128 * h.val + d.val)) :
    val_main_v108 (F := Ideal) a1 a2 a4 a6 (ix4 b s h d) = ctxLin a1 a2 a4 a5 a6 b s n := by
  unfold val_main_v108
  refine (shapeCast_apply _ _ (ix4 b s h d) (ix5 b s (0 : Fin 1) h d) ?_).trans ?_
  · rw [Shape.rowMajor_val_four, Shape.rowMajor_val_five]
    show ((((b.val * 256 + s.val) * 1 + 0) * 2 + h.val) * 128) + d.val = ((b.val * 256 + s.val) * 2 + h.val) * 128 + d.val
    omega
  · rw [val_main_v107_apply]
    refine (congrArg (val_main_v91 (F := Ideal) a1 a2 a4 a6) (eq_ix5 _)).trans (ctx_kv a1 a2 a4 a5 a6 b s 1 h d n ?_)
    show n.val = 1024 + (256 * 1 + 128 * h.val + d.val)
    omega

/-- A query head's norm. -/
theorem ctx_hn_q (b : Fin 8) (s : Fin 256) (h : Fin 8) (g : Fin 12) (hg : g.val = h.val) (d : Fin 128) :
    val_main_v234 (F := Ideal) a1 a2 a4 a5 a7 (ix4 b s h d) = hn (hcol (ctxLin a1 a2 a4 a5 a6 b s) g) (fun k => a7 (ix1 k)) d := by
  rw [val_main_v234_apply, val_main_v231_apply, val_main_v230_apply, val_main_v229_apply, val_main_v228_apply, val_main_v226_apply, val_main_v224_apply, val_main_v225_apply, val_main_v227_apply, val_main_v233_apply, val_main_v232_apply, val_main_v223_apply]
  refine congrArg₂ (fun a b : EReal => a * b) (congrArg₂ (fun a b : EReal => a * b) (ctx_q a1 a2 a4 a5 a6 b s h g hg d) ?_) (congrArg a7 (eq_ix1 _))
  refine congrArg (fun s : EReal => Ideal.rsqrt (Ideal.div s (Ideal.ofBits .f32 0x43000000#32) + Ideal.ofBits .f32 0x358637BD#32)) ?_
  rw [show (val_main_cst_19 (F := Ideal)) (Shape.Idx.first h_S_) = 0 from Ideal.ofBits_zero_f32, zero_add]
  refine Finset.sum_congr rfl fun k _ => ?_
  rw [val_main_v222_apply]
  exact congrArg₂ (fun a b : EReal => a * b) ((congrArg (val_main_v221 (F := Ideal) a1 a2 a4 a5) (eq_ix4 _)).trans (ctx_q a1 a2 a4 a5 a6 b s h g hg k)) ((congrArg (val_main_v221 (F := Ideal) a1 a2 a4 a5) (eq_ix4 _)).trans (ctx_q a1 a2 a4 a5 a6 b s h g hg k))

/-- A key head's norm. -/
theorem ctx_hn_k (b : Fin 8) (s : Fin 256) (h : Fin 2) (g : Fin 12) (hg : g.val = 8 + h.val) (d : Fin 128) :
    val_main_v106 (F := Ideal) a1 a2 a4 a6 a8 (ix4 b s h d) = hn (hcol (ctxLin a1 a2 a4 a5 a6 b s) g) (fun k => a8 (ix1 k)) d := by
  rw [val_main_v106_apply, val_main_v103_apply, val_main_v102_apply, val_main_v101_apply, val_main_v100_apply, val_main_v98_apply, val_main_v96_apply, val_main_v97_apply, val_main_v99_apply, val_main_v105_apply, val_main_v104_apply, val_main_v95_apply]
  refine congrArg₂ (fun a b : EReal => a * b) (congrArg₂ (fun a b : EReal => a * b) (ctx_k a1 a2 a4 a5 a6 b s h g hg d) ?_) (congrArg a8 (eq_ix1 _))
  refine congrArg (fun s : EReal => Ideal.rsqrt (Ideal.div s (Ideal.ofBits .f32 0x43000000#32) + Ideal.ofBits .f32 0x358637BD#32)) ?_
  rw [show (val_main_cst_12 (F := Ideal)) (Shape.Idx.first h_S_) = 0 from Ideal.ofBits_zero_f32, zero_add]
  refine Finset.sum_congr rfl fun k _ => ?_
  rw [val_main_v94_apply]
  exact congrArg₂ (fun a b : EReal => a * b) ((congrArg (val_main_v93 (F := Ideal) a1 a2 a4 a6) (eq_ix4 _)).trans (ctx_k a1 a2 a4 a5 a6 b s h g hg k)) ((congrArg (val_main_v93 (F := Ideal) a1 a2 a4 a6) (eq_ix4 _)).trans (ctx_k a1 a2 a4 a5 a6 b s h g hg k))

end Qkv

end
-- ==== Proof.Qkv.Lin.lean ====
module

public import proofs.«01_k».proof.Proof.Qkv.Out
public import proofs.«01_k».proof.Proof.Qkv.RefHead
public import proofs.«01_k».proof.Proof.Proj.Sheet

@[expose] public section

noncomputable section

/-! The products of the stacked rows with the weights side by side, in terms of the arrays that were put together. -/

namespace Qkv

open Idealize.ShloMosaic Idealize.ShloMosaic.TcCoe Idealize.ShloMosaic.ValueIdx Proj

/-- The norm of equal data. -/
theorem normed_same {x x' g g' sh sh' sc sc' : Fin 1024 → EReal} (h0 : ∀ k, x k = x' k) (h1 : ∀ k, g k = g' k) (h2 : ∀ k, sh k = sh' k)
    (h3 : ∀ k, sc k = sc' k) (k : Fin 1024) : normed x g sh sc k = normed x' g' sh' sc' k := by
  rw [funext h0, funext h1, funext h2, funext h3]

/-- A column of the weights side by side. -/
theorem side_apply (a5 : FVec Ideal (mat 1024 1024) .f32) (a6 : FVec Ideal (mat 1024 512) .f32)
    (h : Shape.Concatenates [mat 1024 1024, mat 1024 512] (mat 1024 1536) 1) (k : Fin 1024) (n : Fin 1536) :
    concatenate (mat 1024 1536) 1 [⟨mat 1024 1024, a5⟩, ⟨mat 1024 512, a6⟩] h (ix2 k n) = wcol a5 a6 k n := by
  by_cases hn : n.val < 1024
  · rw [wcol_q a5 a6 k n ⟨n.val, hn⟩ rfl]
    exact concatenate_pair_apply_left (s₁ := mat 1024 1024) (s₂ := mat 1024 512) (t := mat 1024 1536) (1 : Fin 2) _ _ h (ix2 k n) rfl (ix2 k (⟨n.val, hn⟩ : Fin 1024))
      (fun | ⟨0, _⟩ => rfl | ⟨1, _⟩ => rfl)
  · have hv : n.val = 1024 + (⟨n.val - 1024, by omega⟩ : Fin 512).val := by
      show n.val = 1024 + (n.val - 1024)
      omega
    rw [wcol_kv a5 a6 k n _ hv]
    exact concatenate_pair_apply_right (s₁ := mat 1024 1024) (s₂ := mat 1024 512) (t := mat 1024 1536) (1 : Fin 2) _ _ h (ix2 k n) rfl rfl
      (ix2 k (⟨n.val - 1024, by omega⟩ : Fin 512)) (fun | ⟨0, _⟩ => fun _ => rfl | ⟨1, _⟩ => fun h => absurd rfl h)
      (by show n.val - 1024 + 1024 = n.val; omega)

section

variable (x : FVec Ideal (cub 8 4096 1024) .f32) (y : FVec Ideal (cub 8 256 1024) .f32) (hx : (cub 8 4096 1024).ShapeCasts (mat 32768 1024))
  (hy : (cub 8 256 1024).ShapeCasts (mat 2048 1024)) (hc : Shape.Concatenates [mat 32768 1024, mat 2048 1024] (mat 34816 1024) 0)
  (p : FVec Ideal (mat 8 6144) .f32) (q : FVec Ideal ⟨1, ![6144]⟩ .f32) (z : FVec Ideal (mat 7 6144) .f32)
  (hq : (⟨1, ![6144]⟩ : Shape).BroadcastsInDim (mat 1 6144) ![1]) (hm : Shape.Concatenates [mat 8 6144, mat 1 6144, mat 7 6144] (mat 16 6144) 0)
  (hs : (mat 16 6144).ShapeCasts (cub 96 1 1024))
  (g : FVec Ideal ⟨1, ![1024]⟩ .f32) (hg : (⟨1, ![1024]⟩ : Shape).ShapeCasts (mat 1 1024))
  (a5 : FVec Ideal (mat 1024 1024) .f32) (a6 : FVec Ideal (mat 1024 512) .f32) (h : Shape.Concatenates [mat 1024 1024, mat 1024 512] (mat 1024 1536) 1)

/-- The products of a latent's row. -/
theorem lin_lat (i : Fin 8) (s : Fin 4096) (R : Fin 34816) (hR : R.val = 4096 * i.val + s.val) :
    lin (stack x y hx hy hc) (mods p q z hq hm hs) (shapeCast (mat 1 1024) g hg)
      (concatenate (mat 1024 1536) 1 [⟨mat 1024 1024, a5⟩, ⟨mat 1024 512, a6⟩] h) R = latLin x g p a5 a6 i s := by
  have hlt := i.isLt; have hs' := s.isLt
  have hrow : modRow R.val = i.val := by
    unfold modRow
    rw [if_pos (by omega), hR]
    omega
  refine funext fun n => Finset.sum_congr rfl fun k _ => congrArg₂ (fun a b : EReal => a * b) ?_ (side_apply a5 a6 h k n)
  refine normed_same (fun k => stack_lat x y hx hy hc i s R hR k) (fun k => flat_apply g hg k) (fun k => ?_) (fun k => ?_) k
  · exact mods_lat p q z hq hm hs i 0 _ (by show 6 * modRow R.val + 0 = _; rw [hrow]; rfl) k (lo k) (by show k.val = 1024 * 0 + k.val; omega)
  · exact mods_lat p q z hq hm hs i 1 _ (by show 6 * modRow R.val + 1 = _; rw [hrow]; rfl) k (hi k) (by show 1024 + k.val = 1024 * 1 + k.val; omega)

/-- The products of a context row. -/
theorem lin_ctx (i : Fin 8) (s : Fin 256) (R : Fin 34816) (hR : R.val = 32768 + (256 * i.val + s.val)) :
    lin (stack x y hx hy hc) (mods p q z hq hm hs) (shapeCast (mat 1 1024) g hg)
      (concatenate (mat 1024 1536) 1 [⟨mat 1024 1024, a5⟩, ⟨mat 1024 512, a6⟩] h) R = ctxLin y g q a5 a6 i s := by
  have hrow : modRow R.val = 8 := by
    unfold modRow
    rw [if_neg (by omega)]
  refine funext fun n => Finset.sum_congr rfl fun k _ => congrArg₂ (fun a b : EReal => a * b) ?_ (side_apply a5 a6 h k n)
  refine normed_same (fun k => stack_ctx x y hx hy hc i s R hR k) (fun k => flat_apply g hg k) (fun k => ?_) (fun k => ?_) k
  · exact mods_ctx p q z hq hm hs 0 _ (by show 6 * modRow R.val + 0 = _; rw [hrow]; rfl) k (lo k) (by show k.val = 1024 * 0 + k.val; omega)
  · exact mods_ctx p q z hq hm hs 1 _ (by show 6 * modRow R.val + 1 = _; rw [hrow]; rfl) k (hi k) (by show 1024 + k.val = 1024 * 1 + k.val; omega)

end

end Qkv

end
-- ==== Proof.Qkv.RefRope.lean ====
module

public import proofs.«01_k».proof.Proof.Qkv.Tab
public import proofs.«01_k».proof.Proof.Gen.Reference8Ideal.Read

@[expose] public section

set_option maxRecDepth 16384

noncomputable section

/-! The plain rotation of a latent's heads, quarter by quarter. -/

namespace Qkv

open Cert.Reference8Ideal Cert.Reference8Ideal.Gen Cert.Reference8Ideal.Read Idealize.ShloMosaic Idealize.ShloMosaic.ValueIdx Idealize.ShloMosaic.TcCoe Proj

theorem four {n0 n1 n2 n3 : ℕ} (i : (⟨4, ![n0, n1, n2, n3]⟩ : Shape).Idx) (b : Fin n0) (s : Fin n1) (h : Fin n2) (d : Fin n3) (h0 : (i 0).val = b.val)
    (h1 : (i 1).val = s.val) (h2 : (i 2).val = h.val) (h3 : (i 3).val = d.val) : i = ix4 b s h d :=
  funext fun | ⟨0, _⟩ => Fin.ext h0 | ⟨1, _⟩ => Fin.ext h1 | ⟨2, _⟩ => Fin.ext h2 | ⟨3, _⟩ => Fin.ext h3

variable (a0 : FVec Ideal S8x4096x1024 .f32) (a2 : FVec Ideal S1024 .f32)
  (a3 : FVec Ideal S8x6144 .f32) (a5 : FVec Ideal S1024x1024 .f32) (a6 : FVec Ideal S1024x512 .f32)
  (a7 a8 : FVec Ideal S128 .f32) (b : Fin 8) (s : Fin 4096)

theorem rope_q0 (h : Fin 8) (e : Fin 32) : val_main_v138 (F := Ideal) a0 a2 a3 a5 a7 (ix4 b s h e) =
    val_main_v123 (F := Ideal) a0 a2 a3 a5 a7 (ix4 b s h (at4 0 e)) * val_main_v126 (F := Ideal) (ix2 s e) - val_main_v123 (F := Ideal) a0 a2 a3 a5 a7 (ix4 b s h (at4 1 e)) * val_main_v128 (F := Ideal) (ix2 s e) := by
  rw [val_main_v138_apply, val_main_v134_apply, val_main_v133_apply, val_main_v132_apply, val_main_v127_apply, val_main_v137_apply, val_main_v136_apply, val_main_v135_apply, val_main_v129_apply, val_main_v130_apply, val_main_v131_apply, val_main_v124_apply, val_main_v124_apply]
  exact congrArg₂ (fun a b : EReal => a - b) (congrArg₂ (fun a b : EReal => a * b) (congrArg (val_main_v123 (F := Ideal) a0 a2 a3 a5 a7) (four _ b s h (at4 0 e) rfl rfl rfl (by show e.val = 32 * 0 + e.val; omega))) (congrArg (val_main_v126 (F := Ideal)) (eq_ix2 _)))
    (congrArg₂ (fun a b : EReal => a * b) (congrArg (val_main_v123 (F := Ideal) a0 a2 a3 a5 a7) (four _ b s h (at4 1 e) rfl rfl rfl (by show 32 + e.val = 32 * 1 + e.val; omega))) (congrArg (val_main_v128 (F := Ideal)) (eq_ix2 _)))

theorem rope_q1 (h : Fin 8) (e : Fin 32) : val_main_v145 (F := Ideal) a0 a2 a3 a5 a7 (ix4 b s h e) =
    val_main_v123 (F := Ideal) a0 a2 a3 a5 a7 (ix4 b s h (at4 0 e)) * val_main_v128 (F := Ideal) (ix2 s e) + val_main_v123 (F := Ideal) a0 a2 a3 a5 a7 (ix4 b s h (at4 1 e)) * val_main_v126 (F := Ideal) (ix2 s e) := by
  rw [val_main_v145_apply, val_main_v141_apply, val_main_v140_apply, val_main_v139_apply, val_main_v129_apply, val_main_v144_apply, val_main_v143_apply, val_main_v142_apply, val_main_v127_apply, val_main_v130_apply, val_main_v131_apply, val_main_v124_apply, val_main_v124_apply]
  exact congrArg₂ (fun a b : EReal => a + b) (congrArg₂ (fun a b : EReal => a * b) (congrArg (val_main_v123 (F := Ideal) a0 a2 a3 a5 a7) (four _ b s h (at4 0 e) rfl rfl rfl (by show e.val = 32 * 0 + e.val; omega))) (congrArg (val_main_v128 (F := Ideal)) (eq_ix2 _)))
    (congrArg₂ (fun a b : EReal => a * b) (congrArg (val_main_v123 (F := Ideal) a0 a2 a3 a5 a7) (four _ b s h (at4 1 e) rfl rfl rfl (by show 32 + e.val = 32 * 1 + e.val; omega))) (congrArg (val_main_v126 (F := Ideal)) (eq_ix2 _)))

theorem rope_q2 (h : Fin 8) (e : Fin 32) : val_main_v159 (F := Ideal) a0 a2 a3 a5 a7 (ix4 b s h e) =
    val_main_v123 (F := Ideal) a0 a2 a3 a5 a7 (ix4 b s h (at4 2 e)) * val_main_v147 (F := Ideal) (ix2 s e) - val_main_v123 (F := Ideal) a0 a2 a3 a5 a7 (ix4 b s h (at4 3 e)) * val_main_v149 (F := Ideal) (ix2 s e) := by
  rw [val_main_v159_apply, val_main_v155_apply, val_main_v154_apply, val_main_v153_apply, val_main_v148_apply, val_main_v158_apply, val_main_v157_apply, val_main_v156_apply, val_main_v150_apply, val_main_v151_apply, val_main_v152_apply, val_main_v125_apply, val_main_v125_apply]
  exact congrArg₂ (fun a b : EReal => a - b) (congrArg₂ (fun a b : EReal => a * b) (congrArg (val_main_v123 (F := Ideal) a0 a2 a3 a5 a7) (four _ b s h (at4 2 e) rfl rfl rfl (by show 64 + (e.val) = 32 * 2 + e.val; omega))) (congrArg (val_main_v147 (F := Ideal)) (eq_ix2 _)))
    (congrArg₂ (fun a b : EReal => a * b) (congrArg (val_main_v123 (F := Ideal) a0 a2 a3 a5 a7) (four _ b s h (at4 3 e) rfl rfl rfl (by show 64 + (32 + e.val) = 32 * 3 + e.val; omega))) (congrArg (val_main_v149 (F := Ideal)) (eq_ix2 _)))

theorem rope_q3 (h : Fin 8) (e : Fin 32) : val_main_v166 (F := Ideal) a0 a2 a3 a5 a7 (ix4 b s h e) =
    val_main_v123 (F := Ideal) a0 a2 a3 a5 a7 (ix4 b s h (at4 2 e)) * val_main_v149 (F := Ideal) (ix2 s e) + val_main_v123 (F := Ideal) a0 a2 a3 a5 a7 (ix4 b s h (at4 3 e)) * val_main_v147 (F := Ideal) (ix2 s e) := by
  rw [val_main_v166_apply, val_main_v162_apply, val_main_v161_apply, val_main_v160_apply, val_main_v150_apply, val_main_v165_apply, val_main_v164_apply, val_main_v163_apply, val_main_v148_apply, val_main_v151_apply, val_main_v152_apply, val_main_v125_apply, val_main_v125_apply]
  exact congrArg₂ (fun a b : EReal => a + b) (congrArg₂ (fun a b : EReal => a * b) (congrArg (val_main_v123 (F := Ideal) a0 a2 a3 a5 a7) (four _ b s h (at4 2 e) rfl rfl rfl (by show 64 + (e.val) = 32 * 2 + e.val; omega))) (congrArg (val_main_v149 (F := Ideal)) (eq_ix2 _)))
    (congrArg₂ (fun a b : EReal => a * b) (congrArg (val_main_v123 (F := Ideal) a0 a2 a3 a5 a7) (four _ b s h (at4 3 e) rfl rfl rfl (by show 64 + (32 + e.val) = 32 * 3 + e.val; omega))) (congrArg (val_main_v147 (F := Ideal)) (eq_ix2 _)))

theorem rot_q0 (h : Fin 8) (e : Fin 32) : val_main_v168 (F := Ideal) a0 a2 a3 a5 a7 (ix4 b s h (at4 0 e)) = val_main_v138 (F := Ideal) a0 a2 a3 a5 a7 (ix4 b s h e) := by
  unfold val_main_v168
  refine (concatenate_pair_apply_left (s₁ := S8x4096x8x64) (s₂ := S8x4096x8x64) (t := S8x4096x8x128) (3 : Fin 4) _ _ _ (ix4 b s h (at4 0 e)) rfl (ix4 b s h (⟨e.val, by omega⟩ : Fin 64))
    (fun | ⟨0, _⟩ => rfl | ⟨1, _⟩ => rfl | ⟨2, _⟩ => rfl | ⟨3, _⟩ => by show e.val = 32 * 0 + e.val; omega)).trans ?_
  unfold val_main_v146
  exact concatenate_pair_apply_left (s₁ := S8x4096x8x32) (s₂ := S8x4096x8x32) (t := S8x4096x8x64) (3 : Fin 4) _ _ _ (ix4 b s h (⟨e.val, by omega⟩ : Fin 64)) rfl (ix4 b s h e)
    (fun | ⟨0, _⟩ => rfl | ⟨1, _⟩ => rfl | ⟨2, _⟩ => rfl | ⟨3, _⟩ => rfl)

theorem rot_q1 (h : Fin 8) (e : Fin 32) : val_main_v168 (F := Ideal) a0 a2 a3 a5 a7 (ix4 b s h (at4 1 e)) = val_main_v145 (F := Ideal) a0 a2 a3 a5 a7 (ix4 b s h e) := by
  unfold val_main_v168
  refine (concatenate_pair_apply_left (s₁ := S8x4096x8x64) (s₂ := S8x4096x8x64) (t := S8x4096x8x128) (3 : Fin 4) _ _ _ (ix4 b s h (at4 1 e)) rfl (ix4 b s h (⟨32 + e.val, by omega⟩ : Fin 64))
    (fun | ⟨0, _⟩ => rfl | ⟨1, _⟩ => rfl | ⟨2, _⟩ => rfl | ⟨3, _⟩ => by show 32 + e.val = 32 * 1 + e.val; omega)).trans ?_
  unfold val_main_v146
  exact concatenate_pair_apply_right (s₁ := S8x4096x8x32) (s₂ := S8x4096x8x32) (t := S8x4096x8x64) (3 : Fin 4) _ _ _ (ix4 b s h (⟨32 + e.val, by omega⟩ : Fin 64)) rfl rfl (ix4 b s h e)
    (fun | ⟨0, _⟩ => fun _ => rfl | ⟨1, _⟩ => fun _ => rfl | ⟨2, _⟩ => fun _ => rfl | ⟨3, _⟩ => fun h => absurd rfl h) (by show e.val + 32 = 32 + e.val; omega)

theorem rot_q2 (h : Fin 8) (e : Fin 32) : val_main_v168 (F := Ideal) a0 a2 a3 a5 a7 (ix4 b s h (at4 2 e)) = val_main_v159 (F := Ideal) a0 a2 a3 a5 a7 (ix4 b s h e) := by
  unfold val_main_v168
  refine (concatenate_pair_apply_right (s₁ := S8x4096x8x64) (s₂ := S8x4096x8x64) (t := S8x4096x8x128) (3 : Fin 4) _ _ _ (ix4 b s h (at4 2 e)) rfl rfl (ix4 b s h (⟨e.val, by omega⟩ : Fin 64))
    (fun | ⟨0, _⟩ => fun _ => rfl | ⟨1, _⟩ => fun _ => rfl | ⟨2, _⟩ => fun _ => rfl | ⟨3, _⟩ => fun h => absurd rfl h) (by show e.val + 64 = 32 * 2 + e.val; omega)).trans ?_
  unfold val_main_v167
  exact concatenate_pair_apply_left (s₁ := S8x4096x8x32) (s₂ := S8x4096x8x32) (t := S8x4096x8x64) (3 : Fin 4) _ _ _ (ix4 b s h (⟨e.val, by omega⟩ : Fin 64)) rfl (ix4 b s h e)
    (fun | ⟨0, _⟩ => rfl | ⟨1, _⟩ => rfl | ⟨2, _⟩ => rfl | ⟨3, _⟩ => rfl)

theorem rot_q3 (h : Fin 8) (e : Fin 32) : val_main_v168 (F := Ideal) a0 a2 a3 a5 a7 (ix4 b s h (at4 3 e)) = val_main_v166 (F := Ideal) a0 a2 a3 a5 a7 (ix4 b s h e) := by
  unfold val_main_v168
  refine (concatenate_pair_apply_right (s₁ := S8x4096x8x64) (s₂ := S8x4096x8x64) (t := S8x4096x8x128) (3 : Fin 4) _ _ _ (ix4 b s h (at4 3 e)) rfl rfl (ix4 b s h (⟨32 + e.val, by omega⟩ : Fin 64))
    (fun | ⟨0, _⟩ => fun _ => rfl | ⟨1, _⟩ => fun _ => rfl | ⟨2, _⟩ => fun _ => rfl | ⟨3, _⟩ => fun h => absurd rfl h) (by show 32 + e.val + 64 = 32 * 3 + e.val; omega)).trans ?_
  unfold val_main_v167
  exact concatenate_pair_apply_right (s₁ := S8x4096x8x32) (s₂ := S8x4096x8x32) (t := S8x4096x8x64) (3 : Fin 4) _ _ _ (ix4 b s h (⟨32 + e.val, by omega⟩ : Fin 64)) rfl rfl (ix4 b s h e)
    (fun | ⟨0, _⟩ => fun _ => rfl | ⟨1, _⟩ => fun _ => rfl | ⟨2, _⟩ => fun _ => rfl | ⟨3, _⟩ => fun h => absurd rfl h) (by show e.val + 32 = 32 + e.val; omega)

theorem rope_k0 (h : Fin 2) (e : Fin 32) : val_main_v183 (F := Ideal) a0 a2 a3 a6 a8 (ix4 b s h e) =
    val_main_v87 (F := Ideal) a0 a2 a3 a6 a8 (ix4 b s h (at4 0 e)) * val_main_v126 (F := Ideal) (ix2 s e) - val_main_v87 (F := Ideal) a0 a2 a3 a6 a8 (ix4 b s h (at4 1 e)) * val_main_v128 (F := Ideal) (ix2 s e) := by
  rw [val_main_v183_apply, val_main_v179_apply, val_main_v178_apply, val_main_v177_apply, val_main_v172_apply, val_main_v182_apply, val_main_v181_apply, val_main_v180_apply, val_main_v174_apply, val_main_v175_apply, val_main_v176_apply, val_main_v169_apply, val_main_v169_apply]
  exact congrArg₂ (fun a b : EReal => a - b) (congrArg₂ (fun a b : EReal => a * b) (congrArg (val_main_v87 (F := Ideal) a0 a2 a3 a6 a8) (four _ b s h (at4 0 e) rfl rfl rfl (by show e.val = 32 * 0 + e.val; omega))) (congrArg (val_main_v126 (F := Ideal)) (eq_ix2 _)))
    (congrArg₂ (fun a b : EReal => a * b) (congrArg (val_main_v87 (F := Ideal) a0 a2 a3 a6 a8) (four _ b s h (at4 1 e) rfl rfl rfl (by show 32 + e.val = 32 * 1 + e.val; omega))) (congrArg (val_main_v128 (F := Ideal)) (eq_ix2 _)))

theorem rope_k1 (h : Fin 2) (e : Fin 32) : val_main_v190 (F := Ideal) a0 a2 a3 a6 a8 (ix4 b s h e) =
    val_main_v87 (F := Ideal) a0 a2 a3 a6 a8 (ix4 b s h (at4 0 e)) * val_main_v128 (F := Ideal) (ix2 s e) + val_main_v87 (F := Ideal) a0 a2 a3 a6 a8 (ix4 b s h (at4 1 e)) * val_main_v126 (F := Ideal) (ix2 s e) := by
  rw [val_main_v190_apply, val_main_v186_apply, val_main_v185_apply, val_main_v184_apply, val_main_v174_apply, val_main_v189_apply, val_main_v188_apply, val_main_v187_apply, val_main_v172_apply, val_main_v175_apply, val_main_v176_apply, val_main_v169_apply, val_main_v169_apply]
  exact congrArg₂ (fun a b : EReal => a + b) (congrArg₂ (fun a b : EReal => a * b) (congrArg (val_main_v87 (F := Ideal) a0 a2 a3 a6 a8) (four _ b s h (at4 0 e) rfl rfl rfl (by show e.val = 32 * 0 + e.val; omega))) (congrArg (val_main_v128 (F := Ideal)) (eq_ix2 _)))
    (congrArg₂ (fun a b : EReal => a * b) (congrArg (val_main_v87 (F := Ideal) a0 a2 a3 a6 a8) (four _ b s h (at4 1 e) rfl rfl rfl (by show 32 + e.val = 32 * 1 + e.val; omega))) (congrArg (val_main_v126 (F := Ideal)) (eq_ix2 _)))

theorem rope_k2 (h : Fin 2) (e : Fin 32) : val_main_v204 (F := Ideal) a0 a2 a3 a6 a8 (ix4 b s h e) =
    val_main_v87 (F := Ideal) a0 a2 a3 a6 a8 (ix4 b s h (at4 2 e)) * val_main_v147 (F := Ideal) (ix2 s e) - val_main_v87 (F := Ideal) a0 a2 a3 a6 a8 (ix4 b s h (at4 3 e)) * val_main_v149 (F := Ideal) (ix2 s e) := by
  rw [val_main_v204_apply, val_main_v200_apply, val_main_v199_apply, val_main_v198_apply, val_main_v193_apply, val_main_v203_apply, val_main_v202_apply, val_main_v201_apply, val_main_v195_apply, val_main_v196_apply, val_main_v197_apply, val_main_v170_apply, val_main_v170_apply]
  exact congrArg₂ (fun a b : EReal => a - b) (congrArg₂ (fun a b : EReal => a * b) (congrArg (val_main_v87 (F := Ideal) a0 a2 a3 a6 a8) (four _ b s h (at4 2 e) rfl rfl rfl (by show 64 + (e.val) = 32 * 2 + e.val; omega))) (congrArg (val_main_v147 (F := Ideal)) (eq_ix2 _)))
    (congrArg₂ (fun a b : EReal => a * b) (congrArg (val_main_v87 (F := Ideal) a0 a2 a3 a6 a8) (four _ b s h (at4 3 e) rfl rfl rfl (by show 64 + (32 + e.val) = 32 * 3 + e.val; omega))) (congrArg (val_main_v149 (F := Ideal)) (eq_ix2 _)))

theorem rope_k3 (h : Fin 2) (e : Fin 32) : val_main_v211 (F := Ideal) a0 a2 a3 a6 a8 (ix4 b s h e) =
    val_main_v87 (F := Ideal) a0 a2 a3 a6 a8 (ix4 b s h (at4 2 e)) * val_main_v149 (F := Ideal) (ix2 s e) + val_main_v87 (F := Ideal) a0 a2 a3 a6 a8 (ix4 b s h (at4 3 e)) * val_main_v147 (F := Ideal) (ix2 s e) := by
  rw [val_main_v211_apply, val_main_v207_apply, val_main_v206_apply, val_main_v205_apply, val_main_v195_apply, val_main_v210_apply, val_main_v209_apply, val_main_v208_apply, val_main_v193_apply, val_main_v196_apply, val_main_v197_apply, val_main_v170_apply, val_main_v170_apply]
  exact congrArg₂ (fun a b : EReal => a + b) (congrArg₂ (fun a b : EReal => a * b) (congrArg (val_main_v87 (F := Ideal) a0 a2 a3 a6 a8) (four _ b s h (at4 2 e) rfl rfl rfl (by show 64 + (e.val) = 32 * 2 + e.val; omega))) (congrArg (val_main_v149 (F := Ideal)) (eq_ix2 _)))
    (congrArg₂ (fun a b : EReal => a * b) (congrArg (val_main_v87 (F := Ideal) a0 a2 a3 a6 a8) (four _ b s h (at4 3 e) rfl rfl rfl (by show 64 + (32 + e.val) = 32 * 3 + e.val; omega))) (congrArg (val_main_v147 (F := Ideal)) (eq_ix2 _)))

theorem rot_k0 (h : Fin 2) (e : Fin 32) : val_main_v213 (F := Ideal) a0 a2 a3 a6 a8 (ix4 b s h (at4 0 e)) = val_main_v183 (F := Ideal) a0 a2 a3 a6 a8 (ix4 b s h e) := by
  unfold val_main_v213
  refine (concatenate_pair_apply_left (s₁ := S8x4096x2x64) (s₂ := S8x4096x2x64) (t := S8x4096x2x128) (3 : Fin 4) _ _ _ (ix4 b s h (at4 0 e)) rfl (ix4 b s h (⟨e.val, by omega⟩ : Fin 64))
    (fun | ⟨0, _⟩ => rfl | ⟨1, _⟩ => rfl | ⟨2, _⟩ => rfl | ⟨3, _⟩ => by show e.val = 32 * 0 + e.val; omega)).trans ?_
  unfold val_main_v191
  exact concatenate_pair_apply_left (s₁ := S8x4096x2x32) (s₂ := S8x4096x2x32) (t := S8x4096x2x64) (3 : Fin 4) _ _ _ (ix4 b s h (⟨e.val, by omega⟩ : Fin 64)) rfl (ix4 b s h e)
    (fun | ⟨0, _⟩ => rfl | ⟨1, _⟩ => rfl | ⟨2, _⟩ => rfl | ⟨3, _⟩ => rfl)

theorem rot_k1 (h : Fin 2) (e : Fin 32) : val_main_v213 (F := Ideal) a0 a2 a3 a6 a8 (ix4 b s h (at4 1 e)) = val_main_v190 (F := Ideal) a0 a2 a3 a6 a8 (ix4 b s h e) := by
  unfold val_main_v213
  refine (concatenate_pair_apply_left (s₁ := S8x4096x2x64) (s₂ := S8x4096x2x64) (t := S8x4096x2x128) (3 : Fin 4) _ _ _ (ix4 b s h (at4 1 e)) rfl (ix4 b s h (⟨32 + e.val, by omega⟩ : Fin 64))
    (fun | ⟨0, _⟩ => rfl | ⟨1, _⟩ => rfl | ⟨2, _⟩ => rfl | ⟨3, _⟩ => by show 32 + e.val = 32 * 1 + e.val; omega)).trans ?_
  unfold val_main_v191
  exact concatenate_pair_apply_right (s₁ := S8x4096x2x32) (s₂ := S8x4096x2x32) (t := S8x4096x2x64) (3 : Fin 4) _ _ _ (ix4 b s h (⟨32 + e.val, by omega⟩ : Fin 64)) rfl rfl (ix4 b s h e)
    (fun | ⟨0, _⟩ => fun _ => rfl | ⟨1, _⟩ => fun _ => rfl | ⟨2, _⟩ => fun _ => rfl | ⟨3, _⟩ => fun h => absurd rfl h) (by show e.val + 32 = 32 + e.val; omega)

theorem rot_k2 (h : Fin 2) (e : Fin 32) : val_main_v213 (F := Ideal) a0 a2 a3 a6 a8 (ix4 b s h (at4 2 e)) = val_main_v204 (F := Ideal) a0 a2 a3 a6 a8 (ix4 b s h e) := by
  unfold val_main_v213
  refine (concatenate_pair_apply_right (s₁ := S8x4096x2x64) (s₂ := S8x4096x2x64) (t := S8x4096x2x128) (3 : Fin 4) _ _ _ (ix4 b s h (at4 2 e)) rfl rfl (ix4 b s h (⟨e.val, by omega⟩ : Fin 64))
    (fun | ⟨0, _⟩ => fun _ => rfl | ⟨1, _⟩ => fun _ => rfl | ⟨2, _⟩ => fun _ => rfl | ⟨3, _⟩ => fun h => absurd rfl h) (by show e.val + 64 = 32 * 2 + e.val; omega)).trans ?_
  unfold val_main_v212
  exact concatenate_pair_apply_left (s₁ := S8x4096x2x32) (s₂ := S8x4096x2x32) (t := S8x4096x2x64) (3 : Fin 4) _ _ _ (ix4 b s h (⟨e.val, by omega⟩ : Fin 64)) rfl (ix4 b s h e)
    (fun | ⟨0, _⟩ => rfl | ⟨1, _⟩ => rfl | ⟨2, _⟩ => rfl | ⟨3, _⟩ => rfl)

theorem rot_k3 (h : Fin 2) (e : Fin 32) : val_main_v213 (F := Ideal) a0 a2 a3 a6 a8 (ix4 b s h (at4 3 e)) = val_main_v211 (F := Ideal) a0 a2 a3 a6 a8 (ix4 b s h e) := by
  unfold val_main_v213
  refine (concatenate_pair_apply_right (s₁ := S8x4096x2x64) (s₂ := S8x4096x2x64) (t := S8x4096x2x128) (3 : Fin 4) _ _ _ (ix4 b s h (at4 3 e)) rfl rfl (ix4 b s h (⟨32 + e.val, by omega⟩ : Fin 64))
    (fun | ⟨0, _⟩ => fun _ => rfl | ⟨1, _⟩ => fun _ => rfl | ⟨2, _⟩ => fun _ => rfl | ⟨3, _⟩ => fun h => absurd rfl h) (by show 32 + e.val + 64 = 32 * 3 + e.val; omega)).trans ?_
  unfold val_main_v212
  exact concatenate_pair_apply_right (s₁ := S8x4096x2x32) (s₂ := S8x4096x2x32) (t := S8x4096x2x64) (3 : Fin 4) _ _ _ (ix4 b s h (⟨32 + e.val, by omega⟩ : Fin 64)) rfl rfl (ix4 b s h e)
    (fun | ⟨0, _⟩ => fun _ => rfl | ⟨1, _⟩ => fun _ => rfl | ⟨2, _⟩ => fun _ => rfl | ⟨3, _⟩ => fun h => absurd rfl h) (by show e.val + 32 = 32 + e.val; omega)

end Qkv

end
-- ==== Proof.Qkv.RefOut.lean ====
module

public import proofs.«01_k».proof.Proof.Qkv.RefHead
public import proofs.«01_k».proof.Proof.Qkv.RefRope

@[expose] public section

set_option maxRecDepth 16384

noncomputable section

/-! The plain query, key and value projections, read at a row of the latents and at a row of the context. -/

namespace Qkv

open Cert.Reference8Ideal Cert.Reference8Ideal.Gen Cert.Reference8Ideal.Read Idealize.ShloMosaic Idealize.ShloMosaic.ValueIdx Idealize.ShloMosaic.TcCoe Proj

/-- A table's row for a latent: cosines. -/
structure IsCos (s : Fin 4096) (C : Fin 128 → EReal) : Prop where
  c0 : ∀ e, C (at4 0 e) = val_main_v126 (F := Ideal) (ix2 s e)
  c1 : ∀ e, C (at4 1 e) = val_main_v126 (F := Ideal) (ix2 s e)
  c2 : ∀ e, C (at4 2 e) = val_main_v147 (F := Ideal) (ix2 s e)
  c3 : ∀ e, C (at4 3 e) = val_main_v147 (F := Ideal) (ix2 s e)

/-- A table's row for a latent: signed sines. -/
structure IsSin (s : Fin 4096) (S : Fin 128 → EReal) : Prop where
  s0 : ∀ e, S (at4 0 e) = -val_main_v128 (F := Ideal) (ix2 s e)
  s1 : ∀ e, S (at4 1 e) = val_main_v128 (F := Ideal) (ix2 s e)
  s2 : ∀ e, S (at4 2 e) = -val_main_v149 (F := Ideal) (ix2 s e)
  s3 : ∀ e, S (at4 3 e) = val_main_v149 (F := Ideal) (ix2 s e)

variable (a0 : FVec Ideal S8x4096x1024 .f32) (a1 : FVec Ideal S8x256x1024 .f32) (a2 : FVec Ideal S1024 .f32)
  (a3 : FVec Ideal S8x6144 .f32) (a4 : FVec Ideal S6144 .f32) (a5 : FVec Ideal S1024x1024 .f32) (a6 : FVec Ideal S1024x512 .f32)
  (a7 a8 : FVec Ideal S128 .f32)

/-- No scale. -/
theorem mul_unit (x : EReal) : x * Ideal.ofBits .f32 0x3F800000#32 = x := by rw [Ideal.ofBits_one_f32, mul_one]

/-- A latent's query head, rotated. -/
theorem lat_rot_q (b : Fin 8) (s : Fin 4096) (h : Fin 8) (g : Fin 12) (hg : g.val = h.val) (d : Fin 128) (C S : Fin 128 → EReal) (hC : IsCos s C) (hS : IsSin s S)
    (w : EReal) : val_main_v168 (F := Ideal) a0 a2 a3 a5 a7 (ix4 b s h d) * w = rot (hcol (latLin a0 a2 a3 a5 a6 b s) g) (fun k => a7 (ix1 k)) C S w d := by
  have hf : ∀ d, val_main_v123 (F := Ideal) a0 a2 a3 a5 a7 (ix4 b s h d) = hn (hcol (latLin a0 a2 a3 a5 a6 b s) g) (fun k => a7 (ix1 k)) d :=
    fun d => lat_hn_q a0 a2 a3 a5 a6 a7 b s h g hg d
  refine congrArg (fun x : EReal => x * w) ?_
  refine (rope_eq (fun d => val_main_v123 (F := Ideal) a0 a2 a3 a5 a7 (ix4 b s h d)) C S (fun d => val_main_v168 (F := Ideal) a0 a2 a3 a5 a7 (ix4 b s h d))
    (fun e => val_main_v126 (F := Ideal) (ix2 s e)) (fun e => val_main_v128 (F := Ideal) (ix2 s e))
    (fun e => val_main_v147 (F := Ideal) (ix2 s e)) (fun e => val_main_v149 (F := Ideal) (ix2 s e))
    hC.c0 hC.c1 hC.c2 hC.c3 hS.s0 hS.s1 hS.s2 hS.s3
    (fun e => (rot_q0 a0 a2 a3 a5 a7 b s h e).trans (rope_q0 a0 a2 a3 a5 a7 b s h e))
    (fun e => (rot_q1 a0 a2 a3 a5 a7 b s h e).trans (rope_q1 a0 a2 a3 a5 a7 b s h e))
    (fun e => (rot_q2 a0 a2 a3 a5 a7 b s h e).trans (rope_q2 a0 a2 a3 a5 a7 b s h e))
    (fun e => (rot_q3 a0 a2 a3 a5 a7 b s h e).trans (rope_q3 a0 a2 a3 a5 a7 b s h e)) d).trans ?_
  exact congrArg₂ (fun x y : EReal => x * C d + y * S d) (hf d) (hf (partner d))

/-- A latent's key head, rotated. -/
theorem lat_rot_k (b : Fin 8) (s : Fin 4096) (h : Fin 2) (g : Fin 12) (hg : g.val = 8 + h.val) (d : Fin 128) (C S : Fin 128 → EReal) (hC : IsCos s C) (hS : IsSin s S)
    (w : EReal) : val_main_v213 (F := Ideal) a0 a2 a3 a6 a8 (ix4 b s h d) * w = rot (hcol (latLin a0 a2 a3 a5 a6 b s) g) (fun k => a8 (ix1 k)) C S w d := by
  have hf : ∀ d, val_main_v87 (F := Ideal) a0 a2 a3 a6 a8 (ix4 b s h d) = hn (hcol (latLin a0 a2 a3 a5 a6 b s) g) (fun k => a8 (ix1 k)) d :=
    fun d => lat_hn_k a0 a2 a3 a5 a6 a8 b s h g hg d
  refine congrArg (fun x : EReal => x * w) ?_
  refine (rope_eq (fun d => val_main_v87 (F := Ideal) a0 a2 a3 a6 a8 (ix4 b s h d)) C S (fun d => val_main_v213 (F := Ideal) a0 a2 a3 a6 a8 (ix4 b s h d))
    (fun e => val_main_v126 (F := Ideal) (ix2 s e)) (fun e => val_main_v128 (F := Ideal) (ix2 s e))
    (fun e => val_main_v147 (F := Ideal) (ix2 s e)) (fun e => val_main_v149 (F := Ideal) (ix2 s e))
    hC.c0 hC.c1 hC.c2 hC.c3 hS.s0 hS.s1 hS.s2 hS.s3
    (fun e => (rot_k0 a0 a2 a3 a6 a8 b s h e).trans (rope_k0 a0 a2 a3 a6 a8 b s h e))
    (fun e => (rot_k1 a0 a2 a3 a6 a8 b s h e).trans (rope_k1 a0 a2 a3 a6 a8 b s h e))
    (fun e => (rot_k2 a0 a2 a3 a6 a8 b s h e).trans (rope_k2 a0 a2 a3 a6 a8 b s h e))
    (fun e => (rot_k3 a0 a2 a3 a6 a8 b s h e).trans (rope_k3 a0 a2 a3 a6 a8 b s h e)) d).trans ?_
  exact congrArg₂ (fun x y : EReal => x * C d + y * S d) (hf d) (hf (partner d))

/-- A head that is not rotated. -/
theorem rot_still (v g C S : Fin 128 → EReal) (w : EReal) (d : Fin 128) (hC : ∀ d, C d = 1) (hS : ∀ d, S d = 0) : rot v g C S w d = hn v g d * w := by
  unfold rot
  rw [hC, hS, mul_one, mul_zero, add_zero]

theorem lat_part0 (b : Fin 8) (s : Fin 4096) (h : Fin 8) (d : Fin 128) (P : Fin 32768) (hP : P.val = 4096 * b.val + s.val) (n : Fin 1536) (hn : n.val = 0 + (128 * h.val + d.val)) :
    val_main_v219 (F := Ideal) a0 a2 a3 a5 a6 a7 a8 (ix2 P n) = val_main_v215 (F := Ideal) a0 a2 a3 a5 a7 (ix4 b s h d) := by
  have := h.isLt; have := d.isLt
  unfold val_main_v219
  refine (concatenate_apply_piece (t := S32768x1536) (1 : Fin 2) [⟨Cert.Reference8Ideal.S32768x1024, val_main_v216 (F := Ideal) a0 a2 a3 a5 a7⟩, ⟨Cert.Reference8Ideal.S32768x256, val_main_v217 (F := Ideal) a0 a2 a3 a6 a8⟩, ⟨Cert.Reference8Ideal.S32768x256, val_main_v218 (F := Ideal) a0 a2 a3 a6⟩] concatenates_S32768x1024_S32768x256_S32768x256_S32768x1536_d1 (ix2 P n)
    0 (by simp) S32768x1024 _ rfl rfl 0 rfl (ix2 P (⟨128 * h.val + d.val, by omega⟩ : Fin 1024))
    (fun | ⟨0, _⟩ => fun _ => rfl | ⟨1, _⟩ => fun h => absurd rfl h) hn.symm).trans ?_
  unfold val_main_v216
  refine shapeCast_apply _ _ _ (ix4 b s h d) ?_
  rw [Shape.rowMajor_val_four, Shape.rowMajor_val_two]
  show ((b.val * 4096 + s.val) * 8 + h.val) * 128 + d.val = P.val * 1024 + (128 * h.val + d.val)
  omega

theorem lat_part1 (b : Fin 8) (s : Fin 4096) (h : Fin 2) (d : Fin 128) (P : Fin 32768) (hP : P.val = 4096 * b.val + s.val) (n : Fin 1536) (hn : n.val = 1024 + (128 * h.val + d.val)) :
    val_main_v219 (F := Ideal) a0 a2 a3 a5 a6 a7 a8 (ix2 P n) = val_main_v213 (F := Ideal) a0 a2 a3 a6 a8 (ix4 b s h d) := by
  have := h.isLt; have := d.isLt
  unfold val_main_v219
  refine (concatenate_apply_piece (t := S32768x1536) (1 : Fin 2) [⟨Cert.Reference8Ideal.S32768x1024, val_main_v216 (F := Ideal) a0 a2 a3 a5 a7⟩, ⟨Cert.Reference8Ideal.S32768x256, val_main_v217 (F := Ideal) a0 a2 a3 a6 a8⟩, ⟨Cert.Reference8Ideal.S32768x256, val_main_v218 (F := Ideal) a0 a2 a3 a6⟩] concatenates_S32768x1024_S32768x256_S32768x256_S32768x1536_d1 (ix2 P n)
    1 (by simp) S32768x256 _ rfl rfl 1024 rfl (ix2 P (⟨128 * h.val + d.val, by omega⟩ : Fin 256))
    (fun | ⟨0, _⟩ => fun _ => rfl | ⟨1, _⟩ => fun h => absurd rfl h) hn.symm).trans ?_
  unfold val_main_v217
  refine shapeCast_apply _ _ _ (ix4 b s h d) ?_
  rw [Shape.rowMajor_val_four, Shape.rowMajor_val_two]
  show ((b.val * 4096 + s.val) * 2 + h.val) * 128 + d.val = P.val * 256 + (128 * h.val + d.val)
  omega

theorem lat_part2 (b : Fin 8) (s : Fin 4096) (h : Fin 2) (d : Fin 128) (P : Fin 32768) (hP : P.val = 4096 * b.val + s.val) (n : Fin 1536) (hn : n.val = 1280 + (128 * h.val + d.val)) :
    val_main_v219 (F := Ideal) a0 a2 a3 a5 a6 a7 a8 (ix2 P n) = val_main_v89 (F := Ideal) a0 a2 a3 a6 (ix4 b s h d) := by
  have := h.isLt; have := d.isLt
  unfold val_main_v219
  refine (concatenate_apply_piece (t := S32768x1536) (1 : Fin 2) [⟨Cert.Reference8Ideal.S32768x1024, val_main_v216 (F := Ideal) a0 a2 a3 a5 a7⟩, ⟨Cert.Reference8Ideal.S32768x256, val_main_v217 (F := Ideal) a0 a2 a3 a6 a8⟩, ⟨Cert.Reference8Ideal.S32768x256, val_main_v218 (F := Ideal) a0 a2 a3 a6⟩] concatenates_S32768x1024_S32768x256_S32768x256_S32768x1536_d1 (ix2 P n)
    2 (by simp) S32768x256 _ rfl rfl 1280 rfl (ix2 P (⟨128 * h.val + d.val, by omega⟩ : Fin 256))
    (fun | ⟨0, _⟩ => fun _ => rfl | ⟨1, _⟩ => fun h => absurd rfl h) hn.symm).trans ?_
  unfold val_main_v218
  refine shapeCast_apply _ _ _ (ix4 b s h d) ?_
  rw [Shape.rowMajor_val_four, Shape.rowMajor_val_two]
  show ((b.val * 4096 + s.val) * 2 + h.val) * 128 + d.val = P.val * 256 + (128 * h.val + d.val)
  omega

/-- A latent's queries, keys and values. -/
theorem lat_row (b : Fin 8) (s : Fin 4096) (P : Fin 32768) (hP : P.val = 4096 * b.val + s.val) (n : Fin 1536) (C S : Fin 128 → EReal) (hC : IsCos s C) (hS : IsSin s S) :
    val_main_v219 (F := Ideal) a0 a2 a3 a5 a6 a7 a8 (ix2 P n) = colOut (latLin a0 a2 a3 a5 a6 b s) (fun k => a7 (ix1 k)) (fun k => a8 (ix1 k)) C S n := by
  have hd : n.val % 128 < 128 := by omega
  by_cases h1 : n.val < 1024
  · have hn : n.val = 128 * (⟨n.val / 128, by omega⟩ : Fin 12).val + (⟨n.val % 128, hd⟩ : Fin 128).val := by
      show n.val = 128 * (n.val / 128) + n.val % 128; omega
    rw [colOut_q _ _ _ _ _ n ⟨n.val / 128, by omega⟩ ⟨n.val % 128, hd⟩ hn (by show n.val / 128 < 8; omega),
      lat_part0 a0 a2 a3 a5 a6 a7 a8 b s ⟨n.val / 128, by omega⟩ ⟨n.val % 128, hd⟩ P hP n (by show n.val = 0 + (128 * (n.val / 128) + n.val % 128); omega)]
    exact lat_rot_q a0 a2 a3 a5 a6 a7 b s _ _ rfl _ C S hC hS (Ideal.ofBits .f32 0x3E0293EE#32)
  · by_cases h2 : n.val < 1280
    · have hn : n.val = 128 * (⟨n.val / 128, by omega⟩ : Fin 12).val + (⟨n.val % 128, hd⟩ : Fin 128).val := by
        show n.val = 128 * (n.val / 128) + n.val % 128; omega
      rw [colOut_k _ _ _ _ _ n ⟨n.val / 128, by omega⟩ ⟨n.val % 128, hd⟩ hn (by show 8 ≤ n.val / 128; omega) (by show n.val / 128 < 10; omega),
        lat_part1 a0 a2 a3 a5 a6 a7 a8 b s ⟨n.val / 128 - 8, by omega⟩ ⟨n.val % 128, hd⟩ P hP n (by show n.val = 1024 + (128 * (n.val / 128 - 8) + n.val % 128); omega)]
      have hg : (⟨n.val / 128, by omega⟩ : Fin 12).val = 8 + (⟨n.val / 128 - 8, by omega⟩ : Fin 2).val := by
        show n.val / 128 = 8 + (n.val / 128 - 8); omega
      exact (mul_unit _).symm.trans (lat_rot_k a0 a2 a3 a5 a6 a8 b s _ _ hg _ C S hC hS (Ideal.ofBits .f32 0x3F800000#32))
    · rw [colOut_v _ _ _ _ _ n (by omega)]
      refine (lat_part2 a0 a2 a3 a5 a6 a7 a8 b s ⟨(n.val - 1280) / 128, by omega⟩ ⟨n.val % 128, hd⟩ P hP n (by
        show n.val = 1280 + (128 * ((n.val - 1280) / 128) + n.val % 128); omega)).trans ?_
      exact lat_v a0 a2 a3 a5 a6 b s _ _ n (by show n.val = 1280 + (128 * ((n.val - 1280) / 128) + n.val % 128); omega)

theorem ctx_part0 (b : Fin 8) (s : Fin 256) (h : Fin 8) (d : Fin 128) (P : Fin 2048) (hP : P.val = 256 * b.val + s.val) (n : Fin 1536) (hn : n.val = 0 + (128 * h.val + d.val)) :
    val_main_v240 (F := Ideal) a1 a2 a4 a5 a6 a7 a8 (ix2 P n) = val_main_v236 (F := Ideal) a1 a2 a4 a5 a7 (ix4 b s h d) := by
  have := h.isLt; have := d.isLt
  unfold val_main_v240
  refine (concatenate_apply_piece (t := S2048x1536) (1 : Fin 2) [⟨Cert.Reference8Ideal.S2048x1024, val_main_v237 (F := Ideal) a1 a2 a4 a5 a7⟩, ⟨Cert.Reference8Ideal.S2048x256, val_main_v238 (F := Ideal) a1 a2 a4 a6 a8⟩, ⟨Cert.Reference8Ideal.S2048x256, val_main_v239 (F := Ideal) a1 a2 a4 a6⟩] concatenates_S2048x1024_S2048x256_S2048x256_S2048x1536_d1 (ix2 P n)
    0 (by simp) S2048x1024 _ rfl rfl 0 rfl (ix2 P (⟨128 * h.val + d.val, by omega⟩ : Fin 1024))
    (fun | ⟨0, _⟩ => fun _ => rfl | ⟨1, _⟩ => fun h => absurd rfl h) hn.symm).trans ?_
  unfold val_main_v237
  refine shapeCast_apply _ _ _ (ix4 b s h d) ?_
  rw [Shape.rowMajor_val_four, Shape.rowMajor_val_two]
  show ((b.val * 256 + s.val) * 8 + h.val) * 128 + d.val = P.val * 1024 + (128 * h.val + d.val)
  omega

theorem ctx_part1 (b : Fin 8) (s : Fin 256) (h : Fin 2) (d : Fin 128) (P : Fin 2048) (hP : P.val = 256 * b.val + s.val) (n : Fin 1536) (hn : n.val = 1024 + (128 * h.val + d.val)) :
    val_main_v240 (F := Ideal) a1 a2 a4 a5 a6 a7 a8 (ix2 P n) = val_main_v106 (F := Ideal) a1 a2 a4 a6 a8 (ix4 b s h d) := by
  have := h.isLt; have := d.isLt
  unfold val_main_v240
  refine (concatenate_apply_piece (t := S2048x1536) (1 : Fin 2) [⟨Cert.Reference8Ideal.S2048x1024, val_main_v237 (F := Ideal) a1 a2 a4 a5 a7⟩, ⟨Cert.Reference8Ideal.S2048x256, val_main_v238 (F := Ideal) a1 a2 a4 a6 a8⟩, ⟨Cert.Reference8Ideal.S2048x256, val_main_v239 (F := Ideal) a1 a2 a4 a6⟩] concatenates_S2048x1024_S2048x256_S2048x256_S2048x1536_d1 (ix2 P n)
    1 (by simp) S2048x256 _ rfl rfl 1024 rfl (ix2 P (⟨128 * h.val + d.val, by omega⟩ : Fin 256))
    (fun | ⟨0, _⟩ => fun _ => rfl | ⟨1, _⟩ => fun h => absurd rfl h) hn.symm).trans ?_
  unfold val_main_v238
  refine shapeCast_apply _ _ _ (ix4 b s h d) ?_
  rw [Shape.rowMajor_val_four, Shape.rowMajor_val_two]
  show ((b.val * 256 + s.val) * 2 + h.val) * 128 + d.val = P.val * 256 + (128 * h.val + d.val)
  omega

theorem ctx_part2 (b : Fin 8) (s : Fin 256) (h : Fin 2) (d : Fin 128) (P : Fin 2048) (hP : P.val = 256 * b.val + s.val) (n : Fin 1536) (hn : n.val = 1280 + (128 * h.val + d.val)) :
    val_main_v240 (F := Ideal) a1 a2 a4 a5 a6 a7 a8 (ix2 P n) = val_main_v108 (F := Ideal) a1 a2 a4 a6 (ix4 b s h d) := by
  have := h.isLt; have := d.isLt
  unfold val_main_v240
  refine (concatenate_apply_piece (t := S2048x1536) (1 : Fin 2) [⟨Cert.Reference8Ideal.S2048x1024, val_main_v237 (F := Ideal) a1 a2 a4 a5 a7⟩, ⟨Cert.Reference8Ideal.S2048x256, val_main_v238 (F := Ideal) a1 a2 a4 a6 a8⟩, ⟨Cert.Reference8Ideal.S2048x256, val_main_v239 (F := Ideal) a1 a2 a4 a6⟩] concatenates_S2048x1024_S2048x256_S2048x256_S2048x1536_d1 (ix2 P n)
    2 (by simp) S2048x256 _ rfl rfl 1280 rfl (ix2 P (⟨128 * h.val + d.val, by omega⟩ : Fin 256))
    (fun | ⟨0, _⟩ => fun _ => rfl | ⟨1, _⟩ => fun h => absurd rfl h) hn.symm).trans ?_
  unfold val_main_v239
  refine shapeCast_apply _ _ _ (ix4 b s h d) ?_
  rw [Shape.rowMajor_val_four, Shape.rowMajor_val_two]
  show ((b.val * 256 + s.val) * 2 + h.val) * 128 + d.val = P.val * 256 + (128 * h.val + d.val)
  omega

/-- A context row's queries, keys and values. -/
theorem ctx_row (b : Fin 8) (s : Fin 256) (P : Fin 2048) (hP : P.val = 256 * b.val + s.val) (n : Fin 1536) (C S : Fin 128 → EReal) (hC : ∀ d, C d = 1) (hS : ∀ d, S d = 0) :
    val_main_v240 (F := Ideal) a1 a2 a4 a5 a6 a7 a8 (ix2 P n) = colOut (ctxLin a1 a2 a4 a5 a6 b s) (fun k => a7 (ix1 k)) (fun k => a8 (ix1 k)) C S n := by
  have hd : n.val % 128 < 128 := by omega
  by_cases h1 : n.val < 1024
  · have hn : n.val = 128 * (⟨n.val / 128, by omega⟩ : Fin 12).val + (⟨n.val % 128, hd⟩ : Fin 128).val := by
      show n.val = 128 * (n.val / 128) + n.val % 128; omega
    rw [colOut_q _ _ _ _ _ n ⟨n.val / 128, by omega⟩ ⟨n.val % 128, hd⟩ hn (by show n.val / 128 < 8; omega),
      ctx_part0 a1 a2 a4 a5 a6 a7 a8 b s ⟨n.val / 128, by omega⟩ ⟨n.val % 128, hd⟩ P hP n (by show n.val = 0 + (128 * (n.val / 128) + n.val % 128); omega)]
    rw [rot_still _ _ _ _ _ _ hC hS]
    exact congrArg (fun x : EReal => x * Ideal.ofBits .f32 0x3E0293EE#32) (ctx_hn_q a1 a2 a4 a5 a6 a7 b s _ _ rfl _)
  · by_cases h2 : n.val < 1280
    · have hn : n.val = 128 * (⟨n.val / 128, by omega⟩ : Fin 12).val + (⟨n.val % 128, hd⟩ : Fin 128).val := by
        show n.val = 128 * (n.val / 128) + n.val % 128; omega
      rw [colOut_k _ _ _ _ _ n ⟨n.val / 128, by omega⟩ ⟨n.val % 128, hd⟩ hn (by show 8 ≤ n.val / 128; omega) (by show n.val / 128 < 10; omega),
        ctx_part1 a1 a2 a4 a5 a6 a7 a8 b s ⟨n.val / 128 - 8, by omega⟩ ⟨n.val % 128, hd⟩ P hP n (by show n.val = 1024 + (128 * (n.val / 128 - 8) + n.val % 128); omega)]
      have hg : (⟨n.val / 128, by omega⟩ : Fin 12).val = 8 + (⟨n.val / 128 - 8, by omega⟩ : Fin 2).val := by
        show n.val / 128 = 8 + (n.val / 128 - 8); omega
      rw [rot_still _ _ _ _ _ _ hC hS, mul_unit]
      exact ctx_hn_k a1 a2 a4 a5 a6 a8 b s _ _ hg _
    · rw [colOut_v _ _ _ _ _ n (by omega)]
      refine (ctx_part2 a1 a2 a4 a5 a6 a7 a8 b s ⟨(n.val - 1280) / 128, by omega⟩ ⟨n.val % 128, hd⟩ P hP n (by
        show n.val = 1280 + (128 * ((n.val - 1280) / 128) + n.val % 128); omega)).trans ?_
      exact ctx_v a1 a2 a4 a5 a6 b s _ _ n (by show n.val = 1280 + (128 * ((n.val - 1280) / 128) + n.val % 128); omega)

/-- A latent's row of the result. -/
theorem out_lat (b : Fin 8) (s : Fin 4096) (R : Fin 34816) (hR : R.val = 4096 * b.val + s.val) (n : Fin 1536) (C S : Fin 128 → EReal) (hC : IsCos s C) (hS : IsSin s S) :
    val_main_v242 (F := Ideal) a0 a1 a2 a3 a4 a5 a6 a7 a8 (ix2 R n) = colOut (latLin a0 a2 a3 a5 a6 b s) (fun k => a7 (ix1 k)) (fun k => a8 (ix1 k)) C S n := by
  have := b.isLt; have := s.isLt
  refine Eq.trans ?_ (lat_row a0 a2 a3 a5 a6 a7 a8 b s (⟨R.val, by omega⟩ : Fin 32768) hR n C S hC hS)
  rw [val_main_v242_apply]
  show val_main_v241 (F := Ideal) a0 a1 a2 a3 a4 a5 a6 a7 a8 (ix2 R n) = _
  unfold val_main_v241
  exact concatenate_pair_apply_left (s₁ := S32768x1536) (s₂ := S2048x1536) (t := S34816x1536) (0 : Fin 2) _ _ _ (ix2 R n) rfl (ix2 (⟨R.val, by omega⟩ : Fin 32768) n)
    (fun | ⟨0, _⟩ => rfl | ⟨1, _⟩ => rfl)

/-- A context row of the result. -/
theorem out_ctx (b : Fin 8) (s : Fin 256) (R : Fin 34816) (hR : R.val = 32768 + (256 * b.val + s.val)) (n : Fin 1536) (C S : Fin 128 → EReal)
    (hC : ∀ d, C d = 1) (hS : ∀ d, S d = 0) :
    val_main_v242 (F := Ideal) a0 a1 a2 a3 a4 a5 a6 a7 a8 (ix2 R n) = colOut (ctxLin a1 a2 a4 a5 a6 b s) (fun k => a7 (ix1 k)) (fun k => a8 (ix1 k)) C S n := by
  have := b.isLt; have := s.isLt
  refine Eq.trans ?_ (ctx_row a1 a2 a4 a5 a6 a7 a8 b s (⟨256 * b.val + s.val, by omega⟩ : Fin 2048) rfl n C S hC hS)
  rw [val_main_v242_apply]
  show val_main_v241 (F := Ideal) a0 a1 a2 a3 a4 a5 a6 a7 a8 (ix2 R n) = _
  unfold val_main_v241
  exact concatenate_pair_apply_right (s₁ := S32768x1536) (s₂ := S2048x1536) (t := S34816x1536) (0 : Fin 2) _ _ _ (ix2 R n) rfl rfl
    (ix2 (⟨256 * b.val + s.val, by omega⟩ : Fin 2048) n) (fun | ⟨0, _⟩ => fun h => absurd rfl h | ⟨1, _⟩ => fun _ => rfl)
    (by show 256 * b.val + s.val + 32768 = R.val; omega)

end Qkv

end
-- ==== Proof.Qkv.Qkv.lean ====
module

public import proofs.«01_k».proof.Defs
public import proofs.«01_k».proof.Proof.Qkv.Host
public import proofs.«01_k».proof.Proof.Qkv.Lin
public import proofs.«01_k».proof.Proof.Qkv.RefOut
public import proofs.«01_k».proof.Proof.Gen.Reference8Ideal.Run
public import Idealize.ShloMosaic.Lib.Quiescent

@[expose] public section

noncomputable section

/-! The query, key and value projections: the kernel and the plain mathematics end with equal results. -/

namespace Qkv

open Idealize.ShloMosaic Idealize.SL.Sem Idealize.ShloMosaic.ValueIdx Idealize.ShloMosaic.TcCoe Proj

section

open Cert.Kernel8Ideal Cert.Kernel8Ideal.Gen

variable (m : (ℓ : Loc nD τ sig) → Buf (Elt Ideal) ℓ) (c : Dev nD)

/-- The tables at a latent's row. -/
theorem cos_lat (R : Fin 34816) (b : Fin 8) (s : Fin 4096) (hR : R.val = 4096 * b.val + s.val) :
    IsCos s (fun j => (V m c main_v45 : S4352x128.Idx → EReal) (ix2 (tabRow R) j)) := by
  rw [V_cos]
  exact ⟨tab0 _ _ _ _ _ _ _ _ s (tabRow_lat R b s hR), tab1 _ _ _ _ _ _ _ _ s (tabRow_lat R b s hR),
    tab2 _ _ _ _ _ _ _ _ s (tabRow_lat R b s hR), tab3 _ _ _ _ _ _ _ _ s (tabRow_lat R b s hR)⟩

theorem sin_lat (R : Fin 34816) (b : Fin 8) (s : Fin 4096) (hR : R.val = 4096 * b.val + s.val) :
    IsSin s (fun j => (V m c main_v47 : S4352x128.Idx → EReal) (ix2 (tabRow R) j)) := by
  rw [V_sin]
  exact ⟨tab0 _ _ _ _ _ _ _ _ s (tabRow_lat R b s hR), tab1 _ _ _ _ _ _ _ _ s (tabRow_lat R b s hR),
    tab2 _ _ _ _ _ _ _ _ s (tabRow_lat R b s hR), tab3 _ _ _ _ _ _ _ _ s (tabRow_lat R b s hR)⟩

/-- The tables at a context row. -/
theorem cos_ctx (R : Fin 34816) (b : Fin 8) (s : Fin 256) (hR : R.val = 32768 + (256 * b.val + s.val)) (d : Fin 128) :
    (V m c main_v45 : S4352x128.Idx → EReal) (ix2 (tabRow R) d) = (1 : EReal) := by
  rw [V_cos]
  exact (tab_ctx _ _ _ _ _ _ _ _ s (tabRow_ctx R b s hR) d).trans Ideal.ofBits_one_f32

theorem sin_ctx (R : Fin 34816) (b : Fin 8) (s : Fin 256) (hR : R.val = 32768 + (256 * b.val + s.val)) (d : Fin 128) :
    (V m c main_v47 : S4352x128.Idx → EReal) (ix2 (tabRow R) d) = (0 : EReal) := by
  rw [V_sin]
  exact (tab_ctx _ _ _ _ _ _ _ _ s (tabRow_ctx R b s hR) d).trans Ideal.ofBits_zero_f32

/-- The head gains. -/
theorem qgain : (fun j : Fin 128 => (V m c main_v51 : S1x128.Idx → EReal) (ix2 0 j)) = fun j => (m ((c : Thread nD τ).loc main_arg7) : S128.Idx → EReal) (ix1 j) := by
  rw [V_qgain]
  exact funext fun j => flat_apply _ _ j

theorem kgain : (fun j : Fin 128 => (V m c main_v52 : S1x128.Idx → EReal) (ix2 0 j)) = fun j => (m ((c : Thread nD τ).loc main_arg8) : S128.Idx → EReal) (ix1 j) := by
  rw [V_kgain]
  exact funext fun j => flat_apply _ _ j

/-- An entry of the result, of the arguments. -/
theorem result_apply (R : Fin 34816) (n : Fin 1536) : (result m c : S34816x1536.Idx → EReal) (ix2 R n) =
    Cert.Reference8Ideal.Read.val_main_v242 (F := Ideal) (m ((c : Thread nD τ).loc main_arg0)) (m ((c : Thread nD τ).loc main_arg1))
      (m ((c : Thread nD τ).loc main_arg2)) (m ((c : Thread nD τ).loc main_arg3)) (m ((c : Thread nD τ).loc main_arg4))
      (m ((c : Thread nD τ).loc main_arg5)) (m ((c : Thread nD τ).loc main_arg6)) (m ((c : Thread nD τ).loc main_arg7))
      (m ((c : Thread nD τ).loc main_arg8)) (ix2 R n) := by
  show colOut (lin (V m c main_v2) (V m c main_v6) (V m c main_v50) (V m c main_v49) R)
    (fun j => (V m c main_v51 : S1x128.Idx → EReal) (ix2 0 j)) (fun j => (V m c main_v52 : S1x128.Idx → EReal) (ix2 0 j))
    (fun j => (V m c main_v45 : S4352x128.Idx → EReal) (ix2 (tabRow R) j)) (fun j => (V m c main_v47 : S4352x128.Idx → EReal) (ix2 (tabRow R) j)) n = _
  rw [qgain, kgain, V_rows, V_mods, V_gain, V_weights]
  by_cases h : R.val < 32768
  · have hR : R.val = 4096 * (⟨R.val / 4096, by omega⟩ : Fin 8).val + (⟨R.val % 4096, by omega⟩ : Fin 4096).val := by
      show R.val = 4096 * (R.val / 4096) + R.val % 4096
      omega
    rw [out_lat _ _ _ _ _ _ _ _ _ _ _ R hR n _ _ (cos_lat m c R _ _ hR) (sin_lat m c R _ _ hR)]
    exact congrArg (fun Y => colOut Y _ _ _ _ n) (lin_lat _ _ _ _ _ _ _ _ _ _ _ _ _ _ _ _ _ _ R hR)
  · have hR : R.val = 32768 + (256 * (⟨(R.val - 32768) / 256, by omega⟩ : Fin 8).val + (⟨(R.val - 32768) % 256, by omega⟩ : Fin 256).val) := by
      show R.val = 32768 + (256 * ((R.val - 32768) / 256) + (R.val - 32768) % 256)
      omega
    rw [out_ctx _ _ _ _ _ _ _ _ _ _ _ R hR n _ _ (cos_ctx m c R _ _ hR) (sin_ctx m c R _ _ hR)]
    exact congrArg (fun Y => colOut Y _ _ _ _ n) (lin_ctx _ _ _ _ _ _ _ _ _ _ _ _ _ _ _ _ _ _ R hR)

/-- What the kernel leaves in its result array: the reference's value of the arguments. -/
theorem kernel_value : (dats m 0 c).arrAt 9 cfg0.N =
    (Cert.Reference8Ideal.Read.val_main_v242 (F := Ideal) (m ((c : Thread nD τ).loc main_arg0)) (m ((c : Thread nD τ).loc main_arg1))
      (m ((c : Thread nD τ).loc main_arg2)) (m ((c : Thread nD τ).loc main_arg3)) (m ((c : Thread nD τ).loc main_arg4))
      (m ((c : Thread nD τ).loc main_arg5)) (m ((c : Thread nD τ).loc main_arg6)) (m ((c : Thread nD τ).loc main_arg7))
      (m ((c : Thread nD τ).loc main_arg8)) : Buf (Elt Ideal) ((c : Thread nD τ).loc main_v53)) := by
  refine (final m c).trans (funext ?_)
  have key : ∀ y : S34816x1536.Idx, (result m c : S34816x1536.Idx → EReal) y =
      Cert.Reference8Ideal.Read.val_main_v242 (F := Ideal) (m ((c : Thread nD τ).loc main_arg0)) (m ((c : Thread nD τ).loc main_arg1))
        (m ((c : Thread nD τ).loc main_arg2)) (m ((c : Thread nD τ).loc main_arg3)) (m ((c : Thread nD τ).loc main_arg4))
        (m ((c : Thread nD τ).loc main_arg5)) (m ((c : Thread nD τ).loc main_arg6)) (m ((c : Thread nD τ).loc main_arg7))
        (m ((c : Thread nD τ).loc main_arg8)) y := fun y => by
    rw [eq_ix2 y]
    exact result_apply m c (y 0) (y 1)
  exact key

end

/-- The kernel and the plain projections end with equal results. -/
theorem projects : Cert.algebraic_Kernel8Ideal_Reference8Ideal := by
  intro m g m' g' _ hagree
  refine ⟨fun c => (Cert.Kernel8Ideal.Gen.dats m 0 c).arrAt 9 Cert.Kernel8Ideal.cfg0.N, Cert.Kernel8Ideal.Value.run_blocks m g, ?_⟩
  refine (θ_run Cert.Reference8Ideal.defs _ _).mono (fun r h c => ⟨?_, (h c).2⟩) (Cert.Reference8Ideal.Value.run (F := Ideal) m' g')
  rw [(h c).1, Cert.Reference8Ideal.Read.val_main_v242_eq]
  obtain ⟨e0, e1, e2, e3, e4, e5, e6, e7, e8⟩ := hagree c
  refine Eq.trans ?_ (kernel_value m c).symm
  exact congr (congr (congr (congr (congr (congr (congr (congr (congrArg (Cert.Reference8Ideal.Read.val_main_v242 (F := Ideal)) e0) e1) e2) e3) e4) e5) e6) e7) e8

/-- The plain projections end with their arguments as they were and no semaphore raised. -/
theorem reference_frame : Cert.quiescent_Reference8Ideal := fun m g _ =>
  (θ_run Cert.Reference8Ideal.defs _ _).mono (fun r h => ⟨fun c => (h c).2, sem_eq_zero_of_no_sems rfl _⟩)
    (Cert.Reference8Ideal.Value.run (F := Ideal) m g)

end Qkv

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Loops
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Loops
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Gen.ReferenceIdeal.Read
public import proofs.«01_k».proof.Proof.Gen.Pre_finite_qk
public import proofs.«01_k».proof.Proof.Gen.KernelIdeal.Value
public import proofs.«01_k».proof.Proof.Gen.Kernel2
public import proofs.«01_k».proof.Proof.Gen.Kernel2.Skeleton
public import proofs.«01_k».proof.Proof.Gen.Kernel2.Launch
public import proofs.«01_k».proof.Proof.Gen.Kernel2Ideal
public import proofs.«01_k».proof.Proof.Gen.Kernel2Ideal.Skeleton
public import proofs.«01_k».proof.Proof.Gen.Kernel2Ideal.Launch
public import proofs.«01_k».proof.Proof.Gen.Reference2Ideal
public import proofs.«01_k».proof.Proof.Gen.Reference2Ideal.Run
public import proofs.«01_k».proof.Proof.Gen.Reference2Ideal.Read
public import proofs.«01_k».proof.Proof.Gen.Pre_routed
public import proofs.«01_k».proof.Proof.Gen.On_owned
public import proofs.«01_k».proof.Proof.Gen.Kernel3.Frame
public import proofs.«01_k».proof.Proof.Gen.Kernel4.Frame
public import proofs.«01_k».proof.Proof.Gen.Kernel3Ideal.Value
public import proofs.«01_k».proof.Proof.Gen.Kernel4Ideal.Value
public import proofs.«01_k».proof.Proof.Gen.Reference3Ideal.Run
public import proofs.«01_k».proof.Proof.Gen.Reference3Ideal.Read
public import proofs.«01_k».proof.Proof.Gen.Reference4Ideal.Run
public import proofs.«01_k».proof.Proof.Gen.Reference4Ideal.Read
public import proofs.«01_k».proof.Proof.Gen.Kernel5.Frame
public import proofs.«01_k».proof.Proof.Gen.Kernel5Ideal.Value
public import proofs.«01_k».proof.Proof.Gen.Reference5Ideal.Run
public import proofs.«01_k».proof.Proof.Gen.Reference5Ideal.Read
public import proofs.«01_k».proof.Proof.Gen.Kernel6.Frame
public import proofs.«01_k».proof.Proof.Gen.Kernel6Ideal.Value
public import proofs.«01_k».proof.Proof.Gen.Reference6Ideal.Run
public import proofs.«01_k».proof.Proof.Gen.Reference6Ideal.Read
public import proofs.«01_k».proof.Proof.Gen.Kernel7.Frame
public import proofs.«01_k».proof.Proof.Gen.Kernel7Ideal.Value
public import proofs.«01_k».proof.Proof.Gen.Reference7Ideal.Run
public import proofs.«01_k».proof.Proof.Gen.Reference7Ideal.Read
public import proofs.«01_k».proof.Proof.Gen.Kernel8.Frame
public import proofs.«01_k».proof.Proof.Gen.Kernel8Ideal.Value
public import proofs.«01_k».proof.Proof.Gen.Reference8Ideal.Run
public import proofs.«01_k».proof.Proof.Gen.Reference8Ideal.Read
public import proofs.«01_k».proof.Proof.Gen.Pre_finite_c
public import proofs.«01_k».proof.Proof.Attention
public import proofs.«01_k».proof.Proof.Expert.Experts
public import proofs.«01_k».proof.Proof.Proj.In
public import proofs.«01_k».proof.Proof.Proj.Glu
public import proofs.«01_k».proof.Proof.Proj.Res
public import proofs.«01_k».proof.Proof.Proj.Last
public import proofs.«01_k».proof.Proof.Mod.Mod
public import Idealize.ShloMosaic.Adequacy
public import Idealize.ShloMosaic.Init
public import proofs.«01_k».proof.Proof.Qkv.Qkv

@[expose] public section

noncomputable section

namespace Cert.Proof

open Idealize.ShloMosaic Idealize.SL.Sem Cert.Kernel

/-- Every claim of the certificate. -/
theorem claim : Cert.Claim := ⟨Cert.Kernel.Gen.facts, Cert.KernelIdeal.Gen.facts, Cert.ReferenceIdeal.Gen.facts,
  Cert.Kernel2.Gen.facts, Cert.Kernel2Ideal.Gen.facts, Cert.Reference2Ideal.Gen.facts,
  Cert.Kernel3.Gen.facts, Cert.Kernel3Ideal.Gen.facts, Cert.Reference3Ideal.Gen.facts,
  Cert.Kernel4.Gen.facts, Cert.Kernel4Ideal.Gen.facts, Cert.Reference4Ideal.Gen.facts,
  Cert.Kernel5.Gen.facts, Cert.Kernel5Ideal.Gen.facts, Cert.Reference5Ideal.Gen.facts,
  Cert.Kernel6.Gen.facts, Cert.Kernel6Ideal.Gen.facts, Cert.Reference6Ideal.Gen.facts,
  Cert.Kernel7.Gen.facts, Cert.Kernel7Ideal.Gen.facts, Cert.Reference7Ideal.Gen.facts,
  Cert.Kernel8.Gen.facts, Cert.Kernel8Ideal.Gen.facts, Cert.Reference8Ideal.Gen.facts,
  Cert.Pre_finite_qk.Gen.facts, Cert.Pre_routed.Gen.facts, Cert.Pre_finite_c.Gen.facts, Cert.On_owned.Gen.facts,
  fun m ρ _ => Cert.Kernel.Gen.frame m ρ, fun m ρ _ => Cert.KernelIdeal.Gen.frame m ρ, fun m ρ _ => Cert.KernelIdeal.Gen.frame m ρ,
  Attn.reference_frame, fun m ρ _ => Attn.reference_frame m ρ trivial,
  Expert.bits_frame, Expert.kernel_frame, Expert.reference_frame, fun m ρ _ => Expert.reference_frame m ρ trivial,
  fun m ρ _ => Cert.Kernel3.Gen.frame m ρ, fun m ρ _ => Cert.Kernel3Ideal.Gen.frame m ρ, Proj.In.reference_frame,
  fun m ρ _ => Cert.Kernel4.Gen.frame m ρ, fun m ρ _ => Cert.Kernel4Ideal.Gen.frame m ρ, Proj.Glu.reference_frame,
  fun m ρ _ => Cert.Kernel5.Gen.frame m ρ, fun m ρ _ => Cert.Kernel5Ideal.Gen.frame m ρ, Proj.Res.reference_frame,
  fun m ρ _ => Cert.Kernel6.Gen.frame m ρ, fun m ρ _ => Cert.Kernel6Ideal.Gen.frame m ρ, Proj.Last.reference_frame,
  fun m ρ _ => Cert.Kernel7.Gen.frame m ρ, fun m ρ _ => Cert.Kernel7Ideal.Gen.frame m ρ, fun m ρ _ => Cert.Kernel7Ideal.Gen.frame m ρ,
  Modulation.reference_frame, fun m ρ _ => Modulation.reference_frame m ρ trivial,
  fun m ρ _ => Cert.Kernel8.Gen.frame m ρ, fun m ρ _ => Cert.Kernel8Ideal.Gen.frame m ρ, Qkv.reference_frame,
  trivial, Attn.attention, trivial, Expert.experts, trivial, Proj.In.projects, trivial, Proj.Glu.projects,
  trivial, Proj.Res.projects, trivial, Proj.Last.projects, trivial, Modulation.modulates, trivial, Qkv.projects⟩

end Cert.Proof

end
